-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "log2_of_zero" .f32 0xC3200000#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v6) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v75) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v8)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v18) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)) →
    ∃ (v0 : (c : Dev Cert.QkvKernelIdeal.nD) → Buf (Elt Ideal) ((c.tc : Thread Cert.QkvKernelIdeal.nD Cert.QkvKernelIdeal.τ).loc Cert.QkvKernelIdeal.main_v9_0)) (v1 : (c : Dev Cert.QkvKernelIdeal.nD) → Buf (Elt Ideal) ((c.tc : Thread Cert.QkvKernelIdeal.nD Cert.QkvKernelIdeal.τ).loc Cert.QkvKernelIdeal.main_v9_1)) (v2 : (c : Dev Cert.QkvKernelIdeal.nD) → Buf (Elt Ideal) ((c.tc : Thread Cert.QkvKernelIdeal.nD Cert.QkvKernelIdeal.τ).loc Cert.QkvKernelIdeal.main_v9_2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v9_0) = v0 c
          ∧ r.2.mem ((c.tc : Thread Cert.QkvKernelIdeal.nD Cert.QkvKernelIdeal.τ).loc Cert.QkvKernelIdeal.main_v9_1) = v1 c
          ∧ r.2.mem ((c.tc : Thread Cert.QkvKernelIdeal.nD Cert.QkvKernelIdeal.τ).loc Cert.QkvKernelIdeal.main_v9_2) = v2 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v43) = v0 c
          ∧ r.2.mem ((c.tc : Thread Cert.QkvReferenceIdeal.nD Cert.QkvReferenceIdeal.τ).loc Cert.QkvReferenceIdeal.main_v44) = v1 c
          ∧ r.2.mem ((c.tc : Thread Cert.QkvReferenceIdeal.nD Cert.QkvReferenceIdeal.τ).loc Cert.QkvReferenceIdeal.main_v45) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v16)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v16) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v82) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hQkvKernel : Cert.QkvKernel.Facts) (hQkvKernelIdeal : Cert.QkvKernelIdeal.Facts) (hQkvReferenceIdeal : Cert.QkvReferenceIdeal.Facts) (hMixKernel : Cert.MixKernel.Facts) (hMixKernelIdeal : Cert.MixKernelIdeal.Facts) (hMixReferenceIdeal : Cert.MixReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_MixKernel_MixKernelIdeal
    ∧ algebraic_MixKernelIdeal_MixReferenceIdeal (hMixKernelIdeal := hMixKernelIdeal) (hMixReferenceIdeal := hMixReferenceIdeal)
-- ==== Pre_finite_queries_and_keys.lean ====
abbrev S4x4096x16x128 : Shape := ⟨4, ![4, 4096, 16, 128]⟩
abbrev S_ : Shape := ⟨0, ![]⟩

class Facts : Prop where
  bcast_S_S4x4096x16x128 : S_.BroadcastsInDim S4x4096x16x128 (![] : Fin 0 → Fin S4x4096x16x128.rank)

variable [Facts]

def fn {F : FTy → Type} [FloatOps F] (main_arg0 : FVec F S4x4096x16x128 .f32) (main_arg1 : FVec F S4x4096x16x128 .f32) (main_arg2 : FVec F S4x4096x16x128 .f32) : IVec S4x4096x16x128 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_v3 : FVec F S4x4096x16x128 .f32 := Host.absf main_arg1
  let main_cst_0 : FVec F S_ .f32 := constant S_ .f32 0x7F800000#32
  let main_v4 : FVec F S4x4096x16x128 .f32 := broadcastInDim S4x4096x16x128 ![] bcast_S_S4x4096x16x128 main_cst_0
  let main_v5 : IVec S4x4096x16x128 1 := cmpf .olt main_v3 main_v4
  let main_v6 : IVec S4x4096x16x128 1 := andi main_v2 main_v5
  main_v6
-- ==== Kernel.lean ====
abbrev S4x4096x16x128 : Shape := ⟨4, ![4, 4096, 16, 128]⟩
abbrev S_ : Shape := ⟨0, ![]⟩
abbrev S16384x16x128 : Shape := ⟨3, ![16384, 16, 128]⟩
abbrev S16x16384x128 : Shape := ⟨3, ![16, 16384, 128]⟩
abbrev S16x128x16384 : Shape := ⟨3, ![16, 128, 16384]⟩
abbrev S256x256 : Shape := ⟨2, ![256, 256]⟩
abbrev S256x512 : Shape := ⟨2, ![256, 512]⟩
abbrev S16384x2048 : Shape := ⟨2, ![16384, 2048]⟩
abbrev S8x512x128 : Shape := ⟨3, ![8, 512, 128]⟩
abbrev S8x4096x128 : Shape := ⟨3, ![8, 4096, 128]⟩
abbrev S8x128x4096 : Shape := ⟨3, ![8, 128, 4096]⟩
abbrev S512x1024 : Shape := ⟨2, ![512, 1024]⟩
abbrev S2x8x128x256 : Shape := ⟨4, ![2, 8, 128, 256]⟩
abbrev S1x256x128 : Shape := ⟨3, ![1, 256, 128]⟩
abbrev S256x128 : Shape := ⟨2, ![256, 128]⟩
abbrev S512x256 : Shape := ⟨2, ![512, 256]⟩
abbrev S1x256 : Shape := ⟨2, ![1, 256]⟩
abbrev S1x128x256 : Shape := ⟨3, ![1, 128, 256]⟩
abbrev S128x256 : Shape := ⟨2, ![128, 256]⟩
abbrev S1x1x128x256 : Shape := ⟨4, ![1, 1, 128, 256]⟩
abbrev S1x1x256 : Shape := ⟨3, ![1, 1, 256]⟩
abbrev S1 : Shape := ⟨1, ![1]⟩
abbrev S1x1x1 : Shape := ⟨3, ![1, 1, 1]⟩
abbrev S256x1024 : Shape := ⟨2, ![256, 1024]⟩

abbrev nBuf : Space → Nat
  | .hbm => 34
  | .vmem => 10
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x128, .f32⟩
  | .hbm, ⟨2, _⟩ => ⟨S4x4096x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x16x128, .f32⟩
  | .hbm, ⟨11, _⟩ => ⟨S4x4096x16x128, .f32⟩
  | .hbm, ⟨12, _⟩ => ⟨S16384x16x128, .f32⟩
  | .hbm, ⟨13, _⟩ => ⟨S16x16384x128, .f32⟩
  | .hbm, ⟨14, _⟩ => ⟨S16x16384x128, .bf16⟩
  | .hbm, ⟨15, _⟩ => ⟨S16384x16x128, .f32⟩
  | .hbm, ⟨16, _⟩ => ⟨S16x16384x128, .f32⟩
  | .hbm, ⟨17, _⟩ => ⟨S16x16384x128, .bf16⟩
  | .hbm, ⟨18, _⟩ => ⟨S16384x16x128, .f32⟩
  | .hbm, ⟨19, _⟩ => ⟨S16x128x16384, .f32⟩
  | .hbm, ⟨20, _⟩ => ⟨S16x128x16384, .bf16⟩
  | .hbm, ⟨21, _⟩ => ⟨S_, .bf16⟩
  | .hbm, ⟨22, _⟩ => ⟨S256x256, .bf16⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .bf16⟩
  | .hbm, ⟨30, _⟩ => ⟨S256x256, .bf16⟩
  | .hbm, ⟨31, _⟩ => ⟨S256x256, .bf16⟩
  | .hbm, ⟨32, _⟩ => ⟨S256x512, .bf16⟩
  | .hbm, ⟨33, _⟩ => ⟨S16384x2048, .bf16⟩
  | .local _ .vmem, ⟨0, _⟩ => ⟨S8x512x128, .bf16⟩
  | .local _ .vmem, ⟨1, _⟩ => ⟨S8x512x128, .bf16⟩
  | .local _ .vmem, ⟨2, _⟩ => ⟨S8x4096x128, .bf16⟩
  | .local _ .vmem, ⟨3, _⟩ => ⟨S8x4096x128, .bf16⟩
  | .local _ .vmem, ⟨4, _⟩ => ⟨S8x128x4096, .bf16⟩
  | .local _ .vmem, ⟨5, _⟩ => ⟨S8x128x4096, .bf16⟩
  | .local _ .vmem, ⟨6, _⟩ => ⟨S256x512, .bf16⟩
  | .local _ .vmem, ⟨7, _⟩ => ⟨S512x1024, .bf16⟩
  | .local _ .vmem, ⟨8, _⟩ => ⟨S512x1024, .bf16⟩
  | .local _ .vmem, ⟨9, _⟩ => ⟨S2x8x128x256, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32 : BitVec 32 := 256#32
  let v7 : BitVec 32 := Scalar.muli v4 c256_i32
  v7
def k0_off1 (i : grid0.Coords) : Fin 3 → Nat :=
  let c0 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32 : BitVec 32 := 256#32
  let v7 : BitVec 32 := Scalar.muli v4 c256_i32
  let v8 : BitVec 32 := v7
  let v9 : Index := Scalar.indexCast v8
  let c0_1 : Index := 0#32
  ![0, v9.toNat, 0]
def k0_mult2 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_9 : BitVec 32 := 256#32
  let v33 : BitVec 32 := Scalar.muli v4 c256_i32_9
  v33
def k0_off2 (i : grid0.Coords) : Fin 3 → Nat :=
  let c1 : Index := 1#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_9 : BitVec 32 := 256#32
  let v33 : BitVec 32 := Scalar.muli v4 c256_i32_9
  let v34 : BitVec 32 := v33
  let v35 : Index := Scalar.indexCast v34
  let c0_10 : Index := 0#32
  ![1, v35.toNat, 0]
def k0_mult3 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_19 : BitVec 32 := 256#32
  let v59 : BitVec 32 := Scalar.muli v4 c256_i32_19
  v59
def k0_off3 (i : grid0.Coords) : Fin 3 → Nat :=
  let c2 : Index := 2#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_19 : BitVec 32 := 256#32
  let v59 : BitVec 32 := Scalar.muli v4 c256_i32_19
  let v60 : BitVec 32 := v59
  let v61 : Index := Scalar.indexCast v60
  let c0_20 : Index := 0#32
  ![2, v61.toNat, 0]
def k0_mult4 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_29 : BitVec 32 := 256#32
  let v85 : BitVec 32 := Scalar.muli v4 c256_i32_29
  v85
def k0_off4 (i : grid0.Coords) : Fin 3 → Nat :=
  let c3 : Index := 3#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_29 : BitVec 32 := 256#32
  let v85 : BitVec 32 := Scalar.muli v4 c256_i32_29
  let v86 : BitVec 32 := v85
  let v87 : Index := Scalar.indexCast v86
  let c0_30 : Index := 0#32
  ![3, v87.toNat, 0]
def k0_mult5 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_39 : BitVec 32 := 256#32
  let v111 : BitVec 32 := Scalar.muli v4 c256_i32_39
  v111
def k0_off5 (i : grid0.Coords) : Fin 3 → Nat :=
  let c4 : Index := 4#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_39 : BitVec 32 := 256#32
  let v111 : BitVec 32 := Scalar.muli v4 c256_i32_39
  let v112 : BitVec 32 := v111
  let v113 : Index := Scalar.indexCast v112
  let c0_40 : Index := 0#32
  ![4, v113.toNat, 0]
def k0_mult6 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_49 : BitVec 32 := 256#32
  let v137 : BitVec 32 := Scalar.muli v4 c256_i32_49
  v137
def k0_off6 (i : grid0.Coords) : Fin 3 → Nat :=
  let c5 : Index := 5#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_49 : BitVec 32 := 256#32
  let v137 : BitVec 32 := Scalar.muli v4 c256_i32_49
  let v138 : BitVec 32 := v137
  let v139 : Index := Scalar.indexCast v138
  let c0_50 : Index := 0#32
  ![5, v139.toNat, 0]
def k0_mult7 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_59 : BitVec 32 := 256#32
  let v163 : BitVec 32 := Scalar.muli v4 c256_i32_59
  v163
def k0_off7 (i : grid0.Coords) : Fin 3 → Nat :=
  let c6 : Index := 6#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_59 : BitVec 32 := 256#32
  let v163 : BitVec 32 := Scalar.muli v4 c256_i32_59
  let v164 : BitVec 32 := v163
  let v165 : Index := Scalar.indexCast v164
  let c0_60 : Index := 0#32
  ![6, v165.toNat, 0]
def k0_mult8 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_69 : BitVec 32 := 256#32
  let v189 : BitVec 32 := Scalar.muli v4 c256_i32_69
  v189
def k0_off8 (i : grid0.Coords) : Fin 3 → Nat :=
  let c7 : Index := 7#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_69 : BitVec 32 := 256#32
  let v189 : BitVec 32 := Scalar.muli v4 c256_i32_69
  let v190 : BitVec 32 := v189
  let v191 : Index := Scalar.indexCast v190
  let c0_70 : Index := 0#32
  ![7, v191.toNat, 0]
def k0_mult9 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_79 : BitVec 32 := 256#32
  let v215 : BitVec 32 := Scalar.muli v6 c256_i32_79
  v215
def k0_off9 (i : grid0.Coords) : Fin 3 → Nat :=
  let c0_80 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_79 : BitVec 32 := 256#32
  let v215 : BitVec 32 := Scalar.muli v6 c256_i32_79
  let v216 : BitVec 32 := v215
  let v217 : Index := Scalar.indexCast v216
  let c0_81 : Index := 0#32
  ![0, v217.toNat, 0]
def k0_mult10 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_89 : BitVec 32 := 256#32
  let v239 : BitVec 32 := Scalar.muli v6 c256_i32_89
  v239
def k0_off10 (i : grid0.Coords) : Fin 3 → Nat :=
  let c1_90 : Index := 1#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_89 : BitVec 32 := 256#32
  let v239 : BitVec 32 := Scalar.muli v6 c256_i32_89
  let v240 : BitVec 32 := v239
  let v241 : Index := Scalar.indexCast v240
  let c0_91 : Index := 0#32
  ![1, v241.toNat, 0]
def k0_mult11 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_99 : BitVec 32 := 256#32
  let v263 : BitVec 32 := Scalar.muli v6 c256_i32_99
  v263
def k0_off11 (i : grid0.Coords) : Fin 3 → Nat :=
  let c2_100 : Index := 2#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_99 : BitVec 32 := 256#32
  let v263 : BitVec 32 := Scalar.muli v6 c256_i32_99
  let v264 : BitVec 32 := v263
  let v265 : Index := Scalar.indexCast v264
  let c0_101 : Index := 0#32
  ![2, v265.toNat, 0]
def k0_mult12 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_109 : BitVec 32 := 256#32
  let v287 : BitVec 32 := Scalar.muli v6 c256_i32_109
  v287
def k0_off12 (i : grid0.Coords) : Fin 3 → Nat :=
  let c3_110 : Index := 3#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_109 : BitVec 32 := 256#32
  let v287 : BitVec 32 := Scalar.muli v6 c256_i32_109
  let v288 : BitVec 32 := v287
  let v289 : Index := Scalar.indexCast v288
  let c0_111 : Index := 0#32
  ![3, v289.toNat, 0]
def k0_mult13 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_119 : BitVec 32 := 256#32
  let v311 : BitVec 32 := Scalar.muli v6 c256_i32_119
  v311
def k0_off13 (i : grid0.Coords) : Fin 3 → Nat :=
  let c4_120 : Index := 4#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_119 : BitVec 32 := 256#32
  let v311 : BitVec 32 := Scalar.muli v6 c256_i32_119
  let v312 : BitVec 32 := v311
  let v313 : Index := Scalar.indexCast v312
  let c0_121 : Index := 0#32
  ![4, v313.toNat, 0]
def k0_mult14 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_129 : BitVec 32 := 256#32
  let v335 : BitVec 32 := Scalar.muli v6 c256_i32_129
  v335
def k0_off14 (i : grid0.Coords) : Fin 3 → Nat :=
  let c5_130 : Index := 5#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_129 : BitVec 32 := 256#32
  let v335 : BitVec 32 := Scalar.muli v6 c256_i32_129
  let v336 : BitVec 32 := v335
  let v337 : Index := Scalar.indexCast v336
  let c0_131 : Index := 0#32
  ![5, v337.toNat, 0]
def k0_mult15 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_139 : BitVec 32 := 256#32
  let v359 : BitVec 32 := Scalar.muli v6 c256_i32_139
  v359
def k0_off15 (i : grid0.Coords) : Fin 3 → Nat :=
  let c6_140 : Index := 6#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_139 : BitVec 32 := 256#32
  let v359 : BitVec 32 := Scalar.muli v6 c256_i32_139
  let v360 : BitVec 32 := v359
  let v361 : Index := Scalar.indexCast v360
  let c0_141 : Index := 0#32
  ![6, v361.toNat, 0]
def k0_mult16 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_149 : BitVec 32 := 256#32
  let v383 : BitVec 32 := Scalar.muli v6 c256_i32_149
  v383
def k0_off16 (i : grid0.Coords) : Fin 3 → Nat :=
  let c7_150 : Index := 7#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_149 : BitVec 32 := 256#32
  let v383 : BitVec 32 := Scalar.muli v6 c256_i32_149
  let v384 : BitVec 32 := v383
  let v385 : Index := Scalar.indexCast v384
  let c0_151 : Index := 0#32
  ![7, v385.toNat, 0]
def k0_mult17 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_223 : BitVec 32 := 256#32
  let v591 : BitVec 32 := Scalar.muli v4 c256_i32_223
  v591
def k0_off17 (i : grid0.Coords) : Fin 3 → Nat :=
  let c0_224 : Index := 0#32
  let c0_225 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_223 : BitVec 32 := 256#32
  let v591 : BitVec 32 := Scalar.muli v4 c256_i32_223
  let v592 : BitVec 32 := v591
  let v593 : Index := Scalar.indexCast v592
  ![0, 0, v593.toNat]
def k0_mult18 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_231 : BitVec 32 := 256#32
  let v600 : BitVec 32 := Scalar.muli v4 c256_i32_231
  v600
def k0_off18 (i : grid0.Coords) : Fin 3 → Nat :=
  let c1_232 : Index := 1#32
  let c0_233 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_231 : BitVec 32 := 256#32
  let v600 : BitVec 32 := Scalar.muli v4 c256_i32_231
  let v601 : BitVec 32 := v600
  let v602 : Index := Scalar.indexCast v601
  ![1, 0, v602.toNat]
def k0_mult19 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_239 : BitVec 32 := 256#32
  let v609 : BitVec 32 := Scalar.muli v4 c256_i32_239
  v609
def k0_off19 (i : grid0.Coords) : Fin 3 → Nat :=
  let c2_240 : Index := 2#32
  let c0_241 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_239 : BitVec 32 := 256#32
  let v609 : BitVec 32 := Scalar.muli v4 c256_i32_239
  let v610 : BitVec 32 := v609
  let v611 : Index := Scalar.indexCast v610
  ![2, 0, v611.toNat]
def k0_mult20 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_247 : BitVec 32 := 256#32
  let v618 : BitVec 32 := Scalar.muli v4 c256_i32_247
  v618
def k0_off20 (i : grid0.Coords) : Fin 3 → Nat :=
  let c3_248 : Index := 3#32
  let c0_249 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_247 : BitVec 32 := 256#32
  let v618 : BitVec 32 := Scalar.muli v4 c256_i32_247
  let v619 : BitVec 32 := v618
  let v620 : Index := Scalar.indexCast v619
  ![3, 0, v620.toNat]
def k0_mult21 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_255 : BitVec 32 := 256#32
  let v627 : BitVec 32 := Scalar.muli v4 c256_i32_255
  v627
def k0_off21 (i : grid0.Coords) : Fin 3 → Nat :=
  let c4_256 : Index := 4#32
  let c0_257 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_255 : BitVec 32 := 256#32
  let v627 : BitVec 32 := Scalar.muli v4 c256_i32_255
  let v628 : BitVec 32 := v627
  let v629 : Index := Scalar.indexCast v628
  ![4, 0, v629.toNat]
def k0_mult22 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_263 : BitVec 32 := 256#32
  let v636 : BitVec 32 := Scalar.muli v4 c256_i32_263
  v636
def k0_off22 (i : grid0.Coords) : Fin 3 → Nat :=
  let c5_264 : Index := 5#32
  let c0_265 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_263 : BitVec 32 := 256#32
  let v636 : BitVec 32 := Scalar.muli v4 c256_i32_263
  let v637 : BitVec 32 := v636
  let v638 : Index := Scalar.indexCast v637
  ![5, 0, v638.toNat]
def k0_mult23 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_271 : BitVec 32 := 256#32
  let v645 : BitVec 32 := Scalar.muli v4 c256_i32_271
  v645
def k0_off23 (i : grid0.Coords) : Fin 3 → Nat :=
  let c6_272 : Index := 6#32
  let c0_273 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_271 : BitVec 32 := 256#32
  let v645 : BitVec 32 := Scalar.muli v4 c256_i32_271
  let v646 : BitVec 32 := v645
  let v647 : Index := Scalar.indexCast v646
  ![6, 0, v647.toNat]
def k0_mult24 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_279 : BitVec 32 := 256#32
  let v654 : BitVec 32 := Scalar.muli v4 c256_i32_279
  v654
def k0_off24 (i : grid0.Coords) : Fin 3 → Nat :=
  let c7_280 : Index := 7#32
  let c0_281 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c256_i32_279 : BitVec 32 := 256#32
  let v654 : BitVec 32 := Scalar.muli v4 c256_i32_279
  let v655 : BitVec 32 := v654
  let v656 : Index := Scalar.indexCast v655
  ![7, 0, v656.toNat]
def k0_mult25 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_288 : BitVec 32 := 256#32
  let v664 : BitVec 32 := Scalar.muli v6 c256_i32_288
  v664
def k0_off25 (i : grid0.Coords) : Fin 3 → Nat :=
  let c0_289 : Index := 0#32
  let c0_290 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_288 : BitVec 32 := 256#32
  let v664 : BitVec 32 := Scalar.muli v6 c256_i32_288
  let v665 : BitVec 32 := v664
  let v666 : Index := Scalar.indexCast v665
  ![0, 0, v666.toNat]
def k0_mult26 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_302 : BitVec 32 := 256#32
  let v679 : BitVec 32 := Scalar.muli v6 c256_i32_302
  v679
def k0_off26 (i : grid0.Coords) : Fin 3 → Nat :=
  let c1_303 : Index := 1#32
  let c0_304 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_302 : BitVec 32 := 256#32
  let v679 : BitVec 32 := Scalar.muli v6 c256_i32_302
  let v680 : BitVec 32 := v679
  let v681 : Index := Scalar.indexCast v680
  ![1, 0, v681.toNat]
def k0_mult27 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_316 : BitVec 32 := 256#32
  let v694 : BitVec 32 := Scalar.muli v6 c256_i32_316
  v694
def k0_off27 (i : grid0.Coords) : Fin 3 → Nat :=
  let c2_317 : Index := 2#32
  let c0_318 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_316 : BitVec 32 := 256#32
  let v694 : BitVec 32 := Scalar.muli v6 c256_i32_316
  let v695 : BitVec 32 := v694
  let v696 : Index := Scalar.indexCast v695
  ![2, 0, v696.toNat]
def k0_mult28 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_330 : BitVec 32 := 256#32
  let v709 : BitVec 32 := Scalar.muli v6 c256_i32_330
  v709
def k0_off28 (i : grid0.Coords) : Fin 3 → Nat :=
  let c3_331 : Index := 3#32
  let c0_332 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_330 : BitVec 32 := 256#32
  let v709 : BitVec 32 := Scalar.muli v6 c256_i32_330
  let v710 : BitVec 32 := v709
  let v711 : Index := Scalar.indexCast v710
  ![3, 0, v711.toNat]
def k0_mult29 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_344 : BitVec 32 := 256#32
  let v724 : BitVec 32 := Scalar.muli v6 c256_i32_344
  v724
def k0_off29 (i : grid0.Coords) : Fin 3 → Nat :=
  let c4_345 : Index := 4#32
  let c0_346 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_344 : BitVec 32 := 256#32
  let v724 : BitVec 32 := Scalar.muli v6 c256_i32_344
  let v725 : BitVec 32 := v724
  let v726 : Index := Scalar.indexCast v725
  ![4, 0, v726.toNat]
def k0_mult30 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_358 : BitVec 32 := 256#32
  let v739 : BitVec 32 := Scalar.muli v6 c256_i32_358
  v739
def k0_off30 (i : grid0.Coords) : Fin 3 → Nat :=
  let c5_359 : Index := 5#32
  let c0_360 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_358 : BitVec 32 := 256#32
  let v739 : BitVec 32 := Scalar.muli v6 c256_i32_358
  let v740 : BitVec 32 := v739
  let v741 : Index := Scalar.indexCast v740
  ![5, 0, v741.toNat]
def k0_mult31 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_372 : BitVec 32 := 256#32
  let v754 : BitVec 32 := Scalar.muli v6 c256_i32_372
  v754
def k0_off31 (i : grid0.Coords) : Fin 3 → Nat :=
  let c6_373 : Index := 6#32
  let c0_374 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_372 : BitVec 32 := 256#32
  let v754 : BitVec 32 := Scalar.muli v6 c256_i32_372
  let v755 : BitVec 32 := v754
  let v756 : Index := Scalar.indexCast v755
  ![6, 0, v756.toNat]
def k0_mult32 (i : grid0.Coords) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_386 : BitVec 32 := 256#32
  let v769 : BitVec 32 := Scalar.muli v6 c256_i32_386
  v769
def k0_off32 (i : grid0.Coords) : Fin 3 → Nat :=
  let c7_387 : Index := 7#32
  let c0_388 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32 : BitVec 32 := 1#32
  let v5 : BitVec 32 := Scalar.subi v4 c1_i32
  let c0_i32_0 : BitVec 32 := 0#32
  let v6 : BitVec 32 := Scalar.maxsi v5 c0_i32_0
  let c256_i32_386 : BitVec 32 := 256#32
  let v769 : BitVec 32 := Scalar.muli v6 c256_i32_386
  let v770 : BitVec 32 := v769
  let v771 : Index := Scalar.indexCast v770
  ![7, 0, v771.toNat]
@[reducible] def k0_t1_loop (i : grid0.Coords) (v822 : BitVec 1) : Scf.Loop 32 :=
  let c0_i32_410 : BitVec 32 := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_412 : BitVec 32 := 1#32
  ⟨c0_i32_410, v829, c1_i32_412⟩

def k0_mult33 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_909 : BitVec 32 := 256#32
  let v1717 : BitVec 32 := Scalar.muli v1716 c256_i32_909
  v1717
def k0_off33 (i : grid0.Coords) (v822 : BitVec 1) (k0_t1 : Fin (k0_t1_loop i v822).trips) : Fin 3 → Nat :=
  let c0_910 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_909 : BitVec 32 := 256#32
  let v1717 : BitVec 32 := Scalar.muli v1716 c256_i32_909
  let v1718 : BitVec 32 := v1717
  let v1719 : Index := Scalar.indexCast v1718
  let c0_911 : Index := 0#32
  ![0, v1719.toNat, 0]
def k0_mult34 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_919 : BitVec 32 := 256#32
  let v1741 : BitVec 32 := Scalar.muli v1716 c256_i32_919
  v1741
def k0_off34 (i : grid0.Coords) (v822 : BitVec 1) (k0_t1 : Fin (k0_t1_loop i v822).trips) : Fin 3 → Nat :=
  let c1_920 : Index := 1#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_919 : BitVec 32 := 256#32
  let v1741 : BitVec 32 := Scalar.muli v1716 c256_i32_919
  let v1742 : BitVec 32 := v1741
  let v1743 : Index := Scalar.indexCast v1742
  let c0_921 : Index := 0#32
  ![1, v1743.toNat, 0]
def k0_mult35 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_929 : BitVec 32 := 256#32
  let v1765 : BitVec 32 := Scalar.muli v1716 c256_i32_929
  v1765
def k0_off35 (i : grid0.Coords) (v822 : BitVec 1) (k0_t1 : Fin (k0_t1_loop i v822).trips) : Fin 3 → Nat :=
  let c2_930 : Index := 2#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_929 : BitVec 32 := 256#32
  let v1765 : BitVec 32 := Scalar.muli v1716 c256_i32_929
  let v1766 : BitVec 32 := v1765
  let v1767 : Index := Scalar.indexCast v1766
  let c0_931 : Index := 0#32
  ![2, v1767.toNat, 0]
def k0_mult36 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_939 : BitVec 32 := 256#32
  let v1789 : BitVec 32 := Scalar.muli v1716 c256_i32_939
  v1789
def k0_off36 (i : grid0.Coords) (v822 : BitVec 1) (k0_t1 : Fin (k0_t1_loop i v822).trips) : Fin 3 → Nat :=
  let c3_940 : Index := 3#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_939 : BitVec 32 := 256#32
  let v1789 : BitVec 32 := Scalar.muli v1716 c256_i32_939
  let v1790 : BitVec 32 := v1789
  let v1791 : Index := Scalar.indexCast v1790
  let c0_941 : Index := 0#32
  ![3, v1791.toNat, 0]
def k0_mult37 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_949 : BitVec 32 := 256#32
  let v1813 : BitVec 32 := Scalar.muli v1716 c256_i32_949
  v1813
def k0_off37 (i : grid0.Coords) (v822 : BitVec 1) (k0_t1 : Fin (k0_t1_loop i v822).trips) : Fin 3 → Nat :=
  let c4_950 : Index := 4#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_949 : BitVec 32 := 256#32
  let v1813 : BitVec 32 := Scalar.muli v1716 c256_i32_949
  let v1814 : BitVec 32 := v1813
  let v1815 : Index := Scalar.indexCast v1814
  let c0_951 : Index := 0#32
  ![4, v1815.toNat, 0]
def k0_mult38 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_959 : BitVec 32 := 256#32
  let v1837 : BitVec 32 := Scalar.muli v1716 c256_i32_959
  v1837
def k0_off38 (i : grid0.Coords) (v822 : BitVec 1) (k0_t1 : Fin (k0_t1_loop i v822).trips) : Fin 3 → Nat :=
  let c5_960 : Index := 5#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_959 : BitVec 32 := 256#32
  let v1837 : BitVec 32 := Scalar.muli v1716 c256_i32_959
  let v1838 : BitVec 32 := v1837
  let v1839 : Index := Scalar.indexCast v1838
  let c0_961 : Index := 0#32
  ![5, v1839.toNat, 0]
def k0_mult39 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_969 : BitVec 32 := 256#32
  let v1861 : BitVec 32 := Scalar.muli v1716 c256_i32_969
  v1861
def k0_off39 (i : grid0.Coords) (v822 : BitVec 1) (k0_t1 : Fin (k0_t1_loop i v822).trips) : Fin 3 → Nat :=
  let c6_970 : Index := 6#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_969 : BitVec 32 := 256#32
  let v1861 : BitVec 32 := Scalar.muli v1716 c256_i32_969
  let v1862 : BitVec 32 := v1861
  let v1863 : Index := Scalar.indexCast v1862
  let c0_971 : Index := 0#32
  ![6, v1863.toNat, 0]
def k0_mult40 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_979 : BitVec 32 := 256#32
  let v1885 : BitVec 32 := Scalar.muli v1716 c256_i32_979
  v1885
def k0_off40 (i : grid0.Coords) (v822 : BitVec 1) (k0_t1 : Fin (k0_t1_loop i v822).trips) : Fin 3 → Nat :=
  let c7_980 : Index := 7#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_979 : BitVec 32 := 256#32
  let v1885 : BitVec 32 := Scalar.muli v1716 c256_i32_979
  let v1886 : BitVec 32 := v1885
  let v1887 : Index := Scalar.indexCast v1886
  let c0_981 : Index := 0#32
  ![7, v1887.toNat, 0]
def k0_mult41 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1013 : BitVec 32 := 256#32
  let v1989 : BitVec 32 := Scalar.muli v1716 c256_i32_1013
  v1989
def k0_off41 (i : grid0.Coords) (v822 : BitVec 1) (k0_t1 : Fin (k0_t1_loop i v822).trips) : Fin 3 → Nat :=
  let c0_1014 : Index := 0#32
  let c0_1015 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1013 : BitVec 32 := 256#32
  let v1989 : BitVec 32 := Scalar.muli v1716 c256_i32_1013
  let v1990 : BitVec 32 := v1989
  let v1991 : Index := Scalar.indexCast v1990
  ![0, 0, v1991.toNat]
def k0_mult42 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1025 : BitVec 32 := 256#32
  let v2001 : BitVec 32 := Scalar.muli v1716 c256_i32_1025
  v2001
def k0_off42 (i : grid0.Coords) (v822 : BitVec 1) (k0_t1 : Fin (k0_t1_loop i v822).trips) : Fin 3 → Nat :=
  let c1_1026 : Index := 1#32
  let c0_1027 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1025 : BitVec 32 := 256#32
  let v2001 : BitVec 32 := Scalar.muli v1716 c256_i32_1025
  let v2002 : BitVec 32 := v2001
  let v2003 : Index := Scalar.indexCast v2002
  ![1, 0, v2003.toNat]
def k0_mult43 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1037 : BitVec 32 := 256#32
  let v2013 : BitVec 32 := Scalar.muli v1716 c256_i32_1037
  v2013
def k0_off43 (i : grid0.Coords) (v822 : BitVec 1) (k0_t1 : Fin (k0_t1_loop i v822).trips) : Fin 3 → Nat :=
  let c2_1038 : Index := 2#32
  let c0_1039 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1037 : BitVec 32 := 256#32
  let v2013 : BitVec 32 := Scalar.muli v1716 c256_i32_1037
  let v2014 : BitVec 32 := v2013
  let v2015 : Index := Scalar.indexCast v2014
  ![2, 0, v2015.toNat]
def k0_mult44 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1049 : BitVec 32 := 256#32
  let v2025 : BitVec 32 := Scalar.muli v1716 c256_i32_1049
  v2025
def k0_off44 (i : grid0.Coords) (v822 : BitVec 1) (k0_t1 : Fin (k0_t1_loop i v822).trips) : Fin 3 → Nat :=
  let c3_1050 : Index := 3#32
  let c0_1051 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1049 : BitVec 32 := 256#32
  let v2025 : BitVec 32 := Scalar.muli v1716 c256_i32_1049
  let v2026 : BitVec 32 := v2025
  let v2027 : Index := Scalar.indexCast v2026
  ![3, 0, v2027.toNat]
def k0_mult45 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1061 : BitVec 32 := 256#32
  let v2037 : BitVec 32 := Scalar.muli v1716 c256_i32_1061
  v2037
def k0_off45 (i : grid0.Coords) (v822 : BitVec 1) (k0_t1 : Fin (k0_t1_loop i v822).trips) : Fin 3 → Nat :=
  let c4_1062 : Index := 4#32
  let c0_1063 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1061 : BitVec 32 := 256#32
  let v2037 : BitVec 32 := Scalar.muli v1716 c256_i32_1061
  let v2038 : BitVec 32 := v2037
  let v2039 : Index := Scalar.indexCast v2038
  ![4, 0, v2039.toNat]
def k0_mult46 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1073 : BitVec 32 := 256#32
  let v2049 : BitVec 32 := Scalar.muli v1716 c256_i32_1073
  v2049
def k0_off46 (i : grid0.Coords) (v822 : BitVec 1) (k0_t1 : Fin (k0_t1_loop i v822).trips) : Fin 3 → Nat :=
  let c5_1074 : Index := 5#32
  let c0_1075 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1073 : BitVec 32 := 256#32
  let v2049 : BitVec 32 := Scalar.muli v1716 c256_i32_1073
  let v2050 : BitVec 32 := v2049
  let v2051 : Index := Scalar.indexCast v2050
  ![5, 0, v2051.toNat]
def k0_mult47 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1085 : BitVec 32 := 256#32
  let v2061 : BitVec 32 := Scalar.muli v1716 c256_i32_1085
  v2061
def k0_off47 (i : grid0.Coords) (v822 : BitVec 1) (k0_t1 : Fin (k0_t1_loop i v822).trips) : Fin 3 → Nat :=
  let c6_1086 : Index := 6#32
  let c0_1087 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1085 : BitVec 32 := 256#32
  let v2061 : BitVec 32 := Scalar.muli v1716 c256_i32_1085
  let v2062 : BitVec 32 := v2061
  let v2063 : Index := Scalar.indexCast v2062
  ![6, 0, v2063.toNat]
def k0_mult48 (i : grid0.Coords) (v822 : BitVec 1) (k0_t1 : Fin (k0_t1_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1097 : BitVec 32 := 256#32
  let v2073 : BitVec 32 := Scalar.muli v1716 c256_i32_1097
  v2073
def k0_off48 (i : grid0.Coords) (v822 : BitVec 1) (k0_t1 : Fin (k0_t1_loop i v822).trips) : Fin 3 → Nat :=
  let c7_1098 : Index := 7#32
  let c0_1099 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_412 : BitVec 32 := 1#32
  let arg9 : BitVec 32 := Scf.iv c0_i32_410 c1_i32_412 k0_t1
  let v1716 : BitVec 32 := Scalar.subi v1715 arg9
  let c256_i32_1097 : BitVec 32 := 256#32
  let v2073 : BitVec 32 := Scalar.muli v1716 c256_i32_1097
  let v2074 : BitVec 32 := v2073
  let v2075 : Index := Scalar.indexCast v2074
  ![7, 0, v2075.toNat]
@[reducible] def k0_t2_loop (i : grid0.Coords) (v822 : BitVec 1) : Scf.Loop 32 :=
  let c0_i32_410 : BitVec 32 := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let v826 : BitVec 32 := Scalar.addi c0_i32_410 v825
  let c1_i32_413 : BitVec 32 := 1#32
  ⟨v829, v826, c1_i32_413⟩
def k0_mult49 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_909 : BitVec 32 := 256#32
  let v1717 : BitVec 32 := Scalar.muli v1716 c256_i32_909
  v1717
def k0_off49 (i : grid0.Coords) (v822 : BitVec 1) (k0_t2 : Fin (k0_t2_loop i v822).trips) : Fin 3 → Nat :=
  let c0_910 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_909 : BitVec 32 := 256#32
  let v1717 : BitVec 32 := Scalar.muli v1716 c256_i32_909
  let v1718 : BitVec 32 := v1717
  let v1719 : Index := Scalar.indexCast v1718
  let c0_911 : Index := 0#32
  ![0, v1719.toNat, 0]
def k0_mult50 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_919 : BitVec 32 := 256#32
  let v1741 : BitVec 32 := Scalar.muli v1716 c256_i32_919
  v1741
def k0_off50 (i : grid0.Coords) (v822 : BitVec 1) (k0_t2 : Fin (k0_t2_loop i v822).trips) : Fin 3 → Nat :=
  let c1_920 : Index := 1#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_919 : BitVec 32 := 256#32
  let v1741 : BitVec 32 := Scalar.muli v1716 c256_i32_919
  let v1742 : BitVec 32 := v1741
  let v1743 : Index := Scalar.indexCast v1742
  let c0_921 : Index := 0#32
  ![1, v1743.toNat, 0]
def k0_mult51 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_929 : BitVec 32 := 256#32
  let v1765 : BitVec 32 := Scalar.muli v1716 c256_i32_929
  v1765
def k0_off51 (i : grid0.Coords) (v822 : BitVec 1) (k0_t2 : Fin (k0_t2_loop i v822).trips) : Fin 3 → Nat :=
  let c2_930 : Index := 2#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_929 : BitVec 32 := 256#32
  let v1765 : BitVec 32 := Scalar.muli v1716 c256_i32_929
  let v1766 : BitVec 32 := v1765
  let v1767 : Index := Scalar.indexCast v1766
  let c0_931 : Index := 0#32
  ![2, v1767.toNat, 0]
def k0_mult52 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_939 : BitVec 32 := 256#32
  let v1789 : BitVec 32 := Scalar.muli v1716 c256_i32_939
  v1789
def k0_off52 (i : grid0.Coords) (v822 : BitVec 1) (k0_t2 : Fin (k0_t2_loop i v822).trips) : Fin 3 → Nat :=
  let c3_940 : Index := 3#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_939 : BitVec 32 := 256#32
  let v1789 : BitVec 32 := Scalar.muli v1716 c256_i32_939
  let v1790 : BitVec 32 := v1789
  let v1791 : Index := Scalar.indexCast v1790
  let c0_941 : Index := 0#32
  ![3, v1791.toNat, 0]
def k0_mult53 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_949 : BitVec 32 := 256#32
  let v1813 : BitVec 32 := Scalar.muli v1716 c256_i32_949
  v1813
def k0_off53 (i : grid0.Coords) (v822 : BitVec 1) (k0_t2 : Fin (k0_t2_loop i v822).trips) : Fin 3 → Nat :=
  let c4_950 : Index := 4#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_949 : BitVec 32 := 256#32
  let v1813 : BitVec 32 := Scalar.muli v1716 c256_i32_949
  let v1814 : BitVec 32 := v1813
  let v1815 : Index := Scalar.indexCast v1814
  let c0_951 : Index := 0#32
  ![4, v1815.toNat, 0]
def k0_mult54 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_959 : BitVec 32 := 256#32
  let v1837 : BitVec 32 := Scalar.muli v1716 c256_i32_959
  v1837
def k0_off54 (i : grid0.Coords) (v822 : BitVec 1) (k0_t2 : Fin (k0_t2_loop i v822).trips) : Fin 3 → Nat :=
  let c5_960 : Index := 5#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_959 : BitVec 32 := 256#32
  let v1837 : BitVec 32 := Scalar.muli v1716 c256_i32_959
  let v1838 : BitVec 32 := v1837
  let v1839 : Index := Scalar.indexCast v1838
  let c0_961 : Index := 0#32
  ![5, v1839.toNat, 0]
def k0_mult55 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_969 : BitVec 32 := 256#32
  let v1861 : BitVec 32 := Scalar.muli v1716 c256_i32_969
  v1861
def k0_off55 (i : grid0.Coords) (v822 : BitVec 1) (k0_t2 : Fin (k0_t2_loop i v822).trips) : Fin 3 → Nat :=
  let c6_970 : Index := 6#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_969 : BitVec 32 := 256#32
  let v1861 : BitVec 32 := Scalar.muli v1716 c256_i32_969
  let v1862 : BitVec 32 := v1861
  let v1863 : Index := Scalar.indexCast v1862
  let c0_971 : Index := 0#32
  ![6, v1863.toNat, 0]
def k0_mult56 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_979 : BitVec 32 := 256#32
  let v1885 : BitVec 32 := Scalar.muli v1716 c256_i32_979
  v1885
def k0_off56 (i : grid0.Coords) (v822 : BitVec 1) (k0_t2 : Fin (k0_t2_loop i v822).trips) : Fin 3 → Nat :=
  let c7_980 : Index := 7#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_979 : BitVec 32 := 256#32
  let v1885 : BitVec 32 := Scalar.muli v1716 c256_i32_979
  let v1886 : BitVec 32 := v1885
  let v1887 : Index := Scalar.indexCast v1886
  let c0_981 : Index := 0#32
  ![7, v1887.toNat, 0]
def k0_mult57 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1013 : BitVec 32 := 256#32
  let v1989 : BitVec 32 := Scalar.muli v1716 c256_i32_1013
  v1989
def k0_off57 (i : grid0.Coords) (v822 : BitVec 1) (k0_t2 : Fin (k0_t2_loop i v822).trips) : Fin 3 → Nat :=
  let c0_1014 : Index := 0#32
  let c0_1015 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1013 : BitVec 32 := 256#32
  let v1989 : BitVec 32 := Scalar.muli v1716 c256_i32_1013
  let v1990 : BitVec 32 := v1989
  let v1991 : Index := Scalar.indexCast v1990
  ![0, 0, v1991.toNat]
def k0_mult58 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1025 : BitVec 32 := 256#32
  let v2001 : BitVec 32 := Scalar.muli v1716 c256_i32_1025
  v2001
def k0_off58 (i : grid0.Coords) (v822 : BitVec 1) (k0_t2 : Fin (k0_t2_loop i v822).trips) : Fin 3 → Nat :=
  let c1_1026 : Index := 1#32
  let c0_1027 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1025 : BitVec 32 := 256#32
  let v2001 : BitVec 32 := Scalar.muli v1716 c256_i32_1025
  let v2002 : BitVec 32 := v2001
  let v2003 : Index := Scalar.indexCast v2002
  ![1, 0, v2003.toNat]
def k0_mult59 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1037 : BitVec 32 := 256#32
  let v2013 : BitVec 32 := Scalar.muli v1716 c256_i32_1037
  v2013
def k0_off59 (i : grid0.Coords) (v822 : BitVec 1) (k0_t2 : Fin (k0_t2_loop i v822).trips) : Fin 3 → Nat :=
  let c2_1038 : Index := 2#32
  let c0_1039 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1037 : BitVec 32 := 256#32
  let v2013 : BitVec 32 := Scalar.muli v1716 c256_i32_1037
  let v2014 : BitVec 32 := v2013
  let v2015 : Index := Scalar.indexCast v2014
  ![2, 0, v2015.toNat]
def k0_mult60 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1049 : BitVec 32 := 256#32
  let v2025 : BitVec 32 := Scalar.muli v1716 c256_i32_1049
  v2025
def k0_off60 (i : grid0.Coords) (v822 : BitVec 1) (k0_t2 : Fin (k0_t2_loop i v822).trips) : Fin 3 → Nat :=
  let c3_1050 : Index := 3#32
  let c0_1051 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1049 : BitVec 32 := 256#32
  let v2025 : BitVec 32 := Scalar.muli v1716 c256_i32_1049
  let v2026 : BitVec 32 := v2025
  let v2027 : Index := Scalar.indexCast v2026
  ![3, 0, v2027.toNat]
def k0_mult61 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1061 : BitVec 32 := 256#32
  let v2037 : BitVec 32 := Scalar.muli v1716 c256_i32_1061
  v2037
def k0_off61 (i : grid0.Coords) (v822 : BitVec 1) (k0_t2 : Fin (k0_t2_loop i v822).trips) : Fin 3 → Nat :=
  let c4_1062 : Index := 4#32
  let c0_1063 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1061 : BitVec 32 := 256#32
  let v2037 : BitVec 32 := Scalar.muli v1716 c256_i32_1061
  let v2038 : BitVec 32 := v2037
  let v2039 : Index := Scalar.indexCast v2038
  ![4, 0, v2039.toNat]
def k0_mult62 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1073 : BitVec 32 := 256#32
  let v2049 : BitVec 32 := Scalar.muli v1716 c256_i32_1073
  v2049
def k0_off62 (i : grid0.Coords) (v822 : BitVec 1) (k0_t2 : Fin (k0_t2_loop i v822).trips) : Fin 3 → Nat :=
  let c5_1074 : Index := 5#32
  let c0_1075 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1073 : BitVec 32 := 256#32
  let v2049 : BitVec 32 := Scalar.muli v1716 c256_i32_1073
  let v2050 : BitVec 32 := v2049
  let v2051 : Index := Scalar.indexCast v2050
  ![5, 0, v2051.toNat]
def k0_mult63 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1085 : BitVec 32 := 256#32
  let v2061 : BitVec 32 := Scalar.muli v1716 c256_i32_1085
  v2061
def k0_off63 (i : grid0.Coords) (v822 : BitVec 1) (k0_t2 : Fin (k0_t2_loop i v822).trips) : Fin 3 → Nat :=
  let c6_1086 : Index := 6#32
  let c0_1087 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1085 : BitVec 32 := 256#32
  let v2061 : BitVec 32 := Scalar.muli v1716 c256_i32_1085
  let v2062 : BitVec 32 := v2061
  let v2063 : Index := Scalar.indexCast v2062
  ![6, 0, v2063.toNat]
def k0_mult64 (i : grid0.Coords) (v822 : BitVec 1) (k0_t2 : Fin (k0_t2_loop i v822).trips) : BitVec 32 :=
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1097 : BitVec 32 := 256#32
  let v2073 : BitVec 32 := Scalar.muli v1716 c256_i32_1097
  v2073
def k0_off64 (i : grid0.Coords) (v822 : BitVec 1) (k0_t2 : Fin (k0_t2_loop i v822).trips) : Fin 3 → Nat :=
  let c7_1098 : Index := 7#32
  let c0_1099 : Index := 0#32
  let arg2 : BitVec 32 := BitVec.ofNat 32 (i 2).val
  let c2_i32 : BitVec 32 := 2#32
  let v3 : BitVec 32 := Scalar.muli arg2 c2_i32
  let c0_i32 : BitVec 32 := 0#32
  let v4 : BitVec 32 := Scalar.addi v3 c0_i32
  let c2_i32_908 : BitVec 32 := 2#32
  let v1715 : BitVec 32 := Scalar.subi v4 c2_i32_908
  let c0_i32_410 : BitVec 32 := 0#32
  let c1_i32_408 : BitVec 32 := 1#32
  let v823 : BitVec 32 := Scalar.subi v4 c1_i32_408
  let c0_i32_409 : BitVec 32 := 0#32
  let v824 : BitVec 32 := Scalar.select v822 v823 c0_i32_409
  let v825 : BitVec 32 := Scalar.subi v824 c0_i32_410
  let c1_i32_411 : BitVec 32 := 1#32
  let v827 : BitVec 32 := Scalar.divsi v825 c1_i32_411
  let v828 : BitVec 32 := Scalar.muli v827 c1_i32_411
  let v829 : BitVec 32 := Scalar.addi c0_i32_410 v828
  let c1_i32_413 : BitVec 32 := 1#32
  let arg9 : BitVec 32 := Scf.iv v829 c1_i32_413 k0_t2
  let v1716 : BitVec 32 := Scalar.subi v1715 arg9
  let c256_i32_1097 : BitVec 32 := 256#32
  let v2073 : BitVec 32 := Scalar.muli v1716 c256_i32_1097
  let v2074 : BitVec 32 := v2073
  let v2075 : Index := Scalar.indexCast v2074
  ![7, 0, v2075.toNat]

def k0_chk1_0 (i : grid0.Coords) (v822 : BitVec 1) : Prop :=
  ((k0_t1_loop i v822).OK) ∧
  (∀ k0_t1 : Fin (k0_t1_loop i v822).trips, 256 ∣ (k0_mult33 i v822 k0_t1).toNat) ∧
  (∀ k0_t1 : Fin (k0_t1_loop i v822).trips, ∀ a, (k0_off33 i v822 k0_t1) a + S1x256x128.size a ≤ S8x4096x128.size a) ∧
  (∀ k0_t1 : Fin (k0_t1_loop i v822).trips, 256 ∣ (k0_mult34 i v822 k0_t1).toNat) ∧
  (∀ k0_t1 : Fin (k0_t1_loop i v822).trips, ∀ a, (k0_off34 i v822 k0_t1) a + S1x256x128.size a ≤ S8x4096x128.size a) ∧
  (∀ k0_t1 : Fin (k0_t1_loop i v822).trips, 256 ∣ (k0_mult35 i v822 k0_t1).toNat) ∧
  (∀ k0_t1 : Fin (k0_t1_loop i v822).trips, ∀ a, (k0_off35 i v822 k0_t1) a + S1x256x128.size a ≤ S8x4096x128.size a) ∧
  (∀ k0_t1 : Fin (k0_t1_loop i v822).trips, 256 ∣ (k0_mult36 i v822 k0_t1).toNat) ∧
  (∀ k0_t1 : Fin (k0_t1_loop i v822).trips, ∀ a, (k0_off36 i v822 k0_t1) a + S1x256x128.size a ≤ S8x4096x128.size a) ∧
  (∀ k0_t1 : Fin (k0_t1_loop i v822).trips, 256 ∣ (k0_mult37 i v822 k0_t1).toNat) ∧
  (∀ k0_t1 : Fin (k0_t1_loop i v822).trips, ∀ a, (k0_off37 i v822 k0_t1) a + S1x256x128.size a ≤ S8x4096x128.size a) ∧
  (∀ k0_t1 : Fin (k0_t1_loop i v822).trips, 256 ∣ (k0_mult38 i v822 k0_t1).toNat) ∧
  (∀ k0_t1 : Fin (k0_t1_loop i v822).trips, ∀ a, (k0_off38 i v822 k0_t1) a + S1x256x128.size a ≤ S8x4096x128.size a) ∧
  (∀ k0_t1 : Fin (k0_t1_loop i v822).trips, 256 ∣ (k0_mult39 i v822 k0_t1).toNat) ∧
  (∀ k0_t1 : Fin (k0_t1_loop i v822).trips, ∀ a, (k0_off39 i v822 k0_t1) a + S1x256x128.size a ≤ S8x4096x128.size a) ∧
  (∀ k0_t1 : Fin (k0_t1_loop i v822).trips, 256 ∣ (k0_mult40 i v822 k0_t1).toNat) ∧
  (∀ k0_t1 : Fin (k0_t1_loop i v822).trips, ∀ a, (k0_off40 i v822 k0_t1) a + S1x256x128.size a ≤ S8x4096x128.size a) ∧
  (∀ k0_t1 : Fin (k0_t1_loop i v822).trips, 256 ∣ (k0_mult41 i v822 k0_t1).toNat) ∧
  (∀ k0_t1 : Fin (k0_t1_loop i v822).trips, ∀ a, (k0_off41 i v822 k0_t1) a + S1x128x256.size a ≤ S8x128x4096.size a) ∧
  (∀ k0_t1 : Fin (k0_t1_loop i v822).trips, 256 ∣ (k0_mult42 i v822 k0_t1).toNat) ∧
  (∀ k0_t1 : Fin (k0_t1_loop i v822).trips, ∀ a, (k0_off42 i v822 k0_t1) a + S1x128x256.size a ≤ S8x128x4096.size a) ∧
  (∀ k0_t1 : Fin (k0_t1_loop i v822).trips, 256 ∣ (k0_mult43 i v822 k0_t1).toNat) ∧
  (∀ k0_t1 : Fin (k0_t1_loop i v822).trips, ∀ a, (k0_off43 i v822 k0_t1) a + S1x128x256.size a ≤ S8x128x4096.size a) ∧
  (∀ k0_t1 : Fin (k0_t1_loop i v822).trips, 256 ∣ (k0_mult44 i v822 k0_t1).toNat) ∧
  (∀ k0_t1 : Fin (k0_t1_loop i v822).trips, ∀ a, (k0_off44 i v822 k0_t1) a + S1x128x256.size a ≤ S8x128x4096.size a) ∧
  (∀ k0_t1 : Fin (k0_t1_loop i v822).trips, 256 ∣ (k0_mult45 i v822 k0_t1).toNat) ∧
  (∀ k0_t1 : Fin (k0_t1_loop i v822).trips, ∀ a, (k0_off45 i v822 k0_t1) a + S1x128x256.size a ≤ S8x128x4096.size a) ∧
  (∀ k0_t1 : Fin (k0_t1_loop i v822).trips, 256 ∣ (k0_mult46 i v822 k0_t1).toNat) ∧
  (∀ k0_t1 : Fin (k0_t1_loop i v822).trips, ∀ a, (k0_off46 i v822 k0_t1) a + S1x128x256.size a ≤ S8x128x4096.size a) ∧
  (∀ k0_t1 : Fin (k0_t1_loop i v822).trips, 256 ∣ (k0_mult47 i v822 k0_t1).toNat) ∧
  (∀ k0_t1 : Fin (k0_t1_loop i v822).trips, ∀ a, (k0_off47 i v822 k0_t1) a + S1x128x256.size a ≤ S8x128x4096.size a) ∧
  (∀ k0_t1 : Fin (k0_t1_loop i v822).trips, 256 ∣ (k0_mult48 i v822 k0_t1).toNat)
def k0_chk1_1 (i : grid0.Coords) (v822 : BitVec 1) : Prop :=
  (∀ k0_t1 : Fin (k0_t1_loop i v822).trips, ∀ a, (k0_off48 i v822 k0_t1) a + S1x128x256.size a ≤ S8x128x4096.size a) ∧
  ((k0_t2_loop i v822).OK) ∧
  (∀ k0_t2 : Fin (k0_t2_loop i v822).trips, 256 ∣ (k0_mult49 i v822 k0_t2).toNat) ∧
  (∀ k0_t2 : Fin (k0_t2_loop i v822).trips, ∀ a, (k0_off49 i v822 k0_t2) a + S1x256x128.size a ≤ S8x4096x128.size a) ∧
  (∀ k0_t2 : Fin (k0_t2_loop i v822).trips, 256 ∣ (k0_mult50 i v822 k0_t2).toNat) ∧
  (∀ k0_t2 : Fin (k0_t2_loop i v822).trips, ∀ a, (k0_off50 i v822 k0_t2) a + S1x256x128.size a ≤ S8x4096x128.size a) ∧
  (∀ k0_t2 : Fin (k0_t2_loop i v822).trips, 256 ∣ (k0_mult51 i v822 k0_t2).toNat) ∧
  (∀ k0_t2 : Fin (k0_t2_loop i v822).trips, ∀ a, (k0_off51 i v822 k0_t2) a + S1x256x128.size a ≤ S8x4096x128.size a) ∧
  (∀ k0_t2 : Fin (k0_t2_loop i v822).trips, 256 ∣ (k0_mult52 i v822 k0_t2).toNat) ∧
  (∀ k0_t2 : Fin (k0_t2_loop i v822).trips, ∀ a, (k0_off52 i v822 k0_t2) a + S1x256x128.size a ≤ S8x4096x128.size a) ∧
  (∀ k0_t2 : Fin (k0_t2_loop i v822).trips, 256 ∣ (k0_mult53 i v822 k0_t2).toNat) ∧
  (∀ k0_t2 : Fin (k0_t2_loop i v822).trips, ∀ a, (k0_off53 i v822 k0_t2) a + S1x256x128.size a ≤ S8x4096x128.size a) ∧
  (∀ k0_t2 : Fin (k0_t2_loop i v822).trips, 256 ∣ (k0_mult54 i v822 k0_t2).toNat) ∧
  (∀ k0_t2 : Fin (k0_t2_loop i v822).trips, ∀ a, (k0_off54 i v822 k0_t2) a + S1x256x128.size a ≤ S8x4096x128.size a) ∧
  (∀ k0_t2 : Fin (k0_t2_loop i v822).trips, 256 ∣ (k0_mult55 i v822 k0_t2).toNat) ∧
  (∀ k0_t2 : Fin (k0_t2_loop i v822).trips, ∀ a, (k0_off55 i v822 k0_t2) a + S1x256x128.size a ≤ S8x4096x128.size a) ∧
  (∀ k0_t2 : Fin (k0_t2_loop i v822).trips, 256 ∣ (k0_mult56 i v822 k0_t2).toNat) ∧
  (∀ k0_t2 : Fin (k0_t2_loop i v822).trips, ∀ a, (k0_off56 i v822 k0_t2) a + S1x256x128.size a ≤ S8x4096x128.size a) ∧
  (∀ k0_t2 : Fin (k0_t2_loop i v822).trips, 256 ∣ (k0_mult57 i v822 k0_t2).toNat) ∧
  (∀ k0_t2 : Fin (k0_t2_loop i v822).trips, ∀ a, (k0_off57 i v822 k0_t2) a + S1x128x256.size a ≤ S8x128x4096.size a) ∧
  (∀ k0_t2 : Fin (k0_t2_loop i v822).trips, 256 ∣ (k0_mult58 i v822 k0_t2).toNat) ∧
  (∀ k0_t2 : Fin (k0_t2_loop i v822).trips, ∀ a, (k0_off58 i v822 k0_t2) a + S1x128x256.size a ≤ S8x128x4096.size a) ∧
  (∀ k0_t2 : Fin (k0_t2_loop i v822).trips, 256 ∣ (k0_mult59 i v822 k0_t2).toNat) ∧
  (∀ k0_t2 : Fin (k0_t2_loop i v822).trips, ∀ a, (k0_off59 i v822 k0_t2) a + S1x128x256.size a ≤ S8x128x4096.size a) ∧
  (∀ k0_t2 : Fin (k0_t2_loop i v822).trips, 256 ∣ (k0_mult60 i v822 k0_t2).toNat) ∧
  (∀ k0_t2 : Fin (k0_t2_loop i v822).trips, ∀ a, (k0_off60 i v822 k0_t2) a + S1x128x256.size a ≤ S8x128x4096.size a) ∧
  (∀ k0_t2 : Fin (k0_t2_loop i v822).trips, 256 ∣ (k0_mult61 i v822 k0_t2).toNat) ∧
  (∀ k0_t2 : Fin (k0_t2_loop i v822).trips, ∀ a, (k0_off61 i v822 k0_t2) a + S1x128x256.size a ≤ S8x128x4096.size a) ∧
  (∀ k0_t2 : Fin (k0_t2_loop i v822).trips, 256 ∣ (k0_mult62 i v822 k0_t2).toNat) ∧
  (∀ k0_t2 : Fin (k0_t2_loop i v822).trips, ∀ a, (k0_off62 i v822 k0_t2) a + S1x128x256.size a ≤ S8x128x4096.size a) ∧
  (∀ k0_t2 : Fin (k0_t2_loop i v822).trips, 256 ∣ (k0_mult63 i v822 k0_t2).toNat) ∧
  (∀ k0_t2 : Fin (k0_t2_loop i v822).trips, ∀ a, (k0_off63 i v822 k0_t2) a + S1x128x256.size a ≤ S8x128x4096.size a)
def k0_chk1_2 (i : grid0.Coords) (v822 : BitVec 1) : Prop :=
  (∀ k0_t2 : Fin (k0_t2_loop i v822).trips, 256 ∣ (k0_mult64 i v822 k0_t2).toNat) ∧
  (∀ k0_t2 : Fin (k0_t2_loop i v822).trips, ∀ a, (k0_off64 i v822 k0_t2) a + S1x128x256.size a ≤ S8x128x4096.size a)
def k0_chk1 (i : grid0.Coords) (v822 : BitVec 1) : Prop :=
  k0_chk1_0 i v822 ∧
  k0_chk1_1 i v822 ∧
  k0_chk1_2 i v822
theorem k0_t1_ok : ∀ (i : grid0.Coords) (v822 : BitVec 1) (k0_hw1 : k0_chk1 i v822), (k0_t1_loop i v822).OK := fun i v822 k0_hw1 => k0_hw1.1.1
theorem k0_mult33_dvd : ∀ (i : grid0.Coords) (v822 : BitVec 1) (k0_hw1 : k0_chk1 i v822) (k0_t1 : Fin (k0_t1_loop i v822).trips), 256 ∣ (k0_mult33 i v822 k0_t1).toNat := fun i v822 k0_hw1 k0_t1 => k0_hw1.1.2.1 k0_t1
theorem k0_off33_inb : ∀ (i : grid0.Coords) (v822 : BitVec 1) (k0_hw1 : k0_chk1 i v822) (k0_t1 : Fin (k0_t1_loop i v822).trips), ∀ a, (k0_off33 i v822 k0_t1) a + S1x256x128.size a ≤ S8x4096x128.size a := fun i v822 k0_hw1 k0_t1 => k0_hw1.1.2.2.1 k0_t1
theorem k0_mult34_dvd : ∀ (i : grid0.Coords) (v822 : BitVec 1) (k0_hw1 : k0_chk1 i v822) (k0_t1 : Fin (k0_t1_loop i v822).trips), 256 ∣ (k0_mult34 i v822 k0_t1).toNat := fun i v822 k0_hw1 k0_t1 => k0_hw1.1.2.2.2.1 k0_t1
theorem k0_off34_inb : ∀ (i : grid0.Coords) (v822 : BitVec 1) (k0_hw1 : k0_chk1 i v822) (k0_t1 : Fin (k0_t1_loop i v822).trips), ∀ a, (k0_off34 i v822 k0_t1) a + S1x256x128.size a ≤ S8x4096x128.size a := fun i v822 k0_hw1 k0_t1 => k0_hw1.1.2.2.2.2.1 k0_t1
theorem k0_mult35_dvd : ∀ (i : grid0.Coords) (v822 : BitVec 1) (k0_hw1 : k0_chk1 i v822) (k0_t1 : Fin (k0_t1_loop i v822).trips), 256 ∣ (k0_mult35 i v822 k0_t1).toNat := fun i v822 k0_hw1 k0_t1 => k0_hw1.1.2.2.2.2.2.1 k0_t1
theorem k0_off35_inb : ∀ (i : grid0.Coords) (v822 : BitVec 1) (k0_hw1 : k0_chk1 i v822) (k0_t1 : Fin (k0_t1_loop i v822).trips), ∀ a, (k0_off35 i v822 k0_t1) a + S1x256x128.size a ≤ S8x4096x128.size a := fun i v822 k0_hw1 k0_t1 => k0_hw1.1.2.2.2.2.2.2.1 k0_t1
theorem k0_mult36_dvd : ∀ (i : grid0.Coords) (v822 : BitVec 1) (k0_hw1 : k0_chk1 i v822) (k0_t1 : Fin (k0_t1_loop i v822).trips), 256 ∣ (k0_mult36 i v822 k0_t1).toNat := fun i v822 k0_hw1 k0_t1 => k0_hw1.1.2.2.2.2.2.2.2.1 k0_t1
theorem k0_off36_inb : ∀ (i : grid0.Coords) (v822 : BitVec 1) (k0_hw1 : k0_chk1 i v822) (k0_t1 : Fin (k0_t1_loop i v822).trips), ∀ a, (k0_off36 i v822 k0_t1) a + S1x256x128.size a ≤ S8x4096x128.size a := fun i v822 k0_hw1 k0_t1 => k0_hw1.1.2.2.2.2.2.2.2.2.1 k0_t1
theorem k0_mult37_dvd : ∀ (i : grid0.Coords) (v822 : BitVec 1) (k0_hw1 : k0_chk1 i v822) (k0_t1 : Fin (k0_t1_loop i v822).trips), 256 ∣ (k0_mult37 i v822 k0_t1).toNat := fun i v822 k0_hw1 k0_t1 => k0_hw1.1.2.2.2.2.2.2.2.2.2.1 k0_t1
theorem k0_off37_inb : ∀ (i : grid0.Coords) (v822 : BitVec 1) (k0_hw1 : k0_chk1 i v822) (k0_t1 : Fin (k0_t1_loop i v822).trips), ∀ a, (k0_off37 i v822 k0_t1) a + S1x256x128.size a ≤ S8x4096x128.size a := fun i v822 k0_hw1 k0_t1 => k0_hw1.1.2.2.2.2.2.2.2.2.2.2.1 k0_t1
theorem k0_mult38_dvd : ∀ (i : grid0.Coords) (v822 : BitVec 1) (k0_hw1 : k0_chk1 i v822) (k0_t1 : Fin (k0_t1_loop i v822).trips), 256 ∣ (k0_mult38 i v822 k0_t1).toNat := fun i v822 k0_hw1 k0_t1 => k0_hw1.1.2.2.2.2.2.2.2.2.2.2.2.1 k0_t1
theorem k0_off38_inb : ∀ (i : grid0.Coords) (v822 : BitVec 1) (k0_hw1 : k0_chk1 i v822) (k0_t1 : Fin (k0_t1_loop i v822).trips), ∀ a, (k0_off38 i v822 k0_t1) a + S1x256x128.size a ≤ S8x4096x128.size a := fun i v822 k0_hw1 k0_t1 => k0_hw1.1.2.2.2.2.2.2.2.2.2.2.2.2.1 k0_t1
theorem k0_mult39_dvd : ∀ (i : grid0.Coords) (v822 : BitVec 1) (k0_hw1 : k0_chk1 i v822) (k0_t1 : Fin (k0_t1_loop i v822).trips), 256 ∣ (k0_mult39 i v822 k0_t1).toNat := fun i v822 k0_hw1 k0_t1 => k0_hw1.1.2.2.2.2.2.2.2.2.2.2.2.2.2.1 k0_t1
theorem k0_off39_inb : ∀ (i : grid0.Coords) (v822 : BitVec 1) (k0_hw1 : k0_chk1 i v822) (k0_t1 : Fin (k0_t1_loop i v822).trips), ∀ a, (k0_off39 i v822 k0_t1) a + S1x256x128.size a ≤ S8x4096x128.size a := fun i v822 k0_hw1 k0_t1 => k0_hw1.1.2.2.2.2.2.2.2.2.2.2.2.2.2.2.1 k0_t1
theorem k0_mult40_dvd : ∀ (i : grid0.Coords) (v822 : BitVec 1) (k0_hw1 : k0_chk1 i v822) (k0_t1 : Fin (k0_t1_loop i v822).trips), 256 ∣ (k0_mult40 i v822 k0_t1).toNat := fun i v822 k0_hw1 k0_t1 => k0_hw1.1.2.2.2.2.2.2.2.2.2.2.2.2.2.2.2.1 k0_t1
theorem k0_off40_inb : ∀ (i : grid0.Coords) (v822 : BitVec 1) (k0_hw1 : k0_chk1 i v822) (k0_t1 : Fin (k0_t1_loop i v822).trips), ∀ a, (k0_off40 i v822 k0_t1) a + S1x256x128.size a ≤ S8x4096x128.size a := fun i v822 k0_hw1 k0_t1 => k0_hw1.1.2.2.2.2.2.2.2.2.2.2.2.2.2.2.2.2.1 k0_t1
theorem k0_mult41_dvd : ∀ (i : grid0.Coords) (v822 : BitVec 1) (k0_hw1 : k0_chk1 i v822) (k0_t1 : Fin (k0_t1_loop i v822).trips), 256 ∣ (k0_mult41 i v822 k0_t1).toNat := fun i v822 k0_hw1 k0_t1 => k0_hw1.1.2.2.2.2.2.2.2.2.2.2.2.2.2.2.2.2.2.1 k0_t1
theorem k0_off41_inb : ∀ (i : grid0.Coords) (v822 : BitVec 1) (k0_hw1 : k0_chk1 i v822) (k0_t1 : Fin (k0_t1_loop i v822).trips), ∀ a, (k0_off41 i v822 k0_t1) a + S1x128x256.size a ≤ S8x128x4096.size a := fun i v822 k0_hw1 k0_t1 => k0_hw1.1.2.2.2.2.2.2.2.2.2.2.2.2.2.2.2.2.2.2.1 k0_t1
theorem k0_mult42_dvd : ∀ (i : grid0.Coords) (v822 : BitVec 1) (k0_hw1 : k0_chk1 i v822) (k0_t1 : Fin (k0_t1_loop i v822).trips), 256 ∣ (k0_mult42 i v822 k0_t1).toNat := fun i v822 k0_hw1 k0_t1 => k0_hw1.1.2.2.2.2.2.2.2.2.2.2.2.2.2.2.2.2.2.2.2.1 k0_t1
theorem k0_off42_inb : ∀ (i : grid0.Coords) (v822 : BitVec 1) (k0_hw1 : k0_chk1 i v822) (k0_t1 : Fin (k0_t1_loop i v822).trips), ∀ a, (k0_off42 i v822 k0_t1) a + S1x128x256.size a ≤ S8x128x4096.size a := fun i v822 k0_hw1 k0_t1 => k0_hw1.1.2.2.2.2.2.2.2.2.2.2.2.2.2.2.2.2.2.2.2.2.1 k0_t1
theorem k0_mult43_dvd : ∀ (i : grid0.Coords) (v822 : BitVec 1) (k0_hw1 : k0_chk1 i v822) (k0_t1 : Fin (k0_t1_loop i v822).trips), 256 ∣ (k0_mult43 i v822 k0_t1).toNat := fun i v822 k0_hw1 k0_t1 => k0_hw1.1.2.2.2.2.2.2.2.2.2.2.2.2.2.2.2.2.2.2.2.2.2.1 k0_t1
theorem k0_off43_inb : ∀ (i : grid0.Coords) (v822 : BitVec 1) (k0_hw1 : k0_chk1 i v822) (k0_t1 : Fin (k0_t1_loop i v822).trips), ∀ a, (k0_off43 i v822 k0_t1) a + S1x128x256.size a ≤ S8x128x4096.size a := fun i v822 k0_hw1 k0_t1 => k0_hw1.1.2.2.2.2.2.2.2.2.2.2.2.2.2.2.2.2.2.2.2.2.2.2.1 k0_t1
theorem k0_mult44_dvd : ∀ (i : grid0.Coords) (v822 : BitVec 1) (k0_hw1 : k0_chk1 i v822) (k0_t1 : Fin (k0_t1_loop i v822).trips), 256 ∣ (k0_mult44 i v822 k0_t1).toNat := fun i v822 k0_hw1 k0_t1 => k0_hw1.1.2.2.2.2.2.2.2.2.2.2.2.2.2.2.2.2.2.2.2.2.2.2.2.1 k0_t1
theorem k0_off44_inb : ∀ (i : grid0.Coords) (v822 : BitVec 1) (k0_hw1 : k0_chk1 i v822) (k0_t1 : Fin (k0_t1_loop i v822).trips), ∀ a, (k0_off44 i v822 k0_t1) a + S1x128x256.size a ≤ S8x128x4096.size a := fun i v822 k0_hw1 k0_t1 => k0_hw1.1.2.2.2.2.2.2.2.2.2.2.2.2.2.2.2.2.2.2.2.2.2.2.2.2.1 k0_t1
theorem k0_mult45_dvd : ∀ (i : grid0.Coords) (v822 : BitVec 1) (k0_hw1 : k0_chk1 i v822) (k0_t1 : Fin (k0_t1_loop i v822).trips), 256 ∣ (k0_mult45 i v822 k0_t1).toNat := fun i v822 k0_hw1 k0_t1 => k0_hw1.1.2.2.2.2.2.2.2.2.2.2.2.2.2.2.2.2.2.2.2.2.2.2.2.2.2.1 k0_t1
theorem k0_off45_inb : ∀ (i : grid0.Coords) (v822 : BitVec 1) (k0_hw1 : k0_chk1 i v822) (k0_t1 : Fin (k0_t1_loop i v822).trips), ∀ a, (k0_off45 i v822 k0_t1) a + S1x128x256.size a ≤ S8x128x4096.size a := fun i v822 k0_hw1 k0_t1 => k0_hw1.1.2.2.2.2.2.2.2.2.2.2.2.2.2.2.2.2.2.2.2.2.2.2.2.2.2.2.1 k0_t1
theorem k0_mult46_dvd : ∀ (i : grid0.Coords) (v822 : BitVec 1) (k0_hw1 : k0_chk1 i v822) (k0_t1 : Fin (k0_t1_loop i v822).trips), 256 ∣ (k0_mult46 i v822 k0_t1).toNat := fun i v822 k0_hw1 k0_t1 => k0_hw1.1.2.2.2.2.2.2.2.2.2.2.2.2.2.2.2.2.2.2.2.2.2.2.2.2.2.2.2.1 k0_t1
theorem k0_off46_inb : ∀ (i : grid0.Coords) (v822 : BitVec 1) (k0_hw1 : k0_chk1 i v822) (k0_t1 : Fin (k0_t1_loop i v822).trips), ∀ a, (k0_off46 i v822 k0_t1) a + S1x128x256.size a ≤ S8x128x4096.size a := fun i v822 k0_hw1 k0_t1 => k0_hw1.1.2.2.2.2.2.2.2.2.2.2.2.2.2.2.2.2.2.2.2.2.2.2.2.2.2.2.2.2.1 k0_t1
theorem k0_mult47_dvd : ∀ (i : grid0.Coords) (v822 : BitVec 1) (k0_hw1 : k0_chk1 i v822) (k0_t1 : Fin (k0_t1_loop i v822).trips), 256 ∣ (k0_mult47 i v822 k0_t1).toNat := fun i v822 k0_hw1 k0_t1 => k0_hw1.1.2.2.2.2.2.2.2.2.2.2.2.2.2.2.2.2.2.2.2.2.2.2.2.2.2.2.2.2.2.1 k0_t1
theorem k0_off47_inb : ∀ (i : grid0.Coords) (v822 : BitVec 1) (k0_hw1 : k0_chk1 i v822) (k0_t1 : Fin (k0_t1_loop i v822).trips), ∀ a, (k0_off47 i v822 k0_t1) a + S1x128x256.size a ≤ S8x128x4096.size a := fun i v822 k0_hw1 k0_t1 => k0_hw1.1.2.2.2.2.2.2.2.2.2.2.2.2.2.2.2.2.2.2.2.2.2.2.2.2.2.2.2.2.2.2.1 k0_t1
theorem k0_mult48_dvd : ∀ (i : grid0.Coords) (v822 : BitVec 1) (k0_hw1 : k0_chk1 i v822) (k0_t1 : Fin (k0_t1_loop i v822).trips), 256 ∣ (k0_mult48 i v822 k0_t1).toNat := fun i v822 k0_hw1 k0_t1 => k0_hw1.1.2.2.2.2.2.2.2.2.2.2.2.2.2.2.2.2.2.2.2.2.2.2.2.2.2.2.2.2.2.2.2 k0_t1
theorem k0_off48_inb : ∀ (i : grid0.Coords) (v822 : BitVec 1) (k0_hw1 : k0_chk1 i v822) (k0_t1 : Fin (k0_t1_loop i v822).trips), ∀ a, (k0_off48 i v822 k0_t1) a + S1x128x256.size a ≤ S8x128x4096.size a := fun i v822 k0_hw1 k0_t1 => k0_hw1.2.1.1 k0_t1
theorem k0_t2_ok : ∀ (i : grid0.Coords) (v822 : BitVec 1) (k0_hw1 : k0_chk1 i v822), (k0_t2_loop i v822).OK := fun i v822 k0_hw1 => k0_hw1.2.1.2.1
theorem k0_mult49_dvd : ∀ (i : grid0.Coords) (v822 : BitVec 1) (k0_hw1 : k0_chk1 i v822) (k0_t2 : Fin (k0_t2_loop i v822).trips), 256 ∣ (k0_mult49 i v822 k0_t2).toNat := fun i v822 k0_hw1 k0_t2 => k0_hw1.2.1.2.2.1 k0_t2
theorem k0_off49_inb : ∀ (i : grid0.Coords) (v822 : BitVec 1) (k0_hw1 : k0_chk1 i v822) (k0_t2 : Fin (k0_t2_loop i v822).trips), ∀ a, (k0_off49 i v822 k0_t2) a + S1x256x128.size a ≤ S8x4096x128.size a := fun i v822 k0_hw1 k0_t2 => k0_hw1.2.1.2.2.2.1 k0_t2
theorem k0_mult50_dvd : ∀ (i : grid0.Coords) (v822 : BitVec 1) (k0_hw1 : k0_chk1 i v822) (k0_t2 : Fin (k0_t2_loop i v822).trips), 256 ∣ (k0_mult50 i v822 k0_t2).toNat := fun i v822 k0_hw1 k0_t2 => k0_hw1.2.1.2.2.2.2.1 k0_t2
theorem k0_off50_inb : ∀ (i : grid0.Coords) (v822 : BitVec 1) (k0_hw1 : k0_chk1 i v822) (k0_t2 : Fin (k0_t2_loop i v822).trips), ∀ a, (k0_off50 i v822 k0_t2) a + S1x256x128.size a ≤ S8x4096x128.size a := fun i v822 k0_hw1 k0_t2 => k0_hw1.2.1.2.2.2.2.2.1 k0_t2
theorem k0_mult51_dvd : ∀ (i : grid0.Coords) (v822 : BitVec 1) (k0_hw1 : k0_chk1 i v822) (k0_t2 : Fin (k0_t2_loop i v822).trips), 256 ∣ (k0_mult51 i v822 k0_t2).toNat := fun i v822 k0_hw1 k0_t2 => k0_hw1.2.1.2.2.2.2.2.2.1 k0_t2
theorem k0_off51_inb : ∀ (i : grid0.Coords) (v822 : BitVec 1) (k0_hw1 : k0_chk1 i v822) (k0_t2 : Fin (k0_t2_loop i v822).trips), ∀ a, (k0_off51 i v822 k0_t2) a + S1x256x128.size a ≤ S8x4096x128.size a := fun i v822 k0_hw1 k0_t2 => k0_hw1.2.1.2.2.2.2.2.2.2.1 k0_t2
theorem k0_mult52_dvd : ∀ (i : grid0.Coords) (v822 : BitVec 1) (k0_hw1 : k0_chk1 i v822) (k0_t2 : Fin (k0_t2_loop i v822).trips), 256 ∣ (k0_mult52 i v822 k0_t2).toNat := fun i v822 k0_hw1 k0_t2 => k0_hw1.2.1.2.2.2.2.2.2.2.2.1 k0_t2
theorem k0_off52_inb : ∀ (i : grid0.Coords) (v822 : BitVec 1) (k0_hw1 : k0_chk1 i v822) (k0_t2 : Fin (k0_t2_loop i v822).trips), ∀ a, (k0_off52 i v822 k0_t2) a + S1x256x128.size a ≤ S8x4096x128.size a := fun i v822 k0_hw1 k0_t2 => k0_hw1.2.1.2.2.2.2.2.2.2.2.2.1 k0_t2
theorem k0_mult53_dvd : ∀ (i : grid0.Coords) (v822 : BitVec 1) (k0_hw1 : k0_chk1 i v822) (k0_t2 : Fin (k0_t2_loop i v822).trips), 256 ∣ (k0_mult53 i v822 k0_t2).toNat := fun i v822 k0_hw1 k0_t2 => k0_hw1.2.1.2.2.2.2.2.2.2.2.2.2.1 k0_t2
theorem k0_off53_inb : ∀ (i : grid0.Coords) (v822 : BitVec 1) (k0_hw1 : k0_chk1 i v822) (k0_t2 : Fin (k0_t2_loop i v822).trips), ∀ a, (k0_off53 i v822 k0_t2) a + S1x256x128.size a ≤ S8x4096x128.size a := fun i v822 k0_hw1 k0_t2 => k0_hw1.2.1.2.2.2.2.2.2.2.2.2.2.2.1 k0_t2
theorem k0_mult54_dvd : ∀ (i : grid0.Coords) (v822 : BitVec 1) (k0_hw1 : k0_chk1 i v822) (k0_t2 : Fin (k0_t2_loop i v822).trips), 256 ∣ (k0_mult54 i v822 k0_t2).toNat := fun i v822 k0_hw1 k0_t2 => k0_hw1.2.1.2.2.2.2.2.2.2.2.2.2.2.2.1 k0_t2
theorem k0_off54_inb : ∀ (i : grid0.Coords) (v822 : BitVec 1) (k0_hw1 : k0_chk1 i v822) (k0_t2 : Fin (k0_t2_loop i v822).trips), ∀ a, (k0_off54 i v822 k0_t2) a + S1x256x128.size a ≤ S8x4096x128.size a := fun i v822 k0_hw1 k0_t2 => k0_hw1.2.1.2.2.2.2.2.2.2.2.2.2.2.2.2.1 k0_t2
theorem k0_mult55_dvd : ∀ (i : grid0.Coords) (v822 : BitVec 1) (k0_hw1 : k0_chk1 i v822) (k0_t2 : Fin (k0_t2_loop i v822).trips), 256 ∣ (k0_mult55 i v822 k0_t2).toNat := fun i v822 k0_hw1 k0_t2 => k0_hw1.2.1.2.2.2.2.2.2.2.2.2.2.2.2.2.2.1 k0_t2
theorem k0_off55_inb : ∀ (i : grid0.Coords) (v822 : BitVec 1) (k0_hw1 : k0_chk1 i v822) (k0_t2 : Fin (k0_t2_loop i v822).trips), ∀ a, (k0_off55 i v822 k0_t2) a + S1x256x128.size a ≤ S8x4096x128.size a := fun i v822 k0_hw1 k0_t2 => k0_hw1.2.1.2.2.2.2.2.2.2.2.2.2.2.2.2.2.2.1 k0_t2
theorem k0_mult56_dvd : ∀ (i : grid0.Coords) (v822 : BitVec 1) (k0_hw1 : k0_chk1 i v822) (k0_t2 : Fin (k0_t2_loop i v822).trips), 256 ∣ (k0_mult56 i v822 k0_t2).toNat := fun i v822 k0_hw1 k0_t2 => k0_hw1.2.1.2.2.2.2.2.2.2.2.2.2.2.2.2.2.2.2.1 k0_t2
theorem k0_off56_inb : ∀ (i : grid0.Coords) (v822 : BitVec 1) (k0_hw1 : k0_chk1 i v822) (k0_t2 : Fin (k0_t2_loop i v822).trips), ∀ a, (k0_off56 i v822 k0_t2) a + S1x256x128.size a ≤ S8x4096x128.size a := fun i v822 k0_hw1 k0_t2 => k0_hw1.2.1.2.2.2.2.2.2.2.2.2.2.2.2.2.2.2.2.2.1 k0_t2
theorem k0_mult57_dvd : ∀ (i : grid0.Coords) (v822 : BitVec 1) (k0_hw1 : k0_chk1 i v822) (k0_t2 : Fin (k0_t2_loop i v822).trips), 256 ∣ (k0_mult57 i v822 k0_t2).toNat := fun i v822 k0_hw1 k0_t2 => k0_hw1.2.1.2.2.2.2.2.2.2.2.2.2.2.2.2.2.2.2.2.2.1 k0_t2
theorem k0_off57_inb : ∀ (i : grid0.Coords) (v822 : BitVec 1) (k0_hw1 : k0_chk1 i v822) (k0_t2 : Fin (k0_t2_loop i v822).trips), ∀ a, (k0_off57 i v822 k0_t2) a + S1x128x256.size a ≤ S8x128x4096.size a := fun i v822 k0_hw1 k0_t2 => k0_hw1.2.1.2.2.2.2.2.2.2.2.2.2.2.2.2.2.2.2.2.2.2.1 k0_t2
theorem k0_mult58_dvd : ∀ (i : grid0.Coords) (v822 : BitVec 1) (k0_hw1 : k0_chk1 i v822) (k0_t2 : Fin (k0_t2_loop i v822).trips), 256 ∣ (k0_mult58 i v822 k0_t2).toNat := fun i v822 k0_hw1 k0_t2 => k0_hw1.2.1.2.2.2.2.2.2.2.2.2.2.2.2.2.2.2.2.2.2.2.2.1 k0_t2
theorem k0_off58_inb : ∀ (i : grid0.Coords) (v822 : BitVec 1) (k0_hw1 : k0_chk1 i v822) (k0_t2 : Fin (k0_t2_loop i v822).trips), ∀ a, (k0_off58 i v822 k0_t2) a + S1x128x256.size a ≤ S8x128x4096.size a := fun i v822 k0_hw1 k0_t2 => k0_hw1.2.1.2.2.2.2.2.2.2.2.2.2.2.2.2.2.2.2.2.2.2.2.2.1 k0_t2
theorem k0_mult59_dvd : ∀ (i : grid0.Coords) (v822 : BitVec 1) (k0_hw1 : k0_chk1 i v822) (k0_t2 : Fin (k0_t2_loop i v822).trips), 256 ∣ (k0_mult59 i v822 k0_t2).toNat := fun i v822 k0_hw1 k0_t2 => k0_hw1.2.1.2.2.2.2.2.2.2.2.2.2.2.2.2.2.2.2.2.2.2.2.2.2.1 k0_t2
theorem k0_off59_inb : ∀ (i : grid0.Coords) (v822 : BitVec 1) (k0_hw1 : k0_chk1 i v822) (k0_t2 : Fin (k0_t2_loop i v822).trips), ∀ a, (k0_off59 i v822 k0_t2) a + S1x128x256.size a ≤ S8x128x4096.size a := fun i v822 k0_hw1 k0_t2 => k0_hw1.2.1.2.2.2.2.2.2.2.2.2.2.2.2.2.2.2.2.2.2.2.2.2.2.2.1 k0_t2
theorem k0_mult60_dvd : ∀ (i : grid0.Coords) (v822 : BitVec 1) (k0_hw1 : k0_chk1 i v822) (k0_t2 : Fin (k0_t2_loop i v822).trips), 256 ∣ (k0_mult60 i v822 k0_t2).toNat := fun i v822 k0_hw1 k0_t2 => k0_hw1.2.1.2.2.2.2.2.2.2.2.2.2.2.2.2.2.2.2.2.2.2.2.2.2.2.2.1 k0_t2
theorem k0_off60_inb : ∀ (i : grid0.Coords) (v822 : BitVec 1) (k0_hw1 : k0_chk1 i v822) (k0_t2 : Fin (k0_t2_loop i v822).trips), ∀ a, (k0_off60 i v822 k0_t2) a + S1x128x256.size a ≤ S8x128x4096.size a := fun i v822 k0_hw1 k0_t2 => k0_hw1.2.1.2.2.2.2.2.2.2.2.2.2.2.2.2.2.2.2.2.2.2.2.2.2.2.2.2.1 k0_t2
theorem k0_mult61_dvd : ∀ (i : grid0.Coords) (v822 : BitVec 1) (k0_hw1 : k0_chk1 i v822) (k0_t2 : Fin (k0_t2_loop i v822).trips), 256 ∣ (k0_mult61 i v822 k0_t2).toNat := fun i v822 k0_hw1 k0_t2 => k0_hw1.2.1.2.2.2.2.2.2.2.2.2.2.2.2.2.2.2.2.2.2.2.2.2.2.2.2.2.2.1 k0_t2
theorem k0_off61_inb : ∀ (i : grid0.Coords) (v822 : BitVec 1) (k0_hw1 : k0_chk1 i v822) (k0_t2 : Fin (k0_t2_loop i v822).trips), ∀ a, (k0_off61 i v822 k0_t2) a + S1x128x256.size a ≤ S8x128x4096.size a := fun i v822 k0_hw1 k0_t2 => k0_hw1.2.1.2.2.2.2.2.2.2.2.2.2.2.2.2.2.2.2.2.2.2.2.2.2.2.2.2.2.2.1 k0_t2
theorem k0_mult62_dvd : ∀ (i : grid0.Coords) (v822 : BitVec 1) (k0_hw1 : k0_chk1 i v822) (k0_t2 : Fin (k0_t2_loop i v822).trips), 256 ∣ (k0_mult62 i v822 k0_t2).toNat := fun i v822 k0_hw1 k0_t2 => k0_hw1.2.1.2.2.2.2.2.2.2.2.2.2.2.2.2.2.2.2.2.2.2.2.2.2.2.2.2.2.2.2.1 k0_t2
theorem k0_off62_inb : ∀ (i : grid0.Coords) (v822 : BitVec 1) (k0_hw1 : k0_chk1 i v822) (k0_t2 : Fin (k0_t2_loop i v822).trips), ∀ a, (k0_off62 i v822 k0_t2) a + S1x128x256.size a ≤ S8x128x4096.size a := fun i v822 k0_hw1 k0_t2 => k0_hw1.2.1.2.2.2.2.2.2.2.2.2.2.2.2.2.2.2.2.2.2.2.2.2.2.2.2.2.2.2.2.2.1 k0_t2
theorem k0_mult63_dvd : ∀ (i : grid0.Coords) (v822 : BitVec 1) (k0_hw1 : k0_chk1 i v822) (k0_t2 : Fin (k0_t2_loop i v822).trips), 256 ∣ (k0_mult63 i v822 k0_t2).toNat := fun i v822 k0_hw1 k0_t2 => k0_hw1.2.1.2.2.2.2.2.2.2.2.2.2.2.2.2.2.2.2.2.2.2.2.2.2.2.2.2.2.2.2.2.2.1 k0_t2
theorem k0_off63_inb : ∀ (i : grid0.Coords) (v822 : BitVec 1) (k0_hw1 : k0_chk1 i v822) (k0_t2 : Fin (k0_t2_loop i v822).trips), ∀ a, (k0_off63 i v822 k0_t2) a + S1x128x256.size a ≤ S8x128x4096.size a := fun i v822 k0_hw1 k0_t2 => k0_hw1.2.1.2.2.2.2.2.2.2.2.2.2.2.2.2.2.2.2.2.2.2.2.2.2.2.2.2.2.2.2.2.2.2 k0_t2
theorem k0_mult64_dvd : ∀ (i : grid0.Coords) (v822 : BitVec 1) (k0_hw1 : k0_chk1 i v822) (k0_t2 : Fin (k0_t2_loop i v822).trips), 256 ∣ (k0_mult64 i v822 k0_t2).toNat := fun i v822 k0_hw1 k0_t2 => k0_hw1.2.2.1 k0_t2
theorem k0_off64_inb : ∀ (i : grid0.Coords) (v822 : BitVec 1) (k0_hw1 : k0_chk1 i v822) (k0_t2 : Fin (k0_t2_loop i v822).trips), ∀ a, (k0_off64 i v822 k0_t2) a + S1x128x256.size a ≤ S8x128x4096.size a := fun i v822 k0_hw1 k0_t2 => k0_hw1.2.2.2 k0_t2

def k0_mult65 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_452 : BitVec 32 := 256#32
  let v863 : BitVec 32 := Scalar.muli v860 c256_i32_452
  v863
def k0_off65 (i : grid0.Coords) : Fin 3 → Nat :=
  let c0_453 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_452 : BitVec 32 := 256#32
  let v863 : BitVec 32 := Scalar.muli v860 c256_i32_452
  let v864 : BitVec 32 := v863
  let v865 : Index := Scalar.indexCast v864
  let c0_454 : Index := 0#32
  ![0, v865.toNat, 0]
def k0_mult66 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_462 : BitVec 32 := 256#32
  let v889 : BitVec 32 := Scalar.muli v860 c256_i32_462
  v889
def k0_off66 (i : grid0.Coords) : Fin 3 → Nat :=
  let c1_463 : Index := 1#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_462 : BitVec 32 := 256#32
  let v889 : BitVec 32 := Scalar.muli v860 c256_i32_462
  let v890 : BitVec 32 := v889
  let v891 : Index := Scalar.indexCast v890
  let c0_464 : Index := 0#32
  ![1, v891.toNat, 0]
def k0_mult67 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_473 : BitVec 32 := 256#32
  let v915 : BitVec 32 := Scalar.muli v860 c256_i32_473
  v915
def k0_off67 (i : grid0.Coords) : Fin 3 → Nat :=
  let c2_474 : Index := 2#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_473 : BitVec 32 := 256#32
  let v915 : BitVec 32 := Scalar.muli v860 c256_i32_473
  let v916 : BitVec 32 := v915
  let v917 : Index := Scalar.indexCast v916
  let c0_475 : Index := 0#32
  ![2, v917.toNat, 0]
def k0_mult68 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_484 : BitVec 32 := 256#32
  let v941 : BitVec 32 := Scalar.muli v860 c256_i32_484
  v941
def k0_off68 (i : grid0.Coords) : Fin 3 → Nat :=
  let c3_485 : Index := 3#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_484 : BitVec 32 := 256#32
  let v941 : BitVec 32 := Scalar.muli v860 c256_i32_484
  let v942 : BitVec 32 := v941
  let v943 : Index := Scalar.indexCast v942
  let c0_486 : Index := 0#32
  ![3, v943.toNat, 0]
def k0_mult69 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_495 : BitVec 32 := 256#32
  let v967 : BitVec 32 := Scalar.muli v860 c256_i32_495
  v967
def k0_off69 (i : grid0.Coords) : Fin 3 → Nat :=
  let c4_496 : Index := 4#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_495 : BitVec 32 := 256#32
  let v967 : BitVec 32 := Scalar.muli v860 c256_i32_495
  let v968 : BitVec 32 := v967
  let v969 : Index := Scalar.indexCast v968
  let c0_497 : Index := 0#32
  ![4, v969.toNat, 0]
def k0_mult70 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_506 : BitVec 32 := 256#32
  let v993 : BitVec 32 := Scalar.muli v860 c256_i32_506
  v993
def k0_off70 (i : grid0.Coords) : Fin 3 → Nat :=
  let c5_507 : Index := 5#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_506 : BitVec 32 := 256#32
  let v993 : BitVec 32 := Scalar.muli v860 c256_i32_506
  let v994 : BitVec 32 := v993
  let v995 : Index := Scalar.indexCast v994
  let c0_508 : Index := 0#32
  ![5, v995.toNat, 0]
def k0_mult71 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_517 : BitVec 32 := 256#32
  let v1019 : BitVec 32 := Scalar.muli v860 c256_i32_517
  v1019
def k0_off71 (i : grid0.Coords) : Fin 3 → Nat :=
  let c6_518 : Index := 6#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_517 : BitVec 32 := 256#32
  let v1019 : BitVec 32 := Scalar.muli v860 c256_i32_517
  let v1020 : BitVec 32 := v1019
  let v1021 : Index := Scalar.indexCast v1020
  let c0_519 : Index := 0#32
  ![6, v1021.toNat, 0]
def k0_mult72 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_528 : BitVec 32 := 256#32
  let v1045 : BitVec 32 := Scalar.muli v860 c256_i32_528
  v1045
def k0_off72 (i : grid0.Coords) : Fin 3 → Nat :=
  let c7_529 : Index := 7#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_528 : BitVec 32 := 256#32
  let v1045 : BitVec 32 := Scalar.muli v860 c256_i32_528
  let v1046 : BitVec 32 := v1045
  let v1047 : Index := Scalar.indexCast v1046
  let c0_530 : Index := 0#32
  ![7, v1047.toNat, 0]
def k0_mult73 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_539 : BitVec 32 := 256#32
  let v1071 : BitVec 32 := Scalar.muli v862 c256_i32_539
  v1071
def k0_off73 (i : grid0.Coords) : Fin 3 → Nat :=
  let c0_540 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_539 : BitVec 32 := 256#32
  let v1071 : BitVec 32 := Scalar.muli v862 c256_i32_539
  let v1072 : BitVec 32 := v1071
  let v1073 : Index := Scalar.indexCast v1072
  let c0_541 : Index := 0#32
  ![0, v1073.toNat, 0]
def k0_mult74 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_549 : BitVec 32 := 256#32
  let v1095 : BitVec 32 := Scalar.muli v862 c256_i32_549
  v1095
def k0_off74 (i : grid0.Coords) : Fin 3 → Nat :=
  let c1_550 : Index := 1#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_549 : BitVec 32 := 256#32
  let v1095 : BitVec 32 := Scalar.muli v862 c256_i32_549
  let v1096 : BitVec 32 := v1095
  let v1097 : Index := Scalar.indexCast v1096
  let c0_551 : Index := 0#32
  ![1, v1097.toNat, 0]
def k0_mult75 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_559 : BitVec 32 := 256#32
  let v1119 : BitVec 32 := Scalar.muli v862 c256_i32_559
  v1119
def k0_off75 (i : grid0.Coords) : Fin 3 → Nat :=
  let c2_560 : Index := 2#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_559 : BitVec 32 := 256#32
  let v1119 : BitVec 32 := Scalar.muli v862 c256_i32_559
  let v1120 : BitVec 32 := v1119
  let v1121 : Index := Scalar.indexCast v1120
  let c0_561 : Index := 0#32
  ![2, v1121.toNat, 0]
def k0_mult76 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_569 : BitVec 32 := 256#32
  let v1143 : BitVec 32 := Scalar.muli v862 c256_i32_569
  v1143
def k0_off76 (i : grid0.Coords) : Fin 3 → Nat :=
  let c3_570 : Index := 3#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_569 : BitVec 32 := 256#32
  let v1143 : BitVec 32 := Scalar.muli v862 c256_i32_569
  let v1144 : BitVec 32 := v1143
  let v1145 : Index := Scalar.indexCast v1144
  let c0_571 : Index := 0#32
  ![3, v1145.toNat, 0]
def k0_mult77 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_579 : BitVec 32 := 256#32
  let v1167 : BitVec 32 := Scalar.muli v862 c256_i32_579
  v1167
def k0_off77 (i : grid0.Coords) : Fin 3 → Nat :=
  let c4_580 : Index := 4#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_579 : BitVec 32 := 256#32
  let v1167 : BitVec 32 := Scalar.muli v862 c256_i32_579
  let v1168 : BitVec 32 := v1167
  let v1169 : Index := Scalar.indexCast v1168
  let c0_581 : Index := 0#32
  ![4, v1169.toNat, 0]
def k0_mult78 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_589 : BitVec 32 := 256#32
  let v1191 : BitVec 32 := Scalar.muli v862 c256_i32_589
  v1191
def k0_off78 (i : grid0.Coords) : Fin 3 → Nat :=
  let c5_590 : Index := 5#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_589 : BitVec 32 := 256#32
  let v1191 : BitVec 32 := Scalar.muli v862 c256_i32_589
  let v1192 : BitVec 32 := v1191
  let v1193 : Index := Scalar.indexCast v1192
  let c0_591 : Index := 0#32
  ![5, v1193.toNat, 0]
def k0_mult79 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_599 : BitVec 32 := 256#32
  let v1215 : BitVec 32 := Scalar.muli v862 c256_i32_599
  v1215
def k0_off79 (i : grid0.Coords) : Fin 3 → Nat :=
  let c6_600 : Index := 6#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_599 : BitVec 32 := 256#32
  let v1215 : BitVec 32 := Scalar.muli v862 c256_i32_599
  let v1216 : BitVec 32 := v1215
  let v1217 : Index := Scalar.indexCast v1216
  let c0_601 : Index := 0#32
  ![6, v1217.toNat, 0]
def k0_mult80 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_609 : BitVec 32 := 256#32
  let v1239 : BitVec 32 := Scalar.muli v862 c256_i32_609
  v1239
def k0_off80 (i : grid0.Coords) : Fin 3 → Nat :=
  let c7_610 : Index := 7#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_609 : BitVec 32 := 256#32
  let v1239 : BitVec 32 := Scalar.muli v862 c256_i32_609
  let v1240 : BitVec 32 := v1239
  let v1241 : Index := Scalar.indexCast v1240
  let c0_611 : Index := 0#32
  ![7, v1241.toNat, 0]
def k0_mult81 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_683 : BitVec 32 := 256#32
  let v1447 : BitVec 32 := Scalar.muli v860 c256_i32_683
  v1447
def k0_off81 (i : grid0.Coords) : Fin 3 → Nat :=
  let c0_684 : Index := 0#32
  let c0_685 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_683 : BitVec 32 := 256#32
  let v1447 : BitVec 32 := Scalar.muli v860 c256_i32_683
  let v1448 : BitVec 32 := v1447
  let v1449 : Index := Scalar.indexCast v1448
  ![0, 0, v1449.toNat]
def k0_mult82 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_691 : BitVec 32 := 256#32
  let v1456 : BitVec 32 := Scalar.muli v860 c256_i32_691
  v1456
def k0_off82 (i : grid0.Coords) : Fin 3 → Nat :=
  let c1_692 : Index := 1#32
  let c0_693 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_691 : BitVec 32 := 256#32
  let v1456 : BitVec 32 := Scalar.muli v860 c256_i32_691
  let v1457 : BitVec 32 := v1456
  let v1458 : Index := Scalar.indexCast v1457
  ![1, 0, v1458.toNat]
def k0_mult83 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_699 : BitVec 32 := 256#32
  let v1465 : BitVec 32 := Scalar.muli v860 c256_i32_699
  v1465
def k0_off83 (i : grid0.Coords) : Fin 3 → Nat :=
  let c2_700 : Index := 2#32
  let c0_701 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_699 : BitVec 32 := 256#32
  let v1465 : BitVec 32 := Scalar.muli v860 c256_i32_699
  let v1466 : BitVec 32 := v1465
  let v1467 : Index := Scalar.indexCast v1466
  ![2, 0, v1467.toNat]
def k0_mult84 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_707 : BitVec 32 := 256#32
  let v1474 : BitVec 32 := Scalar.muli v860 c256_i32_707
  v1474
def k0_off84 (i : grid0.Coords) : Fin 3 → Nat :=
  let c3_708 : Index := 3#32
  let c0_709 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_707 : BitVec 32 := 256#32
  let v1474 : BitVec 32 := Scalar.muli v860 c256_i32_707
  let v1475 : BitVec 32 := v1474
  let v1476 : Index := Scalar.indexCast v1475
  ![3, 0, v1476.toNat]
def k0_mult85 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_715 : BitVec 32 := 256#32
  let v1483 : BitVec 32 := Scalar.muli v860 c256_i32_715
  v1483
def k0_off85 (i : grid0.Coords) : Fin 3 → Nat :=
  let c4_716 : Index := 4#32
  let c0_717 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_715 : BitVec 32 := 256#32
  let v1483 : BitVec 32 := Scalar.muli v860 c256_i32_715
  let v1484 : BitVec 32 := v1483
  let v1485 : Index := Scalar.indexCast v1484
  ![4, 0, v1485.toNat]
def k0_mult86 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_723 : BitVec 32 := 256#32
  let v1492 : BitVec 32 := Scalar.muli v860 c256_i32_723
  v1492
def k0_off86 (i : grid0.Coords) : Fin 3 → Nat :=
  let c5_724 : Index := 5#32
  let c0_725 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_723 : BitVec 32 := 256#32
  let v1492 : BitVec 32 := Scalar.muli v860 c256_i32_723
  let v1493 : BitVec 32 := v1492
  let v1494 : Index := Scalar.indexCast v1493
  ![5, 0, v1494.toNat]
def k0_mult87 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_731 : BitVec 32 := 256#32
  let v1501 : BitVec 32 := Scalar.muli v860 c256_i32_731
  v1501
def k0_off87 (i : grid0.Coords) : Fin 3 → Nat :=
  let c6_732 : Index := 6#32
  let c0_733 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_731 : BitVec 32 := 256#32
  let v1501 : BitVec 32 := Scalar.muli v860 c256_i32_731
  let v1502 : BitVec 32 := v1501
  let v1503 : Index := Scalar.indexCast v1502
  ![6, 0, v1503.toNat]
def k0_mult88 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_739 : BitVec 32 := 256#32
  let v1510 : BitVec 32 := Scalar.muli v860 c256_i32_739
  v1510
def k0_off88 (i : grid0.Coords) : Fin 3 → Nat :=
  let c7_740 : Index := 7#32
  let c0_741 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c256_i32_739 : BitVec 32 := 256#32
  let v1510 : BitVec 32 := Scalar.muli v860 c256_i32_739
  let v1511 : BitVec 32 := v1510
  let v1512 : Index := Scalar.indexCast v1511
  ![7, 0, v1512.toNat]
def k0_mult89 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_748 : BitVec 32 := 256#32
  let v1520 : BitVec 32 := Scalar.muli v862 c256_i32_748
  v1520
def k0_off89 (i : grid0.Coords) : Fin 3 → Nat :=
  let c0_749 : Index := 0#32
  let c0_750 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_748 : BitVec 32 := 256#32
  let v1520 : BitVec 32 := Scalar.muli v862 c256_i32_748
  let v1521 : BitVec 32 := v1520
  let v1522 : Index := Scalar.indexCast v1521
  ![0, 0, v1522.toNat]
def k0_mult90 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_762 : BitVec 32 := 256#32
  let v1535 : BitVec 32 := Scalar.muli v862 c256_i32_762
  v1535
def k0_off90 (i : grid0.Coords) : Fin 3 → Nat :=
  let c1_763 : Index := 1#32
  let c0_764 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_762 : BitVec 32 := 256#32
  let v1535 : BitVec 32 := Scalar.muli v862 c256_i32_762
  let v1536 : BitVec 32 := v1535
  let v1537 : Index := Scalar.indexCast v1536
  ![1, 0, v1537.toNat]
def k0_mult91 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_776 : BitVec 32 := 256#32
  let v1550 : BitVec 32 := Scalar.muli v862 c256_i32_776
  v1550
def k0_off91 (i : grid0.Coords) : Fin 3 → Nat :=
  let c2_777 : Index := 2#32
  let c0_778 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_776 : BitVec 32 := 256#32
  let v1550 : BitVec 32 := Scalar.muli v862 c256_i32_776
  let v1551 : BitVec 32 := v1550
  let v1552 : Index := Scalar.indexCast v1551
  ![2, 0, v1552.toNat]
def k0_mult92 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_790 : BitVec 32 := 256#32
  let v1565 : BitVec 32 := Scalar.muli v862 c256_i32_790
  v1565
def k0_off92 (i : grid0.Coords) : Fin 3 → Nat :=
  let c3_791 : Index := 3#32
  let c0_792 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_790 : BitVec 32 := 256#32
  let v1565 : BitVec 32 := Scalar.muli v862 c256_i32_790
  let v1566 : BitVec 32 := v1565
  let v1567 : Index := Scalar.indexCast v1566
  ![3, 0, v1567.toNat]
def k0_mult93 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_804 : BitVec 32 := 256#32
  let v1580 : BitVec 32 := Scalar.muli v862 c256_i32_804
  v1580
def k0_off93 (i : grid0.Coords) : Fin 3 → Nat :=
  let c4_805 : Index := 4#32
  let c0_806 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_804 : BitVec 32 := 256#32
  let v1580 : BitVec 32 := Scalar.muli v862 c256_i32_804
  let v1581 : BitVec 32 := v1580
  let v1582 : Index := Scalar.indexCast v1581
  ![4, 0, v1582.toNat]
def k0_mult94 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_818 : BitVec 32 := 256#32
  let v1595 : BitVec 32 := Scalar.muli v862 c256_i32_818
  v1595
def k0_off94 (i : grid0.Coords) : Fin 3 → Nat :=
  let c5_819 : Index := 5#32
  let c0_820 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_818 : BitVec 32 := 256#32
  let v1595 : BitVec 32 := Scalar.muli v862 c256_i32_818
  let v1596 : BitVec 32 := v1595
  let v1597 : Index := Scalar.indexCast v1596
  ![5, 0, v1597.toNat]
def k0_mult95 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_832 : BitVec 32 := 256#32
  let v1610 : BitVec 32 := Scalar.muli v862 c256_i32_832
  v1610
def k0_off95 (i : grid0.Coords) : Fin 3 → Nat :=
  let c6_833 : Index := 6#32
  let c0_834 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_832 : BitVec 32 := 256#32
  let v1610 : BitVec 32 := Scalar.muli v862 c256_i32_832
  let v1611 : BitVec 32 := v1610
  let v1612 : Index := Scalar.indexCast v1611
  ![6, 0, v1612.toNat]
def k0_mult96 (i : grid0.Coords) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_846 : BitVec 32 := 256#32
  let v1625 : BitVec 32 := Scalar.muli v862 c256_i32_846
  v1625
def k0_off96 (i : grid0.Coords) : Fin 3 → Nat :=
  let c7_847 : Index := 7#32
  let c0_848 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_450 : BitVec 32 := 1#32
  let v861 : BitVec 32 := Scalar.subi v860 c1_i32_450
  let c0_i32_451 : BitVec 32 := 0#32
  let v862 : BitVec 32 := Scalar.maxsi v861 c0_i32_451
  let c256_i32_846 : BitVec 32 := 256#32
  let v1625 : BitVec 32 := Scalar.muli v862 c256_i32_846
  let v1626 : BitVec 32 := v1625
  let v1627 : Index := Scalar.indexCast v1626
  ![7, 0, v1627.toNat]
@[reducible] def k0_t3_loop (i : grid0.Coords) (v1678 : BitVec 1) : Scf.Loop 32 :=
  let c0_i32_870 : BitVec 32 := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_872 : BitVec 32 := 1#32
  ⟨c0_i32_870, v1685, c1_i32_872⟩

def k0_mult97 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_909 : BitVec 32 := 256#32
  let v1717 : BitVec 32 := Scalar.muli v1716 c256_i32_909
  v1717
def k0_off97 (i : grid0.Coords) (v1678 : BitVec 1) (k0_t3 : Fin (k0_t3_loop i v1678).trips) : Fin 3 → Nat :=
  let c0_910 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_909 : BitVec 32 := 256#32
  let v1717 : BitVec 32 := Scalar.muli v1716 c256_i32_909
  let v1718 : BitVec 32 := v1717
  let v1719 : Index := Scalar.indexCast v1718
  let c0_911 : Index := 0#32
  ![0, v1719.toNat, 0]
def k0_mult98 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_919 : BitVec 32 := 256#32
  let v1741 : BitVec 32 := Scalar.muli v1716 c256_i32_919
  v1741
def k0_off98 (i : grid0.Coords) (v1678 : BitVec 1) (k0_t3 : Fin (k0_t3_loop i v1678).trips) : Fin 3 → Nat :=
  let c1_920 : Index := 1#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_919 : BitVec 32 := 256#32
  let v1741 : BitVec 32 := Scalar.muli v1716 c256_i32_919
  let v1742 : BitVec 32 := v1741
  let v1743 : Index := Scalar.indexCast v1742
  let c0_921 : Index := 0#32
  ![1, v1743.toNat, 0]
def k0_mult99 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_929 : BitVec 32 := 256#32
  let v1765 : BitVec 32 := Scalar.muli v1716 c256_i32_929
  v1765
def k0_off99 (i : grid0.Coords) (v1678 : BitVec 1) (k0_t3 : Fin (k0_t3_loop i v1678).trips) : Fin 3 → Nat :=
  let c2_930 : Index := 2#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_929 : BitVec 32 := 256#32
  let v1765 : BitVec 32 := Scalar.muli v1716 c256_i32_929
  let v1766 : BitVec 32 := v1765
  let v1767 : Index := Scalar.indexCast v1766
  let c0_931 : Index := 0#32
  ![2, v1767.toNat, 0]
def k0_mult100 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_939 : BitVec 32 := 256#32
  let v1789 : BitVec 32 := Scalar.muli v1716 c256_i32_939
  v1789
def k0_off100 (i : grid0.Coords) (v1678 : BitVec 1) (k0_t3 : Fin (k0_t3_loop i v1678).trips) : Fin 3 → Nat :=
  let c3_940 : Index := 3#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_939 : BitVec 32 := 256#32
  let v1789 : BitVec 32 := Scalar.muli v1716 c256_i32_939
  let v1790 : BitVec 32 := v1789
  let v1791 : Index := Scalar.indexCast v1790
  let c0_941 : Index := 0#32
  ![3, v1791.toNat, 0]
def k0_mult101 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_949 : BitVec 32 := 256#32
  let v1813 : BitVec 32 := Scalar.muli v1716 c256_i32_949
  v1813
def k0_off101 (i : grid0.Coords) (v1678 : BitVec 1) (k0_t3 : Fin (k0_t3_loop i v1678).trips) : Fin 3 → Nat :=
  let c4_950 : Index := 4#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_949 : BitVec 32 := 256#32
  let v1813 : BitVec 32 := Scalar.muli v1716 c256_i32_949
  let v1814 : BitVec 32 := v1813
  let v1815 : Index := Scalar.indexCast v1814
  let c0_951 : Index := 0#32
  ![4, v1815.toNat, 0]
def k0_mult102 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_959 : BitVec 32 := 256#32
  let v1837 : BitVec 32 := Scalar.muli v1716 c256_i32_959
  v1837
def k0_off102 (i : grid0.Coords) (v1678 : BitVec 1) (k0_t3 : Fin (k0_t3_loop i v1678).trips) : Fin 3 → Nat :=
  let c5_960 : Index := 5#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_959 : BitVec 32 := 256#32
  let v1837 : BitVec 32 := Scalar.muli v1716 c256_i32_959
  let v1838 : BitVec 32 := v1837
  let v1839 : Index := Scalar.indexCast v1838
  let c0_961 : Index := 0#32
  ![5, v1839.toNat, 0]
def k0_mult103 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_969 : BitVec 32 := 256#32
  let v1861 : BitVec 32 := Scalar.muli v1716 c256_i32_969
  v1861
def k0_off103 (i : grid0.Coords) (v1678 : BitVec 1) (k0_t3 : Fin (k0_t3_loop i v1678).trips) : Fin 3 → Nat :=
  let c6_970 : Index := 6#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_969 : BitVec 32 := 256#32
  let v1861 : BitVec 32 := Scalar.muli v1716 c256_i32_969
  let v1862 : BitVec 32 := v1861
  let v1863 : Index := Scalar.indexCast v1862
  let c0_971 : Index := 0#32
  ![6, v1863.toNat, 0]
def k0_mult104 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_979 : BitVec 32 := 256#32
  let v1885 : BitVec 32 := Scalar.muli v1716 c256_i32_979
  v1885
def k0_off104 (i : grid0.Coords) (v1678 : BitVec 1) (k0_t3 : Fin (k0_t3_loop i v1678).trips) : Fin 3 → Nat :=
  let c7_980 : Index := 7#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_979 : BitVec 32 := 256#32
  let v1885 : BitVec 32 := Scalar.muli v1716 c256_i32_979
  let v1886 : BitVec 32 := v1885
  let v1887 : Index := Scalar.indexCast v1886
  let c0_981 : Index := 0#32
  ![7, v1887.toNat, 0]
def k0_mult105 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1013 : BitVec 32 := 256#32
  let v1989 : BitVec 32 := Scalar.muli v1716 c256_i32_1013
  v1989
def k0_off105 (i : grid0.Coords) (v1678 : BitVec 1) (k0_t3 : Fin (k0_t3_loop i v1678).trips) : Fin 3 → Nat :=
  let c0_1014 : Index := 0#32
  let c0_1015 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1013 : BitVec 32 := 256#32
  let v1989 : BitVec 32 := Scalar.muli v1716 c256_i32_1013
  let v1990 : BitVec 32 := v1989
  let v1991 : Index := Scalar.indexCast v1990
  ![0, 0, v1991.toNat]
def k0_mult106 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1025 : BitVec 32 := 256#32
  let v2001 : BitVec 32 := Scalar.muli v1716 c256_i32_1025
  v2001
def k0_off106 (i : grid0.Coords) (v1678 : BitVec 1) (k0_t3 : Fin (k0_t3_loop i v1678).trips) : Fin 3 → Nat :=
  let c1_1026 : Index := 1#32
  let c0_1027 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1025 : BitVec 32 := 256#32
  let v2001 : BitVec 32 := Scalar.muli v1716 c256_i32_1025
  let v2002 : BitVec 32 := v2001
  let v2003 : Index := Scalar.indexCast v2002
  ![1, 0, v2003.toNat]
def k0_mult107 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1037 : BitVec 32 := 256#32
  let v2013 : BitVec 32 := Scalar.muli v1716 c256_i32_1037
  v2013
def k0_off107 (i : grid0.Coords) (v1678 : BitVec 1) (k0_t3 : Fin (k0_t3_loop i v1678).trips) : Fin 3 → Nat :=
  let c2_1038 : Index := 2#32
  let c0_1039 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1037 : BitVec 32 := 256#32
  let v2013 : BitVec 32 := Scalar.muli v1716 c256_i32_1037
  let v2014 : BitVec 32 := v2013
  let v2015 : Index := Scalar.indexCast v2014
  ![2, 0, v2015.toNat]
def k0_mult108 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1049 : BitVec 32 := 256#32
  let v2025 : BitVec 32 := Scalar.muli v1716 c256_i32_1049
  v2025
def k0_off108 (i : grid0.Coords) (v1678 : BitVec 1) (k0_t3 : Fin (k0_t3_loop i v1678).trips) : Fin 3 → Nat :=
  let c3_1050 : Index := 3#32
  let c0_1051 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1049 : BitVec 32 := 256#32
  let v2025 : BitVec 32 := Scalar.muli v1716 c256_i32_1049
  let v2026 : BitVec 32 := v2025
  let v2027 : Index := Scalar.indexCast v2026
  ![3, 0, v2027.toNat]
def k0_mult109 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1061 : BitVec 32 := 256#32
  let v2037 : BitVec 32 := Scalar.muli v1716 c256_i32_1061
  v2037
def k0_off109 (i : grid0.Coords) (v1678 : BitVec 1) (k0_t3 : Fin (k0_t3_loop i v1678).trips) : Fin 3 → Nat :=
  let c4_1062 : Index := 4#32
  let c0_1063 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1061 : BitVec 32 := 256#32
  let v2037 : BitVec 32 := Scalar.muli v1716 c256_i32_1061
  let v2038 : BitVec 32 := v2037
  let v2039 : Index := Scalar.indexCast v2038
  ![4, 0, v2039.toNat]
def k0_mult110 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1073 : BitVec 32 := 256#32
  let v2049 : BitVec 32 := Scalar.muli v1716 c256_i32_1073
  v2049
def k0_off110 (i : grid0.Coords) (v1678 : BitVec 1) (k0_t3 : Fin (k0_t3_loop i v1678).trips) : Fin 3 → Nat :=
  let c5_1074 : Index := 5#32
  let c0_1075 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1073 : BitVec 32 := 256#32
  let v2049 : BitVec 32 := Scalar.muli v1716 c256_i32_1073
  let v2050 : BitVec 32 := v2049
  let v2051 : Index := Scalar.indexCast v2050
  ![5, 0, v2051.toNat]
def k0_mult111 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1085 : BitVec 32 := 256#32
  let v2061 : BitVec 32 := Scalar.muli v1716 c256_i32_1085
  v2061
def k0_off111 (i : grid0.Coords) (v1678 : BitVec 1) (k0_t3 : Fin (k0_t3_loop i v1678).trips) : Fin 3 → Nat :=
  let c6_1086 : Index := 6#32
  let c0_1087 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1085 : BitVec 32 := 256#32
  let v2061 : BitVec 32 := Scalar.muli v1716 c256_i32_1085
  let v2062 : BitVec 32 := v2061
  let v2063 : Index := Scalar.indexCast v2062
  ![6, 0, v2063.toNat]
def k0_mult112 (i : grid0.Coords) (v1678 : BitVec 1) (k0_t3 : Fin (k0_t3_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1097 : BitVec 32 := 256#32
  let v2073 : BitVec 32 := Scalar.muli v1716 c256_i32_1097
  v2073
def k0_off112 (i : grid0.Coords) (v1678 : BitVec 1) (k0_t3 : Fin (k0_t3_loop i v1678).trips) : Fin 3 → Nat :=
  let c7_1098 : Index := 7#32
  let c0_1099 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_872 : BitVec 32 := 1#32
  let arg9 : BitVec 32 := Scf.iv c0_i32_870 c1_i32_872 k0_t3
  let v1716 : BitVec 32 := Scalar.subi v1715 arg9
  let c256_i32_1097 : BitVec 32 := 256#32
  let v2073 : BitVec 32 := Scalar.muli v1716 c256_i32_1097
  let v2074 : BitVec 32 := v2073
  let v2075 : Index := Scalar.indexCast v2074
  ![7, 0, v2075.toNat]
@[reducible] def k0_t4_loop (i : grid0.Coords) (v1678 : BitVec 1) : Scf.Loop 32 :=
  let c0_i32_870 : BitVec 32 := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let v1682 : BitVec 32 := Scalar.addi c0_i32_870 v1681
  let c1_i32_873 : BitVec 32 := 1#32
  ⟨v1685, v1682, c1_i32_873⟩
def k0_mult113 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_909 : BitVec 32 := 256#32
  let v1717 : BitVec 32 := Scalar.muli v1716 c256_i32_909
  v1717
def k0_off113 (i : grid0.Coords) (v1678 : BitVec 1) (k0_t4 : Fin (k0_t4_loop i v1678).trips) : Fin 3 → Nat :=
  let c0_910 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_909 : BitVec 32 := 256#32
  let v1717 : BitVec 32 := Scalar.muli v1716 c256_i32_909
  let v1718 : BitVec 32 := v1717
  let v1719 : Index := Scalar.indexCast v1718
  let c0_911 : Index := 0#32
  ![0, v1719.toNat, 0]
def k0_mult114 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_919 : BitVec 32 := 256#32
  let v1741 : BitVec 32 := Scalar.muli v1716 c256_i32_919
  v1741
def k0_off114 (i : grid0.Coords) (v1678 : BitVec 1) (k0_t4 : Fin (k0_t4_loop i v1678).trips) : Fin 3 → Nat :=
  let c1_920 : Index := 1#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_919 : BitVec 32 := 256#32
  let v1741 : BitVec 32 := Scalar.muli v1716 c256_i32_919
  let v1742 : BitVec 32 := v1741
  let v1743 : Index := Scalar.indexCast v1742
  let c0_921 : Index := 0#32
  ![1, v1743.toNat, 0]
def k0_mult115 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_929 : BitVec 32 := 256#32
  let v1765 : BitVec 32 := Scalar.muli v1716 c256_i32_929
  v1765
def k0_off115 (i : grid0.Coords) (v1678 : BitVec 1) (k0_t4 : Fin (k0_t4_loop i v1678).trips) : Fin 3 → Nat :=
  let c2_930 : Index := 2#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_929 : BitVec 32 := 256#32
  let v1765 : BitVec 32 := Scalar.muli v1716 c256_i32_929
  let v1766 : BitVec 32 := v1765
  let v1767 : Index := Scalar.indexCast v1766
  let c0_931 : Index := 0#32
  ![2, v1767.toNat, 0]
def k0_mult116 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_939 : BitVec 32 := 256#32
  let v1789 : BitVec 32 := Scalar.muli v1716 c256_i32_939
  v1789
def k0_off116 (i : grid0.Coords) (v1678 : BitVec 1) (k0_t4 : Fin (k0_t4_loop i v1678).trips) : Fin 3 → Nat :=
  let c3_940 : Index := 3#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_939 : BitVec 32 := 256#32
  let v1789 : BitVec 32 := Scalar.muli v1716 c256_i32_939
  let v1790 : BitVec 32 := v1789
  let v1791 : Index := Scalar.indexCast v1790
  let c0_941 : Index := 0#32
  ![3, v1791.toNat, 0]
def k0_mult117 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_949 : BitVec 32 := 256#32
  let v1813 : BitVec 32 := Scalar.muli v1716 c256_i32_949
  v1813
def k0_off117 (i : grid0.Coords) (v1678 : BitVec 1) (k0_t4 : Fin (k0_t4_loop i v1678).trips) : Fin 3 → Nat :=
  let c4_950 : Index := 4#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_949 : BitVec 32 := 256#32
  let v1813 : BitVec 32 := Scalar.muli v1716 c256_i32_949
  let v1814 : BitVec 32 := v1813
  let v1815 : Index := Scalar.indexCast v1814
  let c0_951 : Index := 0#32
  ![4, v1815.toNat, 0]
def k0_mult118 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_959 : BitVec 32 := 256#32
  let v1837 : BitVec 32 := Scalar.muli v1716 c256_i32_959
  v1837
def k0_off118 (i : grid0.Coords) (v1678 : BitVec 1) (k0_t4 : Fin (k0_t4_loop i v1678).trips) : Fin 3 → Nat :=
  let c5_960 : Index := 5#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_959 : BitVec 32 := 256#32
  let v1837 : BitVec 32 := Scalar.muli v1716 c256_i32_959
  let v1838 : BitVec 32 := v1837
  let v1839 : Index := Scalar.indexCast v1838
  let c0_961 : Index := 0#32
  ![5, v1839.toNat, 0]
def k0_mult119 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_969 : BitVec 32 := 256#32
  let v1861 : BitVec 32 := Scalar.muli v1716 c256_i32_969
  v1861
def k0_off119 (i : grid0.Coords) (v1678 : BitVec 1) (k0_t4 : Fin (k0_t4_loop i v1678).trips) : Fin 3 → Nat :=
  let c6_970 : Index := 6#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_969 : BitVec 32 := 256#32
  let v1861 : BitVec 32 := Scalar.muli v1716 c256_i32_969
  let v1862 : BitVec 32 := v1861
  let v1863 : Index := Scalar.indexCast v1862
  let c0_971 : Index := 0#32
  ![6, v1863.toNat, 0]
def k0_mult120 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_979 : BitVec 32 := 256#32
  let v1885 : BitVec 32 := Scalar.muli v1716 c256_i32_979
  v1885
def k0_off120 (i : grid0.Coords) (v1678 : BitVec 1) (k0_t4 : Fin (k0_t4_loop i v1678).trips) : Fin 3 → Nat :=
  let c7_980 : Index := 7#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_979 : BitVec 32 := 256#32
  let v1885 : BitVec 32 := Scalar.muli v1716 c256_i32_979
  let v1886 : BitVec 32 := v1885
  let v1887 : Index := Scalar.indexCast v1886
  let c0_981 : Index := 0#32
  ![7, v1887.toNat, 0]
def k0_mult121 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1013 : BitVec 32 := 256#32
  let v1989 : BitVec 32 := Scalar.muli v1716 c256_i32_1013
  v1989
def k0_off121 (i : grid0.Coords) (v1678 : BitVec 1) (k0_t4 : Fin (k0_t4_loop i v1678).trips) : Fin 3 → Nat :=
  let c0_1014 : Index := 0#32
  let c0_1015 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1013 : BitVec 32 := 256#32
  let v1989 : BitVec 32 := Scalar.muli v1716 c256_i32_1013
  let v1990 : BitVec 32 := v1989
  let v1991 : Index := Scalar.indexCast v1990
  ![0, 0, v1991.toNat]
def k0_mult122 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1025 : BitVec 32 := 256#32
  let v2001 : BitVec 32 := Scalar.muli v1716 c256_i32_1025
  v2001
def k0_off122 (i : grid0.Coords) (v1678 : BitVec 1) (k0_t4 : Fin (k0_t4_loop i v1678).trips) : Fin 3 → Nat :=
  let c1_1026 : Index := 1#32
  let c0_1027 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1025 : BitVec 32 := 256#32
  let v2001 : BitVec 32 := Scalar.muli v1716 c256_i32_1025
  let v2002 : BitVec 32 := v2001
  let v2003 : Index := Scalar.indexCast v2002
  ![1, 0, v2003.toNat]
def k0_mult123 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1037 : BitVec 32 := 256#32
  let v2013 : BitVec 32 := Scalar.muli v1716 c256_i32_1037
  v2013
def k0_off123 (i : grid0.Coords) (v1678 : BitVec 1) (k0_t4 : Fin (k0_t4_loop i v1678).trips) : Fin 3 → Nat :=
  let c2_1038 : Index := 2#32
  let c0_1039 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1037 : BitVec 32 := 256#32
  let v2013 : BitVec 32 := Scalar.muli v1716 c256_i32_1037
  let v2014 : BitVec 32 := v2013
  let v2015 : Index := Scalar.indexCast v2014
  ![2, 0, v2015.toNat]
def k0_mult124 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1049 : BitVec 32 := 256#32
  let v2025 : BitVec 32 := Scalar.muli v1716 c256_i32_1049
  v2025
def k0_off124 (i : grid0.Coords) (v1678 : BitVec 1) (k0_t4 : Fin (k0_t4_loop i v1678).trips) : Fin 3 → Nat :=
  let c3_1050 : Index := 3#32
  let c0_1051 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1049 : BitVec 32 := 256#32
  let v2025 : BitVec 32 := Scalar.muli v1716 c256_i32_1049
  let v2026 : BitVec 32 := v2025
  let v2027 : Index := Scalar.indexCast v2026
  ![3, 0, v2027.toNat]
def k0_mult125 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1061 : BitVec 32 := 256#32
  let v2037 : BitVec 32 := Scalar.muli v1716 c256_i32_1061
  v2037
def k0_off125 (i : grid0.Coords) (v1678 : BitVec 1) (k0_t4 : Fin (k0_t4_loop i v1678).trips) : Fin 3 → Nat :=
  let c4_1062 : Index := 4#32
  let c0_1063 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1061 : BitVec 32 := 256#32
  let v2037 : BitVec 32 := Scalar.muli v1716 c256_i32_1061
  let v2038 : BitVec 32 := v2037
  let v2039 : Index := Scalar.indexCast v2038
  ![4, 0, v2039.toNat]
def k0_mult126 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1073 : BitVec 32 := 256#32
  let v2049 : BitVec 32 := Scalar.muli v1716 c256_i32_1073
  v2049
def k0_off126 (i : grid0.Coords) (v1678 : BitVec 1) (k0_t4 : Fin (k0_t4_loop i v1678).trips) : Fin 3 → Nat :=
  let c5_1074 : Index := 5#32
  let c0_1075 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1073 : BitVec 32 := 256#32
  let v2049 : BitVec 32 := Scalar.muli v1716 c256_i32_1073
  let v2050 : BitVec 32 := v2049
  let v2051 : Index := Scalar.indexCast v2050
  ![5, 0, v2051.toNat]
def k0_mult127 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1085 : BitVec 32 := 256#32
  let v2061 : BitVec 32 := Scalar.muli v1716 c256_i32_1085
  v2061
def k0_off127 (i : grid0.Coords) (v1678 : BitVec 1) (k0_t4 : Fin (k0_t4_loop i v1678).trips) : Fin 3 → Nat :=
  let c6_1086 : Index := 6#32
  let c0_1087 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1085 : BitVec 32 := 256#32
  let v2061 : BitVec 32 := Scalar.muli v1716 c256_i32_1085
  let v2062 : BitVec 32 := v2061
  let v2063 : Index := Scalar.indexCast v2062
  ![6, 0, v2063.toNat]
def k0_mult128 (i : grid0.Coords) (v1678 : BitVec 1) (k0_t4 : Fin (k0_t4_loop i v1678).trips) : BitVec 32 :=
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1097 : BitVec 32 := 256#32
  let v2073 : BitVec 32 := Scalar.muli v1716 c256_i32_1097
  v2073
def k0_off128 (i : grid0.Coords) (v1678 : BitVec 1) (k0_t4 : Fin (k0_t4_loop i v1678).trips) : Fin 3 → Nat :=
  let c7_1098 : Index := 7#32
  let c0_1099 : Index := 0#32
  let arg2 : BitVec 32 := BitVec.ofNat 32 (i 2).val
  let c2_i32_448 : BitVec 32 := 2#32
  let v859 : BitVec 32 := Scalar.muli arg2 c2_i32_448
  let c1_i32_449 : BitVec 32 := 1#32
  let v860 : BitVec 32 := Scalar.addi v859 c1_i32_449
  let c2_i32_908 : BitVec 32 := 2#32
  let v1715 : BitVec 32 := Scalar.subi v860 c2_i32_908
  let c0_i32_870 : BitVec 32 := 0#32
  let c1_i32_868 : BitVec 32 := 1#32
  let v1679 : BitVec 32 := Scalar.subi v860 c1_i32_868
  let c0_i32_869 : BitVec 32 := 0#32
  let v1680 : BitVec 32 := Scalar.select v1678 v1679 c0_i32_869
  let v1681 : BitVec 32 := Scalar.subi v1680 c0_i32_870
  let c1_i32_871 : BitVec 32 := 1#32
  let v1683 : BitVec 32 := Scalar.divsi v1681 c1_i32_871
  let v1684 : BitVec 32 := Scalar.muli v1683 c1_i32_871
  let v1685 : BitVec 32 := Scalar.addi c0_i32_870 v1684
  let c1_i32_873 : BitVec 32 := 1#32
  let arg9 : BitVec 32 := Scf.iv v1685 c1_i32_873 k0_t4
  let v1716 : BitVec 32 := Scalar.subi v1715 arg9
  let c256_i32_1097 : BitVec 32 := 256#32
  let v2073 : BitVec 32 := Scalar.muli v1716 c256_i32_1097
  let v2074 : BitVec 32 := v2073
  let v2075 : Index := Scalar.indexCast v2074
  ![7, 0, v2075.toNat]

def k0_chk2_0 (i : grid0.Coords) (v1678 : BitVec 1) : Prop :=
  ((k0_t3_loop i v1678).OK) ∧
  (∀ k0_t3 : Fin (k0_t3_loop i v1678).trips, 256 ∣ (k0_mult97 i v1678 k0_t3).toNat) ∧
  (∀ k0_t3 : Fin (k0_t3_loop i v1678).trips, ∀ a, (k0_off97 i v1678 k0_t3) a + S1x256x128.size a ≤ S8x4096x128.size a) ∧
  (∀ k0_t3 : Fin (k0_t3_loop i v1678).trips, 256 ∣ (k0_mult98 i v1678 k0_t3).toNat) ∧
  (∀ k0_t3 : Fin (k0_t3_loop i v1678).trips, ∀ a, (k0_off98 i v1678 k0_t3) a + S1x256x128.size a ≤ S8x4096x128.size a) ∧
  (∀ k0_t3 : Fin (k0_t3_loop i v1678).trips, 256 ∣ (k0_mult99 i v1678 k0_t3).toNat) ∧
  (∀ k0_t3 : Fin (k0_t3_loop i v1678).trips, ∀ a, (k0_off99 i v1678 k0_t3) a + S1x256x128.size a ≤ S8x4096x128.size a) ∧
  (∀ k0_t3 : Fin (k0_t3_loop i v1678).trips, 256 ∣ (k0_mult100 i v1678 k0_t3).toNat) ∧
  (∀ k0_t3 : Fin (k0_t3_loop i v1678).trips, ∀ a, (k0_off100 i v1678 k0_t3) a + S1x256x128.size a ≤ S8x4096x128.size a) ∧
  (∀ k0_t3 : Fin (k0_t3_loop i v1678).trips, 256 ∣ (k0_mult101 i v1678 k0_t3).toNat) ∧
  (∀ k0_t3 : Fin (k0_t3_loop i v1678).trips, ∀ a, (k0_off101 i v1678 k0_t3) a + S1x256x128.size a ≤ S8x4096x128.size a) ∧
  (∀ k0_t3 : Fin (k0_t3_loop i v1678).trips, 256 ∣ (k0_mult102 i v1678 k0_t3).toNat) ∧
  (∀ k0_t3 : Fin (k0_t3_loop i v1678).trips, ∀ a, (k0_off102 i v1678 k0_t3) a + S1x256x128.size a ≤ S8x4096x128.size a) ∧
  (∀ k0_t3 : Fin (k0_t3_loop i v1678).trips, 256 ∣ (k0_mult103 i v1678 k0_t3).toNat) ∧
  (∀ k0_t3 : Fin (k0_t3_loop i v1678).trips, ∀ a, (k0_off103 i v1678 k0_t3) a + S1x256x128.size a ≤ S8x4096x128.size a) ∧
  (∀ k0_t3 : Fin (k0_t3_loop i v1678).trips, 256 ∣ (k0_mult104 i v1678 k0_t3).toNat) ∧
  (∀ k0_t3 : Fin (k0_t3_loop i v1678).trips, ∀ a, (k0_off104 i v1678 k0_t3) a + S1x256x128.size a ≤ S8x4096x128.size a) ∧
  (∀ k0_t3 : Fin (k0_t3_loop i v1678).trips, 256 ∣ (k0_mult105 i v1678 k0_t3).toNat) ∧
  (∀ k0_t3 : Fin (k0_t3_loop i v1678).trips, ∀ a, (k0_off105 i v1678 k0_t3) a + S1x128x256.size a ≤ S8x128x4096.size a) ∧
  (∀ k0_t3 : Fin (k0_t3_loop i v1678).trips, 256 ∣ (k0_mult106 i v1678 k0_t3).toNat) ∧
  (∀ k0_t3 : Fin (k0_t3_loop i v1678).trips, ∀ a, (k0_off106 i v1678 k0_t3) a + S1x128x256.size a ≤ S8x128x4096.size a) ∧
  (∀ k0_t3 : Fin (k0_t3_loop i v1678).trips, 256 ∣ (k0_mult107 i v1678 k0_t3).toNat) ∧
  (∀ k0_t3 : Fin (k0_t3_loop i v1678).trips, ∀ a, (k0_off107 i v1678 k0_t3) a + S1x128x256.size a ≤ S8x128x4096.size a) ∧
  (∀ k0_t3 : Fin (k0_t3_loop i v1678).trips, 256 ∣ (k0_mult108 i v1678 k0_t3).toNat) ∧
  (∀ k0_t3 : Fin (k0_t3_loop i v1678).trips, ∀ a, (k0_off108 i v1678 k0_t3) a + S1x128x256.size a ≤ S8x128x4096.size a) ∧
  (∀ k0_t3 : Fin (k0_t3_loop i v1678).trips, 256 ∣ (k0_mult109 i v1678 k0_t3).toNat) ∧
  (∀ k0_t3 : Fin (k0_t3_loop i v1678).trips, ∀ a, (k0_off109 i v1678 k0_t3) a + S1x128x256.size a ≤ S8x128x4096.size a) ∧
  (∀ k0_t3 : Fin (k0_t3_loop i v1678).trips, 256 ∣ (k0_mult110 i v1678 k0_t3).toNat) ∧
  (∀ k0_t3 : Fin (k0_t3_loop i v1678).trips, ∀ a, (k0_off110 i v1678 k0_t3) a + S1x128x256.size a ≤ S8x128x4096.size a) ∧
  (∀ k0_t3 : Fin (k0_t3_loop i v1678).trips, 256 ∣ (k0_mult111 i v1678 k0_t3).toNat) ∧
  (∀ k0_t3 : Fin (k0_t3_loop i v1678).trips, ∀ a, (k0_off111 i v1678 k0_t3) a + S1x128x256.size a ≤ S8x128x4096.size a) ∧
  (∀ k0_t3 : Fin (k0_t3_loop i v1678).trips, 256 ∣ (k0_mult112 i v1678 k0_t3).toNat)
def k0_chk2_1 (i : grid0.Coords) (v1678 : BitVec 1) : Prop :=
  (∀ k0_t3 : Fin (k0_t3_loop i v1678).trips, ∀ a, (k0_off112 i v1678 k0_t3) a + S1x128x256.size a ≤ S8x128x4096.size a) ∧
  ((k0_t4_loop i v1678).OK) ∧
  (∀ k0_t4 : Fin (k0_t4_loop i v1678).trips, 256 ∣ (k0_mult113 i v1678 k0_t4).toNat) ∧
  (∀ k0_t4 : Fin (k0_t4_loop i v1678).trips, ∀ a, (k0_off113 i v1678 k0_t4) a + S1x256x128.size a ≤ S8x4096x128.size a) ∧
  (∀ k0_t4 : Fin (k0_t4_loop i v1678).trips, 256 ∣ (k0_mult114 i v1678 k0_t4).toNat) ∧
  (∀ k0_t4 : Fin (k0_t4_loop i v1678).trips, ∀ a, (k0_off114 i v1678 k0_t4) a + S1x256x128.size a ≤ S8x4096x128.size a) ∧
  (∀ k0_t4 : Fin (k0_t4_loop i v1678).trips, 256 ∣ (k0_mult115 i v1678 k0_t4).toNat) ∧
  (∀ k0_t4 : Fin (k0_t4_loop i v1678).trips, ∀ a, (k0_off115 i v1678 k0_t4) a + S1x256x128.size a ≤ S8x4096x128.size a) ∧
  (∀ k0_t4 : Fin (k0_t4_loop i v1678).trips, 256 ∣ (k0_mult116 i v1678 k0_t4).toNat) ∧
  (∀ k0_t4 : Fin (k0_t4_loop i v1678).trips, ∀ a, (k0_off116 i v1678 k0_t4) a + S1x256x128.size a ≤ S8x4096x128.size a) ∧
  (∀ k0_t4 : Fin (k0_t4_loop i v1678).trips, 256 ∣ (k0_mult117 i v1678 k0_t4).toNat) ∧
  (∀ k0_t4 : Fin (k0_t4_loop i v1678).trips, ∀ a, (k0_off117 i v1678 k0_t4) a + S1x256x128.size a ≤ S8x4096x128.size a) ∧
  (∀ k0_t4 : Fin (k0_t4_loop i v1678).trips, 256 ∣ (k0_mult118 i v1678 k0_t4).toNat) ∧
  (∀ k0_t4 : Fin (k0_t4_loop i v1678).trips, ∀ a, (k0_off118 i v1678 k0_t4) a + S1x256x128.size a ≤ S8x4096x128.size a) ∧
  (∀ k0_t4 : Fin (k0_t4_loop i v1678).trips, 256 ∣ (k0_mult119 i v1678 k0_t4).toNat) ∧
  (∀ k0_t4 : Fin (k0_t4_loop i v1678).trips, ∀ a, (k0_off119 i v1678 k0_t4) a + S1x256x128.size a ≤ S8x4096x128.size a) ∧
  (∀ k0_t4 : Fin (k0_t4_loop i v1678).trips, 256 ∣ (k0_mult120 i v1678 k0_t4).toNat) ∧
  (∀ k0_t4 : Fin (k0_t4_loop i v1678).trips, ∀ a, (k0_off120 i v1678 k0_t4) a + S1x256x128.size a ≤ S8x4096x128.size a) ∧
  (∀ k0_t4 : Fin (k0_t4_loop i v1678).trips, 256 ∣ (k0_mult121 i v1678 k0_t4).toNat) ∧
  (∀ k0_t4 : Fin (k0_t4_loop i v1678).trips, ∀ a, (k0_off121 i v1678 k0_t4) a + S1x128x256.size a ≤ S8x128x4096.size a) ∧
  (∀ k0_t4 : Fin (k0_t4_loop i v1678).trips, 256 ∣ (k0_mult122 i v1678 k0_t4).toNat) ∧
  (∀ k0_t4 : Fin (k0_t4_loop i v1678).trips, ∀ a, (k0_off122 i v1678 k0_t4) a + S1x128x256.size a ≤ S8x128x4096.size a) ∧
  (∀ k0_t4 : Fin (k0_t4_loop i v1678).trips, 256 ∣ (k0_mult123 i v1678 k0_t4).toNat) ∧
  (∀ k0_t4 : Fin (k0_t4_loop i v1678).trips, ∀ a, (k0_off123 i v1678 k0_t4) a + S1x128x256.size a ≤ S8x128x4096.size a) ∧
  (∀ k0_t4 : Fin (k0_t4_loop i v1678).trips, 256 ∣ (k0_mult124 i v1678 k0_t4).toNat) ∧
  (∀ k0_t4 : Fin (k0_t4_loop i v1678).trips, ∀ a, (k0_off124 i v1678 k0_t4) a + S1x128x256.size a ≤ S8x128x4096.size a) ∧
  (∀ k0_t4 : Fin (k0_t4_loop i v1678).trips, 256 ∣ (k0_mult125 i v1678 k0_t4).toNat) ∧
  (∀ k0_t4 : Fin (k0_t4_loop i v1678).trips, ∀ a, (k0_off125 i v1678 k0_t4) a + S1x128x256.size a ≤ S8x128x4096.size a) ∧
  (∀ k0_t4 : Fin (k0_t4_loop i v1678).trips, 256 ∣ (k0_mult126 i v1678 k0_t4).toNat) ∧
  (∀ k0_t4 : Fin (k0_t4_loop i v1678).trips, ∀ a, (k0_off126 i v1678 k0_t4) a + S1x128x256.size a ≤ S8x128x4096.size a) ∧
  (∀ k0_t4 : Fin (k0_t4_loop i v1678).trips, 256 ∣ (k0_mult127 i v1678 k0_t4).toNat) ∧
  (∀ k0_t4 : Fin (k0_t4_loop i v1678).trips, ∀ a, (k0_off127 i v1678 k0_t4) a + S1x128x256.size a ≤ S8x128x4096.size a)
def k0_chk2_2 (i : grid0.Coords) (v1678 : BitVec 1) : Prop :=
  (∀ k0_t4 : Fin (k0_t4_loop i v1678).trips, 256 ∣ (k0_mult128 i v1678 k0_t4).toNat) ∧
  (∀ k0_t4 : Fin (k0_t4_loop i v1678).trips, ∀ a, (k0_off128 i v1678 k0_t4) a + S1x128x256.size a ≤ S8x128x4096.size a)
def k0_chk2 (i : grid0.Coords) (v1678 : BitVec 1) : Prop :=
  k0_chk2_0 i v1678 ∧
  k0_chk2_1 i v1678 ∧
  k0_chk2_2 i v1678
theorem k0_t3_ok : ∀ (i : grid0.Coords) (v1678 : BitVec 1) (k0_hw2 : k0_chk2 i v1678), (k0_t3_loop i v1678).OK := fun i v1678 k0_hw2 => k0_hw2.1.1
theorem k0_mult97_dvd : ∀ (i : grid0.Coords) (v1678 : BitVec 1) (k0_hw2 : k0_chk2 i v1678) (k0_t3 : Fin (k0_t3_loop i v1678).trips), 256 ∣ (k0_mult97 i v1678 k0_t3).toNat := fun i v1678 k0_hw2 k0_t3 => k0_hw2.1.2.1 k0_t3
theorem k0_off97_inb : ∀ (i : grid0.Coords) (v1678 : BitVec 1) (k0_hw2 : k0_chk2 i v1678) (k0_t3 : Fin (k0_t3_loop i v1678).trips), ∀ a, (k0_off97 i v1678 k0_t3) a + S1x256x128.size a ≤ S8x4096x128.size a := fun i v1678 k0_hw2 k0_t3 => k0_hw2.1.2.2.1 k0_t3
theorem k0_mult98_dvd : ∀ (i : grid0.Coords) (v1678 : BitVec 1) (k0_hw2 : k0_chk2 i v1678) (k0_t3 : Fin (k0_t3_loop i v1678).trips), 256 ∣ (k0_mult98 i v1678 k0_t3).toNat := fun i v1678 k0_hw2 k0_t3 => k0_hw2.1.2.2.2.1 k0_t3
theorem k0_off98_inb : ∀ (i : grid0.Coords) (v1678 : BitVec 1) (k0_hw2 : k0_chk2 i v1678) (k0_t3 : Fin (k0_t3_loop i v1678).trips), ∀ a, (k0_off98 i v1678 k0_t3) a + S1x256x128.size a ≤ S8x4096x128.size a := fun i v1678 k0_hw2 k0_t3 => k0_hw2.1.2.2.2.2.1 k0_t3
theorem k0_mult99_dvd : ∀ (i : grid0.Coords) (v1678 : BitVec 1) (k0_hw2 : k0_chk2 i v1678) (k0_t3 : Fin (k0_t3_loop i v1678).trips), 256 ∣ (k0_mult99 i v1678 k0_t3).toNat := fun i v1678 k0_hw2 k0_t3 => k0_hw2.1.2.2.2.2.2.1 k0_t3
theorem k0_off99_inb : ∀ (i : grid0.Coords) (v1678 : BitVec 1) (k0_hw2 : k0_chk2 i v1678) (k0_t3 : Fin (k0_t3_loop i v1678).trips), ∀ a, (k0_off99 i v1678 k0_t3) a + S1x256x128.size a ≤ S8x4096x128.size a := fun i v1678 k0_hw2 k0_t3 => k0_hw2.1.2.2.2.2.2.2.1 k0_t3
theorem k0_mult100_dvd : ∀ (i : grid0.Coords) (v1678 : BitVec 1) (k0_hw2 : k0_chk2 i v1678) (k0_t3 : Fin (k0_t3_loop i v1678).trips), 256 ∣ (k0_mult100 i v1678 k0_t3).toNat := fun i v1678 k0_hw2 k0_t3 => k0_hw2.1.2.2.2.2.2.2.2.1 k0_t3
theorem k0_off100_inb : ∀ (i : grid0.Coords) (v1678 : BitVec 1) (k0_hw2 : k0_chk2 i v1678) (k0_t3 : Fin (k0_t3_loop i v1678).trips), ∀ a, (k0_off100 i v1678 k0_t3) a + S1x256x128.size a ≤ S8x4096x128.size a := fun i v1678 k0_hw2 k0_t3 => k0_hw2.1.2.2.2.2.2.2.2.2.1 k0_t3
theorem k0_mult101_dvd : ∀ (i : grid0.Coords) (v1678 : BitVec 1) (k0_hw2 : k0_chk2 i v1678) (k0_t3 : Fin (k0_t3_loop i v1678).trips), 256 ∣ (k0_mult101 i v1678 k0_t3).toNat := fun i v1678 k0_hw2 k0_t3 => k0_hw2.1.2.2.2.2.2.2.2.2.2.1 k0_t3
theorem k0_off101_inb : ∀ (i : grid0.Coords) (v1678 : BitVec 1) (k0_hw2 : k0_chk2 i v1678) (k0_t3 : Fin (k0_t3_loop i v1678).trips), ∀ a, (k0_off101 i v1678 k0_t3) a + S1x256x128.size a ≤ S8x4096x128.size a := fun i v1678 k0_hw2 k0_t3 => k0_hw2.1.2.2.2.2.2.2.2.2.2.2.1 k0_t3
theorem k0_mult102_dvd : ∀ (i : grid0.Coords) (v1678 : BitVec 1) (k0_hw2 : k0_chk2 i v1678) (k0_t3 : Fin (k0_t3_loop i v1678).trips), 256 ∣ (k0_mult102 i v1678 k0_t3).toNat := fun i v1678 k0_hw2 k0_t3 => k0_hw2.1.2.2.2.2.2.2.2.2.2.2.2.1 k0_t3
theorem k0_off102_inb : ∀ (i : grid0.Coords) (v1678 : BitVec 1) (k0_hw2 : k0_chk2 i v1678) (k0_t3 : Fin (k0_t3_loop i v1678).trips), ∀ a, (k0_off102 i v1678 k0_t3) a + S1x256x128.size a ≤ S8x4096x128.size a := fun i v1678 k0_hw2 k0_t3 => k0_hw2.1.2.2.2.2.2.2.2.2.2.2.2.2.1 k0_t3
theorem k0_mult103_dvd : ∀ (i : grid0.Coords) (v1678 : BitVec 1) (k0_hw2 : k0_chk2 i v1678) (k0_t3 : Fin (k0_t3_loop i v1678).trips), 256 ∣ (k0_mult103 i v1678 k0_t3).toNat := fun i v1678 k0_hw2 k0_t3 => k0_hw2.1.2.2.2.2.2.2.2.2.2.2.2.2.2.1 k0_t3
theorem k0_off103_inb : ∀ (i : grid0.Coords) (v1678 : BitVec 1) (k0_hw2 : k0_chk2 i v1678) (k0_t3 : Fin (k0_t3_loop i v1678).trips), ∀ a, (k0_off103 i v1678 k0_t3) a + S1x256x128.size a ≤ S8x4096x128.size a := fun i v1678 k0_hw2 k0_t3 => k0_hw2.1.2.2.2.2.2.2.2.2.2.2.2.2.2.2.1 k0_t3
theorem k0_mult104_dvd : ∀ (i : grid0.Coords) (v1678 : BitVec 1) (k0_hw2 : k0_chk2 i v1678) (k0_t3 : Fin (k0_t3_loop i v1678).trips), 256 ∣ (k0_mult104 i v1678 k0_t3).toNat := fun i v1678 k0_hw2 k0_t3 => k0_hw2.1.2.2.2.2.2.2.2.2.2.2.2.2.2.2.2.1 k0_t3
theorem k0_off104_inb : ∀ (i : grid0.Coords) (v1678 : BitVec 1) (k0_hw2 : k0_chk2 i v1678) (k0_t3 : Fin (k0_t3_loop i v1678).trips), ∀ a, (k0_off104 i v1678 k0_t3) a + S1x256x128.size a ≤ S8x4096x128.size a := fun i v1678 k0_hw2 k0_t3 => k0_hw2.1.2.2.2.2.2.2.2.2.2.2.2.2.2.2.2.2.1 k0_t3
theorem k0_mult105_dvd : ∀ (i : grid0.Coords) (v1678 : BitVec 1) (k0_hw2 : k0_chk2 i v1678) (k0_t3 : Fin (k0_t3_loop i v1678).trips), 256 ∣ (k0_mult105 i v1678 k0_t3).toNat := fun i v1678 k0_hw2 k0_t3 => k0_hw2.1.2.2.2.2.2.2.2.2.2.2.2.2.2.2.2.2.2.1 k0_t3
theorem k0_off105_inb : ∀ (i : grid0.Coords) (v1678 : BitVec 1) (k0_hw2 : k0_chk2 i v1678) (k0_t3 : Fin (k0_t3_loop i v1678).trips), ∀ a, (k0_off105 i v1678 k0_t3) a + S1x128x256.size a ≤ S8x128x4096.size a := fun i v1678 k0_hw2 k0_t3 => k0_hw2.1.2.2.2.2.2.2.2.2.2.2.2.2.2.2.2.2.2.2.1 k0_t3
theorem k0_mult106_dvd : ∀ (i : grid0.Coords) (v1678 : BitVec 1) (k0_hw2 : k0_chk2 i v1678) (k0_t3 : Fin (k0_t3_loop i v1678).trips), 256 ∣ (k0_mult106 i v1678 k0_t3).toNat := fun i v1678 k0_hw2 k0_t3 => k0_hw2.1.2.2.2.2.2.2.2.2.2.2.2.2.2.2.2.2.2.2.2.1 k0_t3
theorem k0_off106_inb : ∀ (i : grid0.Coords) (v1678 : BitVec 1) (k0_hw2 : k0_chk2 i v1678) (k0_t3 : Fin (k0_t3_loop i v1678).trips), ∀ a, (k0_off106 i v1678 k0_t3) a + S1x128x256.size a ≤ S8x128x4096.size a := fun i v1678 k0_hw2 k0_t3 => k0_hw2.1.2.2.2.2.2.2.2.2.2.2.2.2.2.2.2.2.2.2.2.2.1 k0_t3
theorem k0_mult107_dvd : ∀ (i : grid0.Coords) (v1678 : BitVec 1) (k0_hw2 : k0_chk2 i v1678) (k0_t3 : Fin (k0_t3_loop i v1678).trips), 256 ∣ (k0_mult107 i v1678 k0_t3).toNat := fun i v1678 k0_hw2 k0_t3 => k0_hw2.1.2.2.2.2.2.2.2.2.2.2.2.2.2.2.2.2.2.2.2.2.2.1 k0_t3
theorem k0_off107_inb : ∀ (i : grid0.Coords) (v1678 : BitVec 1) (k0_hw2 : k0_chk2 i v1678) (k0_t3 : Fin (k0_t3_loop i v1678).trips), ∀ a, (k0_off107 i v1678 k0_t3) a + S1x128x256.size a ≤ S8x128x4096.size a := fun i v1678 k0_hw2 k0_t3 => k0_hw2.1.2.2.2.2.2.2.2.2.2.2.2.2.2.2.2.2.2.2.2.2.2.2.1 k0_t3
theorem k0_mult108_dvd : ∀ (i : grid0.Coords) (v1678 : BitVec 1) (k0_hw2 : k0_chk2 i v1678) (k0_t3 : Fin (k0_t3_loop i v1678).trips), 256 ∣ (k0_mult108 i v1678 k0_t3).toNat := fun i v1678 k0_hw2 k0_t3 => k0_hw2.1.2.2.2.2.2.2.2.2.2.2.2.2.2.2.2.2.2.2.2.2.2.2.2.1 k0_t3
theorem k0_off108_inb : ∀ (i : grid0.Coords) (v1678 : BitVec 1) (k0_hw2 : k0_chk2 i v1678) (k0_t3 : Fin (k0_t3_loop i v1678).trips), ∀ a, (k0_off108 i v1678 k0_t3) a + S1x128x256.size a ≤ S8x128x4096.size a := fun i v1678 k0_hw2 k0_t3 => k0_hw2.1.2.2.2.2.2.2.2.2.2.2.2.2.2.2.2.2.2.2.2.2.2.2.2.2.1 k0_t3
theorem k0_mult109_dvd : ∀ (i : grid0.Coords) (v1678 : BitVec 1) (k0_hw2 : k0_chk2 i v1678) (k0_t3 : Fin (k0_t3_loop i v1678).trips), 256 ∣ (k0_mult109 i v1678 k0_t3).toNat := fun i v1678 k0_hw2 k0_t3 => k0_hw2.1.2.2.2.2.2.2.2.2.2.2.2.2.2.2.2.2.2.2.2.2.2.2.2.2.2.1 k0_t3
theorem k0_off109_inb : ∀ (i : grid0.Coords) (v1678 : BitVec 1) (k0_hw2 : k0_chk2 i v1678) (k0_t3 : Fin (k0_t3_loop i v1678).trips), ∀ a, (k0_off109 i v1678 k0_t3) a + S1x128x256.size a ≤ S8x128x4096.size a := fun i v1678 k0_hw2 k0_t3 => k0_hw2.1.2.2.2.2.2.2.2.2.2.2.2.2.2.2.2.2.2.2.2.2.2.2.2.2.2.2.1 k0_t3
theorem k0_mult110_dvd : ∀ (i : grid0.Coords) (v1678 : BitVec 1) (k0_hw2 : k0_chk2 i v1678) (k0_t3 : Fin (k0_t3_loop i v1678).trips), 256 ∣ (k0_mult110 i v1678 k0_t3).toNat := fun i v1678 k0_hw2 k0_t3 => k0_hw2.1.2.2.2.2.2.2.2.2.2.2.2.2.2.2.2.2.2.2.2.2.2.2.2.2.2.2.2.1 k0_t3
theorem k0_off110_inb : ∀ (i : grid0.Coords) (v1678 : BitVec 1) (k0_hw2 : k0_chk2 i v1678) (k0_t3 : Fin (k0_t3_loop i v1678).trips), ∀ a, (k0_off110 i v1678 k0_t3) a + S1x128x256.size a ≤ S8x128x4096.size a := fun i v1678 k0_hw2 k0_t3 => k0_hw2.1.2.2.2.2.2.2.2.2.2.2.2.2.2.2.2.2.2.2.2.2.2.2.2.2.2.2.2.2.1 k0_t3
theorem k0_mult111_dvd : ∀ (i : grid0.Coords) (v1678 : BitVec 1) (k0_hw2 : k0_chk2 i v1678) (k0_t3 : Fin (k0_t3_loop i v1678).trips), 256 ∣ (k0_mult111 i v1678 k0_t3).toNat := fun i v1678 k0_hw2 k0_t3 => k0_hw2.1.2.2.2.2.2.2.2.2.2.2.2.2.2.2.2.2.2.2.2.2.2.2.2.2.2.2.2.2.2.1 k0_t3
theorem k0_off111_inb : ∀ (i : grid0.Coords) (v1678 : BitVec 1) (k0_hw2 : k0_chk2 i v1678) (k0_t3 : Fin (k0_t3_loop i v1678).trips), ∀ a, (k0_off111 i v1678 k0_t3) a + S1x128x256.size a ≤ S8x128x4096.size a := fun i v1678 k0_hw2 k0_t3 => k0_hw2.1.2.2.2.2.2.2.2.2.2.2.2.2.2.2.2.2.2.2.2.2.2.2.2.2.2.2.2.2.2.2.1 k0_t3
theorem k0_mult112_dvd : ∀ (i : grid0.Coords) (v1678 : BitVec 1) (k0_hw2 : k0_chk2 i v1678) (k0_t3 : Fin (k0_t3_loop i v1678).trips), 256 ∣ (k0_mult112 i v1678 k0_t3).toNat := fun i v1678 k0_hw2 k0_t3 => k0_hw2.1.2.2.2.2.2.2.2.2.2.2.2.2.2.2.2.2.2.2.2.2.2.2.2.2.2.2.2.2.2.2.2 k0_t3
theorem k0_off112_inb : ∀ (i : grid0.Coords) (v1678 : BitVec 1) (k0_hw2 : k0_chk2 i v1678) (k0_t3 : Fin (k0_t3_loop i v1678).trips), ∀ a, (k0_off112 i v1678 k0_t3) a + S1x128x256.size a ≤ S8x128x4096.size a := fun i v1678 k0_hw2 k0_t3 => k0_hw2.2.1.1 k0_t3
theorem k0_t4_ok : ∀ (i : grid0.Coords) (v1678 : BitVec 1) (k0_hw2 : k0_chk2 i v1678), (k0_t4_loop i v1678).OK := fun i v1678 k0_hw2 => k0_hw2.2.1.2.1
theorem k0_mult113_dvd : ∀ (i : grid0.Coords) (v1678 : BitVec 1) (k0_hw2 : k0_chk2 i v1678) (k0_t4 : Fin (k0_t4_loop i v1678).trips), 256 ∣ (k0_mult113 i v1678 k0_t4).toNat := fun i v1678 k0_hw2 k0_t4 => k0_hw2.2.1.2.2.1 k0_t4
theorem k0_off113_inb : ∀ (i : grid0.Coords) (v1678 : BitVec 1) (k0_hw2 : k0_chk2 i v1678) (k0_t4 : Fin (k0_t4_loop i v1678).trips), ∀ a, (k0_off113 i v1678 k0_t4) a + S1x256x128.size a ≤ S8x4096x128.size a := fun i v1678 k0_hw2 k0_t4 => k0_hw2.2.1.2.2.2.1 k0_t4
theorem k0_mult114_dvd : ∀ (i : grid0.Coords) (v1678 : BitVec 1) (k0_hw2 : k0_chk2 i v1678) (k0_t4 : Fin (k0_t4_loop i v1678).trips), 256 ∣ (k0_mult114 i v1678 k0_t4).toNat := fun i v1678 k0_hw2 k0_t4 => k0_hw2.2.1.2.2.2.2.1 k0_t4
theorem k0_off114_inb : ∀ (i : grid0.Coords) (v1678 : BitVec 1) (k0_hw2 : k0_chk2 i v1678) (k0_t4 : Fin (k0_t4_loop i v1678).trips), ∀ a, (k0_off114 i v1678 k0_t4) a + S1x256x128.size a ≤ S8x4096x128.size a := fun i v1678 k0_hw2 k0_t4 => k0_hw2.2.1.2.2.2.2.2.1 k0_t4
theorem k0_mult115_dvd : ∀ (i : grid0.Coords) (v1678 : BitVec 1) (k0_hw2 : k0_chk2 i v1678) (k0_t4 : Fin (k0_t4_loop i v1678).trips), 256 ∣ (k0_mult115 i v1678 k0_t4).toNat := fun i v1678 k0_hw2 k0_t4 => k0_hw2.2.1.2.2.2.2.2.2.1 k0_t4
theorem k0_off115_inb : ∀ (i : grid0.Coords) (v1678 : BitVec 1) (k0_hw2 : k0_chk2 i v1678) (k0_t4 : Fin (k0_t4_loop i v1678).trips), ∀ a, (k0_off115 i v1678 k0_t4) a + S1x256x128.size a ≤ S8x4096x128.size a := fun i v1678 k0_hw2 k0_t4 => k0_hw2.2.1.2.2.2.2.2.2.2.1 k0_t4
theorem k0_mult116_dvd : ∀ (i : grid0.Coords) (v1678 : BitVec 1) (k0_hw2 : k0_chk2 i v1678) (k0_t4 : Fin (k0_t4_loop i v1678).trips), 256 ∣ (k0_mult116 i v1678 k0_t4).toNat := fun i v1678 k0_hw2 k0_t4 => k0_hw2.2.1.2.2.2.2.2.2.2.2.1 k0_t4
theorem k0_off116_inb : ∀ (i : grid0.Coords) (v1678 : BitVec 1) (k0_hw2 : k0_chk2 i v1678) (k0_t4 : Fin (k0_t4_loop i v1678).trips), ∀ a, (k0_off116 i v1678 k0_t4) a + S1x256x128.size a ≤ S8x4096x128.size a := fun i v1678 k0_hw2 k0_t4 => k0_hw2.2.1.2.2.2.2.2.2.2.2.2.1 k0_t4
theorem k0_mult117_dvd : ∀ (i : grid0.Coords) (v1678 : BitVec 1) (k0_hw2 : k0_chk2 i v1678) (k0_t4 : Fin (k0_t4_loop i v1678).trips), 256 ∣ (k0_mult117 i v1678 k0_t4).toNat := fun i v1678 k0_hw2 k0_t4 => k0_hw2.2.1.2.2.2.2.2.2.2.2.2.2.1 k0_t4
theorem k0_off117_inb : ∀ (i : grid0.Coords) (v1678 : BitVec 1) (k0_hw2 : k0_chk2 i v1678) (k0_t4 : Fin (k0_t4_loop i v1678).trips), ∀ a, (k0_off117 i v1678 k0_t4) a + S1x256x128.size a ≤ S8x4096x128.size a := fun i v1678 k0_hw2 k0_t4 => k0_hw2.2.1.2.2.2.2.2.2.2.2.2.2.2.1 k0_t4
theorem k0_mult118_dvd : ∀ (i : grid0.Coords) (v1678 : BitVec 1) (k0_hw2 : k0_chk2 i v1678) (k0_t4 : Fin (k0_t4_loop i v1678).trips), 256 ∣ (k0_mult118 i v1678 k0_t4).toNat := fun i v1678 k0_hw2 k0_t4 => k0_hw2.2.1.2.2.2.2.2.2.2.2.2.2.2.2.1 k0_t4
theorem k0_off118_inb : ∀ (i : grid0.Coords) (v1678 : BitVec 1) (k0_hw2 : k0_chk2 i v1678) (k0_t4 : Fin (k0_t4_loop i v1678).trips), ∀ a, (k0_off118 i v1678 k0_t4) a + S1x256x128.size a ≤ S8x4096x128.size a := fun i v1678 k0_hw2 k0_t4 => k0_hw2.2.1.2.2.2.2.2.2.2.2.2.2.2.2.2.1 k0_t4
theorem k0_mult119_dvd : ∀ (i : grid0.Coords) (v1678 : BitVec 1) (k0_hw2 : k0_chk2 i v1678) (k0_t4 : Fin (k0_t4_loop i v1678).trips), 256 ∣ (k0_mult119 i v1678 k0_t4).toNat := fun i v1678 k0_hw2 k0_t4 => k0_hw2.2.1.2.2.2.2.2.2.2.2.2.2.2.2.2.2.1 k0_t4
theorem k0_off119_inb : ∀ (i : grid0.Coords) (v1678 : BitVec 1) (k0_hw2 : k0_chk2 i v1678) (k0_t4 : Fin (k0_t4_loop i v1678).trips), ∀ a, (k0_off119 i v1678 k0_t4) a + S1x256x128.size a ≤ S8x4096x128.size a := fun i v1678 k0_hw2 k0_t4 => k0_hw2.2.1.2.2.2.2.2.2.2.2.2.2.2.2.2.2.2.1 k0_t4
theorem k0_mult120_dvd : ∀ (i : grid0.Coords) (v1678 : BitVec 1) (k0_hw2 : k0_chk2 i v1678) (k0_t4 : Fin (k0_t4_loop i v1678).trips), 256 ∣ (k0_mult120 i v1678 k0_t4).toNat := fun i v1678 k0_hw2 k0_t4 => k0_hw2.2.1.2.2.2.2.2.2.2.2.2.2.2.2.2.2.2.2.1 k0_t4
theorem k0_off120_inb : ∀ (i : grid0.Coords) (v1678 : BitVec 1) (k0_hw2 : k0_chk2 i v1678) (k0_t4 : Fin (k0_t4_loop i v1678).trips), ∀ a, (k0_off120 i v1678 k0_t4) a + S1x256x128.size a ≤ S8x4096x128.size a := fun i v1678 k0_hw2 k0_t4 => k0_hw2.2.1.2.2.2.2.2.2.2.2.2.2.2.2.2.2.2.2.2.1 k0_t4
theorem k0_mult121_dvd : ∀ (i : grid0.Coords) (v1678 : BitVec 1) (k0_hw2 : k0_chk2 i v1678) (k0_t4 : Fin (k0_t4_loop i v1678).trips), 256 ∣ (k0_mult121 i v1678 k0_t4).toNat := fun i v1678 k0_hw2 k0_t4 => k0_hw2.2.1.2.2.2.2.2.2.2.2.2.2.2.2.2.2.2.2.2.2.1 k0_t4
theorem k0_off121_inb : ∀ (i : grid0.Coords) (v1678 : BitVec 1) (k0_hw2 : k0_chk2 i v1678) (k0_t4 : Fin (k0_t4_loop i v1678).trips), ∀ a, (k0_off121 i v1678 k0_t4) a + S1x128x256.size a ≤ S8x128x4096.size a := fun i v1678 k0_hw2 k0_t4 => k0_hw2.2.1.2.2.2.2.2.2.2.2.2.2.2.2.2.2.2.2.2.2.2.1 k0_t4
theorem k0_mult122_dvd : ∀ (i : grid0.Coords) (v1678 : BitVec 1) (k0_hw2 : k0_chk2 i v1678) (k0_t4 : Fin (k0_t4_loop i v1678).trips), 256 ∣ (k0_mult122 i v1678 k0_t4).toNat := fun i v1678 k0_hw2 k0_t4 => k0_hw2.2.1.2.2.2.2.2.2.2.2.2.2.2.2.2.2.2.2.2.2.2.2.1 k0_t4
theorem k0_off122_inb : ∀ (i : grid0.Coords) (v1678 : BitVec 1) (k0_hw2 : k0_chk2 i v1678) (k0_t4 : Fin (k0_t4_loop i v1678).trips), ∀ a, (k0_off122 i v1678 k0_t4) a + S1x128x256.size a ≤ S8x128x4096.size a := fun i v1678 k0_hw2 k0_t4 => k0_hw2.2.1.2.2.2.2.2.2.2.2.2.2.2.2.2.2.2.2.2.2.2.2.2.1 k0_t4
theorem k0_mult123_dvd : ∀ (i : grid0.Coords) (v1678 : BitVec 1) (k0_hw2 : k0_chk2 i v1678) (k0_t4 : Fin (k0_t4_loop i v1678).trips), 256 ∣ (k0_mult123 i v1678 k0_t4).toNat := fun i v1678 k0_hw2 k0_t4 => k0_hw2.2.1.2.2.2.2.2.2.2.2.2.2.2.2.2.2.2.2.2.2.2.2.2.2.1 k0_t4
theorem k0_off123_inb : ∀ (i : grid0.Coords) (v1678 : BitVec 1) (k0_hw2 : k0_chk2 i v1678) (k0_t4 : Fin (k0_t4_loop i v1678).trips), ∀ a, (k0_off123 i v1678 k0_t4) a + S1x128x256.size a ≤ S8x128x4096.size a := fun i v1678 k0_hw2 k0_t4 => k0_hw2.2.1.2.2.2.2.2.2.2.2.2.2.2.2.2.2.2.2.2.2.2.2.2.2.2.1 k0_t4
theorem k0_mult124_dvd : ∀ (i : grid0.Coords) (v1678 : BitVec 1) (k0_hw2 : k0_chk2 i v1678) (k0_t4 : Fin (k0_t4_loop i v1678).trips), 256 ∣ (k0_mult124 i v1678 k0_t4).toNat := fun i v1678 k0_hw2 k0_t4 => k0_hw2.2.1.2.2.2.2.2.2.2.2.2.2.2.2.2.2.2.2.2.2.2.2.2.2.2.2.1 k0_t4
theorem k0_off124_inb : ∀ (i : grid0.Coords) (v1678 : BitVec 1) (k0_hw2 : k0_chk2 i v1678) (k0_t4 : Fin (k0_t4_loop i v1678).trips), ∀ a, (k0_off124 i v1678 k0_t4) a + S1x128x256.size a ≤ S8x128x4096.size a := fun i v1678 k0_hw2 k0_t4 => k0_hw2.2.1.2.2.2.2.2.2.2.2.2.2.2.2.2.2.2.2.2.2.2.2.2.2.2.2.2.1 k0_t4
theorem k0_mult125_dvd : ∀ (i : grid0.Coords) (v1678 : BitVec 1) (k0_hw2 : k0_chk2 i v1678) (k0_t4 : Fin (k0_t4_loop i v1678).trips), 256 ∣ (k0_mult125 i v1678 k0_t4).toNat := fun i v1678 k0_hw2 k0_t4 => k0_hw2.2.1.2.2.2.2.2.2.2.2.2.2.2.2.2.2.2.2.2.2.2.2.2.2.2.2.2.2.1 k0_t4
theorem k0_off125_inb : ∀ (i : grid0.Coords) (v1678 : BitVec 1) (k0_hw2 : k0_chk2 i v1678) (k0_t4 : Fin (k0_t4_loop i v1678).trips), ∀ a, (k0_off125 i v1678 k0_t4) a + S1x128x256.size a ≤ S8x128x4096.size a := fun i v1678 k0_hw2 k0_t4 => k0_hw2.2.1.2.2.2.2.2.2.2.2.2.2.2.2.2.2.2.2.2.2.2.2.2.2.2.2.2.2.2.1 k0_t4
theorem k0_mult126_dvd : ∀ (i : grid0.Coords) (v1678 : BitVec 1) (k0_hw2 : k0_chk2 i v1678) (k0_t4 : Fin (k0_t4_loop i v1678).trips), 256 ∣ (k0_mult126 i v1678 k0_t4).toNat := fun i v1678 k0_hw2 k0_t4 => k0_hw2.2.1.2.2.2.2.2.2.2.2.2.2.2.2.2.2.2.2.2.2.2.2.2.2.2.2.2.2.2.2.1 k0_t4
theorem k0_off126_inb : ∀ (i : grid0.Coords) (v1678 : BitVec 1) (k0_hw2 : k0_chk2 i v1678) (k0_t4 : Fin (k0_t4_loop i v1678).trips), ∀ a, (k0_off126 i v1678 k0_t4) a + S1x128x256.size a ≤ S8x128x4096.size a := fun i v1678 k0_hw2 k0_t4 => k0_hw2.2.1.2.2.2.2.2.2.2.2.2.2.2.2.2.2.2.2.2.2.2.2.2.2.2.2.2.2.2.2.2.1 k0_t4
theorem k0_mult127_dvd : ∀ (i : grid0.Coords) (v1678 : BitVec 1) (k0_hw2 : k0_chk2 i v1678) (k0_t4 : Fin (k0_t4_loop i v1678).trips), 256 ∣ (k0_mult127 i v1678 k0_t4).toNat := fun i v1678 k0_hw2 k0_t4 => k0_hw2.2.1.2.2.2.2.2.2.2.2.2.2.2.2.2.2.2.2.2.2.2.2.2.2.2.2.2.2.2.2.2.2.1 k0_t4
theorem k0_off127_inb : ∀ (i : grid0.Coords) (v1678 : BitVec 1) (k0_hw2 : k0_chk2 i v1678) (k0_t4 : Fin (k0_t4_loop i v1678).trips), ∀ a, (k0_off127 i v1678 k0_t4) a + S1x128x256.size a ≤ S8x128x4096.size a := fun i v1678 k0_hw2 k0_t4 => k0_hw2.2.1.2.2.2.2.2.2.2.2.2.2.2.2.2.2.2.2.2.2.2.2.2.2.2.2.2.2.2.2.2.2.2 k0_t4
theorem k0_mult128_dvd : ∀ (i : grid0.Coords) (v1678 : BitVec 1) (k0_hw2 : k0_chk2 i v1678) (k0_t4 : Fin (k0_t4_loop i v1678).trips), 256 ∣ (k0_mult128 i v1678 k0_t4).toNat := fun i v1678 k0_hw2 k0_t4 => k0_hw2.2.2.1 k0_t4
theorem k0_off128_inb : ∀ (i : grid0.Coords) (v1678 : BitVec 1) (k0_hw2 : k0_chk2 i v1678) (k0_t4 : Fin (k0_t4_loop i v1678).trips), ∀ a, (k0_off128 i v1678 k0_t4) a + S1x128x256.size a ≤ S8x128x4096.size a := fun i v1678 k0_hw2 k0_t4 => k0_hw2.2.2.2 k0_t4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | "log2_of_zero" => some ⊥
  | _ => none
-- ==== ReferenceIdeal.lean ====
abbrev S4x4096x16x128 : Shape := ⟨4, ![4, 4096, 16, 128]⟩
abbrev S_ : Shape := ⟨0, ![]⟩
abbrev S4096 : Shape := ⟨1, ![4096]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S4x16x128x4096 : Shape := ⟨4, ![4, 16, 128, 4096]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x128, .f32⟩
  | .hbm, ⟨2, _⟩ => ⟨S4x4096x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096, .i32⟩
  | .hbm, ⟨8, _⟩ => ⟨S4x16x4096x4096, .f32⟩
  | .hbm, ⟨9, _⟩ => ⟨S4x16x4096x4096, .f32⟩
  | .hbm, ⟨10, _⟩ => ⟨S4x16x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4x16x4096x4096, .f32⟩
  | .hbm, ⟨17, _⟩ => ⟨S_, .f32⟩
  | .hbm, ⟨18, _⟩ => ⟨S4x16x4096x4096, .f32⟩
  | .hbm, ⟨19, _⟩ => ⟨S4x16x4096x4096, .f32⟩
  | .hbm, ⟨20, _⟩ => ⟨S4x16x4096x4096, .f32⟩
  | .hbm, ⟨21, _⟩ => ⟨S4x16x4096x4096, .f32⟩
  | .hbm, ⟨22, _⟩ => ⟨S4x16x4096x4096, .i1⟩
  | .hbm, ⟨23, _⟩ => ⟨S4x16x4096x4096, .f32⟩
  | .hbm, ⟨24, _⟩ => ⟨S4x16x4096x4096, .f32⟩
  | .hbm, ⟨25, _⟩ => ⟨S4x16x4096x4096, .f32⟩
  | .hbm, ⟨26, _⟩ => ⟨S4x16x4096x4096, .f32⟩
  | .hbm, ⟨27, _⟩ => ⟨S4x16x4096x4096, .f32⟩
  | .hbm, ⟨28, _⟩ => ⟨S4x16x4096x4096, .f32⟩
  | .hbm, ⟨29, _⟩ => ⟨S4x16x4096x4096, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S_, .f32⟩
  | .hbm, ⟨35, _⟩ => ⟨S4x16x4096x4096, .f32⟩
  | .hbm, ⟨36, _⟩ => ⟨S4x16x4096x4096, .f32⟩
  | .hbm, ⟨37, _⟩ => ⟨S4x16x4096x4096, .f32⟩
  | .hbm, ⟨38, _⟩ => ⟨S4x16x4096x4096, .f32⟩
  | .hbm, ⟨39, _⟩ => ⟨S4x16x4096x4096, .i1⟩
  | .hbm, ⟨40, _⟩ => ⟨S4x16x4096x4096, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .f32⟩
  | .hbm, ⟨44, _⟩ => ⟨S4x16x4096x4096, .f32⟩
  | .hbm, ⟨45, _⟩ => ⟨S4x16x4096x4096, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S_, .f32⟩
  | .hbm, ⟨50, _⟩ => ⟨S_, .f32⟩
  | .hbm, ⟨51, _⟩ => ⟨S4x16x4096x4096, .i1⟩
  | .hbm, ⟨52, _⟩ => ⟨S4x16x4096x4096, .f32⟩
  | .hbm, ⟨53, _⟩ => ⟨S4x16x4096x4096, .f32⟩
  | .hbm, ⟨54, _⟩ => ⟨S4x16x4096x4096, .f32⟩
  | .hbm, ⟨55, _⟩ => ⟨S_, .f32⟩
  | .hbm, ⟨56, _⟩ => ⟨S_, .f32⟩
  | .hbm, ⟨57, _⟩ => ⟨S4x16x4096x4096, .f32⟩
  | .hbm, ⟨58, _⟩ => ⟨S4x16x4096x4096, .f32⟩
  | .hbm, ⟨59, _⟩ => ⟨S4x16x4096x4096, .f32⟩
  | .hbm, ⟨60, _⟩ => ⟨S4x16x4096x4096, .f32⟩
  | .hbm, ⟨61, _⟩ => ⟨S4x16x4096x4096, .f32⟩
  | .hbm, ⟨62, _⟩ => ⟨S_, .f32⟩
  | .hbm, ⟨63, _⟩ => ⟨S_, .f32⟩
  | .hbm, ⟨64, _⟩ => ⟨S4x16x4096x4096, .i1⟩
  | .hbm, ⟨65, _⟩ => ⟨S4x16x4096x4096, .f32⟩
  | .hbm, ⟨66, _⟩ => ⟨S4x16x4096x4096, .f32⟩
  | .hbm, ⟨67, _⟩ => ⟨S4x16x128x4096, .f32⟩
  | .hbm, ⟨68, _⟩ => ⟨S4x4096x16x128, .f32⟩
  | .hbm, ⟨69, _⟩ => ⟨S16384x2048, .f32⟩
  | .hbm, ⟨70, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_v12 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v13 : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v14 : Ref sig .tc := ⟨.hbm, 53, rfl⟩
abbrev main_v15 : Ref sig .tc := ⟨.hbm, 54, rfl⟩
abbrev main_call4_call0_cst : Ref sig .tc := ⟨.hbm, 55, rfl⟩
abbrev main_call4_call0_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_2 : Ref sig .tc := ⟨.hbm, 62, rfl⟩
abbrev main_call6_v0 : Ref sig .tc := ⟨.hbm, 63, rfl⟩
abbrev main_call6_v1 : Ref sig .tc := ⟨.hbm, 64, rfl⟩
abbrev main_call6_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]
-- ==== FfnKernel.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S16384x2048 : Shape := ⟨2, ![16384, 2048]⟩
abbrev S2x1x11264 : Shape := ⟨3, ![2, 1, 11264]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S11x2x8x512 : Shape := ⟨4, ![11, 2, 8, 512]⟩
abbrev S2x1032x512 : Shape := ⟨3, ![2, 1032, 512]⟩
abbrev S2x8x512 : Shape := ⟨3, ![2, 8, 512]⟩
abbrev S1x2x8x512 : Shape := ⟨4, ![1, 2, 8, 512]⟩
abbrev S1x2048 : Shape := ⟨2, ![1, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S1024x512 : Shape := ⟨2, ![1024, 512]⟩
abbrev S1x1024x512 : Shape := ⟨3, ![1, 1024, 512]⟩
abbrev S1x3x256 : Shape := ⟨3, ![1, 3, 256]⟩
abbrev S3x256 : Shape := ⟨2, ![3, 256]⟩
abbrev S1x1024x256 : Shape := ⟨3, ![1, 1024, 256]⟩
abbrev S1024x256 : Shape := ⟨2, ![1024, 256]⟩
abbrev S1x1x256 : Shape := ⟨3, ![1, 1, 256]⟩
abbrev S1x256 : Shape := ⟨2, ![1, 256]⟩
abbrev S1x256x2048 : Shape := ⟨3, ![1, 256, 2048]⟩
abbrev S256x2048 : Shape := ⟨2, ![256, 2048]⟩
abbrev S8x2048 : Shape := ⟨2, ![8, 2048]⟩
abbrev S8 : Shape := ⟨1, ![8]⟩
abbrev S8x1 : Shape := ⟨2, ![8, 1]⟩

abbrev nBuf : Space → Nat
  | .hbm => 14
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S16384x2048, .f32⟩
  | .hbm, ⟨8, _⟩ => ⟨S2x2048x11264, .bf16⟩
  | .hbm, ⟨9, _⟩ => ⟨S2x5632x2048, .bf16⟩
  | .hbm, ⟨10, _⟩ => ⟨S2x1x11264, .f32⟩
  | .hbm, ⟨11, _⟩ => ⟨S2x1x2048, .f32⟩
  | .hbm, ⟨12, _⟩ => ⟨S2x1x2048, .f32⟩
  | .hbm, ⟨13, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x512x2048, .bf16⟩
  | .local _ .vmem, ⟨16, _⟩ => ⟨S1x512x2048, .bf16⟩
  | .local _ .vmem, ⟨17, _⟩ => ⟨S1x1x2048, .f32⟩
  | .local _ .vmem, ⟨18, _⟩ => ⟨S1024x2048, .f32⟩
  | .local _ .vmem, ⟨19, _⟩ => ⟨S1024x2048, .f32⟩
  | .local _ .vmem, ⟨20, _⟩ => ⟨S1024x2048, .bf16⟩
  | .local _ .vmem, ⟨21, _⟩ => ⟨S11x2x8x512, .f32⟩
  | .local _ .vmem, ⟨22, _⟩ => ⟨S2x1032x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 4 → Nat :=
  let arg1 : BitVec 32 := BitVec.ofNat 32 (i 1).val
  let v23 : Index := Scalar.indexCast arg1
  let c0 : Index := 0#32
  let c0_10 : Index := 0#32
  let c0_11 : Index := 0#32
  ![v23.toNat, 0, 0, 0]
def k0_cond2 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_off2 (i : grid0.Coords) : Fin 4 → Nat :=
  let arg1 : BitVec 32 := BitVec.ofNat 32 (i 1).val
  let v1177 : Index := Scalar.indexCast arg1
  let c0_398 : Index := 0#32
  let c0_399 : Index := 0#32
  let c0_400 : Index := 0#32
  ![v1177.toNat, 0, 0, 0]
def k0_cond3 (i : grid0.Coords) : BitVec 1 :=
  let arg1 : BitVec 32 := BitVec.ofNat 32 (i 1).val
  let c0_i32_7 : BitVec 32 := 0#32
  let v16 : BitVec 1 := Scalar.cmpi .sgt arg1 c0_i32_7
  let v17 : BitVec 32 := Scalar.extui v16
  let c0_i32_8 : BitVec 32 := 0#32
  let v18 : BitVec 1 := Scalar.cmpi .ne v17 c0_i32_8
  v18

def k0_off3 (i : grid0.Coords) : Fin 4 → Nat :=
  let arg1 : BitVec 32 := BitVec.ofNat 32 (i 1).val
  let v23 : Index := Scalar.indexCast arg1
  let c0_11 : Index := 0#32
  let c0_12 : Index := 0#32
  let c0_13 : Index := 0#32
  ![v23.toNat, 0, 0, 0]
def k0_cond4 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4098x11264 : Shape := ⟨3, ![4, 4098, 11264]⟩
abbrev S1x11264 : Shape := ⟨2, ![1, 11264]⟩
abbrev S11264 : Shape := ⟨1, ![11264]⟩
abbrev S1x3x11264 : Shape := ⟨3, ![1, 3, 11264]⟩
abbrev S3x11264 : Shape := ⟨2, ![3, 11264]⟩
abbrev S1x1x11264 : Shape := ⟨3, ![1, 1, 11264]⟩
abbrev S4x4096x5632 : Shape := ⟨3, ![4, 4096, 5632]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S1x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S1x2048x11264, .f32⟩
  | .hbm, ⟨26, _⟩ => ⟨S2048x11264, .f32⟩
  | .hbm, ⟨27, _⟩ => ⟨S4x4096x11264, .f32⟩
  | .hbm, ⟨28, _⟩ => ⟨S_, .i32⟩
  | .hbm, ⟨29, _⟩ => ⟨S_, .f32⟩
  | .hbm, ⟨30, _⟩ => ⟨S4x4098x11264, .f32⟩
  | .hbm, ⟨31, _⟩ => ⟨S1x11264, .f32⟩
  | .hbm, ⟨32, _⟩ => ⟨S11264, .f32⟩
  | .hbm, ⟨33, _⟩ => ⟨S4x4096x11264, .f32⟩
  | .hbm, ⟨34, _⟩ => ⟨S1x3x11264, .f32⟩
  | .hbm, ⟨35, _⟩ => ⟨S3x11264, .f32⟩
  | .hbm, ⟨36, _⟩ => ⟨S1x11264, .f32⟩
  | .hbm, ⟨37, _⟩ => ⟨S11264, .f32⟩
  | .hbm, ⟨38, _⟩ => ⟨S1x1x11264, .f32⟩
  | .hbm, ⟨39, _⟩ => ⟨S4x4096x11264, .f32⟩
  | .hbm, ⟨40, _⟩ => ⟨S4x4096x11264, .f32⟩
  | .hbm, ⟨41, _⟩ => ⟨S_, .f32⟩
  | .hbm, ⟨42, _⟩ => ⟨S4x4096x11264, .f32⟩
  | .hbm, ⟨43, _⟩ => ⟨S4x4096x11264, .f32⟩
  | .hbm, ⟨44, _⟩ => ⟨S4x4096x11264, .f32⟩
  | .hbm, ⟨45, _⟩ => ⟨S1x3x11264, .f32⟩
  | .hbm, ⟨46, _⟩ => ⟨S3x11264, .f32⟩
  | .hbm, ⟨47, _⟩ => ⟨S1x11264, .f32⟩
  | .hbm, ⟨48, _⟩ => ⟨S11264, .f32⟩
  | .hbm, ⟨49, _⟩ => ⟨S1x1x11264, .f32⟩
  | .hbm, ⟨50, _⟩ => ⟨S4x4096x11264, .f32⟩
  | .hbm, ⟨51, _⟩ => ⟨S4x4096x11264, .f32⟩
  | .hbm, ⟨52, _⟩ => ⟨S4x4096x11264, .f32⟩
  | .hbm, ⟨53, _⟩ => ⟨S4x4096x11264, .f32⟩
  | .hbm, ⟨54, _⟩ => ⟨S1x3x11264, .f32⟩
  | .hbm, ⟨55, _⟩ => ⟨S3x11264, .f32⟩
  | .hbm, ⟨56, _⟩ => ⟨S1x11264, .f32⟩
  | .hbm, ⟨57, _⟩ => ⟨S11264, .f32⟩
  | .hbm, ⟨58, _⟩ => ⟨S1x1x11264, .f32⟩
  | .hbm, ⟨59, _⟩ => ⟨S4x4096x11264, .f32⟩
  | .hbm, ⟨60, _⟩ => ⟨S4x4096x11264, .f32⟩
  | .hbm, ⟨61, _⟩ => ⟨S4x4096x11264, .f32⟩
  | .hbm, ⟨62, _⟩ => ⟨S1x1x11264, .f32⟩
  | .hbm, ⟨63, _⟩ => ⟨S4x4096x11264, .f32⟩
  | .hbm, ⟨64, _⟩ => ⟨S4x4096x11264, .f32⟩
  | .hbm, ⟨65, _⟩ => ⟨S4x4096x5632, .f32⟩
  | .hbm, ⟨66, _⟩ => ⟨S4x4096x5632, .f32⟩
  | .hbm, ⟨67, _⟩ => ⟨S4x4096x5632, .f32⟩
  | .hbm, ⟨68, _⟩ => ⟨S4x4096x5632, .f32⟩
  | .hbm, ⟨69, _⟩ => ⟨S_, .f32⟩
  | .hbm, ⟨70, _⟩ => ⟨S4x4096x5632, .f32⟩
  | .hbm, ⟨71, _⟩ => ⟨S4x4096x5632, .f32⟩
  | .hbm, ⟨72, _⟩ => ⟨S_, .f32⟩
  | .hbm, ⟨73, _⟩ => ⟨S4x4096x5632, .f32⟩
  | .hbm, ⟨74, _⟩ => ⟨S4x4096x5632, .f32⟩
  | .hbm, ⟨75, _⟩ => ⟨S4x4096x5632, .f32⟩
  | .hbm, ⟨76, _⟩ => ⟨S4x4096x5632, .f32⟩
  | .hbm, ⟨77, _⟩ => ⟨S1x5632x2048, .f32⟩
  | .hbm, ⟨78, _⟩ => ⟨S5632x2048, .f32⟩
  | .hbm, ⟨79, _⟩ => ⟨S4x4096x2048, .f32⟩
  | .hbm, ⟨80, _⟩ => ⟨S1x2048, .f32⟩
  | .hbm, ⟨81, _⟩ => ⟨S2048, .f32⟩
  | .hbm, ⟨82, _⟩ => ⟨S4x4096x2048, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x2048, .f32⟩
  | .hbm, ⟨94, _⟩ => ⟨S4x4096x2048, .f32⟩
  | .hbm, ⟨95, _⟩ => ⟨S1x1x2048, .f32⟩
  | .hbm, ⟨96, _⟩ => ⟨S4x4096x2048, .f32⟩
  | .hbm, ⟨97, _⟩ => ⟨S4x4096x2048, .f32⟩
  | .hbm, ⟨98, _⟩ => ⟨S4x4096x2048, .f32⟩
  | .hbm, ⟨99, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_cst_5 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== ProjKernel.lean ====
abbrev S4x4096x2048 : Shape := ⟨3, ![4, 4096, 2048]⟩
abbrev S1x2048x2048 : Shape := ⟨3, ![1, 2048, 2048]⟩
abbrev S2x2048 : Shape := ⟨2, ![2, 2048]⟩
abbrev S16384x2048 : Shape := ⟨2, ![16384, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S2x2048, .f32⟩
  | .hbm, ⟨4, _⟩ => ⟨S16384x2048, .f32⟩
  | .hbm, ⟨5, _⟩ => ⟨S16384x2048, .bf16⟩
  | .hbm, ⟨6, _⟩ => ⟨S2048x2048, .f32⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S4x4096x2048 : Shape := ⟨3, ![4, 4096, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S2x2048, .f32⟩
  | .hbm, ⟨4, _⟩ => ⟨S2048x2048, .f32⟩
  | .hbm, ⟨5, _⟩ => ⟨S4x4096x2048, .f32⟩
  | .hbm, ⟨6, _⟩ => ⟨S1x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== QkvKernel.lean ====
abbrev S4x4096x2048 : Shape := ⟨3, ![4, 4096, 2048]⟩
abbrev S2x2048 : Shape := ⟨2, ![2, 2048]⟩
abbrev S2048 : Shape := ⟨1, ![2048]⟩
abbrev S1x2048x2048 : Shape := ⟨3, ![1, 2048, 2048]⟩
abbrev S2048x2048 : Shape := ⟨2, ![2048, 2048]⟩
abbrev S16384x2048 : Shape := ⟨2, ![16384, 2048]⟩
abbrev S1x2048 : Shape := ⟨2, ![1, 2048]⟩
abbrev S16x16384x128 : Shape := ⟨3, ![16, 16384, 128]⟩
abbrev S16x128x16384 : Shape := ⟨3, ![16, 128, 16384]⟩
abbrev S1024x2048 : Shape := ⟨2, ![1024, 2048]⟩
abbrev S2048x512 : Shape := ⟨2, ![2048, 512]⟩
abbrev S4x1024x128 : Shape := ⟨3, ![4, 1024, 128]⟩
abbrev S4x128x1024 : Shape := ⟨3, ![4, 128, 1024]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S1024x128 : Shape := ⟨2, ![1024, 128]⟩
abbrev S1x1024x128 : Shape := ⟨3, ![1, 1024, 128]⟩
abbrev S128x1024 : Shape := ⟨2, ![128, 1024]⟩
abbrev S1x128x1024 : Shape := ⟨3, ![1, 128, 1024]⟩

abbrev nBuf : Space → Nat
  | .hbm => 18
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S16x16384x128, .bf16⟩
  | .hbm, ⟨16, _⟩ => ⟨S16x16384x128, .bf16⟩
  | .hbm, ⟨17, _⟩ => ⟨S16x128x16384, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4x1024x128, .bf16⟩
  | .local _ .vmem, ⟨11, _⟩ => ⟨S4x1024x128, .bf16⟩
  | .local _ .vmem, ⟨12, _⟩ => ⟨S4x1024x128, .bf16⟩
  | .local _ .vmem, ⟨13, _⟩ => ⟨S4x1024x128, .bf16⟩
  | .local _ .vmem, ⟨14, _⟩ => ⟨S4x128x1024, .bf16⟩
  | .local _ .vmem, ⟨15, _⟩ => ⟨S4x128x1024, .bf16⟩
  | .local _ .vmem, ⟨16, _⟩ => ⟨S1024x2048, .bf16⟩
  | .local _ .vmem, ⟨17, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvReferenceIdeal.lean ====
abbrev S4x4096x2048 : Shape := ⟨3, ![4, 4096, 2048]⟩
abbrev S2x2048 : Shape := ⟨2, ![2, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048 : Shape := ⟨2, ![1, 2048]⟩
abbrev S4x4096x16x128 : Shape := ⟨4, ![4, 4096, 16, 128]⟩
abbrev S16x4x4096x128 : Shape := ⟨4, ![16, 4, 4096, 128]⟩
abbrev S16x16384x128 : Shape := ⟨3, ![16, 16384, 128]⟩
abbrev S16x128x4x4096 : Shape := ⟨4, ![16, 128, 4, 4096]⟩
abbrev S16x128x16384 : Shape := ⟨3, ![16, 128, 16384]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S1x2048, .f32⟩
  | .hbm, ⟨23, _⟩ => ⟨S2048, .f32⟩
  | .hbm, ⟨24, _⟩ => ⟨S4x4096x2048, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S1x1x2048, .f32⟩
  | .hbm, ⟨38, _⟩ => ⟨S4x4096x2048, .f32⟩
  | .hbm, ⟨39, _⟩ => ⟨S4x4096x2048, .f32⟩
  | .hbm, ⟨40, _⟩ => ⟨S2048x2048, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S4x4096x16x128, .f32⟩
  | .hbm, ⟨46, _⟩ => ⟨S16x4x4096x128, .f32⟩
  | .hbm, ⟨47, _⟩ => ⟨S16x16384x128, .f32⟩
  | .hbm, ⟨48, _⟩ => ⟨S4x4096x2048, .f32⟩
  | .hbm, ⟨49, _⟩ => ⟨S4x4096x16x128, .f32⟩
  | .hbm, ⟨50, _⟩ => ⟨S16x4x4096x128, .f32⟩
  | .hbm, ⟨51, _⟩ => ⟨S16x16384x128, .f32⟩
  | .hbm, ⟨52, _⟩ => ⟨S4x4096x2048, .f32⟩
  | .hbm, ⟨53, _⟩ => ⟨S4x4096x16x128, .f32⟩
  | .hbm, ⟨54, _⟩ => ⟨S16x128x4x4096, .f32⟩
  | .hbm, ⟨55, _⟩ => ⟨S16x128x16384, .f32⟩
  | .hbm, ⟨56, _⟩ => ⟨S16x16384x128, .bf16⟩
  | .hbm, ⟨57, _⟩ => ⟨S16x16384x128, .bf16⟩
  | .hbm, ⟨58, _⟩ => ⟨S16x128x16384, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== MixKernel.lean ====
abbrev S4x4096x2048 : Shape := ⟨3, ![4, 4096, 2048]⟩
abbrev S2x2048 : Shape := ⟨2, ![2, 2048]⟩
abbrev S1x2048x4096 : Shape := ⟨3, ![1, 2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x2048 : Shape := ⟨3, ![1, 2048, 2048]⟩
abbrev S16384x2048 : Shape := ⟨2, ![16384, 2048]⟩
abbrev S2048 : Shape := ⟨1, ![2048]⟩
abbrev S2048x4096 : Shape := ⟨2, ![2048, 4096]⟩
abbrev S16x128x128 : Shape := ⟨3, ![16, 128, 128]⟩
abbrev S16x128 : Shape := ⟨2, ![16, 128]⟩
abbrev S2048x2048 : Shape := ⟨2, ![2048, 2048]⟩
abbrev S16x128x1 : Shape := ⟨3, ![16, 128, 1]⟩
abbrev S1024x2048 : Shape := ⟨2, ![1024, 2048]⟩
abbrev S2048x512 : Shape := ⟨2, ![2048, 512]⟩
abbrev S1x512 : Shape := ⟨2, ![1, 512]⟩
abbrev S4x128x128 : Shape := ⟨3, ![4, 128, 128]⟩
abbrev S4x128x1 : Shape := ⟨3, ![4, 128, 1]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S128x128 : Shape := ⟨2, ![128, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1x128x128 : Shape := ⟨3, ![1, 128, 128]⟩
abbrev S1x128x1 : Shape := ⟨3, ![1, 128, 1]⟩
abbrev S128x1 : Shape := ⟨2, ![128, 1]⟩
abbrev S1024x256 : Shape := ⟨2, ![1024, 256]⟩
abbrev S256x2048 : Shape := ⟨2, ![256, 2048]⟩
abbrev S8x2048 : Shape := ⟨2, ![8, 2048]⟩
abbrev S8 : Shape := ⟨1, ![8]⟩
abbrev S8x1 : Shape := ⟨2, ![8, 1]⟩

abbrev nBuf : Space → Nat
  | .hbm => 25
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x4096, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S1x2048x2048, .f32⟩
  | .hbm, ⟨7, _⟩ => ⟨S2x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S2048x4096, .f32⟩
  | .hbm, ⟨12, _⟩ => ⟨S2048x4096, .bf16⟩
  | .hbm, ⟨13, _⟩ => ⟨S2048, .f32⟩
  | .hbm, ⟨14, _⟩ => ⟨S16x128x128, .f32⟩
  | .hbm, ⟨15, _⟩ => ⟨S16x128, .f32⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S16x128x1, .f32⟩
  | .hbm, ⟨23, _⟩ => ⟨S1x2048, .f32⟩
  | .hbm, ⟨24, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x1, .f32⟩
  | .local _ .vmem, ⟨12, _⟩ => ⟨S4x128x1, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MixReferenceIdeal.lean ====
abbrev S4x4096x2048 : Shape := ⟨3, ![4, 4096, 2048]⟩
abbrev S2x2048 : Shape := ⟨2, ![2, 2048]⟩
abbrev S1x2048x4096 : Shape := ⟨3, ![1, 2048, 4096]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x2048 : Shape := ⟨3, ![1, 2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4096 : Shape := ⟨2, ![2048, 4096]⟩
abbrev S4x4096x4096 : Shape := ⟨3, ![4, 4096, 4096]⟩
abbrev S4x4096x16x128 : Shape := ⟨4, ![4, 4096, 16, 128]⟩
abbrev S16x128 : Shape := ⟨2, ![16, 128]⟩
abbrev S4x4096x16 : Shape := ⟨3, ![4, 4096, 16]⟩
abbrev S4x4096x16x1 : Shape := ⟨4, ![4, 4096, 16, 1]⟩
abbrev S1x1x16x128 : Shape := ⟨4, ![1, 1, 16, 128]⟩
abbrev S4x32x128x16x128 : Shape := ⟨5, ![4, 32, 128, 16, 128]⟩
abbrev S16x128x128 : Shape := ⟨3, ![16, 128, 128]⟩
abbrev S128x128 : Shape := ⟨2, ![128, 128]⟩
abbrev S1x128x128 : Shape := ⟨3, ![1, 128, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩
abbrev S2048x2048 : Shape := ⟨2, ![2048, 2048]⟩
abbrev S16384x2048 : Shape := ⟨2, ![16384, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S1x2048x4096, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S1x2048x2048, .f32⟩
  | .hbm, ⟨7, _⟩ => ⟨S2x2048, .f32⟩
  | .hbm, ⟨8, _⟩ => ⟨S1x2048, .f32⟩
  | .hbm, ⟨9, _⟩ => ⟨S2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S2048x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x2048, .f32⟩
  | .hbm, ⟨46, _⟩ => ⟨S4x4096x2048, .f32⟩
  | .hbm, ⟨47, _⟩ => ⟨S4x4096x16x128, .f32⟩
  | .hbm, ⟨48, _⟩ => ⟨S2048, .f32⟩
  | .hbm, ⟨49, _⟩ => ⟨S16x128, .f32⟩
  | .hbm, ⟨50, _⟩ => ⟨S4x4096x16x128, .f32⟩
  | .hbm, ⟨51, _⟩ => ⟨S_, .f32⟩
  | .hbm, ⟨52, _⟩ => ⟨S4x4096x16, .f32⟩
  | .hbm, ⟨53, _⟩ => ⟨S4x4096x16x1, .f32⟩
  | .hbm, ⟨54, _⟩ => ⟨S_, .f32⟩
  | .hbm, ⟨55, _⟩ => ⟨S4x4096x16x1, .f32⟩
  | .hbm, ⟨56, _⟩ => ⟨S4x4096x16x1, .f32⟩
  | .hbm, ⟨57, _⟩ => ⟨S_, .f32⟩
  | .hbm, ⟨58, _⟩ => ⟨S4x4096x16x1, .f32⟩
  | .hbm, ⟨59, _⟩ => ⟨S4x4096x16x1, .f32⟩
  | .hbm, ⟨60, _⟩ => ⟨S4x4096x16x1, .f32⟩
  | .hbm, ⟨61, _⟩ => ⟨S4x4096x16x128, .f32⟩
  | .hbm, ⟨62, _⟩ => ⟨S4x4096x16x128, .f32⟩
  | .hbm, ⟨63, _⟩ => ⟨S1x1x16x128, .f32⟩
  | .hbm, ⟨64, _⟩ => ⟨S4x4096x16x128, .f32⟩
  | .hbm, ⟨65, _⟩ => ⟨S4x4096x16x128, .f32⟩
  | .hbm, ⟨66, _⟩ => ⟨S4x32x128x16x128, .f32⟩
  | .hbm, ⟨67, _⟩ => ⟨S16x128x128, .f32⟩
  | .hbm, ⟨68, _⟩ => ⟨S_, .f32⟩
  | .hbm, ⟨69, _⟩ => ⟨S128x128, .f32⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .f32⟩
  | .hbm, ⟨77, _⟩ => ⟨S128x128, .f32⟩
  | .hbm, ⟨78, _⟩ => ⟨S128x128, .f32⟩
  | .hbm, ⟨79, _⟩ => ⟨S1x128x128, .f32⟩
  | .hbm, ⟨80, _⟩ => ⟨S16x128x128, .f32⟩
  | .hbm, ⟨81, _⟩ => ⟨S16x128x128, .f32⟩
  | .hbm, ⟨82, _⟩ => ⟨S16x4x32x128x128, .f32⟩
  | .hbm, ⟨83, _⟩ => ⟨S4x32x128x16x128, .f32⟩
  | .hbm, ⟨84, _⟩ => ⟨S16x128, .f32⟩
  | .hbm, ⟨85, _⟩ => ⟨S128x16, .f32⟩
  | .hbm, ⟨86, _⟩ => ⟨S1x1x128x16x1, .f32⟩
  | .hbm, ⟨87, _⟩ => ⟨S4x32x128x16x128, .f32⟩
  | .hbm, ⟨88, _⟩ => ⟨S4x32x128x16x128, .f32⟩
  | .hbm, ⟨89, _⟩ => ⟨S4x4096x2048, .f32⟩
  | .hbm, ⟨90, _⟩ => ⟨S4x4096x2048, .f32⟩
  | .hbm, ⟨91, _⟩ => ⟨S2048x2048, .f32⟩
  | .hbm, ⟨92, _⟩ => ⟨S4x4096x2048, .f32⟩
  | .hbm, ⟨93, _⟩ => ⟨S1x2048, .f32⟩
  | .hbm, ⟨94, _⟩ => ⟨S2048, .f32⟩
  | .hbm, ⟨95, _⟩ => ⟨S4x4096x2048, .f32⟩
  | .hbm, ⟨96, _⟩ => ⟨S_, .f32⟩
  | .hbm, ⟨97, _⟩ => ⟨S4x4096, .f32⟩
  | .hbm, ⟨98, _⟩ => ⟨S4x4096x1, .f32⟩
  | .hbm, ⟨99, _⟩ => ⟨S_, .f32⟩
  | .hbm, ⟨100, _⟩ => ⟨S4x4096x1, .f32⟩
  | .hbm, ⟨101, _⟩ => ⟨S4x4096x1, .f32⟩
  | .hbm, ⟨102, _⟩ => ⟨S_, .f32⟩
  | .hbm, ⟨103, _⟩ => ⟨S4x4096x1, .f32⟩
  | .hbm, ⟨104, _⟩ => ⟨S4x4096x1, .f32⟩
  | .hbm, ⟨105, _⟩ => ⟨S4x4096x1, .f32⟩
  | .hbm, ⟨106, _⟩ => ⟨S4x4096x2048, .f32⟩
  | .hbm, ⟨107, _⟩ => ⟨S4x4096x2048, .f32⟩
  | .hbm, ⟨108, _⟩ => ⟨S1x1x2048, .f32⟩
  | .hbm, ⟨109, _⟩ => ⟨S4x4096x2048, .f32⟩
  | .hbm, ⟨110, _⟩ => ⟨S4x4096x2048, .f32⟩
  | .hbm, ⟨111, _⟩ => ⟨S4x4096x2048, .f32⟩
  | .hbm, ⟨112, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_cst : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Proof.OwnI.Chk.lean ====
/- The side conditions of the attention body: every trip of the key-block loops reads whole 256-row blocks that lie
   inside the keys and values, whatever the early-exit word says. -/
module

public import proofs.«01_k».proof.Proof.Gen.KernelIdeal

@[expose] public section

set_option maxRecDepth 16384

noncomputable section

namespace Cert.KernelIdeal.Gen

open Idealize.ShloMosaic Idealize.ShloMosaic.TcCoe Cert.KernelIdeal

/-- A grid point, by its three coordinates. -/
def pt (a : Fin 4) (b : Fin 2) (x : Fin 8) : grid0.Coords
  | ⟨0, _⟩ => a
  | ⟨1, _⟩ => b
  | ⟨2, _⟩ => x

theorem eq_pt (i : grid0.Coords) : i = pt (i 0) (i 1) (i 2) :=
  funext fun a => by fin_cases a <;> rfl

theorem chk1_pt : ∀ (a : Fin 4) (b : Fin 2) (x : Fin 8) (v : BitVec 1), k0_chk1 (pt a b x) v := by
  decide +kernel

theorem chk2_pt : ∀ (a : Fin 4) (b : Fin 2) (x : Fin 8) (v : BitVec 1), k0_chk2 (pt a b x) v := by
  decide +kernel

/-- The first query block's loops stay inside the keys and values. -/
theorem k0_chk1_all (i : grid0.Coords) (v : BitVec 1) : k0_chk1 i v := by
  rw [eq_pt i]; exact chk1_pt _ _ _ v

/-- The second query block's loops stay inside the keys and values. -/
theorem k0_chk2_all (i : grid0.Coords) (v : BitVec 1) : k0_chk2 i v := by
  rw [eq_pt i]; exact chk2_pt _ _ _ v

end Cert.KernelIdeal.Gen

end
-- ==== Proof.OwnI.Body.lean ====
/- The attention body's run: on whole staging buffers, from any contents of the accumulator, the body runs to its end,
   leaving its inputs as they were and, in its output block, pieces that are functions of the inputs and of what the
   accumulator held. -/
module

public import proofs.«01_k».proof.Proof.OwnI.Chk
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body's run. The output's pieces are the run's own finds. -/
@[irreducible] def bodyRun (c : Dev nD) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
    (X3 : BufTy.Contents (Elt F) arg3.view.ty) (X4 : BufTy.Contents (Elt F) arg4.view.ty) (X5 : BufTy.Contents (Elt F) arg5.view.ty) (X6 : BufTy.Contents (Elt F) arg6.view.ty) :
    { L7 : BufTy.Contents (Elt F) arg8.view.ty → List (View.Piece (Elt F) S512x1024 .bf16) //
      ∀ (E : Set ℕ) (f7 : BufTy.Contents (Elt F) arg7.view.ty) (f8 : BufTy.Contents (Elt F) arg8.view.ty) (K : PUnit → sProp 𝕄),
        iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8)
            ∗ (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) f7 (L7 f8)) ∗ (∃ f, arg8.view.loc (c : Thread nD τ) ↦[arg8.view.set]{fullShare} f)) -∗ K ⟨⟩))
          ⊢ wp frame (wpE (defs₀ (F := F)) Variants.none c none) E (cc0_stickbreak_attn i arg3 harg3 arg4 harg4 arg5 harg5 arg6 harg6 arg7 harg7 arg8 harg8) K } := by
  refine ⟨?_, fun E f7 f8 K => ?run⟩
  case run =>
    simp only [cc0_stickbreak_attn_eq_skeleton]; unfold cc0_stickbreak_attn_skel
    iintro ⟨H3, H4, H5, H6, H7, H8, Hk⟩
    sl_exec
    sl_step
    iapply Hk
    isplitl [H3]; · iexact H3
    isplitl [H4]; · iexact H4
    isplitl [H5]; · iexact H5
    isplitl [H6]; · iexact H6
    isplitl [H7]; · iexact H7
    iexists _; iexact H8

end Cert.KernelIdeal.Own

end
-- ==== Proof.OwnI.Frame.lean ====
/- The frame of the attention call: the pipeline's proof data with the output's contents unstated, the body obligation
   from the body's run, and the run of the whole program. -/
module

public import proofs.«01_k».proof.Proof.OwnI.Body
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The accumulator, a whole scoped buffer passed beside the windows. -/
abbrev acc : Memref sig .tc .vmem S2x8x128x256 .f32 := Memref.whole cc0_scratch0

/-- The region invariant, its scratch owned at some contents. -/
theorem PhiA_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

/-- What the body leaves in its output block at a grid point, from the inputs' blocks and the accumulator's contents
    before. -/
def outOf (c : Dev nD) (t : Fin cfg0.N) (d7 : Vec F S512x1024 .bf16) (d8 : Vec F S2x8x128x256 .f32) : Vec F S512x1024 .bf16 :=
  (win0_4.stage (cfg0.slots t 4)).view.read (Elt F)
    ((win0_4.stage (cfg0.slots t 4)).view.writes (Elt F) ((hstage0_4 ((cfg0.slots t 4).cast nbuf0_4)).unread d7)
      ((bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _)
        ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t))).1
        ((Memref.isWhole_whole cc0_scratch0).unread d8)))

/-- The body at any grid point, its inputs at their blocks. -/
theorem body_at (c : Dev nD) (t : Fin cfg0.N) (E : Set ℕ) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t)
        ∗ (∃ d, owns (c : Thread nD τ) (st0_4 t) fullShare d) ∗ (∃ d, owns (c : Thread nD τ) acc fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t)
            ∗ (∃ d7 d8, owns (c : Thread nD τ) (st0_4 t) fullShare (outOf m c t d7 d8)) ∗ (∃ d, owns (c : Thread nD τ) acc fullShare d)) -∗ K ⟨⟩))
      ⊢ wp frame (wpE (defs₀ (F := F)) Variants.none c none) E (bodyAt0 t) K := by
  unfold owns bodyAt0
  iintro ⟨⟨%f0, %hf0, H0⟩, ⟨%f1, %hf1, H1⟩, ⟨%f2, %hf2, H2⟩, ⟨%f3, %hf3, H3⟩, ⟨%d4, %f4, %hf4, H4⟩, ⟨%ds, %fs, %hfs, HS⟩, Hk⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  obtain rfl := (hstage0_3 ((cfg0.slots t 3).cast nbuf0_3)).eq_unread hf3
  obtain rfl := (hstage0_4 ((cfg0.slots t 4).cast nbuf0_4)).eq_unread hf4
  obtain rfl := (Memref.isWhole_whole cc0_scratch0).eq_unread hfs
  iapply ((bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) _ _ _ _).2 E _ _ K)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, ⟨%fs', HS⟩⟩
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists d4, ds, _; isplitr; swap; · iexact H4
    ipureintro; rfl
  iexists _, _; isplitr; swap; · iexact HS
  ipureintro; rfl

/-! ## The frame: the output's contents unstated -/

/-- Only the output window's contents are left unstated. -/
def forgets : Fin 5 → Bool := fun w => w.val == 4

/-- The proof data of the frame: inputs at their blocks, the output unstated, the accumulator at some contents between
    grid points. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d

/-- What the body is called with at point `t`, -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare d))

/-- and what it returns. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ (∃ d, owns (c : Thread nD τ) (st0_4 t) fullShare d))

/-- The body obligation's triple at any grid point. -/
theorem fsound (c : Dev nD) (t : Fin cfg0.N) :
    fpre m c t ⊢ wp frame (wpE (defs₀ (F := F)) Variants.none c none) Set.univ (bodyAt0 t) (fun _ => fpost m c t) := by
  unfold fpre fpost
  simp only [fbefore_0, fbefore_1, fbefore_2, fbefore_3]
  rw [show (fdats m 0 c).Φ t.succ = (fdats m 0 c).Φ t.castSucc from rfl,
    show (fdats m 0 c).owesAt () t.succ = (fdats m 0 c).owesAt () t.castSucc from rfl,
    fafter_0, fafter_1, fafter_2, fafter_3]
  rw [show (fdats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, H4⟩
  iapply (body_at m c t Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%d7, %d8, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexists _; iexact H4

/-- The body table's row at point `t`'s slots is the body at that point. -/
theorem row (t : Fin cfg0.N) :
    defs₀ (F := F) .tc cfg0.body (cfg0.bodyArgs t (cfg0.slots t)) = bodyAt0 t := by
  unfold defs₀; rw [Defs.onTc_tc]

theorem fobligation (c : Dev nD) : BodyObligation (fdats (F := F) m 0 c) (defs₀ (F := F)) Variants.none () Set.univ forgets := fun t => by
  rw [bigSep_W0, bigSep_W0, row]
  exact triple_restated (fsound m c t) rfl .rfl fun _ => .rfl

set_option backward.isDefEq.respectTransparency.types false in
/-- Every execution of the program ends, with every counter at zero. -/
theorem frun : θ_run defs (onTc (τ := τ) (main (F := F))) (s₀ m ρ) (fun r => (Pipeline.RDat.FramePost (cfgs 0) (fun c => (fdats m 0 c).toRForget forgets) (V m)) r ∧ r.2.sem = fun _ => 0) :=
  Pipeline.θ_run_frame_forget (Q' := _) cfgs (fdats m) (0 : Fin 1) launch0 defs₀ Variants.none forgets m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- The arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (frun m ρ)

end Cert.KernelIdeal.Own

end
-- ==== Proof.OwnI.Spec.lean ====
/- What the attention body computes, one head at a time, as the printed operations compose: the scores of a block of keys
   against a block of queries, their softplus (base two), the sum over the later keys, the weights and what is carried
   to the earlier blocks. -/
module

public import proofs.«01_k».proof.Proof.Gen.KernelIdeal.Skeleton
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- Scores of 256 keys (rows) against 256 queries (columns). -/
def zOf (kb qb : Vec F S1x256x128 .bf16) : FVec F S256x256 .f32 :=
  matmul dot_S256x128_S256x128_S256x256_1_1_0_0_n_n none (shapeCast S256x128 kb shapeCasts_S1x256x128_S256x128)
    (shapeCast S256x128 qb shapeCasts_S1x256x128_S256x128) (constant S256x256 .f32 0x00000000#32)

/-- The softplus of the scores, base two. -/
def spOf (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (subf z (maximumf z (broadcast S256x256 (Scalar.ofBits .f32 0x00000000#32))))
          (maximumf z (broadcast S256x256 (Scalar.ofBits .f32 0x00000000#32)))))))
      (broadcast S256x256 (Named.named κ "log2_e" 0x3FB8AA3B#32)))

/-- The entries whose key precedes the query, zero elsewhere. -/
def mskOf (x : FVec F S256x256 .f32) : FVec F S256x256 .f32 :=
  select k0_pay222 x (broadcast S256x256 (Scalar.ofBits .f32 0x00000000#32))

/-- High part above low part. -/
def splitOf (sp : FVec F S256x256 .f32) : FVec F S512x256 .bf16 :=
  concatenate S512x256 0 [⟨S256x256, truncf .bf16 sp bitsLt_bf16_f32⟩,
    ⟨S256x256, truncf .bf16 (subf sp (extf .f32 (truncf .bf16 sp bitsLt_bf16_f32) bitsLt_bf16_f32)) bitsLt_bf16_f32⟩]
    concatenates_S256x256_S256x256_S512x256_d0

/-- The sums over the keys of the block at or after each key. -/
def sufOf (L : Vec F S256x512 .bf16) (s : FVec F S512x256 .bf16) : FVec F S256x256 .f32 :=
  matmul dot_S256x512_S512x256_S256x256_1_0_0_1_n_n none (shapeCast S256x512 L shapeCasts_S256x512_S256x512) s
    (constant S256x256 .f32 0x00000000#32)

/-- The weights of a block, before the cast. -/
def eOf (L : Vec F S256x512 .bf16) (s : FVec F S512x256 .bf16) (z : FVec F S256x256 .f32) (c : FVec F S1x256 .f32) :
    FVec F S256x256 .f32 :=
  exp2 (subf (addf z (broadcastTo S256x256 c broadcasts_S1x256_S256x256)) (sufOf L s))

/-- The weights of a block wholly before its queries. -/
def wOf (L : Vec F S256x512 .bf16) (s : FVec F S512x256 .bf16) (z : FVec F S256x256 .f32) (c : FVec F S1x256 .f32) :
    FVec F S256x256 .bf16 := truncf .bf16 (eOf L s z c) bitsLt_bf16_f32

/-- The weights of the diagonal block. -/
def wdOf (L : Vec F S256x512 .bf16) (s : FVec F S512x256 .bf16) (z : FVec F S256x256 .f32) (c : FVec F S1x256 .f32) :
    FVec F S256x256 .bf16 := truncf .bf16 (mskOf (eOf L s z c)) bitsLt_bf16_f32

/-- What is carried to the blocks before. -/
def cOf (L : Vec F S256x512 .bf16) (s : FVec F S512x256 .bf16) (c : FVec F S1x256 .f32) : FVec F S1x256 .f32 :=
  subf c (extractStridedSlice S1x256 ![0, 0] (sufOf L s) slices_S256x256_o0_0_S1x256)

/-- The values of a block. -/
def vOf (vb : Vec F S1x128x256 .bf16) : FVec F S128x256 .bf16 := shapeCast S128x256 vb shapeCasts_S1x128x256_S128x256

/-- The values of a block under its weights. -/
def pvOf (v : FVec F S128x256 .bf16) (a : FVec F S256x256 .bf16) : FVec F S128x256 .f32 :=
  matmul dot_S128x256_S256x256_S128x256_1_0_0_1_n_n none v a (constant S128x256 .f32 0x00000000#32)

/-- Nothing carried. -/
def c0Of : FVec F S1x256 .f32 := broadcast S1x256 (Scalar.ofBits .f32 0x00000000#32)

/-- The diagonal block's split softplus. -/
def sdOf (kb qb : Vec F S1x256x128 .bf16) : FVec F S512x256 .bf16 := splitOf (mskOf (spOf (zOf kb qb)))

/-- An earlier block's split softplus. -/
def svOf (kb qb : Vec F S1x256x128 .bf16) : FVec F S512x256 .bf16 := splitOf (spOf (zOf kb qb))

/-- One earlier block's step of the carry. -/
def cStep (L : Vec F S256x512 .bf16) (kb qb : Vec F S1x256x128 .bf16) (c : FVec F S1x256 .f32) : FVec F S1x256 .f32 :=
  cOf L (svOf kb qb) c

/-- One earlier block's weighted values. -/
def pStep (L : Vec F S256x512 .bf16) (kb qb : Vec F S1x256x128 .bf16) (v : FVec F S128x256 .bf16) (c : FVec F S1x256 .f32) :
    FVec F S128x256 .f32 := pvOf v (wOf L (svOf kb qb) (zOf kb qb) c)

/-- The diagonal block's carry. -/
def cDiag (L : Vec F S256x512 .bf16) (kb qb : Vec F S1x256x128 .bf16) : FVec F S1x256 .f32 := cOf L (sdOf kb qb) c0Of

/-- The diagonal block's weighted values. -/
def pDiag (L : Vec F S256x512 .bf16) (kb qb : Vec F S1x256x128 .bf16) (v : FVec F S128x256 .bf16) : FVec F S128x256 .f32 :=
  pvOf v (wdOf L (sdOf kb qb) (zOf kb qb) c0Of)

/-- A block of the accumulator, as stored. -/
def upOf (a : FVec F S128x256 .f32) : FVec F S1x1x128x256 .f32 := shapeCast S1x1x128x256 a shapeCasts_S128x256_S1x1x128x256

/-- A block of the accumulator, as loaded. -/
def dnOf (a : FVec F S1x1x128x256 .f32) : FVec F S128x256 .f32 := shapeCast S128x256 a shapeCasts_S1x1x128x256_S128x256

theorem dn_up (a : FVec F S128x256 .f32) : dnOf (upOf a) = a := by
  unfold dnOf upOf; exact shapeCast_shapeCast _ _ _

end Cert.KernelIdeal.Own
-- ==== Proof.OwnI.Trip.lean ====
/- One trip of each key-block loop, as the steps of Spec compose. -/
module

public import proofs.«01_k».proof.Proof.OwnI.Body
public import proofs.«01_k».proof.Proof.OwnI.Spec

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- A trip of the key-block loop of query block 0: what it carries on. -/
theorem trip1_R (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i v822).trips) (acc : FVec F S1x256 .f32 × FVec F S1x256 .f32 × FVec F S1x256 .f32 × FVec F S1x256 .f32 × FVec F S1x256 .f32 × FVec F S1x256 .f32 × FVec F S1x256 .f32 × FVec F S1x256 .f32) (f : BufTy.Contents (Elt F) arg8.view.ty)
    (hk0 : ∀ a, k0_off33 i v822 k a + S1x256x128.size a ≤ S8x4096x128.size a) (hv0 : ∀ a, k0_off41 i v822 k a + S1x128x256.size a ≤ S8x128x4096.size a)
    (hk1 : ∀ a, k0_off34 i v822 k a + S1x256x128.size a ≤ S8x4096x128.size a) (hv1 : ∀ a, k0_off42 i v822 k a + S1x128x256.size a ≤ S8x128x4096.size a)
    (hk2 : ∀ a, k0_off35 i v822 k a + S1x256x128.size a ≤ S8x4096x128.size a) (hv2 : ∀ a, k0_off43 i v822 k a + S1x128x256.size a ≤ S8x128x4096.size a)
    (hk3 : ∀ a, k0_off36 i v822 k a + S1x256x128.size a ≤ S8x4096x128.size a) (hv3 : ∀ a, k0_off44 i v822 k a + S1x128x256.size a ≤ S8x128x4096.size a)
    (hk4 : ∀ a, k0_off37 i v822 k a + S1x256x128.size a ≤ S8x4096x128.size a) (hv4 : ∀ a, k0_off45 i v822 k a + S1x128x256.size a ≤ S8x128x4096.size a)
    (hk5 : ∀ a, k0_off38 i v822 k a + S1x256x128.size a ≤ S8x4096x128.size a) (hv5 : ∀ a, k0_off46 i v822 k a + S1x128x256.size a ≤ S8x128x4096.size a)
    (hk6 : ∀ a, k0_off39 i v822 k a + S1x256x128.size a ≤ S8x4096x128.size a) (hv6 : ∀ a, k0_off47 i v822 k a + S1x128x256.size a ≤ S8x128x4096.size a)
    (hk7 : ∀ a, k0_off40 i v822 k a + S1x256x128.size a ≤ S8x4096x128.size a) (hv7 : ∀ a, k0_off48 i v822 k a + S1x128x256.size a ≤ S8x128x4096.size a) :
    tripR_k0_t1 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k acc f
      = (cStep (View.readAt (Elt F) arg6.view (Rect.unit (s := S256x512) ![0, 0] S256x512.size inb_S256x512_S256x512_0_0).toLoadRect X_arg6) (View.readAt (Elt F) arg4.view (Rect.unit (s := S8x4096x128) (k0_off33 i v822 k) S1x256x128.size hk0).toLoadRect X_arg4) (View.readAt (Elt F) arg3.view (Rect.unit (s := S8x512x128) ![0, 0, 0] S1x256x128.size inb_S8x512x128_S1x256x128_0_0_0).toLoadRect X_arg3) acc.1,
        cStep (View.readAt (Elt F) arg6.view (Rect.unit (s := S256x512) ![0, 0] S256x512.size inb_S256x512_S256x512_0_0).toLoadRect X_arg6) (View.readAt (Elt F) arg4.view (Rect.unit (s := S8x4096x128) (k0_off34 i v822 k) S1x256x128.size hk1).toLoadRect X_arg4) (View.readAt (Elt F) arg3.view (Rect.unit (s := S8x512x128) ![1, 0, 0] S1x256x128.size inb_S8x512x128_S1x256x128_1_0_0).toLoadRect X_arg3) acc.2.1,
        cStep (View.readAt (Elt F) arg6.view (Rect.unit (s := S256x512) ![0, 0] S256x512.size inb_S256x512_S256x512_0_0).toLoadRect X_arg6) (View.readAt (Elt F) arg4.view (Rect.unit (s := S8x4096x128) (k0_off35 i v822 k) S1x256x128.size hk2).toLoadRect X_arg4) (View.readAt (Elt F) arg3.view (Rect.unit (s := S8x512x128) ![2, 0, 0] S1x256x128.size inb_S8x512x128_S1x256x128_2_0_0).toLoadRect X_arg3) acc.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off36 i v822 k) S1x256x128.size hk3).toLoadRect X_arg4) (View.readAt (Elt F) arg3.view (Rect.unit (s := S8x512x128) ![3, 0, 0] S1x256x128.size inb_S8x512x128_S1x256x128_3_0_0).toLoadRect X_arg3) acc.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off37 i v822 k) S1x256x128.size hk4).toLoadRect X_arg4) (View.readAt (Elt F) arg3.view (Rect.unit (s := S8x512x128) ![4, 0, 0] S1x256x128.size inb_S8x512x128_S1x256x128_4_0_0).toLoadRect X_arg3) acc.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off38 i v822 k) S1x256x128.size hk5).toLoadRect X_arg4) (View.readAt (Elt F) arg3.view (Rect.unit (s := S8x512x128) ![5, 0, 0] S1x256x128.size inb_S8x512x128_S1x256x128_5_0_0).toLoadRect X_arg3) acc.2.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off39 i v822 k) S1x256x128.size hk6).toLoadRect X_arg4) (View.readAt (Elt F) arg3.view (Rect.unit (s := S8x512x128) ![6, 0, 0] S1x256x128.size inb_S8x512x128_S1x256x128_6_0_0).toLoadRect X_arg3) acc.2.2.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off40 i v822 k) S1x256x128.size hk7).toLoadRect X_arg4) (View.readAt (Elt F) arg3.view (Rect.unit (s := S8x512x128) ![7, 0, 0] S1x256x128.size inb_S8x512x128_S1x256x128_7_0_0).toLoadRect X_arg3) acc.2.2.2.2.2.2.2) := by
  unfold tripR_k0_t1 trip_k0_t1; rfl

/-- A trip of the key-block loop of query block 0: what it adds to the accumulator. -/
theorem trip1_L (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i v822).trips) (acc : FVec F S1x256 .f32 × FVec F S1x256 .f32 × FVec F S1x256 .f32 × FVec F S1x256 .f32 × FVec F S1x256 .f32 × FVec F S1x256 .f32 × FVec F S1x256 .f32 × FVec F S1x256 .f32) (f : BufTy.Contents (Elt F) arg8.view.ty)
    (hk0 : ∀ a, k0_off33 i v822 k a + S1x256x128.size a ≤ S8x4096x128.size a) (hv0 : ∀ a, k0_off41 i v822 k a + S1x128x256.size a ≤ S8x128x4096.size a)
    (hk1 : ∀ a, k0_off34 i v822 k a + S1x256x128.size a ≤ S8x4096x128.size a) (hv1 : ∀ a, k0_off42 i v822 k a + S1x128x256.size a ≤ S8x128x4096.size a)
    (hk2 : ∀ a, k0_off35 i v822 k a + S1x256x128.size a ≤ S8x4096x128.size a) (hv2 : ∀ a, k0_off43 i v822 k a + S1x128x256.size a ≤ S8x128x4096.size a)
    (hk3 : ∀ a, k0_off36 i v822 k a + S1x256x128.size a ≤ S8x4096x128.size a) (hv3 : ∀ a, k0_off44 i v822 k a + S1x128x256.size a ≤ S8x128x4096.size a)
    (hk4 : ∀ a, k0_off37 i v822 k a + S1x256x128.size a ≤ S8x4096x128.size a) (hv4 : ∀ a, k0_off45 i v822 k a + S1x128x256.size a ≤ S8x128x4096.size a)
    (hk5 : ∀ a, k0_off38 i v822 k a + S1x256x128.size a ≤ S8x4096x128.size a) (hv5 : ∀ a, k0_off46 i v822 k a + S1x128x256.size a ≤ S8x128x4096.size a)
    (hk6 : ∀ a, k0_off39 i v822 k a + S1x256x128.size a ≤ S8x4096x128.size a) (hv6 : ∀ a, k0_off47 i v822 k a + S1x128x256.size a ≤ S8x128x4096.size a)
    (hk7 : ∀ a, k0_off40 i v822 k a + S1x256x128.size a ≤ S8x4096x128.size a) (hv7 : ∀ a, k0_off48 i v822 k a + S1x128x256.size a ≤ S8x128x4096.size a) :
    tripL_k0_t1 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k acc f
      = [⟨Rect.unit (s := S2x8x128x256) ![0, 7, 0, 0] S1x1x128x256.size inb_S2x8x128x256_S1x1x128x256_0_7_0_0, upOf (addf (dnOf (View.readAt (Elt F) arg8.view (Rect.unit (s := S2x8x128x256) ![0, 7, 0, 0] S1x1x128x256.size inb_S2x8x128x256_S1x1x128x256_0_7_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off40 i v822 k) S1x256x128.size hk7).toLoadRect X_arg4) (View.readAt (Elt F) arg3.view (Rect.unit (s := S8x512x128) ![7, 0, 0] S1x256x128.size inb_S8x512x128_S1x256x128_7_0_0).toLoadRect X_arg3) (vOf (View.readAt (Elt F) arg5.view (Rect.unit (s := S8x128x4096) (k0_off48 i v822 k) S1x128x256.size hv7).toLoadRect X_arg5)) acc.2.2.2.2.2.2.2))⟩,
        ⟨Rect.unit (s := S2x8x128x256) ![0, 6, 0, 0] S1x1x128x256.size inb_S2x8x128x256_S1x1x128x256_0_6_0_0, upOf (addf (dnOf (View.readAt (Elt F) arg8.view (Rect.unit (s := S2x8x128x256) ![0, 6, 0, 0] S1x1x128x256.size inb_S2x8x128x256_S1x1x128x256_0_6_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off39 i v822 k) S1x256x128.size hk6).toLoadRect X_arg4) (View.readAt (Elt F) arg3.view (Rect.unit (s := S8x512x128) ![6, 0, 0] S1x256x128.size inb_S8x512x128_S1x256x128_6_0_0).toLoadRect X_arg3) (vOf (View.readAt (Elt F) arg5.view (Rect.unit (s := S8x128x4096) (k0_off47 i v822 k) S1x128x256.size hv6).toLoadRect X_arg5)) acc.2.2.2.2.2.2.1))⟩,
        ⟨Rect.unit (s := S2x8x128x256) ![0, 5, 0, 0] S1x1x128x256.size inb_S2x8x128x256_S1x1x128x256_0_5_0_0, upOf (addf (dnOf (View.readAt (Elt F) arg8.view (Rect.unit (s := S2x8x128x256) ![0, 5, 0, 0] S1x1x128x256.size inb_S2x8x128x256_S1x1x128x256_0_5_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off38 i v822 k) S1x256x128.size hk5).toLoadRect X_arg4) (View.readAt (Elt F) arg3.view (Rect.unit (s := S8x512x128) ![5, 0, 0] S1x256x128.size inb_S8x512x128_S1x256x128_5_0_0).toLoadRect X_arg3) (vOf (View.readAt (Elt F) arg5.view (Rect.unit (s := S8x128x4096) (k0_off46 i v822 k) S1x128x256.size hv5).toLoadRect X_arg5)) acc.2.2.2.2.2.1))⟩,
        ⟨Rect.unit (s := S2x8x128x256) ![0, 4, 0, 0] S1x1x128x256.size inb_S2x8x128x256_S1x1x128x256_0_4_0_0, upOf (addf (dnOf (View.readAt (Elt F) arg8.view (Rect.unit (s := S2x8x128x256) ![0, 4, 0, 0] S1x1x128x256.size inb_S2x8x128x256_S1x1x128x256_0_4_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off37 i v822 k) S1x256x128.size hk4).toLoadRect X_arg4) (View.readAt (Elt F) arg3.view (Rect.unit (s := S8x512x128) ![4, 0, 0] S1x256x128.size inb_S8x512x128_S1x256x128_4_0_0).toLoadRect X_arg3) (vOf (View.readAt (Elt F) arg5.view (Rect.unit (s := S8x128x4096) (k0_off45 i v822 k) S1x128x256.size hv4).toLoadRect X_arg5)) acc.2.2.2.2.1))⟩,
        ⟨Rect.unit (s := S2x8x128x256) ![0, 3, 0, 0] S1x1x128x256.size inb_S2x8x128x256_S1x1x128x256_0_3_0_0, upOf (addf (dnOf (View.readAt (Elt F) arg8.view (Rect.unit (s := S2x8x128x256) ![0, 3, 0, 0] S1x1x128x256.size inb_S2x8x128x256_S1x1x128x256_0_3_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off36 i v822 k) S1x256x128.size hk3).toLoadRect X_arg4) (View.readAt (Elt F) arg3.view (Rect.unit (s := S8x512x128) ![3, 0, 0] S1x256x128.size inb_S8x512x128_S1x256x128_3_0_0).toLoadRect X_arg3) (vOf (View.readAt (Elt F) arg5.view (Rect.unit (s := S8x128x4096) (k0_off44 i v822 k) S1x128x256.size hv3).toLoadRect X_arg5)) acc.2.2.2.1))⟩,
        ⟨Rect.unit (s := S2x8x128x256) ![0, 2, 0, 0] S1x1x128x256.size inb_S2x8x128x256_S1x1x128x256_0_2_0_0, upOf (addf (dnOf (View.readAt (Elt F) arg8.view (Rect.unit (s := S2x8x128x256) ![0, 2, 0, 0] S1x1x128x256.size inb_S2x8x128x256_S1x1x128x256_0_2_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off35 i v822 k) S1x256x128.size hk2).toLoadRect X_arg4) (View.readAt (Elt F) arg3.view (Rect.unit (s := S8x512x128) ![2, 0, 0] S1x256x128.size inb_S8x512x128_S1x256x128_2_0_0).toLoadRect X_arg3) (vOf (View.readAt (Elt F) arg5.view (Rect.unit (s := S8x128x4096) (k0_off43 i v822 k) S1x128x256.size hv2).toLoadRect X_arg5)) acc.2.2.1))⟩,
        ⟨Rect.unit (s := S2x8x128x256) ![0, 1, 0, 0] S1x1x128x256.size inb_S2x8x128x256_S1x1x128x256_0_1_0_0, upOf (addf (dnOf (View.readAt (Elt F) arg8.view (Rect.unit (s := S2x8x128x256) ![0, 1, 0, 0] S1x1x128x256.size inb_S2x8x128x256_S1x1x128x256_0_1_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off34 i v822 k) S1x256x128.size hk1).toLoadRect X_arg4) (View.readAt (Elt F) arg3.view (Rect.unit (s := S8x512x128) ![1, 0, 0] S1x256x128.size inb_S8x512x128_S1x256x128_1_0_0).toLoadRect X_arg3) (vOf (View.readAt (Elt F) arg5.view (Rect.unit (s := S8x128x4096) (k0_off42 i v822 k) S1x128x256.size hv1).toLoadRect X_arg5)) acc.2.1))⟩,
        ⟨Rect.unit (s := S2x8x128x256) ![0, 0, 0, 0] S1x1x128x256.size inb_S2x8x128x256_S1x1x128x256_0_0_0_0, upOf (addf (dnOf (View.readAt (Elt F) arg8.view (Rect.unit (s := S2x8x128x256) ![0, 0, 0, 0] S1x1x128x256.size inb_S2x8x128x256_S1x1x128x256_0_0_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off33 i v822 k) S1x256x128.size hk0).toLoadRect X_arg4) (View.readAt (Elt F) arg3.view (Rect.unit (s := S8x512x128) ![0, 0, 0] S1x256x128.size inb_S8x512x128_S1x256x128_0_0_0).toLoadRect X_arg3) (vOf (View.readAt (Elt F) arg5.view (Rect.unit (s := S8x128x4096) (k0_off41 i v822 k) S1x128x256.size hv0).toLoadRect X_arg5)) acc.1))⟩] := by
  unfold tripL_k0_t1 trip_k0_t1; rfl

/-- A trip of the key-block loop of query block 1: what it carries on. -/
theorem trip3_R (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t3_loop i v1678).trips) (acc : FVec F S1x256 .f32 × FVec F S1x256 .f32 × FVec F S1x256 .f32 × FVec F S1x256 .f32 × FVec F S1x256 .f32 × FVec F S1x256 .f32 × FVec F S1x256 .f32 × FVec F S1x256 .f32) (f : BufTy.Contents (Elt F) arg8.view.ty)
    (hk0 : ∀ a, k0_off97 i v1678 k a + S1x256x128.size a ≤ S8x4096x128.size a) (hv0 : ∀ a, k0_off105 i v1678 k a + S1x128x256.size a ≤ S8x128x4096.size a)
    (hk1 : ∀ a, k0_off98 i v1678 k a + S1x256x128.size a ≤ S8x4096x128.size a) (hv1 : ∀ a, k0_off106 i v1678 k a + S1x128x256.size a ≤ S8x128x4096.size a)
    (hk2 : ∀ a, k0_off99 i v1678 k a + S1x256x128.size a ≤ S8x4096x128.size a) (hv2 : ∀ a, k0_off107 i v1678 k a + S1x128x256.size a ≤ S8x128x4096.size a)
    (hk3 : ∀ a, k0_off100 i v1678 k a + S1x256x128.size a ≤ S8x4096x128.size a) (hv3 : ∀ a, k0_off108 i v1678 k a + S1x128x256.size a ≤ S8x128x4096.size a)
    (hk4 : ∀ a, k0_off101 i v1678 k a + S1x256x128.size a ≤ S8x4096x128.size a) (hv4 : ∀ a, k0_off109 i v1678 k a + S1x128x256.size a ≤ S8x128x4096.size a)
    (hk5 : ∀ a, k0_off102 i v1678 k a + S1x256x128.size a ≤ S8x4096x128.size a) (hv5 : ∀ a, k0_off110 i v1678 k a + S1x128x256.size a ≤ S8x128x4096.size a)
    (hk6 : ∀ a, k0_off103 i v1678 k a + S1x256x128.size a ≤ S8x4096x128.size a) (hv6 : ∀ a, k0_off111 i v1678 k a + S1x128x256.size a ≤ S8x128x4096.size a)
    (hk7 : ∀ a, k0_off104 i v1678 k a + S1x256x128.size a ≤ S8x4096x128.size a) (hv7 : ∀ a, k0_off112 i v1678 k a + S1x128x256.size a ≤ S8x128x4096.size a) :
    tripR_k0_t3 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k acc f
      = (cStep (View.readAt (Elt F) arg6.view (Rect.unit (s := S256x512) ![0, 0] S256x512.size inb_S256x512_S256x512_0_0).toLoadRect X_arg6) (View.readAt (Elt F) arg4.view (Rect.unit (s := S8x4096x128) (k0_off97 i v1678 k) S1x256x128.size hk0).toLoadRect X_arg4) (View.readAt (Elt F) arg3.view (Rect.unit (s := S8x512x128) ![0, 256, 0] S1x256x128.size inb_S8x512x128_S1x256x128_0_256_0).toLoadRect X_arg3) acc.1,
        cStep (View.readAt (Elt F) arg6.view (Rect.unit (s := S256x512) ![0, 0] S256x512.size inb_S256x512_S256x512_0_0).toLoadRect X_arg6) (View.readAt (Elt F) arg4.view (Rect.unit (s := S8x4096x128) (k0_off98 i v1678 k) S1x256x128.size hk1).toLoadRect X_arg4) (View.readAt (Elt F) arg3.view (Rect.unit (s := S8x512x128) ![1, 256, 0] S1x256x128.size inb_S8x512x128_S1x256x128_1_256_0).toLoadRect X_arg3) acc.2.1,
        cStep (View.readAt (Elt F) arg6.view (Rect.unit (s := S256x512) ![0, 0] S256x512.size inb_S256x512_S256x512_0_0).toLoadRect X_arg6) (View.readAt (Elt F) arg4.view (Rect.unit (s := S8x4096x128) (k0_off99 i v1678 k) S1x256x128.size hk2).toLoadRect X_arg4) (View.readAt (Elt F) arg3.view (Rect.unit (s := S8x512x128) ![2, 256, 0] S1x256x128.size inb_S8x512x128_S1x256x128_2_256_0).toLoadRect X_arg3) acc.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off100 i v1678 k) S1x256x128.size hk3).toLoadRect X_arg4) (View.readAt (Elt F) arg3.view (Rect.unit (s := S8x512x128) ![3, 256, 0] S1x256x128.size inb_S8x512x128_S1x256x128_3_256_0).toLoadRect X_arg3) acc.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off101 i v1678 k) S1x256x128.size hk4).toLoadRect X_arg4) (View.readAt (Elt F) arg3.view (Rect.unit (s := S8x512x128) ![4, 256, 0] S1x256x128.size inb_S8x512x128_S1x256x128_4_256_0).toLoadRect X_arg3) acc.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off102 i v1678 k) S1x256x128.size hk5).toLoadRect X_arg4) (View.readAt (Elt F) arg3.view (Rect.unit (s := S8x512x128) ![5, 256, 0] S1x256x128.size inb_S8x512x128_S1x256x128_5_256_0).toLoadRect X_arg3) acc.2.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off103 i v1678 k) S1x256x128.size hk6).toLoadRect X_arg4) (View.readAt (Elt F) arg3.view (Rect.unit (s := S8x512x128) ![6, 256, 0] S1x256x128.size inb_S8x512x128_S1x256x128_6_256_0).toLoadRect X_arg3) acc.2.2.2.2.2.2.1,
        cStep (View.readAt (Elt F) arg6.view (Rect.unit (s := S256x512) ![0, 0] S256x512.size inb_S256x512_S256x512_0_0).toLoadRect X_arg6) (View.readAt (Elt F) arg4.view (Rect.unit (s := S8x4096x128) (k0_off104 i v1678 k) S1x256x128.size hk7).toLoadRect X_arg4) (View.readAt (Elt F) arg3.view (Rect.unit (s := S8x512x128) ![7, 256, 0] S1x256x128.size inb_S8x512x128_S1x256x128_7_256_0).toLoadRect X_arg3) acc.2.2.2.2.2.2.2) := by
  unfold tripR_k0_t3 trip_k0_t3; rfl

/-- A trip of the key-block loop of query block 1: what it adds to the accumulator. -/
theorem trip3_L (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t3_loop i v1678).trips) (acc : FVec F S1x256 .f32 × FVec F S1x256 .f32 × FVec F S1x256 .f32 × FVec F S1x256 .f32 × FVec F S1x256 .f32 × FVec F S1x256 .f32 × FVec F S1x256 .f32 × FVec F S1x256 .f32) (f : BufTy.Contents (Elt F) arg8.view.ty)
    (hk0 : ∀ a, k0_off97 i v1678 k a + S1x256x128.size a ≤ S8x4096x128.size a) (hv0 : ∀ a, k0_off105 i v1678 k a + S1x128x256.size a ≤ S8x128x4096.size a)
    (hk1 : ∀ a, k0_off98 i v1678 k a + S1x256x128.size a ≤ S8x4096x128.size a) (hv1 : ∀ a, k0_off106 i v1678 k a + S1x128x256.size a ≤ S8x128x4096.size a)
    (hk2 : ∀ a, k0_off99 i v1678 k a + S1x256x128.size a ≤ S8x4096x128.size a) (hv2 : ∀ a, k0_off107 i v1678 k a + S1x128x256.size a ≤ S8x128x4096.size a)
    (hk3 : ∀ a, k0_off100 i v1678 k a + S1x256x128.size a ≤ S8x4096x128.size a) (hv3 : ∀ a, k0_off108 i v1678 k a + S1x128x256.size a ≤ S8x128x4096.size a)
    (hk4 : ∀ a, k0_off101 i v1678 k a + S1x256x128.size a ≤ S8x4096x128.size a) (hv4 : ∀ a, k0_off109 i v1678 k a + S1x128x256.size a ≤ S8x128x4096.size a)
    (hk5 : ∀ a, k0_off102 i v1678 k a + S1x256x128.size a ≤ S8x4096x128.size a) (hv5 : ∀ a, k0_off110 i v1678 k a + S1x128x256.size a ≤ S8x128x4096.size a)
    (hk6 : ∀ a, k0_off103 i v1678 k a + S1x256x128.size a ≤ S8x4096x128.size a) (hv6 : ∀ a, k0_off111 i v1678 k a + S1x128x256.size a ≤ S8x128x4096.size a)
    (hk7 : ∀ a, k0_off104 i v1678 k a + S1x256x128.size a ≤ S8x4096x128.size a) (hv7 : ∀ a, k0_off112 i v1678 k a + S1x128x256.size a ≤ S8x128x4096.size a) :
    tripL_k0_t3 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k acc f
      = [⟨Rect.unit (s := S2x8x128x256) ![1, 7, 0, 0] S1x1x128x256.size inb_S2x8x128x256_S1x1x128x256_1_7_0_0, upOf (addf (dnOf (View.readAt (Elt F) arg8.view (Rect.unit (s := S2x8x128x256) ![1, 7, 0, 0] S1x1x128x256.size inb_S2x8x128x256_S1x1x128x256_1_7_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off104 i v1678 k) S1x256x128.size hk7).toLoadRect X_arg4) (View.readAt (Elt F) arg3.view (Rect.unit (s := S8x512x128) ![7, 256, 0] S1x256x128.size inb_S8x512x128_S1x256x128_7_256_0).toLoadRect X_arg3) (vOf (View.readAt (Elt F) arg5.view (Rect.unit (s := S8x128x4096) (k0_off112 i v1678 k) S1x128x256.size hv7).toLoadRect X_arg5)) acc.2.2.2.2.2.2.2))⟩,
        ⟨Rect.unit (s := S2x8x128x256) ![1, 6, 0, 0] S1x1x128x256.size inb_S2x8x128x256_S1x1x128x256_1_6_0_0, upOf (addf (dnOf (View.readAt (Elt F) arg8.view (Rect.unit (s := S2x8x128x256) ![1, 6, 0, 0] S1x1x128x256.size inb_S2x8x128x256_S1x1x128x256_1_6_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off103 i v1678 k) S1x256x128.size hk6).toLoadRect X_arg4) (View.readAt (Elt F) arg3.view (Rect.unit (s := S8x512x128) ![6, 256, 0] S1x256x128.size inb_S8x512x128_S1x256x128_6_256_0).toLoadRect X_arg3) (vOf (View.readAt (Elt F) arg5.view (Rect.unit (s := S8x128x4096) (k0_off111 i v1678 k) S1x128x256.size hv6).toLoadRect X_arg5)) acc.2.2.2.2.2.2.1))⟩,
        ⟨Rect.unit (s := S2x8x128x256) ![1, 5, 0, 0] S1x1x128x256.size inb_S2x8x128x256_S1x1x128x256_1_5_0_0, upOf (addf (dnOf (View.readAt (Elt F) arg8.view (Rect.unit (s := S2x8x128x256) ![1, 5, 0, 0] S1x1x128x256.size inb_S2x8x128x256_S1x1x128x256_1_5_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off102 i v1678 k) S1x256x128.size hk5).toLoadRect X_arg4) (View.readAt (Elt F) arg3.view (Rect.unit (s := S8x512x128) ![5, 256, 0] S1x256x128.size inb_S8x512x128_S1x256x128_5_256_0).toLoadRect X_arg3) (vOf (View.readAt (Elt F) arg5.view (Rect.unit (s := S8x128x4096) (k0_off110 i v1678 k) S1x128x256.size hv5).toLoadRect X_arg5)) acc.2.2.2.2.2.1))⟩,
        ⟨Rect.unit (s := S2x8x128x256) ![1, 4, 0, 0] S1x1x128x256.size inb_S2x8x128x256_S1x1x128x256_1_4_0_0, upOf (addf (dnOf (View.readAt (Elt F) arg8.view (Rect.unit (s := S2x8x128x256) ![1, 4, 0, 0] S1x1x128x256.size inb_S2x8x128x256_S1x1x128x256_1_4_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off101 i v1678 k) S1x256x128.size hk4).toLoadRect X_arg4) (View.readAt (Elt F) arg3.view (Rect.unit (s := S8x512x128) ![4, 256, 0] S1x256x128.size inb_S8x512x128_S1x256x128_4_256_0).toLoadRect X_arg3) (vOf (View.readAt (Elt F) arg5.view (Rect.unit (s := S8x128x4096) (k0_off109 i v1678 k) S1x128x256.size hv4).toLoadRect X_arg5)) acc.2.2.2.2.1))⟩,
        ⟨Rect.unit (s := S2x8x128x256) ![1, 3, 0, 0] S1x1x128x256.size inb_S2x8x128x256_S1x1x128x256_1_3_0_0, upOf (addf (dnOf (View.readAt (Elt F) arg8.view (Rect.unit (s := S2x8x128x256) ![1, 3, 0, 0] S1x1x128x256.size inb_S2x8x128x256_S1x1x128x256_1_3_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off100 i v1678 k) S1x256x128.size hk3).toLoadRect X_arg4) (View.readAt (Elt F) arg3.view (Rect.unit (s := S8x512x128) ![3, 256, 0] S1x256x128.size inb_S8x512x128_S1x256x128_3_256_0).toLoadRect X_arg3) (vOf (View.readAt (Elt F) arg5.view (Rect.unit (s := S8x128x4096) (k0_off108 i v1678 k) S1x128x256.size hv3).toLoadRect X_arg5)) acc.2.2.2.1))⟩,
        ⟨Rect.unit (s := S2x8x128x256) ![1, 2, 0, 0] S1x1x128x256.size inb_S2x8x128x256_S1x1x128x256_1_2_0_0, upOf (addf (dnOf (View.readAt (Elt F) arg8.view (Rect.unit (s := S2x8x128x256) ![1, 2, 0, 0] S1x1x128x256.size inb_S2x8x128x256_S1x1x128x256_1_2_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off99 i v1678 k) S1x256x128.size hk2).toLoadRect X_arg4) (View.readAt (Elt F) arg3.view (Rect.unit (s := S8x512x128) ![2, 256, 0] S1x256x128.size inb_S8x512x128_S1x256x128_2_256_0).toLoadRect X_arg3) (vOf (View.readAt (Elt F) arg5.view (Rect.unit (s := S8x128x4096) (k0_off107 i v1678 k) S1x128x256.size hv2).toLoadRect X_arg5)) acc.2.2.1))⟩,
        ⟨Rect.unit (s := S2x8x128x256) ![1, 1, 0, 0] S1x1x128x256.size inb_S2x8x128x256_S1x1x128x256_1_1_0_0, upOf (addf (dnOf (View.readAt (Elt F) arg8.view (Rect.unit (s := S2x8x128x256) ![1, 1, 0, 0] S1x1x128x256.size inb_S2x8x128x256_S1x1x128x256_1_1_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off98 i v1678 k) S1x256x128.size hk1).toLoadRect X_arg4) (View.readAt (Elt F) arg3.view (Rect.unit (s := S8x512x128) ![1, 256, 0] S1x256x128.size inb_S8x512x128_S1x256x128_1_256_0).toLoadRect X_arg3) (vOf (View.readAt (Elt F) arg5.view (Rect.unit (s := S8x128x4096) (k0_off106 i v1678 k) S1x128x256.size hv1).toLoadRect X_arg5)) acc.2.1))⟩,
        ⟨Rect.unit (s := S2x8x128x256) ![1, 0, 0, 0] S1x1x128x256.size inb_S2x8x128x256_S1x1x128x256_1_0_0_0, upOf (addf (dnOf (View.readAt (Elt F) arg8.view (Rect.unit (s := S2x8x128x256) ![1, 0, 0, 0] S1x1x128x256.size inb_S2x8x128x256_S1x1x128x256_1_0_0_0).toLoadRect f)) (pStep (View.readAt (Elt F) arg6.view (Rect.unit (s := S256x512) ![0, 0] S256x512.size inb_S256x512_S256x512_0_0).toLoadRect X_arg6) (View.readAt (Elt F) arg4.view (Rect.unit (s := S8x4096x128) (k0_off97 i v1678 k) S1x256x128.size hk0).toLoadRect X_arg4) (View.readAt (Elt F) arg3.view (Rect.unit (s := S8x512x128) ![0, 256, 0] S1x256x128.size inb_S8x512x128_S1x256x128_0_256_0).toLoadRect X_arg3) (vOf (View.readAt (Elt F) arg5.view (Rect.unit (s := S8x128x4096) (k0_off105 i v1678 k) S1x128x256.size hv0).toLoadRect X_arg5)) acc.1))⟩] := by
  unfold tripL_k0_t3 trip_k0_t3; rfl

end Cert.KernelIdeal.Own
-- ==== Proof.OwnI.Off.lean ====
/- Where each load of the attention body starts, in closed form. -/
module

public import proofs.«01_k».proof.Proof.OwnI.Chk

@[expose] public section

set_option maxRecDepth 16384

noncomputable section

namespace Cert.KernelIdeal.Own

open Idealize.ShloMosaic Idealize.ShloMosaic.TcCoe Cert.KernelIdeal Cert.KernelIdeal.Gen

/-- The first query block's index. -/
abbrev qi0 (i : grid0.Coords) : ℕ := 2 * (i 2).val
/-- The second query block's index. -/
abbrev qi1 (i : grid0.Coords) : ℕ := 2 * (i 2).val + 1

theorem diagK0_pt : ∀ (a : Fin 4) (b : Fin 2) (x : Fin 8), k0_off1 (pt a b x) = ![0, 256 * (2 * x.val), 0] ∧ k0_off2 (pt a b x) = ![1, 256 * (2 * x.val), 0] ∧ k0_off3 (pt a b x) = ![2, 256 * (2 * x.val), 0] ∧ k0_off4 (pt a b x) = ![3, 256 * (2 * x.val), 0] ∧ k0_off5 (pt a b x) = ![4, 256 * (2 * x.val), 0] ∧ k0_off6 (pt a b x) = ![5, 256 * (2 * x.val), 0] ∧ k0_off7 (pt a b x) = ![6, 256 * (2 * x.val), 0] ∧ k0_off8 (pt a b x) = ![7, 256 * (2 * x.val), 0] := by
  decide +kernel

/-- Starts, head by head. -/
theorem diagK0 (i : grid0.Coords) : k0_off1 i = ![0, 256 * (2 * (i 2).val), 0] ∧ k0_off2 i = ![1, 256 * (2 * (i 2).val), 0] ∧ k0_off3 i = ![2, 256 * (2 * (i 2).val), 0] ∧ k0_off4 i = ![3, 256 * (2 * (i 2).val), 0] ∧ k0_off5 i = ![4, 256 * (2 * (i 2).val), 0] ∧ k0_off6 i = ![5, 256 * (2 * (i 2).val), 0] ∧ k0_off7 i = ![6, 256 * (2 * (i 2).val), 0] ∧ k0_off8 i = ![7, 256 * (2 * (i 2).val), 0] := by
  rw [eq_pt i]; exact diagK0_pt _ _ _

theorem prevK0_pt : ∀ (a : Fin 4) (b : Fin 2) (x : Fin 8), k0_off9 (pt a b x) = ![0, 256 * (2 * x.val - 1), 0] ∧ k0_off10 (pt a b x) = ![1, 256 * (2 * x.val - 1), 0] ∧ k0_off11 (pt a b x) = ![2, 256 * (2 * x.val - 1), 0] ∧ k0_off12 (pt a b x) = ![3, 256 * (2 * x.val - 1), 0] ∧ k0_off13 (pt a b x) = ![4, 256 * (2 * x.val - 1), 0] ∧ k0_off14 (pt a b x) = ![5, 256 * (2 * x.val - 1), 0] ∧ k0_off15 (pt a b x) = ![6, 256 * (2 * x.val - 1), 0] ∧ k0_off16 (pt a b x) = ![7, 256 * (2 * x.val - 1), 0] := by
  decide +kernel

/-- Starts, head by head. -/
theorem prevK0 (i : grid0.Coords) : k0_off9 i = ![0, 256 * (2 * (i 2).val - 1), 0] ∧ k0_off10 i = ![1, 256 * (2 * (i 2).val - 1), 0] ∧ k0_off11 i = ![2, 256 * (2 * (i 2).val - 1), 0] ∧ k0_off12 i = ![3, 256 * (2 * (i 2).val - 1), 0] ∧ k0_off13 i = ![4, 256 * (2 * (i 2).val - 1), 0] ∧ k0_off14 i = ![5, 256 * (2 * (i 2).val - 1), 0] ∧ k0_off15 i = ![6, 256 * (2 * (i 2).val - 1), 0] ∧ k0_off16 i = ![7, 256 * (2 * (i 2).val - 1), 0] := by
  rw [eq_pt i]; exact prevK0_pt _ _ _

theorem diagV0_pt : ∀ (a : Fin 4) (b : Fin 2) (x : Fin 8), k0_off17 (pt a b x) = ![0, 0, 256 * (2 * x.val)] ∧ k0_off18 (pt a b x) = ![1, 0, 256 * (2 * x.val)] ∧ k0_off19 (pt a b x) = ![2, 0, 256 * (2 * x.val)] ∧ k0_off20 (pt a b x) = ![3, 0, 256 * (2 * x.val)] ∧ k0_off21 (pt a b x) = ![4, 0, 256 * (2 * x.val)] ∧ k0_off22 (pt a b x) = ![5, 0, 256 * (2 * x.val)] ∧ k0_off23 (pt a b x) = ![6, 0, 256 * (2 * x.val)] ∧ k0_off24 (pt a b x) = ![7, 0, 256 * (2 * x.val)] := by
  decide +kernel

/-- Starts, head by head. -/
theorem diagV0 (i : grid0.Coords) : k0_off17 i = ![0, 0, 256 * (2 * (i 2).val)] ∧ k0_off18 i = ![1, 0, 256 * (2 * (i 2).val)] ∧ k0_off19 i = ![2, 0, 256 * (2 * (i 2).val)] ∧ k0_off20 i = ![3, 0, 256 * (2 * (i 2).val)] ∧ k0_off21 i = ![4, 0, 256 * (2 * (i 2).val)] ∧ k0_off22 i = ![5, 0, 256 * (2 * (i 2).val)] ∧ k0_off23 i = ![6, 0, 256 * (2 * (i 2).val)] ∧ k0_off24 i = ![7, 0, 256 * (2 * (i 2).val)] := by
  rw [eq_pt i]; exact diagV0_pt _ _ _

theorem prevV0_pt : ∀ (a : Fin 4) (b : Fin 2) (x : Fin 8), k0_off25 (pt a b x) = ![0, 0, 256 * (2 * x.val - 1)] ∧ k0_off26 (pt a b x) = ![1, 0, 256 * (2 * x.val - 1)] ∧ k0_off27 (pt a b x) = ![2, 0, 256 * (2 * x.val - 1)] ∧ k0_off28 (pt a b x) = ![3, 0, 256 * (2 * x.val - 1)] ∧ k0_off29 (pt a b x) = ![4, 0, 256 * (2 * x.val - 1)] ∧ k0_off30 (pt a b x) = ![5, 0, 256 * (2 * x.val - 1)] ∧ k0_off31 (pt a b x) = ![6, 0, 256 * (2 * x.val - 1)] ∧ k0_off32 (pt a b x) = ![7, 0, 256 * (2 * x.val - 1)] := by
  decide +kernel

/-- Starts, head by head. -/
theorem prevV0 (i : grid0.Coords) : k0_off25 i = ![0, 0, 256 * (2 * (i 2).val - 1)] ∧ k0_off26 i = ![1, 0, 256 * (2 * (i 2).val - 1)] ∧ k0_off27 i = ![2, 0, 256 * (2 * (i 2).val - 1)] ∧ k0_off28 i = ![3, 0, 256 * (2 * (i 2).val - 1)] ∧ k0_off29 i = ![4, 0, 256 * (2 * (i 2).val - 1)] ∧ k0_off30 i = ![5, 0, 256 * (2 * (i 2).val - 1)] ∧ k0_off31 i = ![6, 0, 256 * (2 * (i 2).val - 1)] ∧ k0_off32 i = ![7, 0, 256 * (2 * (i 2).val - 1)] := by
  rw [eq_pt i]; exact prevV0_pt _ _ _

theorem diagK1_pt : ∀ (a : Fin 4) (b : Fin 2) (x : Fin 8), k0_off65 (pt a b x) = ![0, 256 * (2 * x.val + 1), 0] ∧ k0_off66 (pt a b x) = ![1, 256 * (2 * x.val + 1), 0] ∧ k0_off67 (pt a b x) = ![2, 256 * (2 * x.val + 1), 0] ∧ k0_off68 (pt a b x) = ![3, 256 * (2 * x.val + 1), 0] ∧ k0_off69 (pt a b x) = ![4, 256 * (2 * x.val + 1), 0] ∧ k0_off70 (pt a b x) = ![5, 256 * (2 * x.val + 1), 0] ∧ k0_off71 (pt a b x) = ![6, 256 * (2 * x.val + 1), 0] ∧ k0_off72 (pt a b x) = ![7, 256 * (2 * x.val + 1), 0] := by
  decide +kernel

/-- Starts, head by head. -/
theorem diagK1 (i : grid0.Coords) : k0_off65 i = ![0, 256 * (2 * (i 2).val + 1), 0] ∧ k0_off66 i = ![1, 256 * (2 * (i 2).val + 1), 0] ∧ k0_off67 i = ![2, 256 * (2 * (i 2).val + 1), 0] ∧ k0_off68 i = ![3, 256 * (2 * (i 2).val + 1), 0] ∧ k0_off69 i = ![4, 256 * (2 * (i 2).val + 1), 0] ∧ k0_off70 i = ![5, 256 * (2 * (i 2).val + 1), 0] ∧ k0_off71 i = ![6, 256 * (2 * (i 2).val + 1), 0] ∧ k0_off72 i = ![7, 256 * (2 * (i 2).val + 1), 0] := by
  rw [eq_pt i]; exact diagK1_pt _ _ _

theorem prevK1_pt : ∀ (a : Fin 4) (b : Fin 2) (x : Fin 8), k0_off73 (pt a b x) = ![0, 256 * (2 * x.val + 1 - 1), 0] ∧ k0_off74 (pt a b x) = ![1, 256 * (2 * x.val + 1 - 1), 0] ∧ k0_off75 (pt a b x) = ![2, 256 * (2 * x.val + 1 - 1), 0] ∧ k0_off76 (pt a b x) = ![3, 256 * (2 * x.val + 1 - 1), 0] ∧ k0_off77 (pt a b x) = ![4, 256 * (2 * x.val + 1 - 1), 0] ∧ k0_off78 (pt a b x) = ![5, 256 * (2 * x.val + 1 - 1), 0] ∧ k0_off79 (pt a b x) = ![6, 256 * (2 * x.val + 1 - 1), 0] ∧ k0_off80 (pt a b x) = ![7, 256 * (2 * x.val + 1 - 1), 0] := by
  decide +kernel

/-- Starts, head by head. -/
theorem prevK1 (i : grid0.Coords) : k0_off73 i = ![0, 256 * (2 * (i 2).val + 1 - 1), 0] ∧ k0_off74 i = ![1, 256 * (2 * (i 2).val + 1 - 1), 0] ∧ k0_off75 i = ![2, 256 * (2 * (i 2).val + 1 - 1), 0] ∧ k0_off76 i = ![3, 256 * (2 * (i 2).val + 1 - 1), 0] ∧ k0_off77 i = ![4, 256 * (2 * (i 2).val + 1 - 1), 0] ∧ k0_off78 i = ![5, 256 * (2 * (i 2).val + 1 - 1), 0] ∧ k0_off79 i = ![6, 256 * (2 * (i 2).val + 1 - 1), 0] ∧ k0_off80 i = ![7, 256 * (2 * (i 2).val + 1 - 1), 0] := by
  rw [eq_pt i]; exact prevK1_pt _ _ _

theorem diagV1_pt : ∀ (a : Fin 4) (b : Fin 2) (x : Fin 8), k0_off81 (pt a b x) = ![0, 0, 256 * (2 * x.val + 1)] ∧ k0_off82 (pt a b x) = ![1, 0, 256 * (2 * x.val + 1)] ∧ k0_off83 (pt a b x) = ![2, 0, 256 * (2 * x.val + 1)] ∧ k0_off84 (pt a b x) = ![3, 0, 256 * (2 * x.val + 1)] ∧ k0_off85 (pt a b x) = ![4, 0, 256 * (2 * x.val + 1)] ∧ k0_off86 (pt a b x) = ![5, 0, 256 * (2 * x.val + 1)] ∧ k0_off87 (pt a b x) = ![6, 0, 256 * (2 * x.val + 1)] ∧ k0_off88 (pt a b x) = ![7, 0, 256 * (2 * x.val + 1)] := by
  decide +kernel

/-- Starts, head by head. -/
theorem diagV1 (i : grid0.Coords) : k0_off81 i = ![0, 0, 256 * (2 * (i 2).val + 1)] ∧ k0_off82 i = ![1, 0, 256 * (2 * (i 2).val + 1)] ∧ k0_off83 i = ![2, 0, 256 * (2 * (i 2).val + 1)] ∧ k0_off84 i = ![3, 0, 256 * (2 * (i 2).val + 1)] ∧ k0_off85 i = ![4, 0, 256 * (2 * (i 2).val + 1)] ∧ k0_off86 i = ![5, 0, 256 * (2 * (i 2).val + 1)] ∧ k0_off87 i = ![6, 0, 256 * (2 * (i 2).val + 1)] ∧ k0_off88 i = ![7, 0, 256 * (2 * (i 2).val + 1)] := by
  rw [eq_pt i]; exact diagV1_pt _ _ _

theorem prevV1_pt : ∀ (a : Fin 4) (b : Fin 2) (x : Fin 8), k0_off89 (pt a b x) = ![0, 0, 256 * (2 * x.val + 1 - 1)] ∧ k0_off90 (pt a b x) = ![1, 0, 256 * (2 * x.val + 1 - 1)] ∧ k0_off91 (pt a b x) = ![2, 0, 256 * (2 * x.val + 1 - 1)] ∧ k0_off92 (pt a b x) = ![3, 0, 256 * (2 * x.val + 1 - 1)] ∧ k0_off93 (pt a b x) = ![4, 0, 256 * (2 * x.val + 1 - 1)] ∧ k0_off94 (pt a b x) = ![5, 0, 256 * (2 * x.val + 1 - 1)] ∧ k0_off95 (pt a b x) = ![6, 0, 256 * (2 * x.val + 1 - 1)] ∧ k0_off96 (pt a b x) = ![7, 0, 256 * (2 * x.val + 1 - 1)] := by
  decide +kernel

/-- Starts, head by head. -/
theorem prevV1 (i : grid0.Coords) : k0_off89 i = ![0, 0, 256 * (2 * (i 2).val + 1 - 1)] ∧ k0_off90 i = ![1, 0, 256 * (2 * (i 2).val + 1 - 1)] ∧ k0_off91 i = ![2, 0, 256 * (2 * (i 2).val + 1 - 1)] ∧ k0_off92 i = ![3, 0, 256 * (2 * (i 2).val + 1 - 1)] ∧ k0_off93 i = ![4, 0, 256 * (2 * (i 2).val + 1 - 1)] ∧ k0_off94 i = ![5, 0, 256 * (2 * (i 2).val + 1 - 1)] ∧ k0_off95 i = ![6, 0, 256 * (2 * (i 2).val + 1 - 1)] ∧ k0_off96 i = ![7, 0, 256 * (2 * (i 2).val + 1 - 1)] := by
  rw [eq_pt i]; exact prevV1_pt _ _ _

theorem loopK0_pt : ∀ (a : Fin 4) (b : Fin 2) (x : Fin 8) (v : BitVec 1) (k : Fin (k0_t1_loop (pt a b x) v).trips), k0_off33 (pt a b x) v k = ![0, 256 * (2 * x.val - 2 - k.val), 0] ∧ k0_off34 (pt a b x) v k = ![1, 256 * (2 * x.val - 2 - k.val), 0] ∧ k0_off35 (pt a b x) v k = ![2, 256 * (2 * x.val - 2 - k.val), 0] ∧ k0_off36 (pt a b x) v k = ![3, 256 * (2 * x.val - 2 - k.val), 0] ∧ k0_off37 (pt a b x) v k = ![4, 256 * (2 * x.val - 2 - k.val), 0] ∧ k0_off38 (pt a b x) v k = ![5, 256 * (2 * x.val - 2 - k.val), 0] ∧ k0_off39 (pt a b x) v k = ![6, 256 * (2 * x.val - 2 - k.val), 0] ∧ k0_off40 (pt a b x) v k = ![7, 256 * (2 * x.val - 2 - k.val), 0] := by
  decide +kernel

/-- Starts in a trip, head by head. -/
theorem loopK0 (i : grid0.Coords) (v : BitVec 1) (k : Fin (k0_t1_loop i v).trips) : k0_off33 i v k = ![0, 256 * (2 * (i 2).val - 2 - k.val), 0] ∧ k0_off34 i v k = ![1, 256 * (2 * (i 2).val - 2 - k.val), 0] ∧ k0_off35 i v k = ![2, 256 * (2 * (i 2).val - 2 - k.val), 0] ∧ k0_off36 i v k = ![3, 256 * (2 * (i 2).val - 2 - k.val), 0] ∧ k0_off37 i v k = ![4, 256 * (2 * (i 2).val - 2 - k.val), 0] ∧ k0_off38 i v k = ![5, 256 * (2 * (i 2).val - 2 - k.val), 0] ∧ k0_off39 i v k = ![6, 256 * (2 * (i 2).val - 2 - k.val), 0] ∧ k0_off40 i v k = ![7, 256 * (2 * (i 2).val - 2 - k.val), 0] := by
  obtain ⟨a, b, x, rfl⟩ : ∃ a b x, i = pt a b x := ⟨_, _, _, eq_pt i⟩
  exact loopK0_pt a b x v k

theorem loopV0_pt : ∀ (a : Fin 4) (b : Fin 2) (x : Fin 8) (v : BitVec 1) (k : Fin (k0_t1_loop (pt a b x) v).trips), k0_off41 (pt a b x) v k = ![0, 0, 256 * (2 * x.val - 2 - k.val)] ∧ k0_off42 (pt a b x) v k = ![1, 0, 256 * (2 * x.val - 2 - k.val)] ∧ k0_off43 (pt a b x) v k = ![2, 0, 256 * (2 * x.val - 2 - k.val)] ∧ k0_off44 (pt a b x) v k = ![3, 0, 256 * (2 * x.val - 2 - k.val)] ∧ k0_off45 (pt a b x) v k = ![4, 0, 256 * (2 * x.val - 2 - k.val)] ∧ k0_off46 (pt a b x) v k = ![5, 0, 256 * (2 * x.val - 2 - k.val)] ∧ k0_off47 (pt a b x) v k = ![6, 0, 256 * (2 * x.val - 2 - k.val)] ∧ k0_off48 (pt a b x) v k = ![7, 0, 256 * (2 * x.val - 2 - k.val)] := by
  decide +kernel

/-- Starts in a trip, head by head. -/
theorem loopV0 (i : grid0.Coords) (v : BitVec 1) (k : Fin (k0_t1_loop i v).trips) : k0_off41 i v k = ![0, 0, 256 * (2 * (i 2).val - 2 - k.val)] ∧ k0_off42 i v k = ![1, 0, 256 * (2 * (i 2).val - 2 - k.val)] ∧ k0_off43 i v k = ![2, 0, 256 * (2 * (i 2).val - 2 - k.val)] ∧ k0_off44 i v k = ![3, 0, 256 * (2 * (i 2).val - 2 - k.val)] ∧ k0_off45 i v k = ![4, 0, 256 * (2 * (i 2).val - 2 - k.val)] ∧ k0_off46 i v k = ![5, 0, 256 * (2 * (i 2).val - 2 - k.val)] ∧ k0_off47 i v k = ![6, 0, 256 * (2 * (i 2).val - 2 - k.val)] ∧ k0_off48 i v k = ![7, 0, 256 * (2 * (i 2).val - 2 - k.val)] := by
  obtain ⟨a, b, x, rfl⟩ : ∃ a b x, i = pt a b x := ⟨_, _, _, eq_pt i⟩
  exact loopV0_pt a b x v k

theorem loopK1_pt : ∀ (a : Fin 4) (b : Fin 2) (x : Fin 8) (v : BitVec 1) (k : Fin (k0_t3_loop (pt a b x) v).trips), k0_off97 (pt a b x) v k = ![0, 256 * (2 * x.val + 1 - 2 - k.val), 0] ∧ k0_off98 (pt a b x) v k = ![1, 256 * (2 * x.val + 1 - 2 - k.val), 0] ∧ k0_off99 (pt a b x) v k = ![2, 256 * (2 * x.val + 1 - 2 - k.val), 0] ∧ k0_off100 (pt a b x) v k = ![3, 256 * (2 * x.val + 1 - 2 - k.val), 0] ∧ k0_off101 (pt a b x) v k = ![4, 256 * (2 * x.val + 1 - 2 - k.val), 0] ∧ k0_off102 (pt a b x) v k = ![5, 256 * (2 * x.val + 1 - 2 - k.val), 0] ∧ k0_off103 (pt a b x) v k = ![6, 256 * (2 * x.val + 1 - 2 - k.val), 0] ∧ k0_off104 (pt a b x) v k = ![7, 256 * (2 * x.val + 1 - 2 - k.val), 0] := by
  decide +kernel

/-- Starts in a trip, head by head. -/
theorem loopK1 (i : grid0.Coords) (v : BitVec 1) (k : Fin (k0_t3_loop i v).trips) : k0_off97 i v k = ![0, 256 * (2 * (i 2).val + 1 - 2 - k.val), 0] ∧ k0_off98 i v k = ![1, 256 * (2 * (i 2).val + 1 - 2 - k.val), 0] ∧ k0_off99 i v k = ![2, 256 * (2 * (i 2).val + 1 - 2 - k.val), 0] ∧ k0_off100 i v k = ![3, 256 * (2 * (i 2).val + 1 - 2 - k.val), 0] ∧ k0_off101 i v k = ![4, 256 * (2 * (i 2).val + 1 - 2 - k.val), 0] ∧ k0_off102 i v k = ![5, 256 * (2 * (i 2).val + 1 - 2 - k.val), 0] ∧ k0_off103 i v k = ![6, 256 * (2 * (i 2).val + 1 - 2 - k.val), 0] ∧ k0_off104 i v k = ![7, 256 * (2 * (i 2).val + 1 - 2 - k.val), 0] := by
  obtain ⟨a, b, x, rfl⟩ : ∃ a b x, i = pt a b x := ⟨_, _, _, eq_pt i⟩
  exact loopK1_pt a b x v k

theorem loopV1_pt : ∀ (a : Fin 4) (b : Fin 2) (x : Fin 8) (v : BitVec 1) (k : Fin (k0_t3_loop (pt a b x) v).trips), k0_off105 (pt a b x) v k = ![0, 0, 256 * (2 * x.val + 1 - 2 - k.val)] ∧ k0_off106 (pt a b x) v k = ![1, 0, 256 * (2 * x.val + 1 - 2 - k.val)] ∧ k0_off107 (pt a b x) v k = ![2, 0, 256 * (2 * x.val + 1 - 2 - k.val)] ∧ k0_off108 (pt a b x) v k = ![3, 0, 256 * (2 * x.val + 1 - 2 - k.val)] ∧ k0_off109 (pt a b x) v k = ![4, 0, 256 * (2 * x.val + 1 - 2 - k.val)] ∧ k0_off110 (pt a b x) v k = ![5, 0, 256 * (2 * x.val + 1 - 2 - k.val)] ∧ k0_off111 (pt a b x) v k = ![6, 0, 256 * (2 * x.val + 1 - 2 - k.val)] ∧ k0_off112 (pt a b x) v k = ![7, 0, 256 * (2 * x.val + 1 - 2 - k.val)] := by
  decide +kernel

/-- Starts in a trip, head by head. -/
theorem loopV1 (i : grid0.Coords) (v : BitVec 1) (k : Fin (k0_t3_loop i v).trips) : k0_off105 i v k = ![0, 0, 256 * (2 * (i 2).val + 1 - 2 - k.val)] ∧ k0_off106 i v k = ![1, 0, 256 * (2 * (i 2).val + 1 - 2 - k.val)] ∧ k0_off107 i v k = ![2, 0, 256 * (2 * (i 2).val + 1 - 2 - k.val)] ∧ k0_off108 i v k = ![3, 0, 256 * (2 * (i 2).val + 1 - 2 - k.val)] ∧ k0_off109 i v k = ![4, 0, 256 * (2 * (i 2).val + 1 - 2 - k.val)] ∧ k0_off110 i v k = ![5, 0, 256 * (2 * (i 2).val + 1 - 2 - k.val)] ∧ k0_off111 i v k = ![6, 0, 256 * (2 * (i 2).val + 1 - 2 - k.val)] ∧ k0_off112 i v k = ![7, 0, 256 * (2 * (i 2).val + 1 - 2 - k.val)] := by
  obtain ⟨a, b, x, rfl⟩ : ∃ a b x, i = pt a b x := ⟨_, _, _, eq_pt i⟩
  exact loopV1_pt a b x v k

theorem trips1_pt : ∀ (a : Fin 4) (b : Fin 2) (x : Fin 8), (k0_t1_loop (pt a b x) 1#1).trips = 2 * x.val - 1 := by
  decide +kernel

/-- How many trips the loop makes when nothing is given up early. -/
theorem trips1 (i : grid0.Coords) : (k0_t1_loop i 1#1).trips = 2 * (i 2).val - 1 := by
  rw [eq_pt i]; exact trips1_pt _ _ _

theorem trips1_le_pt : ∀ (a : Fin 4) (b : Fin 2) (x : Fin 8) (v : BitVec 1), (k0_t1_loop (pt a b x) v).trips ≤ 14 := by
  decide +kernel

theorem trips3_pt : ∀ (a : Fin 4) (b : Fin 2) (x : Fin 8), (k0_t3_loop (pt a b x) 1#1).trips = 2 * x.val + 1 - 1 := by
  decide +kernel

/-- How many trips the loop makes when nothing is given up early. -/
theorem trips3 (i : grid0.Coords) : (k0_t3_loop i 1#1).trips = 2 * (i 2).val + 1 - 1 := by
  rw [eq_pt i]; exact trips3_pt _ _ _

theorem trips3_le_pt : ∀ (a : Fin 4) (b : Fin 2) (x : Fin 8) (v : BitVec 1), (k0_t3_loop (pt a b x) v).trips ≤ 14 := by
  decide +kernel

theorem trips2_pt : ∀ (a : Fin 4) (b : Fin 2) (x : Fin 8) (v : BitVec 1), (k0_t2_loop (pt a b x) v).trips = 0 := by
  decide +kernel

/-- The remainder loop makes no trip. -/
theorem trips2 (i : grid0.Coords) (v : BitVec 1) : (k0_t2_loop i v).trips = 0 := by
  rw [eq_pt i]; exact trips2_pt _ _ _ v

theorem trips4_pt : ∀ (a : Fin 4) (b : Fin 2) (x : Fin 8) (v : BitVec 1), (k0_t4_loop (pt a b x) v).trips = 0 := by
  decide +kernel

/-- The remainder loop makes no trip. -/
theorem trips4 (i : grid0.Coords) (v : BitVec 1) : (k0_t4_loop i v).trips = 0 := by
  rw [eq_pt i]; exact trips4_pt _ _ _ v

end Cert.KernelIdeal.Own
-- ==== Proof.OwnI.Read.lean ====
/- What the body's loads read: a head's block of keys, of queries and of values, and the accumulator's blocks after the
   stores. -/
module

public import proofs.«01_k».proof.Proof.OwnI.Spec
public import Idealize.ShloMosaic.Lib.Pipeline.FrameBody
public import Idealize.ShloMosaic.Lib.Pipeline.ReadBack
public import Idealize.ShloMosaic.Lib.Pointwise.Index

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- Head `h`'s keys of block `j`. -/
def KB (X : S8x4096x128.Idx → Elt F .bf16) (h : Fin 8) (j : ℕ) : Vec F S1x256x128 .bf16 :=
  fun x => X (ix3 h ⟨(256 * j + (x 1).val) % 4096, Nat.mod_lt _ (by norm_num)⟩ ⟨(x 2).val, (x 2).isLt⟩)

/-- Head `h`'s queries of the program's query block `s`. -/
def QB (X : S8x512x128.Idx → Elt F .bf16) (s : ℕ) (h : Fin 8) : Vec F S1x256x128 .bf16 :=
  fun x => X (ix3 h ⟨(256 * s + (x 1).val) % 512, Nat.mod_lt _ (by norm_num)⟩ ⟨(x 2).val, (x 2).isLt⟩)

/-- Head `h`'s values of block `j`, a row per feature. -/
def VB (X : S8x128x4096.Idx → Elt F .bf16) (h : Fin 8) (j : ℕ) : Vec F S1x128x256 .bf16 :=
  fun x => X (ix3 h ⟨(x 1).val, (x 1).isLt⟩ ⟨(256 * j + (x 2).val) % 4096, Nat.mod_lt _ (by norm_num)⟩)

theorem readK (m : Memref sig .tc .vmem S8x4096x128 .bf16) (X : BufTy.Contents (Elt F) m.view.ty) (off : Fin 3 → ℕ) (h : Fin 8) (j : ℕ)
    (e : off = ![h.val, 256 * j, 0]) (inb : ∀ a, off a + S1x256x128.size a ≤ S8x4096x128.size a) :
    View.readAt (Elt F) m.view (Rect.unit (s := S8x4096x128) off S1x256x128.size inb).toLoadRect X
      = KB (m.view.read (Elt F) X) h j := by
  subst e
  funext x
  rw [View.readAt_eq_ld]
  have hj := inb 1
  have h1 := (x 1).isLt
  have h0 := (x 0).isLt
  simp only [Rect.unit, S1x256x128, S8x4096x128, Matrix.cons_val_one, Matrix.cons_val_zero, LoadRect.shape] at hj h1 h0
  unfold KB
  refine congrArg (m.view.read (Elt F) X) (funext fun a => ?_)
  fin_cases a
  · apply Fin.ext; show h.val + 1 * (x 0).val = h.val; omega
  · apply Fin.ext; show 256 * j + 1 * (x 1).val = (256 * j + (x 1).val) % 4096; omega
  · apply Fin.ext; show 0 + 1 * (x 2).val = (x 2).val; omega

theorem readQ (m : Memref sig .tc .vmem S8x512x128 .bf16) (X : BufTy.Contents (Elt F) m.view.ty) (off : Fin 3 → ℕ) (h : Fin 8) (s : ℕ)
    (e : off = ![h.val, 256 * s, 0]) (inb : ∀ a, off a + S1x256x128.size a ≤ S8x512x128.size a) :
    View.readAt (Elt F) m.view (Rect.unit (s := S8x512x128) off S1x256x128.size inb).toLoadRect X
      = QB (m.view.read (Elt F) X) s h := by
  subst e
  funext x
  rw [View.readAt_eq_ld]
  have hj := inb 1
  have h1 := (x 1).isLt
  have h0 := (x 0).isLt
  simp only [Rect.unit, S1x256x128, S8x512x128, Matrix.cons_val_one, Matrix.cons_val_zero, LoadRect.shape] at hj h1 h0
  unfold QB
  refine congrArg (m.view.read (Elt F) X) (funext fun a => ?_)
  fin_cases a
  · apply Fin.ext; show h.val + 1 * (x 0).val = h.val; omega
  · apply Fin.ext; show 256 * s + 1 * (x 1).val = (256 * s + (x 1).val) % 512; omega
  · apply Fin.ext; show 0 + 1 * (x 2).val = (x 2).val; omega

theorem readV (m : Memref sig .tc .vmem S8x128x4096 .bf16) (X : BufTy.Contents (Elt F) m.view.ty) (off : Fin 3 → ℕ) (h : Fin 8) (j : ℕ)
    (e : off = ![h.val, 0, 256 * j]) (inb : ∀ a, off a + S1x128x256.size a ≤ S8x128x4096.size a) :
    View.readAt (Elt F) m.view (Rect.unit (s := S8x128x4096) off S1x128x256.size inb).toLoadRect X
      = VB (m.view.read (Elt F) X) h j := by
  subst e
  funext x
  rw [View.readAt_eq_ld]
  have hj := inb 2
  have h2 := (x 2).isLt
  have h0 := (x 0).isLt
  simp only [Rect.unit, S1x128x256, S8x128x4096, LoadRect.shape] at hj h2 h0
  change 256 * j + 256 ≤ 4096 at hj
  change (x 2).val < 256 at h2
  change (x 0).val < 1 at h0
  unfold VB
  refine congrArg (m.view.read (Elt F) X) (funext fun a => ?_)
  fin_cases a
  · apply Fin.ext; show h.val + 1 * (x 0).val = h.val; omega
  · apply Fin.ext; show 0 + 1 * (x 1).val = (x 1).val; omega
  · apply Fin.ext; show 256 * j + 1 * (x 2).val = (256 * j + (x 2).val) % 4096; omega

theorem readL (m : Memref sig .tc .vmem S256x512 .bf16) (X : BufTy.Contents (Elt F) m.view.ty)
    (inb : ∀ a, (![0, 0] : Fin 2 → ℕ) a + S256x512.size a ≤ S256x512.size a) :
    View.readAt (Elt F) m.view (Rect.unit (s := S256x512) ![0, 0] S256x512.size inb).toLoadRect X = m.view.read (Elt F) X := by
  rw [View.readAt_eq_ld]
  exact View.ld_unit_zero (funext fun a => by fin_cases a <;> rfl) inb _

/-- The triangle as the body loads it. -/
def rL (m : Memref sig .tc .vmem S256x512 .bf16) (X : BufTy.Contents (Elt F) m.view.ty) : Vec F S256x512 .bf16 :=
  View.readAt (Elt F) m.view (Rect.unit (s := S256x512) ![0, 0] S256x512.size inb_S256x512_S256x512_0_0).toLoadRect X
/-- Keys as the body loads them. -/
def rK (m : Memref sig .tc .vmem S8x4096x128 .bf16) (X : BufTy.Contents (Elt F) m.view.ty) (off : Fin 3 → ℕ)
    (inb : ∀ a, off a + S1x256x128.size a ≤ S8x4096x128.size a) : Vec F S1x256x128 .bf16 :=
  View.readAt (Elt F) m.view (Rect.unit (s := S8x4096x128) off S1x256x128.size inb).toLoadRect X
/-- Queries as the body loads them. -/
def rQ (m : Memref sig .tc .vmem S8x512x128 .bf16) (X : BufTy.Contents (Elt F) m.view.ty) (off : Fin 3 → ℕ)
    (inb : ∀ a, off a + S1x256x128.size a ≤ S8x512x128.size a) : Vec F S1x256x128 .bf16 :=
  View.readAt (Elt F) m.view (Rect.unit (s := S8x512x128) off S1x256x128.size inb).toLoadRect X
/-- Values as the body loads them. -/
def rV (m : Memref sig .tc .vmem S8x128x4096 .bf16) (X : BufTy.Contents (Elt F) m.view.ty) (off : Fin 3 → ℕ)
    (inb : ∀ a, off a + S1x128x256.size a ≤ S8x128x4096.size a) : Vec F S1x128x256 .bf16 :=
  View.readAt (Elt F) m.view (Rect.unit (s := S8x128x4096) off S1x128x256.size inb).toLoadRect X

theorem rL_eq (m : Memref sig .tc .vmem S256x512 .bf16) (X : BufTy.Contents (Elt F) m.view.ty) : rL m X = m.view.read (Elt F) X :=
  readL m X _
theorem rK_eq (m : Memref sig .tc .vmem S8x4096x128 .bf16) (X : BufTy.Contents (Elt F) m.view.ty) (off : Fin 3 → ℕ) (h : Fin 8) (j : ℕ)
    (e : off = ![h.val, 256 * j, 0]) (inb : ∀ a, off a + S1x256x128.size a ≤ S8x4096x128.size a) :
    rK m X off inb = KB (m.view.read (Elt F) X) h j := readK m X off h j e inb
theorem rQ_eq (m : Memref sig .tc .vmem S8x512x128 .bf16) (X : BufTy.Contents (Elt F) m.view.ty) (off : Fin 3 → ℕ) (h : Fin 8) (s : ℕ)
    (e : off = ![h.val, 256 * s, 0]) (inb : ∀ a, off a + S1x256x128.size a ≤ S8x512x128.size a) :
    rQ m X off inb = QB (m.view.read (Elt F) X) s h := readQ m X off h s e inb
theorem rV_eq (m : Memref sig .tc .vmem S8x128x4096 .bf16) (X : BufTy.Contents (Elt F) m.view.ty) (off : Fin 3 → ℕ) (h : Fin 8) (j : ℕ)
    (e : off = ![h.val, 0, 256 * j]) (inb : ∀ a, off a + S1x128x256.size a ≤ S8x128x4096.size a) :
    rV m X off inb = VB (m.view.read (Elt F) X) h j := readV m X off h j e inb

/-- The values of a block, or zeros where there is no such block. -/
def kV (b : BitVec 1) (v : FVec F S128x256 .bf16) : FVec F S128x256 .bf16 :=
  Scalar.select b v (broadcast S128x256 (Scalar.ofBits .bf16 0x0000#16))

theorem rc_inb (s h : ℕ) (hs : s < 2) (hh : h < 8) : ∀ a, (![s, h, 0, 0] : Fin 4 → ℕ) a + S1x1x128x256.size a ≤ S2x8x128x256.size a := fun a => by
  fin_cases a
  · show s + 1 ≤ 2; omega
  · show h + 1 ≤ 8; omega
  · show 0 + 128 ≤ 128; omega
  · show 0 + 256 ≤ 256; omega

/-- The accumulator's block of query block `s` and head `h`. -/
abbrev rc (s h : ℕ) (hs : s < 2) (hh : h < 8) : Rect S2x8x128x256 :=
  Rect.unit (s := S2x8x128x256) ![s, h, 0, 0] S1x1x128x256.size (rc_inb s h hs hh)

theorem rc_disj {s h s' h' : ℕ} {hs : s < 2} {hh : h < 8} {hs' : s' < 2} {hh' : h' < 8} (e : s ≠ s' ∨ h ≠ h') :
    LoadRect.disj (rc s h hs hh) (rc s' h' hs' hh').toLoadRect = true := by
  unfold LoadRect.disj
  refine decide_eq_true ?_
  rcases e with e | e
  · refine ⟨0, Or.inr (Or.inr ?_)⟩
    show s + 1 * (1 - 1) < s' ∨ s' + 1 * (1 - 1) < s
    omega
  · refine ⟨1, Or.inr (Or.inr ?_)⟩
    show h + 1 * (1 - 1) < h' ∨ h' + 1 * (1 - 1) < h
    omega

section
variable {sg : RefSig} {κ' : Kind} {sp : Space} (v : View sg κ' sp S2x8x128x256 .f32)

/-- A load of a block just stored. -/
theorem rd_hit (s h : ℕ) (hs : s < 2) (hh : h < 8) (w : (rc s h hs hh).shape.Idx → Elt F .f32) (L : List (View.Piece (Elt F) S2x8x128x256 .f32)) :
    v.readCov (⟨rc s h hs hh, w⟩ :: L) (rc s h hs hh).toLoadRect = w := by
  exact View.readCov_cons_toLoadRect v (rc s h hs hh) w L

/-- A load of another block than the one just stored. -/
theorem rd_skip (s h s' h' : ℕ) (hs : s < 2) (hh : h < 8) (hs' : s' < 2) (hh' : h' < 8) (e : s ≠ s' ∨ h ≠ h') (w : (rc s h hs hh).shape.Idx → Elt F .f32)
    (L : List (View.Piece (Elt F) S2x8x128x256 .f32)) :
    v.readCov (⟨rc s h hs hh, w⟩ :: L) (rc s' h' hs' hh').toLoadRect = v.readCov L (rc s' h' hs' hh').toLoadRect := by
  exact View.readCov_skip v (rc s h hs hh) w L _ (rc_disj e)

/-- The same, the blocks given by their places. -/
theorem rd_skipF (s : Fin 2) (h : Fin 8) (s' : Fin 2) (h' : Fin 8) (e : s.val ≠ s'.val ∨ h.val ≠ h'.val) (w : (rc s.val h.val s.2 h.2).shape.Idx → Elt F .f32)
    (L : List (View.Piece (Elt F) S2x8x128x256 .f32)) :
    v.readCov (⟨rc s.val h.val s.2 h.2, w⟩ :: L) (rc s'.val h'.val s'.2 h'.2).toLoadRect = v.readCov L (rc s'.val h'.val s'.2 h'.2).toLoadRect :=
  rd_skip v _ _ _ _ _ _ _ _ e w L

/-- The eight heads' blocks, last first. -/
def pcs (s : ℕ) (hs : s < 2) (w : Fin 8 → FVec F S1x1x128x256 .f32) (L : List (View.Piece (Elt F) S2x8x128x256 .f32)) :
    List (View.Piece (Elt F) S2x8x128x256 .f32) :=
  ⟨rc s 7 hs (by norm_num), w 7⟩ :: ⟨rc s 6 hs (by norm_num), w 6⟩ :: ⟨rc s 5 hs (by norm_num), w 5⟩ ::
    ⟨rc s 4 hs (by norm_num), w 4⟩ :: ⟨rc s 3 hs (by norm_num), w 3⟩ :: ⟨rc s 2 hs (by norm_num), w 2⟩ ::
    ⟨rc s 1 hs (by norm_num), w 1⟩ :: ⟨rc s 0 hs (by norm_num), w 0⟩ :: L

/-- A load of head `h`'s block after the eight stores. -/
theorem rd_pcs (s : ℕ) (hs : s < 2) (w : Fin 8 → FVec F S1x1x128x256 .f32) (L : List (View.Piece (Elt F) S2x8x128x256 .f32)) (h : Fin 8) :
    v.readCov (pcs s hs w L) (rc s h.val hs h.isLt).toLoadRect = w h := by
  unfold pcs
  fin_cases h
  · exact (rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans (rd_hit v _ _ _ _ _ _)))))))
  · exact (rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans (rd_hit v _ _ _ _ _ _))))))
  · exact (rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans (rd_hit v _ _ _ _ _ _)))))
  · exact (rd_skip v _ _ _ _ _ _ _ _ (by right; decide) _ _).trans ((rd_skip v _ _ _ _ _ _ _ _ (by right; decide) _ _).trans ((rd_skip v _ _ _ _ _ _ _ _ (by right; decide) _ _).trans ((rd_skip v _ _ _ _ _ _ _ _ (by right; decide) _ _).trans (rd_hit v _ _ _ _ _ _))))
  · exact (rd_skip v _ _ _ _ _ _ _ _ (by right; decide) _ _).trans ((rd_skip v _ _ _ _ _ _ _ _ (by right; decide) _ _).trans ((rd_skip v _ _ _ _ _ _ _ _ (by right; decide) _ _).trans (rd_hit v _ _ _ _ _ _)))
  · exact (rd_skip v _ _ _ _ _ _ _ _ (by right; decide) _ _).trans ((rd_skip v _ _ _ _ _ _ _ _ (by right; decide) _ _).trans (rd_hit v _ _ _ _ _ _))
  · exact (rd_skip v _ _ _ _ _ _ _ _ (by right; decide) _ _).trans (rd_hit v _ _ _ _ _ _)
  · exact rd_hit v _ _ _ _ _ _

end

end Cert.KernelIdeal.Own
-- ==== Proof.OwnI.Loop.lean ====
/- The key-block loops: what each has carried and accumulated after any number of trips, head by head. -/
module

public import proofs.«01_k».proof.Proof.OwnI.Trip
public import proofs.«01_k».proof.Proof.OwnI.Off
public import proofs.«01_k».proof.Proof.OwnI.Read
public import Idealize.ShloMosaic.Lib.Writes

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- The eight heads' carries, as the loop holds them. -/
def tup (C : Fin 8 → FVec F S1x256 .f32) : FVec F S1x256 .f32 × FVec F S1x256 .f32 × FVec F S1x256 .f32 × FVec F S1x256 .f32 × FVec F S1x256 .f32 × FVec F S1x256 .f32 × FVec F S1x256 .f32 × FVec F S1x256 .f32 :=
  (C 0, C 1, C 2, C 3, C 4, C 5, C 6, C 7)

/-- One head's carry and accumulator after `n` blocks. -/
def stp (L : Vec F S256x512 .bf16) (kb : ℕ → Vec F S1x256x128 .bf16) (qb : Vec F S1x256x128 .bf16) (vb : ℕ → FVec F S128x256 .bf16)
    (c0 : FVec F S1x256 .f32) (a0 : FVec F S128x256 .f32) : ℕ → FVec F S1x256 .f32 × FVec F S128x256 .f32
  | 0 => (c0, a0)
  | n + 1 => (cStep L (kb n) qb (stp L kb qb vb c0 a0 n).1,
      addf (stp L kb qb vb c0 a0 n).2 (pStep L (kb n) qb (vb n) (stp L kb qb vb c0 a0 n).1))

/-- A block of the accumulator is covered by the eight stores, whatever came before. -/
theorem pcs_cov (s : ℕ) (hs : s < 2) (w : Fin 8 → FVec F S1x1x128x256 .f32) (L : List (View.Piece (Elt F) S2x8x128x256 .f32)) (h : Fin 8)
    (j : (rc s h.val hs h.isLt).shape.Idx) : ∃ p ∈ pcs s hs w L, (rc s h.val hs h.isLt).toLoadRect.idx j ∈ p.1.set := by
  have hm : (rc s h.val hs h.isLt).toLoadRect.idx j ∈ (rc s h.val hs h.isLt).set :=
    ((rc s h.val hs h.isLt).toLoadRect.mem_set).mpr fun a => ⟨(j a).val, (j a).isLt, LoadRect.idx_apply _ j a⟩
  refine ⟨⟨rc s h.val hs h.isLt, w h⟩, ?_, hm⟩
  unfold pcs
  fin_cases h <;> simp

theorem pcs_app (s : ℕ) (hs : s < 2) (w : Fin 8 → FVec F S1x1x128x256 .f32) (A B : List (View.Piece (Elt F) S2x8x128x256 .f32)) :
    pcs s hs w [] ++ A ++ B = pcs s hs w (A ++ B) := rfl

theorem tup_of (C : Fin 8 → FVec F S1x256 .f32) (x0 x1 x2 x3 x4 x5 x6 x7 : FVec F S1x256 .f32)
    (e0 : x0 = C 0) (e1 : x1 = C 1) (e2 : x2 = C 2) (e3 : x3 = C 3) (e4 : x4 = C 4) (e5 : x5 = C 5) (e6 : x6 = C 6) (e7 : x7 = C 7) :
    (x0, x1, x2, x3, x4, x5, x6, x7) = tup C := by
  subst e0 e1 e2 e3 e4 e5 e6 e7; rfl

theorem pcs_of (s : ℕ) (hs : s < 2) (w : Fin 8 → FVec F S1x1x128x256 .f32) (x0 x1 x2 x3 x4 x5 x6 x7 : FVec F S1x1x128x256 .f32)
    (e0 : x0 = w 0) (e1 : x1 = w 1) (e2 : x2 = w 2) (e3 : x3 = w 3) (e4 : x4 = w 4) (e5 : x5 = w 5) (e6 : x6 = w 6) (e7 : x7 = w 7) :
    ([⟨rc s 7 hs (by norm_num), x7⟩, ⟨rc s 6 hs (by norm_num), x6⟩, ⟨rc s 5 hs (by norm_num), x5⟩, ⟨rc s 4 hs (by norm_num), x4⟩,
      ⟨rc s 3 hs (by norm_num), x3⟩, ⟨rc s 2 hs (by norm_num), x2⟩, ⟨rc s 1 hs (by norm_num), x1⟩, ⟨rc s 0 hs (by norm_num), x0⟩] :
      List (View.Piece (Elt F) S2x8x128x256 .f32)) = pcs s hs w [] := by
  subst e0 e1 e2 e3 e4 e5 e6 e7; rfl

/-- A trip's carries. -/
theorem trip1_R' (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i v822).trips) (C : Fin 8 → FVec F S1x256 .f32) (f : BufTy.Contents (Elt F) arg8.view.ty) :
    tripR_k0_t1 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k (tup C) f = tup (fun h => cStep (arg6.view.read (Elt F) X_arg6) (KB (arg4.view.read (Elt F) X_arg4) h (2 * (i 2).val - 2 - k.val)) (QB (arg3.view.read (Elt F) X_arg3) 0 h) (C h)) := by
  rw [trip1_R 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k (tup C) f (k0_off33_inb i v822 k0_hw1 k) (k0_off41_inb i v822 k0_hw1 k) (k0_off34_inb i v822 k0_hw1 k) (k0_off42_inb i v822 k0_hw1 k) (k0_off35_inb i v822 k0_hw1 k) (k0_off43_inb i v822 k0_hw1 k) (k0_off36_inb i v822 k0_hw1 k) (k0_off44_inb i v822 k0_hw1 k) (k0_off37_inb i v822 k0_hw1 k) (k0_off45_inb i v822 k0_hw1 k) (k0_off38_inb i v822 k0_hw1 k) (k0_off46_inb i v822 k0_hw1 k) (k0_off39_inb i v822 k0_hw1 k) (k0_off47_inb i v822 k0_hw1 k) (k0_off40_inb i v822 k0_hw1 k) (k0_off48_inb i v822 k0_hw1 k)]
  exact tup_of _ _ _ _ _ _ _ _ _ (by rw [readL arg6 X_arg6 _, readQ arg3 X_arg3 ![0, 0, 0] 0 0 (by rfl) _, readK arg4 X_arg4 _ 0 _ (loopK0 i v822 k).1 _]; try rfl) (by rw [readL arg6 X_arg6 _, readQ arg3 X_arg3 ![1, 0, 0] 1 0 (by rfl) _, readK arg4 X_arg4 _ 1 _ (loopK0 i v822 k).2.1 _]; try rfl) (by rw [readL arg6 X_arg6 _, readQ arg3 X_arg3 ![2, 0, 0] 2 0 (by rfl) _, readK arg4 X_arg4 _ 2 _ (loopK0 i v822 k).2.2.1 _]; try rfl) (by rw [readL arg6 X_arg6 _, readQ arg3 X_arg3 ![3, 0, 0] 3 0 (by rfl) _, readK arg4 X_arg4 _ 3 _ (loopK0 i v822 k).2.2.2.1 _]; try rfl) (by rw [readL arg6 X_arg6 _, readQ arg3 X_arg3 ![4, 0, 0] 4 0 (by rfl) _, readK arg4 X_arg4 _ 4 _ (loopK0 i v822 k).2.2.2.2.1 _]; try rfl) (by rw [readL arg6 X_arg6 _, readQ arg3 X_arg3 ![5, 0, 0] 5 0 (by rfl) _, readK arg4 X_arg4 _ 5 _ (loopK0 i v822 k).2.2.2.2.2.1 _]; try rfl) (by rw [readL arg6 X_arg6 _, readQ arg3 X_arg3 ![6, 0, 0] 6 0 (by rfl) _, readK arg4 X_arg4 _ 6 _ (loopK0 i v822 k).2.2.2.2.2.2.1 _]; try rfl) (by rw [readL arg6 X_arg6 _, readQ arg3 X_arg3 ![7, 0, 0] 7 0 (by rfl) _, readK arg4 X_arg4 _ 7 _ (loopK0 i v822 k).2.2.2.2.2.2.2 _]; try rfl)

/-- A trip's stores. -/
theorem trip1_L' (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i v822).trips) (C : Fin 8 → FVec F S1x256 .f32) (f : BufTy.Contents (Elt F) arg8.view.ty) :
    tripL_k0_t1 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k (tup C) f = pcs 0 (by norm_num) (fun h => upOf (addf (dnOf (arg8.view.readAt (Elt F) (rc 0 h.val (by norm_num) h.isLt).toLoadRect f))
      (pStep (arg6.view.read (Elt F) X_arg6) (KB (arg4.view.read (Elt F) X_arg4) h (2 * (i 2).val - 2 - k.val)) (QB (arg3.view.read (Elt F) X_arg3) 0 h) (vOf (VB (arg5.view.read (Elt F) X_arg5) h (2 * (i 2).val - 2 - k.val))) (C h)))) [] := by
  rw [trip1_L 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 k (tup C) f (k0_off33_inb i v822 k0_hw1 k) (k0_off41_inb i v822 k0_hw1 k) (k0_off34_inb i v822 k0_hw1 k) (k0_off42_inb i v822 k0_hw1 k) (k0_off35_inb i v822 k0_hw1 k) (k0_off43_inb i v822 k0_hw1 k) (k0_off36_inb i v822 k0_hw1 k) (k0_off44_inb i v822 k0_hw1 k) (k0_off37_inb i v822 k0_hw1 k) (k0_off45_inb i v822 k0_hw1 k) (k0_off38_inb i v822 k0_hw1 k) (k0_off46_inb i v822 k0_hw1 k) (k0_off39_inb i v822 k0_hw1 k) (k0_off47_inb i v822 k0_hw1 k) (k0_off40_inb i v822 k0_hw1 k) (k0_off48_inb i v822 k0_hw1 k)]
  exact pcs_of 0 _ _ _ _ _ _ _ _ _ _ (by rw [readL arg6 X_arg6 _, readQ arg3 X_arg3 ![0, 0, 0] 0 0 (by rfl) _, readK arg4 X_arg4 _ 0 _ (loopK0 i v822 k).1 _, readV arg5 X_arg5 _ 0 _ (loopV0 i v822 k).1 _]; try rfl) (by rw [readL arg6 X_arg6 _, readQ arg3 X_arg3 ![1, 0, 0] 1 0 (by rfl) _, readK arg4 X_arg4 _ 1 _ (loopK0 i v822 k).2.1 _, readV arg5 X_arg5 _ 1 _ (loopV0 i v822 k).2.1 _]; try rfl) (by rw [readL arg6 X_arg6 _, readQ arg3 X_arg3 ![2, 0, 0] 2 0 (by rfl) _, readK arg4 X_arg4 _ 2 _ (loopK0 i v822 k).2.2.1 _, readV arg5 X_arg5 _ 2 _ (loopV0 i v822 k).2.2.1 _]; try rfl) (by rw [readL arg6 X_arg6 _, readQ arg3 X_arg3 ![3, 0, 0] 3 0 (by rfl) _, readK arg4 X_arg4 _ 3 _ (loopK0 i v822 k).2.2.2.1 _, readV arg5 X_arg5 _ 3 _ (loopV0 i v822 k).2.2.2.1 _]; try rfl) (by rw [readL arg6 X_arg6 _, readQ arg3 X_arg3 ![4, 0, 0] 4 0 (by rfl) _, readK arg4 X_arg4 _ 4 _ (loopK0 i v822 k).2.2.2.2.1 _, readV arg5 X_arg5 _ 4 _ (loopV0 i v822 k).2.2.2.2.1 _]; try rfl) (by rw [readL arg6 X_arg6 _, readQ arg3 X_arg3 ![5, 0, 0] 5 0 (by rfl) _, readK arg4 X_arg4 _ 5 _ (loopK0 i v822 k).2.2.2.2.2.1 _, readV arg5 X_arg5 _ 5 _ (loopV0 i v822 k).2.2.2.2.2.1 _]; try rfl) (by rw [readL arg6 X_arg6 _, readQ arg3 X_arg3 ![6, 0, 0] 6 0 (by rfl) _, readK arg4 X_arg4 _ 6 _ (loopK0 i v822 k).2.2.2.2.2.2.1 _, readV arg5 X_arg5 _ 6 _ (loopV0 i v822 k).2.2.2.2.2.2.1 _]; try rfl) (by rw [readL arg6 X_arg6 _, readQ arg3 X_arg3 ![7, 0, 0] 7 0 (by rfl) _, readK arg4 X_arg4 _ 7 _ (loopK0 i v822 k).2.2.2.2.2.2.2 _, readV arg5 X_arg5 _ 7 _ (loopV0 i v822 k).2.2.2.2.2.2.2 _]; try rfl)

set_option maxHeartbeats 2000000 in
/-- The loop of query block 0 after `n` trips. -/
theorem loop1 (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)  (f8 : BufTy.Contents (Elt F) arg8.view.ty) (L0 : List (View.Piece (Elt F) S2x8x128x256 .f32)) (c0 : Fin 8 → FVec F S1x256 .f32) (a0 : Fin 8 → FVec F S128x256 .f32)
    (hcov : ∀ (h : Fin 8) (j : (rc 0 h.val (by norm_num) h.isLt).shape.Idx), ∃ p ∈ L0, (rc 0 h.val (by norm_num) h.isLt).toLoadRect.idx j ∈ p.1.set)
    (hacc : ∀ h : Fin 8, arg8.view.readCov L0 (rc 0 h.val (by norm_num) h.isLt).toLoadRect = upOf (a0 h)) :
    ∀ n : ℕ, n ≤ (k0_t1_loop i v822).trips →
      (st_k0_t1 (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) (tup c0) (n)).1 = tup (fun h => (stp (arg6.view.read (Elt F) X_arg6) (fun k => (KB (arg4.view.read (Elt F) X_arg4) h (2 * (i 2).val - 2 - k))) (QB (arg3.view.read (Elt F) X_arg3) 0 h) (fun k => vOf (VB (arg5.view.read (Elt F) X_arg5) h (2 * (i 2).val - 2 - k))) (c0 h) (a0 h) (n)).1)
      ∧ ∀ h : Fin 8, arg8.view.readCov ((st_k0_t1 (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) (tup c0) (n)).2 ++ L0) (rc 0 h.val (by norm_num) h.isLt).toLoadRect = upOf (stp (arg6.view.read (Elt F) X_arg6) (fun k => (KB (arg4.view.read (Elt F) X_arg4) h (2 * (i 2).val - 2 - k))) (QB (arg3.view.read (Elt F) X_arg3) 0 h) (fun k => vOf (VB (arg5.view.read (Elt F) X_arg5) h (2 * (i 2).val - 2 - k))) (c0 h) (a0 h) (n)).2 := by
  intro n
  induction n with
  | zero => exact fun _ => ⟨rfl, hacc⟩
  | succ n ih =>
    intro hn
    obtain ⟨h1, h2⟩ := ih (by omega)
    have e := st_k0_t1_succ (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) (tup c0) ⟨n, hn⟩
    rw [h1, trip1_R', trip1_L'] at e
    have e' : (st_k0_t1 (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) (tup c0) (n + 1)) = _ := e
    rw [e']
    clear e e'
    generalize (st_k0_t1 (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) (tup c0) (n)) = p at h1 h2 ⊢
    refine ⟨rfl, fun h => ?_⟩
    dsimp only
    rw [pcs_app, rd_pcs, ← View.writes_append, View.readAt_writes_of_cover _ _ _ _ (fun j => by
      obtain ⟨p, hp, hj⟩ := hcov h j
      exact ⟨p, List.mem_append_right _ hp, hj⟩), h2 h, dn_up]
    rfl

/-- A trip's carries. -/
theorem trip3_R' (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t3_loop i v1678).trips) (C : Fin 8 → FVec F S1x256 .f32) (f : BufTy.Contents (Elt F) arg8.view.ty) :
    tripR_k0_t3 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k (tup C) f = tup (fun h => cStep (arg6.view.read (Elt F) X_arg6) (KB (arg4.view.read (Elt F) X_arg4) h (2 * (i 2).val + 1 - 2 - k.val)) (QB (arg3.view.read (Elt F) X_arg3) 1 h) (C h)) := by
  rw [trip3_R 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k (tup C) f (k0_off97_inb i v1678 k0_hw2 k) (k0_off105_inb i v1678 k0_hw2 k) (k0_off98_inb i v1678 k0_hw2 k) (k0_off106_inb i v1678 k0_hw2 k) (k0_off99_inb i v1678 k0_hw2 k) (k0_off107_inb i v1678 k0_hw2 k) (k0_off100_inb i v1678 k0_hw2 k) (k0_off108_inb i v1678 k0_hw2 k) (k0_off101_inb i v1678 k0_hw2 k) (k0_off109_inb i v1678 k0_hw2 k) (k0_off102_inb i v1678 k0_hw2 k) (k0_off110_inb i v1678 k0_hw2 k) (k0_off103_inb i v1678 k0_hw2 k) (k0_off111_inb i v1678 k0_hw2 k) (k0_off104_inb i v1678 k0_hw2 k) (k0_off112_inb i v1678 k0_hw2 k)]
  exact tup_of _ _ _ _ _ _ _ _ _ (by rw [readL arg6 X_arg6 _, readQ arg3 X_arg3 ![0, 256, 0] 0 1 (by rfl) _, readK arg4 X_arg4 _ 0 _ (loopK1 i v1678 k).1 _]; try rfl) (by rw [readL arg6 X_arg6 _, readQ arg3 X_arg3 ![1, 256, 0] 1 1 (by rfl) _, readK arg4 X_arg4 _ 1 _ (loopK1 i v1678 k).2.1 _]; try rfl) (by rw [readL arg6 X_arg6 _, readQ arg3 X_arg3 ![2, 256, 0] 2 1 (by rfl) _, readK arg4 X_arg4 _ 2 _ (loopK1 i v1678 k).2.2.1 _]; try rfl) (by rw [readL arg6 X_arg6 _, readQ arg3 X_arg3 ![3, 256, 0] 3 1 (by rfl) _, readK arg4 X_arg4 _ 3 _ (loopK1 i v1678 k).2.2.2.1 _]; try rfl) (by rw [readL arg6 X_arg6 _, readQ arg3 X_arg3 ![4, 256, 0] 4 1 (by rfl) _, readK arg4 X_arg4 _ 4 _ (loopK1 i v1678 k).2.2.2.2.1 _]; try rfl) (by rw [readL arg6 X_arg6 _, readQ arg3 X_arg3 ![5, 256, 0] 5 1 (by rfl) _, readK arg4 X_arg4 _ 5 _ (loopK1 i v1678 k).2.2.2.2.2.1 _]; try rfl) (by rw [readL arg6 X_arg6 _, readQ arg3 X_arg3 ![6, 256, 0] 6 1 (by rfl) _, readK arg4 X_arg4 _ 6 _ (loopK1 i v1678 k).2.2.2.2.2.2.1 _]; try rfl) (by rw [readL arg6 X_arg6 _, readQ arg3 X_arg3 ![7, 256, 0] 7 1 (by rfl) _, readK arg4 X_arg4 _ 7 _ (loopK1 i v1678 k).2.2.2.2.2.2.2 _]; try rfl)

/-- A trip's stores. -/
theorem trip3_L' (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t3_loop i v1678).trips) (C : Fin 8 → FVec F S1x256 .f32) (f : BufTy.Contents (Elt F) arg8.view.ty) :
    tripL_k0_t3 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k (tup C) f = pcs 1 (by norm_num) (fun h => upOf (addf (dnOf (arg8.view.readAt (Elt F) (rc 1 h.val (by norm_num) h.isLt).toLoadRect f))
      (pStep (arg6.view.read (Elt F) X_arg6) (KB (arg4.view.read (Elt F) X_arg4) h (2 * (i 2).val + 1 - 2 - k.val)) (QB (arg3.view.read (Elt F) X_arg3) 1 h) (vOf (VB (arg5.view.read (Elt F) X_arg5) h (2 * (i 2).val + 1 - 2 - k.val))) (C h)))) [] := by
  rw [trip3_L 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 k (tup C) f (k0_off97_inb i v1678 k0_hw2 k) (k0_off105_inb i v1678 k0_hw2 k) (k0_off98_inb i v1678 k0_hw2 k) (k0_off106_inb i v1678 k0_hw2 k) (k0_off99_inb i v1678 k0_hw2 k) (k0_off107_inb i v1678 k0_hw2 k) (k0_off100_inb i v1678 k0_hw2 k) (k0_off108_inb i v1678 k0_hw2 k) (k0_off101_inb i v1678 k0_hw2 k) (k0_off109_inb i v1678 k0_hw2 k) (k0_off102_inb i v1678 k0_hw2 k) (k0_off110_inb i v1678 k0_hw2 k) (k0_off103_inb i v1678 k0_hw2 k) (k0_off111_inb i v1678 k0_hw2 k) (k0_off104_inb i v1678 k0_hw2 k) (k0_off112_inb i v1678 k0_hw2 k)]
  exact pcs_of 1 _ _ _ _ _ _ _ _ _ _ (by rw [readL arg6 X_arg6 _, readQ arg3 X_arg3 ![0, 256, 0] 0 1 (by rfl) _, readK arg4 X_arg4 _ 0 _ (loopK1 i v1678 k).1 _, readV arg5 X_arg5 _ 0 _ (loopV1 i v1678 k).1 _]; try rfl) (by rw [readL arg6 X_arg6 _, readQ arg3 X_arg3 ![1, 256, 0] 1 1 (by rfl) _, readK arg4 X_arg4 _ 1 _ (loopK1 i v1678 k).2.1 _, readV arg5 X_arg5 _ 1 _ (loopV1 i v1678 k).2.1 _]; try rfl) (by rw [readL arg6 X_arg6 _, readQ arg3 X_arg3 ![2, 256, 0] 2 1 (by rfl) _, readK arg4 X_arg4 _ 2 _ (loopK1 i v1678 k).2.2.1 _, readV arg5 X_arg5 _ 2 _ (loopV1 i v1678 k).2.2.1 _]; try rfl) (by rw [readL arg6 X_arg6 _, readQ arg3 X_arg3 ![3, 256, 0] 3 1 (by rfl) _, readK arg4 X_arg4 _ 3 _ (loopK1 i v1678 k).2.2.2.1 _, readV arg5 X_arg5 _ 3 _ (loopV1 i v1678 k).2.2.2.1 _]; try rfl) (by rw [readL arg6 X_arg6 _, readQ arg3 X_arg3 ![4, 256, 0] 4 1 (by rfl) _, readK arg4 X_arg4 _ 4 _ (loopK1 i v1678 k).2.2.2.2.1 _, readV arg5 X_arg5 _ 4 _ (loopV1 i v1678 k).2.2.2.2.1 _]; try rfl) (by rw [readL arg6 X_arg6 _, readQ arg3 X_arg3 ![5, 256, 0] 5 1 (by rfl) _, readK arg4 X_arg4 _ 5 _ (loopK1 i v1678 k).2.2.2.2.2.1 _, readV arg5 X_arg5 _ 5 _ (loopV1 i v1678 k).2.2.2.2.2.1 _]; try rfl) (by rw [readL arg6 X_arg6 _, readQ arg3 X_arg3 ![6, 256, 0] 6 1 (by rfl) _, readK arg4 X_arg4 _ 6 _ (loopK1 i v1678 k).2.2.2.2.2.2.1 _, readV arg5 X_arg5 _ 6 _ (loopV1 i v1678 k).2.2.2.2.2.2.1 _]; try rfl) (by rw [readL arg6 X_arg6 _, readQ arg3 X_arg3 ![7, 256, 0] 7 1 (by rfl) _, readK arg4 X_arg4 _ 7 _ (loopK1 i v1678 k).2.2.2.2.2.2.2 _, readV arg5 X_arg5 _ 7 _ (loopV1 i v1678 k).2.2.2.2.2.2.2 _]; try rfl)

set_option maxHeartbeats 2000000 in
/-- The loop of query block 1 after `n` trips. -/
theorem loop3 (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)  (f8 : BufTy.Contents (Elt F) arg8.view.ty) (L0 : List (View.Piece (Elt F) S2x8x128x256 .f32)) (c0 : Fin 8 → FVec F S1x256 .f32) (a0 : Fin 8 → FVec F S128x256 .f32)
    (hcov : ∀ (h : Fin 8) (j : (rc 1 h.val (by norm_num) h.isLt).shape.Idx), ∃ p ∈ L0, (rc 1 h.val (by norm_num) h.isLt).toLoadRect.idx j ∈ p.1.set)
    (hacc : ∀ h : Fin 8, arg8.view.readCov L0 (rc 1 h.val (by norm_num) h.isLt).toLoadRect = upOf (a0 h)) :
    ∀ n : ℕ, n ≤ (k0_t3_loop i v1678).trips →
      (st_k0_t3 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) (tup c0) (n)).1 = tup (fun h => (stp (arg6.view.read (Elt F) X_arg6) (fun k => (KB (arg4.view.read (Elt F) X_arg4) h (2 * (i 2).val + 1 - 2 - k))) (QB (arg3.view.read (Elt F) X_arg3) 1 h) (fun k => vOf (VB (arg5.view.read (Elt F) X_arg5) h (2 * (i 2).val + 1 - 2 - k))) (c0 h) (a0 h) (n)).1)
      ∧ ∀ h : Fin 8, arg8.view.readCov ((st_k0_t3 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) (tup c0) (n)).2 ++ L0) (rc 1 h.val (by norm_num) h.isLt).toLoadRect = upOf (stp (arg6.view.read (Elt F) X_arg6) (fun k => (KB (arg4.view.read (Elt F) X_arg4) h (2 * (i 2).val + 1 - 2 - k))) (QB (arg3.view.read (Elt F) X_arg3) 1 h) (fun k => vOf (VB (arg5.view.read (Elt F) X_arg5) h (2 * (i 2).val + 1 - 2 - k))) (c0 h) (a0 h) (n)).2 := by
  intro n
  induction n with
  | zero => exact fun _ => ⟨rfl, hacc⟩
  | succ n ih =>
    intro hn
    obtain ⟨h1, h2⟩ := ih (by omega)
    have e := st_k0_t3_succ (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) (tup c0) ⟨n, hn⟩
    rw [h1, trip3_R', trip3_L'] at e
    have e' : (st_k0_t3 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) (tup c0) (n + 1)) = _ := e
    rw [e']
    clear e e'
    generalize (st_k0_t3 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) (tup c0) (n)) = p at h1 h2 ⊢
    refine ⟨rfl, fun h => ?_⟩
    dsimp only
    rw [pcs_app, rd_pcs, ← View.writes_append, View.readAt_writes_of_cover _ _ _ _ (fun j => by
      obtain ⟨p, hp, hj⟩ := hcov h j
      exact ⟨p, List.mem_append_right _ hp, hj⟩), h2 h, dn_up]
    rfl

end Cert.KernelIdeal.Own
-- ==== Proof.OwnI.PtA.lean ====
/- The body's operations at an index, at exact numbers. -/
module

public import proofs.«01_k».proof.Proof.OwnI.Loop
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

/-- A sum of reals, as an extended real. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The softplus, base two. -/
def sp2 (x : ℝ) : ℝ := Real.log (1 + Real.rpow 2 x) / Real.log 2

theorem zOf_apply (kb qb : Vec Ideal S1x256x128 .bf16) (r t : Fin 256) :
    zOf kb qb (ix2 r t) = ∑ d : Fin 128, kb (ix3 0 r d) * qb (ix3 0 t d) := by
  pointwise [zOf]

theorem zOf_real (kb qb : Vec Ideal S1x256x128 .bf16) (r t : Fin 256) (k q : Fin 128 → ℝ)
    (hk : ∀ d, kb (ix3 0 r d) = (k d : EReal)) (hq : ∀ d, qb (ix3 0 t d) = (q d : EReal)) :
    zOf kb qb (ix2 r t) = ((∑ d : Fin 128, k d * q d : ℝ) : EReal) := by
  rw [zOf_apply, coe_sum]
  refine Finset.sum_congr rfl fun d _ => ?_
  rw [hk, hq, EReal.coe_mul]

theorem pvOf_apply (v : FVec Ideal S128x256 .bf16) (a : FVec Ideal S256x256 .bf16) (d : Fin 128) (t : Fin 256) :
    pvOf v a (ix2 d t) = ∑ r : Fin 256, v (ix2 d r) * a (ix2 r t) := by
  pointwise [pvOf]

/-- The matrix of the sums over the later keys, twice side by side. -/
def LaterIs (L : Vec Ideal S256x512 .bf16) : Prop :=
  ∀ (r : Fin 256) (c : Fin 512), L (ix2 r c) = if r.val ≤ c.val % 256 then (1 : EReal) else 0

theorem sufOf_real (L : Vec Ideal S256x512 .bf16) (hL : LaterIs L) (sp : FVec Ideal S256x256 .f32) (t : Fin 256) (σ : Fin 256 → ℝ)
    (h : ∀ p, sp (ix2 p t) = (σ p : EReal)) (r : Fin 256) :
    sufOf L (splitOf sp) (ix2 r t) = ((∑ p : Fin 256, if r.val ≤ p.val then σ p else 0 : ℝ) : EReal) := by
  have e : sufOf L (splitOf sp) (ix2 r t)
      = ∑ x : Fin 256, L (ix2 r ⟨x.val, by omega⟩) * sp (ix2 x t)
        + ∑ x : Fin 256, L (ix2 r ⟨256 + x.val, by omega⟩) * (sp (ix2 x t) - sp (ix2 x t)) := by
    pointwise [sufOf, splitOf]
  rw [e]
  have e2 : ∀ x : Fin 256, L (ix2 r ⟨256 + x.val, by omega⟩) * (sp (ix2 x t) - sp (ix2 x t)) = 0 := fun x => by
    rw [h, ← EReal.coe_sub, sub_self, EReal.coe_zero, mul_zero]
  rw [Finset.sum_eq_zero fun x _ => e2 x, add_zero, coe_sum]
  refine Finset.sum_congr rfl fun x _ => ?_
  rw [h, hL]
  have hx : x.val % 256 = x.val := Nat.mod_eq_of_lt x.isLt
  show (if r.val ≤ x.val % 256 then (1 : EReal) else 0) * _ = _
  rw [hx]
  split
  · rw [one_mul]
  · rw [zero_mul, EReal.coe_zero]

theorem mskOf_apply (x : FVec Ideal S256x256 .f32) (r t : Fin 256) :
    mskOf x (ix2 r t) = if r.val < t.val then x (ix2 r t) else 0 := by
  have e : mskOf x (ix2 r t) = Scalar.select (IntOp.cmpi CmpIPredicate.slt (BitVec.ofNat 32 ↑r) (BitVec.ofNat 32 ↑t)) (x (ix2 r t)) 0 := by
    pointwise [mskOf, k0_pay222]
  rw [e]
  have h : IntOp.cmpi CmpIPredicate.slt (BitVec.ofNat 32 ↑r) (BitVec.ofNat 32 ↑t) = if r.val < t.val then 1#1 else 0#1 := by
    have : ∀ a b : Fin 256, BitVec.slt (BitVec.ofNat 32 a.val) (BitVec.ofNat 32 b.val) = decide (a.val < b.val) := fun a b => by
      rw [BitVec.slt_eq_decide, decide_eq_decide, BitVec.toInt_eq_toNat_of_lt, BitVec.toInt_eq_toNat_of_lt] <;>
        simp only [BitVec.toNat_ofNat] <;> omega
    show BitVec.ofBool (BitVec.slt (BitVec.ofNat 32 r.val) (BitVec.ofNat 32 t.val)) = _
    rw [this]
    split <;> rename_i hh <;> simp [hh]
  rw [h]
  split <;> rfl

theorem named_log2_e : Named.named (F := Ideal) (φ := .f32) κ "log2_e" 0x3FB8AA3B#32 = (((Real.log 2)⁻¹ : ℝ) : EReal) :=
  IdealRules.named_const.ideal_named_scalar _ _ _ _ rfl

theorem named_log2_of_zero : Named.named (F := Ideal) (φ := .f32) κ "log2_of_zero" 0xC3200000#32 = (⊥ : EReal) :=
  IdealRules.named_const.ideal_named_scalar _ _ _ _ rfl

theorem sp2_eq (a : ℝ) : max a 0 + Real.log (1 + Real.rpow 2 (a - max a 0 - max a 0)) * (Real.log 2)⁻¹ = sp2 a := by
  have h2 : Real.log 2 ≠ 0 := (Real.log_pos (by norm_num)).ne'
  unfold sp2
  rcases le_total 0 a with h | h
  · rw [max_eq_left h, show a - a - a = -a by ring]
    have e : 1 + Real.rpow 2 a = Real.rpow 2 a * (1 + Real.rpow 2 (-a)) := by
      have : Real.rpow 2 a * Real.rpow 2 (-a) = 1 := by
        show (2 : ℝ) ^ a * (2 : ℝ) ^ (-a) = 1
        rw [← Real.rpow_add (by norm_num)]; simp
      rw [mul_add, this, mul_one, add_comm]
    have p1 : 0 < Real.rpow 2 a := Real.rpow_pos_of_pos (by norm_num) _
    have p2 : 0 < Real.rpow 2 (-a) := Real.rpow_pos_of_pos (by norm_num) _
    rw [e, Real.log_mul p1.ne' (by positivity)]
    have : Real.log (Real.rpow 2 a) = a * Real.log 2 := Real.log_rpow (by norm_num) a
    rw [this]
    field_simp
  · rw [max_eq_right h, sub_zero, sub_zero, zero_add, div_eq_mul_inv]

theorem spOf_real (x : FVec Ideal S256x256 .f32) (r t : Fin 256) (a : ℝ) (h : x (ix2 r t) = (a : EReal)) :
    spOf x (ix2 r t) = ((sp2 a : ℝ) : EReal) := by
  have e : spOf x (ix2 r t) = max (x (ix2 r t)) 0 +
      Ideal.log (1 + Ideal.exp2 (x (ix2 r t) - max (x (ix2 r t)) 0 - max (x (ix2 r t)) 0)) *
        Named.named (F := Ideal) (φ := .f32) κ "log2_e" 1069066811#32 := by
    pointwise [spOf]
    rfl
  have m : max (a : EReal) 0 = ((max a 0 : ℝ) : EReal) := by
    rw [← EReal.coe_zero]; exact (EReal.coe_strictMono.monotone.map_max).symm
  rw [e, h, m, ← EReal.coe_sub, ← EReal.coe_sub, Ideal.exp2_coe, ← EReal.coe_one, ← EReal.coe_add, Ideal.log_coe, if_neg, named_log2_e,
    ← EReal.coe_mul, ← EReal.coe_add, sp2_eq]
  have : 0 < Real.rpow 2 (a - max a 0 - max a 0) := Real.rpow_pos_of_pos (by norm_num) _
  linarith

theorem eOf_real (L s z c) (r t : Fin 256) (a b d : ℝ) (hz : z (ix2 r t) = (a : EReal)) (hc : c (ix2 0 t) = (b : EReal))
    (hs : sufOf L s (ix2 r t) = (d : EReal)) :
    eOf (F := Ideal) L s z c (ix2 r t) = ((Real.rpow 2 (a + b - d) : ℝ) : EReal) := by
  have e : eOf (F := Ideal) L s z c (ix2 r t) = Ideal.exp2 (z (ix2 r t) + c (ix2 0 t) - sufOf L s (ix2 r t)) := by
    pointwise [eOf]
    rfl
  rw [e, hz, hc, hs, ← EReal.coe_add, ← EReal.coe_sub, Ideal.exp2_coe]

theorem cOf_real (L s c) (t : Fin 256) (b d : ℝ) (hc : c (ix2 0 t) = (b : EReal)) (hs : sufOf L s (ix2 0 t) = (d : EReal)) :
    cOf (F := Ideal) L s c (ix2 0 t) = ((b - d : ℝ) : EReal) := by
  have e : cOf (F := Ideal) L s c (ix2 0 t) = c (ix2 0 t) - sufOf L s (ix2 0 t) := by
    pointwise [cOf]
  rw [e, hc, hs, ← EReal.coe_sub]

theorem c0Of_real (t : Fin 256) : c0Of (F := Ideal) (ix2 0 t) = ((0 : ℝ) : EReal) := by
  pointwise [c0Of]
  rfl

theorem kV_zero (v : FVec Ideal S128x256 .bf16) (d : Fin 128) (r : Fin 256) : kV (F := Ideal) 0#1 v (ix2 d r) = 0 := by
  pointwise [kV]

theorem kV_one (v : FVec Ideal S128x256 .bf16) : kV (F := Ideal) 1#1 v = v := by
  unfold kV; rfl

end Cert.KernelIdeal.Own
-- ==== Proof.OwnI.Words0.lean ====
/- What the attention body has computed before the key-block loop of query block 0, head by head. -/
module

public import proofs.«01_k».proof.Proof.OwnI.Body
public import proofs.«01_k».proof.Proof.OwnI.Off
public import proofs.«01_k».proof.Proof.OwnI.Read

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

variable (c : Dev nD) (i : grid0.Coords) (arg3 : Memref sig .tc .vmem S8x512x128 .bf16) (harg3 : arg3.IsWhole) (arg4 : Memref sig .tc .vmem S8x4096x128 .bf16) (harg4 : arg4.IsWhole)
  (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
  (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty)

theorem keep0_pt : ∀ (a : Fin 4) (b : Fin 2) (x : Fin 8), bodyRun.sl.v663 (pt a b x) = if 2 * x.val = 0 then 0#1 else 1#1 := by
  decide +kernel

/-- Whether query block 0 has a block before it. -/
theorem keep0 (i : grid0.Coords) : bodyRun.sl.v663 i = if 2 * (i 2).val = 0 then 0#1 else 1#1 := by
  rw [eq_pt i]; exact keep0_pt _ _ _

/-- What head 0 of query block 0 carries into the loop. -/
theorem carry0_0 : bodyRun.sl.v520 i arg3 arg4 arg6 X3 X4 X6 = cStep (arg6.view.read (Elt F) X6) (KB (arg4.view.read (Elt F) X4) 0 (2 * (i 2).val - 1)) (QB (arg3.view.read (Elt F) X3) 0 0) (cDiag (arg6.view.read (Elt F) X6) (KB (arg4.view.read (Elt F) X4) 0 (2 * (i 2).val)) (QB (arg3.view.read (Elt F) X3) 0 0)) := by
  change cStep (rL arg6 X6) (rK arg4 X4 _ (k0_off9_inb i)) (rQ arg3 X3 _ inb_S8x512x128_S1x256x128_0_0_0) (cDiag (rL arg6 X6) (rK arg4 X4 _ (k0_off1_inb i)) (rQ arg3 X3 _ inb_S8x512x128_S1x256x128_0_0_0)) = _
  rw [rL_eq arg6 X6, rQ_eq arg3 X3 _ 0 0 (by rfl) _, rK_eq arg4 X4 _ 0 _ (diagK0 i).1 _, rK_eq arg4 X4 _ 0 _ (prevK0 i).1 _]

/-- What head 0 of query block 0 has accumulated before the loop. -/
theorem acc0_0 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 0 (by norm_num) (by norm_num)).toLoadRect
    = upOf (addf (pDiag (arg6.view.read (Elt F) X6) (KB (arg4.view.read (Elt F) X4) 0 (2 * (i 2).val)) (QB (arg3.view.read (Elt F) X3) 0 0) (vOf (VB (arg5.view.read (Elt F) X5) 0 (2 * (i 2).val))))
        (pStep (arg6.view.read (Elt F) X6) (KB (arg4.view.read (Elt F) X4) 0 (2 * (i 2).val - 1)) (QB (arg3.view.read (Elt F) X3) 0 0) (kV (bodyRun.sl.v663 i) (vOf (VB (arg5.view.read (Elt F) X5) 0 (2 * (i 2).val - 1)))) (cDiag (arg6.view.read (Elt F) X6) (KB (arg4.view.read (Elt F) X4) 0 (2 * (i 2).val)) (QB (arg3.view.read (Elt F) X3) 0 0)))) := by
  refine Eq.trans (b := bodyRun.sl.v677 i arg3 arg4 arg5 arg6 arg8 X3 X4 X5 X6) ((rd_skipF arg8.view 0 7 0 0 (by decide) _ _).trans ((rd_skipF arg8.view 0 6 0 0 (by decide) _ _).trans ((rd_skipF arg8.view 0 5 0 0 (by decide) _ _).trans ((rd_skipF arg8.view 0 4 0 0 (by decide) _ _).trans ((rd_skipF arg8.view 0 3 0 0 (by decide) _ _).trans ((rd_skipF arg8.view 0 2 0 0 (by decide) _ _).trans ((rd_skipF arg8.view 0 1 0 0 (by decide) _ _).trans (rd_hit arg8.view 0 0 (by norm_num) (by norm_num) _ _)))))))) ?_
  have e2 : arg8.view.readCov (bodyRun.sl.H8_8 i arg3 arg4 arg5 arg6 X3 X4 X5 X6) (rc 0 0 (by norm_num) (by norm_num)).toLoadRect = bodyRun.sl.v599 i arg3 arg4 arg5 arg6 X3 X4 X5 X6 := (rd_skipF arg8.view 0 7 0 0 (by decide) _ _).trans ((rd_skipF arg8.view 0 6 0 0 (by decide) _ _).trans ((rd_skipF arg8.view 0 5 0 0 (by decide) _ _).trans ((rd_skipF arg8.view 0 4 0 0 (by decide) _ _).trans ((rd_skipF arg8.view 0 3 0 0 (by decide) _ _).trans ((rd_skipF arg8.view 0 2 0 0 (by decide) _ _).trans ((rd_skipF arg8.view 0 1 0 0 (by decide) _ _).trans (rd_hit arg8.view 0 0 (by norm_num) (by norm_num) _ _)))))))
  have e3 : bodyRun.sl.v677 i arg3 arg4 arg5 arg6 arg8 X3 X4 X5 X6 = upOf (addf (dnOf (arg8.view.readCov (bodyRun.sl.H8_8 i arg3 arg4 arg5 arg6 X3 X4 X5 X6) (rc 0 0 (by norm_num) (by norm_num)).toLoadRect)) (pStep (rL arg6 X6) (rK arg4 X4 _ (k0_off9_inb i)) (rQ arg3 X3 _ inb_S8x512x128_S1x256x128_0_0_0) (kV (bodyRun.sl.v663 i) (vOf (rV arg5 X5 _ (k0_off25_inb i)))) (cDiag (rL arg6 X6) (rK arg4 X4 _ (k0_off1_inb i)) (rQ arg3 X3 _ inb_S8x512x128_S1x256x128_0_0_0)))) := rfl
  have e4 : bodyRun.sl.v599 i arg3 arg4 arg5 arg6 X3 X4 X5 X6 = upOf (pDiag (rL arg6 X6) (rK arg4 X4 _ (k0_off1_inb i)) (rQ arg3 X3 _ inb_S8x512x128_S1x256x128_0_0_0) (vOf (rV arg5 X5 _ (k0_off17_inb i)))) := rfl
  rw [e3, e2, e4, dn_up, rL_eq arg6 X6, rQ_eq arg3 X3 _ 0 0 (by rfl) _, rK_eq arg4 X4 _ 0 _ (diagK0 i).1 _, rK_eq arg4 X4 _ 0 _ (prevK0 i).1 _, rV_eq arg5 X5 _ 0 _ (diagV0 i).1 _, rV_eq arg5 X5 _ 0 _ (prevV0 i).1 _]

/-- What head 1 of query block 0 carries into the loop. -/
theorem carry0_1 : bodyRun.sl.v530 i arg3 arg4 arg6 X3 X4 X6 = cStep (arg6.view.read (Elt F) X6) (KB (arg4.view.read (Elt F) X4) 1 (2 * (i 2).val - 1)) (QB (arg3.view.read (Elt F) X3) 0 1) (cDiag (arg6.view.read (Elt F) X6) (KB (arg4.view.read (Elt F) X4) 1 (2 * (i 2).val)) (QB (arg3.view.read (Elt F) X3) 0 1)) := by
  change cStep (rL arg6 X6) (rK arg4 X4 _ (k0_off10_inb i)) (rQ arg3 X3 _ inb_S8x512x128_S1x256x128_1_0_0) (cDiag (rL arg6 X6) (rK arg4 X4 _ (k0_off2_inb i)) (rQ arg3 X3 _ inb_S8x512x128_S1x256x128_1_0_0)) = _
  rw [rL_eq arg6 X6, rQ_eq arg3 X3 _ 1 0 (by rfl) _, rK_eq arg4 X4 _ 1 _ (diagK0 i).2.1 _, rK_eq arg4 X4 _ 1 _ (prevK0 i).2.1 _]

/-- What head 1 of query block 0 has accumulated before the loop. -/
theorem acc0_1 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 1 (by norm_num) (by norm_num)).toLoadRect
    = upOf (addf (pDiag (arg6.view.read (Elt F) X6) (KB (arg4.view.read (Elt F) X4) 1 (2 * (i 2).val)) (QB (arg3.view.read (Elt F) X3) 0 1) (vOf (VB (arg5.view.read (Elt F) X5) 1 (2 * (i 2).val))))
        (pStep (arg6.view.read (Elt F) X6) (KB (arg4.view.read (Elt F) X4) 1 (2 * (i 2).val - 1)) (QB (arg3.view.read (Elt F) X3) 0 1) (kV (bodyRun.sl.v663 i) (vOf (VB (arg5.view.read (Elt F) X5) 1 (2 * (i 2).val - 1)))) (cDiag (arg6.view.read (Elt F) X6) (KB (arg4.view.read (Elt F) X4) 1 (2 * (i 2).val)) (QB (arg3.view.read (Elt F) X3) 0 1)))) := by
  refine Eq.trans (b := bodyRun.sl.v692 i arg3 arg4 arg5 arg6 arg8 X3 X4 X5 X6) ((rd_skipF arg8.view 0 7 0 1 (by decide) _ _).trans ((rd_skipF arg8.view 0 6 0 1 (by decide) _ _).trans ((rd_skipF arg8.view 0 5 0 1 (by decide) _ _).trans ((rd_skipF arg8.view 0 4 0 1 (by decide) _ _).trans ((rd_skipF arg8.view 0 3 0 1 (by decide) _ _).trans ((rd_skipF arg8.view 0 2 0 1 (by decide) _ _).trans (rd_hit arg8.view 0 1 (by norm_num) (by norm_num) _ _))))))) ?_
  have e2 : arg8.view.readCov (bodyRun.sl.H8_9 i arg3 arg4 arg5 arg6 arg8 X3 X4 X5 X6) (rc 0 1 (by norm_num) (by norm_num)).toLoadRect = bodyRun.sl.v608 i arg3 arg4 arg5 arg6 X3 X4 X5 X6 := (rd_skipF arg8.view 0 0 0 1 (by decide) _ _).trans ((rd_skipF arg8.view 0 7 0 1 (by decide) _ _).trans ((rd_skipF arg8.view 0 6 0 1 (by decide) _ _).trans ((rd_skipF arg8.view 0 5 0 1 (by decide) _ _).trans ((rd_skipF arg8.view 0 4 0 1 (by decide) _ _).trans ((rd_skipF arg8.view 0 3 0 1 (by decide) _ _).trans ((rd_skipF arg8.view 0 2 0 1 (by decide) _ _).trans (rd_hit arg8.view 0 1 (by norm_num) (by norm_num) _ _)))))))
  have e3 : bodyRun.sl.v692 i arg3 arg4 arg5 arg6 arg8 X3 X4 X5 X6 = upOf (addf (dnOf (arg8.view.readCov (bodyRun.sl.H8_9 i arg3 arg4 arg5 arg6 arg8 X3 X4 X5 X6) (rc 0 1 (by norm_num) (by norm_num)).toLoadRect)) (pStep (rL arg6 X6) (rK arg4 X4 _ (k0_off10_inb i)) (rQ arg3 X3 _ inb_S8x512x128_S1x256x128_1_0_0) (kV (bodyRun.sl.v663 i) (vOf (rV arg5 X5 _ (k0_off26_inb i)))) (cDiag (rL arg6 X6) (rK arg4 X4 _ (k0_off2_inb i)) (rQ arg3 X3 _ inb_S8x512x128_S1x256x128_1_0_0)))) := rfl
  have e4 : bodyRun.sl.v608 i arg3 arg4 arg5 arg6 X3 X4 X5 X6 = upOf (pDiag (rL arg6 X6) (rK arg4 X4 _ (k0_off2_inb i)) (rQ arg3 X3 _ inb_S8x512x128_S1x256x128_1_0_0) (vOf (rV arg5 X5 _ (k0_off18_inb i)))) := rfl
  rw [e3, e2, e4, dn_up, rL_eq arg6 X6, rQ_eq arg3 X3 _ 1 0 (by rfl) _, rK_eq arg4 X4 _ 1 _ (diagK0 i).2.1 _, rK_eq arg4 X4 _ 1 _ (prevK0 i).2.1 _, rV_eq arg5 X5 _ 1 _ (diagV0 i).2.1 _, rV_eq arg5 X5 _ 1 _ (prevV0 i).2.1 _]

/-- What head 2 of query block 0 carries into the loop. -/
theorem carry0_2 : bodyRun.sl.v540 i arg3 arg4 arg6 X3 X4 X6 = cStep (arg6.view.read (Elt F) X6) (KB (arg4.view.read (Elt F) X4) 2 (2 * (i 2).val - 1)) (QB (arg3.view.read (Elt F) X3) 0 2) (cDiag (arg6.view.read (Elt F) X6) (KB (arg4.view.read (Elt F) X4) 2 (2 * (i 2).val)) (QB (arg3.view.read (Elt F) X3) 0 2)) := by
  change cStep (rL arg6 X6) (rK arg4 X4 _ (k0_off11_inb i)) (rQ arg3 X3 _ inb_S8x512x128_S1x256x128_2_0_0) (cDiag (rL arg6 X6) (rK arg4 X4 _ (k0_off3_inb i)) (rQ arg3 X3 _ inb_S8x512x128_S1x256x128_2_0_0)) = _
  rw [rL_eq arg6 X6, rQ_eq arg3 X3 _ 2 0 (by rfl) _, rK_eq arg4 X4 _ 2 _ (diagK0 i).2.2.1 _, rK_eq arg4 X4 _ 2 _ (prevK0 i).2.2.1 _]

/-- What head 2 of query block 0 has accumulated before the loop. -/
theorem acc0_2 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 2 (by norm_num) (by norm_num)).toLoadRect
    = upOf (addf (pDiag (arg6.view.read (Elt F) X6) (KB (arg4.view.read (Elt F) X4) 2 (2 * (i 2).val)) (QB (arg3.view.read (Elt F) X3) 0 2) (vOf (VB (arg5.view.read (Elt F) X5) 2 (2 * (i 2).val))))
        (pStep (arg6.view.read (Elt F) X6) (KB (arg4.view.read (Elt F) X4) 2 (2 * (i 2).val - 1)) (QB (arg3.view.read (Elt F) X3) 0 2) (kV (bodyRun.sl.v663 i) (vOf (VB (arg5.view.read (Elt F) X5) 2 (2 * (i 2).val - 1)))) (cDiag (arg6.view.read (Elt F) X6) (KB (arg4.view.read (Elt F) X4) 2 (2 * (i 2).val)) (QB (arg3.view.read (Elt F) X3) 0 2)))) := by
  refine Eq.trans (b := bodyRun.sl.v707 i arg3 arg4 arg5 arg6 arg8 X3 X4 X5 X6) ((rd_skipF arg8.view 0 7 0 2 (by decide) _ _).trans ((rd_skipF arg8.view 0 6 0 2 (by decide) _ _).trans ((rd_skipF arg8.view 0 5 0 2 (by decide) _ _).trans ((rd_skipF arg8.view 0 4 0 2 (by decide) _ _).trans ((rd_skipF arg8.view 0 3 0 2 (by decide) _ _).trans (rd_hit arg8.view 0 2 (by norm_num) (by norm_num) _ _)))))) ?_
  have e2 : arg8.view.readCov (bodyRun.sl.H8_10 i arg3 arg4 arg5 arg6 arg8 X3 X4 X5 X6) (rc 0 2 (by norm_num) (by norm_num)).toLoadRect = bodyRun.sl.v617 i arg3 arg4 arg5 arg6 X3 X4 X5 X6 := (rd_skipF arg8.view 0 1 0 2 (by decide) _ _).trans ((rd_skipF arg8.view 0 0 0 2 (by decide) _ _).trans ((rd_skipF arg8.view 0 7 0 2 (by decide) _ _).trans ((rd_skipF arg8.view 0 6 0 2 (by decide) _ _).trans ((rd_skipF arg8.view 0 5 0 2 (by decide) _ _).trans ((rd_skipF arg8.view 0 4 0 2 (by decide) _ _).trans ((rd_skipF arg8.view 0 3 0 2 (by decide) _ _).trans (rd_hit arg8.view 0 2 (by norm_num) (by norm_num) _ _)))))))
  have e3 : bodyRun.sl.v707 i arg3 arg4 arg5 arg6 arg8 X3 X4 X5 X6 = upOf (addf (dnOf (arg8.view.readCov (bodyRun.sl.H8_10 i arg3 arg4 arg5 arg6 arg8 X3 X4 X5 X6) (rc 0 2 (by norm_num) (by norm_num)).toLoadRect)) (pStep (rL arg6 X6) (rK arg4 X4 _ (k0_off11_inb i)) (rQ arg3 X3 _ inb_S8x512x128_S1x256x128_2_0_0) (kV (bodyRun.sl.v663 i) (vOf (rV arg5 X5 _ (k0_off27_inb i)))) (cDiag (rL arg6 X6) (rK arg4 X4 _ (k0_off3_inb i)) (rQ arg3 X3 _ inb_S8x512x128_S1x256x128_2_0_0)))) := rfl
  have e4 : bodyRun.sl.v617 i arg3 arg4 arg5 arg6 X3 X4 X5 X6 = upOf (pDiag (rL arg6 X6) (rK arg4 X4 _ (k0_off3_inb i)) (rQ arg3 X3 _ inb_S8x512x128_S1x256x128_2_0_0) (vOf (rV arg5 X5 _ (k0_off19_inb i)))) := rfl
  rw [e3, e2, e4, dn_up, rL_eq arg6 X6, rQ_eq arg3 X3 _ 2 0 (by rfl) _, rK_eq arg4 X4 _ 2 _ (diagK0 i).2.2.1 _, rK_eq arg4 X4 _ 2 _ (prevK0 i).2.2.1 _, rV_eq arg5 X5 _ 2 _ (diagV0 i).2.2.1 _, rV_eq arg5 X5 _ 2 _ (prevV0 i).2.2.1 _]

/-- What head 3 of query block 0 carries into the loop. -/
theorem carry0_3 : bodyRun.sl.v550 i arg3 arg4 arg6 X3 X4 X6 = cStep (arg6.view.read (Elt F) X6) (KB (arg4.view.read (Elt F) X4) 3 (2 * (i 2).val - 1)) (QB (arg3.view.read (Elt F) X3) 0 3) (cDiag (arg6.view.read (Elt F) X6) (KB (arg4.view.read (Elt F) X4) 3 (2 * (i 2).val)) (QB (arg3.view.read (Elt F) X3) 0 3)) := by
  change cStep (rL arg6 X6) (rK arg4 X4 _ (k0_off12_inb i)) (rQ arg3 X3 _ inb_S8x512x128_S1x256x128_3_0_0) (cDiag (rL arg6 X6) (rK arg4 X4 _ (k0_off4_inb i)) (rQ arg3 X3 _ inb_S8x512x128_S1x256x128_3_0_0)) = _
  rw [rL_eq arg6 X6, rQ_eq arg3 X3 _ 3 0 (by rfl) _, rK_eq arg4 X4 _ 3 _ (diagK0 i).2.2.2.1 _, rK_eq arg4 X4 _ 3 _ (prevK0 i).2.2.2.1 _]

/-- What head 3 of query block 0 has accumulated before the loop. -/
theorem acc0_3 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 3 (by norm_num) (by norm_num)).toLoadRect
    = upOf (addf (pDiag (arg6.view.read (Elt F) X6) (KB (arg4.view.read (Elt F) X4) 3 (2 * (i 2).val)) (QB (arg3.view.read (Elt F) X3) 0 3) (vOf (VB (arg5.view.read (Elt F) X5) 3 (2 * (i 2).val))))
        (pStep (arg6.view.read (Elt F) X6) (KB (arg4.view.read (Elt F) X4) 3 (2 * (i 2).val - 1)) (QB (arg3.view.read (Elt F) X3) 0 3) (kV (bodyRun.sl.v663 i) (vOf (VB (arg5.view.read (Elt F) X5) 3 (2 * (i 2).val - 1)))) (cDiag (arg6.view.read (Elt F) X6) (KB (arg4.view.read (Elt F) X4) 3 (2 * (i 2).val)) (QB (arg3.view.read (Elt F) X3) 0 3)))) := by
  refine Eq.trans (b := bodyRun.sl.v722 i arg3 arg4 arg5 arg6 arg8 X3 X4 X5 X6) ((rd_skipF arg8.view 0 7 0 3 (by decide) _ _).trans ((rd_skipF arg8.view 0 6 0 3 (by decide) _ _).trans ((rd_skipF arg8.view 0 5 0 3 (by decide) _ _).trans ((rd_skipF arg8.view 0 4 0 3 (by decide) _ _).trans (rd_hit arg8.view 0 3 (by norm_num) (by norm_num) _ _))))) ?_
  have e2 : arg8.view.readCov (bodyRun.sl.H8_11 i arg3 arg4 arg5 arg6 arg8 X3 X4 X5 X6) (rc 0 3 (by norm_num) (by norm_num)).toLoadRect = bodyRun.sl.v626 i arg3 arg4 arg5 arg6 X3 X4 X5 X6 := (rd_skipF arg8.view 0 2 0 3 (by decide) _ _).trans ((rd_skipF arg8.view 0 1 0 3 (by decide) _ _).trans ((rd_skipF arg8.view 0 0 0 3 (by decide) _ _).trans ((rd_skipF arg8.view 0 7 0 3 (by decide) _ _).trans ((rd_skipF arg8.view 0 6 0 3 (by decide) _ _).trans ((rd_skipF arg8.view 0 5 0 3 (by decide) _ _).trans ((rd_skipF arg8.view 0 4 0 3 (by decide) _ _).trans (rd_hit arg8.view 0 3 (by norm_num) (by norm_num) _ _)))))))
  have e3 : bodyRun.sl.v722 i arg3 arg4 arg5 arg6 arg8 X3 X4 X5 X6 = upOf (addf (dnOf (arg8.view.readCov (bodyRun.sl.H8_11 i arg3 arg4 arg5 arg6 arg8 X3 X4 X5 X6) (rc 0 3 (by norm_num) (by norm_num)).toLoadRect)) (pStep (rL arg6 X6) (rK arg4 X4 _ (k0_off12_inb i)) (rQ arg3 X3 _ inb_S8x512x128_S1x256x128_3_0_0) (kV (bodyRun.sl.v663 i) (vOf (rV arg5 X5 _ (k0_off28_inb i)))) (cDiag (rL arg6 X6) (rK arg4 X4 _ (k0_off4_inb i)) (rQ arg3 X3 _ inb_S8x512x128_S1x256x128_3_0_0)))) := rfl
  have e4 : bodyRun.sl.v626 i arg3 arg4 arg5 arg6 X3 X4 X5 X6 = upOf (pDiag (rL arg6 X6) (rK arg4 X4 _ (k0_off4_inb i)) (rQ arg3 X3 _ inb_S8x512x128_S1x256x128_3_0_0) (vOf (rV arg5 X5 _ (k0_off20_inb i)))) := rfl
  rw [e3, e2, e4, dn_up, rL_eq arg6 X6, rQ_eq arg3 X3 _ 3 0 (by rfl) _, rK_eq arg4 X4 _ 3 _ (diagK0 i).2.2.2.1 _, rK_eq arg4 X4 _ 3 _ (prevK0 i).2.2.2.1 _, rV_eq arg5 X5 _ 3 _ (diagV0 i).2.2.2.1 _, rV_eq arg5 X5 _ 3 _ (prevV0 i).2.2.2.1 _]

/-- What head 4 of query block 0 carries into the loop. -/
theorem carry0_4 : bodyRun.sl.v560 i arg3 arg4 arg6 X3 X4 X6 = cStep (arg6.view.read (Elt F) X6) (KB (arg4.view.read (Elt F) X4) 4 (2 * (i 2).val - 1)) (QB (arg3.view.read (Elt F) X3) 0 4) (cDiag (arg6.view.read (Elt F) X6) (KB (arg4.view.read (Elt F) X4) 4 (2 * (i 2).val)) (QB (arg3.view.read (Elt F) X3) 0 4)) := by
  change cStep (rL arg6 X6) (rK arg4 X4 _ (k0_off13_inb i)) (rQ arg3 X3 _ inb_S8x512x128_S1x256x128_4_0_0) (cDiag (rL arg6 X6) (rK arg4 X4 _ (k0_off5_inb i)) (rQ arg3 X3 _ inb_S8x512x128_S1x256x128_4_0_0)) = _
  rw [rL_eq arg6 X6, rQ_eq arg3 X3 _ 4 0 (by rfl) _, rK_eq arg4 X4 _ 4 _ (diagK0 i).2.2.2.2.1 _, rK_eq arg4 X4 _ 4 _ (prevK0 i).2.2.2.2.1 _]

/-- What head 4 of query block 0 has accumulated before the loop. -/
theorem acc0_4 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 4 (by norm_num) (by norm_num)).toLoadRect
    = upOf (addf (pDiag (arg6.view.read (Elt F) X6) (KB (arg4.view.read (Elt F) X4) 4 (2 * (i 2).val)) (QB (arg3.view.read (Elt F) X3) 0 4) (vOf (VB (arg5.view.read (Elt F) X5) 4 (2 * (i 2).val))))
        (pStep (arg6.view.read (Elt F) X6) (KB (arg4.view.read (Elt F) X4) 4 (2 * (i 2).val - 1)) (QB (arg3.view.read (Elt F) X3) 0 4) (kV (bodyRun.sl.v663 i) (vOf (VB (arg5.view.read (Elt F) X5) 4 (2 * (i 2).val - 1)))) (cDiag (arg6.view.read (Elt F) X6) (KB (arg4.view.read (Elt F) X4) 4 (2 * (i 2).val)) (QB (arg3.view.read (Elt F) X3) 0 4)))) := by
  refine Eq.trans (b := bodyRun.sl.v737 i arg3 arg4 arg5 arg6 arg8 X3 X4 X5 X6) ((rd_skipF arg8.view 0 7 0 4 (by decide) _ _).trans ((rd_skipF arg8.view 0 6 0 4 (by decide) _ _).trans ((rd_skipF arg8.view 0 5 0 4 (by decide) _ _).trans (rd_hit arg8.view 0 4 (by norm_num) (by norm_num) _ _)))) ?_
  have e2 : arg8.view.readCov (bodyRun.sl.H8_12 i arg3 arg4 arg5 arg6 arg8 X3 X4 X5 X6) (rc 0 4 (by norm_num) (by norm_num)).toLoadRect = bodyRun.sl.v635 i arg3 arg4 arg5 arg6 X3 X4 X5 X6 := (rd_skipF arg8.view 0 3 0 4 (by decide) _ _).trans ((rd_skipF arg8.view 0 2 0 4 (by decide) _ _).trans ((rd_skipF arg8.view 0 1 0 4 (by decide) _ _).trans ((rd_skipF arg8.view 0 0 0 4 (by decide) _ _).trans ((rd_skipF arg8.view 0 7 0 4 (by decide) _ _).trans ((rd_skipF arg8.view 0 6 0 4 (by decide) _ _).trans ((rd_skipF arg8.view 0 5 0 4 (by decide) _ _).trans (rd_hit arg8.view 0 4 (by norm_num) (by norm_num) _ _)))))))
  have e3 : bodyRun.sl.v737 i arg3 arg4 arg5 arg6 arg8 X3 X4 X5 X6 = upOf (addf (dnOf (arg8.view.readCov (bodyRun.sl.H8_12 i arg3 arg4 arg5 arg6 arg8 X3 X4 X5 X6) (rc 0 4 (by norm_num) (by norm_num)).toLoadRect)) (pStep (rL arg6 X6) (rK arg4 X4 _ (k0_off13_inb i)) (rQ arg3 X3 _ inb_S8x512x128_S1x256x128_4_0_0) (kV (bodyRun.sl.v663 i) (vOf (rV arg5 X5 _ (k0_off29_inb i)))) (cDiag (rL arg6 X6) (rK arg4 X4 _ (k0_off5_inb i)) (rQ arg3 X3 _ inb_S8x512x128_S1x256x128_4_0_0)))) := rfl
  have e4 : bodyRun.sl.v635 i arg3 arg4 arg5 arg6 X3 X4 X5 X6 = upOf (pDiag (rL arg6 X6) (rK arg4 X4 _ (k0_off5_inb i)) (rQ arg3 X3 _ inb_S8x512x128_S1x256x128_4_0_0) (vOf (rV arg5 X5 _ (k0_off21_inb i)))) := rfl
  rw [e3, e2, e4, dn_up, rL_eq arg6 X6, rQ_eq arg3 X3 _ 4 0 (by rfl) _, rK_eq arg4 X4 _ 4 _ (diagK0 i).2.2.2.2.1 _, rK_eq arg4 X4 _ 4 _ (prevK0 i).2.2.2.2.1 _, rV_eq arg5 X5 _ 4 _ (diagV0 i).2.2.2.2.1 _, rV_eq arg5 X5 _ 4 _ (prevV0 i).2.2.2.2.1 _]

/-- What head 5 of query block 0 carries into the loop. -/
theorem carry0_5 : bodyRun.sl.v570 i arg3 arg4 arg6 X3 X4 X6 = cStep (arg6.view.read (Elt F) X6) (KB (arg4.view.read (Elt F) X4) 5 (2 * (i 2).val - 1)) (QB (arg3.view.read (Elt F) X3) 0 5) (cDiag (arg6.view.read (Elt F) X6) (KB (arg4.view.read (Elt F) X4) 5 (2 * (i 2).val)) (QB (arg3.view.read (Elt F) X3) 0 5)) := by
  change cStep (rL arg6 X6) (rK arg4 X4 _ (k0_off14_inb i)) (rQ arg3 X3 _ inb_S8x512x128_S1x256x128_5_0_0) (cDiag (rL arg6 X6) (rK arg4 X4 _ (k0_off6_inb i)) (rQ arg3 X3 _ inb_S8x512x128_S1x256x128_5_0_0)) = _
  rw [rL_eq arg6 X6, rQ_eq arg3 X3 _ 5 0 (by rfl) _, rK_eq arg4 X4 _ 5 _ (diagK0 i).2.2.2.2.2.1 _, rK_eq arg4 X4 _ 5 _ (prevK0 i).2.2.2.2.2.1 _]

/-- What head 5 of query block 0 has accumulated before the loop. -/
theorem acc0_5 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 5 (by norm_num) (by norm_num)).toLoadRect
    = upOf (addf (pDiag (arg6.view.read (Elt F) X6) (KB (arg4.view.read (Elt F) X4) 5 (2 * (i 2).val)) (QB (arg3.view.read (Elt F) X3) 0 5) (vOf (VB (arg5.view.read (Elt F) X5) 5 (2 * (i 2).val))))
        (pStep (arg6.view.read (Elt F) X6) (KB (arg4.view.read (Elt F) X4) 5 (2 * (i 2).val - 1)) (QB (arg3.view.read (Elt F) X3) 0 5) (kV (bodyRun.sl.v663 i) (vOf (VB (arg5.view.read (Elt F) X5) 5 (2 * (i 2).val - 1)))) (cDiag (arg6.view.read (Elt F) X6) (KB (arg4.view.read (Elt F) X4) 5 (2 * (i 2).val)) (QB (arg3.view.read (Elt F) X3) 0 5)))) := by
  refine Eq.trans (b := bodyRun.sl.v752 i arg3 arg4 arg5 arg6 arg8 X3 X4 X5 X6) ((rd_skipF arg8.view 0 7 0 5 (by decide) _ _).trans ((rd_skipF arg8.view 0 6 0 5 (by decide) _ _).trans (rd_hit arg8.view 0 5 (by norm_num) (by norm_num) _ _))) ?_
  have e2 : arg8.view.readCov (bodyRun.sl.H8_13 i arg3 arg4 arg5 arg6 arg8 X3 X4 X5 X6) (rc 0 5 (by norm_num) (by norm_num)).toLoadRect = bodyRun.sl.v644 i arg3 arg4 arg5 arg6 X3 X4 X5 X6 := (rd_skipF arg8.view 0 4 0 5 (by decide) _ _).trans ((rd_skipF arg8.view 0 3 0 5 (by decide) _ _).trans ((rd_skipF arg8.view 0 2 0 5 (by decide) _ _).trans ((rd_skipF arg8.view 0 1 0 5 (by decide) _ _).trans ((rd_skipF arg8.view 0 0 0 5 (by decide) _ _).trans ((rd_skipF arg8.view 0 7 0 5 (by decide) _ _).trans ((rd_skipF arg8.view 0 6 0 5 (by decide) _ _).trans (rd_hit arg8.view 0 5 (by norm_num) (by norm_num) _ _)))))))
  have e3 : bodyRun.sl.v752 i arg3 arg4 arg5 arg6 arg8 X3 X4 X5 X6 = upOf (addf (dnOf (arg8.view.readCov (bodyRun.sl.H8_13 i arg3 arg4 arg5 arg6 arg8 X3 X4 X5 X6) (rc 0 5 (by norm_num) (by norm_num)).toLoadRect)) (pStep (rL arg6 X6) (rK arg4 X4 _ (k0_off14_inb i)) (rQ arg3 X3 _ inb_S8x512x128_S1x256x128_5_0_0) (kV (bodyRun.sl.v663 i) (vOf (rV arg5 X5 _ (k0_off30_inb i)))) (cDiag (rL arg6 X6) (rK arg4 X4 _ (k0_off6_inb i)) (rQ arg3 X3 _ inb_S8x512x128_S1x256x128_5_0_0)))) := rfl
  have e4 : bodyRun.sl.v644 i arg3 arg4 arg5 arg6 X3 X4 X5 X6 = upOf (pDiag (rL arg6 X6) (rK arg4 X4 _ (k0_off6_inb i)) (rQ arg3 X3 _ inb_S8x512x128_S1x256x128_5_0_0) (vOf (rV arg5 X5 _ (k0_off22_inb i)))) := rfl
  rw [e3, e2, e4, dn_up, rL_eq arg6 X6, rQ_eq arg3 X3 _ 5 0 (by rfl) _, rK_eq arg4 X4 _ 5 _ (diagK0 i).2.2.2.2.2.1 _, rK_eq arg4 X4 _ 5 _ (prevK0 i).2.2.2.2.2.1 _, rV_eq arg5 X5 _ 5 _ (diagV0 i).2.2.2.2.2.1 _, rV_eq arg5 X5 _ 5 _ (prevV0 i).2.2.2.2.2.1 _]

/-- What head 6 of query block 0 carries into the loop. -/
theorem carry0_6 : bodyRun.sl.v580 i arg3 arg4 arg6 X3 X4 X6 = cStep (arg6.view.read (Elt F) X6) (KB (arg4.view.read (Elt F) X4) 6 (2 * (i 2).val - 1)) (QB (arg3.view.read (Elt F) X3) 0 6) (cDiag (arg6.view.read (Elt F) X6) (KB (arg4.view.read (Elt F) X4) 6 (2 * (i 2).val)) (QB (arg3.view.read (Elt F) X3) 0 6)) := by
  change cStep (rL arg6 X6) (rK arg4 X4 _ (k0_off15_inb i)) (rQ arg3 X3 _ inb_S8x512x128_S1x256x128_6_0_0) (cDiag (rL arg6 X6) (rK arg4 X4 _ (k0_off7_inb i)) (rQ arg3 X3 _ inb_S8x512x128_S1x256x128_6_0_0)) = _
  rw [rL_eq arg6 X6, rQ_eq arg3 X3 _ 6 0 (by rfl) _, rK_eq arg4 X4 _ 6 _ (diagK0 i).2.2.2.2.2.2.1 _, rK_eq arg4 X4 _ 6 _ (prevK0 i).2.2.2.2.2.2.1 _]

/-- What head 6 of query block 0 has accumulated before the loop. -/
theorem acc0_6 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 6 (by norm_num) (by norm_num)).toLoadRect
    = upOf (addf (pDiag (arg6.view.read (Elt F) X6) (KB (arg4.view.read (Elt F) X4) 6 (2 * (i 2).val)) (QB (arg3.view.read (Elt F) X3) 0 6) (vOf (VB (arg5.view.read (Elt F) X5) 6 (2 * (i 2).val))))
        (pStep (arg6.view.read (Elt F) X6) (KB (arg4.view.read (Elt F) X4) 6 (2 * (i 2).val - 1)) (QB (arg3.view.read (Elt F) X3) 0 6) (kV (bodyRun.sl.v663 i) (vOf (VB (arg5.view.read (Elt F) X5) 6 (2 * (i 2).val - 1)))) (cDiag (arg6.view.read (Elt F) X6) (KB (arg4.view.read (Elt F) X4) 6 (2 * (i 2).val)) (QB (arg3.view.read (Elt F) X3) 0 6)))) := by
  refine Eq.trans (b := bodyRun.sl.v767 i arg3 arg4 arg5 arg6 arg8 X3 X4 X5 X6) ((rd_skipF arg8.view 0 7 0 6 (by decide) _ _).trans (rd_hit arg8.view 0 6 (by norm_num) (by norm_num) _ _)) ?_
  have e2 : arg8.view.readCov (bodyRun.sl.H8_14 i arg3 arg4 arg5 arg6 arg8 X3 X4 X5 X6) (rc 0 6 (by norm_num) (by norm_num)).toLoadRect = bodyRun.sl.v653 i arg3 arg4 arg5 arg6 X3 X4 X5 X6 := (rd_skipF arg8.view 0 5 0 6 (by decide) _ _).trans ((rd_skipF arg8.view 0 4 0 6 (by decide) _ _).trans ((rd_skipF arg8.view 0 3 0 6 (by decide) _ _).trans ((rd_skipF arg8.view 0 2 0 6 (by decide) _ _).trans ((rd_skipF arg8.view 0 1 0 6 (by decide) _ _).trans ((rd_skipF arg8.view 0 0 0 6 (by decide) _ _).trans ((rd_skipF arg8.view 0 7 0 6 (by decide) _ _).trans (rd_hit arg8.view 0 6 (by norm_num) (by norm_num) _ _)))))))
  have e3 : bodyRun.sl.v767 i arg3 arg4 arg5 arg6 arg8 X3 X4 X5 X6 = upOf (addf (dnOf (arg8.view.readCov (bodyRun.sl.H8_14 i arg3 arg4 arg5 arg6 arg8 X3 X4 X5 X6) (rc 0 6 (by norm_num) (by norm_num)).toLoadRect)) (pStep (rL arg6 X6) (rK arg4 X4 _ (k0_off15_inb i)) (rQ arg3 X3 _ inb_S8x512x128_S1x256x128_6_0_0) (kV (bodyRun.sl.v663 i) (vOf (rV arg5 X5 _ (k0_off31_inb i)))) (cDiag (rL arg6 X6) (rK arg4 X4 _ (k0_off7_inb i)) (rQ arg3 X3 _ inb_S8x512x128_S1x256x128_6_0_0)))) := rfl
  have e4 : bodyRun.sl.v653 i arg3 arg4 arg5 arg6 X3 X4 X5 X6 = upOf (pDiag (rL arg6 X6) (rK arg4 X4 _ (k0_off7_inb i)) (rQ arg3 X3 _ inb_S8x512x128_S1x256x128_6_0_0) (vOf (rV arg5 X5 _ (k0_off23_inb i)))) := rfl
  rw [e3, e2, e4, dn_up, rL_eq arg6 X6, rQ_eq arg3 X3 _ 6 0 (by rfl) _, rK_eq arg4 X4 _ 6 _ (diagK0 i).2.2.2.2.2.2.1 _, rK_eq arg4 X4 _ 6 _ (prevK0 i).2.2.2.2.2.2.1 _, rV_eq arg5 X5 _ 6 _ (diagV0 i).2.2.2.2.2.2.1 _, rV_eq arg5 X5 _ 6 _ (prevV0 i).2.2.2.2.2.2.1 _]

/-- What head 7 of query block 0 carries into the loop. -/
theorem carry0_7 : bodyRun.sl.v590 i arg3 arg4 arg6 X3 X4 X6 = cStep (arg6.view.read (Elt F) X6) (KB (arg4.view.read (Elt F) X4) 7 (2 * (i 2).val - 1)) (QB (arg3.view.read (Elt F) X3) 0 7) (cDiag (arg6.view.read (Elt F) X6) (KB (arg4.view.read (Elt F) X4) 7 (2 * (i 2).val)) (QB (arg3.view.read (Elt F) X3) 0 7)) := by
  change cStep (rL arg6 X6) (rK arg4 X4 _ (k0_off16_inb i)) (rQ arg3 X3 _ inb_S8x512x128_S1x256x128_7_0_0) (cDiag (rL arg6 X6) (rK arg4 X4 _ (k0_off8_inb i)) (rQ arg3 X3 _ inb_S8x512x128_S1x256x128_7_0_0)) = _
  rw [rL_eq arg6 X6, rQ_eq arg3 X3 _ 7 0 (by rfl) _, rK_eq arg4 X4 _ 7 _ (diagK0 i).2.2.2.2.2.2.2 _, rK_eq arg4 X4 _ 7 _ (prevK0 i).2.2.2.2.2.2.2 _]

/-- What head 7 of query block 0 has accumulated before the loop. -/
theorem acc0_7 : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 7 (by norm_num) (by norm_num)).toLoadRect
    = upOf (addf (pDiag (arg6.view.read (Elt F) X6) (KB (arg4.view.read (Elt F) X4) 7 (2 * (i 2).val)) (QB (arg3.view.read (Elt F) X3) 0 7) (vOf (VB (arg5.view.read (Elt F) X5) 7 (2 * (i 2).val))))
        (pStep (arg6.view.read (Elt F) X6) (KB (arg4.view.read (Elt F) X4) 7 (2 * (i 2).val - 1)) (QB (arg3.view.read (Elt F) X3) 0 7) (kV (bodyRun.sl.v663 i) (vOf (VB (arg5.view.read (Elt F) X5) 7 (2 * (i 2).val - 1)))) (cDiag (arg6.view.read (Elt F) X6) (KB (arg4.view.read (Elt F) X4) 7 (2 * (i 2).val)) (QB (arg3.view.read (Elt F) X3) 0 7)))) := by
  refine Eq.trans (b := bodyRun.sl.v782 i arg3 arg4 arg5 arg6 arg8 X3 X4 X5 X6) (rd_hit arg8.view 0 7 (by norm_num) (by norm_num) _ _) ?_
  have e2 : arg8.view.readCov (bodyRun.sl.H8_15 i arg3 arg4 arg5 arg6 arg8 X3 X4 X5 X6) (rc 0 7 (by norm_num) (by norm_num)).toLoadRect = bodyRun.sl.v662 i arg3 arg4 arg5 arg6 X3 X4 X5 X6 := (rd_skipF arg8.view 0 6 0 7 (by decide) _ _).trans ((rd_skipF arg8.view 0 5 0 7 (by decide) _ _).trans ((rd_skipF arg8.view 0 4 0 7 (by decide) _ _).trans ((rd_skipF arg8.view 0 3 0 7 (by decide) _ _).trans ((rd_skipF arg8.view 0 2 0 7 (by decide) _ _).trans ((rd_skipF arg8.view 0 1 0 7 (by decide) _ _).trans ((rd_skipF arg8.view 0 0 0 7 (by decide) _ _).trans (rd_hit arg8.view 0 7 (by norm_num) (by norm_num) _ _)))))))
  have e3 : bodyRun.sl.v782 i arg3 arg4 arg5 arg6 arg8 X3 X4 X5 X6 = upOf (addf (dnOf (arg8.view.readCov (bodyRun.sl.H8_15 i arg3 arg4 arg5 arg6 arg8 X3 X4 X5 X6) (rc 0 7 (by norm_num) (by norm_num)).toLoadRect)) (pStep (rL arg6 X6) (rK arg4 X4 _ (k0_off16_inb i)) (rQ arg3 X3 _ inb_S8x512x128_S1x256x128_7_0_0) (kV (bodyRun.sl.v663 i) (vOf (rV arg5 X5 _ (k0_off32_inb i)))) (cDiag (rL arg6 X6) (rK arg4 X4 _ (k0_off8_inb i)) (rQ arg3 X3 _ inb_S8x512x128_S1x256x128_7_0_0)))) := rfl
  have e4 : bodyRun.sl.v662 i arg3 arg4 arg5 arg6 X3 X4 X5 X6 = upOf (pDiag (rL arg6 X6) (rK arg4 X4 _ (k0_off8_inb i)) (rQ arg3 X3 _ inb_S8x512x128_S1x256x128_7_0_0) (vOf (rV arg5 X5 _ (k0_off24_inb i)))) := rfl
  rw [e3, e2, e4, dn_up, rL_eq arg6 X6, rQ_eq arg3 X3 _ 7 0 (by rfl) _, rK_eq arg4 X4 _ 7 _ (diagK0 i).2.2.2.2.2.2.2 _, rK_eq arg4 X4 _ 7 _ (prevK0 i).2.2.2.2.2.2.2 _, rV_eq arg5 X5 _ 7 _ (diagV0 i).2.2.2.2.2.2.2 _, rV_eq arg5 X5 _ 7 _ (prevV0 i).2.2.2.2.2.2.2 _]

end Cert.KernelIdeal.Own
-- ==== Proof.OwnI.Words1.lean ====
/- What the attention body has computed before the key-block loop of query block 1, head by head. -/
module

public import proofs.«01_k».proof.Proof.OwnI.Body
public import proofs.«01_k».proof.Proof.OwnI.Off
public import proofs.«01_k».proof.Proof.OwnI.Read

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

variable (c : Dev nD) (i : grid0.Coords) (arg3 : Memref sig .tc .vmem S8x512x128 .bf16) (harg3 : arg3.IsWhole) (arg4 : Memref sig .tc .vmem S8x4096x128 .bf16) (harg4 : arg4.IsWhole)
  (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
  (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty)

theorem keep1_pt : ∀ (a : Fin 4) (b : Fin 2) (x : Fin 8), bodyRun.sl.v1519 (pt a b x) = if 2 * x.val + 1 = 0 then 0#1 else 1#1 := by
  decide +kernel

/-- Whether query block 1 has a block before it. -/
theorem keep1 (i : grid0.Coords) : bodyRun.sl.v1519 i = if 2 * (i 2).val + 1 = 0 then 0#1 else 1#1 := by
  rw [eq_pt i]; exact keep1_pt _ _ _

/-- What head 0 of query block 1 carries into the loop. -/
theorem carry1_0 : bodyRun.sl.v1376 i arg3 arg4 arg6 X3 X4 X6 = cStep (arg6.view.read (Elt F) X6) (KB (arg4.view.read (Elt F) X4) 0 (2 * (i 2).val + 1 - 1)) (QB (arg3.view.read (Elt F) X3) 1 0) (cDiag (arg6.view.read (Elt F) X6) (KB (arg4.view.read (Elt F) X4) 0 (2 * (i 2).val + 1)) (QB (arg3.view.read (Elt F) X3) 1 0)) := by
  change cStep (rL arg6 X6) (rK arg4 X4 _ (k0_off73_inb i)) (rQ arg3 X3 _ inb_S8x512x128_S1x256x128_0_256_0) (cDiag (rL arg6 X6) (rK arg4 X4 _ (k0_off65_inb i)) (rQ arg3 X3 _ inb_S8x512x128_S1x256x128_0_256_0)) = _
  rw [rL_eq arg6 X6, rQ_eq arg3 X3 _ 0 1 (by rfl) _, rK_eq arg4 X4 _ 0 _ (diagK1 i).1 _, rK_eq arg4 X4 _ 0 _ (prevK1 i).1 _]

/-- What head 0 of query block 1 has accumulated before the loop. -/
theorem acc1_0 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 0 (by norm_num) (by norm_num)).toLoadRect
    = upOf (addf (pDiag (arg6.view.read (Elt F) X6) (KB (arg4.view.read (Elt F) X4) 0 (2 * (i 2).val + 1)) (QB (arg3.view.read (Elt F) X3) 1 0) (vOf (VB (arg5.view.read (Elt F) X5) 0 (2 * (i 2).val + 1))))
        (pStep (arg6.view.read (Elt F) X6) (KB (arg4.view.read (Elt F) X4) 0 (2 * (i 2).val + 1 - 1)) (QB (arg3.view.read (Elt F) X3) 1 0) (kV (bodyRun.sl.v1519 i) (vOf (VB (arg5.view.read (Elt F) X5) 0 (2 * (i 2).val + 1 - 1)))) (cDiag (arg6.view.read (Elt F) X6) (KB (arg4.view.read (Elt F) X4) 0 (2 * (i 2).val + 1)) (QB (arg3.view.read (Elt F) X3) 1 0)))) := by
  refine Eq.trans (b := bodyRun.sl.v1533 c i arg3 harg3 arg4 harg4 arg5 harg5 arg6 harg6 arg7 harg7 arg8 harg8 X3 X4 X5 X6 f8) ((rd_skipF arg8.view 1 7 1 0 (by decide) _ _).trans ((rd_skipF arg8.view 1 6 1 0 (by decide) _ _).trans ((rd_skipF arg8.view 1 5 1 0 (by decide) _ _).trans ((rd_skipF arg8.view 1 4 1 0 (by decide) _ _).trans ((rd_skipF arg8.view 1 3 1 0 (by decide) _ _).trans ((rd_skipF arg8.view 1 2 1 0 (by decide) _ _).trans ((rd_skipF arg8.view 1 1 1 0 (by decide) _ _).trans (rd_hit arg8.view 1 0 (by norm_num) (by norm_num) _ _)))))))) ?_
  have e2 : arg8.view.readCov (bodyRun.sl.H8_8_1 c i arg3 harg3 arg4 harg4 arg5 harg5 arg6 harg6 arg7 harg7 arg8 harg8 X3 X4 X5 X6 f8) (rc 1 0 (by norm_num) (by norm_num)).toLoadRect = bodyRun.sl.v1455 i arg3 arg4 arg5 arg6 X3 X4 X5 X6 := (rd_skipF arg8.view 1 7 1 0 (by decide) _ _).trans ((rd_skipF arg8.view 1 6 1 0 (by decide) _ _).trans ((rd_skipF arg8.view 1 5 1 0 (by decide) _ _).trans ((rd_skipF arg8.view 1 4 1 0 (by decide) _ _).trans ((rd_skipF arg8.view 1 3 1 0 (by decide) _ _).trans ((rd_skipF arg8.view 1 2 1 0 (by decide) _ _).trans ((rd_skipF arg8.view 1 1 1 0 (by decide) _ _).trans (rd_hit arg8.view 1 0 (by norm_num) (by norm_num) _ _)))))))
  have e3 : bodyRun.sl.v1533 c i arg3 harg3 arg4 harg4 arg5 harg5 arg6 harg6 arg7 harg7 arg8 harg8 X3 X4 X5 X6 f8 = upOf (addf (dnOf (arg8.view.readCov (bodyRun.sl.H8_8_1 c i arg3 harg3 arg4 harg4 arg5 harg5 arg6 harg6 arg7 harg7 arg8 harg8 X3 X4 X5 X6 f8) (rc 1 0 (by norm_num) (by norm_num)).toLoadRect)) (pStep (rL arg6 X6) (rK arg4 X4 _ (k0_off73_inb i)) (rQ arg3 X3 _ inb_S8x512x128_S1x256x128_0_256_0) (kV (bodyRun.sl.v1519 i) (vOf (rV arg5 X5 _ (k0_off89_inb i)))) (cDiag (rL arg6 X6) (rK arg4 X4 _ (k0_off65_inb i)) (rQ arg3 X3 _ inb_S8x512x128_S1x256x128_0_256_0)))) := rfl
  have e4 : bodyRun.sl.v1455 i arg3 arg4 arg5 arg6 X3 X4 X5 X6 = upOf (pDiag (rL arg6 X6) (rK arg4 X4 _ (k0_off65_inb i)) (rQ arg3 X3 _ inb_S8x512x128_S1x256x128_0_256_0) (vOf (rV arg5 X5 _ (k0_off81_inb i)))) := rfl
  rw [e3, e2, e4, dn_up, rL_eq arg6 X6, rQ_eq arg3 X3 _ 0 1 (by rfl) _, rK_eq arg4 X4 _ 0 _ (diagK1 i).1 _, rK_eq arg4 X4 _ 0 _ (prevK1 i).1 _, rV_eq arg5 X5 _ 0 _ (diagV1 i).1 _, rV_eq arg5 X5 _ 0 _ (prevV1 i).1 _]

/-- What head 1 of query block 1 carries into the loop. -/
theorem carry1_1 : bodyRun.sl.v1386 i arg3 arg4 arg6 X3 X4 X6 = cStep (arg6.view.read (Elt F) X6) (KB (arg4.view.read (Elt F) X4) 1 (2 * (i 2).val + 1 - 1)) (QB (arg3.view.read (Elt F) X3) 1 1) (cDiag (arg6.view.read (Elt F) X6) (KB (arg4.view.read (Elt F) X4) 1 (2 * (i 2).val + 1)) (QB (arg3.view.read (Elt F) X3) 1 1)) := by
  change cStep (rL arg6 X6) (rK arg4 X4 _ (k0_off74_inb i)) (rQ arg3 X3 _ inb_S8x512x128_S1x256x128_1_256_0) (cDiag (rL arg6 X6) (rK arg4 X4 _ (k0_off66_inb i)) (rQ arg3 X3 _ inb_S8x512x128_S1x256x128_1_256_0)) = _
  rw [rL_eq arg6 X6, rQ_eq arg3 X3 _ 1 1 (by rfl) _, rK_eq arg4 X4 _ 1 _ (diagK1 i).2.1 _, rK_eq arg4 X4 _ 1 _ (prevK1 i).2.1 _]

/-- What head 1 of query block 1 has accumulated before the loop. -/
theorem acc1_1 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 1 (by norm_num) (by norm_num)).toLoadRect
    = upOf (addf (pDiag (arg6.view.read (Elt F) X6) (KB (arg4.view.read (Elt F) X4) 1 (2 * (i 2).val + 1)) (QB (arg3.view.read (Elt F) X3) 1 1) (vOf (VB (arg5.view.read (Elt F) X5) 1 (2 * (i 2).val + 1))))
        (pStep (arg6.view.read (Elt F) X6) (KB (arg4.view.read (Elt F) X4) 1 (2 * (i 2).val + 1 - 1)) (QB (arg3.view.read (Elt F) X3) 1 1) (kV (bodyRun.sl.v1519 i) (vOf (VB (arg5.view.read (Elt F) X5) 1 (2 * (i 2).val + 1 - 1)))) (cDiag (arg6.view.read (Elt F) X6) (KB (arg4.view.read (Elt F) X4) 1 (2 * (i 2).val + 1)) (QB (arg3.view.read (Elt F) X3) 1 1)))) := by
  refine Eq.trans (b := bodyRun.sl.v1548 c i arg3 harg3 arg4 harg4 arg5 harg5 arg6 harg6 arg7 harg7 arg8 harg8 X3 X4 X5 X6 f8) ((rd_skipF arg8.view 1 7 1 1 (by decide) _ _).trans ((rd_skipF arg8.view 1 6 1 1 (by decide) _ _).trans ((rd_skipF arg8.view 1 5 1 1 (by decide) _ _).trans ((rd_skipF arg8.view 1 4 1 1 (by decide) _ _).trans ((rd_skipF arg8.view 1 3 1 1 (by decide) _ _).trans ((rd_skipF arg8.view 1 2 1 1 (by decide) _ _).trans (rd_hit arg8.view 1 1 (by norm_num) (by norm_num) _ _))))))) ?_
  have e2 : arg8.view.readCov (bodyRun.sl.H8_9_1 c i arg3 harg3 arg4 harg4 arg5 harg5 arg6 harg6 arg7 harg7 arg8 harg8 X3 X4 X5 X6 f8) (rc 1 1 (by norm_num) (by norm_num)).toLoadRect = bodyRun.sl.v1464 i arg3 arg4 arg5 arg6 X3 X4 X5 X6 := (rd_skipF arg8.view 1 0 1 1 (by decide) _ _).trans ((rd_skipF arg8.view 1 7 1 1 (by decide) _ _).trans ((rd_skipF arg8.view 1 6 1 1 (by decide) _ _).trans ((rd_skipF arg8.view 1 5 1 1 (by decide) _ _).trans ((rd_skipF arg8.view 1 4 1 1 (by decide) _ _).trans ((rd_skipF arg8.view 1 3 1 1 (by decide) _ _).trans ((rd_skipF arg8.view 1 2 1 1 (by decide) _ _).trans (rd_hit arg8.view 1 1 (by norm_num) (by norm_num) _ _)))))))
  have e3 : bodyRun.sl.v1548 c i arg3 harg3 arg4 harg4 arg5 harg5 arg6 harg6 arg7 harg7 arg8 harg8 X3 X4 X5 X6 f8 = upOf (addf (dnOf (arg8.view.readCov (bodyRun.sl.H8_9_1 c i arg3 harg3 arg4 harg4 arg5 harg5 arg6 harg6 arg7 harg7 arg8 harg8 X3 X4 X5 X6 f8) (rc 1 1 (by norm_num) (by norm_num)).toLoadRect)) (pStep (rL arg6 X6) (rK arg4 X4 _ (k0_off74_inb i)) (rQ arg3 X3 _ inb_S8x512x128_S1x256x128_1_256_0) (kV (bodyRun.sl.v1519 i) (vOf (rV arg5 X5 _ (k0_off90_inb i)))) (cDiag (rL arg6 X6) (rK arg4 X4 _ (k0_off66_inb i)) (rQ arg3 X3 _ inb_S8x512x128_S1x256x128_1_256_0)))) := rfl
  have e4 : bodyRun.sl.v1464 i arg3 arg4 arg5 arg6 X3 X4 X5 X6 = upOf (pDiag (rL arg6 X6) (rK arg4 X4 _ (k0_off66_inb i)) (rQ arg3 X3 _ inb_S8x512x128_S1x256x128_1_256_0) (vOf (rV arg5 X5 _ (k0_off82_inb i)))) := rfl
  rw [e3, e2, e4, dn_up, rL_eq arg6 X6, rQ_eq arg3 X3 _ 1 1 (by rfl) _, rK_eq arg4 X4 _ 1 _ (diagK1 i).2.1 _, rK_eq arg4 X4 _ 1 _ (prevK1 i).2.1 _, rV_eq arg5 X5 _ 1 _ (diagV1 i).2.1 _, rV_eq arg5 X5 _ 1 _ (prevV1 i).2.1 _]

/-- What head 2 of query block 1 carries into the loop. -/
theorem carry1_2 : bodyRun.sl.v1396 i arg3 arg4 arg6 X3 X4 X6 = cStep (arg6.view.read (Elt F) X6) (KB (arg4.view.read (Elt F) X4) 2 (2 * (i 2).val + 1 - 1)) (QB (arg3.view.read (Elt F) X3) 1 2) (cDiag (arg6.view.read (Elt F) X6) (KB (arg4.view.read (Elt F) X4) 2 (2 * (i 2).val + 1)) (QB (arg3.view.read (Elt F) X3) 1 2)) := by
  change cStep (rL arg6 X6) (rK arg4 X4 _ (k0_off75_inb i)) (rQ arg3 X3 _ inb_S8x512x128_S1x256x128_2_256_0) (cDiag (rL arg6 X6) (rK arg4 X4 _ (k0_off67_inb i)) (rQ arg3 X3 _ inb_S8x512x128_S1x256x128_2_256_0)) = _
  rw [rL_eq arg6 X6, rQ_eq arg3 X3 _ 2 1 (by rfl) _, rK_eq arg4 X4 _ 2 _ (diagK1 i).2.2.1 _, rK_eq arg4 X4 _ 2 _ (prevK1 i).2.2.1 _]

/-- What head 2 of query block 1 has accumulated before the loop. -/
theorem acc1_2 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 2 (by norm_num) (by norm_num)).toLoadRect
    = upOf (addf (pDiag (arg6.view.read (Elt F) X6) (KB (arg4.view.read (Elt F) X4) 2 (2 * (i 2).val + 1)) (QB (arg3.view.read (Elt F) X3) 1 2) (vOf (VB (arg5.view.read (Elt F) X5) 2 (2 * (i 2).val + 1))))
        (pStep (arg6.view.read (Elt F) X6) (KB (arg4.view.read (Elt F) X4) 2 (2 * (i 2).val + 1 - 1)) (QB (arg3.view.read (Elt F) X3) 1 2) (kV (bodyRun.sl.v1519 i) (vOf (VB (arg5.view.read (Elt F) X5) 2 (2 * (i 2).val + 1 - 1)))) (cDiag (arg6.view.read (Elt F) X6) (KB (arg4.view.read (Elt F) X4) 2 (2 * (i 2).val + 1)) (QB (arg3.view.read (Elt F) X3) 1 2)))) := by
  refine Eq.trans (b := bodyRun.sl.v1563 c i arg3 harg3 arg4 harg4 arg5 harg5 arg6 harg6 arg7 harg7 arg8 harg8 X3 X4 X5 X6 f8) ((rd_skipF arg8.view 1 7 1 2 (by decide) _ _).trans ((rd_skipF arg8.view 1 6 1 2 (by decide) _ _).trans ((rd_skipF arg8.view 1 5 1 2 (by decide) _ _).trans ((rd_skipF arg8.view 1 4 1 2 (by decide) _ _).trans ((rd_skipF arg8.view 1 3 1 2 (by decide) _ _).trans (rd_hit arg8.view 1 2 (by norm_num) (by norm_num) _ _)))))) ?_
  have e2 : arg8.view.readCov (bodyRun.sl.H8_10_1 c i arg3 harg3 arg4 harg4 arg5 harg5 arg6 harg6 arg7 harg7 arg8 harg8 X3 X4 X5 X6 f8) (rc 1 2 (by norm_num) (by norm_num)).toLoadRect = bodyRun.sl.v1473 i arg3 arg4 arg5 arg6 X3 X4 X5 X6 := (rd_skipF arg8.view 1 1 1 2 (by decide) _ _).trans ((rd_skipF arg8.view 1 0 1 2 (by decide) _ _).trans ((rd_skipF arg8.view 1 7 1 2 (by decide) _ _).trans ((rd_skipF arg8.view 1 6 1 2 (by decide) _ _).trans ((rd_skipF arg8.view 1 5 1 2 (by decide) _ _).trans ((rd_skipF arg8.view 1 4 1 2 (by decide) _ _).trans ((rd_skipF arg8.view 1 3 1 2 (by decide) _ _).trans (rd_hit arg8.view 1 2 (by norm_num) (by norm_num) _ _)))))))
  have e3 : bodyRun.sl.v1563 c i arg3 harg3 arg4 harg4 arg5 harg5 arg6 harg6 arg7 harg7 arg8 harg8 X3 X4 X5 X6 f8 = upOf (addf (dnOf (arg8.view.readCov (bodyRun.sl.H8_10_1 c i arg3 harg3 arg4 harg4 arg5 harg5 arg6 harg6 arg7 harg7 arg8 harg8 X3 X4 X5 X6 f8) (rc 1 2 (by norm_num) (by norm_num)).toLoadRect)) (pStep (rL arg6 X6) (rK arg4 X4 _ (k0_off75_inb i)) (rQ arg3 X3 _ inb_S8x512x128_S1x256x128_2_256_0) (kV (bodyRun.sl.v1519 i) (vOf (rV arg5 X5 _ (k0_off91_inb i)))) (cDiag (rL arg6 X6) (rK arg4 X4 _ (k0_off67_inb i)) (rQ arg3 X3 _ inb_S8x512x128_S1x256x128_2_256_0)))) := rfl
  have e4 : bodyRun.sl.v1473 i arg3 arg4 arg5 arg6 X3 X4 X5 X6 = upOf (pDiag (rL arg6 X6) (rK arg4 X4 _ (k0_off67_inb i)) (rQ arg3 X3 _ inb_S8x512x128_S1x256x128_2_256_0) (vOf (rV arg5 X5 _ (k0_off83_inb i)))) := rfl
  rw [e3, e2, e4, dn_up, rL_eq arg6 X6, rQ_eq arg3 X3 _ 2 1 (by rfl) _, rK_eq arg4 X4 _ 2 _ (diagK1 i).2.2.1 _, rK_eq arg4 X4 _ 2 _ (prevK1 i).2.2.1 _, rV_eq arg5 X5 _ 2 _ (diagV1 i).2.2.1 _, rV_eq arg5 X5 _ 2 _ (prevV1 i).2.2.1 _]

/-- What head 3 of query block 1 carries into the loop. -/
theorem carry1_3 : bodyRun.sl.v1406 i arg3 arg4 arg6 X3 X4 X6 = cStep (arg6.view.read (Elt F) X6) (KB (arg4.view.read (Elt F) X4) 3 (2 * (i 2).val + 1 - 1)) (QB (arg3.view.read (Elt F) X3) 1 3) (cDiag (arg6.view.read (Elt F) X6) (KB (arg4.view.read (Elt F) X4) 3 (2 * (i 2).val + 1)) (QB (arg3.view.read (Elt F) X3) 1 3)) := by
  change cStep (rL arg6 X6) (rK arg4 X4 _ (k0_off76_inb i)) (rQ arg3 X3 _ inb_S8x512x128_S1x256x128_3_256_0) (cDiag (rL arg6 X6) (rK arg4 X4 _ (k0_off68_inb i)) (rQ arg3 X3 _ inb_S8x512x128_S1x256x128_3_256_0)) = _
  rw [rL_eq arg6 X6, rQ_eq arg3 X3 _ 3 1 (by rfl) _, rK_eq arg4 X4 _ 3 _ (diagK1 i).2.2.2.1 _, rK_eq arg4 X4 _ 3 _ (prevK1 i).2.2.2.1 _]

/-- What head 3 of query block 1 has accumulated before the loop. -/
theorem acc1_3 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 3 (by norm_num) (by norm_num)).toLoadRect
    = upOf (addf (pDiag (arg6.view.read (Elt F) X6) (KB (arg4.view.read (Elt F) X4) 3 (2 * (i 2).val + 1)) (QB (arg3.view.read (Elt F) X3) 1 3) (vOf (VB (arg5.view.read (Elt F) X5) 3 (2 * (i 2).val + 1))))
        (pStep (arg6.view.read (Elt F) X6) (KB (arg4.view.read (Elt F) X4) 3 (2 * (i 2).val + 1 - 1)) (QB (arg3.view.read (Elt F) X3) 1 3) (kV (bodyRun.sl.v1519 i) (vOf (VB (arg5.view.read (Elt F) X5) 3 (2 * (i 2).val + 1 - 1)))) (cDiag (arg6.view.read (Elt F) X6) (KB (arg4.view.read (Elt F) X4) 3 (2 * (i 2).val + 1)) (QB (arg3.view.read (Elt F) X3) 1 3)))) := by
  refine Eq.trans (b := bodyRun.sl.v1578 c i arg3 harg3 arg4 harg4 arg5 harg5 arg6 harg6 arg7 harg7 arg8 harg8 X3 X4 X5 X6 f8) ((rd_skipF arg8.view 1 7 1 3 (by decide) _ _).trans ((rd_skipF arg8.view 1 6 1 3 (by decide) _ _).trans ((rd_skipF arg8.view 1 5 1 3 (by decide) _ _).trans ((rd_skipF arg8.view 1 4 1 3 (by decide) _ _).trans (rd_hit arg8.view 1 3 (by norm_num) (by norm_num) _ _))))) ?_
  have e2 : arg8.view.readCov (bodyRun.sl.H8_11_1 c i arg3 harg3 arg4 harg4 arg5 harg5 arg6 harg6 arg7 harg7 arg8 harg8 X3 X4 X5 X6 f8) (rc 1 3 (by norm_num) (by norm_num)).toLoadRect = bodyRun.sl.v1482 i arg3 arg4 arg5 arg6 X3 X4 X5 X6 := (rd_skipF arg8.view 1 2 1 3 (by decide) _ _).trans ((rd_skipF arg8.view 1 1 1 3 (by decide) _ _).trans ((rd_skipF arg8.view 1 0 1 3 (by decide) _ _).trans ((rd_skipF arg8.view 1 7 1 3 (by decide) _ _).trans ((rd_skipF arg8.view 1 6 1 3 (by decide) _ _).trans ((rd_skipF arg8.view 1 5 1 3 (by decide) _ _).trans ((rd_skipF arg8.view 1 4 1 3 (by decide) _ _).trans (rd_hit arg8.view 1 3 (by norm_num) (by norm_num) _ _)))))))
  have e3 : bodyRun.sl.v1578 c i arg3 harg3 arg4 harg4 arg5 harg5 arg6 harg6 arg7 harg7 arg8 harg8 X3 X4 X5 X6 f8 = upOf (addf (dnOf (arg8.view.readCov (bodyRun.sl.H8_11_1 c i arg3 harg3 arg4 harg4 arg5 harg5 arg6 harg6 arg7 harg7 arg8 harg8 X3 X4 X5 X6 f8) (rc 1 3 (by norm_num) (by norm_num)).toLoadRect)) (pStep (rL arg6 X6) (rK arg4 X4 _ (k0_off76_inb i)) (rQ arg3 X3 _ inb_S8x512x128_S1x256x128_3_256_0) (kV (bodyRun.sl.v1519 i) (vOf (rV arg5 X5 _ (k0_off92_inb i)))) (cDiag (rL arg6 X6) (rK arg4 X4 _ (k0_off68_inb i)) (rQ arg3 X3 _ inb_S8x512x128_S1x256x128_3_256_0)))) := rfl
  have e4 : bodyRun.sl.v1482 i arg3 arg4 arg5 arg6 X3 X4 X5 X6 = upOf (pDiag (rL arg6 X6) (rK arg4 X4 _ (k0_off68_inb i)) (rQ arg3 X3 _ inb_S8x512x128_S1x256x128_3_256_0) (vOf (rV arg5 X5 _ (k0_off84_inb i)))) := rfl
  rw [e3, e2, e4, dn_up, rL_eq arg6 X6, rQ_eq arg3 X3 _ 3 1 (by rfl) _, rK_eq arg4 X4 _ 3 _ (diagK1 i).2.2.2.1 _, rK_eq arg4 X4 _ 3 _ (prevK1 i).2.2.2.1 _, rV_eq arg5 X5 _ 3 _ (diagV1 i).2.2.2.1 _, rV_eq arg5 X5 _ 3 _ (prevV1 i).2.2.2.1 _]

/-- What head 4 of query block 1 carries into the loop. -/
theorem carry1_4 : bodyRun.sl.v1416 i arg3 arg4 arg6 X3 X4 X6 = cStep (arg6.view.read (Elt F) X6) (KB (arg4.view.read (Elt F) X4) 4 (2 * (i 2).val + 1 - 1)) (QB (arg3.view.read (Elt F) X3) 1 4) (cDiag (arg6.view.read (Elt F) X6) (KB (arg4.view.read (Elt F) X4) 4 (2 * (i 2).val + 1)) (QB (arg3.view.read (Elt F) X3) 1 4)) := by
  change cStep (rL arg6 X6) (rK arg4 X4 _ (k0_off77_inb i)) (rQ arg3 X3 _ inb_S8x512x128_S1x256x128_4_256_0) (cDiag (rL arg6 X6) (rK arg4 X4 _ (k0_off69_inb i)) (rQ arg3 X3 _ inb_S8x512x128_S1x256x128_4_256_0)) = _
  rw [rL_eq arg6 X6, rQ_eq arg3 X3 _ 4 1 (by rfl) _, rK_eq arg4 X4 _ 4 _ (diagK1 i).2.2.2.2.1 _, rK_eq arg4 X4 _ 4 _ (prevK1 i).2.2.2.2.1 _]

/-- What head 4 of query block 1 has accumulated before the loop. -/
theorem acc1_4 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 4 (by norm_num) (by norm_num)).toLoadRect
    = upOf (addf (pDiag (arg6.view.read (Elt F) X6) (KB (arg4.view.read (Elt F) X4) 4 (2 * (i 2).val + 1)) (QB (arg3.view.read (Elt F) X3) 1 4) (vOf (VB (arg5.view.read (Elt F) X5) 4 (2 * (i 2).val + 1))))
        (pStep (arg6.view.read (Elt F) X6) (KB (arg4.view.read (Elt F) X4) 4 (2 * (i 2).val + 1 - 1)) (QB (arg3.view.read (Elt F) X3) 1 4) (kV (bodyRun.sl.v1519 i) (vOf (VB (arg5.view.read (Elt F) X5) 4 (2 * (i 2).val + 1 - 1)))) (cDiag (arg6.view.read (Elt F) X6) (KB (arg4.view.read (Elt F) X4) 4 (2 * (i 2).val + 1)) (QB (arg3.view.read (Elt F) X3) 1 4)))) := by
  refine Eq.trans (b := bodyRun.sl.v1593 c i arg3 harg3 arg4 harg4 arg5 harg5 arg6 harg6 arg7 harg7 arg8 harg8 X3 X4 X5 X6 f8) ((rd_skipF arg8.view 1 7 1 4 (by decide) _ _).trans ((rd_skipF arg8.view 1 6 1 4 (by decide) _ _).trans ((rd_skipF arg8.view 1 5 1 4 (by decide) _ _).trans (rd_hit arg8.view 1 4 (by norm_num) (by norm_num) _ _)))) ?_
  have e2 : arg8.view.readCov (bodyRun.sl.H8_12_1 c i arg3 harg3 arg4 harg4 arg5 harg5 arg6 harg6 arg7 harg7 arg8 harg8 X3 X4 X5 X6 f8) (rc 1 4 (by norm_num) (by norm_num)).toLoadRect = bodyRun.sl.v1491 i arg3 arg4 arg5 arg6 X3 X4 X5 X6 := (rd_skipF arg8.view 1 3 1 4 (by decide) _ _).trans ((rd_skipF arg8.view 1 2 1 4 (by decide) _ _).trans ((rd_skipF arg8.view 1 1 1 4 (by decide) _ _).trans ((rd_skipF arg8.view 1 0 1 4 (by decide) _ _).trans ((rd_skipF arg8.view 1 7 1 4 (by decide) _ _).trans ((rd_skipF arg8.view 1 6 1 4 (by decide) _ _).trans ((rd_skipF arg8.view 1 5 1 4 (by decide) _ _).trans (rd_hit arg8.view 1 4 (by norm_num) (by norm_num) _ _)))))))
  have e3 : bodyRun.sl.v1593 c i arg3 harg3 arg4 harg4 arg5 harg5 arg6 harg6 arg7 harg7 arg8 harg8 X3 X4 X5 X6 f8 = upOf (addf (dnOf (arg8.view.readCov (bodyRun.sl.H8_12_1 c i arg3 harg3 arg4 harg4 arg5 harg5 arg6 harg6 arg7 harg7 arg8 harg8 X3 X4 X5 X6 f8) (rc 1 4 (by norm_num) (by norm_num)).toLoadRect)) (pStep (rL arg6 X6) (rK arg4 X4 _ (k0_off77_inb i)) (rQ arg3 X3 _ inb_S8x512x128_S1x256x128_4_256_0) (kV (bodyRun.sl.v1519 i) (vOf (rV arg5 X5 _ (k0_off93_inb i)))) (cDiag (rL arg6 X6) (rK arg4 X4 _ (k0_off69_inb i)) (rQ arg3 X3 _ inb_S8x512x128_S1x256x128_4_256_0)))) := rfl
  have e4 : bodyRun.sl.v1491 i arg3 arg4 arg5 arg6 X3 X4 X5 X6 = upOf (pDiag (rL arg6 X6) (rK arg4 X4 _ (k0_off69_inb i)) (rQ arg3 X3 _ inb_S8x512x128_S1x256x128_4_256_0) (vOf (rV arg5 X5 _ (k0_off85_inb i)))) := rfl
  rw [e3, e2, e4, dn_up, rL_eq arg6 X6, rQ_eq arg3 X3 _ 4 1 (by rfl) _, rK_eq arg4 X4 _ 4 _ (diagK1 i).2.2.2.2.1 _, rK_eq arg4 X4 _ 4 _ (prevK1 i).2.2.2.2.1 _, rV_eq arg5 X5 _ 4 _ (diagV1 i).2.2.2.2.1 _, rV_eq arg5 X5 _ 4 _ (prevV1 i).2.2.2.2.1 _]

/-- What head 5 of query block 1 carries into the loop. -/
theorem carry1_5 : bodyRun.sl.v1426 i arg3 arg4 arg6 X3 X4 X6 = cStep (arg6.view.read (Elt F) X6) (KB (arg4.view.read (Elt F) X4) 5 (2 * (i 2).val + 1 - 1)) (QB (arg3.view.read (Elt F) X3) 1 5) (cDiag (arg6.view.read (Elt F) X6) (KB (arg4.view.read (Elt F) X4) 5 (2 * (i 2).val + 1)) (QB (arg3.view.read (Elt F) X3) 1 5)) := by
  change cStep (rL arg6 X6) (rK arg4 X4 _ (k0_off78_inb i)) (rQ arg3 X3 _ inb_S8x512x128_S1x256x128_5_256_0) (cDiag (rL arg6 X6) (rK arg4 X4 _ (k0_off70_inb i)) (rQ arg3 X3 _ inb_S8x512x128_S1x256x128_5_256_0)) = _
  rw [rL_eq arg6 X6, rQ_eq arg3 X3 _ 5 1 (by rfl) _, rK_eq arg4 X4 _ 5 _ (diagK1 i).2.2.2.2.2.1 _, rK_eq arg4 X4 _ 5 _ (prevK1 i).2.2.2.2.2.1 _]

/-- What head 5 of query block 1 has accumulated before the loop. -/
theorem acc1_5 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 5 (by norm_num) (by norm_num)).toLoadRect
    = upOf (addf (pDiag (arg6.view.read (Elt F) X6) (KB (arg4.view.read (Elt F) X4) 5 (2 * (i 2).val + 1)) (QB (arg3.view.read (Elt F) X3) 1 5) (vOf (VB (arg5.view.read (Elt F) X5) 5 (2 * (i 2).val + 1))))
        (pStep (arg6.view.read (Elt F) X6) (KB (arg4.view.read (Elt F) X4) 5 (2 * (i 2).val + 1 - 1)) (QB (arg3.view.read (Elt F) X3) 1 5) (kV (bodyRun.sl.v1519 i) (vOf (VB (arg5.view.read (Elt F) X5) 5 (2 * (i 2).val + 1 - 1)))) (cDiag (arg6.view.read (Elt F) X6) (KB (arg4.view.read (Elt F) X4) 5 (2 * (i 2).val + 1)) (QB (arg3.view.read (Elt F) X3) 1 5)))) := by
  refine Eq.trans (b := bodyRun.sl.v1608 c i arg3 harg3 arg4 harg4 arg5 harg5 arg6 harg6 arg7 harg7 arg8 harg8 X3 X4 X5 X6 f8) ((rd_skipF arg8.view 1 7 1 5 (by decide) _ _).trans ((rd_skipF arg8.view 1 6 1 5 (by decide) _ _).trans (rd_hit arg8.view 1 5 (by norm_num) (by norm_num) _ _))) ?_
  have e2 : arg8.view.readCov (bodyRun.sl.H8_13_1 c i arg3 harg3 arg4 harg4 arg5 harg5 arg6 harg6 arg7 harg7 arg8 harg8 X3 X4 X5 X6 f8) (rc 1 5 (by norm_num) (by norm_num)).toLoadRect = bodyRun.sl.v1500 i arg3 arg4 arg5 arg6 X3 X4 X5 X6 := (rd_skipF arg8.view 1 4 1 5 (by decide) _ _).trans ((rd_skipF arg8.view 1 3 1 5 (by decide) _ _).trans ((rd_skipF arg8.view 1 2 1 5 (by decide) _ _).trans ((rd_skipF arg8.view 1 1 1 5 (by decide) _ _).trans ((rd_skipF arg8.view 1 0 1 5 (by decide) _ _).trans ((rd_skipF arg8.view 1 7 1 5 (by decide) _ _).trans ((rd_skipF arg8.view 1 6 1 5 (by decide) _ _).trans (rd_hit arg8.view 1 5 (by norm_num) (by norm_num) _ _)))))))
  have e3 : bodyRun.sl.v1608 c i arg3 harg3 arg4 harg4 arg5 harg5 arg6 harg6 arg7 harg7 arg8 harg8 X3 X4 X5 X6 f8 = upOf (addf (dnOf (arg8.view.readCov (bodyRun.sl.H8_13_1 c i arg3 harg3 arg4 harg4 arg5 harg5 arg6 harg6 arg7 harg7 arg8 harg8 X3 X4 X5 X6 f8) (rc 1 5 (by norm_num) (by norm_num)).toLoadRect)) (pStep (rL arg6 X6) (rK arg4 X4 _ (k0_off78_inb i)) (rQ arg3 X3 _ inb_S8x512x128_S1x256x128_5_256_0) (kV (bodyRun.sl.v1519 i) (vOf (rV arg5 X5 _ (k0_off94_inb i)))) (cDiag (rL arg6 X6) (rK arg4 X4 _ (k0_off70_inb i)) (rQ arg3 X3 _ inb_S8x512x128_S1x256x128_5_256_0)))) := rfl
  have e4 : bodyRun.sl.v1500 i arg3 arg4 arg5 arg6 X3 X4 X5 X6 = upOf (pDiag (rL arg6 X6) (rK arg4 X4 _ (k0_off70_inb i)) (rQ arg3 X3 _ inb_S8x512x128_S1x256x128_5_256_0) (vOf (rV arg5 X5 _ (k0_off86_inb i)))) := rfl
  rw [e3, e2, e4, dn_up, rL_eq arg6 X6, rQ_eq arg3 X3 _ 5 1 (by rfl) _, rK_eq arg4 X4 _ 5 _ (diagK1 i).2.2.2.2.2.1 _, rK_eq arg4 X4 _ 5 _ (prevK1 i).2.2.2.2.2.1 _, rV_eq arg5 X5 _ 5 _ (diagV1 i).2.2.2.2.2.1 _, rV_eq arg5 X5 _ 5 _ (prevV1 i).2.2.2.2.2.1 _]

/-- What head 6 of query block 1 carries into the loop. -/
theorem carry1_6 : bodyRun.sl.v1436 i arg3 arg4 arg6 X3 X4 X6 = cStep (arg6.view.read (Elt F) X6) (KB (arg4.view.read (Elt F) X4) 6 (2 * (i 2).val + 1 - 1)) (QB (arg3.view.read (Elt F) X3) 1 6) (cDiag (arg6.view.read (Elt F) X6) (KB (arg4.view.read (Elt F) X4) 6 (2 * (i 2).val + 1)) (QB (arg3.view.read (Elt F) X3) 1 6)) := by
  change cStep (rL arg6 X6) (rK arg4 X4 _ (k0_off79_inb i)) (rQ arg3 X3 _ inb_S8x512x128_S1x256x128_6_256_0) (cDiag (rL arg6 X6) (rK arg4 X4 _ (k0_off71_inb i)) (rQ arg3 X3 _ inb_S8x512x128_S1x256x128_6_256_0)) = _
  rw [rL_eq arg6 X6, rQ_eq arg3 X3 _ 6 1 (by rfl) _, rK_eq arg4 X4 _ 6 _ (diagK1 i).2.2.2.2.2.2.1 _, rK_eq arg4 X4 _ 6 _ (prevK1 i).2.2.2.2.2.2.1 _]

/-- What head 6 of query block 1 has accumulated before the loop. -/
theorem acc1_6 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 6 (by norm_num) (by norm_num)).toLoadRect
    = upOf (addf (pDiag (arg6.view.read (Elt F) X6) (KB (arg4.view.read (Elt F) X4) 6 (2 * (i 2).val + 1)) (QB (arg3.view.read (Elt F) X3) 1 6) (vOf (VB (arg5.view.read (Elt F) X5) 6 (2 * (i 2).val + 1))))
        (pStep (arg6.view.read (Elt F) X6) (KB (arg4.view.read (Elt F) X4) 6 (2 * (i 2).val + 1 - 1)) (QB (arg3.view.read (Elt F) X3) 1 6) (kV (bodyRun.sl.v1519 i) (vOf (VB (arg5.view.read (Elt F) X5) 6 (2 * (i 2).val + 1 - 1)))) (cDiag (arg6.view.read (Elt F) X6) (KB (arg4.view.read (Elt F) X4) 6 (2 * (i 2).val + 1)) (QB (arg3.view.read (Elt F) X3) 1 6)))) := by
  refine Eq.trans (b := bodyRun.sl.v1623 c i arg3 harg3 arg4 harg4 arg5 harg5 arg6 harg6 arg7 harg7 arg8 harg8 X3 X4 X5 X6 f8) ((rd_skipF arg8.view 1 7 1 6 (by decide) _ _).trans (rd_hit arg8.view 1 6 (by norm_num) (by norm_num) _ _)) ?_
  have e2 : arg8.view.readCov (bodyRun.sl.H8_14_1 c i arg3 harg3 arg4 harg4 arg5 harg5 arg6 harg6 arg7 harg7 arg8 harg8 X3 X4 X5 X6 f8) (rc 1 6 (by norm_num) (by norm_num)).toLoadRect = bodyRun.sl.v1509 i arg3 arg4 arg5 arg6 X3 X4 X5 X6 := (rd_skipF arg8.view 1 5 1 6 (by decide) _ _).trans ((rd_skipF arg8.view 1 4 1 6 (by decide) _ _).trans ((rd_skipF arg8.view 1 3 1 6 (by decide) _ _).trans ((rd_skipF arg8.view 1 2 1 6 (by decide) _ _).trans ((rd_skipF arg8.view 1 1 1 6 (by decide) _ _).trans ((rd_skipF arg8.view 1 0 1 6 (by decide) _ _).trans ((rd_skipF arg8.view 1 7 1 6 (by decide) _ _).trans (rd_hit arg8.view 1 6 (by norm_num) (by norm_num) _ _)))))))
  have e3 : bodyRun.sl.v1623 c i arg3 harg3 arg4 harg4 arg5 harg5 arg6 harg6 arg7 harg7 arg8 harg8 X3 X4 X5 X6 f8 = upOf (addf (dnOf (arg8.view.readCov (bodyRun.sl.H8_14_1 c i arg3 harg3 arg4 harg4 arg5 harg5 arg6 harg6 arg7 harg7 arg8 harg8 X3 X4 X5 X6 f8) (rc 1 6 (by norm_num) (by norm_num)).toLoadRect)) (pStep (rL arg6 X6) (rK arg4 X4 _ (k0_off79_inb i)) (rQ arg3 X3 _ inb_S8x512x128_S1x256x128_6_256_0) (kV (bodyRun.sl.v1519 i) (vOf (rV arg5 X5 _ (k0_off95_inb i)))) (cDiag (rL arg6 X6) (rK arg4 X4 _ (k0_off71_inb i)) (rQ arg3 X3 _ inb_S8x512x128_S1x256x128_6_256_0)))) := rfl
  have e4 : bodyRun.sl.v1509 i arg3 arg4 arg5 arg6 X3 X4 X5 X6 = upOf (pDiag (rL arg6 X6) (rK arg4 X4 _ (k0_off71_inb i)) (rQ arg3 X3 _ inb_S8x512x128_S1x256x128_6_256_0) (vOf (rV arg5 X5 _ (k0_off87_inb i)))) := rfl
  rw [e3, e2, e4, dn_up, rL_eq arg6 X6, rQ_eq arg3 X3 _ 6 1 (by rfl) _, rK_eq arg4 X4 _ 6 _ (diagK1 i).2.2.2.2.2.2.1 _, rK_eq arg4 X4 _ 6 _ (prevK1 i).2.2.2.2.2.2.1 _, rV_eq arg5 X5 _ 6 _ (diagV1 i).2.2.2.2.2.2.1 _, rV_eq arg5 X5 _ 6 _ (prevV1 i).2.2.2.2.2.2.1 _]

/-- What head 7 of query block 1 carries into the loop. -/
theorem carry1_7 : bodyRun.sl.v1446 i arg3 arg4 arg6 X3 X4 X6 = cStep (arg6.view.read (Elt F) X6) (KB (arg4.view.read (Elt F) X4) 7 (2 * (i 2).val + 1 - 1)) (QB (arg3.view.read (Elt F) X3) 1 7) (cDiag (arg6.view.read (Elt F) X6) (KB (arg4.view.read (Elt F) X4) 7 (2 * (i 2).val + 1)) (QB (arg3.view.read (Elt F) X3) 1 7)) := by
  change cStep (rL arg6 X6) (rK arg4 X4 _ (k0_off80_inb i)) (rQ arg3 X3 _ inb_S8x512x128_S1x256x128_7_256_0) (cDiag (rL arg6 X6) (rK arg4 X4 _ (k0_off72_inb i)) (rQ arg3 X3 _ inb_S8x512x128_S1x256x128_7_256_0)) = _
  rw [rL_eq arg6 X6, rQ_eq arg3 X3 _ 7 1 (by rfl) _, rK_eq arg4 X4 _ 7 _ (diagK1 i).2.2.2.2.2.2.2 _, rK_eq arg4 X4 _ 7 _ (prevK1 i).2.2.2.2.2.2.2 _]

/-- What head 7 of query block 1 has accumulated before the loop. -/
theorem acc1_7 : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 7 (by norm_num) (by norm_num)).toLoadRect
    = upOf (addf (pDiag (arg6.view.read (Elt F) X6) (KB (arg4.view.read (Elt F) X4) 7 (2 * (i 2).val + 1)) (QB (arg3.view.read (Elt F) X3) 1 7) (vOf (VB (arg5.view.read (Elt F) X5) 7 (2 * (i 2).val + 1))))
        (pStep (arg6.view.read (Elt F) X6) (KB (arg4.view.read (Elt F) X4) 7 (2 * (i 2).val + 1 - 1)) (QB (arg3.view.read (Elt F) X3) 1 7) (kV (bodyRun.sl.v1519 i) (vOf (VB (arg5.view.read (Elt F) X5) 7 (2 * (i 2).val + 1 - 1)))) (cDiag (arg6.view.read (Elt F) X6) (KB (arg4.view.read (Elt F) X4) 7 (2 * (i 2).val + 1)) (QB (arg3.view.read (Elt F) X3) 1 7)))) := by
  refine Eq.trans (b := bodyRun.sl.v1638 c i arg3 harg3 arg4 harg4 arg5 harg5 arg6 harg6 arg7 harg7 arg8 harg8 X3 X4 X5 X6 f8) (rd_hit arg8.view 1 7 (by norm_num) (by norm_num) _ _) ?_
  have e2 : arg8.view.readCov (bodyRun.sl.H8_15_1 c i arg3 harg3 arg4 harg4 arg5 harg5 arg6 harg6 arg7 harg7 arg8 harg8 X3 X4 X5 X6 f8) (rc 1 7 (by norm_num) (by norm_num)).toLoadRect = bodyRun.sl.v1518 i arg3 arg4 arg5 arg6 X3 X4 X5 X6 := (rd_skipF arg8.view 1 6 1 7 (by decide) _ _).trans ((rd_skipF arg8.view 1 5 1 7 (by decide) _ _).trans ((rd_skipF arg8.view 1 4 1 7 (by decide) _ _).trans ((rd_skipF arg8.view 1 3 1 7 (by decide) _ _).trans ((rd_skipF arg8.view 1 2 1 7 (by decide) _ _).trans ((rd_skipF arg8.view 1 1 1 7 (by decide) _ _).trans ((rd_skipF arg8.view 1 0 1 7 (by decide) _ _).trans (rd_hit arg8.view 1 7 (by norm_num) (by norm_num) _ _)))))))
  have e3 : bodyRun.sl.v1638 c i arg3 harg3 arg4 harg4 arg5 harg5 arg6 harg6 arg7 harg7 arg8 harg8 X3 X4 X5 X6 f8 = upOf (addf (dnOf (arg8.view.readCov (bodyRun.sl.H8_15_1 c i arg3 harg3 arg4 harg4 arg5 harg5 arg6 harg6 arg7 harg7 arg8 harg8 X3 X4 X5 X6 f8) (rc 1 7 (by norm_num) (by norm_num)).toLoadRect)) (pStep (rL arg6 X6) (rK arg4 X4 _ (k0_off80_inb i)) (rQ arg3 X3 _ inb_S8x512x128_S1x256x128_7_256_0) (kV (bodyRun.sl.v1519 i) (vOf (rV arg5 X5 _ (k0_off96_inb i)))) (cDiag (rL arg6 X6) (rK arg4 X4 _ (k0_off72_inb i)) (rQ arg3 X3 _ inb_S8x512x128_S1x256x128_7_256_0)))) := rfl
  have e4 : bodyRun.sl.v1518 i arg3 arg4 arg5 arg6 X3 X4 X5 X6 = upOf (pDiag (rL arg6 X6) (rK arg4 X4 _ (k0_off72_inb i)) (rQ arg3 X3 _ inb_S8x512x128_S1x256x128_7_256_0) (vOf (rV arg5 X5 _ (k0_off88_inb i)))) := rfl
  rw [e3, e2, e4, dn_up, rL_eq arg6 X6, rQ_eq arg3 X3 _ 7 1 (by rfl) _, rK_eq arg4 X4 _ 7 _ (diagK1 i).2.2.2.2.2.2.2 _, rK_eq arg4 X4 _ 7 _ (prevK1 i).2.2.2.2.2.2.2 _, rV_eq arg5 X5 _ 7 _ (diagV1 i).2.2.2.2.2.2.2 _, rV_eq arg5 X5 _ 7 _ (prevV1 i).2.2.2.2.2.2.2 _]

end Cert.KernelIdeal.Own
-- ==== Proof.OwnI.End.lean ====
/- What the attention body leaves in its output block. -/
module

public import proofs.«01_k».proof.Proof.OwnI.Words0
public import proofs.«01_k».proof.Proof.OwnI.Words1
public import proofs.«01_k».proof.Proof.OwnI.Loop
public import proofs.«01_k».proof.Proof.OwnI.Off
public import proofs.«01_k».proof.Proof.OwnI.Read

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- One head's result, transposed: the diagonal block, the block before it (if there is one), then `n` more. -/
def headRes (L : Vec F S256x512 .bf16) (kb : ℕ → Vec F S1x256x128 .bf16) (qb : Vec F S1x256x128 .bf16) (vb : ℕ → FVec F S128x256 .bf16)
    (q : ℕ) (b : BitVec 1) (n : ℕ) : FVec F S128x256 .f32 :=
  (stp L (fun k => kb (q - 2 - k)) qb (fun k => vb (q - 2 - k)) (cStep L (kb (q - 1)) qb (cDiag L (kb q) qb))
    (addf (pDiag L (kb q) qb (vb q)) (pStep L (kb (q - 1)) qb (kV b (vb (q - 1))) (cDiag L (kb q) qb))) n).2

/-- The eight heads' results side by side. -/
def packOf (w : Fin 8 → FVec F S128x256 .f32) : FVec F S256x1024 .bf16 :=
  truncf .bf16 (concatenate S256x1024 1 [⟨S256x128, transpose S256x128 [1, 0] (w 0) transposes_S128x256_p1_0_S256x128⟩, ⟨S256x128, transpose S256x128 [1, 0] (w 1) transposes_S128x256_p1_0_S256x128⟩, ⟨S256x128, transpose S256x128 [1, 0] (w 2) transposes_S128x256_p1_0_S256x128⟩, ⟨S256x128, transpose S256x128 [1, 0] (w 3) transposes_S128x256_p1_0_S256x128⟩, ⟨S256x128, transpose S256x128 [1, 0] (w 4) transposes_S128x256_p1_0_S256x128⟩, ⟨S256x128, transpose S256x128 [1, 0] (w 5) transposes_S128x256_p1_0_S256x128⟩, ⟨S256x128, transpose S256x128 [1, 0] (w 6) transposes_S128x256_p1_0_S256x128⟩, ⟨S256x128, transpose S256x128 [1, 0] (w 7) transposes_S128x256_p1_0_S256x128⟩]
    concatenates_S256x128_S256x128_S256x128_S256x128_S256x128_S256x128_S256x128_S256x128_S256x1024_d1) bitsLt_bf16_f32

/-- A head's block of the accumulator after the loops of query block 0. -/
theorem fin0 (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v4 : BitVec 32) (v520 v530 v540 v550 v560 v570 v580 v590 : FVec F S1x256 .f32) (v814 v820 : F .f32) (v822 : BitVec 1) (k0_hw1 : k0_chk1 i v822) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)  (v829 : BitVec 32) (f8 : BufTy.Contents (Elt F) arg8.view.ty) (L0 : List (View.Piece (Elt F) S2x8x128x256 .f32)) (c0 : Fin 8 → FVec F S1x256 .f32) (a0 : Fin 8 → FVec F S128x256 .f32)
    (hcov : ∀ (h : Fin 8) (j : (rc 0 h.val (by norm_num) h.isLt).shape.Idx), ∃ p ∈ L0, (rc 0 h.val (by norm_num) h.isLt).toLoadRect.idx j ∈ p.1.set)
    (hacc : ∀ h : Fin 8, arg8.view.readCov L0 (rc 0 h.val (by norm_num) h.isLt).toLoadRect = upOf (a0 h))
    (G2 : BufTy.Contents (Elt F) arg8.view.ty) (init2 init1 : FVec F S1x256 .f32 × FVec F S1x256 .f32 × FVec F S1x256 .f32 × FVec F S1x256 .f32 × FVec F S1x256 .f32 × FVec F S1x256 .f32 × FVec F S1x256 .f32 × FVec F S1x256 .f32) (hi : init1 = tup c0) (h : Fin 8) :
    arg8.view.readCov ((st_k0_t2 (F := F) 𝒱 c bd i arg3 harg3 arg4 harg4 arg5 harg5 arg6 harg6 arg7 harg7 arg8 harg8 v4 v520 v530 v540 v550 v560 v570 v580 v590 v814 v820 v822 k0_hw1 v829 X_arg3 X_arg4 X_arg5 X_arg6 G2 init2 (Scf.trips (k0_t2_loop i v822).lb (k0_t2_loop i v822).ub (k0_t2_loop i v822).st)).2 ++
        ((st_k0_t1 (F := F) 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 (arg8.view.writes (Elt F) f8 L0) init1 (Scf.trips (k0_t1_loop i v822).lb (k0_t1_loop i v822).ub (k0_t1_loop i v822).st)).2 ++ L0)) (rc 0 h.val (by norm_num) h.isLt).toLoadRect
      = upOf (stp (arg6.view.read (Elt F) X_arg6) (fun k => (KB (arg4.view.read (Elt F) X_arg4) h (2 * (i 2).val - 2 - k))) (QB (arg3.view.read (Elt F) X_arg3) 0 h) (fun k => vOf (VB (arg5.view.read (Elt F) X_arg5) h (2 * (i 2).val - 2 - k))) (c0 h) (a0 h) (k0_t1_loop i v822).trips).2 := by
  subst hi
  have z : (Scf.trips (k0_t2_loop i v822).lb (k0_t2_loop i v822).ub (k0_t2_loop i v822).st) = 0 := trips2 i v822
  rw [z]
  exact (loop1 𝒱 c bd i arg3 harg3 arg4 harg4 arg5 harg5 arg6 harg6 arg7 harg7 arg8 harg8 v4 v520 v530 v540 v550 v560 v570 v580 v590 v814 v820 v822 k0_hw1 X_arg3 X_arg4 X_arg5 X_arg6 f8 L0 c0 a0 hcov hacc _ le_rfl).2 h

/-- A head's block of the accumulator after the loops of query block 1. -/
theorem fin1 (𝒱 : Variants) (c : Dev nD) (bd : Option 𝒱.V) (i : grid0.Coords) (arg3 : Memref sig .tc .vmem S8x512x128 .bf16) (harg3 : arg3.IsWhole) (arg4 : Memref sig .tc .vmem S8x4096x128 .bf16) (harg4 : arg4.IsWhole) (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole) (v860 : BitVec 32) (v1376 v1386 v1396 v1406 v1416 v1426 v1436 v1446 : FVec F S1x256 .f32) (v1642 v1646 v1650 v1654 v1658 v1662 : F .f32) (v1663 : FVec F S1x1x256 .f32) (v1678 : BitVec 1) (k0_hw2 : k0_chk2 i v1678) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)  (v1685 : BitVec 32) (f8 : BufTy.Contents (Elt F) arg8.view.ty) (L0 : List (View.Piece (Elt F) S2x8x128x256 .f32)) (c0 : Fin 8 → FVec F S1x256 .f32) (a0 : Fin 8 → FVec F S128x256 .f32)
    (hcov : ∀ (h : Fin 8) (j : (rc 1 h.val (by norm_num) h.isLt).shape.Idx), ∃ p ∈ L0, (rc 1 h.val (by norm_num) h.isLt).toLoadRect.idx j ∈ p.1.set)
    (hacc : ∀ h : Fin 8, arg8.view.readCov L0 (rc 1 h.val (by norm_num) h.isLt).toLoadRect = upOf (a0 h))
    (G2 : BufTy.Contents (Elt F) arg8.view.ty) (init2 init1 : FVec F S1x256 .f32 × FVec F S1x256 .f32 × FVec F S1x256 .f32 × FVec F S1x256 .f32 × FVec F S1x256 .f32 × FVec F S1x256 .f32 × FVec F S1x256 .f32 × FVec F S1x256 .f32) (hi : init1 = tup c0) (h : Fin 8) :
    arg8.view.readCov ((st_k0_t4 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 v1685 X_arg3 X_arg4 X_arg5 X_arg6 G2 init2 (Scf.trips (k0_t4_loop i v1678).lb (k0_t4_loop i v1678).ub (k0_t4_loop i v1678).st)).2 ++
        ((st_k0_t3 (F := F) 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 (arg8.view.writes (Elt F) f8 L0) init1 (Scf.trips (k0_t3_loop i v1678).lb (k0_t3_loop i v1678).ub (k0_t3_loop i v1678).st)).2 ++ L0)) (rc 1 h.val (by norm_num) h.isLt).toLoadRect
      = upOf (stp (arg6.view.read (Elt F) X_arg6) (fun k => (KB (arg4.view.read (Elt F) X_arg4) h (2 * (i 2).val + 1 - 2 - k))) (QB (arg3.view.read (Elt F) X_arg3) 1 h) (fun k => vOf (VB (arg5.view.read (Elt F) X_arg5) h (2 * (i 2).val + 1 - 2 - k))) (c0 h) (a0 h) (k0_t3_loop i v1678).trips).2 := by
  subst hi
  have z : (Scf.trips (k0_t4_loop i v1678).lb (k0_t4_loop i v1678).ub (k0_t4_loop i v1678).st) = 0 := trips4 i v1678
  rw [z]
  exact (loop3 𝒱 c bd i arg3 harg3 arg4 harg4 arg5 harg5 arg6 harg6 arg7 harg7 arg8 harg8 v860 v1376 v1386 v1396 v1406 v1416 v1426 v1436 v1446 v1642 v1646 v1650 v1654 v1658 v1662 v1663 v1678 k0_hw2 X_arg3 X_arg4 X_arg5 X_arg6 f8 L0 c0 a0 hcov hacc _ le_rfl).2 h

variable (c : Dev nD) (i : grid0.Coords) (arg3 : Memref sig .tc .vmem S8x512x128 .bf16) (harg3 : arg3.IsWhole) (arg4 : Memref sig .tc .vmem S8x4096x128 .bf16) (harg4 : arg4.IsWhole)
  (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
  (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty)

/-- The blocks of query block 0 are covered before its loop. -/
theorem cov0 (h : Fin 8) (j : (rc 0 h.val (by norm_num) h.isLt).shape.Idx) : ∃ p ∈ ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6), (rc 0 h.val (by norm_num) h.isLt).toLoadRect.idx j ∈ p.1.set := by
  have e : ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) = pcs 0 (by norm_num) ![bodyRun.sl.v677 i arg3 arg4 arg5 arg6 arg8 X3 X4 X5 X6, bodyRun.sl.v692 i arg3 arg4 arg5 arg6 arg8 X3 X4 X5 X6, bodyRun.sl.v707 i arg3 arg4 arg5 arg6 arg8 X3 X4 X5 X6, bodyRun.sl.v722 i arg3 arg4 arg5 arg6 arg8 X3 X4 X5 X6, bodyRun.sl.v737 i arg3 arg4 arg5 arg6 arg8 X3 X4 X5 X6, bodyRun.sl.v752 i arg3 arg4 arg5 arg6 arg8 X3 X4 X5 X6, bodyRun.sl.v767 i arg3 arg4 arg5 arg6 arg8 X3 X4 X5 X6, bodyRun.sl.v782 i arg3 arg4 arg5 arg6 arg8 X3 X4 X5 X6] (bodyRun.sl.H8_8 i arg3 arg4 arg5 arg6 X3 X4 X5 X6) := rfl
  rw [e]
  exact pcs_cov 0 _ _ _ h j

/-- What has been accumulated before the loop of query block 0. -/
theorem accAll0 (h : Fin 8) : arg8.view.readCov ((⟨(rc 0 7 (by norm_num) (by norm_num)), bodyRun.sl.v782 i arg3 arg4 arg5 arg6 arg8 X3 X4 X5 X6⟩ : View.Piece (Elt F) S2x8x128x256 .f32) :: bodyRun.sl.H8_15 i arg3 arg4 arg5 arg6 arg8 X3 X4 X5 X6) (rc 0 h.val (by norm_num) h.isLt).toLoadRect = upOf ((fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) h) := by
  fin_cases h
  · exact acc0_0 i arg3 arg4 arg5 arg6 arg8 X3 X4 X5 X6
  · exact acc0_1 i arg3 arg4 arg5 arg6 arg8 X3 X4 X5 X6
  · exact acc0_2 i arg3 arg4 arg5 arg6 arg8 X3 X4 X5 X6
  · exact acc0_3 i arg3 arg4 arg5 arg6 arg8 X3 X4 X5 X6
  · exact acc0_4 i arg3 arg4 arg5 arg6 arg8 X3 X4 X5 X6
  · exact acc0_5 i arg3 arg4 arg5 arg6 arg8 X3 X4 X5 X6
  · exact acc0_6 i arg3 arg4 arg5 arg6 arg8 X3 X4 X5 X6
  · exact acc0_7 i arg3 arg4 arg5 arg6 arg8 X3 X4 X5 X6

/-- What is carried into the loop of query block 0. -/
theorem carAll0 : (bodyRun.sl.v520 i arg3 arg4 arg6 X3 X4 X6, bodyRun.sl.v530 i arg3 arg4 arg6 X3 X4 X6, bodyRun.sl.v540 i arg3 arg4 arg6 X3 X4 X6, bodyRun.sl.v550 i arg3 arg4 arg6 X3 X4 X6, bodyRun.sl.v560 i arg3 arg4 arg6 X3 X4 X6, bodyRun.sl.v570 i arg3 arg4 arg6 X3 X4 X6, bodyRun.sl.v580 i arg3 arg4 arg6 X3 X4 X6, bodyRun.sl.v590 i arg3 arg4 arg6 X3 X4 X6) = tup (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) :=
  tup_of _ _ _ _ _ _ _ _ _ (carry0_0 i arg3 arg4 arg6 X3 X4 X6) (carry0_1 i arg3 arg4 arg6 X3 X4 X6) (carry0_2 i arg3 arg4 arg6 X3 X4 X6) (carry0_3 i arg3 arg4 arg6 X3 X4 X6) (carry0_4 i arg3 arg4 arg6 X3 X4 X6) (carry0_5 i arg3 arg4 arg6 X3 X4 X6) (carry0_6 i arg3 arg4 arg6 X3 X4 X6) (carry0_7 i arg3 arg4 arg6 X3 X4 X6)

/-- Head 0 of query block 0. -/
theorem end0_0 : bodyRun.sl.v832 c i arg3 harg3 arg4 harg4 arg5 harg5 arg6 harg6 arg7 harg7 arg8 harg8 X3 X4 X5 X6 f8 = upOf (headRes (arg6.view.read (Elt F) X6) (KB (arg4.view.read (Elt F) X4) 0) (QB (arg3.view.read (Elt F) X3) 0 0) (fun j => vOf (VB (arg5.view.read (Elt F) X5) 0 j)) (2 * (i 2).val) (bodyRun.sl.v663 i) (k0_t1_loop i (bodyRun.sl.v822 i arg3 arg4 arg6 X3 X4 X6)).trips) := by
  unfold bodyRun.sl.v832
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 0

/-- Head 1 of query block 0. -/
theorem end0_1 : bodyRun.sl.v835 c i arg3 harg3 arg4 harg4 arg5 harg5 arg6 harg6 arg7 harg7 arg8 harg8 X3 X4 X5 X6 f8 = upOf (headRes (arg6.view.read (Elt F) X6) (KB (arg4.view.read (Elt F) X4) 1) (QB (arg3.view.read (Elt F) X3) 0 1) (fun j => vOf (VB (arg5.view.read (Elt F) X5) 1 j)) (2 * (i 2).val) (bodyRun.sl.v663 i) (k0_t1_loop i (bodyRun.sl.v822 i arg3 arg4 arg6 X3 X4 X6)).trips) := by
  unfold bodyRun.sl.v835
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 1

/-- Head 2 of query block 0. -/
theorem end0_2 : bodyRun.sl.v838 c i arg3 harg3 arg4 harg4 arg5 harg5 arg6 harg6 arg7 harg7 arg8 harg8 X3 X4 X5 X6 f8 = upOf (headRes (arg6.view.read (Elt F) X6) (KB (arg4.view.read (Elt F) X4) 2) (QB (arg3.view.read (Elt F) X3) 0 2) (fun j => vOf (VB (arg5.view.read (Elt F) X5) 2 j)) (2 * (i 2).val) (bodyRun.sl.v663 i) (k0_t1_loop i (bodyRun.sl.v822 i arg3 arg4 arg6 X3 X4 X6)).trips) := by
  unfold bodyRun.sl.v838
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 2

/-- Head 3 of query block 0. -/
theorem end0_3 : bodyRun.sl.v841 c i arg3 harg3 arg4 harg4 arg5 harg5 arg6 harg6 arg7 harg7 arg8 harg8 X3 X4 X5 X6 f8 = upOf (headRes (arg6.view.read (Elt F) X6) (KB (arg4.view.read (Elt F) X4) 3) (QB (arg3.view.read (Elt F) X3) 0 3) (fun j => vOf (VB (arg5.view.read (Elt F) X5) 3 j)) (2 * (i 2).val) (bodyRun.sl.v663 i) (k0_t1_loop i (bodyRun.sl.v822 i arg3 arg4 arg6 X3 X4 X6)).trips) := by
  unfold bodyRun.sl.v841
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 3

/-- Head 4 of query block 0. -/
theorem end0_4 : bodyRun.sl.v844 c i arg3 harg3 arg4 harg4 arg5 harg5 arg6 harg6 arg7 harg7 arg8 harg8 X3 X4 X5 X6 f8 = upOf (headRes (arg6.view.read (Elt F) X6) (KB (arg4.view.read (Elt F) X4) 4) (QB (arg3.view.read (Elt F) X3) 0 4) (fun j => vOf (VB (arg5.view.read (Elt F) X5) 4 j)) (2 * (i 2).val) (bodyRun.sl.v663 i) (k0_t1_loop i (bodyRun.sl.v822 i arg3 arg4 arg6 X3 X4 X6)).trips) := by
  unfold bodyRun.sl.v844
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 4

/-- Head 5 of query block 0. -/
theorem end0_5 : bodyRun.sl.v847 c i arg3 harg3 arg4 harg4 arg5 harg5 arg6 harg6 arg7 harg7 arg8 harg8 X3 X4 X5 X6 f8 = upOf (headRes (arg6.view.read (Elt F) X6) (KB (arg4.view.read (Elt F) X4) 5) (QB (arg3.view.read (Elt F) X3) 0 5) (fun j => vOf (VB (arg5.view.read (Elt F) X5) 5 j)) (2 * (i 2).val) (bodyRun.sl.v663 i) (k0_t1_loop i (bodyRun.sl.v822 i arg3 arg4 arg6 X3 X4 X6)).trips) := by
  unfold bodyRun.sl.v847
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 5

/-- Head 6 of query block 0. -/
theorem end0_6 : bodyRun.sl.v850 c i arg3 harg3 arg4 harg4 arg5 harg5 arg6 harg6 arg7 harg7 arg8 harg8 X3 X4 X5 X6 f8 = upOf (headRes (arg6.view.read (Elt F) X6) (KB (arg4.view.read (Elt F) X4) 6) (QB (arg3.view.read (Elt F) X3) 0 6) (fun j => vOf (VB (arg5.view.read (Elt F) X5) 6 j)) (2 * (i 2).val) (bodyRun.sl.v663 i) (k0_t1_loop i (bodyRun.sl.v822 i arg3 arg4 arg6 X3 X4 X6)).trips) := by
  unfold bodyRun.sl.v850
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 6

/-- Head 7 of query block 0. -/
theorem end0_7 : bodyRun.sl.v853 c i arg3 harg3 arg4 harg4 arg5 harg5 arg6 harg6 arg7 harg7 arg8 harg8 X3 X4 X5 X6 f8 = upOf (headRes (arg6.view.read (Elt F) X6) (KB (arg4.view.read (Elt F) X4) 7) (QB (arg3.view.read (Elt F) X3) 0 7) (fun j => vOf (VB (arg5.view.read (Elt F) X5) 7 j)) (2 * (i 2).val) (bodyRun.sl.v663 i) (k0_t1_loop i (bodyRun.sl.v822 i arg3 arg4 arg6 X3 X4 X6)).trips) := by
  unfold bodyRun.sl.v853
  exact fin0 _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val - 1)) (QB (arg3.view.read (Elt F) X3) 0 h) (cDiag (arg6.view.read (Elt F) X6) (KB (arg4.view.read (Elt F) X4) h (2 * (i 2).val)) (QB (arg3.view.read (Elt F) X3) 0 h))) (fun h => addf (pDiag (arg6.view.read (Elt F) X6) (KB (arg4.view.read (Elt F) X4) h (2 * (i 2).val)) (QB (arg3.view.read (Elt F) X3) 0 h) (vOf (VB (arg5.view.read (Elt F) X5) h (2 * (i 2).val))))
        (pStep (arg6.view.read (Elt F) X6) (KB (arg4.view.read (Elt F) X4) h (2 * (i 2).val - 1)) (QB (arg3.view.read (Elt F) X3) 0 h) (kV (bodyRun.sl.v663 i) (vOf (VB (arg5.view.read (Elt F) X5) h (2 * (i 2).val - 1)))) (cDiag (arg6.view.read (Elt F) X6) (KB (arg4.view.read (Elt F) X4) h (2 * (i 2).val)) (QB (arg3.view.read (Elt F) X3) 0 h)))) (cov0 i arg3 arg4 arg5 arg6 arg8 X3 X4 X5 X6) (accAll0 i arg3 arg4 arg5 arg6 arg8 X3 X4 X5 X6) _ _ _ (carAll0 i arg3 arg4 arg6 X3 X4 X6) 7

/-- The blocks of query block 1 are covered before its loop. -/
theorem cov1 (h : Fin 8) (j : (rc 1 h.val (by norm_num) h.isLt).shape.Idx) : ∃ p ∈ ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8), (rc 1 h.val (by norm_num) h.isLt).toLoadRect.idx j ∈ p.1.set := by
  have e : ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) = pcs 1 (by norm_num) ![bodyRun.sl.v1533 c i arg3 harg3 arg4 harg4 arg5 harg5 arg6 harg6 arg7 harg7 arg8 harg8 X3 X4 X5 X6 f8, bodyRun.sl.v1548 c i arg3 harg3 arg4 harg4 arg5 harg5 arg6 harg6 arg7 harg7 arg8 harg8 X3 X4 X5 X6 f8, bodyRun.sl.v1563 c i arg3 harg3 arg4 harg4 arg5 harg5 arg6 harg6 arg7 harg7 arg8 harg8 X3 X4 X5 X6 f8, bodyRun.sl.v1578 c i arg3 harg3 arg4 harg4 arg5 harg5 arg6 harg6 arg7 harg7 arg8 harg8 X3 X4 X5 X6 f8, bodyRun.sl.v1593 c i arg3 harg3 arg4 harg4 arg5 harg5 arg6 harg6 arg7 harg7 arg8 harg8 X3 X4 X5 X6 f8, bodyRun.sl.v1608 c i arg3 harg3 arg4 harg4 arg5 harg5 arg6 harg6 arg7 harg7 arg8 harg8 X3 X4 X5 X6 f8, bodyRun.sl.v1623 c i arg3 harg3 arg4 harg4 arg5 harg5 arg6 harg6 arg7 harg7 arg8 harg8 X3 X4 X5 X6 f8, bodyRun.sl.v1638 c i arg3 harg3 arg4 harg4 arg5 harg5 arg6 harg6 arg7 harg7 arg8 harg8 X3 X4 X5 X6 f8] (bodyRun.sl.H8_8_1 c i arg3 harg3 arg4 harg4 arg5 harg5 arg6 harg6 arg7 harg7 arg8 harg8 X3 X4 X5 X6 f8) := rfl
  rw [e]
  exact pcs_cov 1 _ _ _ h j

/-- What has been accumulated before the loop of query block 1. -/
theorem accAll1 (h : Fin 8) : arg8.view.readCov ((⟨(rc 1 7 (by norm_num) (by norm_num)), bodyRun.sl.v1638 c i arg3 harg3 arg4 harg4 arg5 harg5 arg6 harg6 arg7 harg7 arg8 harg8 X3 X4 X5 X6 f8⟩ : View.Piece (Elt F) S2x8x128x256 .f32) :: bodyRun.sl.H8_15_1 c i arg3 harg3 arg4 harg4 arg5 harg5 arg6 harg6 arg7 harg7 arg8 harg8 X3 X4 X5 X6 f8) (rc 1 h.val (by norm_num) h.isLt).toLoadRect = upOf ((fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) h) := by
  fin_cases h
  · exact acc1_0 c i arg3 harg3 arg4 harg4 arg5 harg5 arg6 harg6 arg7 harg7 arg8 harg8 X3 X4 X5 X6 f8
  · exact acc1_1 c i arg3 harg3 arg4 harg4 arg5 harg5 arg6 harg6 arg7 harg7 arg8 harg8 X3 X4 X5 X6 f8
  · exact acc1_2 c i arg3 harg3 arg4 harg4 arg5 harg5 arg6 harg6 arg7 harg7 arg8 harg8 X3 X4 X5 X6 f8
  · exact acc1_3 c i arg3 harg3 arg4 harg4 arg5 harg5 arg6 harg6 arg7 harg7 arg8 harg8 X3 X4 X5 X6 f8
  · exact acc1_4 c i arg3 harg3 arg4 harg4 arg5 harg5 arg6 harg6 arg7 harg7 arg8 harg8 X3 X4 X5 X6 f8
  · exact acc1_5 c i arg3 harg3 arg4 harg4 arg5 harg5 arg6 harg6 arg7 harg7 arg8 harg8 X3 X4 X5 X6 f8
  · exact acc1_6 c i arg3 harg3 arg4 harg4 arg5 harg5 arg6 harg6 arg7 harg7 arg8 harg8 X3 X4 X5 X6 f8
  · exact acc1_7 c i arg3 harg3 arg4 harg4 arg5 harg5 arg6 harg6 arg7 harg7 arg8 harg8 X3 X4 X5 X6 f8

/-- What is carried into the loop of query block 1. -/
theorem carAll1 : (bodyRun.sl.v1376 i arg3 arg4 arg6 X3 X4 X6, bodyRun.sl.v1386 i arg3 arg4 arg6 X3 X4 X6, bodyRun.sl.v1396 i arg3 arg4 arg6 X3 X4 X6, bodyRun.sl.v1406 i arg3 arg4 arg6 X3 X4 X6, bodyRun.sl.v1416 i arg3 arg4 arg6 X3 X4 X6, bodyRun.sl.v1426 i arg3 arg4 arg6 X3 X4 X6, bodyRun.sl.v1436 i arg3 arg4 arg6 X3 X4 X6, bodyRun.sl.v1446 i arg3 arg4 arg6 X3 X4 X6) = tup (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) :=
  tup_of _ _ _ _ _ _ _ _ _ (carry1_0 i arg3 arg4 arg6 X3 X4 X6) (carry1_1 i arg3 arg4 arg6 X3 X4 X6) (carry1_2 i arg3 arg4 arg6 X3 X4 X6) (carry1_3 i arg3 arg4 arg6 X3 X4 X6) (carry1_4 i arg3 arg4 arg6 X3 X4 X6) (carry1_5 i arg3 arg4 arg6 X3 X4 X6) (carry1_6 i arg3 arg4 arg6 X3 X4 X6) (carry1_7 i arg3 arg4 arg6 X3 X4 X6)

/-- Head 0 of query block 1. -/
theorem end1_0 : bodyRun.sl.v1688 c i arg3 harg3 arg4 harg4 arg5 harg5 arg6 harg6 arg7 harg7 arg8 harg8 X3 X4 X5 X6 f8 = upOf (headRes (arg6.view.read (Elt F) X6) (KB (arg4.view.read (Elt F) X4) 0) (QB (arg3.view.read (Elt F) X3) 1 0) (fun j => vOf (VB (arg5.view.read (Elt F) X5) 0 j)) (2 * (i 2).val + 1) (bodyRun.sl.v1519 i) (k0_t3_loop i (bodyRun.sl.v1678 i arg3 arg4 arg6 X3 X4 X6)).trips) := by
  unfold bodyRun.sl.v1688
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 0

/-- Head 1 of query block 1. -/
theorem end1_1 : bodyRun.sl.v1691 c i arg3 harg3 arg4 harg4 arg5 harg5 arg6 harg6 arg7 harg7 arg8 harg8 X3 X4 X5 X6 f8 = upOf (headRes (arg6.view.read (Elt F) X6) (KB (arg4.view.read (Elt F) X4) 1) (QB (arg3.view.read (Elt F) X3) 1 1) (fun j => vOf (VB (arg5.view.read (Elt F) X5) 1 j)) (2 * (i 2).val + 1) (bodyRun.sl.v1519 i) (k0_t3_loop i (bodyRun.sl.v1678 i arg3 arg4 arg6 X3 X4 X6)).trips) := by
  unfold bodyRun.sl.v1691
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 1

/-- Head 2 of query block 1. -/
theorem end1_2 : bodyRun.sl.v1694 c i arg3 harg3 arg4 harg4 arg5 harg5 arg6 harg6 arg7 harg7 arg8 harg8 X3 X4 X5 X6 f8 = upOf (headRes (arg6.view.read (Elt F) X6) (KB (arg4.view.read (Elt F) X4) 2) (QB (arg3.view.read (Elt F) X3) 1 2) (fun j => vOf (VB (arg5.view.read (Elt F) X5) 2 j)) (2 * (i 2).val + 1) (bodyRun.sl.v1519 i) (k0_t3_loop i (bodyRun.sl.v1678 i arg3 arg4 arg6 X3 X4 X6)).trips) := by
  unfold bodyRun.sl.v1694
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 2

/-- Head 3 of query block 1. -/
theorem end1_3 : bodyRun.sl.v1697 c i arg3 harg3 arg4 harg4 arg5 harg5 arg6 harg6 arg7 harg7 arg8 harg8 X3 X4 X5 X6 f8 = upOf (headRes (arg6.view.read (Elt F) X6) (KB (arg4.view.read (Elt F) X4) 3) (QB (arg3.view.read (Elt F) X3) 1 3) (fun j => vOf (VB (arg5.view.read (Elt F) X5) 3 j)) (2 * (i 2).val + 1) (bodyRun.sl.v1519 i) (k0_t3_loop i (bodyRun.sl.v1678 i arg3 arg4 arg6 X3 X4 X6)).trips) := by
  unfold bodyRun.sl.v1697
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 3

/-- Head 4 of query block 1. -/
theorem end1_4 : bodyRun.sl.v1700 c i arg3 harg3 arg4 harg4 arg5 harg5 arg6 harg6 arg7 harg7 arg8 harg8 X3 X4 X5 X6 f8 = upOf (headRes (arg6.view.read (Elt F) X6) (KB (arg4.view.read (Elt F) X4) 4) (QB (arg3.view.read (Elt F) X3) 1 4) (fun j => vOf (VB (arg5.view.read (Elt F) X5) 4 j)) (2 * (i 2).val + 1) (bodyRun.sl.v1519 i) (k0_t3_loop i (bodyRun.sl.v1678 i arg3 arg4 arg6 X3 X4 X6)).trips) := by
  unfold bodyRun.sl.v1700
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 4

/-- Head 5 of query block 1. -/
theorem end1_5 : bodyRun.sl.v1703 c i arg3 harg3 arg4 harg4 arg5 harg5 arg6 harg6 arg7 harg7 arg8 harg8 X3 X4 X5 X6 f8 = upOf (headRes (arg6.view.read (Elt F) X6) (KB (arg4.view.read (Elt F) X4) 5) (QB (arg3.view.read (Elt F) X3) 1 5) (fun j => vOf (VB (arg5.view.read (Elt F) X5) 5 j)) (2 * (i 2).val + 1) (bodyRun.sl.v1519 i) (k0_t3_loop i (bodyRun.sl.v1678 i arg3 arg4 arg6 X3 X4 X6)).trips) := by
  unfold bodyRun.sl.v1703
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 5

/-- Head 6 of query block 1. -/
theorem end1_6 : bodyRun.sl.v1706 c i arg3 harg3 arg4 harg4 arg5 harg5 arg6 harg6 arg7 harg7 arg8 harg8 X3 X4 X5 X6 f8 = upOf (headRes (arg6.view.read (Elt F) X6) (KB (arg4.view.read (Elt F) X4) 6) (QB (arg3.view.read (Elt F) X3) 1 6) (fun j => vOf (VB (arg5.view.read (Elt F) X5) 6 j)) (2 * (i 2).val + 1) (bodyRun.sl.v1519 i) (k0_t3_loop i (bodyRun.sl.v1678 i arg3 arg4 arg6 X3 X4 X6)).trips) := by
  unfold bodyRun.sl.v1706
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 6

/-- Head 7 of query block 1. -/
theorem end1_7 : bodyRun.sl.v1709 c i arg3 harg3 arg4 harg4 arg5 harg5 arg6 harg6 arg7 harg7 arg8 harg8 X3 X4 X5 X6 f8 = upOf (headRes (arg6.view.read (Elt F) X6) (KB (arg4.view.read (Elt F) X4) 7) (QB (arg3.view.read (Elt F) X3) 1 7) (fun j => vOf (VB (arg5.view.read (Elt F) X5) 7 j)) (2 * (i 2).val + 1) (bodyRun.sl.v1519 i) (k0_t3_loop i (bodyRun.sl.v1678 i arg3 arg4 arg6 X3 X4 X6)).trips) := by
  unfold bodyRun.sl.v1709
  exact fin1 _ _ _ _ _ _ _ _ _ _ _ _ _ _ _ _ _ _ _ _ _ _ _ _ _ _ _ _ _ _ _ _ _ _ _ _ _ _ _ _ _ (fun h => cStep (arg6.view.read (Elt F) X6) (KB (arg4.view.read (Elt F) X4) h (2 * (i 2).val + 1 - 1)) (QB (arg3.view.read (Elt F) X3) 1 h) (cDiag (arg6.view.read (Elt F) X6) (KB (arg4.view.read (Elt F) X4) h (2 * (i 2).val + 1)) (QB (arg3.view.read (Elt F) X3) 1 h))) (fun h => addf (pDiag (arg6.view.read (Elt F) X6) (KB (arg4.view.read (Elt F) X4) h (2 * (i 2).val + 1)) (QB (arg3.view.read (Elt F) X3) 1 h) (vOf (VB (arg5.view.read (Elt F) X5) h (2 * (i 2).val + 1))))
        (pStep (arg6.view.read (Elt F) X6) (KB (arg4.view.read (Elt F) X4) h (2 * (i 2).val + 1 - 1)) (QB (arg3.view.read (Elt F) X3) 1 h) (kV (bodyRun.sl.v1519 i) (vOf (VB (arg5.view.read (Elt F) X5) h (2 * (i 2).val + 1 - 1)))) (cDiag (arg6.view.read (Elt F) X6) (KB (arg4.view.read (Elt F) X4) h (2 * (i 2).val + 1)) (QB (arg3.view.read (Elt F) X3) 1 h)))) (cov1 c i arg3 harg3 arg4 harg4 arg5 harg5 arg6 harg6 arg7 harg7 arg8 harg8 X3 X4 X5 X6 f8) (accAll1 c i arg3 harg3 arg4 harg4 arg5 harg5 arg6 harg6 arg7 harg7 arg8 harg8 X3 X4 X5 X6 f8) _ _ _ (carAll1 i arg3 arg4 arg6 X3 X4 X6) 7

/-- What the body leaves in its output block: the second query block's rows, then the first's. -/
theorem bodyRun_eq : (bodyRun c i arg3 harg3 arg4 harg4 arg5 harg5 arg6 harg6 arg7 harg7 arg8 harg8 X3 X4 X5 X6).1 f8
    = [⟨Rect.unit (s := S512x1024) ![256, 0] S256x1024.size inb_S512x1024_S256x1024_256_0, packOf fun h => headRes (arg6.view.read (Elt F) X6) (KB (arg4.view.read (Elt F) X4) h) (QB (arg3.view.read (Elt F) X3) 1 h) (fun j => vOf (VB (arg5.view.read (Elt F) X5) h j)) (2 * (i 2).val + 1) (bodyRun.sl.v1519 i) (k0_t3_loop i (bodyRun.sl.v1678 i arg3 arg4 arg6 X3 X4 X6)).trips⟩,
       ⟨Rect.unit (s := S512x1024) ![0, 0] S256x1024.size inb_S512x1024_S256x1024_0_0, packOf fun h => headRes (arg6.view.read (Elt F) X6) (KB (arg4.view.read (Elt F) X4) h) (QB (arg3.view.read (Elt F) X3) 0 h) (fun j => vOf (VB (arg5.view.read (Elt F) X5) h j)) (2 * (i 2).val) (bodyRun.sl.v663 i) (k0_t1_loop i (bodyRun.sl.v822 i arg3 arg4 arg6 X3 X4 X6)).trips⟩] := by
  have e : (bodyRun c i arg3 harg3 arg4 harg4 arg5 harg5 arg6 harg6 arg7 harg7 arg8 harg8 X3 X4 X5 X6).1 f8
      = [⟨Rect.unit (s := S512x1024) ![256, 0] S256x1024.size inb_S512x1024_S256x1024_256_0, packOf ![dnOf (bodyRun.sl.v1688 c i arg3 harg3 arg4 harg4 arg5 harg5 arg6 harg6 arg7 harg7 arg8 harg8 X3 X4 X5 X6 f8), dnOf (bodyRun.sl.v1691 c i arg3 harg3 arg4 harg4 arg5 harg5 arg6 harg6 arg7 harg7 arg8 harg8 X3 X4 X5 X6 f8), dnOf (bodyRun.sl.v1694 c i arg3 harg3 arg4 harg4 arg5 harg5 arg6 harg6 arg7 harg7 arg8 harg8 X3 X4 X5 X6 f8), dnOf (bodyRun.sl.v1697 c i arg3 harg3 arg4 harg4 arg5 harg5 arg6 harg6 arg7 harg7 arg8 harg8 X3 X4 X5 X6 f8), dnOf (bodyRun.sl.v1700 c i arg3 harg3 arg4 harg4 arg5 harg5 arg6 harg6 arg7 harg7 arg8 harg8 X3 X4 X5 X6 f8), dnOf (bodyRun.sl.v1703 c i arg3 harg3 arg4 harg4 arg5 harg5 arg6 harg6 arg7 harg7 arg8 harg8 X3 X4 X5 X6 f8), dnOf (bodyRun.sl.v1706 c i arg3 harg3 arg4 harg4 arg5 harg5 arg6 harg6 arg7 harg7 arg8 harg8 X3 X4 X5 X6 f8), dnOf (bodyRun.sl.v1709 c i arg3 harg3 arg4 harg4 arg5 harg5 arg6 harg6 arg7 harg7 arg8 harg8 X3 X4 X5 X6 f8)]⟩,
         ⟨Rect.unit (s := S512x1024) ![0, 0] S256x1024.size inb_S512x1024_S256x1024_0_0, packOf ![dnOf (bodyRun.sl.v832 c i arg3 harg3 arg4 harg4 arg5 harg5 arg6 harg6 arg7 harg7 arg8 harg8 X3 X4 X5 X6 f8), dnOf (bodyRun.sl.v835 c i arg3 harg3 arg4 harg4 arg5 harg5 arg6 harg6 arg7 harg7 arg8 harg8 X3 X4 X5 X6 f8), dnOf (bodyRun.sl.v838 c i arg3 harg3 arg4 harg4 arg5 harg5 arg6 harg6 arg7 harg7 arg8 harg8 X3 X4 X5 X6 f8), dnOf (bodyRun.sl.v841 c i arg3 harg3 arg4 harg4 arg5 harg5 arg6 harg6 arg7 harg7 arg8 harg8 X3 X4 X5 X6 f8), dnOf (bodyRun.sl.v844 c i arg3 harg3 arg4 harg4 arg5 harg5 arg6 harg6 arg7 harg7 arg8 harg8 X3 X4 X5 X6 f8), dnOf (bodyRun.sl.v847 c i arg3 harg3 arg4 harg4 arg5 harg5 arg6 harg6 arg7 harg7 arg8 harg8 X3 X4 X5 X6 f8), dnOf (bodyRun.sl.v850 c i arg3 harg3 arg4 harg4 arg5 harg5 arg6 harg6 arg7 harg7 arg8 harg8 X3 X4 X5 X6 f8), dnOf (bodyRun.sl.v853 c i arg3 harg3 arg4 harg4 arg5 harg5 arg6 harg6 arg7 harg7 arg8 harg8 X3 X4 X5 X6 f8)]⟩] := by
    unfold bodyRun; rfl
  rw [e]
  rw [end1_0, dn_up, end1_1, dn_up, end1_2, dn_up, end1_3, dn_up, end1_4, dn_up, end1_5, dn_up, end1_6, dn_up, end1_7, dn_up, end0_0, dn_up, end0_1, dn_up, end0_2, dn_up, end0_3, dn_up, end0_4, dn_up, end0_5, dn_up, end0_6, dn_up, end0_7, dn_up]
  refine congrArg₂ List.cons (congrArg (Sigma.mk _) (congrArg packOf (funext fun h => ?_))) (congrArg₂ List.cons (congrArg (Sigma.mk _) (congrArg packOf (funext fun h => ?_))) rfl)
  · fin_cases h <;> rfl
  · fin_cases h <;> rfl

end Cert.KernelIdeal.Own
-- ==== Proof.OwnI.PtB.lean ====
/- One head's result at an index, at exact numbers: the values under the stick-breaking weights. -/
module

public import proofs.«01_k».proof.Proof.OwnI.PtA
public import proofs.«01_k».proof.Proof.OwnI.End

@[expose] public section

set_option maxRecDepth 16384

noncomputable section

namespace Cert.KernelIdeal.Own

open Cert.KernelIdeal Cert.KernelIdeal.Gen
open Idealize.ShloMosaic Idealize.ShloMosaic.TcCoe

/-- A block's entries between two places, as a sum over the sequence. -/
theorem sum_block {M : Type*} [AddCommMonoid M] (g : ℕ → M) (j r u : ℕ) (hu : u ≤ 256) :
    ∑ p : Fin 256, (if r ≤ p.val ∧ p.val < u then g (256 * j + p.val) else 0) = ∑ m ∈ Finset.Ico (256 * j + r) (256 * j + u), g m := by
  rw [Fin.sum_univ_eq_sum_range (fun p => if r ≤ p ∧ p < u then g (256 * j + p) else 0) 256, ← Finset.sum_filter]
  have e : (Finset.range 256).filter (fun p => r ≤ p ∧ p < u) = Finset.Ico r u := by
    ext p; simp only [Finset.mem_filter, Finset.mem_range, Finset.mem_Ico]; omega
  rw [e, Finset.sum_Ico_add (fun m => g m) r u (256 * j), add_comm r, add_comm u]

/-- The score of key `m`. -/
def zz (kr : ℕ → Fin 128 → ℝ) (qr : Fin 128 → ℝ) (m : ℕ) : ℝ := ∑ d : Fin 128, kr m d * qr d

/-- The weight of key `m` for the query at `T`. -/
def wt (kr : ℕ → Fin 128 → ℝ) (qr : Fin 128 → ℝ) (T m : ℕ) : ℝ :=
  Real.rpow 2 (zz kr qr m - ∑ p ∈ Finset.Ico m T, sp2 (zz kr qr p))

section
variable (L : Vec Ideal S256x512 .bf16) (hL : LaterIs L) (kb : Vec Ideal S1x256x128 .bf16) (qb : Vec Ideal S1x256x128 .bf16)
  (v : FVec Ideal S128x256 .bf16) (c : FVec Ideal S1x256 .f32) (t : Fin 256) (dd : Fin 128) (j : ℕ)
  (kr : ℕ → Fin 128 → ℝ) (qr : Fin 128 → ℝ) (vr : ℕ → EReal)
  (hk : ∀ (r : Fin 256) (d : Fin 128), kb (ix3 0 r d) = (kr (256 * j + r.val) d : EReal)) (hq : ∀ d, qb (ix3 0 t d) = (qr d : EReal))
  (hv : ∀ r : Fin 256, v (ix2 dd r) = vr (256 * j + r.val))
include hL hk hq

theorem sd_suf (r : Fin 256) : sufOf L (sdOf kb qb) (ix2 r t)
    = ((∑ m ∈ Finset.Ico (256 * j + r.val) (256 * j + t.val), sp2 (zz kr qr m) : ℝ) : EReal) := by
  unfold sdOf
  rw [sufOf_real L hL _ t (fun p => if p.val < t.val then sp2 (zz kr qr (256 * j + p.val)) else 0), ← sum_block _ _ _ _ t.isLt.le]
  · refine congrArg _ (Finset.sum_congr rfl fun p _ => ?_)
    by_cases h1 : r.val ≤ p.val <;> by_cases h2 : p.val < t.val <;> simp [h1, h2]
  · intro p
    rw [mskOf_apply, spOf_real _ p t _ (zOf_real kb qb p t _ _ (hk p) hq)]
    split
    · rfl
    · exact EReal.coe_zero.symm

theorem sv_suf (r : Fin 256) : sufOf L (svOf kb qb) (ix2 r t)
    = ((∑ m ∈ Finset.Ico (256 * j + r.val) (256 * (j + 1)), sp2 (zz kr qr m) : ℝ) : EReal) := by
  unfold svOf
  rw [sufOf_real L hL _ t (fun p => sp2 (zz kr qr (256 * j + p.val))), show 256 * (j + 1) = 256 * j + 256 by ring, ← sum_block _ _ _ _ le_rfl]
  · refine congrArg _ (Finset.sum_congr rfl fun p _ => ?_)
    have h2 := p.isLt
    by_cases h1 : r.val ≤ p.val <;> simp [h1, h2]
  · intro p
    rw [spOf_real _ p t _ (zOf_real kb qb p t _ _ (hk p) hq)]
    rfl

theorem cDiag_real : cDiag L kb qb (ix2 0 t) = ((-∑ m ∈ Finset.Ico (256 * j) (256 * j + t.val), sp2 (zz kr qr m) : ℝ) : EReal) := by
  unfold cDiag
  rw [cOf_real L _ _ t _ _ (c0Of_real t) (sd_suf L hL kb qb t j kr qr hk hq 0), zero_sub]
  rfl

theorem cStep_real (T : ℕ) (hT : 256 * (j + 1) ≤ T)
    (hc : c (ix2 0 t) = ((-∑ m ∈ Finset.Ico (256 * (j + 1)) T, sp2 (zz kr qr m) : ℝ) : EReal)) :
    cStep L kb qb c (ix2 0 t) = ((-∑ m ∈ Finset.Ico (256 * j) T, sp2 (zz kr qr m) : ℝ) : EReal) := by
  unfold cStep
  rw [cOf_real L _ _ t _ _ hc (sv_suf L hL kb qb t j kr qr hk hq 0),
    ← Finset.sum_Ico_consecutive _ (show 256 * j ≤ 256 * (j + 1) by omega) hT]
  refine congrArg _ ?_
  show -_ - ∑ m ∈ Finset.Ico (256 * j + 0) (256 * (j + 1)), _ = _
  rw [add_zero]
  ring

include hv

theorem pDiag_real : pDiag L kb qb v (ix2 dd t)
    = ∑ m ∈ Finset.Ico (256 * j) (256 * j + t.val), vr m * ((wt kr qr (256 * j + t.val) m : ℝ) : EReal) := by
  have hs := sum_block (fun m => vr m * ((wt kr qr (256 * j + t.val) m : ℝ) : EReal)) j 0 t.val t.isLt.le
  rw [add_zero] at hs
  unfold pDiag
  rw [pvOf_apply, ← hs]
  refine Finset.sum_congr rfl fun r _ => ?_
  rw [hv]
  show _ * mskOf (F := Ideal) _ (ix2 r t) = _
  rw [mskOf_apply]
  by_cases h : r.val < t.val
  · rw [if_pos h, if_pos ⟨Nat.zero_le _, h⟩,
      eOf_real L _ _ _ r t _ _ _ (zOf_real kb qb r t _ _ (hk r) hq) (c0Of_real t) (sd_suf L hL kb qb t j kr qr hk hq r), add_zero]
    rfl
  · rw [if_neg h, if_neg (fun h' => h h'.2), mul_zero]

theorem pStep_real (T : ℕ) (hT : 256 * (j + 1) ≤ T)
    (hc : c (ix2 0 t) = ((-∑ m ∈ Finset.Ico (256 * (j + 1)) T, sp2 (zz kr qr m) : ℝ) : EReal)) :
    pStep L kb qb v c (ix2 dd t) = ∑ m ∈ Finset.Ico (256 * j) (256 * (j + 1)), vr m * ((wt kr qr T m : ℝ) : EReal) := by
  have hs := sum_block (fun m => vr m * ((wt kr qr T m : ℝ) : EReal)) j 0 256 le_rfl
  rw [add_zero] at hs
  unfold pStep
  rw [pvOf_apply, show 256 * (j + 1) = 256 * j + 256 by ring, ← hs]
  refine Finset.sum_congr rfl fun r _ => ?_
  rw [hv, if_pos ⟨Nat.zero_le _, r.isLt⟩]
  show _ * eOf (F := Ideal) _ _ _ _ (ix2 r t) = _
  rw [eOf_real L _ _ _ r t _ _ _ (zOf_real kb qb r t _ _ (hk r) hq) hc (sv_suf L hL kb qb t j kr qr hk hq r)]
  unfold wt
  have hr := r.isLt
  rw [← Finset.sum_Ico_consecutive _ (show 256 * j + r.val ≤ 256 * (j + 1) by omega) hT]
  congr 3
  show zz kr qr (256 * j + r.val) + _ - _ = _
  ring

end

/-- One head's result: the values of the keys before the query, each under its weight. -/
theorem headRes_real (L : Vec Ideal S256x512 .bf16) (hL : LaterIs L) (kb : ℕ → Vec Ideal S1x256x128 .bf16) (qb : Vec Ideal S1x256x128 .bf16)
    (vb : ℕ → FVec Ideal S128x256 .bf16) (q : ℕ) (b : BitVec 1) (hb : b = if q = 0 then 0#1 else 1#1) (t : Fin 256) (dd : Fin 128)
    (kr : ℕ → Fin 128 → ℝ) (qr : Fin 128 → ℝ) (vr : ℕ → EReal)
    (hk : ∀ (j : ℕ) (r : Fin 256) (d : Fin 128), kb j (ix3 0 r d) = (kr (256 * j + r.val) d : EReal)) (hq : ∀ d, qb (ix3 0 t d) = (qr d : EReal))
    (hv : ∀ (j : ℕ) (r : Fin 256), vb j (ix2 dd r) = vr (256 * j + r.val)) :
    headRes L kb qb vb q b (q - 1) (ix2 dd t)
      = ∑ m ∈ Finset.range (256 * q + t.val), vr m * ((wt kr qr (256 * q + t.val) m : ℝ) : EReal) := by
  unfold headRes
  have hadd : ∀ a b : FVec Ideal S128x256 .f32, addf a b (ix2 dd t) = (a (ix2 dd t) + b (ix2 dd t) : EReal) := fun a b => rfl
  rcases Nat.eq_zero_or_pos q with h0 | h0
  · subst h0
    rw [if_pos rfl] at hb
    subst hb
    show addf _ _ (ix2 dd t) = _
    rw [hadd, pDiag_real L hL (kb 0) qb (vb 0) t dd 0 kr qr vr (hk 0) hq (hv 0)]
    have hz : pStep L (kb (0 - 1)) qb (kV 0#1 (vb (0 - 1))) (cDiag L (kb 0) qb) (ix2 dd t) = 0 := by
      unfold pStep
      rw [pvOf_apply]
      exact Finset.sum_eq_zero fun r _ => by rw [kV_zero, zero_mul]
    rw [hz, add_zero, Finset.range_eq_Ico]
  · rw [if_neg (by omega)] at hb
    subst hb
    rw [kV_one]
    have key : ∀ n ≤ q - 1,
        (stp L (fun k => kb (q - 2 - k)) qb (fun k => vb (q - 2 - k)) (cStep L (kb (q - 1)) qb (cDiag L (kb q) qb))
          (addf (pDiag L (kb q) qb (vb q)) (pStep L (kb (q - 1)) qb (vb (q - 1)) (cDiag L (kb q) qb))) n).1 (ix2 0 t)
            = ((-∑ m ∈ Finset.Ico (256 * (q - 1 - n)) (256 * q + t.val), sp2 (zz kr qr m) : ℝ) : EReal)
        ∧ (stp L (fun k => kb (q - 2 - k)) qb (fun k => vb (q - 2 - k)) (cStep L (kb (q - 1)) qb (cDiag L (kb q) qb))
          (addf (pDiag L (kb q) qb (vb q)) (pStep L (kb (q - 1)) qb (vb (q - 1)) (cDiag L (kb q) qb))) n).2 (ix2 dd t)
            = ∑ m ∈ Finset.Ico (256 * (q - 1 - n)) (256 * q + t.val), vr m * ((wt kr qr (256 * q + t.val) m : ℝ) : EReal) := by
      intro n
      induction n with
      | zero =>
        intro _
        have hd := cDiag_real L hL (kb q) qb t q kr qr (hk q) hq
        have e1 : q - 1 + 1 = q := by omega
        rw [← e1] at hd
        have hd' := hd
        rw [e1] at hd'
        have hd2 : cDiag L (kb q) qb (ix2 0 t) = ((-∑ m ∈ Finset.Ico (256 * (q - 1 + 1)) (256 * q + t.val), sp2 (zz kr qr m) : ℝ) : EReal) := by
          rw [e1]; exact hd'
        constructor
        · exact cStep_real L hL (kb (q - 1)) qb _ t (q - 1) kr qr (hk _) hq _ (by omega) hd2
        · show addf _ _ (ix2 dd t) = _
          rw [hadd, pDiag_real L hL (kb q) qb (vb q) t dd q kr qr vr (hk q) hq (hv q),
            pStep_real L hL (kb (q - 1)) qb (vb (q - 1)) _ t dd (q - 1) kr qr vr (hk _) hq (hv _) _ (by omega) hd2, e1, add_comm,
            Finset.sum_Ico_consecutive _ (by omega) (by omega)]
          rfl
      | succ n ih =>
        intro hn
        obtain ⟨i1, i2⟩ := ih (by omega)
        have e1 : q - 1 - n = q - 2 - n + 1 := by omega
        rw [e1] at i1 i2
        constructor
        · rw [show q - 1 - (n + 1) = q - 2 - n by omega]
          exact cStep_real L hL (kb (q - 2 - n)) qb _ t (q - 2 - n) kr qr (hk _) hq _ (by omega) i1
        · rw [show q - 1 - (n + 1) = q - 2 - n by omega]
          show addf _ _ (ix2 dd t) = _
          rw [hadd, i2, pStep_real L hL (kb (q - 2 - n)) qb (vb (q - 2 - n)) _ t dd (q - 2 - n) kr qr vr (hk _) hq (hv _) _ (by omega) i1, add_comm,
            Finset.sum_Ico_consecutive _ (by omega) (by omega)]
    rw [(key (q - 1) le_rfl).2, Nat.sub_self, mul_zero, Finset.range_eq_Ico]

end Cert.KernelIdeal.Own
-- ==== Proof.OwnI.Exit.lean ====
/- The loop's exit test: with exact numbers and finite operands, nothing that is carried is minus infinity, so the loop runs
   over every earlier block. -/
module

public import proofs.«01_k».proof.Proof.OwnI.PtB
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe

theorem mx_ge (c : FVec Ideal S1x256 .f32) (t : Fin 256) : (c (ix2 0 t) : EReal) ≤ k0_pay344 c := by
  have e : k0_pay344 c = Finset.fold max (Ideal.ofBits FTy.f32 4286578688#32) (fun x : Fin 1 × Fin 256 => (c (ix2 0 x.2) : EReal)) Finset.univ := by
    pointwise [k0_pay344]
  rw [e]
  exact Finset.le_fold_max _ |>.mpr (Or.inr ⟨(0, t), Finset.mem_univ _, le_rfl⟩)

theorem exit0_gt (a b : Ideal .f32) (h : (⊥ : EReal) < a) :
    Scalar.cmpf .ogt (k0_pay346 a b) (Named.named (F := Ideal) (φ := .f32) κ "log2_of_zero" 0xC3200000#32) = 1#1 := by
  rw [named_log2_of_zero]
  show BitVec.ofBool (decide (max b a > (⊥ : EReal))) = 1#1
  rw [decide_eq_true (lt_of_lt_of_le h (le_max_right b a))]
  rfl

theorem exit1_gt (c : FVec Ideal S1x256 .f32) (a1 a2 a3 a4 a5 a6 : Ideal .f32) (d : FVec Ideal S1x1x256 .f32) (h : (⊥ : EReal) < k0_pay344 c) :
    Scalar.cmpf .ogt (k0_pay484 c a1 a2 a3 a4 a5 a6 d) (Named.named (F := Ideal) (φ := .f32) κ "log2_of_zero" 0xC3200000#32) = 1#1 := by
  rw [named_log2_of_zero]
  have e : ∃ x : EReal, k0_pay484 c a1 a2 a3 a4 a5 a6 d = max x (k0_pay344 c) := ⟨_, rfl⟩
  obtain ⟨x, e⟩ := e
  rw [e]
  show BitVec.ofBool (decide (max x _ > (⊥ : EReal))) = 1#1
  rw [decide_eq_true (lt_of_lt_of_le h (le_max_right x _))]
  rfl

/-- What is carried into the loop is a real number. -/
theorem car_real (L : Vec Ideal S256x512 .bf16) (hL : LaterIs L) (kb kd qb : Vec Ideal S1x256x128 .bf16) (t : Fin 256) (j j' : ℕ)
    (kr : ℕ → Fin 128 → ℝ) (qr : Fin 128 → ℝ)
    (hk : ∀ (r : Fin 256) (d : Fin 128), kb (ix3 0 r d) = (kr (256 * j + r.val) d : EReal))
    (hd : ∀ (r : Fin 256) (d : Fin 128), kd (ix3 0 r d) = (kr (256 * j' + r.val) d : EReal)) (hq : ∀ d, qb (ix3 0 t d) = (qr d : EReal)) :
    (⊥ : EReal) < k0_pay344 (cStep L kb qb (cDiag L kd qb)) := by
  refine lt_of_lt_of_le ?_ (mx_ge _ t)
  unfold cStep
  rw [cOf_real L _ _ t _ _ (cDiag_real L hL kd qb t j' kr qr hd hq) (sv_suf L hL kb qb t j kr qr hk hq 0)]
  exact EReal.bot_lt_coe _

variable (c : Dev nD) (i : grid0.Coords) (arg3 : Memref sig .tc .vmem S8x512x128 .bf16) (harg3 : arg3.IsWhole) (arg4 : Memref sig .tc .vmem S8x4096x128 .bf16) (harg4 : arg4.IsWhole)
  (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f8 : BufTy.Contents (Elt Ideal) arg8.view.ty)

/-- The loop of query block 0 runs. -/
theorem exit0 (hL : LaterIs (arg6.view.read (Elt Ideal) X6)) (kr : ℕ → Fin 128 → ℝ) (qr : Fin 128 → ℝ)
    (hk : ∀ (j : ℕ) (r : Fin 256) (d : Fin 128), KB (arg4.view.read (Elt Ideal) X4) 7 j (ix3 0 r d) = (kr (256 * j + r.val) d : EReal))
    (hq : ∀ d, QB (arg3.view.read (Elt Ideal) X3) 0 7 (ix3 0 0 d) = (qr d : EReal)) :
    bodyRun.sl.v822 i arg3 arg4 arg6 X3 X4 X6 = 1#1 := by
  have hc := car_real (arg6.view.read (Elt Ideal) X6) hL (KB (arg4.view.read (Elt Ideal) X4) 7 (2 * (i 2).val - 1)) (KB (arg4.view.read (Elt Ideal) X4) 7 (2 * (i 2).val))
    (QB (arg3.view.read (Elt Ideal) X3) 0 7) 0 _ _ kr qr (hk _) (hk _) hq
  rw [← carry0_7 i arg3 arg4 arg6 X3 X4 X6] at hc
  exact exit0_gt _ _ hc

/-- The loop of query block 1 runs. -/
theorem exit1 (hL : LaterIs (arg6.view.read (Elt Ideal) X6)) (kr : ℕ → Fin 128 → ℝ) (qr : Fin 128 → ℝ)
    (hk : ∀ (j : ℕ) (r : Fin 256) (d : Fin 128), KB (arg4.view.read (Elt Ideal) X4) 7 j (ix3 0 r d) = (kr (256 * j + r.val) d : EReal))
    (hq : ∀ d, QB (arg3.view.read (Elt Ideal) X3) 1 7 (ix3 0 0 d) = (qr d : EReal)) :
    bodyRun.sl.v1678 i arg3 arg4 arg6 X3 X4 X6 = 1#1 := by
  have hc := car_real (arg6.view.read (Elt Ideal) X6) hL (KB (arg4.view.read (Elt Ideal) X4) 7 (2 * (i 2).val + 1 - 1)) (KB (arg4.view.read (Elt Ideal) X4) 7 (2 * (i 2).val + 1))
    (QB (arg3.view.read (Elt Ideal) X3) 1 7) 0 _ _ kr qr (hk _) (hk _) hq
  rw [← carry1_7 i arg3 arg4 arg6 X3 X4 X6] at hc
  exact exit1_gt _ _ _ _ _ _ _ _ hc

end Cert.KernelIdeal.Own
-- ==== Proof.Consts.lean ====
/- The float constants the two programs spell, as the numbers they denote. -/
module

public import Idealize.ShloMosaic.PureOps.Ideal

@[expose] public section

noncomputable section

namespace Cert.Consts

open Idealize.ShloMosaic

theorem ofBits_2 : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul, -EReal.coe_one]; norm_num

theorem ofBits_0 : Ideal.ofBits .f32 0x00000000#32 = ((0 : ℝ) : EReal) := by
  simp [Ideal.ofBits, Ideal.ieee, -EReal.coe_mul]

theorem ofBits_inf : Ideal.ofBits .f32 0x7F800000#32 = (⊤ : EReal) := by
  simp [Ideal.ofBits, Ideal.ieee, -EReal.coe_mul]

theorem ofBits_bf1 : Ideal.ofBits .bf16 0x3F80#16 = ((1 : ℝ) : EReal) := by
  simp [Ideal.ofBits, Ideal.ieee, -EReal.coe_mul, -EReal.coe_one]; norm_num

theorem ofBits_bf0 : Ideal.ofBits .bf16 0x0000#16 = 0 := by
  simp [Ideal.ofBits, Ideal.ieee, -EReal.coe_mul]

end Cert.Consts

end
-- ==== Proof.OwnI.Host.lean ====
/- The arrays the attention call is given, at an index. -/
module

public import proofs.«01_k».proof.Proof.Gen.KernelIdeal.Frame
public import Idealize.ShloMosaic.Lib.StableHlo.ReadAt
public import proofs.«01_k».proof.Proof.Consts

@[expose] public section

set_option maxRecDepth 16384

noncomputable section

namespace Cert.KernelIdeal.Own

open Cert.KernelIdeal Cert.KernelIdeal.Gen
open Idealize.ShloMosaic Idealize.ShloMosaic.TcCoe

variable (m : (ℓ : Loc nD τ sig) → Buf (Elt Ideal) ℓ) (c : Dev nD)

theorem host_k (h : Fin 16) (r : Fin 16384) (d : Fin 128) :
    (V m c main_v11 : S16x16384x128.Idx → EReal) (ix3 h r d) = (m ((c : Thread nD τ).loc main_arg1) : S4x4096x16x128.Idx → EReal)
      (ix4 ⟨r.val / 4096, by omega⟩ ⟨r.val % 4096, Nat.mod_lt _ (by norm_num)⟩ h d) := by
  unfold V
  after_reads_at
  rfl

theorem host_v (h : Fin 16) (r : Fin 16384) (d : Fin 128) :
    (V m c main_v14 : S16x128x16384.Idx → EReal) (ix3 h d r) = (m ((c : Thread nD τ).loc main_arg2) : S4x4096x16x128.Idx → EReal)
      (ix4 ⟨r.val / 4096, by omega⟩ ⟨r.val % 4096, Nat.mod_lt _ (by norm_num)⟩ h d) := by
  unfold V
  after_reads_at
  rfl

/-- What the queries are scaled by. -/
def scl : ℝ := (Real.log 2 * Real.sqrt 128)⁻¹

theorem host_q (h : Fin 16) (r : Fin 16384) (d : Fin 128) :
    (V m c main_v8 : S16x16384x128.Idx → EReal) (ix3 h r d) = @HMul.hMul EReal EReal EReal _ ((m ((c : Thread nD τ).loc main_arg0) : S4x4096x16x128.Idx → EReal)
      (ix4 ⟨r.val / 4096, by omega⟩ ⟨r.val % 4096, Nat.mod_lt _ (by norm_num)⟩ h d)) (scl : EReal) := by
  have l2 : Real.log 2 ≠ 0 := (Real.log_pos (by norm_num)).ne'
  have hne : Real.log 2 * Real.sqrt 128 ≠ 0 := mul_ne_zero l2 (Real.sqrt_pos.mpr (by norm_num)).ne'
  have e : Ideal.div (Ideal.ofBits .f32 0x3F800000#32) (Ideal.log (Ideal.ofBits .f32 0x40000000#32) * Ideal.sqrt (Ideal.ofBits .f32 0x43000000#32)) = (scl : EReal) := by
    rw [Cert.Consts.ofBits_1, Cert.Consts.ofBits_2, Cert.Consts.ofBits_128, Ideal.log_coe, if_neg (by norm_num), Ideal.sqrt_coe, if_neg (by norm_num),
      ← EReal.coe_mul, Ideal.div_coe hne, ← EReal.coe_mul, one_mul]
    unfold scl; rw [one_div]
  unfold V
  after_reads_at
  rw [← e]
  rfl

theorem addi_eq (a b : BitVec 32) : IntOp.addi a b = a + b := rfl

theorem toInt_small (a : ℕ) (h : a < 256) : (BitVec.ofNat 32 a).toInt = (a : ℤ) := by
  rw [BitVec.toInt_eq_toNat_of_lt] <;> simp only [BitVec.toNat_ofNat] <;> omega

theorem toInt_pred (a : ℕ) (h : a < 256) : (BitVec.ofNat 32 a + 4294967295#32).toInt = (a : ℤ) - 1 := by
  rw [BitVec.toInt_eq_toNat_cond, BitVec.toNat_add, BitVec.toNat_ofNat, BitVec.toNat_ofNat]
  split <;> omega

theorem sge_eq (a b : ℕ) (ha : a < 256) (hb : b < 256) :
    IntOp.cmpi CmpIPredicate.sge (IntOp.addi (BitVec.ofNat 32 a) 4294967295#32) (BitVec.ofNat 32 b) = if a ≤ b then 0#1 else 1#1 := by
  rw [addi_eq]
  show BitVec.ofBool (BitVec.sle (BitVec.ofNat 32 b) (BitVec.ofNat 32 a + 4294967295#32)) = _
  rw [BitVec.sle_eq_decide, toInt_small b hb, toInt_pred a ha]
  by_cases h : a ≤ b
  · rw [if_pos h, decide_eq_false (by omega)]; rfl
  · rw [if_neg h, decide_eq_true (by omega)]; rfl

theorem sel_eq (p : Prop) [Decidable p] : Scalar.select (if p then 0#1 else 1#1) (FloatOps.ofBits FTy.bf16 0#16 : Ideal .bf16) (FloatOps.ofBits FTy.bf16 16256#16) = if p then (1 : EReal) else 0 := by
  split
  · show Ideal.ofBits .bf16 0x3F80#16 = 1
    rw [Cert.Consts.ofBits_bf1, EReal.coe_one]
  · show Ideal.ofBits .bf16 0x0000#16 = 0
    exact Cert.Consts.ofBits_bf0

theorem host_tri (r x : Fin 256) : (StableHlo.upto (List.flatten [hostOps0, hostOps0_1, hostOps0_2]) (fun b => m (c, b)) 29 (Proc.devRef .tc main_v16) : S256x256.Idx → EReal) (ix2 r x) = if r.val ≤ x.val then (1 : EReal) else 0 := by
  rw [← sel_eq, ← sge_eq _ _ r.isLt x.isLt]
  after_reads_at

theorem host_later (r : Fin 256) (x : Fin 512) :
    (V m c main_v17 : S256x512.Idx → EReal) (ix2 r x) = if r.val ≤ x.val % 256 then (1 : EReal) else 0 := by
  have e : (V m c main_v17 : S256x512.Idx → EReal) = concatenate S256x512 1 [⟨S256x256, (StableHlo.upto (List.flatten [hostOps0, hostOps0_1, hostOps0_2]) (fun b => m (c, b)) 29 (Proc.devRef .tc main_v16) : S256x256.Idx → EReal)⟩, ⟨S256x256, (StableHlo.upto (List.flatten [hostOps0, hostOps0_1, hostOps0_2]) (fun b => m (c, b)) 29 (Proc.devRef .tc main_v16) : S256x256.Idx → EReal)⟩] concatenates_S256x256_S256x256_S256x512_d1 := by
    unfold V
    after_reads_simp
  have e2 : ∀ t : FVec Ideal S256x256 .bf16, (concatenate S256x512 1 [⟨S256x256, t⟩, ⟨S256x256, t⟩] concatenates_S256x256_S256x256_S256x512_d1 : S256x512.Idx → EReal) (ix2 r x)
      = if h : x.val < 256 then t (ix2 r ⟨x.val, by omega⟩) else t (ix2 r ⟨x.val - 256, by omega⟩) := by
    intro t
    pointwise
  rw [e, e2]
  have hx := x.isLt
  split
  · rename_i h
    rw [host_tri]
    simp only [Nat.mod_eq_of_lt h]
  · rename_i h
    rw [host_tri]
    have : x.val % 256 = x.val - 256 := by omega
    simp only [this]

end Cert.KernelIdeal.Own
-- ==== Proof.OwnI.Blocks.lean ====
/- The windows' blocks at an index: where in its array each block's entry comes from. -/
module

public import proofs.«01_k».proof.Proof.OwnI.Frame
public import proofs.«01_k».proof.Proof.OwnI.Exit
public import proofs.«01_k».proof.Proof.OwnI.Host

@[expose] public section

set_option maxRecDepth 16384

noncomputable section

namespace Cert.KernelIdeal.Own

open Cert.KernelIdeal Cert.KernelIdeal.Gen
open Idealize.ShloMosaic Idealize.ShloMosaic.TcCoe

theorem ix_0 (i : grid0.Coords) : cc0_transform_0 i = ![(i 1).val, (i 0).val * 8 + (i 2).val, 0] := by
  have h0 : (i 0).val < 4 := (i 0).isLt
  have h1 : (i 1).val < 2 := (i 1).isLt
  have h2 : (i 2).val < 8 := (i 2).isLt
  unfold cc0_transform_0
  generalize (i 0).val = a at *
  generalize (i 1).val = b at *
  generalize (i 2).val = c at *
  interval_cases a <;> interval_cases b <;> interval_cases c <;> rfl

theorem ix_1 (i : grid0.Coords) : cc0_transform_1 i = ![(i 1).val, (i 0).val, 0] := by
  have h0 : (i 0).val < 4 := (i 0).isLt
  have h1 : (i 1).val < 2 := (i 1).isLt
  unfold cc0_transform_1
  generalize (i 0).val = a at *
  generalize (i 1).val = b at *
  interval_cases a <;> interval_cases b <;> rfl

theorem ix_2 (i : grid0.Coords) : cc0_transform_2 i = ![(i 1).val, 0, (i 0).val] := by
  have h0 : (i 0).val < 4 := (i 0).isLt
  have h1 : (i 1).val < 2 := (i 1).isLt
  unfold cc0_transform_2
  generalize (i 0).val = a at *
  generalize (i 1).val = b at *
  interval_cases a <;> interval_cases b <;> rfl

theorem ix_3 (i : grid0.Coords) : cc0_transform_3 i = ![0, 0] := rfl

theorem ix_4 (i : grid0.Coords) : cc0_transform_4 i = ![(i 0).val * 8 + (i 2).val, (i 1).val] := by
  have h0 : (i 0).val < 4 := (i 0).isLt
  have h1 : (i 1).val < 2 := (i 1).isLt
  have h2 : (i 2).val < 8 := (i 2).isLt
  unfold cc0_transform_4
  generalize (i 0).val = a at *
  generalize (i 1).val = b at *
  generalize (i 2).val = c at *
  interval_cases a <;> interval_cases b <;> interval_cases c <;> rfl

variable (m : (ℓ : Loc nD τ sig) → Buf (Elt Ideal) ℓ) (c : Dev nD) (t : Fin cfg0.N)

/-- The point's batch, head group and query-block pair. -/
abbrev pb : Fin 4 := (grid0.coords t) 0
abbrev pg : Fin 2 := (grid0.coords t) 1
abbrev pi : Fin 8 := (grid0.coords t) 2

theorem iblk0 (h : Fin 8) (r : Fin 512) (d : Fin 128) :
    (iblk m c 0 t : S8x512x128.Idx → EReal) (ix3 h r d)
      = (V m c main_v8 : S16x16384x128.Idx → EReal) (ix3 ⟨(pg t).val * 8 + h.val, by omega⟩ ⟨((pb t).val * 8 + (pi t).val) * 512 + r.val, by omega⟩ d) := by
  unfold iblk
  rw [View.read_apply]
  show V m c main_v8 _ = V m c main_v8 _
  have e := ix_0 (grid0.coords t)
  refine congrArg (V m c main_v8) (funext fun a => Fin.ext ?_)
  match a with
  | ⟨0, _⟩ => show cc0_transform_0 (grid0.coords t) 0 * 8 + 1 * h.val = (pg t).val * 8 + h.val; rw [e]; show (pg t).val * 8 + _ = _; omega
  | ⟨1, _⟩ => show cc0_transform_0 (grid0.coords t) 1 * 512 + 1 * r.val = _; rw [e]; show ((pb t).val * 8 + (pi t).val) * 512 + 1 * r.val = ((pb t).val * 8 + (pi t).val) * 512 + r.val; omega
  | ⟨2, _⟩ => show cc0_transform_0 (grid0.coords t) 2 * 128 + 1 * d.val = d.val; rw [e]; show 0 * 128 + 1 * d.val = d.val; omega

theorem iblk1 (h : Fin 8) (r : Fin 4096) (d : Fin 128) :
    (iblk m c 1 t : S8x4096x128.Idx → EReal) (ix3 h r d)
      = (V m c main_v11 : S16x16384x128.Idx → EReal) (ix3 ⟨(pg t).val * 8 + h.val, by omega⟩ ⟨(pb t).val * 4096 + r.val, by omega⟩ d) := by
  unfold iblk
  rw [View.read_apply]
  show V m c main_v11 _ = V m c main_v11 _
  have e := ix_1 (grid0.coords t)
  refine congrArg (V m c main_v11) (funext fun a => Fin.ext ?_)
  match a with
  | ⟨0, _⟩ => show cc0_transform_1 (grid0.coords t) 0 * 8 + 1 * h.val = (pg t).val * 8 + h.val; rw [e]; show (pg t).val * 8 + _ = _; omega
  | ⟨1, _⟩ => show cc0_transform_1 (grid0.coords t) 1 * 4096 + 1 * r.val = _; rw [e]; show (pb t).val * 4096 + 1 * r.val = (pb t).val * 4096 + r.val; omega
  | ⟨2, _⟩ => show cc0_transform_1 (grid0.coords t) 2 * 128 + 1 * d.val = d.val; rw [e]; show 0 * 128 + 1 * d.val = d.val; omega

theorem iblk2 (h : Fin 8) (d : Fin 128) (r : Fin 4096) :
    (iblk m c 2 t : S8x128x4096.Idx → EReal) (ix3 h d r)
      = (V m c main_v14 : S16x128x16384.Idx → EReal) (ix3 ⟨(pg t).val * 8 + h.val, by omega⟩ d ⟨(pb t).val * 4096 + r.val, by omega⟩) := by
  unfold iblk
  rw [View.read_apply]
  show V m c main_v14 _ = V m c main_v14 _
  have e := ix_2 (grid0.coords t)
  refine congrArg (V m c main_v14) (funext fun a => Fin.ext ?_)
  match a with
  | ⟨0, _⟩ => show cc0_transform_2 (grid0.coords t) 0 * 8 + 1 * h.val = (pg t).val * 8 + h.val; rw [e]; show (pg t).val * 8 + _ = _; omega
  | ⟨1, _⟩ => show cc0_transform_2 (grid0.coords t) 1 * 128 + 1 * d.val = d.val; rw [e]; show 0 * 128 + 1 * d.val = d.val; omega
  | ⟨2, _⟩ => show cc0_transform_2 (grid0.coords t) 2 * 4096 + 1 * r.val = _; rw [e]; show (pb t).val * 4096 + 1 * r.val = (pb t).val * 4096 + r.val; omega

theorem iblk3 (r : Fin 256) (x : Fin 512) :
    (iblk m c 3 t : S256x512.Idx → EReal) (ix2 r x) = (V m c main_v17 : S256x512.Idx → EReal) (ix2 r x) := by
  unfold iblk
  rw [View.read_apply]
  show V m c main_v17 _ = V m c main_v17 _
  have e := ix_3 (grid0.coords t)
  refine congrArg (V m c main_v17) (funext fun a => Fin.ext ?_)
  match a with
  | ⟨0, _⟩ => show cc0_transform_3 (grid0.coords t) 0 * 256 + 1 * r.val = r.val; rw [e]; show 0 * 256 + 1 * r.val = _; omega
  | ⟨1, _⟩ => show cc0_transform_3 (grid0.coords t) 1 * 512 + 1 * x.val = x.val; rw [e]; show 0 * 512 + 1 * x.val = _; omega

theorem blk4_read (G : S16384x2048.Idx → EReal) (r : Fin 512) (x : Fin 1024) :
    ((cfg0.win 4).blk t).view.read (Elt Ideal) (G : Buf (Elt Ideal) ((c : Thread nD τ).loc main_v18)) (ix2 r x)
      = G (ix2 ⟨((pb t).val * 8 + (pi t).val) * 512 + r.val, by omega⟩ ⟨(pg t).val * 1024 + x.val, by omega⟩) := by
  rw [View.read_apply]
  show G _ = G _
  have e := ix_4 (grid0.coords t)
  refine congrArg G (funext fun a => Fin.ext ?_)
  match a with
  | ⟨0, _⟩ => show cc0_transform_4 (grid0.coords t) 0 * 512 + 1 * r.val = _; rw [e]; show ((pb t).val * 8 + (pi t).val) * 512 + 1 * r.val = ((pb t).val * 8 + (pi t).val) * 512 + r.val; omega
  | ⟨1, _⟩ => show cc0_transform_4 (grid0.coords t) 1 * 1024 + 1 * x.val = _; rw [e]; show (pg t).val * 1024 + 1 * x.val = (pg t).val * 1024 + x.val; omega

/-- The eight heads' results at an index. -/
theorem packOf_apply (w : Fin 8 → FVec Ideal S128x256 .f32) (r : Fin 256) (x : Fin 1024) :
    packOf w (ix2 r x) = w ⟨x.val / 128, by omega⟩ (ix2 ⟨x.val % 128, Nat.mod_lt _ (by norm_num)⟩ r) := by
  have aux : ∀ (a a' : Fin 8) (b b' : Fin 128), a.val = a'.val → b.val = b'.val → w a (ix2 b r) = w a' (ix2 b' r) := by
    intro a a' b b' h1 h2
    rw [Fin.ext h1, Fin.ext h2]
  have hx := x.isLt
  pointwise [packOf]
  split_ifs <;> (apply aux <;> simp only [Fin.val_zero, Fin.val_one, Fin.isValue] <;> first | omega | (show _ = _ ; simp; omega))

end Cert.KernelIdeal.Own
-- ==== Proof.OwnI.Out.lean ====
/- What the body leaves in its output block, with exact numbers and finite queries and keys: the block of the attention. -/
module

public import proofs.«01_k».proof.Proof.OwnI.Blocks

@[expose] public section

set_option maxRecDepth 16384

noncomputable section

namespace Cert.KernelIdeal.Own

open Cert.KernelIdeal Cert.KernelIdeal.Gen
open Idealize.ShloMosaic Idealize.ShloMosaic.TcCoe

/-- A head's keys, as numbers. -/
def krOf (K : S4x4096x16x128.Idx → EReal) (b : Fin 4) (H : Fin 16) : ℕ → Fin 128 → ℝ :=
  fun n d => (K (ix4 b ⟨n % 4096, Nat.mod_lt _ (by norm_num)⟩ H d)).toReal

/-- A query, scaled, as numbers. -/
def qrOf (Q : S4x4096x16x128.Idx → EReal) (b : Fin 4) (H : Fin 16) (T : Fin 4096) : Fin 128 → ℝ :=
  fun d => (Q (ix4 b T H d)).toReal * scl

/-- A feature of a head's values. -/
def vrOf (W : S4x4096x16x128.Idx → EReal) (b : Fin 4) (H : Fin 16) (d : Fin 128) : ℕ → EReal :=
  fun n => W (ix4 b ⟨n % 4096, Nat.mod_lt _ (by norm_num)⟩ H d)

/-- The attention, one entry. -/
def attn (Q K W : S4x4096x16x128.Idx → EReal) (b : Fin 4) (H : Fin 16) (T : Fin 4096) (d : Fin 128) : EReal :=
  ∑ n ∈ Finset.range T.val, vrOf W b H d n * ((wt (krOf K b H) (qrOf Q b H T) T.val n : ℝ) : EReal)

/-- The attention, as the result array holds it. -/
def tgt (Q K W : S4x4096x16x128.Idx → EReal) : S16384x2048.Idx → EReal := fun y =>
  attn Q K W ⟨(y 0).val / 4096, by have := (y 0).isLt; simp only [S16384x2048, Matrix.cons_val_zero] at this; omega⟩
    ⟨(y 1).val / 128, by have := (y 1).isLt; simp only [S16384x2048, Matrix.cons_val_one, Matrix.cons_val_zero] at this; omega⟩
    ⟨(y 0).val % 4096, Nat.mod_lt _ (by norm_num)⟩ ⟨(y 1).val % 128, Nat.mod_lt _ (by norm_num)⟩

/-- Every entry is a real number. -/
def Fin' (X : S4x4096x16x128.Idx → EReal) : Prop := ∀ x, X x ≠ ⊤ ∧ X x ≠ ⊥

section
variable (m : (ℓ : Loc nD τ sig) → Buf (Elt Ideal) ℓ) (c : Dev nD) (t : Fin cfg0.N)

abbrev aQ : S4x4096x16x128.Idx → EReal := m ((c : Thread nD τ).loc main_arg0)
abbrev aK : S4x4096x16x128.Idx → EReal := m ((c : Thread nD τ).loc main_arg1)
abbrev aV : S4x4096x16x128.Idx → EReal := m ((c : Thread nD τ).loc main_arg2)

theorem aux4 {X : S4x4096x16x128.Idx → EReal} {a a' : Fin 4} {b b' : Fin 4096} {h h' : Fin 16} {d d' : Fin 128}
    (e1 : a.val = a'.val) (e2 : b.val = b'.val) (e3 : h.val = h'.val) (e4 : d.val = d'.val) : X (ix4 a b h d) = X (ix4 a' b' h' d') := by
  rw [Fin.ext e1, Fin.ext e2, Fin.ext e3, Fin.ext e4]

/-- The head a block's head is. -/
abbrev hd (h : Fin 8) : Fin 16 := ⟨(pg t).val * 8 + h.val, by omega⟩

theorem kb_real (hK : Fin' (aK m c)) (h : Fin 8) (j : ℕ) (r : Fin 256) (d : Fin 128) :
    (KB (F := Ideal) (iblk m c 1 t) h j (ix3 0 r d) : EReal) = ((krOf (aK m c) (pb t) (hd t h) (256 * j + r.val) d : ℝ) : EReal) := by
  unfold krOf
  rw [EReal.coe_toReal (hK _).1 (hK _).2]
  show (iblk m c 1 t : S8x4096x128.Idx → EReal) (ix3 h ⟨(256 * j + r.val) % 4096, _⟩ d) = _
  rw [iblk1, host_k]
  have h1 : (256 * j + r.val) % 4096 < 4096 := Nat.mod_lt _ (by norm_num)
  refine aux4 ?_ ?_ rfl rfl
  · show ((pb t).val * 4096 + (256 * j + r.val) % 4096) / 4096 = (pb t).val; omega
  · show ((pb t).val * 4096 + (256 * j + r.val) % 4096) % 4096 = (256 * j + r.val) % 4096; omega

theorem vb_at (h : Fin 8) (j : ℕ) (d : Fin 128) (r : Fin 256) :
    (vOf (F := Ideal) (VB (F := Ideal) (iblk m c 2 t) h j) (ix2 d r) : EReal) = vrOf (aV m c) (pb t) (hd t h) d (256 * j + r.val) := by
  have e : ∀ x : Vec Ideal S1x128x256 .bf16, (vOf (F := Ideal) x (ix2 d r) : EReal) = x (ix3 0 d r) := by
    intro x
    pointwise [vOf]
  rw [e]
  unfold vrOf
  show (iblk m c 2 t : S8x128x4096.Idx → EReal) (ix3 h d ⟨(256 * j + r.val) % 4096, _⟩) = _
  rw [iblk2, host_v]
  have h1 : (256 * j + r.val) % 4096 < 4096 := Nat.mod_lt _ (by norm_num)
  refine aux4 ?_ ?_ rfl rfl
  · show ((pb t).val * 4096 + (256 * j + r.val) % 4096) / 4096 = (pb t).val; omega
  · show ((pb t).val * 4096 + (256 * j + r.val) % 4096) % 4096 = (256 * j + r.val) % 4096; omega

theorem qb_real (hQ : Fin' (aQ m c)) (s : ℕ) (hs : s < 2) (h : Fin 8) (r : Fin 256) (d : Fin 128) :
    (QB (F := Ideal) (iblk m c 0 t) s h (ix3 0 r d) : EReal)
      = ((qrOf (aQ m c) (pb t) (hd t h) ⟨256 * (2 * (pi t).val + s) + r.val, by omega⟩ d : ℝ) : EReal) := by
  unfold qrOf
  rw [EReal.coe_mul, EReal.coe_toReal (hQ _).1 (hQ _).2]
  show (iblk m c 0 t : S8x512x128.Idx → EReal) (ix3 h ⟨(256 * s + r.val) % 512, _⟩ d) = _
  rw [iblk0, host_q]
  have h1 : (256 * s + r.val) % 512 = 256 * s + r.val := Nat.mod_eq_of_lt (by omega)
  refine congrArg (· * (scl : EReal)) (aux4 ?_ ?_ rfl rfl)
  · show (((pb t).val * 8 + (pi t).val) * 512 + (256 * s + r.val) % 512) / 4096 = (pb t).val; omega
  · show (((pb t).val * 8 + (pi t).val) * 512 + (256 * s + r.val) % 512) % 4096 = 256 * (2 * (pi t).val + s) + r.val; omega

theorem later_is : LaterIs (iblk m c 3 t) := fun r x => by rw [iblk3, host_later]

/-- One head's result is the attention's. -/
theorem head_eq (hQ : Fin' (aQ m c)) (hK : Fin' (aK m c)) (s : ℕ) (hs : s < 2) (h : Fin 8) (b : BitVec 1)
    (hb : b = if 2 * (pi t).val + s = 0 then 0#1 else 1#1) (d : Fin 128) (r : Fin 256) :
    headRes (F := Ideal) (iblk m c 3 t) (KB (iblk m c 1 t) h) (QB (iblk m c 0 t) s h) (fun j => vOf (VB (iblk m c 2 t) h j)) (2 * (pi t).val + s) b
        (2 * (pi t).val + s - 1) (ix2 d r)
      = attn (aQ m c) (aK m c) (aV m c) (pb t) (hd t h) ⟨256 * (2 * (pi t).val + s) + r.val, by omega⟩ d :=
  headRes_real _ (later_is m c t) _ _ _ _ b hb r d (krOf (aK m c) (pb t) (hd t h)) (qrOf (aQ m c) (pb t) (hd t h) ⟨256 * (2 * (pi t).val + s) + r.val, by omega⟩)
    (vrOf (aV m c) (pb t) (hd t h) d) (fun j r d => kb_real m c t hK h j r d) (fun d => qb_real m c t hQ s hs h r d) (fun j r => vb_at m c t h j d r)

/-- The eight heads' results are the attention's block. -/
theorem pack_eq (hQ : Fin' (aQ m c)) (hK : Fin' (aK m c)) (s : ℕ) (hs : s < 2) (b : BitVec 1)
    (hb : b = if 2 * (pi t).val + s = 0 then 0#1 else 1#1) (r : Fin 256) (x : Fin 1024) :
    packOf (fun h => headRes (F := Ideal) (iblk m c 3 t) (KB (iblk m c 1 t) h) (QB (iblk m c 0 t) s h) (fun j => vOf (VB (iblk m c 2 t) h j)) (2 * (pi t).val + s) b
        (2 * (pi t).val + s - 1)) (ix2 r x)
      = ((cfg0.win 4).blk t).view.read (Elt Ideal) (tgt (aQ m c) (aK m c) (aV m c) : Buf (Elt Ideal) ((c : Thread nD τ).loc main_v18)) (ix2 ⟨256 * s + r.val, by omega⟩ x) := by
  rw [packOf_apply, head_eq m c t hQ hK s hs _ b hb, blk4_read]
  unfold tgt
  have hx := x.isLt
  have hr := r.isLt
  have hi := (pi t).isLt
  have aux : ∀ (b b' : Fin 4) (H H' : Fin 16) (T T' : Fin 4096) (d d' : Fin 128), b.val = b'.val → H.val = H'.val → T.val = T'.val → d.val = d'.val →
      attn (aQ m c) (aK m c) (aV m c) b H T d = attn (aQ m c) (aK m c) (aV m c) b' H' T' d' := by
    intro b b' H H' T T' d d' e1 e2 e3 e4
    rw [Fin.ext e1, Fin.ext e2, Fin.ext e3, Fin.ext e4]
  apply aux
  · show (pb t).val = (((pb t).val * 8 + (pi t).val) * 512 + (256 * s + r.val)) / 4096; omega
  · show (pg t).val * 8 + x.val / 128 = ((pg t).val * 1024 + x.val) / 128; omega
  · show 256 * (2 * (pi t).val + s) + r.val = (((pb t).val * 8 + (pi t).val) * 512 + (256 * s + r.val)) % 4096; omega
  · show x.val % 128 = ((pg t).val * 1024 + x.val) % 128; omega

end

end Cert.KernelIdeal.Own
-- ==== Proof.OwnI.Val.lean ====
/- The run of the attention call with exact numbers and finite queries and keys: the result array ends holding the attention. -/
module

public import proofs.«01_k».proof.Proof.OwnI.Out
public import Idealize.ShloMosaic.Lib.Pipeline.Value
public import Idealize.ShloMosaic.Lib.Pipeline.Covers

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array: the attention. -/
abbrev res (c : Dev nD) : Buf (Elt Ideal) ((c : Thread nD τ).loc main_v18) := tgt (aQ m c) (aK m c) (aV m c)

set_option maxHeartbeats 1000000 in
/-- The output block the body leaves is the attention's, wherever its blocks are staged. -/
theorem body_val (c : Dev nD) (t : Fin cfg0.N) (hQ : Fin' (aQ m c)) (hK : Fin' (aK m c)) (arg3 : Memref sig .tc .vmem S8x512x128 .bf16) (harg3 : arg3.IsWhole) (arg4 : Memref sig .tc .vmem S8x4096x128 .bf16) (harg4 : arg4.IsWhole)
  (arg5 : Memref sig .tc .vmem S8x128x4096 .bf16) (harg5 : arg5.IsWhole) (arg6 : Memref sig .tc .vmem S256x512 .bf16) (harg6 : arg6.IsWhole) (arg7 : Memref sig .tc .vmem S512x1024 .bf16) (harg7 : arg7.IsWhole) (arg8 : Memref sig .tc .vmem S2x8x128x256 .f32) (harg8 : arg8.IsWhole)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f8 : BufTy.Contents (Elt Ideal) arg8.view.ty)
    (f7 : BufTy.Contents (Elt Ideal) arg7.view.ty) (h3 : arg3.view.read (Elt Ideal) X3 = iblk m c 0 t) (h4 : arg4.view.read (Elt Ideal) X4 = iblk m c 1 t)
    (h5 : arg5.view.read (Elt Ideal) X5 = iblk m c 2 t) (h6 : arg6.view.read (Elt Ideal) X6 = iblk m c 3 t) :
    arg7.view.read (Elt Ideal) (arg7.view.writes (Elt Ideal) f7
      ((bodyRun (F := Ideal) c (grid0.coords t) arg3 harg3 arg4 harg4 arg5 harg5 arg6 harg6 arg7 harg7 arg8 harg8 X3 X4 X5 X6).1 f8))
      = ((cfg0.win 4).blk t).view.read (Elt Ideal) (res m c) := by
  have hi := (pi t).isLt
  have x0 : bodyRun.sl.v822 (grid0.coords t) arg3 arg4 arg6 X3 X4 X6 = 1#1 :=
    exit0 (grid0.coords t) arg3 arg4 arg6 X3 X4 X6 (by rw [h6]; exact later_is m c t) (krOf (aK m c) (pb t) (hd t 7)) _
      (fun j r d => by rw [h4]; exact kb_real m c t hK 7 j r d) (fun d => by rw [h3]; exact qb_real m c t hQ 0 (by norm_num) 7 0 d)
  have x1 : bodyRun.sl.v1678 (grid0.coords t) arg3 arg4 arg6 X3 X4 X6 = 1#1 :=
    exit1 (grid0.coords t) arg3 arg4 arg6 X3 X4 X6 (by rw [h6]; exact later_is m c t) (krOf (aK m c) (pb t) (hd t 7)) _
      (fun j r d => by rw [h4]; exact kb_real m c t hK 7 j r d) (fun d => by rw [h3]; exact qb_real m c t hQ 1 (by norm_num) 7 0 d)
  rw [bodyRun_eq, x0, x1, trips1, trips3, h3, h4, h5, h6]
  funext y
  refine View.read_writes_apply_of_pieces _ _ (((cfg0.win 4).blk t).view.read (Elt Ideal) (res m c)) _ ?_ y ?_
  · intro p hp
    rcases List.mem_cons.mp hp with rfl | hp
    · intro x
      obtain ⟨r, z, rfl⟩ : ∃ (r : Fin 256) (z : Fin 1024), x = ix2 r z := ⟨x 0, x 1, eq_ix2 (n0 := 256) (n1 := 1024) x⟩
      refine (pack_eq m c t hQ hK 1 (by norm_num) _ (keep1 (grid0.coords t)) r z).trans (congrArg _ (funext fun a => Fin.ext ?_))
      match a with
      | ⟨0, _⟩ => show 256 * 1 + r.val = 256 + 1 * r.val; omega
      | ⟨1, _⟩ => show z.val = 0 + 1 * z.val; omega
    · obtain rfl := List.mem_singleton.mp hp
      intro x
      obtain ⟨r, z, rfl⟩ : ∃ (r : Fin 256) (z : Fin 1024), x = ix2 r z := ⟨x 0, x 1, eq_ix2 (n0 := 256) (n1 := 1024) x⟩
      refine (pack_eq m c t hQ hK 0 (by norm_num) _ (keep0 (grid0.coords t)) r z).trans (congrArg _ (funext fun a => Fin.ext ?_))
      match a with
      | ⟨0, _⟩ => show 256 * 0 + r.val = 0 + 1 * r.val; omega
      | ⟨1, _⟩ => show z.val = 0 + 1 * z.val; omega
  · have h0 : (y 0).val < 512 := (y 0).isLt
    have h1 : (y 1).val < 1024 := (y 1).isLt
    by_cases hy : (y 0).val < 256
    · refine ⟨_, List.mem_cons_of_mem _ (List.mem_singleton_self _), (Rect.mem_set_unit (s := S512x1024) (inb := inb_S512x1024_S256x1024_0_0)).mpr fun a => ?_⟩
      match a with
      | ⟨0, _⟩ => show 0 ≤ (y 0).val ∧ (y 0).val < 0 + 256; omega
      | ⟨1, _⟩ => show 0 ≤ (y 1).val ∧ (y 1).val < 0 + 1024; omega
    · refine ⟨_, List.mem_cons_self, (Rect.mem_set_unit (s := S512x1024) (inb := inb_S512x1024_S256x1024_256_0)).mpr fun a => ?_⟩
      match a with
      | ⟨0, _⟩ => show 256 ≤ (y 0).val ∧ (y 0).val < 256 + 256; omega
      | ⟨1, _⟩ => show 0 ≤ (y 1).val ∧ (y 1).val < 0 + 1024; omega

/-- The output block the body leaves at a grid point is the attention's. -/
theorem out_eq (c : Dev nD) (t : Fin cfg0.N) (hQ : Fin' (aQ m c)) (hK : Fin' (aK m c)) (d7 : Vec Ideal S512x1024 .bf16) (d8 : Vec Ideal S2x8x128x256 .f32) :
    outOf m c t d7 d8 = ((cfg0.win 4).blk t).view.read (Elt Ideal) (res m c) := by
  unfold outOf
  exact body_val m c t hQ hK _ _ _ _ _ _ _ _ _ _ _ _ _ _ _ _ _ _ (Memref.IsWhole.read_unread _ _) (Memref.IsWhole.read_unread _ _)
    (Memref.IsWhole.read_unread _ _) (Memref.IsWhole.read_unread _ _)

/-- The proof data with the output named: inputs at their blocks, the output at the attention's block, the accumulator at
    some contents between grid points. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ((cfg0.win 4).blk t).view.read (Elt Ideal) (res m c)
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = ((cfg0.win 4).blk t).view.read (Elt Ideal) (res m c) := by
  dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d

/-- What the body is called with at point `t`, -/
def vpre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d)))

/-- and what it returns. -/
def vpost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t))

/-- The body obligation's triple at any grid point, the output block named. -/
theorem vsound (hQ : ∀ c, Fin' (aQ m c)) (hK : ∀ c, Fin' (aK m c)) (c : Dev nD) (t : Fin cfg0.N) :
    vpre m c t ⊢ wp Idealize.ShloMosaic.frame (wpE (defs₀ (F := Ideal)) Variants.none c none) Set.univ (bodyAt0 t) (fun _ => vpost m c t) := by
  unfold vpre vpost
  simp only [vbefore_0, vbefore_1, vbefore_2, vbefore_3]
  rw [show (vdats m 0 c).Φ t.succ = (vdats m 0 c).Φ t.castSucc from rfl,
    show (vdats m 0 c).owesAt () t.succ = (vdats m 0 c).owesAt () t.castSucc from rfl,
    vafter_0, vafter_1, vafter_2, vafter_3, vafter_4]
  rw [show (vdats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩⟩
  iapply (body_at m c t Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%d7, %d8, H4⟩, HS⟩
  rw [out_eq m c t (hQ c) (hK c) d7 d8]
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

theorem vobligation (hQ : ∀ c, Fin' (aQ m c)) (hK : ∀ c, Fin' (aK m c)) (c : Dev nD) :
    BodyObligation (vdats m 0 c) (defs₀ (F := Ideal)) Variants.none () Set.univ := fun t => by
  rw [bigSep_W0, bigSep_W0, row]
  exact triple_restated (vsound m hQ hK c t) rfl .rfl fun _ => .rfl

variable (ρ : Dev nD → PrngReg)

set_option backward.isDefEq.respectTransparency.types false in
/-- Every execution of the program ends with every array at what its grid points wrote. -/
theorem vrun0 (hQ : ∀ c, Fin' (aQ m c)) (hK : ∀ c, Fin' (aK m c)) :
    θ_run defs (onTc (τ := τ) (main (F := Ideal))) (s₀ m ρ) (fun r => Pipeline.FramePost cfgs (vdats m) 0 (V m) r) :=
  Pipeline.θ_run_frame cfgs (vdats m) (0 : Fin 1) launch0 defs₀ Variants.none m ρ main
    (hbody := fun c => (vobligation m hQ hK c).loose) (hshare := fun c => (vdats m 0 c).share_full fun _ => rfl)
    (howed := fun _ _ => rfl) (V := V m) (hmain := hmain m Variants.none) (hA := vA_eq m) (hΦ := fun _ _ => rfl)

/-- What a grid point writes back is the attention's block there. -/
theorem flushed_eq (c : Dev nD) (t : Fin cfg0.N) (hf : (cfg0.win 4).flush t = true) :
    (vdats m 0 c).flushed 4 t = ((cfg0.win 4).blk t).view.read (Elt Ideal) (res m c) := by
  show (cfg0.win 4).cut (grid0.coords t) ((vdats m 0 c).after 4 t) = _
  rw [vafter_4]

/-- The grid points' blocks cover the result array, so it ends holding the attention. -/
theorem final_o (c : Dev nD) : (vdats m 0 c).arrAt 4 cfg0.N = res m c :=
  (vdats m 0 c).arrAt_eq_of_cover 4 (res m c) (flushed_eq m c) fun i => by
    have h0 : (i 0).val < 16384 := (i 0).isLt
    have h1 : (i 1).val < 2048 := (i 1).isLt
    let cc : grid0.Coords := fun a => match a with
      | ⟨0, _⟩ => (⟨(i 0).val / 4096, by omega⟩ : Fin 4)
      | ⟨1, _⟩ => (⟨(i 1).val / 1024, by omega⟩ : Fin 2)
      | ⟨2, _⟩ => (⟨(i 0).val % 4096 / 512, by omega⟩ : Fin 8)
    obtain ⟨t, ht⟩ : ∃ t : Fin cfg0.N, grid0.coords t = cc := grid0.coords_surjective cc
    refine ⟨t, flush0_4 t, ?_⟩
    show i ∈ ((View.whole main_v18).slice (win0_4.rect t)).set
    rw [View.set_slice_whole, Rect.mem_set_unit]
    have e := ix_4 (grid0.coords t)
    rw [ht] at e
    intro a
    match a with
    | ⟨0, _⟩ =>
      show cc0_transform_4 (grid0.coords t) 0 * 512 ≤ (i 0).val ∧ (i 0).val < cc0_transform_4 (grid0.coords t) 0 * 512 + 512
      rw [ht, e]
      show ((i 0).val / 4096 * 8 + (i 0).val % 4096 / 512) * 512 ≤ _ ∧ _ < ((i 0).val / 4096 * 8 + (i 0).val % 4096 / 512) * 512 + 512
      omega
    | ⟨1, _⟩ =>
      show cc0_transform_4 (grid0.coords t) 1 * 1024 ≤ (i 1).val ∧ (i 1).val < cc0_transform_4 (grid0.coords t) 1 * 1024 + 1024
      rw [ht, e]
      show (i 1).val / 1024 * 1024 ≤ _ ∧ _ < (i 1).val / 1024 * 1024 + 1024
      omega

/-- The run, read: the result array ends holding the attention, the arguments unchanged. -/
theorem vrun (hQ : ∀ c, Fin' (aQ m c)) (hK : ∀ c, Fin' (aK m c)) :
    θ_run defs (onTc (τ := τ) (main (F := Ideal))) ⟨m, fun _ => 0, ρ⟩ (fun r => ∀ c : Dev nD,
      r.2.mem ((c.tc : Thread nD τ).loc main_v18) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 4).trans (final_o m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (vrun0 m ρ hQ hK)

end Cert.KernelIdeal.Own
-- ==== Proof.Ref.lean ====
/- The reference's result with exact numbers and finite queries and keys, entry by entry: the attention. -/
module

public import proofs.«01_k».proof.Proof.Gen.ReferenceIdeal.Read
public import proofs.«01_k».proof.Proof.OwnI.Out
public import Idealize.ShloMosaic.Lib.WordCmp

@[expose] public section

set_option maxRecDepth 16384

noncomputable section

namespace Cert.ReferenceIdeal.Own

open Cert.ReferenceIdeal Cert.ReferenceIdeal.Read
open Idealize.ShloMosaic
open Cert.KernelIdeal.Own (zz wt sp2 scl krOf qrOf vrOf attn tgt Fin' coe_sum)

/-! ## One softplus -/

/-- jax's softplus of a real number, one element. -/
def spH (x : EReal) : EReal :=
  Scalar.select (Ideal.cmp .une (x - Ideal.ofBits .f32 0x00000000#32) (x - Ideal.ofBits .f32 0x00000000#32)) (x + Ideal.ofBits .f32 0x00000000#32)
    (max x (Ideal.ofBits .f32 0x00000000#32) + Ideal.log1p (Ideal.exp (-(max (x - Ideal.ofBits .f32 0x00000000#32) (-(x - Ideal.ofBits .f32 0x00000000#32))))))

theorem sp_real (a : ℝ) : max a 0 + Real.log (1 + Real.exp (-max a (-a))) = Real.log (1 + Real.exp a) := by
  rcases le_total 0 a with h | h
  · rw [max_eq_left h, max_eq_left (by linarith)]
    have e : 1 + Real.exp a = Real.exp a * (1 + Real.exp (-a)) := by
      rw [mul_add, ← Real.exp_add]; simp [add_comm]
    rw [e, Real.log_mul (Real.exp_pos _).ne' (by positivity), Real.log_exp]
  · rw [max_eq_right h, max_eq_right (by linarith), neg_neg, zero_add]

/-- It is the logarithm of one more than the exponential. -/
theorem spH_real (a : ℝ) : spH (a : EReal) = ((Real.log (1 + Real.exp a) : ℝ) : EReal) := by
  unfold spH
  rw [Cert.Consts.ofBits_0, EReal.coe_zero]
  have hc : Ideal.cmp .une ((a : EReal) - 0) ((a : EReal) - 0) = 0#1 := by
    show BitVec.ofBool (decide ((a : EReal) - 0 ≠ (a : EReal) - 0)) = 0#1
    simp
  have m0 : max (a : EReal) 0 = ((max a 0 : ℝ) : EReal) := by
    rw [← EReal.coe_zero]; exact (EReal.coe_strictMono.monotone.map_max).symm
  have m1 : max (a : EReal) (-(a : EReal)) = ((max a (-a) : ℝ) : EReal) := by
    rw [← EReal.coe_neg]; exact (EReal.coe_strictMono.monotone.map_max).symm
  have hs : ∀ x y : EReal, Scalar.select 0#1 x y = y := fun _ _ => rfl
  rw [hc, hs, sub_zero, m0, m1, ← EReal.coe_neg, Ideal.exp_coe]
  unfold Ideal.log1p
  have p : 0 < Real.exp (-max a (-a)) := Real.exp_pos _
  rw [← EReal.coe_one, ← EReal.coe_add, Ideal.log_coe, if_neg (by linarith), ← EReal.coe_add, sp_real]

theorem exp_log2 (x : ℝ) : Real.exp (x * Real.log 2) = Real.rpow 2 x := by
  show _ = (2 : ℝ) ^ x
  rw [Real.rpow_def_of_pos (by norm_num), mul_comm]

theorem sp2_log2 (x : ℝ) : Real.log (1 + Real.exp (x * Real.log 2)) = sp2 x * Real.log 2 := by
  have l2 : Real.log 2 ≠ 0 := (Real.log_pos (by norm_num)).ne'
  rw [exp_log2]; unfold sp2; rw [div_mul_cancel₀ _ l2]

theorem sp2_neg (x : ℝ) : Real.log (1 + Real.exp (-(x * Real.log 2))) = sp2 x * Real.log 2 - x * Real.log 2 := by
  rw [← sp2_log2]
  have e : 1 + Real.exp (x * Real.log 2) = Real.exp (x * Real.log 2) * (1 + Real.exp (-(x * Real.log 2))) := by
    rw [mul_add, ← Real.exp_add]; simp [add_comm]
  rw [e, Real.log_mul (Real.exp_pos _).ne' (by positivity), Real.log_exp]
  ring

/-! ## The running sum -/

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A window's position on the last axis. -/
abbrev wix (k : Fin 4096) : (⟨4, ![1, 1, 1, 4096]⟩ : Shape).Idx := ix4 (n0 := 1) (n1 := 1) (n2 := 1) (n3 := 4096) 0 0 0 k

theorem sum_wix (f : (⟨4, ![1, 1, 1, 4096]⟩ : Shape).Idx → EReal) : ∑ y, f y = ∑ k : Fin 4096, f (wix k) := by
  refine (Finset.sum_nbij' (fun k => wix k) (fun y => (y 3 : Fin 4096)) (fun _ _ => Finset.mem_univ _) (fun _ _ => Finset.mem_univ _)
    (fun k _ => rfl) (fun y _ => ?_) (fun _ _ => rfl)).symm
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- A running sum along the last axis, as its window prints: the sum of the elements up to there. -/
theorem cumsum_apply (x : S4x16x4096x4096.Idx → EReal) (b : Fin 4) (H : Fin 16) (T j : Fin 4096)
    (h : S4x16x4096x4096.ReduceWindows ![1, 1, 1, 4096] ![1, 1, 1, 1] ![0, 0, 0, 4095] ![0, 0, 0, 0] S4x16x4096x4096) (init : S_.Idx → EReal)
    (hi : ∀ i, init i = 0) (hu : 0 < S_.numel) :
    Host.reduceWindowAdd (F := Ideal) (φ := .f32) ![1, 1, 1, 4096] ![1, 1, 1, 1] ![0, 0, 0, 4095] ![0, 0, 0, 0] x init h hu (ix4 b H T j)
      = ∑ k : Fin 4096, if hk : 4095 ≤ j.val + k.val then x (ix4 b H T ⟨j.val + k.val - 4095, by omega⟩) else 0 := by
  unfold Host.reduceWindowAdd
  rw [hi, Ideal.hostReduceWindowAdd_def]
  unfold Ideal.hostReduceWindowAdd Host.reduceWindow
  dsimp only
  rw [foldl_add, zero_add, ← Fin.sum_univ_def]
  have hj := j.isLt
  have hb := b.isLt
  have hH := H.isLt
  have hT := T.isLt
  refine (Finset.sum_congr rfl fun i _ => ?_).trans ((Equiv.sum_comp (Shape.rowMajor (⟨4, ![1, 1, 1, 4096]⟩ : Shape)).symm
    (fun y : (⟨4, ![1, 1, 1, 4096]⟩ : Shape).Idx => if hk : 4095 ≤ j.val + (y 3).val then
      x (ix4 b H T ⟨j.val + (y 3).val - 4095, by have h3 : (y 3).val < 4096 := (y 3).isLt; omega⟩) else 0)).trans (sum_wix _))
  let y : (⟨4, ![1, 1, 1, 4096]⟩ : Shape).Idx := (Shape.rowMajor (⟨4, ![1, 1, 1, 4096]⟩ : Shape)).symm i
  have h0 : (y 0).val < 1 := (y 0).isLt
  have h1 : (y 1).val < 1 := (y 1).isLt
  have h2 : (y 2).val < 1 := (y 2).isLt
  have h3 : (y 3).val < 4096 := (y 3).isLt
  by_cases hl : 4095 ≤ j.val + (y 3).val
  · refine (dif_pos ?_).trans (Eq.trans ?_ (dif_pos hl).symm)
    rotate_left
    · refine congrArg x (funext fun a => Fin.ext ?_)
      match a with
      | ⟨0, _⟩ => show b.val * 1 + (y 0).val - 0 = b.val; omega
      | ⟨1, _⟩ => show H.val * 1 + (y 1).val - 0 = H.val; omega
      | ⟨2, _⟩ => show T.val * 1 + (y 2).val - 0 = T.val; omega
      | ⟨3, _⟩ => show j.val * 1 + (y 3).val - 4095 = j.val + (y 3).val - 4095; omega
    · intro a
      match a with
      | ⟨0, _⟩ => show 0 ≤ b.val * 1 + (y 0).val ∧ b.val * 1 + (y 0).val - 0 < 4; omega
      | ⟨1, _⟩ => show 0 ≤ H.val * 1 + (y 1).val ∧ H.val * 1 + (y 1).val - 0 < 16; omega
      | ⟨2, _⟩ => show 0 ≤ T.val * 1 + (y 2).val ∧ T.val * 1 + (y 2).val - 0 < 4096; omega
      | ⟨3, _⟩ => show 4095 ≤ j.val * 1 + (y 3).val ∧ j.val * 1 + (y 3).val - 4095 < 4096; omega
  · refine (dif_neg ?_).trans (Eq.trans ?_ (dif_neg hl).symm)
    rotate_left
    · rfl
    intro hin
    have h3 : 4095 ≤ j.val * 1 + (y 3).val := (hin 3).1
    omega

/-! ## The reference, stage by stage -/

variable (Q K W : S4x4096x16x128.Idx → EReal) (hQ : Fin' Q) (hK : Fin' K) (b : Fin 4) (H : Fin 16) (T n : Fin 4096)

/-- The score of a key, in base-two units. -/
abbrev zr : ℝ := zz (krOf K b H) (qrOf Q b H T) n.val

include hQ hK in
/-- The scores. -/
theorem v5_at : val_main_v5 (F := Ideal) Q K (ix4 b H T n) = ((zr Q K b H T n * Real.log 2 : ℝ) : EReal) := by
  have l2 : Real.log 2 ≠ 0 := (Real.log_pos (by norm_num)).ne'
  have hs : Real.sqrt 128 ≠ 0 := (Real.sqrt_pos.mpr (by norm_num)).ne'
  rw [val_main_v5_apply, val_main_v3_apply, val_main_v4_apply, val_main_v1_apply, val_main_cst_0_apply, val_main_v0_apply, val_main_cst_apply]
  show (∑ k : Fin 128, Q (lidx_main_v3 (ix4 b H T n) k) * K (ridx_main_v3 (ix4 b H T n) k)) *
    Ideal.div (Ideal.ofBits .f32 0x3F800000#32) (Ideal.sqrt (Ideal.ofBits .f32 0x43000000#32)) = _
  rw [Cert.Consts.ofBits_1, Cert.Consts.ofBits_128, Ideal.sqrt_coe, if_neg (by norm_num), Ideal.div_coe hs]
  have e : ∀ k : Fin 128, Q (lidx_main_v3 (ix4 b H T n) k) * K (ridx_main_v3 (ix4 b H T n) k)
      = (((Q (ix4 b T H k)).toReal * krOf K b H n.val k : ℝ) : EReal) := by
    intro k
    unfold krOf
    rw [EReal.coe_mul, EReal.coe_toReal (hQ _).1 (hQ _).2, EReal.coe_toReal (hK _).1 (hK _).2]
    refine congrArg₂ (· * ·) (congrArg Q ?_) (congrArg K ?_)
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => exact Fin.ext (Nat.mod_eq_of_lt n.isLt).symm
      | ⟨2, _⟩ => rfl
      | ⟨3, _⟩ => rfl
  rw [Finset.sum_congr rfl fun k _ => e k, ← coe_sum, ← EReal.coe_mul, ← EReal.coe_mul]
  congr 1
  unfold zr zz qrOf scl
  rw [Finset.sum_mul, Finset.sum_mul]
  refine Finset.sum_congr rfl fun k _ => ?_
  field_simp

include hQ hK in
theorem v11_at : val_main_v11 (F := Ideal) Q K (ix4 b H T n) = ((-(sp2 (zr Q K b H T n) * Real.log 2 - zr Q K b H T n * Real.log 2) : ℝ) : EReal) := by
  have e : val_main_v11 (F := Ideal) Q K (ix4 b H T n) = -spH (-(val_main_v5 (F := Ideal) Q K (ix4 b H T n))) := rfl
  rw [e, v5_at Q K hQ hK, ← EReal.coe_neg, spH_real, ← EReal.coe_neg, sp2_neg]

include hQ hK in
theorem v13_at : val_main_v13 (F := Ideal) Q K (ix4 b H T n) = ((-(sp2 (zr Q K b H T n) * Real.log 2) : ℝ) : EReal) := by
  have e : val_main_v13 (F := Ideal) Q K (ix4 b H T n) = -spH (-(-(val_main_v5 (F := Ideal) Q K (ix4 b H T n)))) := rfl
  rw [e, v5_at Q K hQ hK, neg_neg, spH_real, ← EReal.coe_neg, sp2_log2]

/-- Keys before the query count, others do not. -/
theorem v10_at : val_main_v10 (F := Ideal) (ix2 T n) = if n.val < T.val then 1#1 else 0#1 := by
  have e : val_main_v10 (F := Ideal) (ix2 T n) = IntOp.cmpi CmpIPredicate.slt (BitVec.ofNat 32 n.val) (BitVec.ofNat 32 T.val) := by
    rw [val_main_v10_apply, val_main_v8_apply, val_main_v6_apply, val_main_v9_apply, val_main_v7_apply]
    rfl
  rw [e]
  have : BitVec.slt (BitVec.ofNat 32 n.val) (BitVec.ofNat 32 T.val) = decide (n.val < T.val) := by
    rw [BitVec.slt_eq_decide, decide_eq_decide, BitVec.toInt_eq_toNat_of_lt, BitVec.toInt_eq_toNat_of_lt] <;>
      simp only [BitVec.toNat_ofNat] <;> omega
  show BitVec.ofBool (BitVec.slt (BitVec.ofNat 32 n.val) (BitVec.ofNat 32 T.val)) = _
  rw [this]
  split <;> rename_i hh <;> simp [hh]

/-- The logarithm of what a key leaves, zero for keys not before the query. -/
abbrev gr : ℕ → ℝ := fun p => if p < T.val then -(sp2 (zz (krOf K b H) (qrOf Q b H T) p) * Real.log 2) else 0

include hQ hK in
theorem v14_at : val_main_v14 (F := Ideal) Q K (ix4 b H T n) = ((gr Q K b H T n.val : ℝ) : EReal) := by
  have e : val_main_v14 (F := Ideal) Q K (ix4 b H T n)
      = Scalar.select (val_main_v10 (F := Ideal) (ix2 T n)) (val_main_v13 (F := Ideal) Q K (ix4 b H T n)) (Ideal.ofBits .f32 0x00000000#32) := by
    rw [val_main_v14_apply, val_main_call2_v1_apply, val_main_call2_v2_apply]
    refine congrArg (fun i => Scalar.select (val_main_v10 (F := Ideal) i) _ _) ?_
    funext a
    match a with
    | ⟨0, _⟩ => rfl
    | ⟨1, _⟩ => rfl
  rw [e, v10_at T n, v13_at Q K hQ hK b H T n, Cert.Consts.ofBits_0]
  show _ = ((if n.val < T.val then _ else (0 : ℝ) : ℝ) : EReal)
  split <;> rfl

include hQ hK in
/-- What the keys from this one on leave. -/
theorem v17_at : val_main_v17 (F := Ideal) Q K (ix4 b H T n) = ((∑ p ∈ Finset.Ico n.val T.val, -(sp2 (zz (krOf K b H) (qrOf Q b H T) p) * Real.log 2) : ℝ) : EReal) := by
  have hn := n.isLt
  have hT := T.isLt
  have e17 : val_main_v17 (F := Ideal) Q K (ix4 b H T n) = val_main_v16 (F := Ideal) Q K (ix4 b H T n.rev) := by
    show val_main_v16 (F := Ideal) Q K _ = _
    refine congrArg _ (funext fun a => ?_)
    match a with
    | ⟨0, _⟩ => rfl
    | ⟨1, _⟩ => rfl
    | ⟨2, _⟩ => rfl
    | ⟨3, _⟩ => rfl
  have e15 : ∀ p : Fin 4096, val_main_v15 (F := Ideal) Q K (ix4 b H T p) = ((gr Q K b H T (4095 - p.val) : ℝ) : EReal) := by
    intro p
    have : val_main_v15 (F := Ideal) Q K (ix4 b H T p) = val_main_v14 (F := Ideal) Q K (ix4 b H T p.rev) := by
      show val_main_v14 (F := Ideal) Q K _ = _
      refine congrArg _ (funext fun a => ?_)
      match a with
      | ⟨0, _⟩ => rfl
      | ⟨1, _⟩ => rfl
      | ⟨2, _⟩ => rfl
      | ⟨3, _⟩ => rfl
    rw [this, v14_at Q K hQ hK]
    have : p.rev.val = 4095 - p.val := by rw [Fin.val_rev]; omega
    rw [this]
  rw [e17]
  unfold val_main_v16
  rw [cumsum_apply _ b H T n.rev _ _ (fun _ => by
    show Ideal.ofBits .f32 0x00000000#32 = 0
    rw [Cert.Consts.ofBits_0, EReal.coe_zero])]
  have hr : n.rev.val = 4095 - n.val := by rw [Fin.val_rev]; omega
  have e : ∀ k : Fin 4096, (if hk : 4095 ≤ n.rev.val + k.val then val_main_v15 (F := Ideal) Q K (ix4 b H T ⟨n.rev.val + k.val - 4095, by omega⟩) else 0)
      = ((if n.val ≤ k.val then gr Q K b H T (4095 + n.val - k.val) else 0 : ℝ) : EReal) := by
    intro k
    have hk := k.isLt
    by_cases hl : n.val ≤ k.val
    · rw [dif_pos (by omega), if_pos hl, e15]
      have ev : 4095 - (n.rev.val + k.val - 4095) = 4095 + n.val - k.val := by omega
      exact congrArg (fun q : ℕ => ((gr Q K b H T q : ℝ) : EReal)) ev
    · rw [dif_neg (by omega), if_neg hl, EReal.coe_zero]
  rw [Finset.sum_congr rfl fun k _ => e k, ← coe_sum]
  refine congrArg (fun r : ℝ => (r : EReal)) ?_
  rw [Fin.sum_univ_eq_sum_range (fun k => if n.val ≤ k then gr Q K b H T (4095 + n.val - k) else 0) 4096, ← Finset.sum_filter]
  have e2 : ∑ p ∈ Finset.Ico n.val T.val, -(sp2 (zz (krOf K b H) (qrOf Q b H T) p) * Real.log 2) = ∑ p ∈ Finset.Ico n.val 4096, gr Q K b H T p := by
    have : ∀ p ∈ Finset.Ico n.val T.val, -(sp2 (zz (krOf K b H) (qrOf Q b H T) p) * Real.log 2) = gr Q K b H T p := by
      intro p hp
      show _ = if p < T.val then _ else (0 : ℝ)
      rw [if_pos (Finset.mem_Ico.mp hp).2]
    rw [Finset.sum_congr rfl this]
    refine Finset.sum_subset (Finset.Ico_subset_Ico le_rfl (by omega)) fun p hp hq => ?_
    rw [Finset.mem_Ico] at hp hq
    show (if p < T.val then _ else (0 : ℝ)) = 0
    rw [if_neg (by omega)]
  rw [e2]
  refine Finset.sum_nbij' (fun k => 4095 + n.val - k) (fun p => 4095 + n.val - p) ?_ ?_ ?_ ?_ ?_
  · intro k hk
    rw [Finset.mem_filter, Finset.mem_range] at hk
    rw [Finset.mem_Ico]; omega
  · intro k hk
    rw [Finset.mem_Ico] at hk
    rw [Finset.mem_filter, Finset.mem_range]; omega
  · intro k hk
    rw [Finset.mem_filter, Finset.mem_range] at hk
    show 4095 + n.val - (4095 + n.val - k) = k; omega
  · intro k hk
    rw [Finset.mem_Ico] at hk
    show 4095 + n.val - (4095 + n.val - k) = k; omega
  · intro k hk; rfl

include hQ hK in
/-- The weights. -/
theorem v21_at : val_main_v21 (F := Ideal) Q K (ix4 b H T n) = if n.val < T.val then ((wt (krOf K b H) (qrOf Q b H T) T.val n.val : ℝ) : EReal) else 0 := by
  have e : val_main_v21 (F := Ideal) Q K (ix4 b H T n)
      = Scalar.select (val_main_v10 (F := Ideal) (ix2 T n)) (Ideal.exp (val_main_v11 (F := Ideal) Q K (ix4 b H T n)
          + (val_main_v17 (F := Ideal) Q K (ix4 b H T n) - val_main_v14 (F := Ideal) Q K (ix4 b H T n)))) (Ideal.ofBits .f32 0x00000000#32) := by
    rw [val_main_v21_apply, val_main_call6_v1_apply, val_main_call6_v2_apply]
    refine congrArg (fun i => Scalar.select (val_main_v10 (F := Ideal) i) _ _) ?_
    funext a
    match a with
    | ⟨0, _⟩ => rfl
    | ⟨1, _⟩ => rfl
  rw [e, v10_at T n, Cert.Consts.ofBits_0, EReal.coe_zero]
  by_cases h : n.val < T.val
  · rw [if_pos h, if_pos h, v11_at Q K hQ hK b H T n, v14_at Q K hQ hK b H T n, v17_at Q K hQ hK b H T n, ← EReal.coe_sub, ← EReal.coe_add, Ideal.exp_coe]
    show ((_ : ℝ) : EReal) = _
    congr 1
    unfold wt
    rw [← exp_log2]
    congr 1
    have hg : gr Q K b H T n.val = -(sp2 (zr Q K b H T n) * Real.log 2) := if_pos h
    rw [hg, Finset.sum_neg_distrib, ← Finset.sum_mul]
    ring
  · rw [if_neg h, if_neg h]; rfl

include hQ hK in
/-- The reference's result is the attention. -/
theorem ref_eq : val_main_v25 (F := Ideal) Q K W = tgt Q K W := by
  funext y
  have h0 : (y 0).val < 16384 := (y 0).isLt
  have h1 : (y 1).val < 2048 := (y 1).isLt
  show val_main_v24 (F := Ideal) Q K W y = _
  rw [val_main_v24_apply, val_main_v23_apply, val_main_v22_apply]
  unfold tgt attn
  set b : Fin 4 := ⟨(y 0).val / 4096, by omega⟩ with hb
  set H : Fin 16 := ⟨(y 1).val / 128, by omega⟩ with hH
  set T : Fin 4096 := ⟨(y 0).val % 4096, by omega⟩ with hT
  set d : Fin 128 := ⟨(y 1).val % 128, by omega⟩ with hd
  have el : ∀ k : Fin 4096, lidx_main_v22 (idx_main_v23 (idx_main_v24 y)) k = ix4 b k H d := by
    intro k
    funext a
    match a with
    | ⟨0, _⟩ => exact Fin.ext (show ((y 0).val * 2048 + (y 1).val) / 8388608 = (y 0).val / 4096 by omega)
    | ⟨1, _⟩ => rfl
    | ⟨2, _⟩ => exact Fin.ext (show ((y 0).val * 2048 + (y 1).val) / 128 % 16 = (y 1).val / 128 by omega)
    | ⟨3, _⟩ => exact Fin.ext (show ((y 0).val * 2048 + (y 1).val) % 128 = (y 1).val % 128 by omega)
  have er : ∀ k : Fin 4096, ridx_main_v22 (idx_main_v23 (idx_main_v24 y)) k = ix4 b H T k := by
    intro k
    funext a
    match a with
    | ⟨0, _⟩ => exact Fin.ext (show ((y 0).val * 2048 + (y 1).val) / 8388608 = (y 0).val / 4096 by omega)
    | ⟨1, _⟩ => exact Fin.ext (show ((y 0).val * 2048 + (y 1).val) / 128 % 16 = (y 1).val / 128 by omega)
    | ⟨2, _⟩ => exact Fin.ext (show ((y 0).val * 2048 + (y 1).val) / 2048 % 4096 = (y 0).val % 4096 by omega)
    | ⟨3, _⟩ => rfl
  have e : ∀ k : Fin 4096, @HMul.hMul EReal EReal EReal _ (W (lidx_main_v22 (idx_main_v23 (idx_main_v24 y)) k))
        (val_main_v21 (F := Ideal) Q K (ridx_main_v22 (idx_main_v23 (idx_main_v24 y)) k))
      = if k.val < T.val then vrOf W b H d k.val * ((wt (krOf K b H) (qrOf Q b H T) T.val k.val : ℝ) : EReal) else 0 := by
    intro k
    rw [el, er, v21_at Q K hQ hK b H T k]
    have hv : vrOf W b H d k.val = W (ix4 b k H d) := by
      unfold vrOf
      exact congrArg (fun p => W (ix4 b p H d)) (Fin.ext (Nat.mod_eq_of_lt k.isLt))
    rw [hv]
    split
    · rfl
    · exact mul_zero _
  refine (Finset.sum_congr rfl fun k _ => e k).trans ?_
  rw [Fin.sum_univ_eq_sum_range (fun k => if k < T.val then vrOf W b H d k * ((wt (krOf K b H) (qrOf Q b H T) T.val k : ℝ) : EReal) else 0) 4096,
    ← Finset.sum_filter]
  refine Finset.sum_congr ?_ fun _ _ => rfl
  ext k
  have := T.isLt
  rw [Finset.mem_filter, Finset.mem_range, Finset.mem_range]
  omega

end Cert.ReferenceIdeal.Own
-- ==== Proof.Ffn.Prog.lean ====
/- The feed-forward body written as loops: the same operations, the rows of the two norms taken by a recursion, the
   two halves of a column tile by one program at an offset. -/
module

public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import Idealize.ShloMosaic.Lib.Tactic

@[expose] public section

set_option maxRecDepth 16384

noncomputable section

namespace Cert.FfnKernelIdeal.Own

open Cert.FfnKernelIdeal Cert.FfnKernelIdeal.Gen
open Idealize.ShloMosaic Idealize.ShloMosaic.TcCoe Idealize.ShloMosaic.Tactic Idealize.SL.Sem

variable {F : FTy → Type} [FloatOps F]

/-- The rows of the first norm's step `n` lie in the block. -/
theorem inbP (n : ℕ) (h : n < 64) : ∀ a, (![16 * n, 0] : Fin 2 → ℕ) a + S16x2048.size a ≤ S1024x2048.size a :=
  fun a => match a with
  | ⟨0, _⟩ => show 16 * n + 16 ≤ 1024 by omega
  | ⟨1, _⟩ => show 0 + 2048 ≤ 2048 by omega

/-- The rows of the last norm's step `n` lie in the block. -/
theorem inbE (n : ℕ) (h : n < 128) : ∀ a, (![8 * n, 0] : Fin 2 → ℕ) a + S8x2048.size a ≤ S1024x2048.size a :=
  fun a => match a with
  | ⟨0, _⟩ => show 8 * n + 8 ≤ 1024 by omega
  | ⟨1, _⟩ => show 0 + 2048 ≤ 2048 by omega

/-- Sixteen rows from a multiple of sixteen are whole packed rows. -/
theorem packedP (n : ℕ) (h : n < 64) :
    (Rect.unit (s := S1024x2048) ![16 * n, 0] S16x2048.size (inbP n h)).PackedRows (EltTy.packing .bf16) := by
  rw [show EltTy.packing .bf16 = 2 by decide]
  have h2 : 2 ≤ S1024x2048.rank := show 2 ≤ 2 by decide
  have e : S1024x2048.rowAx h2 = (0 : Fin 2) := Fin.ext rfl
  refine .inr ⟨h2, rfl, .inl ?_⟩
  rw [e]
  exact ⟨show 2 ∣ 16 * n from ⟨8 * n, by omega⟩, show 2 ∣ 16 by decide⟩

/-- A half of the taps' columns lies in the block. -/
theorem inbW (j : ℕ) (h : j + 256 ≤ 512) : ∀ a, (![0, 0, j] : Fin 3 → ℕ) a + S1x3x256.size a ≤ S1x3x512.size a :=
  fun a => match a with
  | ⟨0, _⟩ => show 0 + 1 ≤ 1 by omega
  | ⟨1, _⟩ => show 0 + 3 ≤ 3 by omega
  | ⟨2, _⟩ => show j + 256 ≤ 512 from h

/-- A half of the bias's columns lies in the block. -/
theorem inbC (j : ℕ) (h : j + 256 ≤ 512) : ∀ a, (![0, 0, j] : Fin 3 → ℕ) a + S1x1x256.size a ≤ S1x1x512.size a :=
  fun a => match a with
  | ⟨0, _⟩ => show 0 + 1 ≤ 1 by omega
  | ⟨1, _⟩ => show 0 + 1 ≤ 1 by omega
  | ⟨2, _⟩ => show j + 256 ≤ 512 from h

/-- A tap's rows of a half of the columns lie in the extended tile. -/
theorem inbX (g r j : ℕ) (hg : g < 2) (hr : r ≤ 8) (h : j + 256 ≤ 512) :
    ∀ a, (![g, r, j] : Fin 3 → ℕ) a + S1x1024x256.size a ≤ S2x1032x512.size a :=
  fun a => match a with
  | ⟨0, _⟩ => show g + 1 ≤ 2 by omega
  | ⟨1, _⟩ => show r + 1024 ≤ 1032 by omega
  | ⟨2, _⟩ => show j + 256 ≤ 512 from h

/-- A half of the down projection's rows lies in the block. -/
theorem inbD (j : ℕ) (h : j + 256 ≤ 512) : ∀ a, (![0, j, 0] : Fin 3 → ℕ) a + S1x256x2048.size a ≤ S1x512x2048.size a :=
  fun a => match a with
  | ⟨0, _⟩ => show 0 + 1 ≤ 1 by omega
  | ⟨1, _⟩ => show j + 256 ≤ 512 from h
  | ⟨2, _⟩ => show 0 + 2048 ≤ 2048 by omega

/-- A half of a column tile's part of the feed-forward sum, from its taps, biases, extended rows and down weights. -/
def down (v103 : Vec F S1x3x256 .f32) (v105 v107 v109 : Vec F S1x1024x256 .f32) (v111 : Vec F S1x1x256 .f32)
    (v126 : Vec F S1x3x256 .f32) (v128 v130 v132 : Vec F S1x1024x256 .f32) (v134 : Vec F S1x1x256 .f32)
    (v153 : Vec F S1x256x2048 .bf16) : FVec F S1024x2048 .f32 :=
  k0_pay140 (k0_pay135 v103) (k0_pay136 v107) (k0_pay137 v109) (k0_pay138 v111) (k0_pay139 v103 v105)
    v126 v128 v130 v132 v134 v153

/-- The last `n` steps of the first norm: sixteen rows each. -/
def preSteps (arg2 : Memref sig .tc .vmem S1024x2048 .f32) (arg13 : Memref sig .tc .vmem S1024x2048 .bf16) (harg13 : arg13.IsWhole) (v23 : FVec F S1x2048 .f32) (n : ℕ) :
    Prog (TpuEff nD τ sig (Elt F) Λ₀ .tc) PUnit :=
  Nat.rec (motive := fun _ => Prog (TpuEff nD τ sig (Elt F) Λ₀ .tc) PUnit) (pure ⟨⟩) (fun n ih => do
  let v1158 : Vec F S16x2048 .f32 ← Prog.lift (.load arg2 (Rect.unit (s := S1024x2048) ![16 * (63 - n), 0] S16x2048.size (inbP (63 - n) (by omega))).toLoadRect (View.loadsAt_vmem h_S16x2048))
  let v1173 : Vec F S16x2048 .bf16 ← Prog.lift (.load arg13 (Rect.unit (s := S1024x2048) ![16 * (63 - n), 0] S16x2048.size (inbP (63 - n) (by omega))).toLoadRect (View.loadsAt_vmem h_S16x2048))
  Prog.lift (.store arg13 (Rect.unit (s := S1024x2048) ![16 * (63 - n), 0] S16x2048.size (inbP (63 - n) (by omega))) (k0_pay104 v23 v1158) Finset.univ (View.stores_vmem h_S16x2048 (harg13.storeExact_slice rfl _ (packedP (63 - n) (by omega))) (fun _ => rfl)) (.inl rfl))
  ih) n

/-- The last `n` steps of the last norm: eight rows each. -/
def epiSteps (arg2 : Memref sig .tc .vmem S1024x2048 .f32) (arg12 : Memref sig .tc .vmem S1024x2048 .f32) (v23 : FVec F S1x2048 .f32) (n : ℕ) :
    Prog (TpuEff nD τ sig (Elt F) Λ₀ .tc) PUnit :=
  Nat.rec (motive := fun _ => Prog (TpuEff nD τ sig (Elt F) Λ₀ .tc) PUnit) (pure ⟨⟩) (fun n ih => do
  let v2310 : Vec F S8x2048 .f32 ← Prog.lift (.load arg2 (Rect.unit (s := S1024x2048) ![8 * (127 - n), 0] S8x2048.size (inbE (127 - n) (by omega))).toLoadRect (View.loadsAt_vmem h_S8x2048))
  let v2312 : Vec F S8x2048 .f32 ← Prog.lift (.load arg12 (Rect.unit (s := S1024x2048) ![8 * (127 - n), 0] S8x2048.size (inbE (127 - n) (by omega))).toLoadRect (View.loadsAt_vmem h_S8x2048))
  let v2327 : Vec F S8x2048 .f32 ← Prog.lift (.load arg12 (Rect.unit (s := S1024x2048) ![8 * (127 - n), 0] S8x2048.size (inbE (127 - n) (by omega))).toLoadRect (View.loadsAt_vmem h_S8x2048))
  Prog.lift (.store arg12 (Rect.unit (s := S1024x2048) ![8 * (127 - n), 0] S8x2048.size (inbE (127 - n) (by omega))) (k0_pay5 v23 v2310 v2312) Finset.univ (View.stores_vmem_bits_univ h_S8x2048 rfl) (.inl rfl))
  ih) n

/-- A column tile's up projection: the carried rows and the new ones are put below one another, and the last rows are
    carried on. -/
def upPart (arg4 : Memref sig .tc .vmem S1x2048x512 .bf16) (arg5 : Memref sig .tc .vmem S1x2048x512 .bf16) (arg13 : Memref sig .tc .vmem S1024x2048 .bf16) (arg14 : Memref sig .tc .vmem S11x2x8x512 .f32) (arg15 : Memref sig .tc .vmem S2x1032x512 .f32) (off : Fin 4 → ℕ)
    (hoff : ∀ a, off a + S1x2x8x512.size a ≤ S11x2x8x512.size a) : Prog (TpuEff nD τ sig (Elt F) Λ₀ .tc) PUnit := do
  let v22 : Vec F S1024x2048 .bf16 ← Prog.lift (.load arg13 (Rect.unit (s := S1024x2048) ![0, 0] S1024x2048.size inb_S1024x2048_S1024x2048_0_0).toLoadRect (View.loadsAt_vmem h_S1024x2048))
  let v24 : Vec F S1x2x8x512 .f32 ← Prog.lift (.load arg14 (Rect.unit (s := S11x2x8x512) off S1x2x8x512.size hoff).toLoadRect (View.loadsAt_vmem h_S1x2x8x512))
  let v26 : Vec F S2x8x512 .f32 ← Prog.lift (.load arg15 (Rect.unit (s := S2x1032x512) ![0, 0, 0] S2x8x512.size inb_S2x1032x512_S2x8x512_0_0_0).toLoadRect (View.loadsAt_vmem h_S2x8x512))
  Prog.lift (.store arg15 (Rect.unit (s := S2x1032x512) ![0, 0, 0] S2x8x512.size inb_S2x1032x512_S2x8x512_0_0_0) (k0_pay123 v24) Finset.univ (View.stores_vmem_bits_univ h_S2x8x512 rfl) (.inl rfl))
  let v29 : Vec F S1x2048x512 .bf16 ← Prog.lift (.load arg4 (Rect.unit (s := S1x2048x512) ![0, 0, 0] S1x2048x512.size inb_S1x2048x512_S1x2048x512_0_0_0).toLoadRect (View.loadsAt_vmem h_S1x2048x512))
  let v32 : Vec F S1x1024x512 .f32 ← Prog.lift (.load arg15 (Rect.unit (s := S2x1032x512) ![0, 8, 0] S1x1024x512.size inb_S2x1032x512_S1x1024x512_0_8_0).toLoadRect (View.loadsAt_vmem h_S1x1024x512))
  Prog.lift (.store arg15 (Rect.unit (s := S2x1032x512) ![0, 8, 0] S1x1024x512.size inb_S2x1032x512_S1x1024x512_0_8_0) (k0_pay124 v22 v29) Finset.univ (View.stores_vmem_bits_univ h_S1x1024x512 rfl) (.inl rfl))
  let v35 : Vec F S1x2048x512 .bf16 ← Prog.lift (.load arg5 (Rect.unit (s := S1x2048x512) ![0, 0, 0] S1x2048x512.size inb_S1x2048x512_S1x2048x512_0_0_0).toLoadRect (View.loadsAt_vmem h_S1x2048x512))
  let v38 : Vec F S1x1024x512 .f32 ← Prog.lift (.load arg15 (Rect.unit (s := S2x1032x512) ![1, 8, 0] S1x1024x512.size inb_S2x1032x512_S1x1024x512_1_8_0).toLoadRect (View.loadsAt_vmem h_S1x1024x512))
  Prog.lift (.store arg15 (Rect.unit (s := S2x1032x512) ![1, 8, 0] S1x1024x512.size inb_S2x1032x512_S1x1024x512_1_8_0) (k0_pay125 v22 v35) Finset.univ (View.stores_vmem_bits_univ h_S1x1024x512 rfl) (.inl rfl))
  let v41 : Vec F S2x8x512 .f32 ← Prog.lift (.load arg15 (Rect.unit (s := S2x1032x512) ![0, 1024, 0] S2x8x512.size inb_S2x1032x512_S2x8x512_0_1024_0).toLoadRect (View.loadsAt_vmem h_S2x8x512))
  let v43 : Vec F S1x2x8x512 .f32 ← Prog.lift (.load arg14 (Rect.unit (s := S11x2x8x512) off S1x2x8x512.size hoff).toLoadRect (View.loadsAt_vmem h_S1x2x8x512))
  Prog.lift (.store arg14 (Rect.unit (s := S11x2x8x512) off S1x2x8x512.size hoff) (k0_pay126 v41) Finset.univ (View.stores_vmem_bits_univ h_S1x2x8x512 rfl) (.inl rfl))

/-- A half of a column tile's part of the sum. -/
def convPart (arg6 : Memref sig .tc .vmem S1x3x512 .f32) (arg7 : Memref sig .tc .vmem S1x3x512 .f32) (arg8 : Memref sig .tc .vmem S1x1x512 .f32) (arg9 : Memref sig .tc .vmem S1x1x512 .f32) (arg10 : Memref sig .tc .vmem S1x512x2048 .bf16) (arg15 : Memref sig .tc .vmem S2x1032x512 .f32) (j : ℕ) (hj : j + 256 ≤ 512) :
    Prog (TpuEff nD τ sig (Elt F) Λ₀ .tc) (FVec F S1024x2048 .f32) := do
  let v103 : Vec F S1x3x256 .f32 ← Prog.lift (.load arg6 (Rect.unit (s := S1x3x512) ![0, 0, j] S1x3x256.size (inbW j hj)).toLoadRect (View.loadsAt_vmem h_S1x3x256))
  let v105 : Vec F S1x1024x256 .f32 ← Prog.lift (.load arg15 (Rect.unit (s := S2x1032x512) ![0, 6, j] S1x1024x256.size (inbX 0 6 j (by omega) (by omega) hj)).toLoadRect (View.loadsAt_vmem h_S1x1024x256))
  let v107 : Vec F S1x1024x256 .f32 ← Prog.lift (.load arg15 (Rect.unit (s := S2x1032x512) ![0, 7, j] S1x1024x256.size (inbX 0 7 j (by omega) (by omega) hj)).toLoadRect (View.loadsAt_vmem h_S1x1024x256))
  let v109 : Vec F S1x1024x256 .f32 ← Prog.lift (.load arg15 (Rect.unit (s := S2x1032x512) ![0, 8, j] S1x1024x256.size (inbX 0 8 j (by omega) (by omega) hj)).toLoadRect (View.loadsAt_vmem h_S1x1024x256))
  let v111 : Vec F S1x1x256 .f32 ← Prog.lift (.load arg8 (Rect.unit (s := S1x1x512) ![0, 0, j] S1x1x256.size (inbC j hj)).toLoadRect (View.loadsAt_vmem h_S1x1x256))
  let v126 : Vec F S1x3x256 .f32 ← Prog.lift (.load arg7 (Rect.unit (s := S1x3x512) ![0, 0, j] S1x3x256.size (inbW j hj)).toLoadRect (View.loadsAt_vmem h_S1x3x256))
  let v128 : Vec F S1x1024x256 .f32 ← Prog.lift (.load arg15 (Rect.unit (s := S2x1032x512) ![1, 6, j] S1x1024x256.size (inbX 1 6 j (by omega) (by omega) hj)).toLoadRect (View.loadsAt_vmem h_S1x1024x256))
  let v130 : Vec F S1x1024x256 .f32 ← Prog.lift (.load arg15 (Rect.unit (s := S2x1032x512) ![1, 7, j] S1x1024x256.size (inbX 1 7 j (by omega) (by omega) hj)).toLoadRect (View.loadsAt_vmem h_S1x1024x256))
  let v132 : Vec F S1x1024x256 .f32 ← Prog.lift (.load arg15 (Rect.unit (s := S2x1032x512) ![1, 8, j] S1x1024x256.size (inbX 1 8 j (by omega) (by omega) hj)).toLoadRect (View.loadsAt_vmem h_S1x1024x256))
  let v134 : Vec F S1x1x256 .f32 ← Prog.lift (.load arg9 (Rect.unit (s := S1x1x512) ![0, 0, j] S1x1x256.size (inbC j hj)).toLoadRect (View.loadsAt_vmem h_S1x1x256))
  let v153 : Vec F S1x256x2048 .bf16 ← Prog.lift (.load arg10 (Rect.unit (s := S1x512x2048) ![0, j, 0] S1x256x2048.size (inbD j hj)).toLoadRect (View.loadsAt_vmem h_S1x256x2048))
  pure (down v103 v105 v107 v109 v111 v126 v128 v130 v132 v134 v153)

/-- A half of a column tile's part of the sum, stored. -/
def setPart (arg6 : Memref sig .tc .vmem S1x3x512 .f32) (arg7 : Memref sig .tc .vmem S1x3x512 .f32) (arg8 : Memref sig .tc .vmem S1x1x512 .f32) (arg9 : Memref sig .tc .vmem S1x1x512 .f32) (arg10 : Memref sig .tc .vmem S1x512x2048 .bf16) (arg12 : Memref sig .tc .vmem S1024x2048 .f32) (arg15 : Memref sig .tc .vmem S2x1032x512 .f32) (j : ℕ) (hj : j + 256 ≤ 512) :
    Prog (TpuEff nD τ sig (Elt F) Λ₀ .tc) PUnit := do
  let d : FVec F S1024x2048 .f32 ← convPart arg6 arg7 arg8 arg9 arg10 arg15 j hj
  let v99 : Vec F S1024x2048 .f32 ← Prog.lift (.load arg12 (Rect.unit (s := S1024x2048) ![0, 0] S1024x2048.size inb_S1024x2048_S1024x2048_0_0).toLoadRect (View.loadsAt_vmem h_S1024x2048))
  Prog.lift (.store arg12 (Rect.unit (s := S1024x2048) ![0, 0] S1024x2048.size inb_S1024x2048_S1024x2048_0_0) d Finset.univ (View.stores_vmem_bits_univ h_S1024x2048 rfl) (.inl rfl))

/-- A half of a column tile's part of the sum, added to what is stored. -/
def accPart (arg6 : Memref sig .tc .vmem S1x3x512 .f32) (arg7 : Memref sig .tc .vmem S1x3x512 .f32) (arg8 : Memref sig .tc .vmem S1x1x512 .f32) (arg9 : Memref sig .tc .vmem S1x1x512 .f32) (arg10 : Memref sig .tc .vmem S1x512x2048 .bf16) (arg12 : Memref sig .tc .vmem S1024x2048 .f32) (arg15 : Memref sig .tc .vmem S2x1032x512 .f32) (j : ℕ) (hj : j + 256 ≤ 512) :
    Prog (TpuEff nD τ sig (Elt F) Λ₀ .tc) PUnit := do
  let d : FVec F S1024x2048 .f32 ← convPart arg6 arg7 arg8 arg9 arg10 arg15 j hj
  let v156 : Vec F S1024x2048 .f32 ← Prog.lift (.load arg12 (Rect.unit (s := S1024x2048) ![0, 0] S1024x2048.size inb_S1024x2048_S1024x2048_0_0).toLoadRect (View.loadsAt_vmem h_S1024x2048))
  let v159 : Vec F S1024x2048 .f32 ← Prog.lift (.load arg12 (Rect.unit (s := S1024x2048) ![0, 0] S1024x2048.size inb_S1024x2048_S1024x2048_0_0).toLoadRect (View.loadsAt_vmem h_S1024x2048))
  Prog.lift (.store arg12 (Rect.unit (s := S1024x2048) ![0, 0] S1024x2048.size inb_S1024x2048_S1024x2048_0_0) (k0_pay3 d v156) Finset.univ (View.stores_vmem_bits_univ h_S1024x2048 rfl) (.inl rfl))

/-- The first column tile of a row block. -/
def stepFirst (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S11x2x8x512 .f32) (harg14 : arg14.IsWhole) (arg15 : Memref sig .tc .vmem S2x1032x512 .f32) (harg15 : arg15.IsWhole) (k0_h2 : k0_cond2 i = 1#1) : Prog (TpuEff nD τ sig (Elt F) Λ₀ .tc) PUnit := do
  let v22 : Vec F S1x1x2048 .f32 ← Prog.lift (.load arg3 (Rect.unit (s := S1x1x2048) ![0, 0, 0] S1x1x2048.size inb_S1x1x2048_S1x1x2048_0_0_0).toLoadRect (View.loadsAt_vmem h_S1x1x2048))
  preSteps arg2 arg13 harg13 (k0_pay6 v22) 64
  upPart arg4 arg5 arg13 arg14 arg15 (k0_off2 i) (k0_off2_inb i k0_h2)
  setPart arg6 arg7 arg8 arg9 arg10 arg12 arg15 0 (by omega)
  accPart arg6 arg7 arg8 arg9 arg10 arg12 arg15 256 (by omega)

/-- A later column tile. -/
def stepRest (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S11x2x8x512 .f32) (harg14 : arg14.IsWhole) (arg15 : Memref sig .tc .vmem S2x1032x512 .f32) (harg15 : arg15.IsWhole) (k0_h3 : k0_cond3 i = 1#1) : Prog (TpuEff nD τ sig (Elt F) Λ₀ .tc) PUnit := do
  upPart arg4 arg5 arg13 arg14 arg15 (k0_off3 i) (k0_off3_inb i k0_h3)
  accPart arg6 arg7 arg8 arg9 arg10 arg12 arg15 0 (by omega)
  accPart arg6 arg7 arg8 arg9 arg10 arg12 arg15 256 (by omega)

/-- The last norm and the residual sum. -/
def stepLast (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S11x2x8x512 .f32) (harg14 : arg14.IsWhole) (arg15 : Memref sig .tc .vmem S2x1032x512 .f32) (harg15 : arg15.IsWhole) : Prog (TpuEff nD τ sig (Elt F) Λ₀ .tc) PUnit := do
  let v22 : Vec F S1x1x2048 .f32 ← Prog.lift (.load arg11 (Rect.unit (s := S1x1x2048) ![0, 0, 0] S1x1x2048.size inb_S1x1x2048_S1x1x2048_0_0_0).toLoadRect (View.loadsAt_vmem h_S1x1x2048))
  epiSteps arg2 arg12 (k0_pay141 v22) 128

/-- The carried rows of a sequence's first block: zeros. -/
def stepZero (i : grid0.Coords) (arg14 : Memref sig .tc .vmem S11x2x8x512 .f32) (k0_h1 : k0_cond1 i = 1#1) : Prog (TpuEff nD τ sig (Elt F) Λ₀ .tc) PUnit := do
  let v24 : Vec F S1x2x8x512 .f32 ← Prog.lift (.load arg14 (Rect.unit (s := S11x2x8x512) (k0_off1 i) S1x2x8x512.size (k0_off1_inb i k0_h1)).toLoadRect (View.loadsAt_vmem h_S1x2x8x512))
  Prog.lift (.store arg14 (Rect.unit (s := S11x2x8x512) (k0_off1 i) S1x2x8x512.size (k0_off1_inb i k0_h1)) (k0_pay1 (F := F)) Finset.univ (View.stores_vmem_bits_univ h_S1x2x8x512 rfl) (.inl rfl))

/-- The body. -/
def body (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S11x2x8x512 .f32) (harg14 : arg14.IsWhole) (arg15 : Memref sig .tc .vmem S2x1032x512 .f32) (harg15 : arg15.IsWhole) : Prog (TpuEff nD τ sig (Elt F) Λ₀ .tc) PUnit := do
  if k0_h1 : k0_cond1 i = 1#1 then do
    stepZero i arg14 k0_h1
    pure ⟨⟩
  else do
    pure ⟨⟩
  if k0_h2 : k0_cond2 i = 1#1 then do
    stepFirst i arg2 harg2 arg3 harg3 arg4 harg4 arg5 harg5 arg6 harg6 arg7 harg7 arg8 harg8 arg9 harg9 arg10 harg10 arg11 harg11 arg12 harg12 arg13 harg13 arg14 harg14 arg15 harg15 k0_h2
    pure ⟨⟩
  else do
    pure ⟨⟩
  if k0_h3 : k0_cond3 i = 1#1 then do
    stepRest i arg2 harg2 arg3 harg3 arg4 harg4 arg5 harg5 arg6 harg6 arg7 harg7 arg8 harg8 arg9 harg9 arg10 harg10 arg11 harg11 arg12 harg12 arg13 harg13 arg14 harg14 arg15 harg15 k0_h3
    pure ⟨⟩
  else do
    pure ⟨⟩
  if k0_h4 : k0_cond4 i = 1#1 then do
    stepLast arg2 harg2 arg3 harg3 arg4 harg4 arg5 harg5 arg6 harg6 arg7 harg7 arg8 harg8 arg9 harg9 arg10 harg10 arg11 harg11 arg12 harg12 arg13 harg13 arg14 harg14 arg15 harg15
    pure ⟨⟩
  else do
    pure ⟨⟩
  pure ⟨⟩

/-- The printed body is this one: its statements are the same, in the same order. -/
theorem body_eq (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S11x2x8x512 .f32) (harg14 : arg14.IsWhole) (arg15 : Memref sig .tc .vmem S2x1032x512 .f32) (harg15 : arg15.IsWhole) :
    cc0_conv_ffn (F := F) i arg2 harg2 arg3 harg3 arg4 harg4 arg5 harg5 arg6 harg6 arg7 harg7 arg8 harg8 arg9 harg9 arg10 harg10 arg11 harg11 arg12 harg12 arg13 harg13 arg14 harg14 arg15 harg15 = body i arg2 harg2 arg3 harg3 arg4 harg4 arg5 harg5 arg6 harg6 arg7 harg7 arg8 harg8 arg9 harg9 arg10 harg10 arg11 harg11 arg12 harg12 arg13 harg13 arg14 harg14 arg15 harg15 := by
  sl_kernel_rfl

end Cert.FfnKernelIdeal.Own

end
-- ==== Proof.Ffn.Run.lean ====
/- The runs of the feed-forward body's parts: each from the blocks it reads and the contents of what it writes, to the
   contents it leaves. -/
module

public import proofs.«01_k».proof.Proof.Ffn.Prog
public import Idealize.ShloMosaic.Lib.VecWindow

@[expose] public section

set_option maxRecDepth 16384

noncomputable section

namespace Cert.FfnKernelIdeal.Own

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ)

/-- A memref owned at contents. -/
abbrev ow {s : Shape} {e : EltTy} (m : Memref sig .tc .vmem s e) (d : Vec F s e) : sProp 𝕄 :=
  owns (c : Thread nD τ) m fullShare d

/-- What a load through a unit rectangle reads. -/
abbrev rd {s : Shape} {e : EltTy} (d : Vec F s e) (off size : Fin s.rank → ℕ) (inb : ∀ a, off a + size a ≤ s.size a) :
    (Rect.unit off size inb).shape.Idx → Elt F e := fun x => d ((Rect.unit off size inb).idx x)

/-- What a store through a unit rectangle leaves: the payload on the rectangle, the contents elsewhere. -/
abbrev pt {s : Shape} {e : EltTy} (d : Vec F s e) (off size : Fin s.rank → ℕ) (w : ((a : Fin s.rank) → Fin (size a)) → Elt F e) : Vec F s e :=
  VecWindow.put d off size w

/-- The run of a program in the body. -/
abbrev run {α : Type} (p : Prog (TpuEff nD τ sig (Elt F) Λ₀ .tc) α) (Q : α → sProp 𝕄) : sProp 𝕄 :=
  wp Idealize.ShloMosaic.frame (wpE (defs₀ (F := F)) Variants.none (c : Thread nD τ) none) E p Q

/-- A load, then the rest at what it read. -/
theorem run_ld {α : Type} {s : Shape} {e : EltTy} {m : Memref sig .tc .vmem s e} {d : Vec F s e} {off size : Fin s.rank → ℕ}
    {inb : ∀ a, off a + size a ≤ s.size a} {hl : m.view.LoadsAt (Rect.unit off size inb).toLoadRect}
    {k : ((Rect.unit off size inb).toLoadRect.shape.Idx → Elt F e) → Prog (TpuEff nD τ sig (Elt F) Λ₀ .tc) α} {Q : α → sProp 𝕄} :
    ow c m d ⊢ iprop((ow c m d -∗ run c E (k (rd d off size inb)) Q)
      -∗ run c E (Prog.lift (.load m (Rect.unit off size inb).toLoadRect hl) >>= k) Q) := by
  unfold ow owns
  iintro ⟨%f, %hf, H⟩ Hk
  iapply (wp_load Variants.none (c : Thread nD τ) none E (View.setOn_subset_set _ _)) $$ H
  iintro H
  subst hf
  iapply Hk
  iexists f; isplitr; · ipureintro; rfl
  iexact H

/-- The reading after a store. -/
theorem read_pt {s : Shape} {e : EltTy} (m : Memref sig .tc .vmem s e) (f : BufTy.Contents (Elt F) m.view.ty) {off size : Fin s.rank → ℕ}
    (inb : ∀ a, off a + size a ≤ s.size a) (w : (Rect.unit off size inb).shape.Idx → Elt F e) :
    m.view.read (Elt F) (m.view.writes (Elt F) f [⟨Rect.unit off size inb, w⟩]) = pt (m.view.read (Elt F) f) off size w := by
  funext y
  exact View.read_writes_cons_unit _ _ _ _ _ _ rfl

/-- A store, then the rest. -/
theorem run_st {α : Type} {s : Shape} {e : EltTy} {m : Memref sig .tc .vmem s e} {d : Vec F s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {Q : α → sProp 𝕄} :
    ow c m d ⊢ iprop((ow c m (pt d off size w) -∗ run c E (k ⟨⟩) Q)
      -∗ run c E (Prog.lift (.store m (Rect.unit off size inb) w Finset.univ hx hm) >>= k) Q) := by
  unfold ow owns
  iintro ⟨%f, %hf, H⟩ Hk
  iapply (wp_store_writes₀ Variants.none (c : Thread nD τ) none E (View.set_slice_subset _ _)) $$ H
  iintro H
  subst hf
  iapply Hk
  iexists _; isplitr; · ipureintro; exact read_pt m f inb w
  iexact H

/-- A store that ends the program. -/
theorem run_stL {s : Shape} {e : EltTy} {m : Memref sig .tc .vmem s e} {d : Vec F s e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {Q : PUnit → sProp 𝕄} :
    ow c m d ⊢ iprop((ow c m (pt d off size w) -∗ Q ⟨⟩)
      -∗ run c E (Prog.lift (.store m (Rect.unit off size inb) w Finset.univ hx hm)) Q) := by
  unfold ow owns
  iintro ⟨%f, %hf, H⟩ Hk
  iapply (wp_store_writes₀ Variants.none (c : Thread nD τ) none E (View.set_slice_subset _ _)) $$ H
  iintro H
  subst hf
  iapply (le_wp_ret _ _ _ ⟨⟩ Q)
  iapply Hk
  iexists _; isplitr; · ipureintro; exact read_pt m f inb w
  iexact H

/-- The empty program. -/
theorem run_ret {α : Type} (a : α) (Q : α → sProp 𝕄) : Q a ⊢ run c E (.ret a) Q := le_wp_ret _ _ _ a Q

/-- Two programs in a row. -/
theorem run_bind {α β : Type} {p : Prog (TpuEff nD τ sig (Elt F) Λ₀ .tc) α} {k : α → Prog (TpuEff nD τ sig (Elt F) Λ₀ .tc) β} {Q : β → sProp 𝕄} :
    run c E p (fun a => run c E (k a) Q) ⊢ run c E (p >>= k) Q := by
  unfold run
  rw [wp_bind]

/-! ## The first norm -/

/-- What the last `n` steps of the first norm leave. -/
def preOut (X : Vec F S1024x2048 .f32) (g : FVec F S1x2048 .f32) (n : ℕ) : Vec F S1024x2048 .bf16 → Vec F S1024x2048 .bf16 :=
  Nat.rec (motive := fun _ => Vec F S1024x2048 .bf16 → Vec F S1024x2048 .bf16) id (fun n ih d =>
    ih (pt d ![16 * (63 - n), 0] S16x2048.size (k0_pay104 g (rd X ![16 * (63 - n), 0] S16x2048.size (inbP (63 - n) (by omega)))))) n

/-- The steps' run. -/
theorem run_pre (arg2 : Memref sig .tc .vmem S1024x2048 .f32) (arg13 : Memref sig .tc .vmem S1024x2048 .bf16) (harg13 : arg13.IsWhole)
    (X : Vec F S1024x2048 .f32) (g : FVec F S1x2048 .f32) (n : ℕ) (d : Vec F S1024x2048 .bf16) (K : PUnit → sProp 𝕄) :
    iprop(ow c arg2 X ∗ ow c arg13 d ∗ (iprop(ow c arg2 X ∗ ow c arg13 (preOut X g n d)) -∗ K ⟨⟩))
      ⊢ run c E (preSteps arg2 arg13 harg13 g n) K := by
  induction n generalizing d with
  | zero =>
    iintro ⟨H2, H13, Hk⟩
    iapply (run_ret c E ⟨⟩ K)
    iapply Hk
    isplitl [H2]; · iexact H2
    iexact H13
  | succ n ih =>
    iintro ⟨H2, H13, Hk⟩
    unfold preSteps
    iapply (run_ld c E) $$ H2; iintro H2
    iapply (run_ld c E) $$ H13; iintro H13
    iapply (run_st c E) $$ H13; iintro H13
    iapply (ih _)
    isplitl [H2]; · iexact H2
    isplitl [H13]; · iexact H13
    iexact Hk

/-! ## The last norm -/

/-- What the last `n` steps of the last norm leave. -/
def epiOut (X : Vec F S1024x2048 .f32) (g : FVec F S1x2048 .f32) (n : ℕ) : Vec F S1024x2048 .f32 → Vec F S1024x2048 .f32 :=
  Nat.rec (motive := fun _ => Vec F S1024x2048 .f32 → Vec F S1024x2048 .f32) id (fun n ih d =>
    ih (pt d ![8 * (127 - n), 0] S8x2048.size (k0_pay5 g (rd X ![8 * (127 - n), 0] S8x2048.size (inbE (127 - n) (by omega)))
      (rd d ![8 * (127 - n), 0] S8x2048.size (inbE (127 - n) (by omega)))))) n

/-- The steps' run. -/
theorem run_epi (arg2 : Memref sig .tc .vmem S1024x2048 .f32) (arg12 : Memref sig .tc .vmem S1024x2048 .f32)
    (X : Vec F S1024x2048 .f32) (g : FVec F S1x2048 .f32) (n : ℕ) (d : Vec F S1024x2048 .f32) (K : PUnit → sProp 𝕄) :
    iprop(ow c arg2 X ∗ ow c arg12 d ∗ (iprop(ow c arg2 X ∗ ow c arg12 (epiOut X g n d)) -∗ K ⟨⟩))
      ⊢ run c E (epiSteps arg2 arg12 g n) K := by
  induction n generalizing d with
  | zero =>
    iintro ⟨H2, H12, Hk⟩
    iapply (run_ret c E ⟨⟩ K)
    iapply Hk
    isplitl [H2]; · iexact H2
    iexact H12
  | succ n ih =>
    iintro ⟨H2, H12, Hk⟩
    unfold epiSteps
    iapply (run_ld c E) $$ H2; iintro H2
    iapply (run_ld c E) $$ H12; iintro H12
    iapply (run_ld c E) $$ H12; iintro H12
    iapply (run_st c E) $$ H12; iintro H12
    iapply (ih _)
    isplitl [H2]; · iexact H2
    isplitl [H12]; · iexact H12
    iexact Hk

/-! ## A column tile -/

/-- The up projection's rows below the carried ones. -/
def upOut (W4 W5 : Vec F S1x2048x512 .bf16) (xn : Vec F S1024x2048 .bf16) (cy : Vec F S1x2x8x512 .f32) (d : Vec F S2x1032x512 .f32) :
    Vec F S2x1032x512 .f32 :=
  pt (pt (pt d ![0, 0, 0] S2x8x512.size (k0_pay123 cy)) ![0, 8, 0] S1x1024x512.size
    (k0_pay124 (rd xn ![0, 0] S1024x2048.size inb_S1024x2048_S1024x2048_0_0)
      (rd W4 ![0, 0, 0] S1x2048x512.size inb_S1x2048x512_S1x2048x512_0_0_0))) ![1, 8, 0] S1x1024x512.size
    (k0_pay125 (rd xn ![0, 0] S1024x2048.size inb_S1024x2048_S1024x2048_0_0)
      (rd W5 ![0, 0, 0] S1x2048x512.size inb_S1x2048x512_S1x2048x512_0_0_0))

/-- The rows carried on. -/
def carryOut (e : Vec F S2x1032x512 .f32) (off : Fin 4 → ℕ) (d : Vec F S11x2x8x512 .f32) : Vec F S11x2x8x512 .f32 :=
  pt d off S1x2x8x512.size (k0_pay126 (rd e ![0, 1024, 0] S2x8x512.size inb_S2x1032x512_S2x8x512_0_1024_0))

/-- The up projection's run. -/
theorem run_up (arg4 arg5 : Memref sig .tc .vmem S1x2048x512 .bf16) (arg13 : Memref sig .tc .vmem S1024x2048 .bf16)
    (arg14 : Memref sig .tc .vmem S11x2x8x512 .f32) (arg15 : Memref sig .tc .vmem S2x1032x512 .f32) (off : Fin 4 → ℕ)
    (hoff : ∀ a, off a + S1x2x8x512.size a ≤ S11x2x8x512.size a)
    (W4 W5 : Vec F S1x2048x512 .bf16) (xn : Vec F S1024x2048 .bf16) (d14 : Vec F S11x2x8x512 .f32) (d15 : Vec F S2x1032x512 .f32)
    (K : PUnit → sProp 𝕄) :
    iprop(ow c arg4 W4 ∗ ow c arg5 W5 ∗ ow c arg13 xn ∗ ow c arg14 d14 ∗ ow c arg15 d15
        ∗ (iprop(ow c arg4 W4 ∗ ow c arg5 W5 ∗ ow c arg13 xn
            ∗ ow c arg14 (carryOut (upOut W4 W5 xn (rd d14 off S1x2x8x512.size hoff) d15) off d14)
            ∗ ow c arg15 (upOut W4 W5 xn (rd d14 off S1x2x8x512.size hoff) d15)) -∗ K ⟨⟩))
      ⊢ run c E (upPart arg4 arg5 arg13 arg14 arg15 off hoff) K := by
  iintro ⟨H4, H5, H13, H14, H15, Hk⟩
  unfold upPart
  iapply (run_ld c E) $$ H13; iintro H13
  iapply (run_ld c E) $$ H14; iintro H14
  iapply (run_ld c E) $$ H15; iintro H15
  iapply (run_st c E) $$ H15; iintro H15
  iapply (run_ld c E) $$ H4; iintro H4
  iapply (run_ld c E) $$ H15; iintro H15
  iapply (run_st c E) $$ H15; iintro H15
  iapply (run_ld c E) $$ H5; iintro H5
  iapply (run_ld c E) $$ H15; iintro H15
  iapply (run_st c E) $$ H15; iintro H15
  iapply (run_ld c E) $$ H15; iintro H15
  iapply (run_ld c E) $$ H14; iintro H14
  iapply (run_stL c E) $$ H14; iintro H14
  iapply Hk
  isplitl [H4]; · iexact H4
  isplitl [H5]; · iexact H5
  isplitl [H13]; · iexact H13
  isplitl [H14]; · iexact H14
  iexact H15

/-- A half's part of the sum, from the blocks and the extended rows. -/
def halfOut (X6 X7 : Vec F S1x3x512 .f32) (X8 X9 : Vec F S1x1x512 .f32) (X10 : Vec F S1x512x2048 .bf16) (e : Vec F S2x1032x512 .f32)
    (j : ℕ) (hj : j + 256 ≤ 512) : FVec F S1024x2048 .f32 :=
  down (rd X6 ![0, 0, j] S1x3x256.size (inbW j hj))
    (rd e ![0, 6, j] S1x1024x256.size (inbX 0 6 j (by omega) (by omega) hj))
    (rd e ![0, 7, j] S1x1024x256.size (inbX 0 7 j (by omega) (by omega) hj))
    (rd e ![0, 8, j] S1x1024x256.size (inbX 0 8 j (by omega) (by omega) hj))
    (rd X8 ![0, 0, j] S1x1x256.size (inbC j hj))
    (rd X7 ![0, 0, j] S1x3x256.size (inbW j hj))
    (rd e ![1, 6, j] S1x1024x256.size (inbX 1 6 j (by omega) (by omega) hj))
    (rd e ![1, 7, j] S1x1024x256.size (inbX 1 7 j (by omega) (by omega) hj))
    (rd e ![1, 8, j] S1x1024x256.size (inbX 1 8 j (by omega) (by omega) hj))
    (rd X9 ![0, 0, j] S1x1x256.size (inbC j hj))
    (rd X10 ![0, j, 0] S1x256x2048.size (inbD j hj))

section Half
variable (arg6 arg7 : Memref sig .tc .vmem S1x3x512 .f32) (arg8 arg9 : Memref sig .tc .vmem S1x1x512 .f32)
  (arg10 : Memref sig .tc .vmem S1x512x2048 .bf16) (arg12 : Memref sig .tc .vmem S1024x2048 .f32)
  (arg15 : Memref sig .tc .vmem S2x1032x512 .f32) (j : ℕ) (hj : j + 256 ≤ 512)
  (X6 X7 : Vec F S1x3x512 .f32) (X8 X9 : Vec F S1x1x512 .f32) (X10 : Vec F S1x512x2048 .bf16) (e : Vec F S2x1032x512 .f32)

/-- The blocks a half reads. -/
abbrev blocks : sProp 𝕄 :=
  iprop(ow c arg6 X6 ∗ ow c arg7 X7 ∗ ow c arg8 X8 ∗ ow c arg9 X9 ∗ ow c arg10 X10 ∗ ow c arg15 e)

/-- A half's run. -/
theorem run_half (K : FVec F S1024x2048 .f32 → sProp 𝕄) :
    iprop(blocks c arg6 arg7 arg8 arg9 arg10 arg15 X6 X7 X8 X9 X10 e
        ∗ (blocks c arg6 arg7 arg8 arg9 arg10 arg15 X6 X7 X8 X9 X10 e -∗ K (halfOut X6 X7 X8 X9 X10 e j hj)))
      ⊢ run c E (convPart arg6 arg7 arg8 arg9 arg10 arg15 j hj) K := by
  iintro ⟨⟨H6, H7, H8, H9, H10, H15⟩, Hk⟩
  unfold convPart halfOut
  iapply (run_ld c E) $$ H6; iintro H6
  iapply (run_ld c E) $$ H15; iintro H15
  iapply (run_ld c E) $$ H15; iintro H15
  iapply (run_ld c E) $$ H15; iintro H15
  iapply (run_ld c E) $$ H8; iintro H8
  iapply (run_ld c E) $$ H7; iintro H7
  iapply (run_ld c E) $$ H15; iintro H15
  iapply (run_ld c E) $$ H15; iintro H15
  iapply (run_ld c E) $$ H15; iintro H15
  iapply (run_ld c E) $$ H9; iintro H9
  iapply (run_ld c E) $$ H10; iintro H10
  iapply (run_ret c E _ K)
  iapply Hk
  isplitl [H6]; · iexact H6
  isplitl [H7]; · iexact H7
  isplitl [H8]; · iexact H8
  isplitl [H9]; · iexact H9
  isplitl [H10]; · iexact H10
  iexact H15

/-- The contents after a half is stored. -/
def setOut (d : Vec F S1024x2048 .f32) : Vec F S1024x2048 .f32 :=
  pt d ![0, 0] S1024x2048.size (halfOut X6 X7 X8 X9 X10 e j hj)

/-- The contents after a half is added. -/
def accOut (d : Vec F S1024x2048 .f32) : Vec F S1024x2048 .f32 :=
  pt d ![0, 0] S1024x2048.size (k0_pay3 (halfOut X6 X7 X8 X9 X10 e j hj) (rd d ![0, 0] S1024x2048.size inb_S1024x2048_S1024x2048_0_0))

/-- A half's run, stored. -/
theorem run_set (d : Vec F S1024x2048 .f32) (K : PUnit → sProp 𝕄) :
    iprop(blocks c arg6 arg7 arg8 arg9 arg10 arg15 X6 X7 X8 X9 X10 e ∗ ow c arg12 d
        ∗ (iprop(blocks c arg6 arg7 arg8 arg9 arg10 arg15 X6 X7 X8 X9 X10 e ∗ ow c arg12 (setOut j hj X6 X7 X8 X9 X10 e d)) -∗ K ⟨⟩))
      ⊢ run c E (setPart arg6 arg7 arg8 arg9 arg10 arg12 arg15 j hj) K := by
  iintro ⟨HB, H12, Hk⟩
  unfold setPart
  iapply (run_bind c E)
  iapply (run_half c E arg6 arg7 arg8 arg9 arg10 arg15 j hj X6 X7 X8 X9 X10 e _)
  isplitl [HB]; · iexact HB
  iintro HB
  iapply (run_ld c E) $$ H12; iintro H12
  iapply (run_stL c E) $$ H12; iintro H12
  iapply Hk
  isplitl [HB]; · iexact HB
  iexact H12

/-- A half's run, added. -/
theorem run_acc (d : Vec F S1024x2048 .f32) (K : PUnit → sProp 𝕄) :
    iprop(blocks c arg6 arg7 arg8 arg9 arg10 arg15 X6 X7 X8 X9 X10 e ∗ ow c arg12 d
        ∗ (iprop(blocks c arg6 arg7 arg8 arg9 arg10 arg15 X6 X7 X8 X9 X10 e ∗ ow c arg12 (accOut j hj X6 X7 X8 X9 X10 e d)) -∗ K ⟨⟩))
      ⊢ run c E (accPart arg6 arg7 arg8 arg9 arg10 arg12 arg15 j hj) K := by
  iintro ⟨HB, H12, Hk⟩
  unfold accPart
  iapply (run_bind c E)
  iapply (run_half c E arg6 arg7 arg8 arg9 arg10 arg15 j hj X6 X7 X8 X9 X10 e _)
  isplitl [HB]; · iexact HB
  iintro HB
  iapply (run_ld c E) $$ H12; iintro H12
  iapply (run_ld c E) $$ H12; iintro H12
  iapply (run_stL c E) $$ H12; iintro H12
  iapply Hk
  isplitl [HB]; · iexact HB
  iexact H12

end Half

end Cert.FfnKernelIdeal.Own

end
-- ==== Proof.Ffn.Step.lean ====
/- The feed-forward body at a grid point, as a function of the blocks it reads and the contents it changes, and its run. -/
module

public import proofs.«01_k».proof.Proof.Ffn.Run

@[expose] public section

set_option maxRecDepth 16384

noncomputable section

namespace Cert.FfnKernelIdeal.Own

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks a grid point reads: the residual rows, the first gain, the two up weights, taps and biases, the down weights
    and the last gain. -/
structure Ins (F : FTy → Type) [FloatOps F] where
  h : Vec F S1024x2048 .f32
  g : Vec F S1x1x2048 .f32
  wg : Vec F S1x2048x512 .bf16
  wv : Vec F S1x2048x512 .bf16
  tg : Vec F S1x3x512 .f32
  tv : Vec F S1x3x512 .f32
  bg : Vec F S1x1x512 .f32
  bv : Vec F S1x1x512 .f32
  wd : Vec F S1x512x2048 .bf16
  g' : Vec F S1x1x2048 .f32

/-- What a grid point changes: the output block, the normed rows, the carried rows and the extended rows. -/
structure St (F : FTy → Type) [FloatOps F] where
  o : Vec F S1024x2048 .f32
  xn : Vec F S1024x2048 .bf16
  cy : Vec F S11x2x8x512 .f32
  ext : Vec F S2x1032x512 .f32

/-- The zeroing of the carried rows. -/
def s1 (i : grid0.Coords) (S : St F) : St F :=
  if k0_cond1 i = 1#1 then { S with cy := pt S.cy (k0_off1 i) S1x2x8x512.size (k0_pay1 (F := F)) } else S

/-- The up projection of a column tile. -/
def up (I : Ins F) (off : Fin 4 → ℕ) (hoff : ∀ a, off a + S1x2x8x512.size a ≤ S11x2x8x512.size a) (S : St F) : St F :=
  { S with
    cy := carryOut (upOut I.wg I.wv S.xn (rd S.cy off S1x2x8x512.size hoff) S.ext) off S.cy
    ext := upOut I.wg I.wv S.xn (rd S.cy off S1x2x8x512.size hoff) S.ext }

/-- A half stored. -/
def hset (I : Ins F) (j : ℕ) (hj : j + 256 ≤ 512) (S : St F) : St F :=
  { S with o := setOut j hj I.tg I.tv I.bg I.bv I.wd S.ext S.o }

/-- A half added. -/
def hadd (I : Ins F) (j : ℕ) (hj : j + 256 ≤ 512) (S : St F) : St F :=
  { S with o := accOut j hj I.tg I.tv I.bg I.bv I.wd S.ext S.o }

/-- The first norm. -/
def norm (I : Ins F) (S : St F) : St F :=
  { S with xn := preOut I.h (k0_pay6 (rd I.g ![0, 0, 0] S1x1x2048.size inb_S1x1x2048_S1x1x2048_0_0_0)) 64 S.xn }

/-- The first column tile. -/
def s2 (i : grid0.Coords) (I : Ins F) (S : St F) : St F :=
  if h : k0_cond2 i = 1#1 then
    hadd I 256 (by omega) (hset I 0 (by omega) (up I (k0_off2 i) (k0_off2_inb i h) (norm I S)))
  else S

/-- A later column tile. -/
def s3 (i : grid0.Coords) (I : Ins F) (S : St F) : St F :=
  if h : k0_cond3 i = 1#1 then
    hadd I 256 (by omega) (hadd I 0 (by omega) (up I (k0_off3 i) (k0_off3_inb i h) S))
  else S

/-- The last norm and the residual sum. -/
def s4 (i : grid0.Coords) (I : Ins F) (S : St F) : St F :=
  if k0_cond4 i = 1#1 then
    { S with o := epiOut I.h (k0_pay141 (rd I.g' ![0, 0, 0] S1x1x2048.size inb_S1x1x2048_S1x1x2048_0_0_0)) 128 S.o }
  else S

/-- The body. -/
def step (i : grid0.Coords) (I : Ins F) (S : St F) : St F := s4 i I (s3 i I (s2 i I (s1 i S)))

variable (c : Dev nD) (E : Set ℕ) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x2048x512 .bf16) (harg4 : arg4.IsWhole) (arg5 : Memref sig .tc .vmem S1x2048x512 .bf16) (harg5 : arg5.IsWhole)
  (arg6 : Memref sig .tc .vmem S1x3x512 .f32) (harg6 : arg6.IsWhole) (arg7 : Memref sig .tc .vmem S1x3x512 .f32) (harg7 : arg7.IsWhole)
  (arg8 : Memref sig .tc .vmem S1x1x512 .f32) (harg8 : arg8.IsWhole) (arg9 : Memref sig .tc .vmem S1x1x512 .f32) (harg9 : arg9.IsWhole)
  (arg10 : Memref sig .tc .vmem S1x512x2048 .bf16) (harg10 : arg10.IsWhole) (arg11 : Memref sig .tc .vmem S1x1x2048 .f32) (harg11 : arg11.IsWhole)
  (arg12 : Memref sig .tc .vmem S1024x2048 .f32) (harg12 : arg12.IsWhole) (arg13 : Memref sig .tc .vmem S1024x2048 .bf16) (harg13 : arg13.IsWhole)
  (arg14 : Memref sig .tc .vmem S11x2x8x512 .f32) (harg14 : arg14.IsWhole) (arg15 : Memref sig .tc .vmem S2x1032x512 .f32) (harg15 : arg15.IsWhole)

/-- The blocks and the changed contents, owned. -/
def own (I : Ins F) (S : St F) : sProp 𝕄 :=
  iprop(ow c arg2 I.h ∗ ow c arg3 I.g ∗ ow c arg4 I.wg ∗ ow c arg5 I.wv ∗ ow c arg6 I.tg ∗ ow c arg7 I.tv ∗ ow c arg8 I.bg ∗ ow c arg9 I.bv
    ∗ ow c arg10 I.wd ∗ ow c arg11 I.g' ∗ ow c arg12 S.o ∗ ow c arg13 S.xn ∗ ow c arg14 S.cy ∗ ow c arg15 S.ext)

local notation "𝕆" => own c arg2 arg3 arg4 arg5 arg6 arg7 arg8 arg9 arg10 arg11 arg12 arg13 arg14 arg15

variable (I : Ins F)

/-- The zeroing's run. -/
theorem run_zero (S : St F) (K : PUnit → sProp 𝕄) (h1 : k0_cond1 i = 1#1) :
    iprop(𝕆 I S ∗ (𝕆 I (s1 i S) -∗ K ⟨⟩)) ⊢ run c E (stepZero i arg14 h1) K := by
  rw [show s1 i S = _ from if_pos h1]
  unfold own stepZero
  iintro ⟨⟨H2, H3, H4, H5, H6, H7, H8, H9, H10, H11, H12, H13, H14, H15⟩, Hk⟩
  iapply (run_ld c E) $$ H14; iintro H14
  iapply (run_stL c E) $$ H14; iintro H14
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The first norm's run on the whole state. -/
theorem run_norm (S : St F) (K : PUnit → sProp 𝕄) :
    iprop(𝕆 I S ∗ (𝕆 I (norm I S) -∗ K ⟨⟩))
      ⊢ run c E (preSteps arg2 arg13 harg13 (k0_pay6 (rd I.g ![0, 0, 0] S1x1x2048.size inb_S1x1x2048_S1x1x2048_0_0_0)) 64) K := by
  unfold own
  iintro ⟨⟨H2, H3, H4, H5, H6, H7, H8, H9, H10, H11, H12, H13, H14, H15⟩, Hk⟩
  iapply (run_pre c E)
  isplitl [H2]; · iexact H2
  isplitl [H13]; · iexact H13
  iintro ⟨H2, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The up projection's run on the whole state. -/
theorem run_up' (off : Fin 4 → ℕ) (hoff : ∀ a, off a + S1x2x8x512.size a ≤ S11x2x8x512.size a) (S : St F) (K : PUnit → sProp 𝕄) :
    iprop(𝕆 I S ∗ (𝕆 I (up I off hoff S) -∗ K ⟨⟩)) ⊢ run c E (upPart arg4 arg5 arg13 arg14 arg15 off hoff) K := by
  unfold own
  iintro ⟨⟨H2, H3, H4, H5, H6, H7, H8, H9, H10, H11, H12, H13, H14, H15⟩, Hk⟩
  iapply (run_up c E)
  isplitl [H4]; · iexact H4
  isplitl [H5]; · iexact H5
  isplitl [H13]; · iexact H13
  isplitl [H14]; · iexact H14
  isplitl [H15]; · iexact H15
  iintro ⟨H4, H5, H13, H14, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A half's run on the whole state, stored. -/
theorem run_hset (j : ℕ) (hj : j + 256 ≤ 512) (S : St F) (K : PUnit → sProp 𝕄) :
    iprop(𝕆 I S ∗ (𝕆 I (hset I j hj S) -∗ K ⟨⟩)) ⊢ run c E (setPart arg6 arg7 arg8 arg9 arg10 arg12 arg15 j hj) K := by
  unfold own
  iintro ⟨⟨H2, H3, H4, H5, H6, H7, H8, H9, H10, H11, H12, H13, H14, H15⟩, Hk⟩
  iapply (run_set c E)
  isplitl [H6 H7 H8 H9 H10 H15]
  · isplitl [H6]; · iexact H6
    isplitl [H7]; · iexact H7
    isplitl [H8]; · iexact H8
    isplitl [H9]; · iexact H9
    isplitl [H10]; · iexact H10
    iexact H15
  isplitl [H12]; · iexact H12
  iintro ⟨⟨H6, H7, H8, H9, H10, H15⟩, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A half's run on the whole state, added. -/
theorem run_hadd (j : ℕ) (hj : j + 256 ≤ 512) (S : St F) (K : PUnit → sProp 𝕄) :
    iprop(𝕆 I S ∗ (𝕆 I (hadd I j hj S) -∗ K ⟨⟩)) ⊢ run c E (accPart arg6 arg7 arg8 arg9 arg10 arg12 arg15 j hj) K := by
  unfold own
  iintro ⟨⟨H2, H3, H4, H5, H6, H7, H8, H9, H10, H11, H12, H13, H14, H15⟩, Hk⟩
  iapply (run_acc c E)
  isplitl [H6 H7 H8 H9 H10 H15]
  · isplitl [H6]; · iexact H6
    isplitl [H7]; · iexact H7
    isplitl [H8]; · iexact H8
    isplitl [H9]; · iexact H9
    isplitl [H10]; · iexact H10
    iexact H15
  isplitl [H12]; · iexact H12
  iintro ⟨⟨H6, H7, H8, H9, H10, H15⟩, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The load of the first gain on the whole state. -/
theorem run_gain {α : Type} (S : St F) {hl : arg3.view.LoadsAt (Rect.unit (s := S1x1x2048) ![0, 0, 0] S1x1x2048.size inb_S1x1x2048_S1x1x2048_0_0_0).toLoadRect}
    {k : Vec F S1x1x2048 .f32 → Prog (TpuEff nD τ sig (Elt F) Λ₀ .tc) α} {K : α → sProp 𝕄} :
    𝕆 I S ⊢ iprop((𝕆 I S -∗ run c E (k (rd I.g ![0, 0, 0] S1x1x2048.size inb_S1x1x2048_S1x1x2048_0_0_0)) K)
      -∗ run c E (Prog.lift (.load arg3 (Rect.unit (s := S1x1x2048) ![0, 0, 0] S1x1x2048.size inb_S1x1x2048_S1x1x2048_0_0_0).toLoadRect hl) >>= k) K) := by
  unfold own
  iintro ⟨H2, H3, H4, H5, H6, H7, H8, H9, H10, H11, H12, H13, H14, H15⟩ Hk
  iapply (run_ld c E) $$ H3; iintro H3
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The first column tile's run. -/
theorem run_first (S : St F) (K : PUnit → sProp 𝕄) (h2 : k0_cond2 i = 1#1) :
    iprop(𝕆 I S ∗ (𝕆 I (s2 i I S) -∗ K ⟨⟩))
      ⊢ run c E (stepFirst i arg2 harg2 arg3 harg3 arg4 harg4 arg5 harg5 arg6 harg6 arg7 harg7 arg8 harg8 arg9 harg9 arg10 harg10 arg11 harg11 arg12 harg12 arg13 harg13 arg14 harg14 arg15 harg15 h2) K := by
  rw [show s2 i I S = _ from dif_pos h2]
  unfold stepFirst
  iintro ⟨HO, Hk⟩
  iapply (run_gain c E arg2 arg3 arg4 arg5 arg6 arg7 arg8 arg9 arg10 arg11 arg12 arg13 arg14 arg15 I S) $$ HO
  iintro HO
  iapply (run_bind c E)
  iapply (run_norm c E arg2 arg3 arg4 arg5 arg6 arg7 arg8 arg9 arg10 arg11 arg12 arg13 harg13 arg14 arg15 I S _)
  isplitl [HO]; · iexact HO
  iintro HO
  iapply (run_bind c E)
  iapply (run_up' c E arg2 arg3 arg4 arg5 arg6 arg7 arg8 arg9 arg10 arg11 arg12 arg13 arg14 arg15 I _ _ _ _)
  isplitl [HO]; · iexact HO
  iintro HO
  iapply (run_bind c E)
  iapply (run_hset c E arg2 arg3 arg4 arg5 arg6 arg7 arg8 arg9 arg10 arg11 arg12 arg13 arg14 arg15 I _ _ _ _)
  isplitl [HO]; · iexact HO
  iintro HO
  iapply (run_hadd c E arg2 arg3 arg4 arg5 arg6 arg7 arg8 arg9 arg10 arg11 arg12 arg13 arg14 arg15 I _ _ _ _)
  isplitl [HO]; · iexact HO
  iexact Hk

/-- A later column tile's run. -/
theorem run_rest (S : St F) (K : PUnit → sProp 𝕄) (h3 : k0_cond3 i = 1#1) :
    iprop(𝕆 I S ∗ (𝕆 I (s3 i I S) -∗ K ⟨⟩))
      ⊢ run c E (stepRest i arg2 harg2 arg3 harg3 arg4 harg4 arg5 harg5 arg6 harg6 arg7 harg7 arg8 harg8 arg9 harg9 arg10 harg10 arg11 harg11 arg12 harg12 arg13 harg13 arg14 harg14 arg15 harg15 h3) K := by
  rw [show s3 i I S = _ from dif_pos h3]
  unfold stepRest
  iintro ⟨HO, Hk⟩
  iapply (run_bind c E)
  iapply (run_up' c E arg2 arg3 arg4 arg5 arg6 arg7 arg8 arg9 arg10 arg11 arg12 arg13 arg14 arg15 I _ _ _ _)
  isplitl [HO]; · iexact HO
  iintro HO
  iapply (run_bind c E)
  iapply (run_hadd c E arg2 arg3 arg4 arg5 arg6 arg7 arg8 arg9 arg10 arg11 arg12 arg13 arg14 arg15 I _ _ _ _)
  isplitl [HO]; · iexact HO
  iintro HO
  iapply (run_hadd c E arg2 arg3 arg4 arg5 arg6 arg7 arg8 arg9 arg10 arg11 arg12 arg13 arg14 arg15 I _ _ _ _)
  isplitl [HO]; · iexact HO
  iexact Hk

/-- The last norm's run. -/
theorem run_last (S : St F) (K : PUnit → sProp 𝕄) (h4 : k0_cond4 i = 1#1) :
    iprop(𝕆 I S ∗ (𝕆 I (s4 i I S) -∗ K ⟨⟩))
      ⊢ run c E (stepLast arg2 harg2 arg3 harg3 arg4 harg4 arg5 harg5 arg6 harg6 arg7 harg7 arg8 harg8 arg9 harg9 arg10 harg10 arg11 harg11 arg12 harg12 arg13 harg13 arg14 harg14 arg15 harg15) K := by
  rw [show s4 i I S = _ from if_pos h4]
  unfold own stepLast
  iintro ⟨⟨H2, H3, H4, H5, H6, H7, H8, H9, H10, H11, H12, H13, H14, H15⟩, Hk⟩
  iapply (run_ld c E) $$ H11; iintro H11
  iapply (run_epi c E)
  isplitl [H2]; · iexact H2
  isplitl [H12]; · iexact H12
  iintro ⟨H2, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A guarded part, then the rest: the part's run when the guard holds, nothing otherwise. -/
theorem run_guard {P : Prop} [Decidable P] (p : P → Prog (TpuEff nD τ sig (Elt F) Λ₀ .tc) PUnit) (k : Prog (TpuEff nD τ sig (Elt F) Λ₀ .tc) PUnit)
    (A B : sProp 𝕄) (K : PUnit → sProp 𝕄)
    (hp : ∀ (h : P) (K : PUnit → sProp 𝕄), iprop(A ∗ (B -∗ K ⟨⟩)) ⊢ run c E (p h) K) (hn : ¬ P → A = B) :
    iprop(A ∗ (B -∗ run c E k K)) ⊢ run c E (if h : P then (p h >>= fun _ => k) else k) K := by
  by_cases h : P
  · rw [dif_pos h]
    iintro ⟨HA, Hk⟩
    iapply (run_bind c E)
    iapply (hp h _)
    isplitl [HA]; · iexact HA
    iexact Hk
  · rw [dif_neg h, hn h]
    iintro ⟨HA, Hk⟩
    iapply Hk
    iexact HA

/-- The body's run. -/
theorem run_body (S : St F) (K : PUnit → sProp 𝕄) :
    iprop(𝕆 I S ∗ (𝕆 I (step i I S) -∗ K ⟨⟩))
      ⊢ run c E (cc0_conv_ffn (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  unfold body step
  iintro ⟨HO, Hk⟩
  iapply (run_guard c E _ _ _ (𝕆 I (s1 i S)) _
    (fun h K => run_zero c E i arg2 arg3 arg4 arg5 arg6 arg7 arg8 arg9 arg10 arg11 arg12 arg13 arg14 arg15 I S K h)
    (fun h => by rw [show s1 i S = S from if_neg h]))
  isplitl [HO]; · iexact HO
  iintro HO
  iapply (run_guard c E _ _ _ (𝕆 I (s2 i I (s1 i S))) _
    (fun h K => run_first c E i arg2 harg2 arg3 harg3 arg4 harg4 arg5 harg5 arg6 harg6 arg7 harg7 arg8 harg8 arg9 harg9 arg10 harg10 arg11 harg11 arg12 harg12 arg13 harg13 arg14 harg14 arg15 harg15 I (s1 i S) K h)
    (fun h => by rw [show s2 i I (s1 i S) = s1 i S from dif_neg h]))
  isplitl [HO]; · iexact HO
  iintro HO
  iapply (run_guard c E _ _ _ (𝕆 I (s3 i I (s2 i I (s1 i S)))) _
    (fun h K => run_rest c E i arg2 harg2 arg3 harg3 arg4 harg4 arg5 harg5 arg6 harg6 arg7 harg7 arg8 harg8 arg9 harg9 arg10 harg10 arg11 harg11 arg12 harg12 arg13 harg13 arg14 harg14 arg15 harg15 I (s2 i I (s1 i S)) K h)
    (fun h => by rw [show s3 i I (s2 i I (s1 i S)) = s2 i I (s1 i S) from dif_neg h]))
  isplitl [HO]; · iexact HO
  iintro HO
  iapply (run_guard c E _ _ _ (𝕆 I (s4 i I (s3 i I (s2 i I (s1 i S))))) _
    (fun h K => run_last c E i arg2 harg2 arg3 harg3 arg4 harg4 arg5 harg5 arg6 harg6 arg7 harg7 arg8 harg8 arg9 harg9 arg10 harg10 arg11 harg11 arg12 harg12 arg13 harg13 arg14 harg14 arg15 harg15 I (s3 i I (s2 i I (s1 i S))) K h)
    (fun h => by rw [show s4 i I (s3 i I (s2 i I (s1 i S))) = s3 i I (s2 i I (s1 i S)) from if_neg h]))
  isplitl [HO]; · iexact HO
  iintro HO
  iapply (run_ret c E ⟨⟩ K)
  iapply Hk
  iexact HO

end Cert.FfnKernelIdeal.Own

end
-- ==== Proof.Ffn.Frame.lean ====
/- The frame of the feed-forward call: the body at a grid point on the blocks staged there, the pipeline's proof data with
   the output's contents unstated, and the run of the whole program. -/
module

public import proofs.«01_k».proof.Proof.Ffn.Step
public import Idealize.ShloMosaic.Lib.Claim

@[expose] public section

set_option maxRecDepth 16384

noncomputable section

namespace Cert.FfnKernelIdeal.Own

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normed rows, the carried rows and the extended rows: whole scoped buffers passed beside the windows. -/
abbrev sxn : Memref sig .tc .vmem S1024x2048 .bf16 := Memref.whole cc0_scratch0
abbrev scy : Memref sig .tc .vmem S11x2x8x512 .f32 := Memref.whole cc0_scratch1
abbrev sext : Memref sig .tc .vmem S2x1032x512 .f32 := Memref.whole cc0_scratch2

/-- The region invariant, its scratch owned at some contents. -/
theorem PhiA_eq (c : Dev nD) :
    (Pipeline.ΦA spec0 c : sProp 𝕄)
      = iprop(iprop((∃ d, owns (c : Thread nD τ) sxn fullShare d) ∗ (∃ d, owns (c : Thread nD τ) scy fullShare d) ∗ (∃ d, owns (c : Thread nD τ) sext fullShare d)) ∗ (∃ r, prngReg c r)) := by
  unfold Pipeline.ΦA; rw [scopedRest0_eq]; simp only [sxn, scy, sext, owns_whole]; try rfl

/-- The blocks staged at a grid point. -/
def ins (c : Dev nD) (t : Fin cfg0.N) : Ins F where
  h := iblk m c 0 t
  g := iblk m c 1 t
  wg := iblk m c 2 t
  wv := iblk m c 3 t
  tg := iblk m c 4 t
  tv := iblk m c 5 t
  bg := iblk m c 6 t
  bv := iblk m c 7 t
  wd := iblk m c 8 t
  g' := iblk m c 9 t

/-- The inputs at their blocks. -/
def inb (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t))

/-- The body at any grid point, its inputs at their blocks. -/
theorem body_at (c : Dev nD) (t : Fin cfg0.N) (S : St F) (E : Set ℕ) (K : PUnit → sProp 𝕄) :
    iprop(inb m c t ∗ owns (c : Thread nD τ) (st0_10 t) fullShare S.o ∗ owns (c : Thread nD τ) sxn fullShare S.xn
        ∗ owns (c : Thread nD τ) scy fullShare S.cy ∗ owns (c : Thread nD τ) sext fullShare S.ext
        ∗ (iprop(inb m c t ∗ owns (c : Thread nD τ) (st0_10 t) fullShare (step (grid0.coords t) (ins m c t) S).o
            ∗ owns (c : Thread nD τ) sxn fullShare (step (grid0.coords t) (ins m c t) S).xn
            ∗ owns (c : Thread nD τ) scy fullShare (step (grid0.coords t) (ins m c t) S).cy
            ∗ owns (c : Thread nD τ) sext fullShare (step (grid0.coords t) (ins m c t) S).ext) -∗ K ⟨⟩))
      ⊢ wp Idealize.ShloMosaic.frame (wpE (defs₀ (F := F)) Variants.none c none) E (bodyAt0 t) K := by
  unfold inb bodyAt0
  iintro ⟨⟨H0, H1, H2, H3, H4, H5, H6, H7, H8, H9⟩, H10, H11, H12, H13, Hk⟩
  iapply (run_body c E (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) sxn (Memref.isWhole_whole _) scy (Memref.isWhole_whole _) sext (Memref.isWhole_whole _) (ins m c t) S K)
  unfold own
  isplitr [Hk]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro ⟨H0, H1, H2, H3, H4, H5, H6, H7, H8, H9, H10, H11, H12, H13⟩
  iapply Hk
  isplitr [H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  iexact H13

/-! ## The frame: the output's contents unstated -/

/-- Only the output window's contents are left unstated. -/
def forgets : Fin 11 → Bool := fun w => w.val == 10

/-- The proof data of the frame: inputs at their blocks, the output unstated, the scratch at some contents between
    grid points. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fafter_7 (c : Dev nD) (t : Fin cfg0.N) : (fdats m 0 c).after 7 t = iblk m c 7 t := by dsimp only [fdats]
theorem fafter_8 (c : Dev nD) (t : Fin cfg0.N) : (fdats m 0 c).after 8 t = iblk m c 8 t := by dsimp only [fdats]
theorem fafter_9 (c : Dev nD) (t : Fin cfg0.N) : (fdats m 0 c).after 9 t = iblk m c 9 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d
theorem fbefore_7 (c : Dev nD) (t : Fin cfg0.N) (d) : (fdats m 0 c).before 7 t d = iblk m c 7 t :=
  before0_7_of m (fdats m 0 c) (fA_eq m c 7) (fafter_7 m c) t d
theorem fbefore_8 (c : Dev nD) (t : Fin cfg0.N) (d) : (fdats m 0 c).before 8 t d = iblk m c 8 t :=
  before0_8_of m (fdats m 0 c) (fA_eq m c 8) (fafter_8 m c) t d
theorem fbefore_9 (c : Dev nD) (t : Fin cfg0.N) (d) : (fdats m 0 c).before 9 t d = iblk m c 9 t :=
  before0_9_of m (fdats m 0 c) (fA_eq m c 9) (fafter_9 m c) t d

/-- What the body is called with at point `t`, -/
def fpre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ d, owns (c : Thread nD τ) (st0_7 t) fullShare ((fdats m 0 c).before 7 t d))
    ∗ (∃ d, owns (c : Thread nD τ) (st0_8 t) fullShare ((fdats m 0 c).before 8 t d))
    ∗ (∃ d, owns (c : Thread nD τ) (st0_9 t) fullShare ((fdats m 0 c).before 9 t d))
    ∗ (∃ d, owns (c : Thread nD τ) (st0_10 t) fullShare d))

/-- and what it returns. -/
def fpost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ owns (c : Thread nD τ) (st0_7 t) fullShare ((fdats m 0 c).after 7 t)
    ∗ owns (c : Thread nD τ) (st0_8 t) fullShare ((fdats m 0 c).after 8 t)
    ∗ owns (c : Thread nD τ) (st0_9 t) fullShare ((fdats m 0 c).after 9 t)
    ∗ (∃ d, owns (c : Thread nD τ) (st0_10 t) fullShare d))

/-- The body obligation's triple at any grid point. -/
theorem fsound (c : Dev nD) (t : Fin cfg0.N) :
    fpre m c t ⊢ wp Idealize.ShloMosaic.frame (wpE (defs₀ (F := F)) Variants.none c none) Set.univ (bodyAt0 t) (fun _ => fpost m c t) := by
  unfold fpre fpost
  simp only [fbefore_0, fbefore_1, fbefore_2, fbefore_3, fbefore_4, fbefore_5, fbefore_6, fbefore_7, fbefore_8, fbefore_9]
  rw [show (fdats m 0 c).Φ t.succ = (fdats m 0 c).Φ t.castSucc from rfl,
    show (fdats m 0 c).owesAt () t.succ = (fdats m 0 c).owesAt () t.castSucc from rfl,
    fafter_0, fafter_1, fafter_2, fafter_3, fafter_4, fafter_5, fafter_6, fafter_7, fafter_8, fafter_9]
  rw [show (fdats m 0 c).Φ t.castSucc = Pipeline.ΦA spec0 c from rfl, PhiA_eq]
  iintro ⟨⟨⟨⟨%d11, H11⟩, ⟨%d12, H12⟩, ⟨%d13, H13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_at m c t ⟨d10, d11, d12, d13⟩ Set.univ _)
  isplitl [H0 H1 H2 H3 H4 H5 H6 H7 H8 H9]
  · unfold inb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  isplitl [H13]; · iexact H13
  unfold inb
  iintro ⟨⟨H0, H1, H2, H3, H4, H5, H6, H7, H8, H9⟩, H10, H11, H12, H13⟩
  isplitl [H11 H12 H13 Hg]
  · isplitr [Hg]
    · isplitl [H11]; · iexists _; iexact H11
      isplitl [H12]; · iexists _; iexact H12
      iexists _; iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The body table's row at point `t`'s slots is the body at that point. -/
theorem row (t : Fin cfg0.N) :
    defs₀ (F := F) .tc cfg0.body (cfg0.bodyArgs t (cfg0.slots t)) = bodyAt0 t := by
  unfold defs₀; rw [Defs.onTc_tc]

theorem fobligation (c : Dev nD) : BodyObligation (fdats (F := F) m 0 c) (defs₀ (F := F)) Variants.none () Set.univ forgets := fun t => by
  rw [bigSep_W0, bigSep_W0, row]
  exact triple_restated (fsound m c t) rfl .rfl fun _ => .rfl

set_option backward.isDefEq.respectTransparency.types false in
/-- Every execution of the program ends, with every counter at zero. -/
theorem frun : θ_run defs (onTc (τ := τ) (main (F := F))) (s₀ m ρ) (fun r => (Pipeline.RDat.FramePost (cfgs 0) (fun c => (fdats m 0 c).toRForget forgets) (V m)) r ∧ r.2.sem = fun _ => 0) :=
  Pipeline.θ_run_frame_forget_shared (Q' := _) cfgs (fdats m) (0 : Fin 1) launch₀0 defs₀ Variants.none forgets m ρ main
    (hbody := fun c => (fobligation m c).loose) (hq := fun c w _ => rfl)
    (howed := fun _ _ => rfl) (V := V m) (hmain := hmain m Variants.none) (hA := fA_eq m) (hΦ := fun _ _ => rfl)

/-- The arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (((Pipeline.RDat.ArrAt_in ((fdats m 0 c).toRForget forgets) 5 rfl cfg0.N).symm ▸ (h.1 c).1 5)).trans ((fA_eq m c 5).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (frun m ρ)

end Cert.FfnKernelIdeal.Own

end
-- ==== Proof.Ffn.Same.lean ====
/- The feed-forward kernel and its idealization have the same text: their programs and body tables are equal at any
   formats, so a run of the one is a run of the other. -/
module

public import proofs.«01_k».proof.Proof.Ffn.Frame
public import proofs.«01_k».proof.Proof.Gen.FfnKernel

@[expose] public section

noncomputable section

namespace Cert.FfnKernel.Own

open Idealize.ShloMosaic

variable {F : FTy → Type} [FloatOps F]

/-- The bodies of the call are the same program. -/
theorem same_body : Cert.FfnKernel.cc0_conv_ffn (F := F) = Cert.FfnKernelIdeal.cc0_conv_ffn (F := F) := rfl

/-- The host programs are the same. -/
theorem same_main : Cert.FfnKernel.main (F := F) = Cert.FfnKernelIdeal.main (F := F) := rfl

/-- The tables of bodies are the same: each has the one label. -/
theorem same_defs₀ : Cert.FfnKernel.defs₀ (F := F) = Cert.FfnKernelIdeal.defs₀ (F := F) := by
  funext c
  cases c
  · funext ℓ a
    match ℓ, a with
    | 0, (t, s) => exact rfl
  · rfl
  · rfl

/-- The tables of bodies and pipelines are the same. -/
theorem same_defs : Cert.FfnKernel.defs (F := F) = Cert.FfnKernelIdeal.defs (F := F) :=
  congrArg (Pipeline.defs Cert.FfnKernelIdeal.pcfgs) same_defs₀

end Cert.FfnKernel.Own

end
-- ==== Proof.Ffn.Spec.lean ====
/- The feed-forward part, entry by entry, with exact numbers. -/
module

public import proofs.«01_k».proof.Proof.Gen.FfnKernelIdeal.Skeleton
public import Idealize.ShloMosaic.Lib.Pipeline.Value
public import Idealize.ShloMosaic.Lib.Pointwise

@[expose] public section

set_option maxRecDepth 16384

noncomputable section

namespace Cert.Ffn

open Cert.FfnKernelIdeal
open Idealize.ShloMosaic Idealize.ShloMosaic.TcCoe

/-- The arguments. -/
structure Args where
  h : S4x4096x2048.Idx → EReal
  g : S2x2048.Idx → EReal
  w : S2x2048x11264.Idx → EReal
  tp : S2x3x11264.Idx → EReal
  b : S2x11264.Idx → EReal
  wd : S2x5632x2048.Idx → EReal
  g' : S2x2048.Idx → EReal

/-- A vector divided by its root mean square, times a gain. -/
def nm (x g : Fin 2048 → EReal) (k : Fin 2048) : EReal :=
  x k * Ideal.rsqrt (Ideal.div (∑ d, x d * x d) (Ideal.ofBits .f32 0x45000000#32) + Ideal.ofBits .f32 0x358637BD#32) * g k

variable (A : Args)

/-- A row of the residual stream, the batches one after another. -/
def row (n : ℕ) (k : Fin 2048) : EReal := A.h (ix3 (Fin.ofNat 4 (n / 4096)) (Fin.ofNat 4096 n) k)

/-- A gain of the second layer. -/
def gain (g : S2x2048.Idx → EReal) (k : Fin 2048) : EReal := g (ix2 1 k)

/-- The up projection. -/
def upp (n c : ℕ) : EReal := ∑ k, nm (row A n) (gain A.g) k * A.w (ix3 1 k (Fin.ofNat 11264 c))

/-- The up projection's row at a tap: zero before the sequence starts. -/
def sh (n j c : ℕ) : EReal := if n % 4096 + j < 2 then 0 else upp A (n + j - 2) c

/-- A tap. -/
def tap (j : Fin 3) (c : ℕ) : EReal := A.tp (ix3 1 j (Fin.ofNat 11264 c))

/-- A bias. -/
def bias (c : ℕ) : EReal := A.b (ix2 1 (Fin.ofNat 11264 c))

/-- The convolution over the sequence. -/
def cv (n c : ℕ) : EReal := bias A c + tap A 0 c * sh A n 0 c + tap A 1 c * sh A n 1 c + tap A 2 c * sh A n 2 c

/-- The gated activation. -/
def act (n u : ℕ) : EReal := cv A n u * Ideal.logistic (cv A n u) * cv A n (u + 5632)

/-- The down projection's weight. -/
def dw (u : ℕ) (d : Fin 2048) : EReal := A.wd (ix3 1 (Fin.ofNat 5632 u) d)

/-- The down projection over the first columns. -/
def part (n q : ℕ) (d : Fin 2048) : EReal := ∑ u ∈ Finset.range q, act A n u * dw A u d

/-- The result's entry. -/
def out (n : ℕ) (d : Fin 2048) : EReal := row A n d + nm (part A n 5632) (gain A.g') d

/-- The result, as the result array holds it. -/
def tgt : S16384x2048.Idx → EReal := fun y => out A (y 0).val ⟨(y 1).val, (y 1).isLt⟩

/-- The up projection's rows above a row block and in it: zero before the sequence starts. -/
def ex (base q c : ℕ) : EReal := if base % 4096 + q < 8 then 0 else upp A (base + q - 8) c

theorem part_add (n q r : ℕ) (d : Fin 2048) : part A n (q + r) d = part A n q d + ∑ u : Fin r, act A n (q + u.val) * dw A (q + u.val) d := by
  unfold part
  rw [Finset.sum_range_add, Finset.sum_range (n := r)]

theorem ex_sh (k r j c : ℕ) (hr : r < 1024) : ex A (1024 * k) (r + (6 + j)) c = sh A (1024 * k + r) j c := by
  unfold ex sh
  have e : 1024 * k + (r + (6 + j)) - 8 = 1024 * k + r + j - 2 := by omega
  rw [e]
  by_cases h : (1024 * k + r) % 4096 + j < 2
  · rw [if_pos h, if_pos (by omega)]
  · rw [if_neg h, if_neg (by omega)]

theorem nm_congr {x x' g g' : Fin 2048 → EReal} (hx : ∀ k, x k = x' k) (hg : ∀ k, g k = g' k) (k : Fin 2048) : nm x g k = nm x' g' k := by
  rw [funext hx, funext hg]

end Cert.Ffn
-- ==== Proof.Ffn.Pay.lean ====
/- The feed-forward body's operations at an index, at exact numbers. -/
module

public import proofs.«01_k».proof.Proof.Ffn.Spec
public import proofs.«01_k».proof.Proof.Ffn.Run
public import Idealize.ShloMosaic.Lib.Pointwise

@[expose] public section

set_option maxRecDepth 16384

noncomputable section

namespace Cert.FfnKernelIdeal.Own

open Cert.FfnKernelIdeal Cert.FfnKernelIdeal.Gen
open Idealize.ShloMosaic Idealize.ShloMosaic.TcCoe
open Cert.Ffn (nm)

theorem pay1_apply (w : Fin 2) (p : Fin 8) (z : Fin 512) : k0_pay1 (F := Ideal) (ix4 0 w p z) = (0 : EReal) := by
  pointwise [k0_pay1]

theorem pay3_apply (x y : Vec Ideal S1024x2048 .f32) (r : Fin 1024) (d : Fin 2048) :
    k0_pay3 x y (ix2 r d) = @HAdd.hAdd EReal EReal EReal _ (y (ix2 r d)) (x (ix2 r d)) := by
  pointwise [k0_pay3]

theorem pay6_apply (x : Vec Ideal S1x1x2048 .f32) (k : Fin 2048) : k0_pay6 x (ix2 0 k) = x (ix3 0 0 k) := by
  pointwise [k0_pay6]

theorem pay141_apply (x : Vec Ideal S1x1x2048 .f32) (k : Fin 2048) : k0_pay141 x (ix2 0 k) = x (ix3 0 0 k) := by
  pointwise [k0_pay141]

theorem pay104_apply (g : FVec Ideal S1x2048 .f32) (x : Vec Ideal S16x2048 .f32) (r : Fin 16) (k : Fin 2048) :
    k0_pay104 g x (ix2 r k) = nm (fun d => x (ix2 r d)) (fun d => g (ix2 0 d)) k := by
  unfold nm
  pointwise [k0_pay104]

theorem pay5_apply (g : FVec Ideal S1x2048 .f32) (x o : Vec Ideal S8x2048 .f32) (r : Fin 8) (k : Fin 2048) :
    k0_pay5 g x o (ix2 r k) = @HAdd.hAdd EReal EReal EReal _ (x (ix2 r k)) (nm (fun d => o (ix2 r d)) (fun d => g (ix2 0 d)) k) := by
  unfold nm
  pointwise [k0_pay5]

theorem pay123_apply (x : Vec Ideal S1x2x8x512 .f32) (w : Fin 2) (p : Fin 8) (z : Fin 512) : k0_pay123 x (ix3 w p z) = x (ix4 0 w p z) := by
  pointwise [k0_pay123]

theorem pay126_apply (x : Vec Ideal S2x8x512 .f32) (w : Fin 2) (p : Fin 8) (z : Fin 512) : k0_pay126 x (ix4 0 w p z) = x (ix3 w p z) := by
  pointwise [k0_pay126]

theorem pay124_apply (x : Vec Ideal S1024x2048 .bf16) (w : Vec Ideal S1x2048x512 .bf16) (r : Fin 1024) (z : Fin 512) :
    k0_pay124 x w (ix3 0 r z) = ∑ k : Fin 2048, x (ix2 r k) * w (ix3 0 k z) := by
  pointwise [k0_pay124]

theorem pay125_apply (x : Vec Ideal S1024x2048 .bf16) (w : Vec Ideal S1x2048x512 .bf16) (r : Fin 1024) (z : Fin 512) :
    k0_pay125 x w (ix3 0 r z) = ∑ k : Fin 2048, x (ix2 r k) * w (ix3 0 k z) := by
  pointwise [k0_pay125]

/-- A convolution of three rows. -/
def cv3 (b t0 t1 t2 x0 x1 x2 : EReal) : EReal := b + t0 * x0 + t1 * x1 + t2 * x2

theorem down_apply (v103 : Vec Ideal S1x3x256 .f32) (v105 v107 v109 : Vec Ideal S1x1024x256 .f32) (v111 : Vec Ideal S1x1x256 .f32)
    (v126 : Vec Ideal S1x3x256 .f32) (v128 v130 v132 : Vec Ideal S1x1024x256 .f32) (v134 : Vec Ideal S1x1x256 .f32) (v153 : Vec Ideal S1x256x2048 .bf16)
    (r : Fin 1024) (d : Fin 2048) :
    down v103 v105 v107 v109 v111 v126 v128 v130 v132 v134 v153 (ix2 r d)
      = ∑ u : Fin 256, cv3 (v111 (ix3 0 0 u)) (v103 (ix3 0 0 u)) (v103 (ix3 0 1 u)) (v103 (ix3 0 2 u)) (v105 (ix3 0 r u)) (v107 (ix3 0 r u)) (v109 (ix3 0 r u))
          * Ideal.logistic (cv3 (v111 (ix3 0 0 u)) (v103 (ix3 0 0 u)) (v103 (ix3 0 1 u)) (v103 (ix3 0 2 u)) (v105 (ix3 0 r u)) (v107 (ix3 0 r u)) (v109 (ix3 0 r u)))
          * cv3 (v134 (ix3 0 0 u)) (v126 (ix3 0 0 u)) (v126 (ix3 0 1 u)) (v126 (ix3 0 2 u)) (v128 (ix3 0 r u)) (v130 (ix3 0 r u)) (v132 (ix3 0 r u))
          * v153 (ix3 0 u d) := by
  unfold cv3
  pointwise [down, k0_pay140, k0_pay139, k0_pay138, k0_pay137, k0_pay136, k0_pay135]

end Cert.FfnKernelIdeal.Own
-- ==== Proof.Ffn.Pure.lean ====
/- What the feed-forward body's parts leave, entry by entry, at exact numbers. -/
module

public import proofs.«01_k».proof.Proof.Ffn.Pay
public import proofs.«01_k».proof.Proof.Ffn.Step

@[expose] public section

set_option maxRecDepth 16384

noncomputable section

namespace Cert.FfnKernelIdeal.Own

open Cert.FfnKernelIdeal Cert.FfnKernelIdeal.Gen
open Idealize.ShloMosaic Idealize.ShloMosaic.TcCoe
open Cert.Ffn

/-- A store's payload, read where it lies. -/
theorem pt_hit {s : Shape} {e : EltTy} (x : Vec Ideal s e) (off size : Fin s.rank → ℕ) (w : ((a : Fin s.rank) → Fin (size a)) → Elt Ideal e)
    (y : s.Idx) (z : (a : Fin s.rank) → Fin (size a)) (h : ∀ a, (y a).val = off a + (z a).val) : pt x off size w y = w z := by
  have hm : ∀ a, off a ≤ (y a).val ∧ (y a).val < off a + size a := fun a => by
    have := (z a).isLt
    have := h a
    omega
  show (if h : ∀ a, off a ≤ (y a).val ∧ (y a).val < off a + size a then w (Rect.unitLocal (s := s) (off := off) (size := size) y h) else x y) = _
  rw [dif_pos hm]
  refine congrArg w (funext fun a => Fin.ext ?_)
  show (y a).val - off a = (z a).val
  have := h a
  omega

/-- A store read beside where it lies. -/
theorem pt_miss {s : Shape} {e : EltTy} (x : Vec Ideal s e) (off size : Fin s.rank → ℕ) (w : ((a : Fin s.rank) → Fin (size a)) → Elt Ideal e)
    (y : s.Idx) (a : Fin s.rank) (h : (y a).val < off a ∨ off a + size a ≤ (y a).val) : pt x off size w y = x y := by
  show (if h : ∀ a, off a ≤ (y a).val ∧ (y a).val < off a + size a then w (Rect.unitLocal (s := s) (off := off) (size := size) y h) else x y) = _
  rw [dif_neg fun hm => by have := hm a; omega]

/-- A load, read at an index. -/
theorem rd_at {s : Shape} {e : EltTy} (x : Vec Ideal s e) (off size : Fin s.rank → ℕ) (inb : ∀ a, off a + size a ≤ s.size a)
    (z : (Rect.unit off size inb).shape.Idx) (y : s.Idx) (h : ∀ a, (y a).val = off a + (z a).val) : rd x off size inb z = x y := by
  refine congrArg x (funext fun a => Fin.ext ?_)
  show off a + 1 * (z a).val = (y a).val
  have := h a
  omega

theorem rd3 {n0 n1 n2 m0 m1 m2 : ℕ} {e : EltTy} (x : Vec Ideal ⟨3, ![n0, n1, n2]⟩ e) (o0 o1 o2 : ℕ)
    (inb : ∀ a, (![o0, o1, o2] : Fin 3 → ℕ) a + (⟨3, ![m0, m1, m2]⟩ : Shape).size a ≤ (⟨3, ![n0, n1, n2]⟩ : Shape).size a)
    (z0 : Fin m0) (z1 : Fin m1) (z2 : Fin m2) (y0 : Fin n0) (y1 : Fin n1) (y2 : Fin n2)
    (h0 : y0.val = o0 + z0.val) (h1 : y1.val = o1 + z1.val) (h2 : y2.val = o2 + z2.val) :
    rd x ![o0, o1, o2] (⟨3, ![m0, m1, m2]⟩ : Shape).size inb (ix3 z0 z1 z2) = x (ix3 y0 y1 y2) :=
  rd_at x _ _ _ _ _ fun a => match a with
    | ⟨0, _⟩ => h0
    | ⟨1, _⟩ => h1
    | ⟨2, _⟩ => h2

theorem rd2 {n0 n1 m0 m1 : ℕ} {e : EltTy} (x : Vec Ideal ⟨2, ![n0, n1]⟩ e) (o0 o1 : ℕ)
    (inb : ∀ a, (![o0, o1] : Fin 2 → ℕ) a + (⟨2, ![m0, m1]⟩ : Shape).size a ≤ (⟨2, ![n0, n1]⟩ : Shape).size a)
    (z0 : Fin m0) (z1 : Fin m1) (y0 : Fin n0) (y1 : Fin n1)
    (h0 : y0.val = o0 + z0.val) (h1 : y1.val = o1 + z1.val) :
    rd x ![o0, o1] (⟨2, ![m0, m1]⟩ : Shape).size inb (ix2 z0 z1) = x (ix2 y0 y1) :=
  rd_at x _ _ _ _ _ fun a => match a with
    | ⟨0, _⟩ => h0
    | ⟨1, _⟩ => h1

theorem rd4 {n0 n1 n2 n3 m0 m1 m2 m3 : ℕ} {e : EltTy} (x : Vec Ideal ⟨4, ![n0, n1, n2, n3]⟩ e) (off : Fin 4 → ℕ)
    (inb : ∀ a, off a + (⟨4, ![m0, m1, m2, m3]⟩ : Shape).size a ≤ (⟨4, ![n0, n1, n2, n3]⟩ : Shape).size a)
    (z0 : Fin m0) (z1 : Fin m1) (z2 : Fin m2) (z3 : Fin m3) (y0 : Fin n0) (y1 : Fin n1) (y2 : Fin n2) (y3 : Fin n3)
    (h0 : y0.val = off 0 + z0.val) (h1 : y1.val = off 1 + z1.val) (h2 : y2.val = off 2 + z2.val) (h3 : y3.val = off 3 + z3.val) :
    rd x off (⟨4, ![m0, m1, m2, m3]⟩ : Shape).size inb (ix4 z0 z1 z2 z3) = x (ix4 y0 y1 y2 y3) :=
  rd_at x _ _ _ _ _ fun a => match a with
    | ⟨0, _⟩ => h0
    | ⟨1, _⟩ => h1
    | ⟨2, _⟩ => h2
    | ⟨3, _⟩ => h3

theorem pt2_hit {n0 n1 m0 m1 : ℕ} {e : EltTy} (x : Vec Ideal ⟨2, ![n0, n1]⟩ e) (o0 o1 : ℕ) (w : Vec Ideal ⟨2, ![m0, m1]⟩ e)
    (y0 : Fin n0) (y1 : Fin n1) (z0 : Fin m0) (z1 : Fin m1) (h0 : y0.val = o0 + z0.val) (h1 : y1.val = o1 + z1.val) :
    pt x ![o0, o1] (⟨2, ![m0, m1]⟩ : Shape).size w (ix2 y0 y1) = w (ix2 z0 z1) :=
  pt_hit x _ _ w _ (ix2 z0 z1) fun a => match a with
    | ⟨0, _⟩ => h0
    | ⟨1, _⟩ => h1

theorem pt2_miss {n0 n1 m0 m1 : ℕ} {e : EltTy} (x : Vec Ideal ⟨2, ![n0, n1]⟩ e) (o0 o1 : ℕ) (w : Vec Ideal ⟨2, ![m0, m1]⟩ e)
    (y0 : Fin n0) (y1 : Fin n1) (h : y0.val < o0 ∨ o0 + m0 ≤ y0.val) :
    pt x ![o0, o1] (⟨2, ![m0, m1]⟩ : Shape).size w (ix2 y0 y1) = x (ix2 y0 y1) :=
  pt_miss x _ _ w _ 0 h

theorem pt3_hit {n0 n1 n2 m0 m1 m2 : ℕ} {e : EltTy} (x : Vec Ideal ⟨3, ![n0, n1, n2]⟩ e) (o0 o1 o2 : ℕ) (w : Vec Ideal ⟨3, ![m0, m1, m2]⟩ e)
    (y0 : Fin n0) (y1 : Fin n1) (y2 : Fin n2) (z0 : Fin m0) (z1 : Fin m1) (z2 : Fin m2)
    (h0 : y0.val = o0 + z0.val) (h1 : y1.val = o1 + z1.val) (h2 : y2.val = o2 + z2.val) :
    pt x ![o0, o1, o2] (⟨3, ![m0, m1, m2]⟩ : Shape).size w (ix3 y0 y1 y2) = w (ix3 z0 z1 z2) :=
  pt_hit x _ _ w _ (ix3 z0 z1 z2) fun a => match a with
    | ⟨0, _⟩ => h0
    | ⟨1, _⟩ => h1
    | ⟨2, _⟩ => h2

theorem pt3_miss {n0 n1 n2 m0 m1 m2 : ℕ} {e : EltTy} (x : Vec Ideal ⟨3, ![n0, n1, n2]⟩ e) (o0 o1 o2 : ℕ) (w : Vec Ideal ⟨3, ![m0, m1, m2]⟩ e)
    (y0 : Fin n0) (y1 : Fin n1) (y2 : Fin n2) (h : (y0.val < o0 ∨ o0 + m0 ≤ y0.val) ∨ (y1.val < o1 ∨ o1 + m1 ≤ y1.val)) :
    pt x ![o0, o1, o2] (⟨3, ![m0, m1, m2]⟩ : Shape).size w (ix3 y0 y1 y2) = x (ix3 y0 y1 y2) :=
  h.elim (fun h => pt_miss x _ _ w _ 0 h) (fun h => pt_miss x _ _ w _ 1 h)

theorem pt4_hit {n0 n1 n2 n3 m0 m1 m2 m3 : ℕ} {e : EltTy} (x : Vec Ideal ⟨4, ![n0, n1, n2, n3]⟩ e) (off : Fin 4 → ℕ) (w : Vec Ideal ⟨4, ![m0, m1, m2, m3]⟩ e)
    (y0 : Fin n0) (y1 : Fin n1) (y2 : Fin n2) (y3 : Fin n3) (z0 : Fin m0) (z1 : Fin m1) (z2 : Fin m2) (z3 : Fin m3)
    (h0 : y0.val = off 0 + z0.val) (h1 : y1.val = off 1 + z1.val) (h2 : y2.val = off 2 + z2.val) (h3 : y3.val = off 3 + z3.val) :
    pt x off (⟨4, ![m0, m1, m2, m3]⟩ : Shape).size w (ix4 y0 y1 y2 y3) = w (ix4 z0 z1 z2 z3) :=
  pt_hit x _ _ w _ (ix4 z0 z1 z2 z3) fun a => match a with
    | ⟨0, _⟩ => h0
    | ⟨1, _⟩ => h1
    | ⟨2, _⟩ => h2
    | ⟨3, _⟩ => h3

theorem pt4_miss {n0 n1 n2 n3 m0 m1 m2 m3 : ℕ} {e : EltTy} (x : Vec Ideal ⟨4, ![n0, n1, n2, n3]⟩ e) (off : Fin 4 → ℕ) (w : Vec Ideal ⟨4, ![m0, m1, m2, m3]⟩ e)
    (y0 : Fin n0) (y1 : Fin n1) (y2 : Fin n2) (y3 : Fin n3) (h : y0.val < off 0 ∨ off 0 + m0 ≤ y0.val) :
    pt x off (⟨4, ![m0, m1, m2, m3]⟩ : Shape).size w (ix4 y0 y1 y2 y3) = x (ix4 y0 y1 y2 y3) :=
  pt_miss x _ _ w _ 0 h

/-! ## The norms -/

theorem preOut_succ (X : Vec Ideal S1024x2048 .f32) (g : FVec Ideal S1x2048 .f32) (n : ℕ) (d : Vec Ideal S1024x2048 .bf16) :
    preOut X g (n + 1) d = preOut X g n (pt d ![16 * (63 - n), 0] S16x2048.size (k0_pay104 g (rd X ![16 * (63 - n), 0] S16x2048.size (inbP (63 - n) (by omega))))) := rfl

/-- The last steps of the first norm: the rows from theirs on normed, the others as they were. -/
theorem preOut_apply (X : Vec Ideal S1024x2048 .f32) (g : FVec Ideal S1x2048 .f32) (n : ℕ) (hn : n ≤ 64) (d : Vec Ideal S1024x2048 .bf16) (r : Fin 1024) (k : Fin 2048) :
    preOut X g n d (ix2 r k) = if 16 * (64 - n) ≤ r.val then nm (fun z => X (ix2 r z)) (fun z => g (ix2 0 z)) k else d (ix2 r k) := by
  induction n generalizing d with
  | zero => rw [if_neg (by omega)]; rfl
  | succ n ih =>
    rw [preOut_succ, ih (by omega)]
    by_cases h1 : 16 * (64 - n) ≤ r.val
    · rw [if_pos h1, if_pos (by omega)]
    rw [if_neg h1]
    by_cases h2 : 16 * (64 - (n + 1)) ≤ r.val
    · rw [if_pos h2]
      have hr : r.val - 16 * (63 - n) < 16 := by omega
      refine (pt2_hit d _ _ _ r k (⟨r.val - 16 * (63 - n), hr⟩ : Fin 16) k (by show r.val = 16 * (63 - n) + (r.val - 16 * (63 - n)); omega) (by omega)).trans ?_
      rw [pay104_apply]
      exact nm_congr (fun z => rd2 X _ _ _ _ _ _ _ (by show r.val = 16 * (63 - n) + (r.val - 16 * (63 - n)); omega) (by omega)) (fun _ => rfl) k
    · rw [if_neg h2]
      exact pt2_miss d _ _ _ _ _ (Or.inl (by omega))

theorem epiOut_succ (X : Vec Ideal S1024x2048 .f32) (g : FVec Ideal S1x2048 .f32) (n : ℕ) (d : Vec Ideal S1024x2048 .f32) :
    epiOut X g (n + 1) d = epiOut X g n (pt d ![8 * (127 - n), 0] S8x2048.size (k0_pay5 g (rd X ![8 * (127 - n), 0] S8x2048.size (inbE (127 - n) (by omega)))
      (rd d ![8 * (127 - n), 0] S8x2048.size (inbE (127 - n) (by omega))))) := rfl

/-- The last steps of the last norm: the rows from theirs on are the residual plus the normed, the others as they were. -/
theorem epiOut_apply (X : Vec Ideal S1024x2048 .f32) (g : FVec Ideal S1x2048 .f32) (n : ℕ) (hn : n ≤ 128) (d : Vec Ideal S1024x2048 .f32) (r : Fin 1024) (k : Fin 2048) :
    epiOut X g n d (ix2 r k) = if 8 * (128 - n) ≤ r.val then
      @HAdd.hAdd EReal EReal EReal _ (X (ix2 r k)) (nm (fun z => d (ix2 r z)) (fun z => g (ix2 0 z)) k) else d (ix2 r k) := by
  induction n generalizing d with
  | zero => rw [if_neg (by omega)]; rfl
  | succ n ih =>
    rw [epiOut_succ, ih (by omega)]
    by_cases h1 : 8 * (128 - n) ≤ r.val
    · rw [if_pos h1, if_pos (by omega)]
      refine congrArg (fun z => @HAdd.hAdd EReal EReal EReal _ (X (ix2 r k)) z) (nm_congr (fun z => ?_) (fun _ => rfl) k)
      exact pt2_miss d _ _ _ _ _ (Or.inr (by omega))
    rw [if_neg h1]
    by_cases h2 : 8 * (128 - (n + 1)) ≤ r.val
    · rw [if_pos h2]
      have hr : r.val - 8 * (127 - n) < 8 := by omega
      refine (pt2_hit d _ _ _ r k (⟨r.val - 8 * (127 - n), hr⟩ : Fin 8) k (by show r.val = 8 * (127 - n) + (r.val - 8 * (127 - n)); omega) (by omega)).trans ?_
      rw [pay5_apply]
      have e : ∀ (Y : Vec Ideal S1024x2048 .f32) (z : Fin 2048), rd Y ![8 * (127 - n), 0] S8x2048.size (inbE (127 - n) (by omega)) (ix2 (⟨r.val - 8 * (127 - n), hr⟩ : Fin 8) z) = Y (ix2 r z) :=
        fun Y z => rd2 Y _ _ _ _ _ _ _ (by show r.val = 8 * (127 - n) + (r.val - 8 * (127 - n)); omega) (by omega)
      exact congrArg₂ (fun a b => @HAdd.hAdd EReal EReal EReal _ a b) (e X k) (nm_congr (e d) (fun _ => rfl) k)
    · rw [if_neg h2]
      exact pt2_miss d _ _ _ _ _ (Or.inl (by omega))

/-! ## The up projection -/

section
variable (W4 W5 : Vec Ideal S1x2048x512 .bf16) (xn : Vec Ideal S1024x2048 .bf16) (cy : Vec Ideal S1x2x8x512 .f32) (d : Vec Ideal S2x1032x512 .f32)

/-- The rows above are the carried ones. -/
theorem upOut_top (w : Fin 2) (q : Fin 1032) (hq : q.val < 8) (z : Fin 512) : upOut W4 W5 xn cy d (ix3 w q z) = cy (ix4 0 w ⟨q.val, hq⟩ z) := by
  unfold upOut
  refine (pt3_miss _ _ _ _ _ _ _ _ (Or.inr (Or.inl (by omega)))).trans ((pt3_miss _ _ _ _ _ _ _ _ (Or.inr (Or.inl (by omega)))).trans
    ((pt3_hit _ _ _ _ _ w q z w (⟨q.val, hq⟩ : Fin 8) z (by omega) (by show q.val = 0 + q.val; omega) (by omega)).trans ?_))
  rw [pay123_apply]

/-- The rows below are the products. -/
theorem upOut_low (w : Fin 2) (q : Fin 1032) (r : Fin 1024) (hq : q.val = 8 + r.val) (z : Fin 512) :
    upOut W4 W5 xn cy d (ix3 w q z) = ∑ k : Fin 2048, xn (ix2 r k) * (if w.val = 0 then W4 else W5) (ix3 0 k z) := by
  unfold upOut
  have ex : ∀ k : Fin 2048, rd xn ![0, 0] S1024x2048.size inb_S1024x2048_S1024x2048_0_0 (ix2 r k) = xn (ix2 r k) :=
    fun k => rd2 xn _ _ _ _ _ _ _ (by omega) (by omega)
  have ew : ∀ (W : Vec Ideal S1x2048x512 .bf16) (k : Fin 2048), rd W ![0, 0, 0] S1x2048x512.size inb_S1x2048x512_S1x2048x512_0_0_0 (ix3 0 k z) = W (ix3 0 k z) :=
    fun W k => rd3 W _ _ _ _ _ _ _ _ _ _ (by omega) (by omega) (by omega)
  by_cases hw : w.val = 0
  · rw [if_pos hw]
    refine (pt3_miss _ _ _ _ _ _ _ _ (Or.inl (Or.inl (by omega)))).trans ((pt3_hit _ _ _ _ _ w q z (0 : Fin 1) r z (by show w.val = 0 + 0; omega) hq (by omega)).trans ?_)
    rw [pay124_apply]
    exact Finset.sum_congr rfl fun k _ => congrArg₂ (fun a b => @HMul.hMul EReal EReal EReal _ a b) (ex k) (ew W4 k)
  · rw [if_neg hw]
    refine (pt3_hit _ _ _ _ _ w q z (0 : Fin 1) r z (by show w.val = 1 + 0; omega) hq (by omega)).trans ?_
    rw [pay125_apply]
    exact Finset.sum_congr rfl fun k _ => congrArg₂ (fun a b => @HMul.hMul EReal EReal EReal _ a b) (ex k) (ew W5 k)

end

/-- The column tile's carried rows after the up projection: the last of the extended rows. -/
theorem carryOut_hit (e : Vec Ideal S2x1032x512 .f32) (f : ℕ) (off : Fin 4 → ℕ) (hoff : off = ![f, 0, 0, 0]) (d : Vec Ideal S11x2x8x512 .f32)
    (f' : Fin 11) (hf : f'.val = f) (w : Fin 2) (p : Fin 8) (z : Fin 512) :
    carryOut e off d (ix4 f' w p z) = e (ix3 w ⟨1024 + p.val, by omega⟩ z) := by
  subst hoff
  unfold carryOut
  refine (pt4_hit _ _ _ f' w p z (0 : Fin 1) w p z (by show f'.val = f + 0; omega) (by show w.val = 0 + w.val; omega) (by show p.val = 0 + p.val; omega)
    (by show z.val = 0 + z.val; omega)).trans ?_
  rw [pay126_apply]
  exact rd3 e _ _ _ _ _ _ _ _ _ _ (by omega) (by show 1024 + p.val = 1024 + p.val; rfl) (by omega)

/-- The other column tiles' carried rows are as they were. -/
theorem carryOut_miss (e : Vec Ideal S2x1032x512 .f32) (f : ℕ) (off : Fin 4 → ℕ) (hoff : off = ![f, 0, 0, 0]) (d : Vec Ideal S11x2x8x512 .f32)
    (f' : Fin 11) (hf : f'.val ≠ f) (w : Fin 2) (p : Fin 8) (z : Fin 512) :
    carryOut e off d (ix4 f' w p z) = d (ix4 f' w p z) := by
  subst hoff
  unfold carryOut
  exact pt4_miss _ _ _ _ _ _ _ (by show f'.val < f ∨ f + 1 ≤ f'.val; omega)

/-! ## A half -/

section
variable (X6 X7 : Vec Ideal S1x3x512 .f32) (X8 X9 : Vec Ideal S1x1x512 .f32) (X10 : Vec Ideal S1x512x2048 .bf16) (e : Vec Ideal S2x1032x512 .f32)

/-- A column of the convolution of a row, from the blocks. -/
def cvAt (w : Fin 2) (X : Vec Ideal S1x3x512 .f32) (B : Vec Ideal S1x1x512 .f32) (r : Fin 1024) (z : Fin 512) : EReal :=
  cv3 (B (ix3 0 0 z)) (X (ix3 0 0 z)) (X (ix3 0 1 z)) (X (ix3 0 2 z)) (e (ix3 w ⟨r.val + 6, by omega⟩ z)) (e (ix3 w ⟨r.val + 7, by omega⟩ z)) (e (ix3 w ⟨r.val + 8, by omega⟩ z))

/-- A half's sum, from the blocks. -/
theorem halfOut_apply (j : ℕ) (hj : j + 256 ≤ 512) (r : Fin 1024) (d : Fin 2048) :
    halfOut X6 X7 X8 X9 X10 e j hj (ix2 r d) = ∑ u : Fin 256,
      cvAt e 0 X6 X8 r ⟨j + u.val, by omega⟩ * Ideal.logistic (cvAt e 0 X6 X8 r ⟨j + u.val, by omega⟩) * cvAt e 1 X7 X9 r ⟨j + u.val, by omega⟩
        * X10 (ix3 0 ⟨j + u.val, by omega⟩ d) := by
  unfold halfOut cvAt
  rw [down_apply]
  refine Finset.sum_congr rfl fun u _ => ?_
  have tp : ∀ (X : Vec Ideal S1x3x512 .f32) (i : Fin 3), rd X ![0, 0, j] S1x3x256.size (inbW j hj) (ix3 0 i u) = X (ix3 0 i ⟨j + u.val, by omega⟩) :=
    fun X i => rd3 X _ _ _ _ _ _ _ _ _ _ (by omega) (by omega) rfl
  have bs : ∀ (X : Vec Ideal S1x1x512 .f32), rd X ![0, 0, j] S1x1x256.size (inbC j hj) (ix3 0 0 u) = X (ix3 0 0 ⟨j + u.val, by omega⟩) :=
    fun X => rd3 X _ _ _ _ _ _ _ _ _ _ (by omega) (by omega) rfl
  have ds : rd X10 ![0, j, 0] S1x256x2048.size (inbD j hj) (ix3 0 u d) = X10 (ix3 0 ⟨j + u.val, by omega⟩ d) :=
    rd3 X10 _ _ _ _ _ _ _ _ _ _ (by omega) rfl (by omega)
  have es : ∀ (w o : ℕ) (hw : w < 2) (ho : o + 1024 ≤ 1032),
      rd e ![w, o, j] S1x1024x256.size (inbX w o j (by omega) (by omega) hj) (ix3 0 r u) = e (ix3 ⟨w, hw⟩ ⟨r.val + o, by omega⟩ ⟨j + u.val, by omega⟩) :=
    fun w o hw ho => rd3 e _ _ _ _ _ _ _ _ _ _ (by show w = w + 0; rfl) (by show r.val + o = o + r.val; omega) rfl
  rw [tp X6, tp X6, tp X6, tp X7, tp X7, tp X7, bs X8, bs X9, ds, es 0 6 (by omega) (by omega), es 0 7 (by omega) (by omega), es 0 8 (by omega) (by omega),
    es 1 6 (by omega) (by omega), es 1 7 (by omega) (by omega), es 1 8 (by omega) (by omega)]
  rfl

theorem setOut_apply (j : ℕ) (hj : j + 256 ≤ 512) (o : Vec Ideal S1024x2048 .f32) (r : Fin 1024) (d : Fin 2048) :
    setOut j hj X6 X7 X8 X9 X10 e o (ix2 r d) = halfOut X6 X7 X8 X9 X10 e j hj (ix2 r d) := by
  unfold setOut
  exact pt2_hit _ _ _ _ r d r d (by omega) (by omega)

theorem accOut_apply (j : ℕ) (hj : j + 256 ≤ 512) (o : Vec Ideal S1024x2048 .f32) (r : Fin 1024) (d : Fin 2048) :
    accOut j hj X6 X7 X8 X9 X10 e o (ix2 r d) = @HAdd.hAdd EReal EReal EReal _ (o (ix2 r d)) (halfOut X6 X7 X8 X9 X10 e j hj (ix2 r d)) := by
  unfold accOut
  refine (pt2_hit _ _ _ _ r d r d (by omega) (by omega)).trans ?_
  rw [pay3_apply]
  exact congrArg (fun z => @HAdd.hAdd EReal EReal EReal _ z _) (rd2 o _ _ _ _ _ _ _ (by omega) (by omega))

end

end Cert.FfnKernelIdeal.Own
-- ==== Proof.Ffn.Blk.lean ====
/- The blocks staged at a grid point, entry by entry, and the grid point's conditions and offsets. -/
module

public import proofs.«01_k».proof.Proof.Ffn.Pure
public import proofs.«01_k».proof.Proof.Ffn.Frame
public import Idealize.ShloMosaic.Lib.StableHlo.ReadAt

@[expose] public section

set_option maxRecDepth 16384

noncomputable section

namespace Cert.FfnKernelIdeal.Own

open Cert.FfnKernelIdeal Cert.FfnKernelIdeal.Gen
open Idealize.ShloMosaic Idealize.ShloMosaic.TcCoe
open Cert.Ffn

/-! ## The grid -/

theorem co0 (t : Fin cfg0.N) : ((grid0.coords t) 0).val = t.val / 11 := by
  have h : t.val < 176 := t.isLt
  rw [Pipeline.Grid.coords_val (G := grid0) t 0 (S := 11) (B := 16) rfl rfl]
  omega

theorem co1 (t : Fin cfg0.N) : ((grid0.coords t) 1).val = t.val % 11 := by
  have h : t.val < 176 := t.isLt
  rw [Pipeline.Grid.coords_val (G := grid0) t 1 (S := 1) (B := 11) rfl rfl]
  omega

theorem nat16 : ∀ a : Fin 16, (BitVec.ofNat 32 a.val).toNat = a.val := by decide
theorem nat11 : ∀ a : Fin 11, (BitVec.ofNat 32 a.val).toNat = a.val := by decide
theorem nat11' : ∀ a : Fin 11, (Scalar.addi (BitVec.ofNat 32 a.val) 11#32).toNat = a.val + 11 := by decide

theorem ix_0 (i : grid0.Coords) : cc0_transform_0 i = ![(i 0).val, 0] := congrArg (fun a => ![a, 0]) (nat16 (i 0))
theorem ix_1 (i : grid0.Coords) : cc0_transform_1 i = ![1, 0, 0] := rfl
theorem ix_2 (i : grid0.Coords) : cc0_transform_2 i = ![1, 0, (i 1).val] := congrArg (fun a => ![1, 0, a]) (nat11 (i 1))
theorem ix_3 (i : grid0.Coords) : cc0_transform_3 i = ![1, 0, (i 1).val + 11] := congrArg (fun a => ![1, 0, a]) (nat11' (i 1))
theorem ix_4 (i : grid0.Coords) : cc0_transform_4 i = ![1, 0, (i 1).val] := congrArg (fun a => ![1, 0, a]) (nat11 (i 1))
theorem ix_5 (i : grid0.Coords) : cc0_transform_5 i = ![1, 0, (i 1).val + 11] := congrArg (fun a => ![1, 0, a]) (nat11' (i 1))
theorem ix_6 (i : grid0.Coords) : cc0_transform_6 i = ![1, 0, (i 1).val] := congrArg (fun a => ![1, 0, a]) (nat11 (i 1))
theorem ix_7 (i : grid0.Coords) : cc0_transform_7 i = ![1, 0, (i 1).val + 11] := congrArg (fun a => ![1, 0, a]) (nat11' (i 1))
theorem ix_8 (i : grid0.Coords) : cc0_transform_8 i = ![1, (i 1).val, 0] := congrArg (fun a => ![1, a, 0]) (nat11 (i 1))
theorem ix_9 (i : grid0.Coords) : cc0_transform_9 i = ![1, 0, 0] := rfl
theorem ix_10 (i : grid0.Coords) : cc0_transform_10 i = ![(i 0).val, 0] := congrArg (fun a => ![a, 0]) (nat16 (i 0))

theorem off1 (i : grid0.Coords) : k0_off1 i = ![(i 1).val, 0, 0, 0] := congrArg (fun a => ![a, 0, 0, 0]) (nat11 (i 1))
theorem off2 (i : grid0.Coords) : k0_off2 i = ![(i 1).val, 0, 0, 0] := congrArg (fun a => ![a, 0, 0, 0]) (nat11 (i 1))
theorem off3 (i : grid0.Coords) : k0_off3 i = ![(i 1).val, 0, 0, 0] := congrArg (fun a => ![a, 0, 0, 0]) (nat11 (i 1))

/-- The zeroing's condition, from the row block. -/
def c1 (a : ℕ) : BitVec 1 :=
  let arg0 : BitVec 32 := BitVec.ofNat 32 a
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let v4 : BitVec 1 := Scalar.cmpi .slt v2 0#32
  let v5 : BitVec 1 := Scalar.cmpi .slt v1 0#32
  let v6 : BitVec 1 := Scalar.xori v4 v5
  let v3 : BitVec 1 := Scalar.cmpi .ne v2 0#32
  let v7 : BitVec 1 := Scalar.andi v6 v3
  let v8 : BitVec 32 := Scalar.addi v2 v1
  let v9 : BitVec 32 := Scalar.select v7 v8 v2
  Scalar.cmpi .ne (Scalar.extui (Scalar.cmpi .eq v9 0#32) : BitVec 32) 0#32

theorem c1_iff : ∀ a : Fin 16, c1 a.val = 1#1 ↔ a.val % 4 = 0 := by decide
theorem cond1 (i : grid0.Coords) : k0_cond1 i = 1#1 ↔ (i 0).val % 4 = 0 := c1_iff (i 0)

theorem c2_iff : ∀ a : Fin 11, Scalar.cmpi .ne (Scalar.extui (Scalar.cmpi .eq (BitVec.ofNat 32 a.val) 0#32) : BitVec 32) 0#32 = 1#1 ↔ a.val = 0 := by decide
theorem cond2 (i : grid0.Coords) : k0_cond2 i = 1#1 ↔ (i 1).val = 0 := c2_iff (i 1)

theorem c3_iff : ∀ a : Fin 11, Scalar.cmpi .ne (Scalar.extui (Scalar.cmpi .sgt (BitVec.ofNat 32 a.val) 0#32) : BitVec 32) 0#32 = 1#1 ↔ 0 < a.val := by decide
theorem cond3 (i : grid0.Coords) : k0_cond3 i = 1#1 ↔ 0 < (i 1).val := c3_iff (i 1)

theorem c4_iff : ∀ a : Fin 11, Scalar.cmpi .ne (Scalar.extui (Scalar.cmpi .eq (BitVec.ofNat 32 a.val) 10#32) : BitVec 32) 0#32 = 1#1 ↔ a.val = 10 := by decide
theorem cond4 (i : grid0.Coords) : k0_cond4 i = 1#1 ↔ (i 1).val = 10 := c4_iff (i 1)

/-! ## The arrays -/

variable (m : (ℓ : Loc nD τ sig) → Buf (Elt Ideal) ℓ) (c : Dev nD)

/-- The arguments a device holds. -/
def args : Args where
  h := m ((c : Thread nD τ).loc main_arg0)
  g := m ((c : Thread nD τ).loc main_arg1)
  w := m ((c : Thread nD τ).loc main_arg2)
  tp := m ((c : Thread nD τ).loc main_arg3)
  b := m ((c : Thread nD τ).loc main_arg4)
  wd := m ((c : Thread nD τ).loc main_arg5)
  g' := m ((c : Thread nD τ).loc main_arg6)

theorem host0 (n : Fin 16384) (k : Fin 2048) :
    (V m c main_v0 : S16384x2048.Idx → EReal) (ix2 n k) = (m ((c : Thread nD τ).loc main_arg0) : S4x4096x2048.Idx → EReal)
      (ix3 ⟨n.val / 4096, by omega⟩ ⟨n.val % 4096, Nat.mod_lt _ (by norm_num)⟩ k) := by
  unfold V
  after_reads_at

theorem host1 (l : Fin 2) (k : Fin 2048) (z : Fin 11264) :
    (V m c main_v1 : S2x2048x11264.Idx → EReal) (ix3 l k z) = (m ((c : Thread nD τ).loc main_arg2) : S2x2048x11264.Idx → EReal) (ix3 l k z) := by
  unfold V
  after_reads_at

theorem host2 (l : Fin 2) (u : Fin 5632) (k : Fin 2048) :
    (V m c main_v2 : S2x5632x2048.Idx → EReal) (ix3 l u k) = (m ((c : Thread nD τ).loc main_arg5) : S2x5632x2048.Idx → EReal) (ix3 l u k) := by
  unfold V
  after_reads_at

theorem host3 (l : Fin 2) (z : Fin 11264) :
    (V m c main_v3 : S2x1x11264.Idx → EReal) (ix3 l 0 z) = (m ((c : Thread nD τ).loc main_arg4) : S2x11264.Idx → EReal) (ix2 l z) := by
  unfold V
  after_reads_at

theorem host4 (l : Fin 2) (k : Fin 2048) :
    (V m c main_v4 : S2x1x2048.Idx → EReal) (ix3 l 0 k) = (m ((c : Thread nD τ).loc main_arg1) : S2x2048.Idx → EReal) (ix2 l k) := by
  unfold V
  after_reads_at

theorem host5 (l : Fin 2) (k : Fin 2048) :
    (V m c main_v5 : S2x1x2048.Idx → EReal) (ix3 l 0 k) = (m ((c : Thread nD τ).loc main_arg6) : S2x2048.Idx → EReal) (ix2 l k) := by
  unfold V
  after_reads_at

/-! ## The blocks -/

variable (t : Fin cfg0.N)

theorem natAt (n : ℕ) [NeZero n] (k : ℕ) (h : k < n) : (⟨k, h⟩ : Fin n) = Fin.ofNat n k := Fin.ext (Nat.mod_eq_of_lt h).symm

/-- The residual rows. -/
theorem iblk0 (r : Fin 1024) (k : Fin 2048) :
    (iblk m c 0 t : S1024x2048.Idx → EReal) (ix2 r k) = Cert.Ffn.row (args m c) (1024 * (t.val / 11) + r.val) k := by
  have ht : t.val < 176 := t.isLt
  have e : (iblk m c 0 t : S1024x2048.Idx → EReal) (ix2 r k) = (V m c main_v0 : S16384x2048.Idx → EReal) (ix2 ⟨1024 * (t.val / 11) + r.val, by omega⟩ k) := by
    unfold iblk
    rw [View.read_apply]
    show V m c main_v0 _ = V m c main_v0 _
    have e := ix_0 (grid0.coords t)
    rw [co0] at e
    refine congrArg (V m c main_v0) (funext fun a => Fin.ext ?_)
    match a with
    | ⟨0, _⟩ => show cc0_transform_0 (grid0.coords t) 0 * 1024 + 1 * r.val = 1024 * (t.val / 11) + r.val; rw [e]; show t.val / 11 * 1024 + _ = _; omega
    | ⟨1, _⟩ => show cc0_transform_0 (grid0.coords t) 1 * 2048 + 1 * k.val = k.val; rw [e]; show 0 * 2048 + 1 * k.val = k.val; omega
  rw [e, host0]
  unfold Cert.Ffn.row
  refine congrArg₂ (fun x y => (args m c).h (ix3 x y k)) (Fin.ext ?_) (Fin.ext ?_)
  · show (1024 * (t.val / 11) + r.val) / 4096 = (1024 * (t.val / 11) + r.val) / 4096 % 4; omega
  · rfl

/-- The first gain. -/
theorem iblk1 (k : Fin 2048) :
    (iblk m c 1 t : S1x1x2048.Idx → EReal) (ix3 0 0 k) = gain (args m c).g k := by
  have ht : t.val < 176 := t.isLt
  have e : (iblk m c 1 t : S1x1x2048.Idx → EReal) (ix3 0 0 k) = (V m c main_v4 : S2x1x2048.Idx → EReal) (ix3 1 0 k) := by
    unfold iblk
    rw [View.read_apply]
    show V m c main_v4 _ = V m c main_v4 _
    have e := ix_1 (grid0.coords t)
    refine congrArg (V m c main_v4) (funext fun a => Fin.ext ?_)
    match a with
    | ⟨0, _⟩ => show cc0_transform_1 (grid0.coords t) 0 * 1 + 1 * 0 = 1; rw [e]; show 1 * 1 + 1 * 0 = 1; omega
    | ⟨1, _⟩ => show cc0_transform_1 (grid0.coords t) 1 * 1 + 1 * 0 = 0; rw [e]; show 0 * 1 + 1 * 0 = 0; omega
    | ⟨2, _⟩ => show cc0_transform_1 (grid0.coords t) 2 * 2048 + 1 * k.val = k.val; rw [e]; show 0 * 2048 + 1 * k.val = k.val; omega
  rw [e, host4]
  rfl

/-- The last gain. -/
theorem iblk9 (k : Fin 2048) :
    (iblk m c 9 t : S1x1x2048.Idx → EReal) (ix3 0 0 k) = gain (args m c).g' k := by
  have ht : t.val < 176 := t.isLt
  have e : (iblk m c 9 t : S1x1x2048.Idx → EReal) (ix3 0 0 k) = (V m c main_v5 : S2x1x2048.Idx → EReal) (ix3 1 0 k) := by
    unfold iblk
    rw [View.read_apply]
    show V m c main_v5 _ = V m c main_v5 _
    have e := ix_9 (grid0.coords t)
    refine congrArg (V m c main_v5) (funext fun a => Fin.ext ?_)
    match a with
    | ⟨0, _⟩ => show cc0_transform_9 (grid0.coords t) 0 * 1 + 1 * 0 = 1; rw [e]; show 1 * 1 + 1 * 0 = 1; omega
    | ⟨1, _⟩ => show cc0_transform_9 (grid0.coords t) 1 * 1 + 1 * 0 = 0; rw [e]; show 0 * 1 + 1 * 0 = 0; omega
    | ⟨2, _⟩ => show cc0_transform_9 (grid0.coords t) 2 * 2048 + 1 * k.val = k.val; rw [e]; show 0 * 2048 + 1 * k.val = k.val; omega
  rw [e, host5]
  rfl

/-- The gate's up weights. -/
theorem iblk2 (k : Fin 2048) (z : Fin 512) :
    (iblk m c 2 t : S1x2048x512.Idx → EReal) (ix3 0 k z) = (args m c).w (ix3 1 k (Fin.ofNat 11264 (512 * (t.val % 11) + z.val))) := by
  have ht : t.val < 176 := t.isLt
  have e : (iblk m c 2 t : S1x2048x512.Idx → EReal) (ix3 0 k z) = (V m c main_v1 : S2x2048x11264.Idx → EReal) (ix3 1 k ⟨512 * (t.val % 11) + z.val, by omega⟩) := by
    unfold iblk
    rw [View.read_apply]
    show V m c main_v1 _ = V m c main_v1 _
    have e := ix_2 (grid0.coords t)
    rw [co1] at e
    refine congrArg (V m c main_v1) (funext fun a => Fin.ext ?_)
    match a with
    | ⟨0, _⟩ => show cc0_transform_2 (grid0.coords t) 0 * 1 + 1 * 0 = 1; rw [e]; show 1 * 1 + 1 * 0 = 1; omega
    | ⟨1, _⟩ => show cc0_transform_2 (grid0.coords t) 1 * 2048 + 1 * k.val = k.val; rw [e]; show 0 * 2048 + 1 * k.val = k.val; omega
    | ⟨2, _⟩ => show cc0_transform_2 (grid0.coords t) 2 * 512 + 1 * z.val = 512 * (t.val % 11) + z.val; rw [e]; show (t.val % 11) * 512 + 1 * z.val = 512 * (t.val % 11) + z.val; omega
  rw [e, host1]
  exact congrArg (fun x => (args m c).w (ix3 1 k x)) (natAt 11264 _ _)

/-- The value's up weights. -/
theorem iblk3 (k : Fin 2048) (z : Fin 512) :
    (iblk m c 3 t : S1x2048x512.Idx → EReal) (ix3 0 k z) = (args m c).w (ix3 1 k (Fin.ofNat 11264 (512 * (t.val % 11) + z.val + 5632))) := by
  have ht : t.val < 176 := t.isLt
  have e : (iblk m c 3 t : S1x2048x512.Idx → EReal) (ix3 0 k z) = (V m c main_v1 : S2x2048x11264.Idx → EReal) (ix3 1 k ⟨512 * (t.val % 11) + z.val + 5632, by omega⟩) := by
    unfold iblk
    rw [View.read_apply]
    show V m c main_v1 _ = V m c main_v1 _
    have e := ix_3 (grid0.coords t)
    rw [co1] at e
    refine congrArg (V m c main_v1) (funext fun a => Fin.ext ?_)
    match a with
    | ⟨0, _⟩ => show cc0_transform_3 (grid0.coords t) 0 * 1 + 1 * 0 = 1; rw [e]; show 1 * 1 + 1 * 0 = 1; omega
    | ⟨1, _⟩ => show cc0_transform_3 (grid0.coords t) 1 * 2048 + 1 * k.val = k.val; rw [e]; show 0 * 2048 + 1 * k.val = k.val; omega
    | ⟨2, _⟩ => show cc0_transform_3 (grid0.coords t) 2 * 512 + 1 * z.val = 512 * (t.val % 11) + z.val + 5632; rw [e]; show (t.val % 11 + 11) * 512 + 1 * z.val = 512 * (t.val % 11) + z.val + 5632; omega
  rw [e, host1]
  exact congrArg (fun x => (args m c).w (ix3 1 k x)) (natAt 11264 _ _)

/-- The gate's taps. -/
theorem iblk4 (j : Fin 3) (z : Fin 512) :
    (iblk m c 4 t : S1x3x512.Idx → EReal) (ix3 0 j z) = tap (args m c) j (512 * (t.val % 11) + z.val) := by
  have ht : t.val < 176 := t.isLt
  have e : (iblk m c 4 t : S1x3x512.Idx → EReal) (ix3 0 j z) = (V m c main_arg3 : S2x3x11264.Idx → EReal) (ix3 1 j ⟨512 * (t.val % 11) + z.val, by omega⟩) := by
    unfold iblk
    rw [View.read_apply]
    show V m c main_arg3 _ = V m c main_arg3 _
    have e := ix_4 (grid0.coords t)
    rw [co1] at e
    refine congrArg (V m c main_arg3) (funext fun a => Fin.ext ?_)
    match a with
    | ⟨0, _⟩ => show cc0_transform_4 (grid0.coords t) 0 * 1 + 1 * 0 = 1; rw [e]; show 1 * 1 + 1 * 0 = 1; omega
    | ⟨1, _⟩ => show cc0_transform_4 (grid0.coords t) 1 * 3 + 1 * j.val = j.val; rw [e]; show 0 * 3 + 1 * j.val = j.val; omega
    | ⟨2, _⟩ => show cc0_transform_4 (grid0.coords t) 2 * 512 + 1 * z.val = 512 * (t.val % 11) + z.val; rw [e]; show (t.val % 11) * 512 + 1 * z.val = 512 * (t.val % 11) + z.val; omega
  rw [e, V_main_arg3]
  exact congrArg (fun x => (args m c).tp (ix3 1 j x)) (natAt 11264 _ _)

/-- The value's taps. -/
theorem iblk5 (j : Fin 3) (z : Fin 512) :
    (iblk m c 5 t : S1x3x512.Idx → EReal) (ix3 0 j z) = tap (args m c) j (512 * (t.val % 11) + z.val + 5632) := by
  have ht : t.val < 176 := t.isLt
  have e : (iblk m c 5 t : S1x3x512.Idx → EReal) (ix3 0 j z) = (V m c main_arg3 : S2x3x11264.Idx → EReal) (ix3 1 j ⟨512 * (t.val % 11) + z.val + 5632, by omega⟩) := by
    unfold iblk
    rw [View.read_apply]
    show V m c main_arg3 _ = V m c main_arg3 _
    have e := ix_5 (grid0.coords t)
    rw [co1] at e
    refine congrArg (V m c main_arg3) (funext fun a => Fin.ext ?_)
    match a with
    | ⟨0, _⟩ => show cc0_transform_5 (grid0.coords t) 0 * 1 + 1 * 0 = 1; rw [e]; show 1 * 1 + 1 * 0 = 1; omega
    | ⟨1, _⟩ => show cc0_transform_5 (grid0.coords t) 1 * 3 + 1 * j.val = j.val; rw [e]; show 0 * 3 + 1 * j.val = j.val; omega
    | ⟨2, _⟩ => show cc0_transform_5 (grid0.coords t) 2 * 512 + 1 * z.val = 512 * (t.val % 11) + z.val + 5632; rw [e]; show (t.val % 11 + 11) * 512 + 1 * z.val = 512 * (t.val % 11) + z.val + 5632; omega
  rw [e, V_main_arg3]
  exact congrArg (fun x => (args m c).tp (ix3 1 j x)) (natAt 11264 _ _)

/-- The gate's biases. -/
theorem iblk6 (z : Fin 512) :
    (iblk m c 6 t : S1x1x512.Idx → EReal) (ix3 0 0 z) = bias (args m c) (512 * (t.val % 11) + z.val) := by
  have ht : t.val < 176 := t.isLt
  have e : (iblk m c 6 t : S1x1x512.Idx → EReal) (ix3 0 0 z) = (V m c main_v3 : S2x1x11264.Idx → EReal) (ix3 1 0 ⟨512 * (t.val % 11) + z.val, by omega⟩) := by
    unfold iblk
    rw [View.read_apply]
    show V m c main_v3 _ = V m c main_v3 _
    have e := ix_6 (grid0.coords t)
    rw [co1] at e
    refine congrArg (V m c main_v3) (funext fun a => Fin.ext ?_)
    match a with
    | ⟨0, _⟩ => show cc0_transform_6 (grid0.coords t) 0 * 1 + 1 * 0 = 1; rw [e]; show 1 * 1 + 1 * 0 = 1; omega
    | ⟨1, _⟩ => show cc0_transform_6 (grid0.coords t) 1 * 1 + 1 * 0 = 0; rw [e]; show 0 * 1 + 1 * 0 = 0; omega
    | ⟨2, _⟩ => show cc0_transform_6 (grid0.coords t) 2 * 512 + 1 * z.val = 512 * (t.val % 11) + z.val; rw [e]; show (t.val % 11) * 512 + 1 * z.val = 512 * (t.val % 11) + z.val; omega
  rw [e, host3]
  exact congrArg (fun x => (args m c).b (ix2 1 x)) (natAt 11264 _ _)

/-- The value's biases. -/
theorem iblk7 (z : Fin 512) :
    (iblk m c 7 t : S1x1x512.Idx → EReal) (ix3 0 0 z) = bias (args m c) (512 * (t.val % 11) + z.val + 5632) := by
  have ht : t.val < 176 := t.isLt
  have e : (iblk m c 7 t : S1x1x512.Idx → EReal) (ix3 0 0 z) = (V m c main_v3 : S2x1x11264.Idx → EReal) (ix3 1 0 ⟨512 * (t.val % 11) + z.val + 5632, by omega⟩) := by
    unfold iblk
    rw [View.read_apply]
    show V m c main_v3 _ = V m c main_v3 _
    have e := ix_7 (grid0.coords t)
    rw [co1] at e
    refine congrArg (V m c main_v3) (funext fun a => Fin.ext ?_)
    match a with
    | ⟨0, _⟩ => show cc0_transform_7 (grid0.coords t) 0 * 1 + 1 * 0 = 1; rw [e]; show 1 * 1 + 1 * 0 = 1; omega
    | ⟨1, _⟩ => show cc0_transform_7 (grid0.coords t) 1 * 1 + 1 * 0 = 0; rw [e]; show 0 * 1 + 1 * 0 = 0; omega
    | ⟨2, _⟩ => show cc0_transform_7 (grid0.coords t) 2 * 512 + 1 * z.val = 512 * (t.val % 11) + z.val + 5632; rw [e]; show (t.val % 11 + 11) * 512 + 1 * z.val = 512 * (t.val % 11) + z.val + 5632; omega
  rw [e, host3]
  exact congrArg (fun x => (args m c).b (ix2 1 x)) (natAt 11264 _ _)

/-- The down weights. -/
theorem iblk8 (u : Fin 512) (d : Fin 2048) :
    (iblk m c 8 t : S1x512x2048.Idx → EReal) (ix3 0 u d) = dw (args m c) (512 * (t.val % 11) + u.val) d := by
  have ht : t.val < 176 := t.isLt
  have e : (iblk m c 8 t : S1x512x2048.Idx → EReal) (ix3 0 u d) = (V m c main_v2 : S2x5632x2048.Idx → EReal) (ix3 1 ⟨512 * (t.val % 11) + u.val, by omega⟩ d) := by
    unfold iblk
    rw [View.read_apply]
    show V m c main_v2 _ = V m c main_v2 _
    have e := ix_8 (grid0.coords t)
    rw [co1] at e
    refine congrArg (V m c main_v2) (funext fun a => Fin.ext ?_)
    match a with
    | ⟨0, _⟩ => show cc0_transform_8 (grid0.coords t) 0 * 1 + 1 * 0 = 1; rw [e]; show 1 * 1 + 1 * 0 = 1; omega
    | ⟨1, _⟩ => show cc0_transform_8 (grid0.coords t) 1 * 512 + 1 * u.val = 512 * (t.val % 11) + u.val; rw [e]; show (t.val % 11) * 512 + 1 * u.val = 512 * (t.val % 11) + u.val; omega
    | ⟨2, _⟩ => show cc0_transform_8 (grid0.coords t) 2 * 2048 + 1 * d.val = d.val; rw [e]; show 0 * 2048 + 1 * d.val = d.val; omega
  rw [e, host2]
  exact congrArg (fun x => (args m c).wd (ix3 1 x d)) (natAt 5632 _ _)

end Cert.FfnKernelIdeal.Own
-- ==== Proof.Ffn.Inv.lean ====
/- A grid point of the feed-forward call: what the rows, the carried rows and the output block hold before it and after it. -/
module

public import proofs.«01_k».proof.Proof.Ffn.Blk

@[expose] public section

set_option maxRecDepth 16384

noncomputable section

namespace Cert.FfnKernelIdeal.Own

open Cert.FfnKernelIdeal Cert.FfnKernelIdeal.Gen
open Idealize.ShloMosaic Idealize.ShloMosaic.TcCoe
open Cert.Ffn hiding row

/-- The blocks are the arguments' at row block `mm` and column tile `f`. -/
structure IsIns (A : Args) (mm f : ℕ) (I : Ins Ideal) : Prop where
  h : ∀ r k, I.h (ix2 r k) = Cert.Ffn.row A (1024 * mm + r.val) k
  g : ∀ k, I.g (ix3 0 0 k) = gain A.g k
  wg : ∀ k z, I.wg (ix3 0 k z) = A.w (ix3 1 k (Fin.ofNat 11264 (512 * f + z.val)))
  wv : ∀ k z, I.wv (ix3 0 k z) = A.w (ix3 1 k (Fin.ofNat 11264 (512 * f + z.val + 5632)))
  tg : ∀ j z, I.tg (ix3 0 j z) = tap A j (512 * f + z.val)
  tv : ∀ j z, I.tv (ix3 0 j z) = tap A j (512 * f + z.val + 5632)
  bg : ∀ z, I.bg (ix3 0 0 z) = bias A (512 * f + z.val)
  bv : ∀ z, I.bv (ix3 0 0 z) = bias A (512 * f + z.val + 5632)
  wd : ∀ u d, I.wd (ix3 0 u d) = dw A (512 * f + u.val) d
  g' : ∀ k, I.g' (ix3 0 0 k) = gain A.g' k

/-- The blocks staged at a grid point are the arguments'. -/
theorem isIns (m : (ℓ : Loc nD τ sig) → Buf (Elt Ideal) ℓ) (c : Dev nD) (t : Fin cfg0.N) :
    IsIns (args m c) (t.val / 11) (t.val % 11) (ins m c t) where
  h := iblk0 m c t
  g := iblk1 m c t
  wg := iblk2 m c t
  wv := iblk3 m c t
  tg := iblk4 m c t
  tv := iblk5 m c t
  bg := iblk6 m c t
  bv := iblk7 m c t
  wd := iblk8 m c t
  g' := iblk9 m c t

section
variable (A : Args) (mm f : ℕ)

/-- The normed rows of a row block. -/
def XnIs (x : Vec Ideal S1024x2048 .bf16) : Prop := ∀ r k, x (ix2 r k) = nm (Cert.Ffn.row A (1024 * mm + r.val)) (gain A.g) k

/-- The carried rows before column tile `f` of row block `mm`: this block's last rows for the tiles done, the block before's
    for the others, where the sequence does not start at this block. -/
def CyIs (x : Vec Ideal S11x2x8x512 .f32) : Prop := ∀ (f' : Fin 11) (w : Fin 2) (p : Fin 8) (z : Fin 512), f'.val < f ∨ mm % 4 ≠ 0 →
  x (ix4 f' w p z) = upp A (1024 * (if f'.val < f then mm + 1 else mm) + p.val - 8) (512 * f'.val + z.val + 5632 * w.val)

/-- The extended rows of a row block, at a column tile. -/
def ExIs (x : Vec Ideal S2x1032x512 .f32) : Prop := ∀ (w : Fin 2) (q : Fin 1032) (z : Fin 512),
  x (ix3 w q z) = ex A (1024 * mm) q.val (512 * f + z.val + 5632 * w.val)

/-- The sum over the first columns. -/
def OIs (q : ℕ) (x : Vec Ideal S1024x2048 .f32) : Prop := ∀ r d, x (ix2 r d) = part A (1024 * mm + r.val) q d

end

variable {A : Args} {mm f : ℕ} {I : Ins Ideal} (H : IsIns A mm f I)

include H in
/-- The norm leaves the normed rows. -/
theorem norm_is (S : St Ideal) : XnIs A mm (norm I S).xn := fun r k => by
  unfold norm
  refine (preOut_apply I.h _ 64 le_rfl S.xn r k).trans ?_
  rw [if_pos (by omega)]
  refine nm_congr (fun z => H.h r z) (fun z => ?_) k
  rw [pay6_apply]
  exact (rd3 I.g _ _ _ _ _ _ _ _ _ _ (by omega) (by omega) (by omega)).trans (H.g z)

/-- After the zeroing, the column tile's carried rows are the ones above the row block. -/
theorem s1_hit (i : grid0.Coords) (S : St Ideal) (hi0 : (i 0).val = mm) (hi1 : (i 1).val = f) (hc : CyIs A mm f S.cy) (f' : Fin 11) (hf : f'.val = f)
    (w : Fin 2) (p : Fin 8) (z : Fin 512) : (s1 i S).cy (ix4 f' w p z) = ex A (1024 * mm) p.val (512 * f + z.val + 5632 * w.val) := by
  unfold s1 ex
  by_cases h : mm % 4 = 0
  · rw [if_pos ((cond1 i).mpr (by omega)), if_pos (by omega)]
    refine (pt4_hit _ _ _ f' w p z (0 : Fin 1) w p z ?_ ?_ ?_ ?_).trans (pay1_apply w p z) <;> rw [off1]
    · show f'.val = (i 1).val + 0; omega
    · show w.val = 0 + w.val; omega
    · show p.val = 0 + p.val; omega
    · show z.val = 0 + z.val; omega
  · rw [if_neg (fun h' => h (by have := (cond1 i).mp h'; omega)), if_neg (by omega), hc f' w p z (Or.inr h), if_neg (by omega), hf]

theorem s1_miss (i : grid0.Coords) (S : St Ideal) (hi1 : (i 1).val = f) (f' : Fin 11) (hf : f'.val ≠ f)
    (w : Fin 2) (p : Fin 8) (z : Fin 512) : (s1 i S).cy (ix4 f' w p z) = S.cy (ix4 f' w p z) := by
  unfold s1
  split
  · refine pt4_miss _ _ _ _ _ _ _ ?_
    rw [off1]
    show f'.val < (i 1).val ∨ (i 1).val + 1 ≤ f'.val
    omega
  · rfl

theorem s1_xn (i : grid0.Coords) (S : St Ideal) : (s1 i S).xn = S.xn := by unfold s1; split <;> rfl
theorem s1_o (i : grid0.Coords) (S : St Ideal) : (s1 i S).o = S.o := by unfold s1; split <;> rfl

include H in
/-- The up projection leaves the extended rows. -/
theorem up_ext (off : Fin 4 → ℕ) (hoff : ∀ a, off a + S1x2x8x512.size a ≤ S11x2x8x512.size a) (ho : off = ![f, 0, 0, 0]) (hf : f < 11) (S : St Ideal)
    (hx : XnIs A mm S.xn) (hc : ∀ w p z, S.cy (ix4 ⟨f, hf⟩ w p z) = ex A (1024 * mm) p.val (512 * f + z.val + 5632 * w.val)) :
    ExIs A mm f (up I off hoff S).ext := fun w q z => by
  unfold up
  by_cases hq : q.val < 8
  · refine (upOut_top _ _ _ _ _ w q hq z).trans ?_
    refine (rd4 S.cy off hoff 0 w ⟨q.val, hq⟩ z ⟨f, hf⟩ w ⟨q.val, hq⟩ z ?_ ?_ ?_ ?_).trans (hc w ⟨q.val, hq⟩ z) <;> subst ho
    · show f = f + 0; omega
    · show w.val = 0 + w.val; omega
    · show q.val = 0 + q.val; omega
    · show z.val = 0 + z.val; omega
  · refine (upOut_low _ _ _ _ _ w q ⟨q.val - 8, by omega⟩ (by show q.val = 8 + (q.val - 8); omega) z).trans ?_
    have hn : ¬ (1024 * mm) % 4096 + q.val < 8 := by omega
    unfold ex upp
    rw [if_neg hn]
    refine Finset.sum_congr rfl fun k _ => ?_
    have e1 : S.xn (ix2 ⟨q.val - 8, by omega⟩ k) = nm (Cert.Ffn.row A (1024 * mm + q.val - 8)) (gain A.g) k := by
      rw [hx]
      show nm (Cert.Ffn.row A (1024 * mm + (q.val - 8))) _ _ = _
      rw [show 1024 * mm + (q.val - 8) = 1024 * mm + q.val - 8 by omega]
    have e2 : (if w.val = 0 then I.wg else I.wv) (ix3 0 k z) = A.w (ix3 1 k (Fin.ofNat 11264 (512 * f + z.val + 5632 * w.val))) := by
      by_cases hw : w.val = 0
      · rw [if_pos hw, H.wg, hw, Nat.mul_zero, Nat.add_zero]
      · rw [if_neg hw, H.wv, show w.val = 1 by omega, Nat.mul_one]
    rw [e1, e2]

include H in
/-- and the carried rows for the next row block. -/
theorem up_cy (off : Fin 4 → ℕ) (hoff : ∀ a, off a + S1x2x8x512.size a ≤ S11x2x8x512.size a) (ho : off = ![f, 0, 0, 0]) (hf : f < 11) (S : St Ideal)
    (hx : XnIs A mm S.xn) (hc : ∀ w p z, S.cy (ix4 ⟨f, hf⟩ w p z) = ex A (1024 * mm) p.val (512 * f + z.val + 5632 * w.val))
    (hm : ∀ (f' : Fin 11) (w : Fin 2) (p : Fin 8) (z : Fin 512), f'.val ≠ f → f'.val < f ∨ mm % 4 ≠ 0 →
      S.cy (ix4 f' w p z) = upp A (1024 * (if f'.val < f then mm + 1 else mm) + p.val - 8) (512 * f'.val + z.val + 5632 * w.val)) :
    CyIs A mm (f + 1) (up I off hoff S).cy := fun f' w p z h => by
  have hE := up_ext H off hoff ho hf S hx hc
  by_cases he : f'.val = f
  · refine (carryOut_hit _ f off ho _ f' he w p z).trans ((hE w ⟨1024 + p.val, by omega⟩ z).trans ?_)
    unfold ex
    rw [if_neg (by show ¬ (1024 * mm) % 4096 + (1024 + p.val) < 8; omega), if_pos (by omega), he]
    show upp A (1024 * mm + (1024 + p.val) - 8) _ = _
    rw [show 1024 * mm + (1024 + p.val) - 8 = 1024 * (mm + 1) + p.val - 8 by omega]
  · refine (carryOut_miss _ f off ho _ f' he w p z).trans ((hm f' w p z he (by omega)).trans ?_)
    by_cases h2 : f'.val < f
    · rw [if_pos h2, if_pos (by omega)]
    · rw [if_neg h2, if_neg (by omega)]

include H in
/-- A column of the convolution. -/
theorem cv_is {e : Vec Ideal S2x1032x512 .f32} (he : ExIs A mm f e) (w : Fin 2) (X : Vec Ideal S1x3x512 .f32) (B : Vec Ideal S1x1x512 .f32) (r : Fin 1024) (z : Fin 512)
    (hX : ∀ j, X (ix3 0 j z) = tap A j (512 * f + z.val + 5632 * w.val)) (hB : B (ix3 0 0 z) = bias A (512 * f + z.val + 5632 * w.val)) :
    cvAt e w X B r z = cv A (1024 * mm + r.val) (512 * f + z.val + 5632 * w.val) := by
  unfold cvAt cv3 cv
  rw [hX, hX, hX, hB, he, he, he]
  have x0 := ex_sh A mm r.val 0 (512 * f + z.val + 5632 * w.val) r.isLt
  have x1 := ex_sh A mm r.val 1 (512 * f + z.val + 5632 * w.val) r.isLt
  have x2 := ex_sh A mm r.val 2 (512 * f + z.val + 5632 * w.val) r.isLt
  rw [← x0, ← x1, ← x2]

include H in
/-- A half's sum. -/
theorem half_is {e : Vec Ideal S2x1032x512 .f32} (he : ExIs A mm f e) (j : ℕ) (hj : j + 256 ≤ 512) (r : Fin 1024) (d : Fin 2048) :
    halfOut I.tg I.tv I.bg I.bv I.wd e j hj (ix2 r d)
      = ∑ u : Fin 256, act A (1024 * mm + r.val) (512 * f + j + u.val) * dw A (512 * f + j + u.val) d := by
  rw [halfOut_apply]
  refine Finset.sum_congr rfl fun u _ => ?_
  have e0 := (cv_is H he 0 I.tg I.bg r ⟨j + u.val, by omega⟩ (fun i => H.tg i _) (H.bg _)).trans
    (congrArg (cv A (1024 * mm + r.val)) (show 512 * f + (j + u.val) + 5632 * 0 = 512 * f + j + u.val by omega))
  have e1 := (cv_is H he 1 I.tv I.bv r ⟨j + u.val, by omega⟩ (fun i => H.tv i _) (H.bv _)).trans
    (congrArg (cv A (1024 * mm + r.val)) (show 512 * f + (j + u.val) + 5632 * 1 = 512 * f + j + u.val + 5632 by omega))
  have e2 := (H.wd ⟨j + u.val, by omega⟩ d).trans
    (congrArg (fun n => dw A n d) (show 512 * f + (j + u.val) = 512 * f + j + u.val by omega))
  rw [e0, e1, e2]
  rfl

include H in
theorem hset_is (j : ℕ) (hj : j + 256 ≤ 512) (S : St Ideal) (he : ExIs A mm f S.ext) (h0 : 512 * f + j = 0) :
    OIs A mm 256 (hset I j hj S).o := fun r d => by
  refine (setOut_apply _ _ _ _ _ _ j hj _ r d).trans ((half_is H he j hj r d).trans ?_)
  rw [h0]
  have := part_add A (1024 * mm + r.val) 0 256 d
  rw [Nat.zero_add] at this
  rw [this]
  unfold part
  rw [Finset.range_zero, Finset.sum_empty, zero_add]

include H in
theorem hadd_is (j : ℕ) (hj : j + 256 ≤ 512) (S : St Ideal) (he : ExIs A mm f S.ext) (ho : OIs A mm (512 * f + j) S.o) :
    OIs A mm (512 * f + j + 256) (hadd I j hj S).o := fun r d => by
  refine (accOut_apply _ _ _ _ _ _ j hj _ r d).trans ?_
  rw [half_is H he, ho]
  exact (part_add A (1024 * mm + r.val) (512 * f + j) 256 d).symm

/-- What a grid point needs. -/
structure Pre (A : Args) (mm f : ℕ) (S : St Ideal) : Prop where
  xn : 0 < f → XnIs A mm S.xn
  o : 0 < f → OIs A mm (512 * f) S.o
  cy : CyIs A mm f S.cy

/-- What a grid point leaves. -/
structure Post (A : Args) (mm f : ℕ) (S : St Ideal) : Prop where
  xn : XnIs A mm S.xn
  o : ∀ r d, S.o (ix2 r d) = if f = 10 then out A (1024 * mm + r.val) d else part A (1024 * mm + r.val) (512 * (f + 1)) d
  cy : CyIs A mm (f + 1) S.cy

include H in
/-- The column tile's sums, first or later. -/
theorem s23_is (i : grid0.Coords) (S : St Ideal) (hi0 : (i 0).val = mm) (hi1 : (i 1).val = f) (h : Pre A mm f S) :
    XnIs A mm (s3 i I (s2 i I (s1 i S))).xn ∧ OIs A mm (512 * (f + 1)) (s3 i I (s2 i I (s1 i S))).o ∧ CyIs A mm (f + 1) (s3 i I (s2 i I (s1 i S))).cy := by
  have hf : f < 11 := by rw [← hi1]; exact (i 1).isLt
  have hh := s1_hit i S hi0 hi1 h.cy ⟨f, hf⟩ rfl
  have hm : ∀ (f' : Fin 11) (w : Fin 2) (p : Fin 8) (z : Fin 512), f'.val ≠ f → f'.val < f ∨ mm % 4 ≠ 0 →
      (s1 i S).cy (ix4 f' w p z) = upp A (1024 * (if f'.val < f then mm + 1 else mm) + p.val - 8) (512 * f'.val + z.val + 5632 * w.val) :=
    fun f' w p z hne hc => (s1_miss i S hi1 f' hne w p z).trans (h.cy f' w p z hc)
  by_cases h0 : f = 0
  · have c2 : k0_cond2 i = 1#1 := (cond2 i).mpr (by omega)
    have c3 : ¬ k0_cond3 i = 1#1 := fun hc => by have := (cond3 i).mp hc; omega
    rw [show s3 i I (s2 i I (s1 i S)) = s2 i I (s1 i S) from dif_neg c3, show s2 i I (s1 i S) = _ from dif_pos c2]
    have ho : k0_off2 i = ![f, 0, 0, 0] := by rw [off2, hi1]
    have hx : XnIs A mm (norm I (s1 i S)).xn := norm_is H _
    have hE := up_ext H (k0_off2 i) (k0_off2_inb i c2) ho hf (norm I (s1 i S)) hx hh
    refine ⟨hx, ?_, up_cy H (k0_off2 i) (k0_off2_inb i c2) ho hf (norm I (s1 i S)) hx hh hm⟩
    have e1 : OIs A mm 256 (hset I 0 (by omega) (up I (k0_off2 i) (k0_off2_inb i c2) (norm I (s1 i S)))).o := hset_is H 0 (by omega) _ hE (by omega)
    have e2 := hadd_is H 256 (by omega) (hset I 0 (by omega) (up I (k0_off2 i) (k0_off2_inb i c2) (norm I (s1 i S)))) hE
      (by rw [show 512 * f + 256 = 256 by omega]; exact e1)
    rw [show 512 * (f + 1) = 512 * f + 256 + 256 by omega]
    exact e2
  · have c2 : ¬ k0_cond2 i = 1#1 := fun hc => h0 (by have := (cond2 i).mp hc; omega)
    have c3 : k0_cond3 i = 1#1 := (cond3 i).mpr (by omega)
    rw [show s2 i I (s1 i S) = s1 i S from dif_neg c2, show s3 i I (s1 i S) = _ from dif_pos c3]
    have ho : k0_off3 i = ![f, 0, 0, 0] := by rw [off3, hi1]
    have hx : XnIs A mm (s1 i S).xn := by rw [s1_xn]; exact h.xn (by omega)
    have hE := up_ext H (k0_off3 i) (k0_off3_inb i c3) ho hf (s1 i S) hx hh
    refine ⟨hx, ?_, up_cy H (k0_off3 i) (k0_off3_inb i c3) ho hf (s1 i S) hx hh hm⟩
    have e1 := hadd_is H 0 (by omega) (up I (k0_off3 i) (k0_off3_inb i c3) (s1 i S)) hE
      (by show OIs A mm (512 * f + 0) (s1 i S).o; rw [s1_o]; exact h.o (by omega))
    have e2 := hadd_is H 256 (by omega) (hadd I 0 (by omega) (up I (k0_off3 i) (k0_off3_inb i c3) (s1 i S))) hE e1
    rw [show 512 * (f + 1) = 512 * f + 256 + 256 by omega]
    exact e2

include H in
/-- A grid point's step. -/
theorem step_is (i : grid0.Coords) (S : St Ideal) (hi0 : (i 0).val = mm) (hi1 : (i 1).val = f) (h : Pre A mm f S) : Post A mm f (step i I S) := by
  obtain ⟨hx, ho, hc⟩ := s23_is H i S hi0 hi1 h
  unfold step s4
  by_cases h10 : f = 10
  · rw [if_pos ((cond4 i).mpr (by omega))]
    refine ⟨hx, fun r d => ?_, hc⟩
    rw [if_pos h10]
    refine (epiOut_apply I.h _ 128 le_rfl _ r d).trans ?_
    rw [if_pos (by omega), H.h]
    unfold out
    refine congrArg (fun z => @HAdd.hAdd EReal EReal EReal _ _ z) (nm_congr (fun z => ?_) (fun z => ?_) d)
    · rw [ho, h10]
    · rw [pay141_apply]
      exact (rd3 I.g' _ _ _ _ _ _ _ _ _ _ (by omega) (by omega) (by omega)).trans (H.g' z)
  · rw [if_neg (fun hc4 => h10 (by have := (cond4 i).mp hc4; omega))]
    refine ⟨hx, fun r d => ?_, hc⟩
    rw [if_neg h10]
    exact ho r d

end Cert.FfnKernelIdeal.Own
-- ==== Proof.Ffn.Val.lean ====
/- The run of the feed-forward call with exact numbers: the result array ends holding the layer's output. -/
module

public import proofs.«01_k».proof.Proof.Ffn.Inv
public import proofs.«01_k».proof.Proof.Ffn.Frame
public import Idealize.ShloMosaic.Lib.Pipeline.Value
public import Idealize.ShloMosaic.Lib.Pipeline.Covers

@[expose] public section

set_option maxRecDepth 16384

noncomputable section

namespace Cert.FfnKernelIdeal.Own

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Ffn hiding row

local notation "𝕄" => MT nD τ sig Unit (Elt Ideal) ℕ (UR sig nD τ) ℕ

/-- The output block after a grid point: the sum over the columns done, or the layer's output at the last column tile. -/
def oblk (A : Args) (mm f : ℕ) : S1024x2048.Idx → EReal := fun y =>
  if f = 10 then out A (1024 * mm + (y 0).val) ⟨(y 1).val, (y 1).isLt⟩ else part A (1024 * mm + (y 0).val) (512 * (f + 1)) ⟨(y 1).val, (y 1).isLt⟩

theorem oblk_of {A : Args} {mm f : ℕ} {S : St Ideal} (h : Post A mm f S) : S.o = oblk A mm f := by
  funext y
  obtain ⟨r, d, rfl⟩ : ∃ (r : Fin 1024) (d : Fin 2048), y = ix2 r d := ⟨y 0, y 1, eq_ix2 (n0 := 1024) (n1 := 2048) y⟩
  exact h.o r d

/-- What the normed and the carried rows hold before grid point `n`. -/
structure Inv (A : Args) (n : ℕ) (xn : Vec Ideal S1024x2048 .bf16) (cy : Vec Ideal S11x2x8x512 .f32) : Prop where
  xn : 0 < n % 11 → XnIs A (n / 11) xn
  cy : CyIs A (n / 11) (n % 11) cy

theorem inv_zero (A : Args) (xn : Vec Ideal S1024x2048 .bf16) (cy : Vec Ideal S11x2x8x512 .f32) : Inv A 0 xn cy :=
  ⟨fun h => absurd h (by decide), fun f' w p z h => absurd h (by show ¬ (f'.val < 0 ∨ 0 % 4 ≠ 0); omega)⟩

/-- What a grid point leaves is what the next one needs. -/
theorem inv_succ {A : Args} (n : ℕ) {S : St Ideal} (h : Post A (n / 11) (n % 11) S) : Inv A (n + 1) S.xn S.cy := by
  by_cases h10 : n % 11 = 10
  · refine ⟨fun h' => absurd h' (by omega), fun f' w p z hc => ?_⟩
    have e := h.cy f' w p z (Or.inl (by have := f'.isLt; omega))
    rw [if_pos (by have := f'.isLt; omega)] at e
    rw [if_neg (by omega), show (n + 1) / 11 = n / 11 + 1 by omega]
    exact e
  · have e1 : (n + 1) / 11 = n / 11 := by omega
    have e2 : (n + 1) % 11 = n % 11 + 1 := by omega
    exact ⟨fun _ => by rw [e1]; exact h.xn, by rw [e1, e2]; exact h.cy⟩

variable (m : (ℓ : Loc nD τ sig) → Buf (Elt Ideal) ℓ) (ρ : Dev nD → PrngReg)

/-- The result array: the layer's output. -/
abbrev res (c : Dev nD) : Buf (Elt Ideal) ((c : Thread nD τ).loc main_v6) := tgt (args m c)

/-- The scratch before grid point `n`: the normed and the carried rows, anything in the extended rows. -/
def PhiV (c : Dev nD) (n : ℕ) : sProp 𝕄 :=
  iprop(∃ (xn : Vec Ideal S1024x2048 .bf16) (cy : Vec Ideal S11x2x8x512 .f32) (ext : Vec Ideal S2x1032x512 .f32), ⌜Inv (args m c) n xn cy⌝
    ∗ owns (c : Thread nD τ) sxn fullShare xn ∗ owns (c : Thread nD τ) scy fullShare cy ∗ owns (c : Thread nD τ) sext fullShare ext ∗ (∃ r, prngReg c r))

theorem PhiV_in (c : Dev nD) : (Pipeline.ΦA spec0 c : sProp 𝕄) ⊢ PhiV m c 0 := by
  rw [PhiA_eq]
  unfold PhiV
  iintro ⟨⟨⟨%d11, H11⟩, ⟨%d12, H12⟩, ⟨%d13, H13⟩⟩, Hg⟩
  iexists d11, d12, d13
  isplitr; · ipureintro; exact inv_zero _ _ _
  isplitl [H11]; · iexact H11
  isplitl [H12]; · iexact H12
  isplitl [H13]; · iexact H13
  iexact Hg

theorem PhiV_out (c : Dev nD) (n : ℕ) : PhiV m c n ⊢ (Pipeline.ΦA spec0 c : sProp 𝕄) := by
  rw [PhiA_eq]
  unfold PhiV
  iintro ⟨%d11, %d12, %d13, -, H11, H12, H13, Hg⟩
  isplitr [Hg]
  · isplitl [H11]; · iexists _; iexact H11
    isplitl [H12]; · iexists _; iexact H12
    iexists _; iexact H13
  iexact Hg

/-- The proof data with the output named. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oblk (args m c) (t.val / 11) (t.val % 11)
  Φ t := PhiV m c t.val
  q w := Pipeline.shareOf spec0 w
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vafter_7 (c : Dev nD) (t : Fin cfg0.N) : (vdats m 0 c).after 7 t = iblk m c 7 t := by dsimp only [vdats]
theorem vafter_8 (c : Dev nD) (t : Fin cfg0.N) : (vdats m 0 c).after 8 t = iblk m c 8 t := by dsimp only [vdats]
theorem vafter_9 (c : Dev nD) (t : Fin cfg0.N) : (vdats m 0 c).after 9 t = iblk m c 9 t := by dsimp only [vdats]
theorem vafter_10 (c : Dev nD) (t : Fin cfg0.N) : (vdats m 0 c).after 10 t = oblk (args m c) (t.val / 11) (t.val % 11) := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d
theorem vbefore_7 (c : Dev nD) (t : Fin cfg0.N) (d) : (vdats m 0 c).before 7 t d = iblk m c 7 t :=
  before0_7_of m (vdats m 0 c) (vA_eq m c 7) (vafter_7 m c) t d
theorem vbefore_8 (c : Dev nD) (t : Fin cfg0.N) (d) : (vdats m 0 c).before 8 t d = iblk m c 8 t :=
  before0_8_of m (vdats m 0 c) (vA_eq m c 8) (vafter_8 m c) t d
theorem vbefore_9 (c : Dev nD) (t : Fin cfg0.N) (d) : (vdats m 0 c).before 9 t d = iblk m c 9 t :=
  before0_9_of m (vdats m 0 c) (vA_eq m c 9) (vafter_9 m c) t d

/-- Every grid point stores its output block. -/
theorem live10 (i : cfg0.grid.Coords) : cfg0.idle 10 i = false := by
  show (!(k0_cond2 i == 1#1) && !(k0_cond3 i == 1#1) && !(k0_cond4 i == 1#1)) = false
  by_cases h : k0_cond2 i = 1#1
  · rw [h]; rfl
  · have h3 : k0_cond3 i = 1#1 := (cond3 i).mpr (Nat.pos_of_ne_zero fun h' => h ((cond2 i).mpr h'))
    rw [h3, show ((1#1 : BitVec 1) == 1#1) = true from rfl, Bool.not_true, Bool.and_false, Bool.false_and]

/-- The output block at a later column tile is what the tile before left. -/
theorem vbefore_10 (c : Dev nD) (t : Fin cfg0.N) (h : 0 < t.val % 11) (d) :
    (vdats m 0 c).before 10 t d = oblk (args m c) (t.val / 11) (t.val % 11 - 1) := by
  have hfl : (cfg0.win 10).flush ⟨t.val - 1, Nat.lt_of_le_of_lt (Nat.sub_le _ _) t.isLt⟩ = false := by
    rw [← Bool.not_eq_true, flush0_10]
    show ¬ (t.val - 1) % 11 = 10
    omega
  rw [(vdats m 0 c).before_out_kept 10 rfl t (by omega) hfl live10 (fun _ _ => rfl), vafter_10]
  show oblk _ ((t.val - 1) / 11) ((t.val - 1) % 11) = _
  rw [show (t.val - 1) / 11 = t.val / 11 by omega, show (t.val - 1) % 11 = t.val % 11 - 1 by omega]

/-- What a grid point needs holds before it. -/
theorem pre_of (c : Dev nD) (t : Fin cfg0.N) (d10 : (cfg0.win 10).block.Idx → Elt Ideal (cfg0.win 10).elt) (xn : Vec Ideal S1024x2048 .bf16) (cy : Vec Ideal S11x2x8x512 .f32) (ext : Vec Ideal S2x1032x512 .f32)
    (h : Inv (args m c) t.val xn cy) : Pre (args m c) (t.val / 11) (t.val % 11) ⟨(vdats m 0 c).before 10 t d10, xn, cy, ext⟩ where
  xn := h.xn
  o h0 := fun r d => by
    show (vdats m 0 c).before 10 t d10 (ix2 r d) = _
    rw [vbefore_10 m c t h0]
    unfold oblk
    rw [if_neg (by omega), show t.val % 11 - 1 + 1 = t.val % 11 by omega]
    rfl
  cy := h.cy

/-- What a grid point leaves. -/
theorem post_of (c : Dev nD) (t : Fin cfg0.N) (d10 : (cfg0.win 10).block.Idx → Elt Ideal (cfg0.win 10).elt) (xn : Vec Ideal S1024x2048 .bf16) (cy : Vec Ideal S11x2x8x512 .f32) (ext : Vec Ideal S2x1032x512 .f32)
    (h : Inv (args m c) t.val xn cy) :
    Post (args m c) (t.val / 11) (t.val % 11) (step (grid0.coords t) (ins m c t) ⟨(vdats m 0 c).before 10 t d10, xn, cy, ext⟩) :=
  step_is (isIns m c t) (grid0.coords t) _ (co0 t) (co1 t) (pre_of m c t d10 xn cy ext h)

/-- What the body is called with at point `t`, -/
def vpre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d))
    ∗ (∃ d, owns (c : Thread nD τ) (st0_9 t) fullShare ((vdats m 0 c).before 9 t d))
    ∗ (∃ d, owns (c : Thread nD τ) (st0_10 t) fullShare ((vdats m 0 c).before 10 t d)))

/-- and what it returns. -/
def vpost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t)
    ∗ owns (c : Thread nD τ) (st0_8 t) fullShare ((vdats m 0 c).after 8 t)
    ∗ owns (c : Thread nD τ) (st0_9 t) fullShare ((vdats m 0 c).after 9 t)
    ∗ owns (c : Thread nD τ) (st0_10 t) fullShare ((vdats m 0 c).after 10 t))

/-- The body obligation's triple at any grid point, the output block named. -/
theorem vsound (c : Dev nD) (t : Fin cfg0.N) :
    vpre m c t ⊢ wp Idealize.ShloMosaic.frame (wpE (defs₀ (F := Ideal)) Variants.none c none) Set.univ (bodyAt0 t) (fun _ => vpost m c t) := by
  unfold vpre vpost
  simp only [vbefore_0, vbefore_1, vbefore_2, vbefore_3, vbefore_4, vbefore_5, vbefore_6, vbefore_7, vbefore_8, vbefore_9]
  rw [show (vdats m 0 c).owesAt () t.succ = (vdats m 0 c).owesAt () t.castSucc from rfl,
    vafter_0, vafter_1, vafter_2, vafter_3, vafter_4, vafter_5, vafter_6, vafter_7, vafter_8, vafter_9, vafter_10]
  rw [show (vdats m 0 c).Φ t.castSucc = PhiV m c t.val from rfl, show (vdats m 0 c).Φ t.succ = PhiV m c (t.val + 1) from rfl]
  unfold PhiV
  iintro ⟨⟨%d11, %d12, %d13, %hI, H11, H12, H13, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hP := post_of m c t d10 d11 d12 d13 hI
  have hN := inv_succ t.val hP
  rw [← oblk_of hP]
  iapply (body_at m c t ⟨(vdats m 0 c).before 10 t d10, d11, d12, d13⟩ Set.univ _)
  isplitl [H0 H1 H2 H3 H4 H5 H6 H7 H8 H9]
  · unfold inb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  isplitl [H13]; · iexact H13
  unfold inb
  iintro ⟨⟨H0, H1, H2, H3, H4, H5, H6, H7, H8, H9⟩, H10, H11, H12, H13⟩
  isplitl [H11 H12 H13 Hg]
  · iexists _, _, _
    isplitr; · ipureintro; exact hN
    isplitl [H11]; · iexact H11
    isplitl [H12]; · iexact H12
    isplitl [H13]; · iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem vobligation (c : Dev nD) : BodyObligation (vdats m 0 c) (defs₀ (F := Ideal)) Variants.none () Set.univ := fun t => by
  rw [Cert.FfnKernelIdeal.Own.row (F := Ideal) t, bigSep_W0, bigSep_W0, live10 (cfg0.grid.coords t)]
  exact triple_restated (vsound m c t) rfl .rfl fun _ => .rfl

set_option backward.isDefEq.respectTransparency.types false in
/-- Every execution of the program ends with every array at what its grid points wrote. -/
theorem vrun0 : θ_run defs (onTc (τ := τ) (main (F := Ideal))) (s₀ m ρ) (fun r => Pipeline.FramePost cfgs (vdats m) 0 (V m) r) :=
  Pipeline.θ_run_frame_track_shared cfgs (vdats m) (0 : Fin 1) launch₀0 defs₀ Variants.none m ρ main
    (hbody := fun c => (vobligation m c).loose) (hq := fun c w _ => rfl)
    (howed := fun _ _ => rfl) (V := V m) (hmain := hmain m Variants.none) (hA := vA_eq m)
    (hin := fun c => PhiV_in m c) (hout := fun c => PhiV_out m c _)

/-- What a grid point writes back is the layer's output there. -/
theorem flushed_eq (c : Dev nD) (t : Fin cfg0.N) (hf : (cfg0.win 10).flush t = true) :
    (vdats m 0 c).flushed 10 t = ((cfg0.win 10).blk t).view.read (Elt Ideal) (res m c) := by
  show (cfg0.win 10).cut (grid0.coords t) ((vdats m 0 c).after 10 t) = _
  rw [vafter_10, (flush0_10 t).mp hf]
  funext y
  obtain ⟨r, d, rfl⟩ : ∃ (r : Fin 1024) (d : Fin 2048), y = ix2 r d := ⟨y 0, y 1, eq_ix2 (n0 := 1024) (n1 := 2048) y⟩
  have e := ix_10 (grid0.coords t)
  rw [co0] at e
  have e0 : cc0_transform_10 (grid0.coords t) 0 = t.val / 11 := by rw [e]; rfl
  have e1 : cc0_transform_10 (grid0.coords t) 1 = 0 := by rw [e]; rfl
  rw [View.read_apply]
  show oblk (args m c) (t.val / 11) 10 (ix2 r d) = tgt (args m c) _
  unfold oblk tgt
  rw [if_pos rfl]
  have h0 : 1024 * (t.val / 11) + r.val = cc0_transform_10 (grid0.coords t) 0 * 1024 + 1 * r.val := by rw [e0]; omega
  have h1 : d.val = cc0_transform_10 (grid0.coords t) 1 * 2048 + 1 * d.val := by rw [e1]; omega
  exact congr (congrArg (out (args m c)) h0) (Fin.ext h1)

/-- The grid points' blocks cover the result array, so it ends holding the layer's output. -/
theorem final_o (c : Dev nD) : (vdats m 0 c).arrAt 10 cfg0.N = res m c :=
  (vdats m 0 c).arrAt_eq_of_cover 10 (res m c) (flushed_eq m c) fun i => by
    have h0 : (i 0).val < 16384 := (i 0).isLt
    have h1 : (i 1).val < 2048 := (i 1).isLt
    let cc : grid0.Coords := fun a => match a with
      | ⟨0, _⟩ => (⟨(i 0).val / 1024, by omega⟩ : Fin 16)
      | ⟨1, _⟩ => (⟨10, by omega⟩ : Fin 11)
    obtain ⟨t, ht⟩ : ∃ t : Fin cfg0.N, grid0.coords t = cc := grid0.coords_surjective cc
    refine ⟨t, (flush0_10 t).mpr ((co1 t).symm.trans (by rw [ht])), ?_⟩
    show i ∈ ((View.whole main_v6).slice (win0_10.rect t)).set
    rw [View.set_slice_whole, Rect.mem_set_unit]
    have e := ix_10 (grid0.coords t)
    rw [ht] at e
    intro a
    match a with
    | ⟨0, _⟩ =>
      show cc0_transform_10 (grid0.coords t) 0 * 1024 ≤ (i 0).val ∧ (i 0).val < cc0_transform_10 (grid0.coords t) 0 * 1024 + 1024
      rw [ht, e]
      show (i 0).val / 1024 * 1024 ≤ _ ∧ _ < (i 0).val / 1024 * 1024 + 1024
      omega
    | ⟨1, _⟩ =>
      show cc0_transform_10 (grid0.coords t) 1 * 2048 ≤ (i 1).val ∧ (i 1).val < cc0_transform_10 (grid0.coords t) 1 * 2048 + 2048
      rw [ht, e]
      show 0 * 2048 ≤ _ ∧ _ < 0 * 2048 + 2048
      omega

/-- The run, read: the result array ends holding the layer's output, the arguments unchanged. -/
theorem vrun : θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 10).trans (final_o m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 5).trans (((vdats m 0 c).arrAt_in 5 rfl cfg0.N).trans ((vA_eq m c 5).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (vrun0 m ρ)

end Cert.FfnKernelIdeal.Own

end
-- ==== Proof.Ffn.Ref.lean ====
/- The feed-forward reference's result with exact numbers, entry by entry: the layer's output. -/
module

public import proofs.«01_k».proof.Proof.Gen.FfnReferenceIdeal.Read
public import proofs.«01_k».proof.Proof.Ffn.Spec
public import proofs.«01_k».proof.Proof.Consts
public import Idealize.ShloMosaic.Lib.KernelVsHost

@[expose] public section

set_option maxRecDepth 16384

noncomputable section

namespace Cert.FfnReferenceIdeal.Own

open Cert.FfnReferenceIdeal Cert.FfnReferenceIdeal.Gen Cert.FfnReferenceIdeal.Read
open Idealize.ShloMosaic Idealize.ShloMosaic.TcCoe
open Cert.Ffn

/-- A rank-two index from its two coordinates' values. -/
theorem idx2 {n0 n1 : ℕ} (i : (⟨2, ![n0, n1]⟩ : Shape).Idx) (a : Fin n0) (b : Fin n1) (h0 : (i 0).val = a.val) (h1 : (i 1).val = b.val) : i = ix2 a b := by
  funext k
  match k with
  | ⟨0, _⟩ => exact Fin.ext h0
  | ⟨1, _⟩ => exact Fin.ext h1

/-- A rank-three index from its three coordinates' values. -/
theorem idx3 {n0 n1 n2 : ℕ} (i : (⟨3, ![n0, n1, n2]⟩ : Shape).Idx) (a : Fin n0) (b : Fin n1) (c : Fin n2) (h0 : (i 0).val = a.val) (h1 : (i 1).val = b.val)
    (h2 : (i 2).val = c.val) : i = ix3 a b c := by
  funext k
  match k with
  | ⟨0, _⟩ => exact Fin.ext h0
  | ⟨1, _⟩ => exact Fin.ext h1
  | ⟨2, _⟩ => exact Fin.ext h2

variable (A : Args) (b : Fin 4) (s : Fin 4096)

/-- The row of a batch and a position. -/
theorem row_at (k : Fin 2048) : row A (4096 * b.val + s.val) k = A.h (ix3 b s k) := by
  have hb := b.isLt
  have hs := s.isLt
  unfold row
  exact congrArg A.h (idx3 _ _ _ _ (show (4096 * b.val + s.val) / 4096 % 4 = b.val by omega) (show (4096 * b.val + s.val) % 4096 = s.val by omega) rfl)

/-- The mean square of a row. -/
theorem v3_at : val_main_v3 (F := Ideal) A.h (ix2 b s) = ∑ k, row A (4096 * b.val + s.val) k * row A (4096 * b.val + s.val) k := by
  rw [val_main_v3_apply, val_main_cst_apply]
  show Ideal.ofBits .f32 0x00000000#32 + _ = _
  rw [Cert.Consts.ofBits_0, EReal.coe_zero, zero_add]
  refine Finset.sum_congr rfl fun k _ => ?_
  rw [val_main_v2_apply, idx3 (idx_main_v3 (ix2 b s) k) b s k rfl rfl rfl, row_at]
  rfl

theorem v13_at (k : Fin 2048) : val_main_v13 (F := Ideal) A.g (ix3 b s k) = gain A.g k := by
  rw [val_main_v13_apply, val_main_v12_apply, val_main_v1_apply, val_main_v0_apply]
  exact congrArg A.g (idx2 _ _ _ rfl (Nat.mod_eq_of_lt k.isLt))

/-- The normed rows. -/
theorem v14_at (k : Fin 2048) : val_main_v14 (F := Ideal) A.h A.g (ix3 b s k) = nm (row A (4096 * b.val + s.val)) (gain A.g) k := by
  rw [val_main_v14_apply, v13_at, val_main_v11_apply, val_main_v10_apply, val_main_v9_apply, val_main_v8_apply, val_main_v6_apply, val_main_v7_apply,
    val_main_v5_apply, val_main_v4_apply, idx2 (idx_main_v4 (idx_main_v10 (ix3 b s k))) b s rfl rfl, v3_at]
  unfold nm
  rw [row_at A b s k]
  rfl

/-- The up projection. -/
theorem v17_at (c : Fin 11264) : val_main_v17 (F := Ideal) A.h A.g A.w (ix3 b s c) = upp A (4096 * b.val + s.val) c.val := by
  rw [val_main_v17_apply]
  unfold upp
  refine Finset.sum_congr rfl fun k _ => ?_
  have hk := k.isLt
  have hc := c.isLt
  rw [idx3 (lidx_main_v17 (ix3 b s c) k) b s k rfl rfl rfl, v14_at, val_main_v16_apply, val_main_v15_apply]
  refine congrArg (fun z => @HMul.hMul EReal EReal EReal _ _ z) (congrArg A.w (idx3 _ _ _ _ rfl ?_ ?_))
  · show (k.val * 11264 + c.val) / 11264 % 2048 = k.val; omega
  · show (k.val * 11264 + c.val) % 11264 = c.val % 11264; omega

/-- The up projection with two rows of zeros before it. -/
theorem v18_at (p : Fin 4098) (j : ℕ) (hp : p.val = s.val + j) (c : Fin 11264) :
    val_main_v18 (F := Ideal) A.h A.g A.w (ix3 b p c) = sh A (4096 * b.val + s.val) j c.val := by
  have hb := b.isLt
  have hs := s.isLt
  have hpl := p.isLt
  unfold val_main_v18 sh
  by_cases h : s.val + j < 2
  · rw [if_pos (by omega)]
    refine (pad_apply_of_not_inside _ _ _ _ _ _ _ (ix3 b p c) (1 : Fin 3) (fun hin => ?_)).trans ?_
    · have e : 2 ≤ p.val := hin.1
      omega
    · rw [val_main_call0_v0_apply, val_main_c_apply]
      show ((((0#32 : BitVec 32).toInt : ℝ)) : EReal) = 0
      rw [show (0#32 : BitVec 32).toInt = 0 from rfl, Int.cast_zero, EReal.coe_zero]
  · rw [if_neg (by omega)]
    refine (pad_apply_of_inside _ _ _ _ _ _ _ (ix3 b p c) (ix3 b ⟨p.val - 2, by omega⟩ c) (fun a => ?_)).trans ?_
    · match a with
      | ⟨0, _⟩ => show b.val = 0 + b.val * (0 + 1); omega
      | ⟨1, _⟩ => show p.val = 2 + (p.val - 2) * (0 + 1); omega
      | ⟨2, _⟩ => show c.val = 0 + c.val * (0 + 1); omega
    · rw [v17_at]
      show upp A (4096 * b.val + (p.val - 2)) _ = _
      rw [show 4096 * b.val + (p.val - 2) = 4096 * b.val + s.val + j - 2 by omega]

/-- A tap's row, broadcast. -/
theorem tap_at (c : Fin 11264) : val_main_v27 (F := Ideal) A.tp (ix3 b s c) = tap A 0 c.val
    ∧ val_main_v37 (F := Ideal) A.tp (ix3 b s c) = tap A 1 c.val ∧ val_main_v46 (F := Ideal) A.tp (ix3 b s c) = tap A 2 c.val := by
  have hc := c.isLt
  unfold tap
  refine ⟨?_, ?_, ?_⟩
  · rw [val_main_v27_apply, val_main_v26_apply, val_main_v25_apply, val_main_v24_apply, val_main_v23_apply, val_main_v22_apply]
    refine congrArg A.tp (idx3 _ _ _ _ rfl ?_ ?_)
    · show (0 * 11264 + c.val % 11264) / 11264 % 3 = 0; omega
    · show (0 * 11264 + c.val % 11264) % 11264 = c.val % 11264; omega
  · rw [val_main_v37_apply, val_main_v36_apply, val_main_v35_apply, val_main_v34_apply, val_main_v33_apply, val_main_v32_apply]
    refine congrArg A.tp (idx3 _ _ _ _ rfl ?_ ?_)
    · show ((1 + 0) * 11264 + c.val % 11264) / 11264 % 3 = 1; omega
    · show ((1 + 0) * 11264 + c.val % 11264) % 11264 = c.val % 11264; omega
  · rw [val_main_v46_apply, val_main_v45_apply, val_main_v44_apply, val_main_v43_apply, val_main_v42_apply, val_main_v41_apply]
    refine congrArg A.tp (idx3 _ _ _ _ rfl ?_ ?_)
    · show ((2 + 0) * 11264 + c.val % 11264) / 11264 % 3 = 2; omega
    · show ((2 + 0) * 11264 + c.val % 11264) % 11264 = c.val % 11264; omega

theorem bias_at (c : Fin 11264) : val_main_v50 (F := Ideal) A.b (ix3 b s c) = bias A c.val := by
  rw [val_main_v50_apply, val_main_v49_apply, val_main_v20_apply, val_main_v19_apply]
  exact congrArg A.b (idx2 _ _ _ rfl rfl)

/-- The convolution. -/
theorem v51_at (c : Fin 11264) : val_main_v51 (F := Ideal) A.h A.g A.w A.tp A.b (ix3 b s c) = cv A (4096 * b.val + s.val) c.val := by
  have hs := s.isLt
  obtain ⟨t0, t1, t2⟩ := tap_at A b s c
  rw [val_main_v51_apply, bias_at, val_main_v48_apply, val_main_v47_apply, t2, val_main_v39_apply, val_main_v38_apply, t1, val_main_v30_apply, val_main_v28_apply, t0,
    val_main_v29_apply, val_main_cst_2_apply, val_main_v21_apply, val_main_v31_apply, val_main_v40_apply,
    idx3 (idx_main_v21 (ix3 b s c)) b ⟨s.val, by omega⟩ c rfl rfl rfl, v18_at A b s _ 0 rfl,
    idx3 (idx_main_v31 (ix3 b s c)) b ⟨s.val + 1, by omega⟩ c rfl (show 1 + s.val = s.val + 1 by omega) rfl, v18_at A b s _ 1 rfl,
    idx3 (idx_main_v40 (ix3 b s c)) b ⟨s.val + 2, by omega⟩ c rfl (show 2 + s.val = s.val + 2 by omega) rfl, v18_at A b s _ 2 rfl]
  unfold cv
  show bias A c.val + (Ideal.ofBits .f32 0x00000000#32 + sh A _ 0 c.val * tap A 0 c.val + sh A _ 1 c.val * tap A 1 c.val + sh A _ 2 c.val * tap A 2 c.val) = _
  rw [Cert.Consts.ofBits_0, EReal.coe_zero, zero_add, mul_comm (sh A _ 0 _), mul_comm (sh A _ 1 _), mul_comm (sh A _ 2 _), add_assoc, add_assoc, add_assoc]

/-- The gated activation. -/
theorem v55_at (u : Fin 5632) : val_main_v55 (F := Ideal) A.h A.g A.w A.tp A.b (ix3 b s u) = act A (4096 * b.val + s.val) u.val := by
  have hu := u.isLt
  have e0 : val_main_v52 (F := Ideal) A.h A.g A.w A.tp A.b (ix3 b s u) = cv A (4096 * b.val + s.val) u.val := by
    rw [val_main_v52_apply, idx3 (idx_main_v52 (ix3 b s u)) b s ⟨u.val, by omega⟩ rfl rfl rfl, v51_at]
  have e1 : val_main_v53 (F := Ideal) A.h A.g A.w A.tp A.b (ix3 b s u) = cv A (4096 * b.val + s.val) (u.val + 5632) := by
    rw [val_main_v53_apply, idx3 (idx_main_v53 (ix3 b s u)) b s ⟨u.val + 5632, by omega⟩ rfl rfl (show 5632 + u.val = u.val + 5632 by omega), v51_at]
  rw [val_main_v55_apply, e1, val_main_v54_apply, val_main_call1_v5_apply, val_main_call1_v4_apply, val_main_call1_cst_0_apply, val_main_call1_v3_apply, val_main_call1_v2_apply,
    val_main_call1_cst_apply, val_main_call1_v1_apply, val_main_call1_v0_apply, e0]
  unfold act Ideal.logistic
  show cv A _ _ * Ideal.div (Ideal.ofBits .f32 0x3F800000#32) (Ideal.ofBits .f32 0x3F800000#32 + Ideal.exp (-(cv A _ _))) * _ = _
  rw [Cert.Consts.ofBits_1, EReal.coe_one]

/-- The down projection. -/
theorem v58_at (d : Fin 2048) : val_main_v58 (F := Ideal) A.h A.g A.w A.tp A.b A.wd (ix3 b s d) = part A (4096 * b.val + s.val) 5632 d := by
  rw [val_main_v58_apply]
  unfold part
  rw [Finset.sum_range]
  refine Finset.sum_congr rfl fun u _ => ?_
  have hu := u.isLt
  have hd := d.isLt
  rw [idx3 (lidx_main_v58 (ix3 b s d) u) b s u rfl rfl rfl, v55_at, val_main_v57_apply, val_main_v56_apply]
  refine congrArg (fun z => @HMul.hMul EReal EReal EReal _ _ z) (congrArg A.wd (idx3 _ _ _ _ rfl ?_ ?_))
  · show (u.val * 2048 + d.val) / 2048 % 5632 = u.val % 5632; omega
  · show (u.val * 2048 + d.val) % 2048 = d.val; omega

theorem v62_at : val_main_v62 (F := Ideal) A.h A.g A.w A.tp A.b A.wd (ix2 b s)
    = ∑ k, part A (4096 * b.val + s.val) 5632 k * part A (4096 * b.val + s.val) 5632 k := by
  rw [val_main_v62_apply, val_main_cst_3_apply]
  show Ideal.ofBits .f32 0x00000000#32 + _ = _
  rw [Cert.Consts.ofBits_0, EReal.coe_zero, zero_add]
  refine Finset.sum_congr rfl fun k _ => ?_
  rw [val_main_v61_apply, idx3 (idx_main_v62 (ix2 b s) k) b s k rfl rfl rfl, v58_at]
  rfl

theorem v72_at (k : Fin 2048) : val_main_v72 (F := Ideal) A.g' (ix3 b s k) = gain A.g' k := by
  rw [val_main_v72_apply, val_main_v71_apply, val_main_v60_apply, val_main_v59_apply]
  exact congrArg A.g' (idx2 _ _ _ rfl (Nat.mod_eq_of_lt k.isLt))

/-- The residual's sum. -/
theorem v74_at (d : Fin 2048) : val_main_v74 (F := Ideal) A.h A.g A.w A.tp A.b A.wd A.g' (ix3 b s d) = out A (4096 * b.val + s.val) d := by
  rw [val_main_v74_apply, val_main_v73_apply, v72_at, val_main_v70_apply, v58_at, val_main_v69_apply, val_main_v68_apply, val_main_v67_apply, val_main_v65_apply,
    val_main_v66_apply, val_main_v64_apply, val_main_v63_apply, idx2 (idx_main_v63 (idx_main_v69 (ix3 b s d))) b s rfl rfl, v62_at]
  unfold out nm
  rw [row_at A b s d]
  rfl

/-- The reference's result is the layer's output. -/
theorem ref_eq : val_main_v75 (F := Ideal) A.h A.g A.w A.tp A.b A.wd A.g' = tgt A := by
  funext y
  have h0 : (y 0).val < 16384 := (y 0).isLt
  have h1 : (y 1).val < 2048 := (y 1).isLt
  rw [val_main_v75_apply, idx3 (idx_main_v75 y) ⟨(y 0).val / 4096, by omega⟩ ⟨(y 0).val % 4096, by omega⟩ ⟨(y 1).val, h1⟩
    (show ((y 0).val * 2048 + (y 1).val) / 8388608 = (y 0).val / 4096 by omega)
    (show ((y 0).val * 2048 + (y 1).val) / 2048 % 4096 = (y 0).val % 4096 by omega)
    (show ((y 0).val * 2048 + (y 1).val) % 2048 = (y 1).val by omega), v74_at]
  unfold tgt
  show out A (4096 * ((y 0).val / 4096) + (y 0).val % 4096) _ = _
  rw [show 4096 * ((y 0).val / 4096) + (y 0).val % 4096 = (y 0).val by omega]

end Cert.FfnReferenceIdeal.Own

end
-- ==== Proof.Proj.Same.lean ====
/- The output projection's kernel and its idealization have the same text: their programs and body tables are equal at any
   formats, so a run of the one is a run of the other. -/
module

public import proofs.«01_k».proof.Proof.Gen.ProjKernelIdeal.Frame
public import proofs.«01_k».proof.Proof.Gen.ProjKernel

@[expose] public section

noncomputable section

namespace Cert.ProjKernel.Own

open Idealize.ShloMosaic

variable {F : FTy → Type} [FloatOps F]

/-- The bodies of the call are the same program. -/
theorem same_body : Cert.ProjKernel.cc0_attn_out_proj (F := F) = Cert.ProjKernelIdeal.cc0_attn_out_proj (F := F) := rfl

/-- The host programs are the same. -/
theorem same_main : Cert.ProjKernel.main (F := F) = Cert.ProjKernelIdeal.main (F := F) := rfl

/-- The tables of bodies are the same: each has the one label. -/
theorem same_defs₀ : Cert.ProjKernel.defs₀ (F := F) = Cert.ProjKernelIdeal.defs₀ (F := F) := by
  funext c
  cases c
  · funext ℓ a
    match ℓ, a with
    | 0, (t, s) => exact rfl
  · rfl
  · rfl

/-- The tables of bodies and pipelines are the same. -/
theorem same_defs : Cert.ProjKernel.defs (F := F) = Cert.ProjKernelIdeal.defs (F := F) :=
  congrArg (Pipeline.defs Cert.ProjKernelIdeal.pcfgs) same_defs₀

end Cert.ProjKernel.Own

end
-- ==== Proof.Proj.Spec.lean ====
/- The attention's output projection, entry by entry, with exact numbers. -/
module

public import proofs.«01_k».proof.Proof.Ffn.Spec
public import proofs.«01_k».proof.Proof.Gen.ProjKernelIdeal.Skeleton

@[expose] public section

set_option maxRecDepth 16384

noncomputable section

namespace Cert.Proj

open Cert.ProjKernelIdeal
open Idealize.ShloMosaic Idealize.ShloMosaic.TcCoe

/-- The arguments: the attention's output, the projection's weight, the residual stream and the gains. -/
structure Args where
  a : S4x4096x2048.Idx → EReal
  w : S1x2048x2048.Idx → EReal
  h : S4x4096x2048.Idx → EReal
  g : S2x2048.Idx → EReal

/-- A row of a batched array, the batches one after another. -/
def row (x : S4x4096x2048.Idx → EReal) (n : ℕ) (k : Fin 2048) : EReal := x (ix3 (Fin.ofNat 4 (n / 4096)) (Fin.ofNat 4096 n) k)

variable (A : Args)

/-- The projected row. -/
def mix (n : ℕ) (d : Fin 2048) : EReal := ∑ k, row A.a n k * A.w (ix3 0 k d)

/-- The result's entry: the residual plus the normed projection. -/
def out (n : ℕ) (d : Fin 2048) : EReal := row A.h n d + Cert.Ffn.nm (mix A n) (fun k => A.g (ix2 1 k)) d

/-- The result, as the result array holds it. -/
def tgt : S16384x2048.Idx → EReal := fun y => out A (y 0).val ⟨(y 1).val, (y 1).isLt⟩

end Cert.Proj

end
-- ==== Proof.Proj.Val.lean ====
/- The run of the output projection's call with exact numbers: the result array ends holding the specified output. -/
module

public import proofs.«01_k».proof.Proof.Proj.Spec
public import proofs.«01_k».proof.Proof.Gen.ProjKernelIdeal.Value
public import Idealize.ShloMosaic.Lib.StableHlo.ReadAt
public import Idealize.ShloMosaic.Lib.Pipeline.Value
public import Idealize.ShloMosaic.Lib.Pipeline.Covers
public import Idealize.ShloMosaic.Lib.Pointwise

@[expose] public section

set_option maxRecDepth 16384

noncomputable section

namespace Cert.ProjKernelIdeal.Own

open Cert.ProjKernelIdeal Cert.ProjKernelIdeal.Gen
open Idealize.ShloMosaic Idealize.ShloMosaic.TcCoe Idealize.SL.Sem
open Cert.Proj
open Cert.Ffn (nm)

/-- What a grid point stores, at an index. -/
theorem pay_apply (v0 : Vec Ideal S512x2048 .f32) (v2 : Vec Ideal S512x2048 .bf16) (v4 : Vec Ideal S2048x2048 .bf16) (v7 : Vec Ideal S1x2048 .f32)
    (r : Fin 512) (d : Fin 2048) : (k0_pay1 v0 v2 v4 v7 : S512x2048.Idx → EReal) (ix2 r d)
      = (v0 (ix2 r d) : EReal) + nm (fun e => ∑ k : Fin 2048, (v2 (ix2 r k) : EReal) * (v4 (ix2 k e) : EReal)) (fun e => (v7 (ix2 0 e) : EReal)) d := by
  unfold nm
  pointwise [k0_pay1]

/-! ## The grid -/

theorem co0 (t : Fin cfg0.N) : ((grid0.coords t) 0).val = t.val := by
  have h : t.val < 32 := t.isLt
  rw [Pipeline.Grid.coords_val (G := grid0) t 0 (S := 1) (B := 32) rfl rfl]
  omega

theorem nat32 : ∀ a : Fin 32, (BitVec.ofNat 32 a.val).toNat = a.val := by decide

theorem ix_0 (i : grid0.Coords) : cc0_transform_0 i = ![(i 0).val, 0] := congrArg (fun a => ![a, 0]) (nat32 (i 0))
theorem ix_1 (i : grid0.Coords) : cc0_transform_1 i = ![0, 0] := rfl
theorem ix_2 (i : grid0.Coords) : cc0_transform_2 i = ![(i 0).val, 0] := congrArg (fun a => ![a, 0]) (nat32 (i 0))
theorem ix_3 (i : grid0.Coords) : cc0_transform_3 i = ![0, 0] := rfl
theorem ix_4 (i : grid0.Coords) : cc0_transform_4 i = ![(i 0).val, 0] := congrArg (fun a => ![a, 0]) (nat32 (i 0))

theorem flush4 : ∀ t : Fin cfg0.N, (cfg0.win 4).flush t = true :=
  (by decide +kernel : ∀ t : Fin grid0.N, win0_4.flush t = true)

/-! ## The arrays -/

variable (m : (ℓ : Loc nD τ sig) → Buf (Elt Ideal) ℓ) (ρ : Dev nD → PrngReg) (c : Dev nD)

/-- The arguments a device holds. -/
def args : Args where
  a := m ((c : Thread nD τ).loc main_arg0)
  w := m ((c : Thread nD τ).loc main_arg1)
  h := m ((c : Thread nD τ).loc main_arg2)
  g := m ((c : Thread nD τ).loc main_arg3)

/-- The result's contents on a device. -/
def res : Buf (Elt Ideal) ((c : Thread nD τ).loc main_v8) := tgt (args m c)

theorem host1 (n : Fin 16384) (k : Fin 2048) :
    (V m c main_v1 : S16384x2048.Idx → EReal) (ix2 n k) = (m ((c : Thread nD τ).loc main_arg0) : S4x4096x2048.Idx → EReal)
      (ix3 ⟨n.val / 4096, by omega⟩ ⟨n.val % 4096, Nat.mod_lt _ (by norm_num)⟩ k) := by
  unfold V
  after_reads_at

theorem host3 (k d : Fin 2048) :
    (V m c main_v3 : S2048x2048.Idx → EReal) (ix2 k d) = (m ((c : Thread nD τ).loc main_arg1) : S1x2048x2048.Idx → EReal) (ix3 0 k d) := by
  unfold V
  after_reads_at

theorem host4 (n : Fin 16384) (k : Fin 2048) :
    (V m c main_v4 : S16384x2048.Idx → EReal) (ix2 n k) = (m ((c : Thread nD τ).loc main_arg2) : S4x4096x2048.Idx → EReal)
      (ix3 ⟨n.val / 4096, by omega⟩ ⟨n.val % 4096, Nat.mod_lt _ (by norm_num)⟩ k) := by
  unfold V
  after_reads_at

theorem host7 (k : Fin 2048) :
    (V m c main_v7 : S1x2048.Idx → EReal) (ix2 0 k) = (m ((c : Thread nD τ).loc main_arg3) : S2x2048.Idx → EReal) (ix2 1 k) := by
  unfold V
  after_reads_at

/-! ## The blocks -/

variable (t : Fin cfg0.N)

/-- An entry at a row's batch and position is the row's. -/
theorem at_row (x : S4x4096x2048.Idx → EReal) (n : ℕ) (hn : n < 16384) (k : Fin 2048) (hp : n / 4096 < 4) (hq : n % 4096 < 4096) :
    x (ix3 ⟨n / 4096, hp⟩ ⟨n % 4096, hq⟩ k) = row x n k := by
  have e : (⟨n / 4096, hp⟩ : Fin 4) = Fin.ofNat 4 (n / 4096) := Fin.ext (Nat.mod_eq_of_lt hp).symm
  unfold row
  rw [e]
  rfl

/-- The attention's rows. -/
theorem iblk0 (r : Fin 512) (k : Fin 2048) :
    (iblk m c 0 t : S512x2048.Idx → EReal) (ix2 r k) = row (args m c).a (512 * t.val + r.val) k := by
  have ht : t.val < 32 := t.isLt
  have e : (iblk m c 0 t : S512x2048.Idx → EReal) (ix2 r k) = (V m c main_v1 : S16384x2048.Idx → EReal) (ix2 ⟨512 * t.val + r.val, by omega⟩ k) := by
    unfold iblk
    rw [View.read_apply]
    show V m c main_v1 _ = V m c main_v1 _
    have e := ix_0 (grid0.coords t)
    rw [co0] at e
    refine congrArg (V m c main_v1) (funext fun a => Fin.ext ?_)
    match a with
    | ⟨0, _⟩ => show cc0_transform_0 (grid0.coords t) 0 * 512 + 1 * r.val = 512 * t.val + r.val; rw [e]; show t.val * 512 + _ = _; omega
    | ⟨1, _⟩ => show cc0_transform_0 (grid0.coords t) 1 * 2048 + 1 * k.val = k.val; rw [e]; show 0 * 2048 + 1 * k.val = k.val; omega
  rw [e, host1]
  exact at_row (args m c).a (512 * t.val + r.val) (by omega) k _ _

/-- The projection's weight. -/
theorem iblk1 (k d : Fin 2048) : (iblk m c 1 t : S2048x2048.Idx → EReal) (ix2 k d) = (args m c).w (ix3 0 k d) := by
  have e : (iblk m c 1 t : S2048x2048.Idx → EReal) (ix2 k d) = (V m c main_v3 : S2048x2048.Idx → EReal) (ix2 k d) := by
    unfold iblk
    rw [View.read_apply]
    show V m c main_v3 _ = V m c main_v3 _
    refine congrArg (V m c main_v3) (funext fun a => Fin.ext ?_)
    match a with
    | ⟨0, _⟩ => show 0 * 2048 + 1 * k.val = k.val; omega
    | ⟨1, _⟩ => show 0 * 2048 + 1 * d.val = d.val; omega
  rw [e, host3]
  rfl

/-- The residual's rows. -/
theorem iblk2 (r : Fin 512) (k : Fin 2048) :
    (iblk m c 2 t : S512x2048.Idx → EReal) (ix2 r k) = row (args m c).h (512 * t.val + r.val) k := by
  have ht : t.val < 32 := t.isLt
  have e : (iblk m c 2 t : S512x2048.Idx → EReal) (ix2 r k) = (V m c main_v4 : S16384x2048.Idx → EReal) (ix2 ⟨512 * t.val + r.val, by omega⟩ k) := by
    unfold iblk
    rw [View.read_apply]
    show V m c main_v4 _ = V m c main_v4 _
    have e := ix_2 (grid0.coords t)
    rw [co0] at e
    refine congrArg (V m c main_v4) (funext fun a => Fin.ext ?_)
    match a with
    | ⟨0, _⟩ => show cc0_transform_2 (grid0.coords t) 0 * 512 + 1 * r.val = 512 * t.val + r.val; rw [e]; show t.val * 512 + _ = _; omega
    | ⟨1, _⟩ => show cc0_transform_2 (grid0.coords t) 1 * 2048 + 1 * k.val = k.val; rw [e]; show 0 * 2048 + 1 * k.val = k.val; omega
  rw [e, host4]
  exact at_row (args m c).h (512 * t.val + r.val) (by omega) k _ _

/-- The gain. -/
theorem iblk3 (d : Fin 2048) : (iblk m c 3 t : S1x2048.Idx → EReal) (ix2 0 d) = (args m c).g (ix2 1 d) := by
  have e : (iblk m c 3 t : S1x2048.Idx → EReal) (ix2 0 d) = (V m c main_v7 : S1x2048.Idx → EReal) (ix2 0 d) := by
    unfold iblk
    rw [View.read_apply]
    show V m c main_v7 _ = V m c main_v7 _
    refine congrArg (V m c main_v7) (funext fun a => Fin.ext ?_)
    match a with
    | ⟨0, _⟩ => show 0 * 1 + 1 * 0 = 0; omega
    | ⟨1, _⟩ => show 0 * 2048 + 1 * d.val = d.val; omega
  rw [e, host7]
  rfl

/-! ## The result -/

theorem z2 : (![0, 0] : Fin 2 → ℕ) = fun _ => 0 := by
  funext a
  match a with
  | ⟨0, _⟩ => rfl
  | ⟨1, _⟩ => rfl

/-- A grid point's stored block is its payload of the staged blocks. -/
theorem out_eq (x0 : Vec Ideal S512x2048 .bf16) (x1 : Vec Ideal S2048x2048 .bf16) (x2 : Vec Ideal S512x2048 .f32) (x3 : Vec Ideal S1x2048 .f32) :
    out0_4 x0 x1 x2 x3 = k0_pay1 x2 x0 x1 x3 := by
  unfold out0_4
  rw [View.canon_unit_zero z2, View.ld_unit_zero z2, View.ld_unit_zero z2, View.ld_unit_zero z2, View.ld_unit_zero z2]

/-- What a grid point writes back is the specified output there. -/
theorem flushed_eq (hf : (cfg0.win 4).flush t = true) :
    (dats m 0 c).flushed 4 t = ((cfg0.win 4).blk t).view.read (Elt Ideal) (res m c) := by
  rw [Value.flushed4, out_eq]
  funext y
  obtain ⟨r, d, rfl⟩ : ∃ (r : Fin 512) (d : Fin 2048), y = ix2 r d := ⟨y 0, y 1, eq_ix2 (n0 := 512) (n1 := 2048) y⟩
  have e := ix_4 (grid0.coords t)
  rw [co0] at e
  have e0 : cc0_transform_4 (grid0.coords t) 0 = t.val := by rw [e]; rfl
  have e1 : cc0_transform_4 (grid0.coords t) 1 = 0 := by rw [e]; rfl
  rw [View.read_apply]
  show (k0_pay1 (iblk m c 2 t) (iblk m c 0 t) (iblk m c 1 t) (iblk m c 3 t) : S512x2048.Idx → EReal) (ix2 r d) = tgt (args m c) _
  have h0 : 512 * t.val + r.val = cc0_transform_4 (grid0.coords t) 0 * 512 + 1 * r.val := by rw [e0]; omega
  have h1 : d.val = cc0_transform_4 (grid0.coords t) 1 * 2048 + 1 * d.val := by rw [e1]; omega
  have h2 : cc0_transform_4 (grid0.coords t) 1 * 2048 + 1 * d.val < 2048 := by rw [← h1]; exact d.isLt
  have h : out (args m c) (512 * t.val + r.val) d = out (args m c) (cc0_transform_4 (grid0.coords t) 0 * 512 + 1 * r.val) ⟨cc0_transform_4 (grid0.coords t) 1 * 2048 + 1 * d.val, h2⟩ :=
    congr (congrArg (out (args m c)) h0) (Fin.ext h1)
  refine Eq.trans ?_ h
  rw [pay_apply, iblk2]
  unfold out
  refine congrArg _ (Cert.Ffn.nm_congr (fun e => ?_) (fun e => iblk3 m c t e) d)
  unfold mix
  exact Finset.sum_congr rfl fun k _ => by rw [iblk0, iblk1]

/-- The grid points' blocks cover the result array, so it ends holding the specified output. -/
theorem final_o : (dats m 0 c).arrAt 4 cfg0.N = res m c :=
  (dats m 0 c).arrAt_eq_of_cover 4 (res m c) (flushed_eq m c) fun i => by
    have h0 : (i 0).val < 16384 := (i 0).isLt
    have h1 : (i 1).val < 2048 := (i 1).isLt
    let cc : grid0.Coords := fun a => match a with
      | ⟨0, _⟩ => (⟨(i 0).val / 512, by omega⟩ : Fin 32)
    obtain ⟨t, ht⟩ : ∃ t : Fin cfg0.N, grid0.coords t = cc := grid0.coords_surjective cc
    refine ⟨t, flush4 t, ?_⟩
    show i ∈ ((View.whole main_v8).slice (win0_4.rect t)).set
    rw [View.set_slice_whole, Rect.mem_set_unit]
    have e := ix_4 (grid0.coords t)
    rw [ht] at e
    intro a
    match a with
    | ⟨0, _⟩ =>
      show cc0_transform_4 (grid0.coords t) 0 * 512 ≤ (i 0).val ∧ (i 0).val < cc0_transform_4 (grid0.coords t) 0 * 512 + 512
      rw [ht, e]
      show (i 0).val / 512 * 512 ≤ _ ∧ _ < (i 0).val / 512 * 512 + 512
      omega
    | ⟨1, _⟩ =>
      show cc0_transform_4 (grid0.coords t) 1 * 2048 ≤ (i 1).val ∧ (i 1).val < cc0_transform_4 (grid0.coords t) 1 * 2048 + 2048
      rw [ht, e]
      show 0 * 2048 ≤ _ ∧ _ < 0 * 2048 + 2048
      omega

/-- The run, read: the result array ends holding the specified output, the arguments unchanged. -/
theorem vrun : θ_run defs (onTc (τ := τ) (main (F := Ideal))) ⟨m, fun _ => 0, ρ⟩ (fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final_o m c), (h c).2⟩) (Value.run_blocks m ρ)

end Cert.ProjKernelIdeal.Own

end
-- ==== Proof.Proj.Ref.lean ====
/- The output projection's reference with exact numbers, entry by entry. -/
module

public import proofs.«01_k».proof.Proof.Gen.ProjReferenceIdeal.Read
public import proofs.«01_k».proof.Proof.Proj.Spec
public import proofs.«01_k».proof.Proof.Ffn.Ref

@[expose] public section

set_option maxRecDepth 16384

noncomputable section

namespace Cert.ProjReferenceIdeal.Own

open Cert.ProjReferenceIdeal Cert.ProjReferenceIdeal.Gen Cert.ProjReferenceIdeal.Read
open Idealize.ShloMosaic Idealize.ShloMosaic.TcCoe
open Cert.Proj
open Cert.FfnReferenceIdeal.Own (idx2 idx3)

variable (A : Args) (b : Fin 4) (s : Fin 4096)

/-- The row of a batch and a position. -/
theorem row_at (x : Cert.ProjKernelIdeal.S4x4096x2048.Idx → EReal) (k : Fin 2048) : row x (4096 * b.val + s.val) k = x (ix3 b s k) := by
  have hb := b.isLt
  have hs := s.isLt
  unfold row
  exact congrArg x (idx3 _ _ _ _ (show (4096 * b.val + s.val) / 4096 % 4 = b.val by omega) (show (4096 * b.val + s.val) % 4096 = s.val by omega) rfl)

/-- The projection. -/
theorem v1_at (d : Fin 2048) : val_main_v1 (F := Ideal) A.a A.w (ix3 b s d) = mix A (4096 * b.val + s.val) d := by
  rw [val_main_v1_apply]
  unfold mix
  refine Finset.sum_congr rfl fun k _ => ?_
  have hk := k.isLt
  have hd := d.isLt
  rw [idx3 (lidx_main_v1 (ix3 b s d) k) b s k rfl rfl rfl, row_at, val_main_v0_apply]
  refine congrArg (fun z => @HMul.hMul EReal EReal EReal _ _ z) (congrArg A.w (idx3 _ _ _ _ ?_ ?_ ?_))
  · first | rfl | (show (k.val * 2048 + d.val) / 4194304 = 0; omega) | (exact Fin.val_eq_zero _)
  · show (k.val * 2048 + d.val) / 2048 % 2048 = k.val; omega
  · show (k.val * 2048 + d.val) % 2048 = d.val; omega

/-- The projection's sum of squares. -/
theorem v5_at : val_main_v5 (F := Ideal) A.a A.w (ix2 b s) = ∑ k, mix A (4096 * b.val + s.val) k * mix A (4096 * b.val + s.val) k := by
  rw [val_main_v5_apply, val_main_cst_apply]
  show Ideal.ofBits .f32 0x00000000#32 + _ = _
  rw [Cert.Consts.ofBits_0, EReal.coe_zero, zero_add]
  refine Finset.sum_congr rfl fun k _ => ?_
  rw [val_main_v4_apply, idx3 (idx_main_v5 (ix2 b s) k) b s k rfl rfl rfl, v1_at]
  rfl

/-- The gain. -/
theorem v15_at (k : Fin 2048) : val_main_v15 (F := Ideal) A.g (ix3 b s k) = A.g (ix2 1 k) := by
  rw [val_main_v15_apply, val_main_v14_apply, val_main_v3_apply, val_main_v2_apply]
  exact congrArg A.g (idx2 _ _ _ rfl (Nat.mod_eq_of_lt k.isLt))

/-- The residual's sum. -/
theorem v17_at (d : Fin 2048) : val_main_v17 (F := Ideal) A.a A.w A.h A.g (ix3 b s d) = out A (4096 * b.val + s.val) d := by
  rw [val_main_v17_apply, val_main_v16_apply, v15_at, val_main_v13_apply, v1_at, val_main_v12_apply, val_main_v11_apply, val_main_v10_apply, val_main_v8_apply,
    val_main_v9_apply, val_main_v7_apply, val_main_v6_apply, idx2 (idx_main_v6 (idx_main_v12 (ix3 b s d))) b s rfl rfl, v5_at]
  unfold out Cert.Ffn.nm
  rw [row_at b s A.h d]
  rfl

/-- The reference's result is the specified output. -/
theorem ref_eq : val_main_v18 (F := Ideal) A.a A.w A.h A.g = tgt A := by
  funext y
  have h0 : (y 0).val < 16384 := (y 0).isLt
  have h1 : (y 1).val < 2048 := (y 1).isLt
  rw [val_main_v18_apply, idx3 (idx_main_v18 y) ⟨(y 0).val / 4096, by omega⟩ ⟨(y 0).val % 4096, by omega⟩ ⟨(y 1).val, h1⟩
    (show ((y 0).val * 2048 + (y 1).val) / 8388608 = (y 0).val / 4096 by omega)
    (show ((y 0).val * 2048 + (y 1).val) / 2048 % 4096 = (y 0).val % 4096 by omega)
    (show ((y 0).val * 2048 + (y 1).val) % 2048 = (y 1).val by omega), v17_at]
  unfold tgt
  show out A (4096 * ((y 0).val / 4096) + (y 0).val % 4096) _ = _
  rw [show 4096 * ((y 0).val / 4096) + (y 0).val % 4096 = (y 0).val by omega]

end Cert.ProjReferenceIdeal.Own

end
-- ==== Proof.Qkv.Same.lean ====
/- The projection of the rows to queries, keys and values: its kernel and its idealization have the same text: their programs and body tables are equal at any
   formats, so a run of the one is a run of the other. -/
module

public import proofs.«01_k».proof.Proof.Gen.QkvKernelIdeal.Frame
public import proofs.«01_k».proof.Proof.Gen.QkvKernel

@[expose] public section

noncomputable section

namespace Cert.QkvKernel.Own

open Idealize.ShloMosaic

variable {F : FTy → Type} [FloatOps F]

/-- The bodies of the call are the same program. -/
theorem same_body : Cert.QkvKernel.cc0_qkv_proj (F := F) = Cert.QkvKernelIdeal.cc0_qkv_proj (F := F) := rfl

/-- The host programs are the same. -/
theorem same_main : Cert.QkvKernel.main (F := F) = Cert.QkvKernelIdeal.main (F := F) := rfl

/-- The tables of bodies are the same: each has the one label. -/
theorem same_defs₀ : Cert.QkvKernel.defs₀ (F := F) = Cert.QkvKernelIdeal.defs₀ (F := F) := by
  funext c
  cases c
  · funext ℓ a
    match ℓ, a with
    | 0, (t, s) => exact rfl
  · rfl
  · rfl

/-- The tables of bodies and pipelines are the same. -/
theorem same_defs : Cert.QkvKernel.defs (F := F) = Cert.QkvKernelIdeal.defs (F := F) :=
  congrArg (Pipeline.defs Cert.QkvKernelIdeal.pcfgs) same_defs₀

end Cert.QkvKernel.Own

end
-- ==== Proof.Qkv.Spec.lean ====
/- The projections of queries, keys and values, entry by entry, with exact numbers. -/
module

public import proofs.«01_k».proof.Proof.Proj.Spec
public import proofs.«01_k».proof.Proof.Gen.QkvKernelIdeal.Skeleton

@[expose] public section

set_option maxRecDepth 16384

noncomputable section

namespace Cert.Qkv

open Cert.QkvKernelIdeal
open Idealize.ShloMosaic Idealize.ShloMosaic.TcCoe

/-- The arguments: the residual stream, the gains, the gain of keys and values, the three weights. -/
structure Args where
  h : S4x4096x2048.Idx → EReal
  g : S2x2048.Idx → EReal
  gk : S2048.Idx → EReal
  wq : S1x2048x2048.Idx → EReal
  wk : S2048x2048.Idx → EReal
  wv : S2048x2048.Idx → EReal

variable (A : Args)

/-- A normed row, for the queries. -/
def xq (n : ℕ) (k : Fin 2048) : EReal := Cert.Ffn.nm (Cert.Proj.row A.h n) (fun k => A.g (ix2 1 k)) k

/-- A normed row, for the keys and values. -/
def xkv (n : ℕ) (k : Fin 2048) : EReal := Cert.Ffn.nm (Cert.Proj.row A.h n) (fun k => A.gk (ix1 k)) k

/-- A query's entry, over all heads: scaled for a softmax in powers of two. -/
def q (n j : ℕ) : EReal := (∑ k, xq A n k * A.wq (ix3 0 k (Fin.ofNat 2048 j))) * Ideal.ofBits .f32 0x3E0293EE#32

/-- An entry of a key or of a value. -/
def kv (w : S2048x2048.Idx → EReal) (n j : ℕ) : EReal := ∑ k, xkv A n k * w (ix2 k (Fin.ofNat 2048 j))

/-- The results, as the result arrays hold them: head by head, the values transposed. -/
def tq : S16x16384x128.Idx → EReal := fun y => q A (y 1).val (128 * (y 0).val + (y 2).val)
def tk : S16x16384x128.Idx → EReal := fun y => kv A A.wk (y 1).val (128 * (y 0).val + (y 2).val)
def tv : S16x128x16384.Idx → EReal := fun y => kv A A.wv (y 2).val (128 * (y 0).val + (y 1).val)

end Cert.Qkv

end
-- ==== Proof.Qkv.Pt.lean ====
/- What a grid point of the projections' call stores, with exact numbers, as functions of the blocks it reads. -/
module

public import proofs.«01_k».proof.Proof.Qkv.Spec
public import proofs.«01_k».proof.Proof.Gen.QkvKernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QkvKernelIdeal.Own

open Cert.QkvKernelIdeal Cert.QkvKernelIdeal.Gen
open Idealize.ShloMosaic Idealize.ShloMosaic.TcCoe
open Cert.Ffn (nm)

/-- A block of rows, each divided by its root mean square, times a gain. -/
def rows (x : S1024x2048.Idx → EReal) (g : S1x2048.Idx → EReal) : S1024x2048.Idx → EReal :=
  fun y => nm (fun k => x (ix2 (y 0) k)) (fun k => g (ix2 0 k)) (y 1)

/-- A block of rows times a block of columns, one head's part. -/
def pr (x : S1024x2048.Idx → EReal) (w : S2048x512.Idx → EReal) (h : Fin 4) (r : Fin 1024) (e : Fin 128) : EReal :=
  ∑ k : Fin 2048, x (ix2 r k) * w (ix2 k ⟨128 * h.val + e.val, by omega⟩)

/-- The blocks a point stores: queries, keys, values. -/
def bq (x : S1024x2048.Idx → EReal) (w : S2048x512.Idx → EReal) : S4x1024x128.Idx → EReal :=
  fun y => pr x w (y 0) (y 1) (y 2) * Ideal.ofBits .f32 0x3E0293EE#32
def bk (x : S1024x2048.Idx → EReal) (w : S2048x512.Idx → EReal) : S4x1024x128.Idx → EReal := fun y => pr x w (y 0) (y 1) (y 2)
def bv (x : S1024x2048.Idx → EReal) (w : S2048x512.Idx → EReal) : S4x128x1024.Idx → EReal := fun y => pr x w (y 0) (y 2) (y 1)

/-- Sixteen rows' store. -/
theorem strip (x : Vec Ideal S1024x2048 .f32) (g : Vec Ideal S1x2048 .f32) (o : ℕ) (h : ∀ a, (![o, 0] : Fin 2 → ℕ) a + S16x2048.size a ≤ S1024x2048.size a) (y : S16x2048.Idx) :
    k0_pay10 g (View.ld x (Rect.unit (s := S1024x2048) ![o, 0] S16x2048.size h)) y = rows x g ((Rect.unit (s := S1024x2048) ![o, 0] S16x2048.size h).emb y) := by
  have h0 : o + 16 ≤ 1024 := h 0
  have y0 : (y 0).val < 16 := (y 0).isLt
  have e : (Rect.unit (s := S1024x2048) ![o, 0] S16x2048.size h).emb y = ix2 ⟨o + (y 0).val, by omega⟩ ⟨(y 1).val, (y 1).isLt⟩ :=
    funext fun a => Fin.ext (by match a with
      | ⟨0, _⟩ => show o + 1 * (y 0).val = o + (y 0).val; omega
      | ⟨1, _⟩ => show 0 + 1 * (y 1).val = (y 1).val; omega)
  rw [e]
  unfold rows nm
  pointwise [k0_pay10, k0_pay9, k0_pay7]

/-- The same with the second gain. -/
theorem strip' (x : Vec Ideal S1024x2048 .f32) (g : Vec Ideal S1x2048 .f32) (o : ℕ) (h : ∀ a, (![o, 0] : Fin 2 → ℕ) a + S16x2048.size a ≤ S1024x2048.size a) (y : S16x2048.Idx) :
    k0_pay11 g (View.ld x (Rect.unit (s := S1024x2048) ![o, 0] S16x2048.size h)) y = rows x g ((Rect.unit (s := S1024x2048) ![o, 0] S16x2048.size h).emb y) :=
  strip x g o h y

/-- Where a head's part of a block lies. -/
theorem emb3 {A B : ℕ} (o : ℕ) (h : ∀ a, (![o, 0, 0] : Fin 3 → ℕ) a + (⟨3, ![1, A, B]⟩ : Shape).size a ≤ (⟨3, ![4, A, B]⟩ : Shape).size a) (y : (⟨3, ![1, A, B]⟩ : Shape).Idx) :
    (Rect.unit (s := ⟨3, ![4, A, B]⟩) ![o, 0, 0] (⟨3, ![1, A, B]⟩ : Shape).size h).emb y
      = ix3 ⟨o, show o + 1 ≤ 4 from h 0⟩ ⟨(y 1).val, (y 1).isLt⟩ ⟨(y 2).val, (y 2).isLt⟩ := by
  have y0 : (y 0).val < 1 := (y 0).isLt
  exact funext fun a => Fin.ext (by match a with
    | ⟨0, _⟩ => show o + 1 * (y 0).val = o; omega
    | ⟨1, _⟩ => show 0 + 1 * (y 1).val = (y 1).val; omega
    | ⟨2, _⟩ => show 0 + 1 * (y 2).val = (y 2).val; omega)

/-- A head's store of queries. -/
theorem pq (x : Vec Ideal S1024x2048 .bf16) (w : Vec Ideal S2048x512 .bf16) (o : ℕ) (hs : S1024x512.Slices ![0, 128 * o] S1024x128) (h) (y : S1x1024x128.Idx) :
    shapeCast S1x1024x128 (truncf .bf16 (extractStridedSlice S1024x128 ![0, 128 * o] (k0_pay240 x w) hs) bitsLt_bf16_f32) shapeCasts_S1024x128_S1x1024x128 y
      = bq x w ((Rect.unit (s := S4x1024x128) ![o, 0, 0] S1x1024x128.size h).emb y) := by
  rw [emb3 (A := 1024) (B := 128) o h y]
  unfold bq pr
  pointwise [k0_pay240]

/-- A head's store of keys. -/
theorem pk (x : Vec Ideal S1024x2048 .bf16) (w : Vec Ideal S2048x512 .bf16) (o : ℕ) (hs : S1024x512.Slices ![0, 128 * o] S1024x128) (h) (y : S1x1024x128.Idx) :
    shapeCast S1x1024x128 (truncf .bf16 (extractStridedSlice S1024x128 ![0, 128 * o] (k0_pay239 x w) hs) bitsLt_bf16_f32) shapeCasts_S1024x128_S1x1024x128 y
      = bk x w ((Rect.unit (s := S4x1024x128) ![o, 0, 0] S1x1024x128.size h).emb y) := by
  rw [emb3 (A := 1024) (B := 128) o h y]
  unfold bk pr
  pointwise [k0_pay239]

/-- A head's store of values, transposed. -/
theorem pv (x : Vec Ideal S1024x2048 .bf16) (w : Vec Ideal S2048x512 .bf16) (o : ℕ) (hs : S1024x512.Slices ![0, 128 * o] S1024x128) (h) (y : S1x128x1024.Idx) :
    shapeCast S1x128x1024 (truncf .bf16 (transpose S128x1024 [1, 0] (extractStridedSlice S1024x128 ![0, 128 * o] (k0_pay238 x w) hs) transposes_S1024x128_p1_0_S128x1024) bitsLt_bf16_f32) shapeCasts_S128x1024_S1x128x1024 y
      = bv x w ((Rect.unit (s := S4x128x1024) ![o, 0, 0] S1x128x1024.size h).emb y) := by
  rw [emb3 (A := 128) (B := 1024) o h y]
  unfold bv pr
  pointwise [k0_pay238]

/-- Stores that are blocks of one array and cover the buffer leave that array. -/
theorem canon_of {s : Shape} {e : EltTy} (G : s.Idx → Elt Ideal e) (L : List (View.Piece (Elt Ideal) s e)) (hp : View.PiecesOf G L) (z : Fin s.rank → ℕ)
    (hc : View.Piece.tiledL L z = true) : View.canon L = G :=
  funext fun y => by
    rw [← List.append_nil L]
    exact View.canon_append_of_piecesOf G [] L hp y (View.cover_of_tiledL L z hc y)

/-- A load of the whole buffer after such stores. -/
theorem readCov_of (v : View sig .tc .vmem S1024x2048 .bf16) (G : S1024x2048.Idx → EReal) (L : List (View.Piece (Elt Ideal) S1024x2048 .bf16)) (h)
    (hp : View.PiecesOf G L) (hc : View.Piece.tiledL L S16x2048.size = true) :
    v.readCov L (Rect.unit (s := S1024x2048) ![0, 0] ![1024, 2048] h).toLoadRect = G := by
  rw [View.readCov_eq_canon', canon_of G L hp _ hc]
  funext y
  exact congrArg G (funext fun a => Fin.ext (by match a with
    | ⟨0, _⟩ => show 0 + 1 * (y 0).val = (y 0).val; omega
    | ⟨1, _⟩ => show 0 + 1 * (y 1).val = (y 1).val; omega))

set_option maxHeartbeats 1000000

variable (m : (ℓ : Loc nD τ sig) → Buf (Elt Ideal) ℓ) (c : Dev nD) (t : Fin cfg0.N)

/-- The normed rows a first column's point keeps, for the queries. -/
theorem sA0 (h : t.val % 4 = 0) : (outsAt0 m c t.val t.isLt).2.2.2.1 = rows (iblk m c 0 t) (iblk m c 1 t) := by
  rw [outsAt0_A m c t h (by omega)]
  frame_out
  refine canon_of _ _ ?_ S16x2048.size (by sl_kernel_rfl)
  iterate 64 refine ⟨fun y => strip _ _ _ _ y, ?_⟩
  trivial

/-- The normed rows a first column's point keeps, for the keys and values. -/
theorem sA1 (h : t.val % 4 = 0) : (outsAt0 m c t.val t.isLt).2.2.2.2 = rows (iblk m c 0 t) (iblk m c 2 t) := by
  rw [outsAt0_A m c t h (by omega)]
  frame_out
  refine canon_of _ _ ?_ S16x2048.size (by sl_kernel_rfl)
  iterate 64 refine ⟨fun y => strip' _ _ _ _ y, ?_⟩
  trivial

/-- The queries' block at a first column's point. -/
theorem A6 (h : t.val % 4 = 0) : (outsAt0 m c t.val t.isLt).1 = bq (rows (iblk m c 0 t) (iblk m c 1 t)) (iblk m c 3 t) := by
  rw [outsAt0_A m c t h (by omega)]
  frame_out
  rw [readCov_of _ (rows (iblk m c 0 t) (iblk m c 1 t)) _ _ ?_ (by sl_kernel_rfl)]
  · refine canon_of _ _ ?_ S1x1024x128.size (by sl_kernel_rfl)
    exact ⟨fun y => pq _ _ 3 (by decide) (by decide) y, fun y => pq _ _ 2 (by decide) (by decide) y, fun y => pq _ _ 1 (by decide) (by decide) y, fun y => pq _ _ 0 (by decide) (by decide) y, trivial⟩
  · iterate 64 refine ⟨fun y => strip _ _ _ _ y, ?_⟩
    trivial

/-- The keys' block at a first column's point. -/
theorem A7 (h : t.val % 4 = 0) : (outsAt0 m c t.val t.isLt).2.1 = bk (rows (iblk m c 0 t) (iblk m c 2 t)) (iblk m c 4 t) := by
  rw [outsAt0_A m c t h (by omega)]
  frame_out
  rw [readCov_of _ (rows (iblk m c 0 t) (iblk m c 2 t)) _ _ ?_ (by sl_kernel_rfl)]
  · refine canon_of _ _ ?_ S1x1024x128.size (by sl_kernel_rfl)
    exact ⟨fun y => pk _ _ 3 (by decide) (by decide) y, fun y => pk _ _ 2 (by decide) (by decide) y, fun y => pk _ _ 1 (by decide) (by decide) y, fun y => pk _ _ 0 (by decide) (by decide) y, trivial⟩
  · iterate 64 refine ⟨fun y => strip' _ _ _ _ y, ?_⟩
    trivial

/-- The values' block at a first column's point. -/
theorem A8 (h : t.val % 4 = 0) : (outsAt0 m c t.val t.isLt).2.2.1 = bv (rows (iblk m c 0 t) (iblk m c 2 t)) (iblk m c 5 t) := by
  rw [outsAt0_A m c t h (by omega)]
  frame_out
  rw [readCov_of _ (rows (iblk m c 0 t) (iblk m c 2 t)) _ _ ?_ (by sl_kernel_rfl)]
  · refine canon_of _ _ ?_ S1x128x1024.size (by sl_kernel_rfl)
    exact ⟨fun y => pv _ _ 3 (by decide) (by decide) y, fun y => pv _ _ 2 (by decide) (by decide) y, fun y => pv _ _ 1 (by decide) (by decide) y, fun y => pv _ _ 0 (by decide) (by decide) y, trivial⟩
  · iterate 64 refine ⟨fun y => strip' _ _ _ _ y, ?_⟩
    trivial

/-- At a later column's point the rows normed for the queries stay. -/
theorem sB0 (h : 1 ≤ t.val % 4) : (outsAt0 m c t.val t.isLt).2.2.2.1 = (outsAt0 m c (t.val - 1) (Nat.lt_of_le_of_lt (Nat.sub_le _ _) t.isLt)).2.2.2.1 := by
  rw [outsAt0_B m c t (by omega) h]
  rfl

/-- At a later column's point the rows normed for the keys and values stay. -/
theorem sB1 (h : 1 ≤ t.val % 4) : (outsAt0 m c t.val t.isLt).2.2.2.2 = (outsAt0 m c (t.val - 1) (Nat.lt_of_le_of_lt (Nat.sub_le _ _) t.isLt)).2.2.2.2 := by
  rw [outsAt0_B m c t (by omega) h]
  rfl

/-- The queries' block at a later column's point. -/
theorem B6 (h : 1 ≤ t.val % 4) : (outsAt0 m c t.val t.isLt).1 = bq (outsAt0 m c (t.val - 1) (Nat.lt_of_le_of_lt (Nat.sub_le _ _) t.isLt)).2.2.2.1 (iblk m c 3 t) := by
  rw [outsAt0_B m c t (by omega) h]
  frame_out
  simp only [read_unread_whole]
  refine canon_of _ _ ?_ S1x1024x128.size (by sl_kernel_rfl)
  exact ⟨fun y => pq _ _ 3 (by decide) (by decide) y, fun y => pq _ _ 2 (by decide) (by decide) y, fun y => pq _ _ 1 (by decide) (by decide) y, fun y => pq _ _ 0 (by decide) (by decide) y, trivial⟩

/-- The keys' block at a later column's point. -/
theorem B7 (h : 1 ≤ t.val % 4) : (outsAt0 m c t.val t.isLt).2.1 = bk (outsAt0 m c (t.val - 1) (Nat.lt_of_le_of_lt (Nat.sub_le _ _) t.isLt)).2.2.2.2 (iblk m c 4 t) := by
  rw [outsAt0_B m c t (by omega) h]
  frame_out
  simp only [read_unread_whole]
  refine canon_of _ _ ?_ S1x1024x128.size (by sl_kernel_rfl)
  exact ⟨fun y => pk _ _ 3 (by decide) (by decide) y, fun y => pk _ _ 2 (by decide) (by decide) y, fun y => pk _ _ 1 (by decide) (by decide) y, fun y => pk _ _ 0 (by decide) (by decide) y, trivial⟩

/-- The values' block at a later column's point. -/
theorem B8 (h : 1 ≤ t.val % 4) : (outsAt0 m c t.val t.isLt).2.2.1 = bv (outsAt0 m c (t.val - 1) (Nat.lt_of_le_of_lt (Nat.sub_le _ _) t.isLt)).2.2.2.2 (iblk m c 5 t) := by
  rw [outsAt0_B m c t (by omega) h]
  frame_out
  simp only [read_unread_whole]
  refine canon_of _ _ ?_ S1x128x1024.size (by sl_kernel_rfl)
  exact ⟨fun y => pv _ _ 3 (by decide) (by decide) y, fun y => pv _ _ 2 (by decide) (by decide) y, fun y => pv _ _ 1 (by decide) (by decide) y, fun y => pv _ _ 0 (by decide) (by decide) y, trivial⟩

end Cert.QkvKernelIdeal.Own

end
-- ==== Proof.Qkv.Val.lean ====
/- The run of the projections' call with exact numbers: the result arrays end holding the specified queries, keys and values. -/
module

public import proofs.«01_k».proof.Proof.Qkv.Pt
public import proofs.«01_k».proof.Proof.Proj.Val
public import proofs.«01_k».proof.Proof.Gen.QkvKernelIdeal.Value
public import Idealize.ShloMosaic.Lib.StableHlo.ReadAt
public import Idealize.ShloMosaic.Lib.Pipeline.Value
public import Idealize.ShloMosaic.Lib.Pipeline.Covers
public import Idealize.ShloMosaic.Lib.Pointwise

@[expose] public section

set_option maxRecDepth 16384

noncomputable section

namespace Cert.QkvKernelIdeal.Own

open Cert.QkvKernelIdeal Cert.QkvKernelIdeal.Gen
open Idealize.ShloMosaic Idealize.ShloMosaic.TcCoe Idealize.SL.Sem
open Cert.Qkv
open Cert.Proj (row)
open Cert.ProjKernelIdeal.Own (at_row)

/-- The blocks' places at each grid point. -/
theorem ixs : ∀ t : Fin cfg0.N, cc0_transform_0 (grid0.coords t) = ![t.val / 4, 0] ∧ cc0_transform_3 (grid0.coords t) = ![0, t.val % 4]
    ∧ cc0_transform_6 (grid0.coords t) = ![t.val % 4, t.val / 4, 0] ∧ cc0_transform_8 (grid0.coords t) = ![t.val % 4, 0, t.val / 4] :=
  (by decide +kernel : ∀ t : Fin grid0.N, _)

variable (m : (ℓ : Loc nD τ sig) → Buf (Elt Ideal) ℓ) (ρ : Dev nD → PrngReg) (c : Dev nD)

/-- The arguments a device holds. -/
def args : Args where
  h := m ((c : Thread nD τ).loc main_arg0)
  g := m ((c : Thread nD τ).loc main_arg1)
  gk := m ((c : Thread nD τ).loc main_arg2)
  wq := m ((c : Thread nD τ).loc main_arg3)
  wk := m ((c : Thread nD τ).loc main_arg4)
  wv := m ((c : Thread nD τ).loc main_arg5)

/-- The results' contents on a device. -/
def resq : Buf (Elt Ideal) ((c : Thread nD τ).loc main_v9_0) := tq (args m c)
def resk : Buf (Elt Ideal) ((c : Thread nD τ).loc main_v9_1) := tk (args m c)
def resv : Buf (Elt Ideal) ((c : Thread nD τ).loc main_v9_2) := tv (args m c)

/-! ## The arrays the call reads -/

/-- The rows, the batches one after another. -/
theorem host0 (n : Fin 16384) (k : Fin 2048) :
    (V m c main_v0 : S16384x2048.Idx → EReal) (ix2 n k) = (m ((c : Thread nD τ).loc main_arg0) : S4x4096x2048.Idx → EReal)
      (ix3 ⟨n.val / 4096, by omega⟩ ⟨n.val % 4096, Nat.mod_lt _ (by norm_num)⟩ k) := by
  unfold V
  after_reads_at

/-- The queries' gain is the gains' second row. -/
theorem host7 (k : Fin 2048) :
    (V m c main_v7 : S1x2048.Idx → EReal) (ix2 0 k) = (m ((c : Thread nD τ).loc main_arg1) : S2x2048.Idx → EReal) (ix2 1 k) := by
  unfold V
  after_reads_at

/-- The other gain. -/
theorem host8 (k : Fin 2048) :
    (V m c main_v8 : S1x2048.Idx → EReal) (ix2 0 k) = (m ((c : Thread nD τ).loc main_arg2) : S2048.Idx → EReal) (ix1 k) := by
  unfold V
  after_reads_at

/-- The queries' weight. -/
theorem host4 (k d : Fin 2048) :
    (V m c main_v4 : S2048x2048.Idx → EReal) (ix2 k d) = (m ((c : Thread nD τ).loc main_arg3) : S1x2048x2048.Idx → EReal) (ix3 0 k d) := by
  unfold V
  after_reads_at

/-- The keys' weight. -/
theorem host5 (k d : Fin 2048) :
    (V m c main_v5 : S2048x2048.Idx → EReal) (ix2 k d) = (m ((c : Thread nD τ).loc main_arg4) : S2048x2048.Idx → EReal) (ix2 k d) := by
  unfold V
  after_reads_at

/-- The values' weight. -/
theorem host6 (k d : Fin 2048) :
    (V m c main_v6 : S2048x2048.Idx → EReal) (ix2 k d) = (m ((c : Thread nD τ).loc main_arg5) : S2048x2048.Idx → EReal) (ix2 k d) := by
  unfold V
  after_reads_at

/-! ## The blocks -/

variable (t : Fin cfg0.N)

/-- The rows. -/
theorem iblk0 (r : Fin 1024) (k : Fin 2048) :
    (iblk m c 0 t : S1024x2048.Idx → EReal) (ix2 r k) = row (args m c).h (1024 * (t.val / 4) + r.val) k := by
  have ht : t.val < 64 := t.isLt
  have e : (iblk m c 0 t : S1024x2048.Idx → EReal) (ix2 r k) = (V m c main_v0 : S16384x2048.Idx → EReal) (ix2 ⟨1024 * (t.val / 4) + r.val, by omega⟩ k) := by
    unfold iblk
    rw [View.read_apply]
    show V m c main_v0 _ = V m c main_v0 _
    have e := (ixs t).1
    refine congrArg (V m c main_v0) (funext fun a => Fin.ext ?_)
    match a with
    | ⟨0, _⟩ => show cc0_transform_0 (grid0.coords t) 0 * 1024 + 1 * r.val = 1024 * (t.val / 4) + r.val; rw [e]; show t.val / 4 * 1024 + _ = _; omega
    | ⟨1, _⟩ => show cc0_transform_0 (grid0.coords t) 1 * 2048 + 1 * k.val = k.val; rw [e]; show 0 * 2048 + 1 * k.val = k.val; omega
  rw [e, host0]
  exact at_row (args m c).h (1024 * (t.val / 4) + r.val) (by omega) k _ _

/-- Where an entry of a gain's block lies. -/
theorem emb_g (x : S1x2048.Idx → EReal) (k : Fin 2048) (y : S1x2048.Idx) (h0 : (y 0).val = 0 * 1 + 1 * 0) (h1 : (y 1).val = 0 * 2048 + 1 * k.val) : x y = x (ix2 0 k) :=
  congrArg x (funext fun a => Fin.ext (by match a with
    | ⟨0, _⟩ => exact h0
    | ⟨1, _⟩ => show (y 1).val = k.val; omega))

/-- The gain for the queries. -/
theorem iblk1 (k : Fin 2048) : (iblk m c 1 t : S1x2048.Idx → EReal) (ix2 0 k) = (args m c).g (ix2 1 k) := by
  refine Eq.trans ?_ (host7 m c k)
  unfold iblk
  rw [View.read_apply]
  exact emb_g (V m c main_v7) k _ rfl rfl

/-- The gain for the keys and values. -/
theorem iblk2 (k : Fin 2048) : (iblk m c 2 t : S1x2048.Idx → EReal) (ix2 0 k) = (args m c).gk (ix1 k) := by
  refine Eq.trans ?_ (host8 m c k)
  unfold iblk
  rw [View.read_apply]
  exact emb_g (V m c main_v8) k _ rfl rfl

/-- Where an entry of a weight's block lies. -/
theorem emb_w (x : S2048x2048.Idx → EReal) (k : Fin 2048) (j : Fin 512) (y : S2048x2048.Idx) (h0 : (y 0).val = cc0_transform_3 (grid0.coords t) 0 * 2048 + 1 * k.val)
    (h1 : (y 1).val = cc0_transform_3 (grid0.coords t) 1 * 512 + 1 * j.val) : x y = x (ix2 k (Fin.ofNat 2048 (512 * (t.val % 4) + j.val))) := by
  have a0 : cc0_transform_3 (grid0.coords t) 0 = 0 := congrFun (ixs t).2.1 0
  have a1 : cc0_transform_3 (grid0.coords t) 1 = t.val % 4 := congrFun (ixs t).2.1 1
  rw [a0] at h0
  rw [a1] at h1
  exact congrArg x (funext fun a => Fin.ext (by match a with
    | ⟨0, _⟩ => show (y 0).val = k.val; omega
    | ⟨1, _⟩ => show (y 1).val = (512 * (t.val % 4) + j.val) % 2048; omega))

/-- The queries' weight. -/
theorem iblk3 (k : Fin 2048) (j : Fin 512) :
    (iblk m c 3 t : S2048x512.Idx → EReal) (ix2 k j) = (args m c).wq (ix3 0 k (Fin.ofNat 2048 (512 * (t.val % 4) + j.val))) := by
  refine Eq.trans ?_ (host4 m c k _)
  unfold iblk
  rw [View.read_apply]
  exact emb_w t (V m c main_v4) k j _ rfl rfl

/-- The keys' weight. -/
theorem iblk4 (k : Fin 2048) (j : Fin 512) :
    (iblk m c 4 t : S2048x512.Idx → EReal) (ix2 k j) = (args m c).wk (ix2 k (Fin.ofNat 2048 (512 * (t.val % 4) + j.val))) := by
  refine Eq.trans ?_ (host5 m c k _)
  unfold iblk
  rw [View.read_apply]
  exact emb_w t (V m c main_v5) k j _ rfl rfl

/-- The values' weight. -/
theorem iblk5 (k : Fin 2048) (j : Fin 512) :
    (iblk m c 5 t : S2048x512.Idx → EReal) (ix2 k j) = (args m c).wv (ix2 k (Fin.ofNat 2048 (512 * (t.val % 4) + j.val))) := by
  refine Eq.trans ?_ (host6 m c k _)
  unfold iblk
  rw [View.read_apply]
  exact emb_w t (V m c main_v6) k j _ rfl rfl

/-! ## The normed rows, carried along the columns -/

/-- After each point the first kept buffer holds the rows normed for the queries, the second those for the keys and values. -/
theorem kept : ∀ (n : ℕ) (hn : n < cfg0.N) (r : Fin 1024) (k : Fin 2048),
    (outsAt0 m c n hn).2.2.2.1 (ix2 r k) = xq (args m c) (1024 * (n / 4) + r.val) k
    ∧ (outsAt0 m c n hn).2.2.2.2 (ix2 r k) = xkv (args m c) (1024 * (n / 4) + r.val) k := by
  have first : ∀ t : Fin cfg0.N, t.val % 4 = 0 → ∀ (r : Fin 1024) (k : Fin 2048),
      (outsAt0 m c t.val t.isLt).2.2.2.1 (ix2 r k) = xq (args m c) (1024 * (t.val / 4) + r.val) k
      ∧ (outsAt0 m c t.val t.isLt).2.2.2.2 (ix2 r k) = xkv (args m c) (1024 * (t.val / 4) + r.val) k := fun t h r k => by
    rw [sA0 m c t h, sA1 m c t h]
    exact ⟨Cert.Ffn.nm_congr (fun e => iblk0 m c t r e) (fun e => iblk1 m c t e) k, Cert.Ffn.nm_congr (fun e => iblk0 m c t r e) (fun e => iblk2 m c t e) k⟩
  intro n
  induction n with
  | zero => exact fun hn => first ⟨0, hn⟩ rfl
  | succ n ih =>
    intro hn r k
    by_cases h : (n + 1) % 4 = 0
    · exact first ⟨n + 1, hn⟩ h r k
    · have h' : 1 ≤ (⟨n + 1, hn⟩ : Fin cfg0.N).val % 4 := Nat.one_le_iff_ne_zero.2 h
      have i := ih (Nat.lt_of_succ_lt hn) r k
      rw [show n / 4 = (n + 1) / 4 by omega] at i
      exact ⟨(congrFun (sB0 m c ⟨n + 1, hn⟩ h') _).trans i.1, (congrFun (sB1 m c ⟨n + 1, hn⟩ h') _).trans i.2⟩

/-- Each point's blocks are products with the kept rows. -/
theorem o6 : (outsAt0 m c t.val t.isLt).1 = bq (outsAt0 m c t.val t.isLt).2.2.2.1 (iblk m c 3 t) := by
  by_cases h : t.val % 4 = 0
  · rw [A6 m c t h, sA0 m c t h]
  · rw [B6 m c t (by omega), sB0 m c t (by omega)]
/-- The same for the keys. -/
theorem o7 : (outsAt0 m c t.val t.isLt).2.1 = bk (outsAt0 m c t.val t.isLt).2.2.2.2 (iblk m c 4 t) := by
  by_cases h : t.val % 4 = 0
  · rw [A7 m c t h, sA1 m c t h]
  · rw [B7 m c t (by omega), sB1 m c t (by omega)]
/-- The same for the values. -/
theorem o8 : (outsAt0 m c t.val t.isLt).2.2.1 = bv (outsAt0 m c t.val t.isLt).2.2.2.2 (iblk m c 5 t) := by
  by_cases h : t.val % 4 = 0
  · rw [A8 m c t h, sA1 m c t h]
  · rw [B8 m c t (by omega), sB1 m c t (by omega)]

/-! ## The results -/

variable (h : Fin 4) (r : Fin 1024) (e : Fin 128)

/-- A product's entry, by the column's number over all heads. -/
theorem pr_eq (X : S1024x2048.Idx → EReal) (W : S2048x512.Idx → EReal) (f : Fin 2048 → EReal) (w : Fin 2048 → ℕ → EReal) (a : ℕ)
    (hX : ∀ k, X (ix2 r k) = f k) (hW : ∀ (k : Fin 2048) (j : Fin 512), W (ix2 k j) = w k (512 * a + j.val)) :
    pr X W h r e = ∑ k, f k * w k (128 * (a * 4 + 1 * h.val) + (0 * 128 + 1 * e.val)) := by
  unfold pr
  refine Finset.sum_congr rfl fun k _ => ?_
  rw [hX, hW]
  exact congrArg (fun n => f k * w k n) (show 512 * a + (128 * h.val + e.val) = _ by omega)

/-- A row's number. -/
theorem row_eq : t.val / 4 * 1024 + 1 * r.val = 1024 * (t.val / 4) + r.val := by omega

/-- An entry of a block of queries. -/
theorem at_q : bq (outsAt0 m c t.val t.isLt).2.2.2.1 (iblk m c 3 t) (ix3 h r e)
    = q (args m c) (t.val / 4 * 1024 + 1 * r.val) (128 * (t.val % 4 * 4 + 1 * h.val) + (0 * 128 + 1 * e.val)) := by
  rw [row_eq]
  exact congrArg (fun z : EReal => z * Ideal.ofBits .f32 0x3E0293EE#32) (pr_eq h r e _ _ _ (fun k n => (args m c).wq (ix3 0 k (Fin.ofNat 2048 n))) _
    (fun k => (kept m c t.val t.isLt r k).1) (fun k j => iblk3 m c t k j))

/-- An entry of a block of keys. -/
theorem at_k : bk (outsAt0 m c t.val t.isLt).2.2.2.2 (iblk m c 4 t) (ix3 h r e)
    = kv (args m c) (args m c).wk (t.val / 4 * 1024 + 1 * r.val) (128 * (t.val % 4 * 4 + 1 * h.val) + (0 * 128 + 1 * e.val)) := by
  rw [row_eq]
  exact pr_eq h r e _ _ _ (fun k n => (args m c).wk (ix2 k (Fin.ofNat 2048 n))) _ (fun k => (kept m c t.val t.isLt r k).2) (fun k j => iblk4 m c t k j)

/-- An entry of a block of values. -/
theorem at_v : bv (outsAt0 m c t.val t.isLt).2.2.2.2 (iblk m c 5 t) (ix3 h e r)
    = kv (args m c) (args m c).wv (t.val / 4 * 1024 + 1 * r.val) (128 * (t.val % 4 * 4 + 1 * h.val) + (0 * 128 + 1 * e.val)) := by
  rw [row_eq]
  exact pr_eq h r e _ _ _ (fun k n => (args m c).wv (ix2 k (Fin.ofNat 2048 n))) _ (fun k => (kept m c t.val t.isLt r k).2) (fun k j => iblk5 m c t k j)

/-- What a grid point writes back is the specified result there. -/
theorem flushed_q (hf : (cfg0.win 6).flush t = true) : (dats m 0 c).flushed 6 t = ((cfg0.win 6).blk t).view.read (Elt Ideal) (resq m c) := by
  rw [Value.flushed6, o6]
  funext y
  obtain ⟨h, r, e, rfl⟩ : ∃ (h : Fin 4) (r : Fin 1024) (e : Fin 128), y = ix3 h r e := ⟨y 0, y 1, y 2, eq_ix3 (n0 := 4) (n1 := 1024) (n2 := 128) y⟩
  rw [View.read_apply]
  refine (at_q m c t h r e).trans ?_
  show _ = q (args m c) (cc0_transform_6 (grid0.coords t) 1 * 1024 + 1 * r.val) (128 * (cc0_transform_6 (grid0.coords t) 0 * 4 + 1 * h.val) + (cc0_transform_6 (grid0.coords t) 2 * 128 + 1 * e.val))
  rw [(ixs t).2.2.1]
  rfl

/-- The same for the keys. -/
theorem flushed_k (hf : (cfg0.win 7).flush t = true) : (dats m 0 c).flushed 7 t = ((cfg0.win 7).blk t).view.read (Elt Ideal) (resk m c) := by
  rw [Value.flushed7, o7]
  funext y
  obtain ⟨h, r, e, rfl⟩ : ∃ (h : Fin 4) (r : Fin 1024) (e : Fin 128), y = ix3 h r e := ⟨y 0, y 1, y 2, eq_ix3 (n0 := 4) (n1 := 1024) (n2 := 128) y⟩
  rw [View.read_apply]
  refine (at_k m c t h r e).trans ?_
  show _ = kv (args m c) (args m c).wk (cc0_transform_6 (grid0.coords t) 1 * 1024 + 1 * r.val) (128 * (cc0_transform_6 (grid0.coords t) 0 * 4 + 1 * h.val) + (cc0_transform_6 (grid0.coords t) 2 * 128 + 1 * e.val))
  rw [(ixs t).2.2.1]
  rfl

/-- The same for the values. -/
theorem flushed_v (hf : (cfg0.win 8).flush t = true) : (dats m 0 c).flushed 8 t = ((cfg0.win 8).blk t).view.read (Elt Ideal) (resv m c) := by
  rw [Value.flushed8, o8]
  funext y
  obtain ⟨h, e, r, rfl⟩ : ∃ (h : Fin 4) (e : Fin 128) (r : Fin 1024), y = ix3 h e r := ⟨y 0, y 1, y 2, eq_ix3 (n0 := 4) (n1 := 128) (n2 := 1024) y⟩
  rw [View.read_apply]
  refine (at_v m c t h r e).trans ?_
  show _ = kv (args m c) (args m c).wv (cc0_transform_8 (grid0.coords t) 2 * 1024 + 1 * r.val) (128 * (cc0_transform_8 (grid0.coords t) 0 * 4 + 1 * h.val) + (cc0_transform_8 (grid0.coords t) 1 * 128 + 1 * e.val))
  rw [(ixs t).2.2.2]
  rfl

/-- The grid points' blocks cover the result arrays, so they end holding the specified results. -/
theorem final_q : (dats m 0 c).arrAt 6 cfg0.N = resq m c :=
  (dats m 0 c).arrAt_eq_of_cover 6 _ (flushed_q m c) fun i => (Value.covered_iff6 i).2
    ⟨Nat.zero_le _, (i 0).isLt, Nat.zero_le _, (i 1).isLt, Nat.zero_le _, (i 2).isLt⟩
/-- The same for the keys. -/
theorem final_k : (dats m 0 c).arrAt 7 cfg0.N = resk m c :=
  (dats m 0 c).arrAt_eq_of_cover 7 _ (flushed_k m c) fun i => (Value.covered_iff7 i).2
    ⟨Nat.zero_le _, (i 0).isLt, Nat.zero_le _, (i 1).isLt, Nat.zero_le _, (i 2).isLt⟩
/-- The same for the values. -/
theorem final_v : (dats m 0 c).arrAt 8 cfg0.N = resv m c :=
  (dats m 0 c).arrAt_eq_of_cover 8 _ (flushed_v m c) fun i => (Value.covered_iff8 i).2
    ⟨Nat.zero_le _, (i 0).isLt, Nat.zero_le _, (i 1).isLt, Nat.zero_le _, (i 2).isLt⟩

/-- The run, read: the result arrays end holding the specified results, the arguments unchanged. -/
theorem vrun : θ_run defs (onTc (τ := τ) (main (F := Ideal))) ⟨m, fun _ => 0, ρ⟩ (fun r => ∀ c : Dev nD,
      r.2.mem ((c.tc : Thread nD τ).loc main_v9_0) = resq m c
      ∧ r.2.mem ((c.tc : Thread nD τ).loc main_v9_1) = resk m c
      ∧ r.2.mem ((c.tc : Thread nD τ).loc main_v9_2) = resv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final_q m c), (h c).2.1.trans (final_k m c), (h c).2.2.1.trans (final_v m c), (h c).2.2.2⟩)
    (Value.run_blocks m ρ)

end Cert.QkvKernelIdeal.Own

end
-- ==== Proof.Qkv.Ref.lean ====
/- The projections' reference with exact numbers, entry by entry. -/
module

public import proofs.«01_k».proof.Proof.Gen.QkvReferenceIdeal.Read
public import proofs.«01_k».proof.Proof.Qkv.Spec
public import proofs.«01_k».proof.Proof.Proj.Ref

@[expose] public section

set_option maxRecDepth 16384

noncomputable section

namespace Cert.QkvReferenceIdeal.Own

open Cert.QkvReferenceIdeal Cert.QkvReferenceIdeal.Gen Cert.QkvReferenceIdeal.Read
open Idealize.ShloMosaic Idealize.ShloMosaic.TcCoe
open Cert.Qkv
open Cert.FfnReferenceIdeal.Own (idx2 idx3)
open Cert.ProjReferenceIdeal.Own (row_at)

variable (A : Args) (b : Fin 4) (s : Fin 4096)

/-- A row's sum of squares. -/
theorem v1_at : val_main_v1 (F := Ideal) A.h (ix2 b s) = ∑ k, Cert.Proj.row A.h (4096 * b.val + s.val) k * Cert.Proj.row A.h (4096 * b.val + s.val) k := by
  rw [val_main_v1_apply, val_main_cst_apply]
  show Ideal.ofBits .f32 0x00000000#32 + _ = _
  rw [Cert.Consts.ofBits_0, EReal.coe_zero, zero_add]
  refine Finset.sum_congr rfl fun k _ => ?_
  rw [val_main_v0_apply, idx3 (idx_main_v1 (ix2 b s) k) b s k rfl rfl rfl, row_at]
  rfl

/-- A row divided by its root mean square. -/
theorem v9_at (k : Fin 2048) : val_main_v9 (F := Ideal) A.h (ix3 b s k) = Cert.Ffn.nm (Cert.Proj.row A.h (4096 * b.val + s.val)) (fun _ => 1) k := by
  rw [val_main_v9_apply, val_main_v8_apply, val_main_v7_apply, val_main_v6_apply, val_main_v4_apply,
    val_main_v5_apply, val_main_v3_apply, val_main_v2_apply, idx2 (idx_main_v2 (idx_main_v8 (ix3 b s k))) b s rfl rfl, v1_at]
  unfold Cert.Ffn.nm
  rw [row_at b s A.h k, mul_one]
  rfl

/-- The rows normed for the keys and values. -/
theorem v12_at (k : Fin 2048) : val_main_v12 (F := Ideal) A.h A.gk (ix3 b s k) = xkv A (4096 * b.val + s.val) k := by
  rw [val_main_v12_apply, val_main_v11_apply, val_main_v10_apply, v9_at]
  unfold xkv Cert.Ffn.nm
  rw [mul_one]
  exact congrArg (fun z => @HMul.hMul EReal EReal EReal _ _ z) (congrArg A.gk (funext fun a => by match a with | ⟨0, _⟩ => rfl))

/-- The rows normed for the queries. -/
theorem v27_at (k : Fin 2048) : val_main_v27 (F := Ideal) A.h A.g (ix3 b s k) = xq A (4096 * b.val + s.val) k := by
  rw [val_main_v27_apply, val_main_v26_apply, val_main_v25_apply, val_main_v14_apply, val_main_v13_apply,
    show val_main_v24 (F := Ideal) A.h = val_main_v9 (F := Ideal) A.h from rfl, v9_at]
  unfold xq Cert.Ffn.nm
  rw [mul_one]
  exact congrArg (fun z => @HMul.hMul EReal EReal EReal _ _ z) (congrArg A.g (idx2 _ _ _ rfl (Nat.mod_eq_of_lt k.isLt)))

/-- A column's number as an index. -/
theorem ofNat_at (j : Fin 2048) : Fin.ofNat 2048 j.val = j := Fin.ext (Nat.mod_eq_of_lt j.isLt)

/-- The queries, before their columns are split by head. -/
theorem v31_at (j : Fin 2048) : val_main_v31 (F := Ideal) A.h A.g A.wq (ix3 b s j) = q A (4096 * b.val + s.val) j.val := by
  rw [val_main_v31_apply, val_main_v30_apply, val_main_cst_5_apply, val_main_v29_apply]
  unfold q
  rw [ofNat_at]
  refine congrArg (fun z : EReal => z * Ideal.ofBits .f32 0x3E0293EE#32) (Finset.sum_congr rfl fun k _ => ?_)
  have hk := k.isLt
  have hj := j.isLt
  rw [idx3 (lidx_main_v29 (ix3 b s j) k) b s k rfl rfl rfl, v27_at, val_main_v28_apply]
  refine congrArg (fun z => @HMul.hMul EReal EReal EReal _ _ z) (congrArg A.wq (idx3 _ _ _ _ rfl ?_ ?_))
  · show (k.val * 2048 + j.val) / 2048 % 2048 = k.val; omega
  · show (k.val * 2048 + j.val) % 2048 = j.val; omega

/-- The keys, before their columns are split by head. -/
theorem v35_at (w : Cert.QkvKernelIdeal.S2048x2048.Idx → EReal) (j : Fin 2048) : val_main_v35 (F := Ideal) A.h A.gk w (ix3 b s j) = kv A w (4096 * b.val + s.val) j.val := by
  rw [val_main_v35_apply]
  unfold kv
  rw [ofNat_at]
  refine Finset.sum_congr rfl fun k _ => ?_
  rw [idx3 (lidx_main_v35 (ix3 b s j) k) b s k rfl rfl rfl, v12_at]
  exact congrArg (fun z => @HMul.hMul EReal EReal EReal _ _ z) (congrArg w (idx2 _ _ _ rfl rfl))

/-- Where an entry of a head lies in the rows and columns. -/
theorem split (f : S4x4096x2048.Idx → EReal) (G : ℕ → ℕ → EReal) (hf : ∀ (b : Fin 4) (s : Fin 4096) (j : Fin 2048), f (ix3 b s j) = G (4096 * b.val + s.val) j.val)
    (i : S4x4096x2048.Idx) (n j : ℕ) (hn : 4096 * (i 0).val + (i 1).val = n) (hj : (i 2).val = j) : f i = G n j := by
  rw [idx3 i ⟨(i 0).val, (i 0).isLt⟩ ⟨(i 1).val, (i 1).isLt⟩ ⟨(i 2).val, (i 2).isLt⟩ rfl rfl rfl, hf, ← hn, ← hj]

/-- The three numbers a pair of reshapes around a transpose gives, for the queries and keys. -/
theorem nums (a n e : ℕ) (ha : a < 16) (hn : n < 16384) (he : e < 128) :
    ((a * 16384 + n) * 128 + e) / 2097152 = a ∧ ((a * 16384 + n) * 128 + e) / 524288 % 4 = n / 4096 ∧ ((a * 16384 + n) * 128 + e) / 128 % 4096 = n % 4096
      ∧ ((a * 16384 + n) * 128 + e) % 128 = e := by
  omega

/-- The same for the values. -/
theorem nums' (a n e : ℕ) (ha : a < 16) (hn : n < 16384) (he : e < 128) :
    ((a * 128 + e) * 16384 + n) / 2097152 = a ∧ ((a * 128 + e) * 16384 + n) / 4096 % 4 = n / 4096 ∧ ((a * 128 + e) * 16384 + n) % 4096 = n % 4096
      ∧ ((a * 128 + e) * 16384 + n) / 16384 % 128 = e := by
  omega

/-- The rows and columns from head, batch, position and column within the head. -/
theorem flat (a b s e n : ℕ) (hb : b = n / 4096) (hs : s = n % 4096) (ha : a < 16) (hn : n < 16384) (he : e < 128) :
    4096 * ((((b * 4096 + s) * 16 + a) * 128 + e) / 8388608) + (((b * 4096 + s) * 16 + a) * 128 + e) / 2048 % 4096 = n
      ∧ (((b * 4096 + s) * 16 + a) * 128 + e) % 2048 = 128 * a + e := by
  have h : b * 4096 + s = n := by omega
  rw [h]
  omega

/-- The reference's queries are the specified ones. -/
theorem ref_q : val_main_v43 (F := Ideal) A.h A.g A.wq = tq A := by
  funext y
  have h0 : (y 0).val < 16 := (y 0).isLt
  have h1 : (y 1).val < 16384 := (y 1).isLt
  have h2 : (y 2).val < 128 := (y 2).isLt
  obtain ⟨e0, e1, e2, e3⟩ := nums (y 0).val (y 1).val (y 2).val h0 h1 h2
  rw [val_main_v43_apply, val_main_v34_apply, val_main_v33_apply, val_main_v32_apply]
  refine split _ (q A) (v31_at A) _ _ _ ((flat _ _ _ _ (y 1).val e1 e2 (e0.trans_lt h0) h1 (e3.trans_lt h2)).1) ?_
  exact ((flat _ _ _ _ (y 1).val e1 e2 (e0.trans_lt h0) h1 (e3.trans_lt h2)).2).trans (by rw [e0, e3])

/-- The reference's keys are the specified ones. -/
theorem ref_k : val_main_v44 (F := Ideal) A.h A.gk A.wk = tk A := by
  funext y
  have h0 : (y 0).val < 16 := (y 0).isLt
  have h1 : (y 1).val < 16384 := (y 1).isLt
  have h2 : (y 2).val < 128 := (y 2).isLt
  obtain ⟨e0, e1, e2, e3⟩ := nums (y 0).val (y 1).val (y 2).val h0 h1 h2
  rw [val_main_v44_apply, val_main_v38_apply, val_main_v37_apply, val_main_v36_apply]
  refine split _ (kv A A.wk) (v35_at A · · A.wk) _ _ _ ((flat _ _ _ _ (y 1).val e1 e2 (e0.trans_lt h0) h1 (e3.trans_lt h2)).1) ?_
  exact ((flat _ _ _ _ (y 1).val e1 e2 (e0.trans_lt h0) h1 (e3.trans_lt h2)).2).trans (by rw [e0, e3])

/-- The reference's values are the specified ones. -/
theorem ref_v : val_main_v45 (F := Ideal) A.h A.gk A.wv = tv A := by
  funext y
  have h0 : (y 0).val < 16 := (y 0).isLt
  have h1 : (y 1).val < 128 := (y 1).isLt
  have h2 : (y 2).val < 16384 := (y 2).isLt
  obtain ⟨e0, e1, e2, e3⟩ := nums' (y 0).val (y 2).val (y 1).val h0 h2 h1
  rw [val_main_v45_apply, val_main_v42_apply, val_main_v41_apply, val_main_v40_apply, show val_main_v39 (F := Ideal) A.h A.gk A.wv = val_main_v35 (F := Ideal) A.h A.gk A.wv from rfl]
  refine split _ (kv A A.wv) (v35_at A · · A.wv) _ _ _ ((flat _ _ _ _ (y 2).val e1 e2 (e0.trans_lt h0) h2 (e3.trans_lt h1)).1) ?_
  exact ((flat _ _ _ _ (y 2).val e1 e2 (e0.trans_lt h0) h2 (e3.trans_lt h1)).2).trans (by rw [e0, e3])

end Cert.QkvReferenceIdeal.Own

end
-- ==== Proof.Mix.Same.lean ====
/- The mixing layer: its kernel and its idealization have the same text: their programs and body tables are equal at any
   formats, so a run of the one is a run of the other. -/
module

public import proofs.«01_k».proof.Proof.Gen.MixKernelIdeal.Frame
public import proofs.«01_k».proof.Proof.Gen.MixKernel

@[expose] public section

noncomputable section

namespace Cert.MixKernel.Own

open Idealize.ShloMosaic

variable {F : FTy → Type} [FloatOps F]

/-- The bodies of the call are the same program. -/
theorem same_body : Cert.MixKernel.cc0_gmlp_mixer (F := F) = Cert.MixKernelIdeal.cc0_gmlp_mixer (F := F) := rfl

/-- The host programs are the same. -/
theorem same_main : Cert.MixKernel.main (F := F) = Cert.MixKernelIdeal.main (F := F) := rfl

/-- The tables of bodies are the same: each has the one label. -/
theorem same_defs₀ : Cert.MixKernel.defs₀ (F := F) = Cert.MixKernelIdeal.defs₀ (F := F) := by
  funext c
  cases c
  · funext ℓ a
    match ℓ, a with
    | 0, (t, s) => exact rfl
  · rfl
  · rfl

/-- The tables of bodies and pipelines are the same. -/
theorem same_defs : Cert.MixKernel.defs (F := F) = Cert.MixKernelIdeal.defs (F := F) :=
  congrArg (Pipeline.defs Cert.MixKernelIdeal.pcfgs) same_defs₀

end Cert.MixKernel.Own

end
-- ==== Proof.Mix.Spec.lean ====
/- The gated mixing layer, entry by entry, with exact numbers. -/
module

public import proofs.«01_k».proof.Proof.Proj.Spec
public import proofs.«01_k».proof.Proof.Gen.MixKernelIdeal.Skeleton

@[expose] public section

set_option maxRecDepth 16384

noncomputable section

namespace Cert.Mix

open Cert.MixKernelIdeal
open Idealize.ShloMosaic Idealize.ShloMosaic.TcCoe

/-- The arguments: the residual stream, the gains before, the input weight, the groups' gains, the spatial weights and biases, the output weight, the gains after. -/
structure Args where
  h : S4x4096x2048.Idx → EReal
  g : S2x2048.Idx → EReal
  wi : S1x2048x4096.Idx → EReal
  vg : S1x2048.Idx → EReal
  ws : S1x16x128x128.Idx → EReal
  bs : S1x16x128.Idx → EReal
  wo : S1x2048x2048.Idx → EReal
  g' : S2x2048.Idx → EReal

/-- The activation: half the argument times one plus a hyperbolic tangent of a cubic. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- A group divided by its root mean square, times a gain. -/
def gnorm (x g : Fin 128 → EReal) (e : Fin 128) : EReal :=
  x e * Ideal.rsqrt (Ideal.div (∑ d, x d * x d) (Ideal.ofBits .f32 0x43000000#32) + Ideal.ofBits .f32 0x358637BD#32) * g e

/-- The mixing of a chunk's rows into one of its rows: a causal weight's row, and a bias. -/
def blend (w : Fin 128 → EReal) (b : EReal) (v : Fin 128 → EReal) (r : Fin 128) : EReal :=
  (∑ s : Fin 128, (if s.val ≤ r.val then w s else 0) * v s) + b

variable (A : Args)

/-- A normed row. -/
def xn (n : ℕ) (k : Fin 2048) : EReal := Cert.Ffn.nm (Cert.Proj.row A.h n) (fun k => A.g (ix2 0 k)) k

/-- An entry of the activated input projection: the gates, then the values. -/
def up (n j : ℕ) : EReal := gelu (∑ k, xn A n k * A.wi (ix3 0 k (Fin.ofNat 4096 j)))

/-- A value's entry in its group, normed. -/
def gn (n q : ℕ) (e : Fin 128) : EReal := gnorm (fun d => up A n (2048 + 128 * q + d.val)) (fun d => A.vg (ix2 0 (Fin.ofNat 2048 (128 * q + d.val)))) e

/-- A gate times the mixed values of its chunk. -/
def ga (n q : ℕ) (e : Fin 128) : EReal :=
  up A n (128 * q + e.val) * blend (fun s => A.ws (ix4 0 (Fin.ofNat 16 q) (Fin.ofNat 128 n) s)) (A.bs (ix3 0 (Fin.ofNat 16 q) (Fin.ofNat 128 n)))
    (fun s => gn A (n / 128 * 128 + s.val) q e) (Fin.ofNat 128 n)

/-- A group's share of the output projection. -/
def share (n q : ℕ) (d : Fin 2048) : EReal := ∑ e : Fin 128, ga A n q e * A.wo (ix3 0 (Fin.ofNat 2048 (128 * q + e.val)) d)

/-- The output projection over the first groups. -/
def part (n p : ℕ) (d : Fin 2048) : EReal := ∑ q ∈ Finset.range p, share A n q d

/-- The result's entry: the residual plus the normed projection. -/
def out (n : ℕ) (d : Fin 2048) : EReal := Cert.Proj.row A.h n d + Cert.Ffn.nm (part A n 16) (fun k => A.g' (ix2 0 k)) d

/-- The result, as the result array holds it. -/
def tgt : S16384x2048.Idx → EReal := fun y => out A (y 0).val ⟨(y 1).val, (y 1).isLt⟩

end Cert.Mix

end
-- ==== Proof.Mix.Pt.lean ====
/- What a grid point of the mixing layer's call stores, with exact numbers, as functions of the blocks it reads. -/
module

public import proofs.«01_k».proof.Proof.Mix.Spec
public import proofs.«01_k».proof.Proof.Gen.MixKernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixKernelIdeal.Own

open Cert.MixKernelIdeal Cert.MixKernelIdeal.Gen
open Idealize.ShloMosaic Idealize.ShloMosaic.TcCoe
open Cert.Ffn (nm)
open Cert.Mix

/-- A block of rows, each divided by its root mean square, times a gain. -/
def rows (x : S1024x2048.Idx → EReal) (g : S1x2048.Idx → EReal) : S1024x2048.Idx → EReal :=
  fun y => nm (fun k => x (ix2 (y 0) k)) (fun k => g (ix2 0 k)) (y 1)

/-- A block of rows through the activated projection by a block of columns. -/
def act (x : S1024x2048.Idx → EReal) (w : S2048x512.Idx → EReal) (r : Fin 1024) (j : Fin 512) : EReal :=
  gelu (∑ k : Fin 2048, x (ix2 r k) * w (ix2 k j))

/-- The activations, as the call computes them. -/
theorem act_at (x : Vec Ideal S1024x2048 .bf16) (w : Vec Ideal S2048x512 .bf16) (r : Fin 1024) (j : Fin 512) : k0_pay146 x w (ix2 r j) = act x w r j := by
  unfold act gelu
  pointwise [k0_pay146]

/-- A group's columns lie within the block. -/
theorem sl_g (g : Fin 4) : S1024x512.Slices ![0, 128 * g.val] S1024x128 := by revert g; decide
/-- A chunk's rows lie within the block. -/
theorem sl_c (c : Fin 8) : S1024x128.Slices ![128 * c.val, 0] S128x128 := by revert c; decide
/-- A chunk's rows of a group's columns lie within the block. -/
theorem sl_u (g : Fin 4) (c : Fin 8) : S1024x512.Slices ![128 * c.val, 128 * g.val] S128x128 := by revert g c; decide

/-- A group's normed values. -/
def gv (g : Fin 4) (v : FVec Ideal S1024x512 .f32) (a : Vec Ideal S1x128 .f32) : FVec Ideal S1024x128 .bf16 :=
  let s := extractStridedSlice S1024x128 ![0, 128 * g.val] v (sl_g g)
  k0_pay152 s (k0_pay150 a) (multiReduction .add [1] S1024 (mulf s s) 0x00000000#32 reduces_S1024x128_S1024 (.inl rfl) rfl)

/-- A chunk's gated rows. -/
def ck (g : Fin 4) (c : Fin 8) (u : FVec Ideal S1024x512 .f32) (v : FVec Ideal S1024x128 .bf16) (w : Vec Ideal S1x128x128 .f32) (b : Vec Ideal S1x128x1 .f32) : FVec Ideal S128x128 .f32 :=
  mulf (extractStridedSlice S128x128 ![128 * c.val, 128 * g.val] u (sl_u g c))
    (addf (matmul (φ₁ := .bf16) (φ₂ := .bf16) dot_S128x128_S128x128_S128x128_1_0_0_1_n_n none (k0_pay153 k0_pay148 w) (extractStridedSlice S128x128 ![128 * c.val, 0] v (sl_c c)) (constant S128x128 .f32 0x00000000#32))
      (broadcastTo S128x128 (k0_pay154 b) broadcasts_S128x1_S128x128))

/-- A group's gated rows. -/
def gr (g : Fin 4) (u : FVec Ideal S1024x512 .f32) (v : FVec Ideal S1024x128 .bf16) (w : Vec Ideal S1x128x128 .f32) (b : Vec Ideal S1x128x1 .f32) : FVec Ideal S1024x128 .f32 :=
  concatenate S1024x128 0 [⟨S128x128, ck g 0 u v w b⟩, ⟨S128x128, ck g 1 u v w b⟩, ⟨S128x128, ck g 2 u v w b⟩, ⟨S128x128, ck g 3 u v w b⟩, ⟨S128x128, ck g 4 u v w b⟩,
    ⟨S128x128, ck g 5 u v w b⟩, ⟨S128x128, ck g 6 u v w b⟩, ⟨S128x128, ck g 7 u v w b⟩] concatenates_S128x128_S128x128_S128x128_S128x128_S128x128_S128x128_S128x128_S128x128_S1024x128_d0

/-- Two groups' share of the output projection. -/
def dn (x y : FVec Ideal S1024x128 .f32) (w : Vec Ideal S256x2048 .bf16) : FVec Ideal S1024x2048 .f32 :=
  matmul (φ₁ := .bf16) (φ₂ := .bf16) dot_S1024x256_S256x2048_S1024x2048_1_0_0_1_n_n none
    (truncf .bf16 (concatenate S1024x256 1 [⟨S1024x128, x⟩, ⟨S1024x128, y⟩] concatenates_S1024x128_S1024x128_S1024x256_d1) bitsLt_bf16_f32)
    (shapeCast S256x2048 w shapeCasts_S256x2048_S256x2048) (constant S1024x2048 .f32 0x00000000#32)

/-- A product added to what a buffer holds. -/
def ac (p d : FVec Ideal S1024x2048 .f32) : FVec Ideal S1024x2048 .f32 := addf (shapeCast S1024x2048 p shapeCasts_S1024x2048_S1024x2048) d

/-- Its entries. -/
theorem ac_at (p d : FVec Ideal S1024x2048 .f32) (y : S1024x2048.Idx) : ac p d y = p y + d y := by
  unfold ac
  rw [shapeCast_self]
  rfl

/-- A group's normed values, entry by entry. -/
theorem gv_at (g : Fin 4) (v : FVec Ideal S1024x512 .f32) (a : Vec Ideal S1x128 .f32) (r : Fin 1024) (e : Fin 128) :
    gv g v a (ix2 r e) = gnorm (fun d => v (ix2 r ⟨128 * g.val + d.val, by omega⟩)) (fun d => a (ix2 0 d)) e := by
  unfold gnorm
  pointwise [gv, k0_pay152, k0_pay150]

/-- The causal mask's bits. -/
theorem causal : ∀ r s : Fin 128, IntOp.cmpi .sge (BitVec.ofNat 32 r.val) (BitVec.ofNat 32 s.val) = if s.val ≤ r.val then 1#1 else 0#1 := by decide +kernel

/-- A chunk's gated rows, entry by entry. -/
theorem ck_at (g : Fin 4) (c : Fin 8) (u : FVec Ideal S1024x512 .f32) (v : FVec Ideal S1024x128 .bf16) (w : Vec Ideal S1x128x128 .f32) (b : Vec Ideal S1x128x1 .f32) (r e : Fin 128) :
    ck g c u v w b (ix2 r e) = u (ix2 ⟨128 * c.val + r.val, by omega⟩ ⟨128 * g.val + e.val, by omega⟩)
      * blend (fun s => w (ix3 0 r s)) (b (ix3 0 r 0)) (fun s => v (ix2 ⟨128 * c.val + s.val, by omega⟩ e)) r := by
  unfold blend
  pointwise [ck, k0_pay153, k0_pay154, k0_pay148]
  refine congrArg (fun z : EReal => _ * (z + _)) (Finset.sum_congr rfl fun s _ => ?_)
  rw [causal]
  by_cases h : s.val ≤ r.val
  · rw [if_pos h, if_pos h]
    rfl
  · rw [if_neg h, if_neg h, zero_mul]
    rfl

/-- Two groups' share, entry by entry. -/
theorem dn_at (x y : FVec Ideal S1024x128 .f32) (w : Vec Ideal S256x2048 .bf16) (r : Fin 1024) (d : Fin 2048) :
    dn x y w (ix2 r d) = ∑ e : Fin 128, x (ix2 r e) * w (ix2 ⟨e.val, by omega⟩ d) + ∑ e : Fin 128, y (ix2 r e) * w (ix2 ⟨128 + e.val, by omega⟩ d) := by
  pointwise [dn]

/-- A group's gated rows, entry by entry. -/
theorem gr_at (g : Fin 4) (u : FVec Ideal S1024x512 .f32) (v : FVec Ideal S1024x128 .bf16) (w : Vec Ideal S1x128x128 .f32) (b : Vec Ideal S1x128x1 .f32) (r : Fin 1024) (e : Fin 128) :
    gr g u v w b (ix2 r e) = ck g ⟨r.val / 128, by omega⟩ u v w b (ix2 ⟨r.val % 128, by omega⟩ e) := by
  unfold gr
  exact concatenate_ofFn_apply (t := S1024x128) (s₁ := S128x128) 0 (fun c : Fin 8 => ck g c u v w b) _ rfl 128 rfl (ix2 r e) ⟨r.val / 128, by omega⟩ rfl
    (ix2 ⟨r.val % 128, by omega⟩ e) rfl (fun b hb => by
      match b with
      | ⟨0, _⟩ => exact absurd rfl hb
      | ⟨1, _⟩ => rfl)

/-- Sixteen rows' store. -/
theorem strip (x : Vec Ideal S1024x2048 .f32) (g : Vec Ideal S1x2048 .f32) (o : ℕ) (h : ∀ a, (![o, 0] : Fin 2 → ℕ) a + S16x2048.size a ≤ S1024x2048.size a) (y : S16x2048.Idx) :
    k0_pay10 (k0_pay5 g) (View.ld x (Rect.unit (s := S1024x2048) ![o, 0] S16x2048.size h)) y = rows x g ((Rect.unit (s := S1024x2048) ![o, 0] S16x2048.size h).emb y) := by
  have h0 : o + 16 ≤ 1024 := h 0
  have y0 : (y 0).val < 16 := (y 0).isLt
  have e : (Rect.unit (s := S1024x2048) ![o, 0] S16x2048.size h).emb y = ix2 ⟨o + (y 0).val, by omega⟩ ⟨(y 1).val, (y 1).isLt⟩ :=
    funext fun a => Fin.ext (by match a with
      | ⟨0, _⟩ => show o + 1 * (y 0).val = o + (y 0).val; omega
      | ⟨1, _⟩ => show 0 + 1 * (y 1).val = (y 1).val; omega)
  rw [e]
  unfold rows nm
  pointwise [k0_pay10, k0_pay5]

/-- Stores that are blocks of one array and cover the buffer leave that array. -/
theorem canon_of {s : Shape} {e : EltTy} (G : s.Idx → Elt Ideal e) (L : List (View.Piece (Elt Ideal) s e)) (hp : View.PiecesOf G L) (z : Fin s.rank → ℕ)
    (hc : View.Piece.tiledL L z = true) : View.canon L = G :=
  funext fun y => by
    rw [← List.append_nil L]
    exact View.canon_append_of_piecesOf G [] L hp y (View.cover_of_tiledL L z hc y)

/-- A load of the whole buffer after such stores. -/
theorem readCov_of (v : View sig .tc .vmem S1024x2048 .bf16) (G : S1024x2048.Idx → EReal) (L : List (View.Piece (Elt Ideal) S1024x2048 .bf16)) (h)
    (hp : View.PiecesOf G L) (hc : View.Piece.tiledL L S16x2048.size = true) :
    v.readCov L (Rect.unit (s := S1024x2048) ![0, 0] ![1024, 2048] h).toLoadRect = G := by
  rw [View.readCov_eq_canon', canon_of G L hp _ hc]
  funext y
  exact congrArg G (funext fun a => Fin.ext (by match a with
    | ⟨0, _⟩ => show 0 + 1 * (y 0).val = (y 0).val; omega
    | ⟨1, _⟩ => show 0 + 1 * (y 1).val = (y 1).val; omega))

/-- A block of rows plus another block's rows, each divided by its root mean square, times a gain. -/
def ep (x : S1024x2048.Idx → EReal) (g : S1x2048.Idx → EReal) (D : S1024x2048.Idx → EReal) : S1024x2048.Idx → EReal := fun y => x y + rows D g y

/-- Eight rows' rewriting. -/
theorem tail (x : Vec Ideal S1024x2048 .f32) (g : Vec Ideal S1x2048 .f32) (D : Vec Ideal S1024x2048 .f32) (o : ℕ) (h : ∀ a, (![o, 0] : Fin 2 → ℕ) a + S8x2048.size a ≤ S1024x2048.size a) (y : S8x2048.Idx) :
    k0_pay4 (k0_pay185 g) (View.ld x (Rect.unit (s := S1024x2048) ![o, 0] S8x2048.size h)) (View.ld D (Rect.unit (s := S1024x2048) ![o, 0] S8x2048.size h)) y
      = ep x g D ((Rect.unit (s := S1024x2048) ![o, 0] S8x2048.size h).emb y) := by
  have h0 : o + 8 ≤ 1024 := h 0
  have y0 : (y 0).val < 8 := (y 0).isLt
  have e : (Rect.unit (s := S1024x2048) ![o, 0] S8x2048.size h).emb y = ix2 ⟨o + (y 0).val, by omega⟩ ⟨(y 1).val, (y 1).isLt⟩ :=
    funext fun a => Fin.ext (by match a with
      | ⟨0, _⟩ => show o + 1 * (y 0).val = o + (y 0).val; omega
      | ⟨1, _⟩ => show 0 + 1 * (y 1).val = (y 1).val; omega)
  rw [e]
  unfold ep rows nm
  pointwise [k0_pay4, k0_pay185]

/-- The stores so far leave the rewritten rows above a row and the old ones from it on. -/
def Upto (x : S1024x2048.Idx → EReal) (g : S1x2048.Idx → EReal) (D : S1024x2048.Idx → EReal) (L : List (View.Piece (Elt Ideal) S1024x2048 .f32)) (o : ℕ) : Prop :=
  ∀ y : S1024x2048.Idx, View.canon L y = if (y 0).val < o then ep x g D y else D y

/-- Eight more rows, which read the old ones. -/
theorem upto_step (v : View sig .tc .vmem S1024x2048 .f32) (x : Vec Ideal S1024x2048 .f32) (g : Vec Ideal S1x2048 .f32) (D : Vec Ideal S1024x2048 .f32)
    (L : List (View.Piece (Elt Ideal) S1024x2048 .f32)) (o : ℕ) (h : ∀ a, (![o, 0] : Fin 2 → ℕ) a + S8x2048.size a ≤ S1024x2048.size a) (p : S8x2048.Idx → EReal)
    (hp : p = k0_pay4 (F := Ideal) (k0_pay185 g) (View.ld x (Rect.unit (s := S1024x2048) ![o, 0] S8x2048.size h)) (v.readCov L (Rect.unit (s := S1024x2048) ![o, 0] S8x2048.size h).toLoadRect))
    (hL : Upto x g D L o) : Upto x g D (⟨Rect.unit (s := S1024x2048) ![o, 0] S8x2048.size h, p⟩ :: L) (o + 8) := by
  have h0 : o + 8 ≤ 1024 := h 0
  have hr : v.readCov L (Rect.unit (s := S1024x2048) ![o, 0] S8x2048.size h).toLoadRect = View.ld D (Rect.unit (s := S1024x2048) ![o, 0] S8x2048.size h) := by
    rw [View.readCov_eq_canon']
    funext j
    refine (hL _).trans (if_neg ?_)
    show ¬ o + 1 * (j 0).val < o
    omega
  rw [hr] at hp
  intro y
  by_cases hy : o ≤ (y 0).val ∧ (y 0).val < o + 8
  · obtain ⟨z, rfl⟩ : ∃ z, (Rect.unit (s := S1024x2048) ![o, 0] S8x2048.size h).emb z = y :=
      ⟨ix2 ⟨(y 0).val - o, by omega⟩ ⟨(y 1).val, (y 1).isLt⟩, funext fun a => Fin.ext (by match a with
        | ⟨0, _⟩ => show o + 1 * ((y 0).val - o) = (y 0).val; omega
        | ⟨1, _⟩ => show 0 + 1 * (y 1).val = (y 1).val; omega)⟩
    rw [View.canon_cons_emb, if_pos hy.2, hp]
    exact tail x g D o h z
  · rw [View.canon_cons_of_not_mem _ _ (fun hm => hy ?_), hL y]
    · by_cases hl : (y 0).val < o
      · rw [if_pos hl, if_pos (by omega)]
      · rw [if_neg hl, if_neg (by omega)]
    · have e := (Rect.mem_set_unit (s := S1024x2048) (off := ![o, 0]) (size := S8x2048.size) (inb := h) (i := y)).1 hm 0
      exact ⟨e.1, e.2⟩

/-- All rows rewritten. -/
theorem upto_all (x g D) (L) (h : Upto x g D L 1024) : View.canon L = ep x g D :=
  funext fun y => (h y).trans (if_pos (y 0).isLt)

end Cert.MixKernelIdeal.Own

end
-- ==== Proof.Mix.Case.lean ====
/- What each kind of grid point of the mixing layer's call stores, with exact numbers. -/
module

public import proofs.«01_k».proof.Proof.Mix.Pt
public import proofs.«01_k».proof.Proof.Proj.Val
public import proofs.«01_k».proof.Proof.Gen.MixKernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixKernelIdeal.Own

open Cert.MixKernelIdeal Cert.MixKernelIdeal.Gen
open Idealize.ShloMosaic Idealize.ShloMosaic.TcCoe
open Cert.Ffn (nm)
open Cert.Mix

set_option maxHeartbeats 1000000

variable (m : (ℓ : Loc nD τ sig) → Buf (Elt Ideal) ℓ) (c : Dev nD) (t : Fin cfg0.N)

/-- A group's gated rows from the blocks. -/
def gg (g : Fin 4) (x : Vec Ideal S1024x2048 .bf16) : FVec Ideal S1024x128 .f32 :=
  gr g (k0_pay146 x (iblk m c 2 t)) (gv g (k0_pay146 x (iblk m c 3 t)) (View.ld (iblk m c 4 t) (Rect.unit (s := S1x512) ![0, 128 * g.val] ![1, 128] (by revert g; decide))))
    (View.ld (iblk m c 5 t) (Rect.unit (s := S4x128x128) ![g.val, 0, 0] ![1, 128, 128] (by revert g; decide)))
    (View.ld (iblk m c 6 t) (Rect.unit (s := S4x128x1) ![g.val, 0, 0] ![1, 128, 1] (by revert g; decide)))

/-- Two groups' share. -/
def d0 (x : Vec Ideal S1024x2048 .bf16) : FVec Ideal S1024x2048 .f32 :=
  dn (gg m c t 0 x) (gg m c t 1 x) (View.ld (iblk m c 7 t) (Rect.unit (s := S512x2048) ![0, 0] ![256, 2048] (by decide)))
/-- The other two groups' share. -/
def d1 (x : Vec Ideal S1024x2048 .bf16) : FVec Ideal S1024x2048 .f32 :=
  dn (gg m c t 2 x) (gg m c t 3 x) (View.ld (iblk m c 7 t) (Rect.unit (s := S512x2048) ![256, 0] ![256, 2048] (by decide)))

/-- At a middle column's point the shares are added to what the point before left. -/
theorem B9 (h : 1 ≤ t.val % 4) (h3 : ¬ t.val % 4 = 3) :
    (outsAt0 m c t.val t.isLt).1 = ac (ac (outsAt0 m c (t.val - 1) (Nat.lt_of_le_of_lt (Nat.sub_le _ _) t.isLt)).1
      (d0 m c t (outsAt0 m c (t.val - 1) (Nat.lt_of_le_of_lt (Nat.sub_le _ _) t.isLt)).2)) (d1 m c t (outsAt0 m c (t.val - 1) (Nat.lt_of_le_of_lt (Nat.sub_le _ _) t.isLt)).2) := by
  rw [outsAt0_B m c t (by omega) h h3]
  frame_out
  simp only [read_unread_whole]
  sl_kernel_rfl

/-- The later columns' points keep the normed rows. -/
theorem sB (h : 1 ≤ t.val % 4) :
    (outsAt0 m c t.val t.isLt).2 = (outsAt0 m c (t.val - 1) (Nat.lt_of_le_of_lt (Nat.sub_le _ _) t.isLt)).2 := by
  by_cases h3 : t.val % 4 = 3
  · rw [outsAt0_C m c t (by omega) h h3]
    rfl
  · rw [outsAt0_B m c t (by omega) h h3]
    rfl

/-- At the first column's point the scratch receives the normed rows. -/
theorem sA (h : t.val % 4 = 0) : (outsAt0 m c t.val t.isLt).2 = rows (iblk m c 0 t) (iblk m c 1 t) := by
  rw [outsAt0_A m c t h (by omega) (by omega)]
  frame_out
  refine canon_of _ _ ?_ S16x2048.size (by sl_kernel_rfl)
  iterate 64 refine ⟨fun y => strip _ _ _ _ y, ?_⟩
  trivial

/-- At the first column's point the result block receives the shares. -/
theorem A9 (h : t.val % 4 = 0) :
    (outsAt0 m c t.val t.isLt).1 = ac (d0 m c t (rows (iblk m c 0 t) (iblk m c 1 t))) (d1 m c t (rows (iblk m c 0 t) (iblk m c 1 t))) := by
  rw [outsAt0_A m c t h (by omega) (by omega)]
  frame_out
  rw [readCov_of _ (rows (iblk m c 0 t) (iblk m c 1 t)) _ _ ?_ (by sl_kernel_rfl)]
  · sl_kernel_rfl
  · iterate 64 refine ⟨fun y => strip _ _ _ _ y, ?_⟩
    trivial

/-- At the last column's point the rows are then normed, scaled and added to the residual's. -/
theorem C9 (h3 : t.val % 4 = 3) :
    (outsAt0 m c t.val t.isLt).1 = ep (iblk m c 0 t) (iblk m c 8 t) (ac (ac (outsAt0 m c (t.val - 1) (Nat.lt_of_le_of_lt (Nat.sub_le _ _) t.isLt)).1
      (d0 m c t (outsAt0 m c (t.val - 1) (Nat.lt_of_le_of_lt (Nat.sub_le _ _) t.isLt)).2)) (d1 m c t (outsAt0 m c (t.val - 1) (Nat.lt_of_le_of_lt (Nat.sub_le _ _) t.isLt)).2)) := by
  rw [outsAt0_C m c t (by omega) (by omega) h3]
  frame_out
  simp only [read_unread_whole]
  refine upto_all _ _ _ _ ?_
  iterate 128 refine upto_step _ _ _ _ _ _ _ _ rfl ?_
  refine fun y => (congrFun (View.canon_cons_unit_zero Cert.ProjKernelIdeal.Own.z2 _ _ _) y).trans ((congrFun ?_ y).trans (if_neg (Nat.not_lt_zero _)).symm)
  sl_kernel_rfl

end Cert.MixKernelIdeal.Own

end
-- ==== Proof.Mix.Val.lean ====
/- The run of the mixing layer's call with exact numbers: the result array ends holding the specified rows. -/
module

public import proofs.«01_k».proof.Proof.Mix.Case
public import proofs.«01_k».proof.Proof.Gen.MixKernelIdeal.Value
public import Idealize.ShloMosaic.Lib.StableHlo.ReadAt
public import Idealize.ShloMosaic.Lib.Pipeline.Value
public import Idealize.ShloMosaic.Lib.Pipeline.Covers
public import Idealize.ShloMosaic.Lib.Pointwise

@[expose] public section

set_option maxRecDepth 16384

noncomputable section

namespace Cert.MixKernelIdeal.Own

open Cert.MixKernelIdeal Cert.MixKernelIdeal.Gen
open Idealize.ShloMosaic Idealize.ShloMosaic.TcCoe Idealize.SL.Sem
open Cert.Mix
open Cert.Proj (row)
open Cert.ProjKernelIdeal.Own (at_row)

/-- The blocks' places at each grid point. -/
theorem ixs : ∀ t : Fin cfg0.N, cc0_transform_0 (grid0.coords t) = ![t.val / 4, 0] ∧ cc0_transform_2 (grid0.coords t) = ![0, t.val % 4]
    ∧ cc0_transform_3 (grid0.coords t) = ![0, t.val % 4 + 4] ∧ cc0_transform_5 (grid0.coords t) = ![t.val % 4, 0, 0]
    ∧ cc0_transform_7 (grid0.coords t) = ![t.val % 4, 0] :=
  (by decide +kernel : ∀ t : Fin grid0.N, _)

variable (m : (ℓ : Loc nD τ sig) → Buf (Elt Ideal) ℓ) (ρ : Dev nD → PrngReg) (c : Dev nD)

/-- The arguments a device holds. -/
def args : Args where
  h := m ((c : Thread nD τ).loc main_arg0)
  g := m ((c : Thread nD τ).loc main_arg1)
  wi := m ((c : Thread nD τ).loc main_arg2)
  vg := m ((c : Thread nD τ).loc main_arg3)
  ws := m ((c : Thread nD τ).loc main_arg4)
  bs := m ((c : Thread nD τ).loc main_arg5)
  wo := m ((c : Thread nD τ).loc main_arg6)
  g' := m ((c : Thread nD τ).loc main_arg7)

/-- The result's contents on a device. -/
def res : Buf (Elt Ideal) ((c : Thread nD τ).loc main_v16) := tgt (args m c)

/-! ## The arrays the call reads -/

/-- The rows, the batches one after another. -/
theorem host0 (n : Fin 16384) (k : Fin 2048) :
    (V m c main_v0 : S16384x2048.Idx → EReal) (ix2 n k) = (m ((c : Thread nD τ).loc main_arg0) : S4x4096x2048.Idx → EReal)
      (ix3 ⟨n.val / 4096, by omega⟩ ⟨n.val % 4096, Nat.mod_lt _ (by norm_num)⟩ k) := by
  unfold V
  after_reads_at

/-- The gain before is the gains' first row. -/
theorem host12 (k : Fin 2048) : (V m c main_v12 : S1x2048.Idx → EReal) (ix2 0 k) = (args m c).g (ix2 0 k) := by
  unfold V args
  after_reads_at

/-- The input weight. -/
theorem host4 (k : Fin 2048) (j : Fin 4096) : (V m c main_v4 : S2048x4096.Idx → EReal) (ix2 k j) = (args m c).wi (ix3 0 k j) := by
  unfold V args
  after_reads_at

/-- The groups' gains. -/
theorem host13 (k : Fin 2048) : (V m c main_v13 : S1x2048.Idx → EReal) (ix2 0 k) = (args m c).vg (ix2 0 k) := by
  unfold V args
  after_reads_at

/-- The spatial weights. -/
theorem host6 (q : Fin 16) (r s : Fin 128) : (V m c main_v6 : S16x128x128.Idx → EReal) (ix3 q r s) = (args m c).ws (ix4 0 q r s) := by
  unfold V args
  after_reads_at

/-- The spatial biases. -/
theorem host14 (q : Fin 16) (r : Fin 128) : (V m c main_v14 : S16x128x1.Idx → EReal) (ix3 q r 0) = (args m c).bs (ix3 0 q r) := by
  unfold V args
  after_reads_at

/-- The output weight. -/
theorem host9 (k d : Fin 2048) : (V m c main_v9 : S2048x2048.Idx → EReal) (ix2 k d) = (args m c).wo (ix3 0 k d) := by
  unfold V args
  after_reads_at

/-- The gain after is the gains' first row. -/
theorem host15 (k : Fin 2048) : (V m c main_v15 : S1x2048.Idx → EReal) (ix2 0 k) = (args m c).g' (ix2 0 k) := by
  unfold V args
  after_reads_at

/-! ## The blocks -/

variable (t : Fin cfg0.N)

/-- Where an entry lies, its coordinates known. -/
theorem at2 {n0 n1 : ℕ} (x : (⟨2, ![n0, n1]⟩ : Shape).Idx → EReal) (a : Fin n0) (b : Fin n1) (y : (⟨2, ![n0, n1]⟩ : Shape).Idx)
    (h0 : (y 0).val = a.val) (h1 : (y 1).val = b.val) : x y = x (ix2 a b) :=
  congrArg x (funext fun i => Fin.ext (by match i with
    | ⟨0, _⟩ => exact h0
    | ⟨1, _⟩ => exact h1))
/-- The same with three coordinates. -/
theorem at3 {n0 n1 n2 : ℕ} (x : (⟨3, ![n0, n1, n2]⟩ : Shape).Idx → EReal) (a : Fin n0) (b : Fin n1) (d : Fin n2) (y : (⟨3, ![n0, n1, n2]⟩ : Shape).Idx)
    (h0 : (y 0).val = a.val) (h1 : (y 1).val = b.val) (h2 : (y 2).val = d.val) : x y = x (ix3 a b d) :=
  congrArg x (funext fun i => Fin.ext (by match i with
    | ⟨0, _⟩ => exact h0
    | ⟨1, _⟩ => exact h1
    | ⟨2, _⟩ => exact h2))

/-- The rows. -/
theorem iblk0 (r : Fin 1024) (k : Fin 2048) :
    (iblk m c 0 t : S1024x2048.Idx → EReal) (ix2 r k) = row (args m c).h (1024 * (t.val / 4) + r.val) k := by
  have ht : t.val < 64 := t.isLt
  have a0 : cc0_transform_0 (grid0.coords t) 0 = t.val / 4 := congrFun (ixs t).1 0
  have a1 : cc0_transform_0 (grid0.coords t) 1 = 0 := congrFun (ixs t).1 1
  refine Eq.trans ?_ ((host0 m c ⟨1024 * (t.val / 4) + r.val, by omega⟩ k).trans (at_row (args m c).h (1024 * (t.val / 4) + r.val) (by omega) k _ _))
  unfold iblk
  rw [View.read_apply]
  refine at2 (V m c main_v0) _ _ _ ?_ ?_
  · show cc0_transform_0 (grid0.coords t) 0 * 1024 + 1 * r.val = 1024 * (t.val / 4) + r.val
    omega
  · show cc0_transform_0 (grid0.coords t) 1 * 2048 + 1 * k.val = k.val
    omega

/-- The gain before. -/
theorem iblk1 (k : Fin 2048) : (iblk m c 1 t : S1x2048.Idx → EReal) (ix2 0 k) = (args m c).g (ix2 0 k) := by
  refine Eq.trans ?_ (host12 m c k)
  unfold iblk
  rw [View.read_apply]
  refine at2 (V m c main_v12) _ _ _ rfl ?_
  show 0 * 2048 + 1 * k.val = k.val
  omega

/-- The gain after. -/
theorem iblk8 (k : Fin 2048) : (iblk m c 8 t : S1x2048.Idx → EReal) (ix2 0 k) = (args m c).g' (ix2 0 k) := by
  refine Eq.trans ?_ (host15 m c k)
  unfold iblk
  rw [View.read_apply]
  refine at2 (V m c main_v15) _ _ _ rfl ?_
  show 0 * 2048 + 1 * k.val = k.val
  omega

/-- The gates' columns of the input weight. -/
theorem iblk2 (k : Fin 2048) (j : Fin 512) : (iblk m c 2 t : S2048x512.Idx → EReal) (ix2 k j) = (args m c).wi (ix3 0 k (Fin.ofNat 4096 (512 * (t.val % 4) + j.val))) := by
  have a0 : cc0_transform_2 (grid0.coords t) 0 = 0 := congrFun (ixs t).2.1 0
  have a1 : cc0_transform_2 (grid0.coords t) 1 = t.val % 4 := congrFun (ixs t).2.1 1
  refine Eq.trans ?_ (host4 m c k _)
  unfold iblk
  rw [View.read_apply]
  refine at2 (V m c main_v4) _ _ _ ?_ ?_
  · show cc0_transform_2 (grid0.coords t) 0 * 2048 + 1 * k.val = k.val
    omega
  · show cc0_transform_2 (grid0.coords t) 1 * 512 + 1 * j.val = (512 * (t.val % 4) + j.val) % 4096
    omega

/-- The values' columns of the input weight. -/
theorem iblk3 (k : Fin 2048) (j : Fin 512) : (iblk m c 3 t : S2048x512.Idx → EReal) (ix2 k j) = (args m c).wi (ix3 0 k (Fin.ofNat 4096 (2048 + (512 * (t.val % 4) + j.val)))) := by
  have a0 : cc0_transform_3 (grid0.coords t) 0 = 0 := congrFun (ixs t).2.2.1 0
  have a1 : cc0_transform_3 (grid0.coords t) 1 = t.val % 4 + 4 := congrFun (ixs t).2.2.1 1
  refine Eq.trans ?_ (host4 m c k _)
  unfold iblk
  rw [View.read_apply]
  refine at2 (V m c main_v4) _ _ _ ?_ ?_
  · show cc0_transform_3 (grid0.coords t) 0 * 2048 + 1 * k.val = k.val
    omega
  · show cc0_transform_3 (grid0.coords t) 1 * 512 + 1 * j.val = (2048 + (512 * (t.val % 4) + j.val)) % 4096
    omega

/-- A group's gain. -/
theorem iblk4 (j : Fin 512) : (iblk m c 4 t : S1x512.Idx → EReal) (ix2 0 j) = (args m c).vg (ix2 0 (Fin.ofNat 2048 (512 * (t.val % 4) + j.val))) := by
  have a1 : cc0_transform_2 (grid0.coords t) 1 = t.val % 4 := congrFun (ixs t).2.1 1
  refine Eq.trans ?_ (host13 m c _)
  unfold iblk
  rw [View.read_apply]
  refine at2 (V m c main_v13) _ _ _ rfl ?_
  show cc0_transform_2 (grid0.coords t) 1 * 512 + 1 * j.val = (512 * (t.val % 4) + j.val) % 2048
  omega

/-- Four groups' spatial weights. -/
theorem iblk5 (g : Fin 4) (r s : Fin 128) : (iblk m c 5 t : S4x128x128.Idx → EReal) (ix3 g r s) = (args m c).ws (ix4 0 (Fin.ofNat 16 (4 * (t.val % 4) + g.val)) r s) := by
  have a0 : cc0_transform_5 (grid0.coords t) 0 = t.val % 4 := congrFun (ixs t).2.2.2.1 0
  have a1 : cc0_transform_5 (grid0.coords t) 1 = 0 := congrFun (ixs t).2.2.2.1 1
  have a2 : cc0_transform_5 (grid0.coords t) 2 = 0 := congrFun (ixs t).2.2.2.1 2
  refine Eq.trans ?_ (host6 m c _ r s)
  unfold iblk
  rw [View.read_apply]
  refine at3 (V m c main_v6) _ _ _ _ ?_ ?_ ?_
  · show cc0_transform_5 (grid0.coords t) 0 * 4 + 1 * g.val = (4 * (t.val % 4) + g.val) % 16
    omega
  · show cc0_transform_5 (grid0.coords t) 1 * 128 + 1 * r.val = r.val
    omega
  · show cc0_transform_5 (grid0.coords t) 2 * 128 + 1 * s.val = s.val
    omega

/-- Four groups' spatial biases. -/
theorem iblk6 (g : Fin 4) (r : Fin 128) : (iblk m c 6 t : S4x128x1.Idx → EReal) (ix3 g r 0) = (args m c).bs (ix3 0 (Fin.ofNat 16 (4 * (t.val % 4) + g.val)) r) := by
  have a0 : cc0_transform_5 (grid0.coords t) 0 = t.val % 4 := congrFun (ixs t).2.2.2.1 0
  have a1 : cc0_transform_5 (grid0.coords t) 1 = 0 := congrFun (ixs t).2.2.2.1 1
  have a2 : cc0_transform_5 (grid0.coords t) 2 = 0 := congrFun (ixs t).2.2.2.1 2
  refine Eq.trans ?_ (host14 m c _ r)
  unfold iblk
  rw [View.read_apply]
  refine at3 (V m c main_v14) _ _ _ _ ?_ ?_ ?_
  · show cc0_transform_5 (grid0.coords t) 0 * 4 + 1 * g.val = (4 * (t.val % 4) + g.val) % 16
    omega
  · show cc0_transform_5 (grid0.coords t) 1 * 128 + 1 * r.val = r.val
    omega
  · show cc0_transform_5 (grid0.coords t) 2 * 1 + 1 * 0 = 0
    omega

/-- Four groups' rows of the output weight. -/
theorem iblk7 (k : Fin 512) (d : Fin 2048) : (iblk m c 7 t : S512x2048.Idx → EReal) (ix2 k d) = (args m c).wo (ix3 0 (Fin.ofNat 2048 (512 * (t.val % 4) + k.val)) d) := by
  have a0 : cc0_transform_7 (grid0.coords t) 0 = t.val % 4 := congrFun (ixs t).2.2.2.2 0
  have a1 : cc0_transform_7 (grid0.coords t) 1 = 0 := congrFun (ixs t).2.2.2.2 1
  refine Eq.trans ?_ (host9 m c _ d)
  unfold iblk
  rw [View.read_apply]
  refine at2 (V m c main_v9) _ _ _ ?_ ?_
  · show cc0_transform_7 (grid0.coords t) 0 * 512 + 1 * k.val = (512 * (t.val % 4) + k.val) % 2048
    omega
  · show cc0_transform_7 (grid0.coords t) 1 * 2048 + 1 * d.val = d.val
    omega

/-! ## A point's shares -/

/-- Equal rows, biases and columns mix to equal entries. -/
theorem blend_congr {w w' v v' : Fin 128 → EReal} {b b' : EReal} {r r' : Fin 128} (hw : ∀ s, w s = w' s) (hb : b = b') (hv : ∀ s, v s = v' s) (hr : r = r') :
    blend w b v r = blend w' b' v' r' := by
  obtain rfl : w = w' := funext hw
  obtain rfl : v = v' := funext hv
  rw [hb, hr]

/-- Equal groups and gains norm to equal entries. -/
theorem gnorm_congr {x x' g g' : Fin 128 → EReal} (hx : ∀ d, x d = x' d) (hg : ∀ d, g d = g' d) (e : Fin 128) : gnorm x g e = gnorm x' g' e := by
  obtain rfl : x = x' := funext hx
  obtain rfl : g = g' := funext hg
  rfl

variable (x : Vec Ideal S1024x2048 .bf16) (hx : ∀ (r : Fin 1024) (k : Fin 2048), x (ix2 r k) = xn (args m c) (1024 * (t.val / 4) + r.val) k)

include hx

/-- A gate. -/
theorem u_at (r : Fin 1024) (j : Fin 512) (n i : ℕ) (hn : 1024 * (t.val / 4) + r.val = n) (hi : 512 * (t.val % 4) + j.val = i) :
    k0_pay146 x (iblk m c 2 t) (ix2 r j) = up (args m c) n i := by
  subst hn hi
  rw [act_at]
  exact congrArg gelu (Finset.sum_congr rfl fun k _ => congrArg₂ (fun a b : EReal => a * b) (hx r k) (iblk2 m c t k j))

/-- A value. -/
theorem v_at (r : Fin 1024) (j : Fin 512) (n i : ℕ) (hn : 1024 * (t.val / 4) + r.val = n) (hi : 2048 + (512 * (t.val % 4) + j.val) = i) :
    k0_pay146 x (iblk m c 3 t) (ix2 r j) = up (args m c) n i := by
  subst hn hi
  rw [act_at]
  exact congrArg gelu (Finset.sum_congr rfl fun k _ => congrArg₂ (fun a b : EReal => a * b) (hx r k) (iblk3 m c t k j))

/-- A gated row's entry. -/
theorem gg_at (g : Fin 4) (r : Fin 1024) (e : Fin 128) : gg m c t g x (ix2 r e) = ga (args m c) (1024 * (t.val / 4) + r.val) (4 * (t.val % 4) + g.val) e := by
  unfold gg ga
  rw [gr_at, ck_at]
  refine congrArg₂ (fun a b : EReal => a * b) (u_at m c t x hx _ _ _ _ ?_ ?_) (blend_congr (fun s => ?_) ?_ (fun s => ?_) (Fin.ext ?_))
  · show 1024 * (t.val / 4) + (128 * (r.val / 128) + r.val % 128) = _
    omega
  · show 512 * (t.val % 4) + (128 * g.val + e.val) = _
    omega
  · refine Eq.trans ?_ ((iblk5 m c t g ⟨r.val % 128, by omega⟩ s).trans (congrArg (args m c).ws ?_))
    · refine at3 (iblk m c 5 t) _ _ _ _ ?_ ?_ ?_
      · show g.val + 1 * 0 = g.val; omega
      · show 0 + 1 * (r.val % 128) = r.val % 128; omega
      · show 0 + 1 * s.val = s.val; omega
    · exact congrArg (fun z => ix4 0 _ z s) (Fin.ext (show r.val % 128 = (1024 * (t.val / 4) + r.val) % 128 by omega))
  · refine Eq.trans ?_ ((iblk6 m c t g ⟨r.val % 128, by omega⟩).trans (congrArg (args m c).bs ?_))
    · refine at3 (iblk m c 6 t) _ _ _ _ ?_ ?_ ?_
      · show g.val + 1 * 0 = g.val; omega
      · show 0 + 1 * (r.val % 128) = r.val % 128; omega
      · rfl
    · exact congrArg (fun z => ix3 0 _ z) (Fin.ext (show r.val % 128 = (1024 * (t.val / 4) + r.val) % 128 by omega))
  · unfold gn
    rw [gv_at]
    refine gnorm_congr (fun d => v_at m c t x hx _ _ _ _ ?_ ?_) (fun d => ?_) e
    · show 1024 * (t.val / 4) + (128 * (r.val / 128) + s.val) = (1024 * (t.val / 4) + r.val) / 128 * 128 + s.val
      omega
    · show 2048 + (512 * (t.val % 4) + (128 * g.val + d.val)) = 2048 + 128 * (4 * (t.val % 4) + g.val) + d.val
      omega
    · refine Eq.trans (at2 (iblk m c 4 t) 0 ⟨128 * g.val + d.val, by omega⟩ _ rfl ?_) ((iblk4 m c t _).trans (congrArg (fun z => (args m c).vg (ix2 0 (Fin.ofNat 2048 z))) ?_))
      · show 128 * g.val + 1 * d.val = 128 * g.val + d.val; omega
      · show 512 * (t.val % 4) + (128 * g.val + d.val) = 128 * (4 * (t.val % 4) + g.val) + d.val
        omega
  · show r.val % 128 = (1024 * (t.val / 4) + r.val) % 128
    omega

/-- A group's term of the projection. -/
theorem term (g : Fin 4) (r : Fin 1024) (e : Fin 128) (d : Fin 2048) (i : Fin 512) (hi : i.val = 128 * g.val + e.val) (w : EReal) (hw : w = (iblk m c 7 t : S512x2048.Idx → EReal) (ix2 i d)) :
    gg m c t g x (ix2 r e) * w
      = ga (args m c) (1024 * (t.val / 4) + r.val) (4 * (t.val % 4) + g.val) e * (args m c).wo (ix3 0 (Fin.ofNat 2048 (128 * (4 * (t.val % 4) + g.val) + e.val)) d) := by
  rw [gg_at m c t x hx, hw, iblk7]
  exact congrArg (fun z => _ * (args m c).wo (ix3 0 (Fin.ofNat 2048 z) d)) (by omega)

/-- The first two groups' shares. -/
theorem d0_at (r : Fin 1024) (d : Fin 2048) : d0 m c t x (ix2 r d)
    = share (args m c) (1024 * (t.val / 4) + r.val) (4 * (t.val % 4)) d + share (args m c) (1024 * (t.val / 4) + r.val) (4 * (t.val % 4) + 1) d := by
  unfold d0
  rw [dn_at]
  refine congrArg₂ (fun a b : EReal => a + b) (Finset.sum_congr rfl fun e _ => term m c t x hx 0 r e d ⟨e.val, by omega⟩ ?_ _ (at2 (iblk m c 7 t) _ _ _ ?_ ?_))
    (Finset.sum_congr rfl fun e _ => term m c t x hx 1 r e d ⟨128 + e.val, by omega⟩ ?_ _ (at2 (iblk m c 7 t) _ _ _ ?_ ?_))
  · show e.val = 128 * 0 + e.val; omega
  · show 0 + 1 * e.val = e.val; omega
  · show 0 + 1 * d.val = d.val; omega
  · show 128 + e.val = 128 * 1 + e.val; omega
  · show 0 + 1 * (128 + e.val) = 128 + e.val; omega
  · show 0 + 1 * d.val = d.val; omega

/-- The other two groups' shares. -/
theorem d1_at (r : Fin 1024) (d : Fin 2048) : d1 m c t x (ix2 r d)
    = share (args m c) (1024 * (t.val / 4) + r.val) (4 * (t.val % 4) + 2) d + share (args m c) (1024 * (t.val / 4) + r.val) (4 * (t.val % 4) + 3) d := by
  unfold d1
  rw [dn_at]
  refine congrArg₂ (fun a b : EReal => a + b) (Finset.sum_congr rfl fun e _ => term m c t x hx 2 r e d ⟨256 + e.val, by omega⟩ ?_ _ (at2 (iblk m c 7 t) _ _ _ ?_ ?_))
    (Finset.sum_congr rfl fun e _ => term m c t x hx 3 r e d ⟨256 + (128 + e.val), by omega⟩ ?_ _ (at2 (iblk m c 7 t) _ _ _ ?_ ?_))
  · show 256 + e.val = 128 * 2 + e.val; omega
  · show 256 + 1 * e.val = 256 + e.val; omega
  · show 0 + 1 * d.val = d.val; omega
  · show 256 + (128 + e.val) = 128 * 3 + e.val; omega
  · show 256 + 1 * (128 + e.val) = 256 + (128 + e.val); omega
  · show 0 + 1 * d.val = d.val; omega

omit hx

/-- Four more groups. -/
theorem part_four (A : Args) (n p : ℕ) (d : Fin 2048) :
    part A n p d + (share A n p d + share A n (p + 1) d) + (share A n (p + 2) d + share A n (p + 3) d) = part A n (p + 4) d := by
  unfold part
  rw [Finset.sum_range_succ, Finset.sum_range_succ, Finset.sum_range_succ, Finset.sum_range_succ, ← add_assoc, ← add_assoc]

/-- Adding a point's shares to the projection over the groups before. -/
theorem add_at (hx : ∀ (r : Fin 1024) (k : Fin 2048), x (ix2 r k) = xn (args m c) (1024 * (t.val / 4) + r.val) k) (p : FVec Ideal S1024x2048 .f32) (r : Fin 1024) (d : Fin 2048)
    (hp : p (ix2 r d) = part (args m c) (1024 * (t.val / 4) + r.val) (4 * (t.val % 4)) d) :
    ac (ac p (d0 m c t x)) (d1 m c t x) (ix2 r d) = part (args m c) (1024 * (t.val / 4) + r.val) (4 * (t.val % 4) + 4) d := by
  rw [ac_at, ac_at, d0_at m c t x hx, d1_at m c t x hx, hp, part_four]

/-! ## The run along the columns -/

/-- After each point the scratch holds the normed rows, and, up to the last column, the result block the projection over the groups so far. -/
theorem kept : ∀ (n : ℕ) (hn : n < cfg0.N), (∀ (r : Fin 1024) (k : Fin 2048), (outsAt0 m c n hn).2 (ix2 r k) = xn (args m c) (1024 * (n / 4) + r.val) k)
    ∧ (n % 4 < 3 → ∀ (r : Fin 1024) (d : Fin 2048), (outsAt0 m c n hn).1 (ix2 r d) = part (args m c) (1024 * (n / 4) + r.val) (4 * (n % 4) + 4) d) := by
  have first : ∀ t : Fin cfg0.N, t.val % 4 = 0 → (∀ (r : Fin 1024) (k : Fin 2048), (outsAt0 m c t.val t.isLt).2 (ix2 r k) = xn (args m c) (1024 * (t.val / 4) + r.val) k)
      ∧ (t.val % 4 < 3 → ∀ (r : Fin 1024) (d : Fin 2048), (outsAt0 m c t.val t.isLt).1 (ix2 r d) = part (args m c) (1024 * (t.val / 4) + r.val) (4 * (t.val % 4) + 4) d) := fun t h => by
    have hx : ∀ (r : Fin 1024) (k : Fin 2048), rows (iblk m c 0 t) (iblk m c 1 t) (ix2 r k) = xn (args m c) (1024 * (t.val / 4) + r.val) k :=
      fun r k => Cert.Ffn.nm_congr (fun e => iblk0 m c t r e) (fun e => iblk1 m c t e) k
    refine ⟨fun r k => by rw [sA m c t h]; exact hx r k, fun _ r d => ?_⟩
    rw [A9 m c t h, ac_at, d0_at m c t _ hx, d1_at m c t _ hx, ← part_four, h]
    refine congrArg (fun z : EReal => z + _) (Eq.symm ?_)
    show part _ _ 0 d + _ = _
    unfold part
    rw [Finset.sum_range_zero, zero_add]
  intro n
  induction n with
  | zero => exact fun hn => first ⟨0, hn⟩ rfl
  | succ n ih =>
    intro hn
    by_cases h : (n + 1) % 4 = 0
    · exact first ⟨n + 1, hn⟩ h
    · have h' : 1 ≤ (⟨n + 1, hn⟩ : Fin cfg0.N).val % 4 := Nat.one_le_iff_ne_zero.2 h
      obtain ⟨i, j⟩ := ih (Nat.lt_of_succ_lt hn)
      rw [show n / 4 = (n + 1) / 4 by omega] at i j
      refine ⟨fun r k => (congrFun (sB m c ⟨n + 1, hn⟩ h') _).trans (i r k), fun h3 r d => ?_⟩
      refine (congrFun (B9 m c ⟨n + 1, hn⟩ h' (Nat.ne_of_lt h3)) _).trans (add_at m c ⟨n + 1, hn⟩ _ i _ r d ?_)
      refine (j (by omega) r d).trans (congrArg (fun z => part _ _ z d) ?_)
      show 4 * (n % 4) + 4 = 4 * ((n + 1) % 4)
      omega

/-- At a last column's point the result block ends holding the specified rows. -/
theorem last (h3 : t.val % 4 = 3) (r : Fin 1024) (d : Fin 2048) : (outsAt0 m c t.val t.isLt).1 (ix2 r d) = out (args m c) (1024 * (t.val / 4) + r.val) d := by
  obtain ⟨i, j⟩ := kept m c (t.val - 1) (Nat.lt_of_le_of_lt (Nat.sub_le _ _) t.isLt)
  rw [show (t.val - 1) / 4 = t.val / 4 by omega] at i j
  rw [C9 m c t h3]
  refine congrArg₂ (fun a b : EReal => a + b) (iblk0 m c t r d) (Cert.Ffn.nm_congr (fun k => ?_) (fun k => iblk8 m c t k) d)
  refine (add_at m c t _ i _ r k ((j (by omega) r k).trans (congrArg (fun z => part _ _ z k) ?_))).trans (congrArg (fun z => part _ _ z k) ?_)
  · omega
  · omega

/-- The points that write back are the last columns'. -/
theorem flush_last : ∀ t : Fin cfg0.N, (cfg0.win 9).flush t = true → t.val % 4 = 3 :=
  (by decide +kernel : ∀ t : Fin grid0.N, win0_9.flush t = true → t.val % 4 = 3)

/-- What a grid point writes back is the specified result there. -/
theorem flushed_eq (hf : (cfg0.win 9).flush t = true) : (dats m 0 c).flushed 9 t = ((cfg0.win 9).blk t).view.read (Elt Ideal) (res m c) := by
  have a0 : cc0_transform_0 (grid0.coords t) 0 = t.val / 4 := congrFun (ixs t).1 0
  have a1 : cc0_transform_0 (grid0.coords t) 1 = 0 := congrFun (ixs t).1 1
  rw [Value.flushed9]
  funext y
  obtain ⟨r, d, rfl⟩ : ∃ (r : Fin 1024) (d : Fin 2048), y = ix2 r d := ⟨y 0, y 1, eq_ix2 (n0 := 1024) (n1 := 2048) y⟩
  rw [View.read_apply]
  refine (last m c t (flush_last t hf) r d).trans ?_
  have h0 : 1024 * (t.val / 4) + r.val = cc0_transform_0 (grid0.coords t) 0 * 1024 + 1 * r.val := by omega
  have h1 : d.val = cc0_transform_0 (grid0.coords t) 1 * 2048 + 1 * d.val := by omega
  have h2 : cc0_transform_0 (grid0.coords t) 1 * 2048 + 1 * d.val < 2048 := by rw [← h1]; exact d.isLt
  exact (congr (congrArg (out (args m c)) h0) (Fin.ext h1) : out (args m c) _ d = out (args m c) (cc0_transform_0 (grid0.coords t) 0 * 1024 + 1 * r.val) ⟨cc0_transform_0 (grid0.coords t) 1 * 2048 + 1 * d.val, h2⟩)

/-- The grid points' blocks cover the result array, so it ends holding the specified result. -/
theorem final_o : (dats m 0 c).arrAt 9 cfg0.N = res m c :=
  (dats m 0 c).arrAt_eq_of_cover 9 _ (flushed_eq m c) fun i => (Value.covered_iff9 i).2 ⟨Nat.zero_le _, (i 0).isLt, Nat.zero_le _, (i 1).isLt⟩

/-- The run, read: the result array ends holding the specified result, the arguments unchanged. -/
theorem vrun : θ_run defs (onTc (τ := τ) (main (F := Ideal))) ⟨m, fun _ => 0, ρ⟩ (fun r => ∀ c : Dev nD,
      r.2.mem ((c.tc : Thread nD τ).loc main_v16) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final_o m c), (h c).2⟩) (Value.run_blocks m ρ)

end Cert.MixKernelIdeal.Own

end
-- ==== Proof.Mix.Ref.lean ====
/- The mixing layer's reference with exact numbers, entry by entry. -/
module

public import proofs.«01_k».proof.Proof.Gen.MixReferenceIdeal.Read
public import proofs.«01_k».proof.Proof.Mix.Spec
public import proofs.«01_k».proof.Proof.Proj.Ref

@[expose] public section

set_option maxRecDepth 16384

noncomputable section

namespace Cert.MixReferenceIdeal.Own

open Cert.MixReferenceIdeal Cert.MixReferenceIdeal.Gen Cert.MixReferenceIdeal.Read
open Idealize.ShloMosaic Idealize.ShloMosaic.TcCoe
open Cert.Mix
open Cert.FfnReferenceIdeal.Own (idx2 idx3)
open Cert.ProjReferenceIdeal.Own (row_at)

variable (A : Args) (b : Fin 4) (s : Fin 4096)

/-- Four coordinates known, an index is known. -/
theorem idx4 {n0 n1 n2 n3 : ℕ} (i : (⟨4, ![n0, n1, n2, n3]⟩ : Shape).Idx) (a0 : Fin n0) (a1 : Fin n1) (a2 : Fin n2) (a3 : Fin n3)
    (h0 : (i 0).val = a0.val) (h1 : (i 1).val = a1.val) (h2 : (i 2).val = a2.val) (h3 : (i 3).val = a3.val) : i = ix4 a0 a1 a2 a3 :=
  funext fun a => Fin.ext (by match a with
    | ⟨0, _⟩ => exact h0
    | ⟨1, _⟩ => exact h1
    | ⟨2, _⟩ => exact h2
    | ⟨3, _⟩ => exact h3)

/-! ## The activated input projection -/

/-- A row's sum of squares. -/
theorem v3_at : val_main_v3 (F := Ideal) A.h (ix2 b s) = ∑ k, Cert.Proj.row A.h (4096 * b.val + s.val) k * Cert.Proj.row A.h (4096 * b.val + s.val) k := by
  rw [val_main_v3_apply, val_main_cst_apply]
  show Ideal.ofBits .f32 0x00000000#32 + _ = _
  rw [Cert.Consts.ofBits_0, EReal.coe_zero, zero_add]
  refine Finset.sum_congr rfl fun k _ => ?_
  rw [val_main_v2_apply, idx3 (idx_main_v3 (ix2 b s) k) b s k rfl rfl rfl, row_at]
  rfl

/-- The normed rows. -/
theorem v14_at (k : Fin 2048) : val_main_v14 (F := Ideal) A.h A.g (ix3 b s k) = xn A (4096 * b.val + s.val) k := by
  rw [val_main_v14_apply, val_main_v13_apply, val_main_v12_apply, val_main_v1_apply, val_main_v0_apply, val_main_v11_apply, val_main_v10_apply, val_main_v9_apply,
    val_main_v8_apply, val_main_v6_apply, val_main_v7_apply, val_main_v5_apply, val_main_v4_apply, idx2 (idx_main_v4 (idx_main_v10 (ix3 b s k))) b s rfl rfl, v3_at]
  unfold xn Cert.Ffn.nm
  rw [row_at b s A.h k]
  exact congrArg (fun z => @HMul.hMul EReal EReal EReal _ _ z) (congrArg A.g (idx2 _ _ _ rfl (Nat.mod_eq_of_lt k.isLt)))

/-- The input projection. -/
theorem v16_at (j : Fin 4096) : val_main_v16 (F := Ideal) A.h A.g A.wi (ix3 b s j) = ∑ k, xn A (4096 * b.val + s.val) k * A.wi (ix3 0 k (Fin.ofNat 4096 j.val)) := by
  rw [val_main_v16_apply]
  refine Finset.sum_congr rfl fun k _ => ?_
  have hk := k.isLt
  have hj := j.isLt
  rw [idx3 (lidx_main_v16 (ix3 b s j) k) b s k rfl rfl rfl, v14_at, val_main_v15_apply]
  refine congrArg (fun z => @HMul.hMul EReal EReal EReal _ _ z) (congrArg A.wi (idx3 _ _ _ _ rfl ?_ ?_))
  · show (k.val * 4096 + j.val) / 4096 % 2048 = k.val; omega
  · show (k.val * 4096 + j.val) % 4096 = j.val % 4096; omega

/-- The activation. -/
theorem v29_at (j : Fin 4096) : val_main_v29 (F := Ideal) A.h A.g A.wi (ix3 b s j) = up A (4096 * b.val + s.val) j.val := by
  rw [val_main_v29_apply, val_main_v28_apply, val_main_v27_apply, val_main_v26_apply, val_main_v25_apply, val_main_v24_apply, val_main_v23_apply, val_main_v22_apply,
    val_main_v21_apply, val_main_v20_apply, val_main_v19_apply, val_main_v18_apply, val_main_v17_apply, v16_at]
  unfold up gelu
  generalize (∑ k, xn A (4096 * b.val + s.val) k * A.wi (ix3 0 k (Fin.ofNat 4096 j.val))) = x
  rw [mul_comm x (x * x)]
  rfl

/-- A gate. -/
theorem v30_at (j : Fin 2048) : val_main_v30 (F := Ideal) A.h A.g A.wi (ix3 b s j) = up A (4096 * b.val + s.val) j.val := by
  rw [val_main_v30_apply, idx3 (idx_main_v30 (ix3 b s j)) b s ⟨j.val, by omega⟩ rfl rfl rfl, v29_at]

/-! ## The groups' values -/

/-- A value, by group and column within it. -/
theorem v32_at (q : Fin 16) (e : Fin 128) : val_main_v32 (F := Ideal) A.h A.g A.wi (ix4 b s q e) = up A (4096 * b.val + s.val) (2048 + 128 * q.val + e.val) := by
  have hb := b.isLt
  have hs := s.isLt
  have hq := q.isLt
  have he := e.isLt
  rw [val_main_v32_apply, val_main_v31_apply, idx3 (idx_main_v31 (idx_main_v32 (ix4 b s q e))) b s ⟨2048 + 128 * q.val + e.val, by omega⟩ ?_ ?_ ?_, v29_at]
  · show ((((b.val) * 4096 + s.val) * 16 + q.val) * 128 + e.val) / 8388608 = b.val; omega
  · show ((((b.val) * 4096 + s.val) * 16 + q.val) * 128 + e.val) / 2048 % 4096 = s.val; omega
  · show 2048 + ((((b.val) * 4096 + s.val) * 16 + q.val) * 128 + e.val) % 2048 = 2048 + 128 * q.val + e.val; omega

/-- A group's sum of squares. -/
theorem v36_at (q : Fin 16) : val_main_v36 (F := Ideal) A.h A.g A.wi (ix3 b s q)
    = ∑ d : Fin 128, up A (4096 * b.val + s.val) (2048 + 128 * q.val + d.val) * up A (4096 * b.val + s.val) (2048 + 128 * q.val + d.val) := by
  rw [val_main_v36_apply, val_main_cst_6_apply]
  show Ideal.ofBits .f32 0x00000000#32 + _ = _
  rw [Cert.Consts.ofBits_0, EReal.coe_zero, zero_add]
  refine Finset.sum_congr rfl fun k _ => ?_
  rw [val_main_v35_apply, idx4 (idx_main_v36 (ix3 b s q) k) b s q k rfl rfl rfl rfl, v32_at]
  rfl

/-- A group's normed values. -/
theorem v47_at (q : Fin 16) (e : Fin 128) : val_main_v47 (F := Ideal) A.h A.g A.wi A.vg (ix4 b s q e) = gn A (4096 * b.val + s.val) q.val e := by
  have hq := q.isLt
  have he := e.isLt
  rw [val_main_v47_apply, val_main_v46_apply, val_main_v45_apply, val_main_v34_apply, val_main_v33_apply, val_main_v44_apply, v32_at, val_main_v43_apply, val_main_v42_apply,
    val_main_v41_apply, val_main_v40_apply, val_main_v39_apply, val_main_v38_apply, val_main_v37_apply, idx3 (idx_main_v37 (idx_main_v43 (ix4 b s q e))) b s q rfl rfl rfl, v36_at]
  unfold gn gnorm
  refine congrArg (fun z => @HMul.hMul EReal EReal EReal _ _ z) (congrArg A.vg (idx2 _ _ _ rfl ?_))
  show (q.val * 128 + e.val) % 2048 = (128 * q.val + e.val) % 2048
  omega

/-- The numbers of an entry whose position is split into chunk and row. -/
theorem nums (b n r q e : ℕ) (hb : b < 4) (hn : n < 32) (hr : r < 128) (hq : q < 16) (he : e < 128) :
    ((((b * 32 + n) * 128 + r) * 16 + q) * 128 + e) / 8388608 = b ∧ ((((b * 32 + n) * 128 + r) * 16 + q) * 128 + e) / 2048 % 4096 = 128 * n + r
      ∧ ((((b * 32 + n) * 128 + r) * 16 + q) * 128 + e) / 128 % 16 = q ∧ ((((b * 32 + n) * 128 + r) * 16 + q) * 128 + e) % 128 = e := by
  omega

/-- The same values, the position split. -/
theorem v48_at (i : S4x32x128x16x128.Idx) (n q : ℕ) (e : Fin 128) (hn : 4096 * (i 0).val + (128 * (i 1).val + (i 2).val) = n) (hq : (i 3).val = q) (he : (i 4).val = e.val) :
    val_main_v48 (F := Ideal) A.h A.g A.wi A.vg i = gn A n q e := by
  have h0 : (i 0).val < 4 := (i 0).isLt
  have h1 : (i 1).val < 32 := (i 1).isLt
  have h2 : (i 2).val < 128 := (i 2).isLt
  have h3 : (i 3).val < 16 := (i 3).isLt
  have h4 : (i 4).val < 128 := (i 4).isLt
  obtain ⟨e0, e1, e2, e3⟩ := nums _ _ _ _ _ h0 h1 h2 h3 h4
  rw [val_main_v48_apply, idx4 (idx_main_v48 i) ⟨(i 0).val, h0⟩ ⟨128 * (i 1).val + (i 2).val, by omega⟩ ⟨(i 3).val, h3⟩ e e0 e1 e2 (e3.trans he), v47_at]
  show gn A (4096 * (i 0).val + (128 * (i 1).val + (i 2).val)) (i 3).val e = _
  rw [hn, hq]

/-! ## The mixing -/

/-- The lower triangle's bits. -/
theorem causal : ∀ r s : Fin 128, IntOp.cmpi .sge (IntOp.addi (BitVec.ofNat 32 r.val) 0#32) (BitVec.ofNat 32 s.val) = if s.val ≤ r.val then 1#1 else 0#1 := by decide +kernel

/-- The lower triangle's entries: one, or zero above the diagonal. -/
theorem v51_at (r k : Fin 128) : val_main_v51 (F := Ideal) (ix2 r k) = if k.val ≤ r.val then (1 : EReal) else 0 := by
  rw [val_main_v51_apply, val_main_call0_v4_apply, val_main_call0_v2_apply, val_main_call0_v0_apply, val_main_call0_v1_apply, val_main_call0_c_apply,
    val_main_call0_v3_apply, val_main_v50_apply, val_main_call0_v5_apply]
  show Scalar.select (IntOp.cmpi .sge (IntOp.addi (BitVec.ofNat 32 r.val) 0#32) (BitVec.ofNat 32 k.val)) (Ideal.ofBits .f32 0x3F800000#32) (Ideal.ofBits .f32 0x00000000#32) = _
  rw [causal, Cert.Consts.ofBits_1, Cert.Consts.ofBits_0]
  by_cases h : k.val ≤ r.val
  · rw [if_pos h, if_pos h]
    rfl
  · rw [if_neg h, if_neg h]
    rfl

/-- A causal weight. -/
theorem v54_at (q : Fin 16) (r k : Fin 128) : val_main_v54 (F := Ideal) A.ws (ix3 q r k) = if k.val ≤ r.val then A.ws (ix4 0 q r k) else 0 := by
  have hq := q.isLt
  have hr := r.isLt
  have hk := k.isLt
  rw [val_main_v54_apply, val_main_v53_apply, val_main_v52_apply, idx2 (idx_main_v52 (idx_main_v53 (ix3 q r k))) r k rfl rfl, v51_at, val_main_v49_apply,
    idx4 (idx_main_v49 (ix3 q r k)) 0 q r k rfl
      (show ((q.val * 128 + r.val) * 128 + k.val) / 16384 % 16 = q.val by omega) (show ((q.val * 128 + r.val) * 128 + k.val) / 128 % 128 = r.val by omega)
      (show ((q.val * 128 + r.val) * 128 + k.val) % 128 = k.val by omega)]
  show (A.ws (ix4 0 q r k) : EReal) * (if k.val ≤ r.val then (1 : EReal) else 0) = _
  by_cases h : k.val ≤ r.val
  · rw [if_pos h, if_pos h, mul_one]
  · rw [if_neg h, if_neg h, mul_zero]

/-- A mixed value. -/
theorem v61_at (i : S4x32x128x16x128.Idx) (n : ℕ) (q : Fin 16) (r e : Fin 128) (hn : 4096 * (i 0).val + 128 * (i 1).val = n) (hr : (i 2).val = r.val) (hq : (i 3).val = q.val)
    (he : (i 4).val = e.val) :
    val_main_v61 (F := Ideal) A.h A.g A.wi A.vg A.ws A.bs i = blend (fun k => A.ws (ix4 0 q r k)) (A.bs (ix3 0 q r)) (fun k => gn A (n + k.val) q.val e) r := by
  have hq' := q.isLt
  have hr' := r.isLt
  rw [val_main_v61_apply, val_main_v56_apply, val_main_v55_apply, val_main_v60_apply, val_main_v59_apply, val_main_v58_apply, val_main_v57_apply]
  unfold blend
  refine congrArg₂ (fun a b : EReal => a + b) (Finset.sum_congr rfl fun k _ => ?_) (congrArg A.bs (idx3 _ _ _ _ rfl ?_ ?_))
  · rw [v48_at A (lidx_main_v55 (idx_main_v56 i) k) (n + k.val) q.val e (show 4096 * (i 0).val + (128 * (i 1).val + k.val) = n + k.val by omega) hq he,
      idx3 (ridx_main_v55 (idx_main_v56 i) k) q r k hq hr rfl, v54_at, mul_comm]
  · show ((i 3).val * 128 + (i 2).val) / 128 % 16 = q.val; omega
  · show ((i 3).val * 128 + (i 2).val) % 128 = r.val; omega

/-- The numbers of an entry whose row is split into batch, chunk and row, and whose column into group and column. -/
theorem nums' (b s j : ℕ) (hb : b < 4) (hs : s < 4096) (hj : j < 2048) :
    ((b * 4096 + s) * 2048 + j) / 8388608 = b ∧ ((b * 4096 + s) * 2048 + j) / 262144 % 32 = s / 128 ∧ ((b * 4096 + s) * 2048 + j) / 2048 % 128 = s % 128
      ∧ ((b * 4096 + s) * 2048 + j) / 128 % 16 = j / 128 ∧ ((b * 4096 + s) * 2048 + j) % 128 = j % 128 := by
  omega

/-- A gate times the mixed values. -/
theorem v63_at (j : Fin 2048) : val_main_v63 (F := Ideal) A.h A.g A.wi A.vg A.ws A.bs (ix3 b s j)
    = ga A (4096 * b.val + s.val) (j.val / 128) ⟨j.val % 128, Nat.mod_lt _ (by norm_num)⟩ := by
  have hb := b.isLt
  have hs := s.isLt
  have hj := j.isLt
  obtain ⟨e0, e1, e2, e3, e4⟩ := nums' _ _ _ hb hs hj
  rw [val_main_v63_apply, v30_at, val_main_v62_apply,
    v61_at A (idx_main_v62 (ix3 b s j)) ((4096 * b.val + s.val) / 128 * 128) (Fin.ofNat 16 (j.val / 128)) (Fin.ofNat 128 (4096 * b.val + s.val)) ⟨j.val % 128, Nat.mod_lt _ (by norm_num)⟩
      ?_ ?_ ?_ e4]
  · unfold ga
    refine congrArg₂ (fun a b : EReal => a * b) (congrArg (up A _) ?_) ?_
    · show j.val = 128 * (j.val / 128) + j.val % 128; omega
    · show blend _ _ (fun k => gn A _ (j.val / 128 % 16) _) _ = _
      rw [show j.val / 128 % 16 = j.val / 128 by omega]
  · refine Eq.trans (congrArg₂ (fun a b : ℕ => 4096 * a + 128 * b) e0 e1) ?_
    show 4096 * b.val + 128 * (s.val / 128) = (4096 * b.val + s.val) / 128 * 128
    omega
  · refine e2.trans ?_
    show s.val % 128 = (4096 * b.val + s.val) % 128
    omega
  · refine e3.trans ?_
    show j.val / 128 = j.val / 128 % 16
    omega

/-! ## The output projection -/

/-- A sum over the columns, group by group. -/
theorem by_group (f : ℕ → Fin 128 → EReal) : ∑ k : Fin 2048, f (k.val / 128) ⟨k.val % 128, Nat.mod_lt _ (by norm_num)⟩ = ∑ q ∈ Finset.range 16, ∑ e : Fin 128, f q e := by
  rw [Finset.sum_range, ← Fintype.sum_prod_type']
  refine Fintype.sum_equiv (finProdFinEquiv (m := 16) (n := 128)).symm _ _ fun k => ?_
  rfl

/-- The projection. -/
theorem v65_at (d : Fin 2048) : val_main_v65 (F := Ideal) A.h A.g A.wi A.vg A.ws A.bs A.wo (ix3 b s d) = part A (4096 * b.val + s.val) 16 d := by
  rw [val_main_v65_apply]
  unfold part share
  refine Eq.trans (Finset.sum_congr rfl fun k _ => ?_) (by_group fun q e => ga A (4096 * b.val + s.val) q e * A.wo (ix3 0 (Fin.ofNat 2048 (128 * q + e.val)) d))
  have hk := k.isLt
  have hd := d.isLt
  rw [idx3 (lidx_main_v65 (ix3 b s d) k) b s k rfl rfl rfl, v63_at, val_main_v64_apply]
  refine congrArg (fun z => @HMul.hMul EReal EReal EReal _ _ z) (congrArg A.wo (idx3 _ _ _ _ rfl ?_ ?_))
  · show (k.val * 2048 + d.val) / 2048 % 2048 = (128 * (k.val / 128) + k.val % 128) % 2048; omega
  · show (k.val * 2048 + d.val) % 2048 = d.val; omega

/-- The projection's sum of squares. -/
theorem v69_at : val_main_v69 (F := Ideal) A.h A.g A.wi A.vg A.ws A.bs A.wo (ix2 b s) = ∑ k, part A (4096 * b.val + s.val) 16 k * part A (4096 * b.val + s.val) 16 k := by
  rw [val_main_v69_apply, val_main_cst_10_apply]
  show Ideal.ofBits .f32 0x00000000#32 + _ = _
  rw [Cert.Consts.ofBits_0, EReal.coe_zero, zero_add]
  refine Finset.sum_congr rfl fun k _ => ?_
  rw [val_main_v68_apply, idx3 (idx_main_v69 (ix2 b s) k) b s k rfl rfl rfl, v65_at]
  rfl

/-- The gain after. -/
theorem v79_at (k : Fin 2048) : val_main_v79 (F := Ideal) A.g' (ix3 b s k) = A.g' (ix2 0 k) := by
  rw [val_main_v79_apply, val_main_v78_apply, val_main_v67_apply, val_main_v66_apply]
  exact congrArg A.g' (idx2 _ _ _ rfl (Nat.mod_eq_of_lt k.isLt))

/-- The residual's sum. -/
theorem v81_at (d : Fin 2048) : val_main_v81 (F := Ideal) A.h A.g A.wi A.vg A.ws A.bs A.wo A.g' (ix3 b s d) = out A (4096 * b.val + s.val) d := by
  rw [val_main_v81_apply, val_main_v80_apply, v79_at, val_main_v77_apply, v65_at, val_main_v76_apply, val_main_v75_apply, val_main_v74_apply, val_main_v72_apply,
    val_main_v73_apply, val_main_v71_apply, val_main_v70_apply, idx2 (idx_main_v70 (idx_main_v76 (ix3 b s d))) b s rfl rfl, v69_at]
  unfold out Cert.Ffn.nm
  rw [row_at b s A.h d]
  rfl

/-- The reference's result is the specified one. -/
theorem ref_eq : val_main_v82 (F := Ideal) A.h A.g A.wi A.vg A.ws A.bs A.wo A.g' = tgt A := by
  funext y
  have h0 : (y 0).val < 16384 := (y 0).isLt
  have h1 : (y 1).val < 2048 := (y 1).isLt
  rw [val_main_v82_apply, idx3 (idx_main_v82 y) ⟨(y 0).val / 4096, by omega⟩ ⟨(y 0).val % 4096, by omega⟩ ⟨(y 1).val, h1⟩
    (show ((y 0).val * 2048 + (y 1).val) / 8388608 = (y 0).val / 4096 by omega)
    (show ((y 0).val * 2048 + (y 1).val) / 2048 % 4096 = (y 0).val % 4096 by omega)
    (show ((y 0).val * 2048 + (y 1).val) % 2048 = (y 1).val by omega), v81_at]
  unfold tgt
  show out A (4096 * ((y 0).val / 4096) + (y 0).val % 4096) _ = _
  rw [show 4096 * ((y 0).val / 4096) + (y 0).val % 4096 = (y 0).val by omega]

end Cert.MixReferenceIdeal.Own

end
-- ==== Proof.lean ====
/- The claim: for the attention call, the feed-forward call and the output projection's call, frames of the kernel, of its idealization and of the
   reference, what the idealization replaces, and the equality of the idealization's result and the reference's. -/
module

public import proofs.«01_k».proof.Defs
public import proofs.«01_k».proof.Proof.Own.Frame
public import proofs.«01_k».proof.Proof.OwnI.Frame
public import proofs.«01_k».proof.Proof.OwnI.Val
public import proofs.«01_k».proof.Proof.Ref
public import proofs.«01_k».proof.Proof.Ffn.Frame
public import proofs.«01_k».proof.Proof.Ffn.Same
public import proofs.«01_k».proof.Proof.Ffn.Val
public import proofs.«01_k».proof.Proof.Ffn.Ref
public import proofs.«01_k».proof.Proof.Proj.Same
public import proofs.«01_k».proof.Proof.Proj.Val
public import proofs.«01_k».proof.Proof.Proj.Ref
public import proofs.«01_k».proof.Proof.Qkv.Same
public import proofs.«01_k».proof.Proof.Qkv.Val
public import proofs.«01_k».proof.Proof.Qkv.Ref
public import proofs.«01_k».proof.Proof.Mix.Same
public import proofs.«01_k».proof.Proof.Mix.Val
public import proofs.«01_k».proof.Proof.Mix.Ref
public import proofs.«01_k».proof.Proof.Gen.Pre_finite_queries_and_keys
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnKernel
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.ProjKernel
public import proofs.«01_k».proof.Proof.Gen.ProjKernelIdeal
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.QkvKernel
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.MixKernel
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves its arguments unchanged and every counter at zero: it names no counter. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The named constants read the printed ones at the machine's formats. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "log2_of_zero" .f32 0xC3200000#32 ⊥ rfl⟩

/-- What the condition says of the queries and keys: every entry is a real number. -/
theorem pre_real (Q K W : FVec Ideal Cert.Pre_finite_queries_and_keys.S4x4096x16x128 .f32)
    (h : letI := Cert.Pre_finite_queries_and_keys.Gen.facts; Cert.Pre_finite_queries_and_keys.fn (F := Ideal) Q K W = fun _ => 1#1) :
    Cert.KernelIdeal.Own.Fin' Q ∧ Cert.KernelIdeal.Own.Fin' K := by
  have ab : ∀ x : EReal, Ideal.cmp .olt (max x (-x)) (Ideal.ofBits .f32 0x7F800000#32) = 1#1 → x ≠ ⊤ ∧ x ≠ ⊥ := by
    intro x hx
    rw [Cert.Consts.ofBits_inf] at hx
    have hx' : BitVec.ofBool (decide (max x (-x) < ⊤)) = 1#1 := hx
    constructor
    · rintro rfl; simp at hx'
    · rintro rfl; simp at hx'
  have both : ∀ a b : BitVec 1, a &&& b = 1#1 → a = 1#1 ∧ b = 1#1 := by decide
  have key := fun i => both _ _ (congrFun h i)
  exact ⟨fun i => ab _ (key i).1, fun i => ab _ (key i).2⟩

/-- The idealized kernel's result is the reference's, for finite queries and keys. -/
theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := Cert.Pre_finite_queries_and_keys.Gen.facts) := by
  intro m g m' g' hpre hagree
  have hQ : ∀ c, Cert.KernelIdeal.Own.Fin' (Cert.KernelIdeal.Own.aQ m c) := fun c => (pre_real _ _ _ (hpre c)).1
  have hK : ∀ c, Cert.KernelIdeal.Own.Fin' (Cert.KernelIdeal.Own.aK m c) := fun c => (pre_real _ _ _ (hpre c)).2
  refine ⟨fun c => Cert.KernelIdeal.Own.res m c, Cert.KernelIdeal.Own.vrun m g hQ hK, ?_⟩
  refine (θ_run Cert.ReferenceIdeal.defs _ _).mono (fun r h c => ?_) (Cert.ReferenceIdeal.Value.run (F := Ideal) m' g')
  refine ⟨(h c).1.trans ?_, (h c).2⟩
  rw [Cert.ReferenceIdeal.Read.val_main_v25_eq, (hagree c).1, (hagree c).2.1, (hagree c).2.2]
  exact Cert.ReferenceIdeal.Own.ref_eq _ _ _ (hQ c) (hK c)

/-! ## The feed-forward call -/

/-- The kernel's run leaves its arguments unchanged and every counter at zero: its text is the idealization's, at the
    machine's formats. -/
theorem frame_FfnKernel : Cert.quiescent_FfnKernel (hFfnKernel := Cert.FfnKernel.Gen.facts) := by
  intro m g _
  rw [Cert.FfnKernel.Own.same_defs, Cert.FfnKernel.Own.same_main]
  exact (θ_run Cert.FfnKernelIdeal.defs _ _).mono (fun _ h => h) (Cert.FfnKernelIdeal.Own.frame (F := Bits) m g)

/-- The same of the idealization. -/
theorem frame_FfnKernelIdeal : Cert.quiescent_FfnKernelIdeal (hFfnKernelIdeal := Cert.FfnKernelIdeal.Gen.facts) := fun m g _ =>
  Cert.FfnKernelIdeal.Own.frame (F := Ideal) m g

/-- The same of the reference: it names no counter. -/
theorem frame_FfnReferenceIdeal : Cert.quiescent_FfnReferenceIdeal (hFfnReferenceIdeal := Cert.FfnReferenceIdeal.Gen.facts) := fun m g _ =>
  (θ_run _ _ _).mono (fun r h => ⟨fun c => (h c).2, sem_eq_zero_of_no_sems (by decide) r.2⟩) (Cert.FfnReferenceIdeal.Value.run m g)

/-- The idealized kernel's result is the reference's. -/
theorem algebraic_Ffn : Cert.algebraic_FfnKernelIdeal_FfnReferenceIdeal (hFfnKernelIdeal := Cert.FfnKernelIdeal.Gen.facts)
    (hFfnReferenceIdeal := Cert.FfnReferenceIdeal.Gen.facts) := by
  intro m g m' g' _ hagree
  refine ⟨fun c => Cert.FfnKernelIdeal.Own.res m c, Cert.FfnKernelIdeal.Own.vrun m g, ?_⟩
  refine (θ_run Cert.FfnReferenceIdeal.defs _ _).mono (fun r h c => ?_) (Cert.FfnReferenceIdeal.Value.run (F := Ideal) m' g')
  refine ⟨(h c).1.trans ?_, (h c).2⟩
  obtain ⟨h0, h1, h2, h3, h4, h5, h6⟩ := hagree c
  rw [Cert.FfnReferenceIdeal.Read.val_main_v75_eq, h0, h1, h2, h3, h4, h5, h6]
  exact Cert.FfnReferenceIdeal.Own.ref_eq (Cert.FfnKernelIdeal.Own.args m c)

/-! ## The output projection's call -/

/-- The kernel's run leaves its arguments unchanged and every counter at zero: its text is the idealization's, at the
    machine's formats. -/
theorem frame_ProjKernel : Cert.quiescent_ProjKernel (hProjKernel := Cert.ProjKernel.Gen.facts) := by
  intro m g _
  rw [Cert.ProjKernel.Own.same_defs, Cert.ProjKernel.Own.same_main]
  exact (θ_run Cert.ProjKernelIdeal.defs _ _).mono (fun _ h => h) (Cert.ProjKernelIdeal.Gen.frame (F := Bits) m g)

/-- The same of the idealization. -/
theorem frame_ProjKernelIdeal : Cert.quiescent_ProjKernelIdeal (hProjKernelIdeal := Cert.ProjKernelIdeal.Gen.facts) := fun m g _ =>
  Cert.ProjKernelIdeal.Gen.frame (F := Ideal) m g

/-- The same of the reference: it names no counter. -/
theorem frame_ProjReferenceIdeal : Cert.quiescent_ProjReferenceIdeal (hProjReferenceIdeal := Cert.ProjReferenceIdeal.Gen.facts) := fun m g _ =>
  (θ_run _ _ _).mono (fun r h => ⟨fun c => (h c).2, sem_eq_zero_of_no_sems (by decide) r.2⟩) (Cert.ProjReferenceIdeal.Value.run m g)

/-- The idealized kernel's result is the reference's. -/
theorem algebraic_Proj : Cert.algebraic_ProjKernelIdeal_ProjReferenceIdeal (hProjKernelIdeal := Cert.ProjKernelIdeal.Gen.facts)
    (hProjReferenceIdeal := Cert.ProjReferenceIdeal.Gen.facts) := by
  intro m g m' g' _ hagree
  refine ⟨fun c => Cert.ProjKernelIdeal.Own.res m c, Cert.ProjKernelIdeal.Own.vrun m g, ?_⟩
  refine (θ_run Cert.ProjReferenceIdeal.defs _ _).mono (fun r h c => ?_) (Cert.ProjReferenceIdeal.Value.run (F := Ideal) m' g')
  refine ⟨(h c).1.trans ?_, (h c).2⟩
  obtain ⟨h0, h1, h2, h3⟩ := hagree c
  rw [Cert.ProjReferenceIdeal.Read.val_main_v18_eq, h0, h1, h2, h3]
  exact Cert.ProjReferenceIdeal.Own.ref_eq (Cert.ProjKernelIdeal.Own.args m c)

/-! ## The projections' call -/

/-- The kernel's run leaves its arguments unchanged and every counter at zero: its text is the idealization's, at the
    machine's formats. -/
theorem frame_QkvKernel : Cert.quiescent_QkvKernel (hQkvKernel := Cert.QkvKernel.Gen.facts) := by
  intro m g _
  rw [Cert.QkvKernel.Own.same_defs, Cert.QkvKernel.Own.same_main]
  exact (θ_run Cert.QkvKernelIdeal.defs _ _).mono (fun _ h => h) (Cert.QkvKernelIdeal.Gen.frame (F := Bits) m g)

/-- The same of the idealization. -/
theorem frame_QkvKernelIdeal : Cert.quiescent_QkvKernelIdeal (hQkvKernelIdeal := Cert.QkvKernelIdeal.Gen.facts) := fun m g _ =>
  Cert.QkvKernelIdeal.Gen.frame (F := Ideal) m g

/-- The same of the reference: it names no counter. -/
theorem frame_QkvReferenceIdeal : Cert.quiescent_QkvReferenceIdeal (hQkvReferenceIdeal := Cert.QkvReferenceIdeal.Gen.facts) := fun m g _ =>
  (θ_run _ _ _).mono (fun r h => ⟨fun c => (h c).2.2.2, sem_eq_zero_of_no_sems (by decide) r.2⟩) (Cert.QkvReferenceIdeal.Value.run m g)

/-- The idealized kernel's results are the reference's. -/
theorem algebraic_Qkv : Cert.algebraic_QkvKernelIdeal_QkvReferenceIdeal (hQkvKernelIdeal := Cert.QkvKernelIdeal.Gen.facts)
    (hQkvReferenceIdeal := Cert.QkvReferenceIdeal.Gen.facts) := by
  intro m g m' g' _ hagree
  refine ⟨fun c => Cert.QkvKernelIdeal.Own.resq m c, fun c => Cert.QkvKernelIdeal.Own.resk m c, fun c => Cert.QkvKernelIdeal.Own.resv m c,
    Cert.QkvKernelIdeal.Own.vrun m g, ?_⟩
  refine (θ_run Cert.QkvReferenceIdeal.defs _ _).mono (fun r h c => ?_) (Cert.QkvReferenceIdeal.Value.run (F := Ideal) m' g')
  obtain ⟨h0, h1, h2, h3, h4, h5⟩ := hagree c
  refine ⟨(h c).1.trans ?_, (h c).2.1.trans ?_, (h c).2.2.1.trans ?_, (h c).2.2.2⟩
  · rw [Cert.QkvReferenceIdeal.Read.val_main_v43_eq, h0, h1, h3]
    exact Cert.QkvReferenceIdeal.Own.ref_q (Cert.QkvKernelIdeal.Own.args m c)
  · rw [Cert.QkvReferenceIdeal.Read.val_main_v44_eq, h0, h2, h4]
    exact Cert.QkvReferenceIdeal.Own.ref_k (Cert.QkvKernelIdeal.Own.args m c)
  · rw [Cert.QkvReferenceIdeal.Read.val_main_v45_eq, h0, h2, h5]
    exact Cert.QkvReferenceIdeal.Own.ref_v (Cert.QkvKernelIdeal.Own.args m c)

/-- The mixing layer's kernel at the machine's formats: its arguments stay unchanged and every counter ends at zero. -/
theorem frame_MixKernel : Cert.quiescent_MixKernel (hMixKernel := Cert.MixKernel.Gen.facts) := by
  intro m g _
  rw [Cert.MixKernel.Own.same_defs, Cert.MixKernel.Own.same_main]
  exact (θ_run Cert.MixKernelIdeal.defs _ _).mono (fun _ h => h) (Cert.MixKernelIdeal.Gen.frame (F := Bits) m g)

/-- The same of the idealization. -/
theorem frame_MixKernelIdeal : Cert.quiescent_MixKernelIdeal (hMixKernelIdeal := Cert.MixKernelIdeal.Gen.facts) := fun m g _ =>
  Cert.MixKernelIdeal.Gen.frame (F := Ideal) m g

/-- The same of the reference: it names no counter. -/
theorem frame_MixReferenceIdeal : Cert.quiescent_MixReferenceIdeal (hMixReferenceIdeal := Cert.MixReferenceIdeal.Gen.facts) := fun m g _ =>
  (θ_run _ _ _).mono (fun r h => ⟨fun c => (h c).2, sem_eq_zero_of_no_sems (by decide) r.2⟩) (Cert.MixReferenceIdeal.Value.run m g)

/-- The idealized kernel's result is the reference's. -/
theorem algebraic_Mix : Cert.algebraic_MixKernelIdeal_MixReferenceIdeal (hMixKernelIdeal := Cert.MixKernelIdeal.Gen.facts)
    (hMixReferenceIdeal := Cert.MixReferenceIdeal.Gen.facts) := by
  intro m g m' g' _ hagree
  refine ⟨fun c => Cert.MixKernelIdeal.Own.res m c, Cert.MixKernelIdeal.Own.vrun m g, ?_⟩
  refine (θ_run Cert.MixReferenceIdeal.defs _ _).mono (fun r h c => ?_) (Cert.MixReferenceIdeal.Value.run (F := Ideal) m' g')
  obtain ⟨h0, h1, h2, h3, h4, h5, h6, h7⟩ := hagree c
  refine ⟨(h c).1.trans ?_, (h c).2⟩
  rw [Cert.MixReferenceIdeal.Read.val_main_v82_eq, h0, h1, h2, h3, h4, h5, h6, h7]
  exact Cert.MixReferenceIdeal.Own.ref_eq (Cert.MixKernelIdeal.Own.args m c)

/-- All the claims together. -/
theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.ProjKernel.Gen.facts, Cert.ProjKernelIdeal.Gen.facts, Cert.ProjReferenceIdeal.Gen.facts,
  Cert.QkvKernel.Gen.facts, Cert.QkvKernelIdeal.Gen.facts, Cert.QkvReferenceIdeal.Gen.facts,
  Cert.MixKernel.Gen.facts, Cert.MixKernelIdeal.Gen.facts, Cert.MixReferenceIdeal.Gen.facts, Cert.Pre_finite_queries_and_keys.Gen.facts,
  fun m g _ => Cert.Kernel.Own.frame m g,
  fun m g _ => Cert.KernelIdeal.Own.frame m g,
  fun m g _ => Cert.KernelIdeal.Own.frame m g,
  frame_ReferenceIdeal,
  fun m g _ => frame_ReferenceIdeal m g trivial,
  frame_FfnKernel,
  frame_FfnKernelIdeal,
  frame_FfnReferenceIdeal,
  frame_ProjKernel,
  frame_ProjKernelIdeal,
  frame_ProjReferenceIdeal,
  frame_QkvKernel,
  frame_QkvKernelIdeal,
  frame_QkvReferenceIdeal,
  frame_MixKernel,
  frame_MixKernelIdeal,
  frame_MixReferenceIdeal,
  preserves,
  algebraic,
  trivial,
  algebraic_Ffn,
  trivial,
  algebraic_Proj,
  trivial,
  algebraic_Qkv,
  trivial,
  algebraic_Mix⟩

end Cert.Proof

end
